-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_cum [hPre_finite_cum : Cert.Pre_finite_cum.Facts] (m : (ℓ : Loc Cert.KernelIdeal.nD Cert.KernelIdeal.τ Cert.KernelIdeal.sig) → Buf (Elt Ideal) ℓ) : Prop :=
  ∀ c : Dev Cert.KernelIdeal.nD,
    (Cert.Pre_finite_cum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_cum [hPre_finite_cum : Cert.Pre_finite_cum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_cum.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gate [hPre_finite_gate : Cert.Pre_finite_gate.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gate.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gate [hPre_finite_gate : Cert.Pre_finite_gate.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gate.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_sb [hPre_finite_sb : Cert.Pre_finite_sb.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_sb.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_sb [hPre_finite_sb : Cert.Pre_finite_sb.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_sb.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_fox [hPre_finite_fox : Cert.Pre_finite_fox.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_fox.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_fox [hPre_finite_fox : Cert.Pre_finite_fox.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_fox.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_cum [hKernelIdeal : Cert.KernelIdeal.Facts] [hPre_finite_cum : Cert.Pre_finite_cum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_cum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_cum [hReferenceIdeal : Cert.ReferenceIdeal.Facts] [hPre_finite_cum : Cert.Pre_finite_cum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_cum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_gate [hKernel4Ideal : Cert.Kernel4Ideal.Facts] [hPre_finite_gate : Cert.Pre_finite_gate.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gate m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_gate [hReference4Ideal : Cert.Reference4Ideal.Facts] [hPre_finite_gate : Cert.Pre_finite_gate.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gate m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_sb [hKernel6Ideal : Cert.Kernel6Ideal.Facts] [hPre_finite_sb : Cert.Pre_finite_sb.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_sb m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_sb [hReference6Ideal : Cert.Reference6Ideal.Facts] [hPre_finite_sb : Cert.Pre_finite_sb.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_sb m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_fox [hKernel7Ideal : Cert.Kernel7Ideal.Facts] [hPre_finite_fox : Cert.Pre_finite_fox.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_fox m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_fox [hReference7Ideal : Cert.Reference7Ideal.Facts] [hPre_finite_fox : Cert.Pre_finite_fox.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_fox m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  True

def algebraic_KernelIdeal_ReferenceIdeal_pre_finite_cum [hKernelIdeal : Cert.KernelIdeal.Facts] [hReferenceIdeal : Cert.ReferenceIdeal.Facts] [hPre_finite_cum : Cert.Pre_finite_cum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_cum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v69) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_v84) = v1 c
          ∧ r.2.mem ((c.tc : Thread Cert.Reference3Ideal.nD Cert.Reference3Ideal.τ).loc Cert.Reference3Ideal.main_v36) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite_gate [hKernel4Ideal : Cert.Kernel4Ideal.Facts] [hReference4Ideal : Cert.Reference4Ideal.Facts] [hPre_finite_gate : Cert.Pre_finite_gate.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gate m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_v9) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)) (v2 : (c : Dev Cert.Kernel5Ideal.nD) → Buf (Elt Ideal) ((c.tc : Thread Cert.Kernel5Ideal.nD Cert.Kernel5Ideal.τ).loc Cert.Kernel5Ideal.main_v21_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_v21_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite_sb [hKernel6Ideal : Cert.Kernel6Ideal.Facts] [hReference6Ideal : Cert.Reference6Ideal.Facts] [hPre_finite_sb : Cert.Pre_finite_sb.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_sb m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v33_0)) (v1 : (c : Dev Cert.Kernel6Ideal.nD) → Buf (Elt Ideal) ((c.tc : Thread Cert.Kernel6Ideal.nD Cert.Kernel6Ideal.τ).loc Cert.Kernel6Ideal.main_v33_1)) (v2 : (c : Dev Cert.Kernel6Ideal.nD) → Buf (Elt Ideal) ((c.tc : Thread Cert.Kernel6Ideal.nD Cert.Kernel6Ideal.τ).loc Cert.Kernel6Ideal.main_v33_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v33_0) = v0 c
          ∧ r.2.mem ((c.tc : Thread Cert.Kernel6Ideal.nD Cert.Kernel6Ideal.τ).loc Cert.Kernel6Ideal.main_v33_1) = v1 c
          ∧ r.2.mem ((c.tc : Thread Cert.Kernel6Ideal.nD Cert.Kernel6Ideal.τ).loc Cert.Kernel6Ideal.main_v33_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_v58) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite_fox [hKernel7Ideal : Cert.Kernel7Ideal.Facts] [hReference7Ideal : Cert.Reference7Ideal.Facts] [hPre_finite_fox : Cert.Pre_finite_fox.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_fox m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v51_0)) (v1 : (c : Dev Cert.Kernel7Ideal.nD) → Buf (Elt Ideal) ((c.tc : Thread Cert.Kernel7Ideal.nD Cert.Kernel7Ideal.τ).loc Cert.Kernel7Ideal.main_v51_1)) (v2 : (c : Dev Cert.Kernel7Ideal.nD) → Buf (Elt Ideal) ((c.tc : Thread Cert.Kernel7Ideal.nD Cert.Kernel7Ideal.τ).loc Cert.Kernel7Ideal.main_v51_2)) (v3 : (c : Dev Cert.Kernel7Ideal.nD) → Buf (Elt Ideal) ((c.tc : Thread Cert.Kernel7Ideal.nD Cert.Kernel7Ideal.τ).loc Cert.Kernel7Ideal.main_v51_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v51_0) = v0 c
          ∧ r.2.mem ((c.tc : Thread Cert.Kernel7Ideal.nD Cert.Kernel7Ideal.τ).loc Cert.Kernel7Ideal.main_v51_1) = v1 c
          ∧ r.2.mem ((c.tc : Thread Cert.Kernel7Ideal.nD Cert.Kernel7Ideal.τ).loc Cert.Kernel7Ideal.main_v51_2) = v2 c
          ∧ r.2.mem ((c.tc : Thread Cert.Kernel7Ideal.nD Cert.Kernel7Ideal.τ).loc Cert.Kernel7Ideal.main_v51_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v91) = v0 c
          ∧ r.2.mem ((c.tc : Thread Cert.Reference7Ideal.nD Cert.Reference7Ideal.τ).loc Cert.Reference7Ideal.main_v93) = v1 c
          ∧ r.2.mem ((c.tc : Thread Cert.Reference7Ideal.nD Cert.Reference7Ideal.τ).loc Cert.Reference7Ideal.main_v95) = v2 c
          ∧ r.2.mem ((c.tc : Thread Cert.Reference7Ideal.nD Cert.Reference7Ideal.τ).loc Cert.Reference7Ideal.main_v96) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v21_0)) (v1 : (c : Dev Cert.Kernel8Ideal.nD) → Buf (Elt Ideal) ((c.tc : Thread Cert.Kernel8Ideal.nD Cert.Kernel8Ideal.τ).loc Cert.Kernel8Ideal.main_v21_1)) (v2 : (c : Dev Cert.Kernel8Ideal.nD) → Buf (Elt Ideal) ((c.tc : Thread Cert.Kernel8Ideal.nD Cert.Kernel8Ideal.τ).loc Cert.Kernel8Ideal.main_v21_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v21_0) = v0 c
          ∧ r.2.mem ((c.tc : Thread Cert.Kernel8Ideal.nD Cert.Kernel8Ideal.τ).loc Cert.Kernel8Ideal.main_v21_1) = v1 c
          ∧ r.2.mem ((c.tc : Thread Cert.Kernel8Ideal.nD Cert.Kernel8Ideal.τ).loc Cert.Kernel8Ideal.main_v21_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v91) = v0 c
          ∧ r.2.mem ((c.tc : Thread Cert.Reference8Ideal.nD Cert.Reference8Ideal.τ).loc Cert.Reference8Ideal.main_v90) = v1 c
          ∧ r.2.mem ((c.tc : Thread Cert.Reference8Ideal.nD Cert.Reference8Ideal.τ).loc Cert.Reference8Ideal.main_v41) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v21_0)) (v1 : (c : Dev Cert.Kernel9Ideal.nD) → Buf (Elt Ideal) ((c.tc : Thread Cert.Kernel9Ideal.nD Cert.Kernel9Ideal.τ).loc Cert.Kernel9Ideal.main_v21_1)) (v2 : (c : Dev Cert.Kernel9Ideal.nD) → Buf (Elt Ideal) ((c.tc : Thread Cert.Kernel9Ideal.nD Cert.Kernel9Ideal.τ).loc Cert.Kernel9Ideal.main_v21_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v21_0) = v0 c
          ∧ r.2.mem ((c.tc : Thread Cert.Kernel9Ideal.nD Cert.Kernel9Ideal.τ).loc Cert.Kernel9Ideal.main_v21_1) = v1 c
          ∧ r.2.mem ((c.tc : Thread Cert.Kernel9Ideal.nD Cert.Kernel9Ideal.τ).loc Cert.Kernel9Ideal.main_v21_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_v34) = v1 c
          ∧ r.2.mem ((c.tc : Thread Cert.Reference9Ideal.nD Cert.Reference9Ideal.τ).loc Cert.Reference9Ideal.main_v35) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v7) = v1 c
          ∧ r.2.mem ((c.tc : Thread Cert.Reference11Ideal.nD Cert.Reference11Ideal.τ).loc Cert.Reference11Ideal.main_v9) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v22) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v21) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_cum : Cert.Pre_finite_cum.Facts) (hPre_finite_gate : Cert.Pre_finite_gate.Facts) (hPre_finite_sb : Cert.Pre_finite_sb.Facts) (hPre_finite_fox : Cert.Pre_finite_fox.Facts),
    quiescent_Kernel (hKernel := hKernel)
    ∧ quiescent_KernelIdeal (hKernelIdeal := hKernelIdeal)
    ∧ quiescent_KernelIdeal_pre_finite_cum (hKernelIdeal := hKernelIdeal) (hPre_finite_cum := hPre_finite_cum)
    ∧ quiescent_ReferenceIdeal (hReferenceIdeal := hReferenceIdeal)
    ∧ quiescent_ReferenceIdeal_pre_finite_cum (hReferenceIdeal := hReferenceIdeal) (hPre_finite_cum := hPre_finite_cum)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_gate (hKernel4Ideal := hKernel4Ideal) (hPre_finite_gate := hPre_finite_gate)
    ∧ quiescent_Reference4Ideal (hReference4Ideal := hReference4Ideal)
    ∧ quiescent_Reference4Ideal_pre_finite_gate (hReference4Ideal := hReference4Ideal) (hPre_finite_gate := hPre_finite_gate)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_sb (hKernel6Ideal := hKernel6Ideal) (hPre_finite_sb := hPre_finite_sb)
    ∧ quiescent_Reference6Ideal (hReference6Ideal := hReference6Ideal)
    ∧ quiescent_Reference6Ideal_pre_finite_sb (hReference6Ideal := hReference6Ideal) (hPre_finite_sb := hPre_finite_sb)
    ∧ quiescent_Kernel7 (hKernel7 := hKernel7)
    ∧ quiescent_Kernel7Ideal (hKernel7Ideal := hKernel7Ideal)
    ∧ quiescent_Kernel7Ideal_pre_finite_fox (hKernel7Ideal := hKernel7Ideal) (hPre_finite_fox := hPre_finite_fox)
    ∧ quiescent_Reference7Ideal (hReference7Ideal := hReference7Ideal)
    ∧ quiescent_Reference7Ideal_pre_finite_fox (hReference7Ideal := hReference7Ideal) (hPre_finite_fox := hPre_finite_fox)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite_cum (hKernelIdeal := hKernelIdeal) (hReferenceIdeal := hReferenceIdeal) (hPre_finite_cum := hPre_finite_cum)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_gate (hKernel4Ideal := hKernel4Ideal) (hReference4Ideal := hReference4Ideal) (hPre_finite_gate := hPre_finite_gate)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_sb (hKernel6Ideal := hKernel6Ideal) (hReference6Ideal := hReference6Ideal) (hPre_finite_sb := hPre_finite_sb)
    ∧ preserves_Kernel7_Kernel7Ideal
    ∧ algebraic_Kernel7Ideal_Reference7Ideal_pre_finite_fox (hKernel7Ideal := hKernel7Ideal) (hReference7Ideal := hReference7Ideal) (hPre_finite_fox := hPre_finite_fox)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite_cum.lean ====
abbrev S4x2048x32 : Shape := ⟨3, ![4, 2048, 32]⟩
abbrev S32 : Shape := ⟨1, ![32]⟩
abbrev S4x32x2048 : Shape := ⟨3, ![4, 32, 2048]⟩
abbrev S_ : Shape := ⟨0, ![]⟩

class Facts : Prop where
  bcast_S_S4x32x2048 : S_.BroadcastsInDim S4x32x2048 (![] : Fin 0 → Fin S4x32x2048.rank)
  reducesTo_S4x32x2048_S_d0_1_2 : S4x32x2048.ReducesTo [0, 1, 2] S_
  h_S_ : 0 < S_.numel

variable [Facts]

def fn {F : FTy → Type} [FloatOps F] (main_arg0 : FVec F S4x2048x32 .f32) (main_arg1 : FVec F S32 .f32) (main_arg2 : FVec F S4x32x2048 .f32) : IVec S_ 1 :=
  let main_v0 : FVec F S4x32x2048 .f32 := Host.absf main_arg2
  let main_cst : FVec F S_ .f32 := constant S_ .f32 0x7F800000#32
  let main_v1 : FVec F S4x32x2048 .f32 := broadcastInDim S4x32x2048 ![] bcast_S_S4x32x2048 main_cst
  let main_v2 : IVec S4x32x2048 1 := cmpf .olt main_v0 main_v1
  let main_c : IVec S_ 1 := constantI S_ 1 1#1
  let main_v3 : IVec S_ 1 := (fun x v => Host.reduce IntOp.andi x v reducesTo_S4x32x2048_S_d0_1_2 h_S_) main_v2 main_c
  main_v3
-- ==== Pre_finite_fox.lean ====
abbrev S4x2048x2048 : Shape := ⟨3, ![4, 2048, 2048]⟩
abbrev S4x32x2048 : Shape := ⟨3, ![4, 32, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x32x2048 : S_.BroadcastsInDim S4x32x2048 (![] : Fin 0 → Fin S4x32x2048.rank)
  reducesTo_S4x32x2048_S_d0_1_2 : S4x32x2048.ReducesTo [0, 1, 2] S_

variable [Facts]

def fn_part1 {F : FTy → Type} [FloatOps F] (main_arg4 : FVec F S4x2048x2048 .f32) (main_v13 : IVec S_ 1) (main_v16 : IVec S4x32x2048 1) : IVec S_ 1 :=
  let main_c_5 : IVec S_ 1 := constantI S_ 1 1#1
  let main_v17 : IVec S_ 1 := (fun x v => Host.reduce IntOp.andi x v reducesTo_S4x32x2048_S_d0_1_2 h_S_) main_v16 main_c_5
  let main_v18 : IVec S_ 1 := andi main_v13 main_v17
  let main_v19 : FVec F S4x2048x2048 .f32 := Host.absf main_arg4
  let main_cst_6 : FVec F S_ .f32 := constant S_ .f32 0x7F800000#32
  let main_v20 : FVec F S4x2048x2048 .f32 := broadcastInDim S4x2048x2048 ![] bcast_S_S4x2048x2048 main_cst_6
  let main_v21 : IVec S4x2048x2048 1 := cmpf .olt main_v19 main_v20
  let main_c_7 : IVec S_ 1 := constantI S_ 1 1#1
  let main_v22 : IVec S_ 1 := (fun x v => Host.reduce IntOp.andi x v reducesTo_S4x2048x2048_S_d0_1_2 h_S_) main_v21 main_c_7
  let main_v23 : IVec S_ 1 := andi main_v18 main_v22
  main_v23

def fn {F : FTy → Type} [FloatOps F] (main_arg0 : FVec F S4x2048x2048 .f32) (main_arg1 : FVec F S4x2048x2048 .f32) (main_arg2 : FVec F S4x2048x2048 .f32) (main_arg3 : FVec F S4x32x2048 .f32) (main_arg4 : FVec F S4x2048x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S4x32x2048 .f32 := Host.absf main_arg3
  let main_cst_4 : FVec F S_ .f32 := constant S_ .f32 0x7F800000#32
  let main_v15 : FVec F S4x32x2048 .f32 := broadcastInDim S4x32x2048 ![] bcast_S_S4x32x2048 main_cst_4
  let main_v16 : IVec S4x32x2048 1 := cmpf .olt main_v14 main_v15
  fn_part1 (F := F) main_arg4 main_v13 main_v16
-- ==== Pre_finite_gate.lean ====
abbrev S4x2048x2048 : Shape := ⟨3, ![4, 2048, 2048]⟩
abbrev S2048x1024 : Shape := ⟨2, ![2048, 1024]⟩
abbrev S4x1x1024 : Shape := ⟨3, ![4, 1, 1024]⟩
abbrev S4x2048x1024 : Shape := ⟨3, ![4, 2048, 1024]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part1 {F : FTy → Type} [FloatOps F] (main_v13 : IVec S_ 1) (main_v16 : IVec S4x2048x1024 1) : IVec S_ 1 :=
  let main_c_5 : IVec S_ 1 := constantI S_ 1 1#1
  let main_v17 : IVec S_ 1 := (fun x v => Host.reduce IntOp.andi x v reducesTo_S4x2048x1024_S_d0_1_2 h_S_) main_v16 main_c_5
  let main_v18 : IVec S_ 1 := andi main_v13 main_v17
  main_v18

def fn {F : FTy → Type} [FloatOps F] (main_arg0 : FVec F S4x2048x2048 .f32) (main_arg1 : FVec F S4x2048x2048 .f32) (main_arg2 : FVec F S2048x1024 .f32) (main_arg3 : FVec F S4x1x1024 .f32) (main_arg4 : FVec F S4x2048x1024 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S4x1x1024 .f32 := Host.absf main_arg3
  let main_cst_2 : FVec F S_ .f32 := constant S_ .f32 0x7F800000#32
  let main_v10 : FVec F S4x1x1024 .f32 := broadcastInDim S4x1x1024 ![] bcast_S_S4x1x1024 main_cst_2
  let main_v11 : IVec S4x1x1024 1 := cmpf .olt main_v9 main_v10
  let main_c_3 : IVec S_ 1 := constantI S_ 1 1#1
  let main_v12 : IVec S_ 1 := (fun x v => Host.reduce IntOp.andi x v reducesTo_S4x1x1024_S_d0_1_2 h_S_) main_v11 main_c_3
  let main_v13 : IVec S_ 1 := andi main_v8 main_v12
  let main_v14 : FVec F S4x2048x1024 .f32 := Host.absf main_arg4
  let main_cst_4 : FVec F S_ .f32 := constant S_ .f32 0x7F800000#32
  let main_v15 : FVec F S4x2048x1024 .f32 := broadcastInDim S4x2048x1024 ![] bcast_S_S4x2048x1024 main_cst_4
  let main_v16 : IVec S4x2048x1024 1 := cmpf .olt main_v14 main_v15
  fn_part1 (F := F) main_v13 main_v16
-- ==== Pre_finite_sb.lean ====
abbrev S4x2048x2048 : Shape := ⟨3, ![4, 2048, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel

variable [Facts]

def fn_part1 {F : FTy → Type} [FloatOps F] (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  main_v18

def fn {F : FTy → Type} [FloatOps F] (main_arg0 : FVec F S4x2048x2048 .f32) (main_arg1 : FVec F S4x2048x2048 .f32) (main_arg2 : FVec F S4x2048x2048 .f32) (main_arg3 : FVec F S4x2048x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_v13 main_v16
-- ==== Kernel.lean ====
abbrev S4x2048x32 : Shape := ⟨3, ![4, 2048, 32]⟩
abbrev S32 : Shape := ⟨1, ![32]⟩
abbrev S4x32x2048 : Shape := ⟨3, ![4, 32, 2048]⟩
abbrev S32x1 : Shape := ⟨2, ![32, 1]⟩
abbrev S1x32x2048 : Shape := ⟨3, ![1, 32, 2048]⟩
abbrev S2048x2048 : Shape := ⟨2, ![2048, 2048]⟩
abbrev S32x2048 : Shape := ⟨2, ![32, 2048]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x32, .f32⟩
  | .hbm, ⟨1, _⟩ => ⟨S32, .f32⟩
  | .hbm, ⟨2, _⟩ => ⟨S4x32x2048, .f32⟩
  | .hbm, ⟨3, _⟩ => ⟨S4x32x2048, .f32⟩
  | .hbm, ⟨4, _⟩ => ⟨S32x1, .f32⟩
  | .hbm, ⟨5, _⟩ => ⟨S4x32x2048, .f32⟩
  | .hbm, ⟨6, _⟩ => ⟨S32x1, .f32⟩
  | .local _ .vmem, ⟨0, _⟩ => ⟨S1x32x2048, .f32⟩
  | .local _ .vmem, ⟨1, _⟩ => ⟨S1x32x2048, .f32⟩
  | .local _ .vmem, ⟨2, _⟩ => ⟨S1x32x2048, .f32⟩
  | .local _ .vmem, ⟨3, _⟩ => ⟨S1x32x2048, .f32⟩
  | .local _ .vmem, ⟨4, _⟩ => ⟨S32x1, .f32⟩
  | .local _ .vmem, ⟨5, _⟩ => ⟨S1x32x2048, .f32⟩
  | .local _ .vmem, ⟨6, _⟩ => ⟨S1x32x2048, .f32⟩
  | .local _ .vmem, ⟨7, _⟩ => ⟨S32x1, .f32⟩
  | _, _ => ⟨S4x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_17 : BitVec 32 := 0#32
  let v43 : BitVec 1 := Scalar.cmpi .ne v42 c0_i32_17
  v43

def k0_cond2 (i : grid0.Coords) : BitVec 1 :=
  let arg0 : BitVec 32 := BitVec.ofNat 32 (i 0).val
  let c0_i32_18 : BitVec 32 := 0#32
  let v44 : BitVec 1 := Scalar.cmpi .ne arg0 c0_i32_18
  let v45 : BitVec 32 := Scalar.extui v44
  let c0_i32_19 : BitVec 32 := 0#32
  let v46 : BitVec 1 := Scalar.cmpi .ne v45 c0_i32_19
  v46

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4x2048x32 : Shape := ⟨3, ![4, 2048, 32]⟩
abbrev S32 : Shape := ⟨1, ![32]⟩
abbrev S4x32x2048 : Shape := ⟨3, ![4, 32, 2048]⟩
abbrev S1x1x32 : Shape := ⟨3, ![1, 1, 32]⟩
abbrev S_ : Shape := ⟨0, ![]⟩
abbrev S32x1 : Shape := ⟨2, ![32, 1]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x32, .f32⟩
  | .hbm, ⟨1, _⟩ => ⟨S32, .f32⟩
  | .hbm, ⟨2, _⟩ => ⟨S4x32x2048, .f32⟩
  | .hbm, ⟨3, _⟩ => ⟨S1x1x32, .f32⟩
  | .hbm, ⟨4, _⟩ => ⟨S4x2048x32, .f32⟩
  | .hbm, ⟨5, _⟩ => ⟨S4x2048x32, .f32⟩
  | .hbm, ⟨6, _⟩ => ⟨S4x2048x32, .f32⟩
  | .hbm, ⟨7, _⟩ => ⟨S_, .f32⟩
  | .hbm, ⟨8, _⟩ => ⟨S4x2048x32, .f32⟩
  | .hbm, ⟨9, _⟩ => ⟨S4x2048x32, .f32⟩
  | .hbm, ⟨10, _⟩ => ⟨S4x2048x32, .f32⟩
  | .hbm, ⟨11, _⟩ => ⟨S4x2048x32, .f32⟩
  | .hbm, ⟨12, _⟩ => ⟨S4x2048x32, .i1⟩
  | .hbm, ⟨13, _⟩ => ⟨S4x2048x32, .f32⟩
  | .hbm, ⟨14, _⟩ => ⟨S4x2048x32, .f32⟩
  | .hbm, ⟨15, _⟩ => ⟨S4x2048x32, .f32⟩
  | .hbm, ⟨16, _⟩ => ⟨S4x2048x32, .f32⟩
  | .hbm, ⟨17, _⟩ => ⟨S4x2048x32, .f32⟩
  | .hbm, ⟨18, _⟩ => ⟨S4x2048x32, .f32⟩
  | .hbm, ⟨19, _⟩ => ⟨S4x2048x32, .f32⟩
  | .hbm, ⟨20, _⟩ => ⟨S4x2048x32, .f32⟩
  | .hbm, ⟨21, _⟩ => ⟨S_, .f32⟩
  | .hbm, ⟨22, _⟩ => ⟨S4x2048x32, .f32⟩
  | .hbm, ⟨23, _⟩ => ⟨S4x2048x32, .i1⟩
  | .hbm, ⟨24, _⟩ => ⟨S_, .f32⟩
  | .hbm, ⟨25, _⟩ => ⟨S4x2048x32, .f32⟩
  | .hbm, ⟨26, _⟩ => ⟨S4x2048x32, .f32⟩
  | .hbm, ⟨27, _⟩ => ⟨S_, .f32⟩
  | .hbm, ⟨28, _⟩ => ⟨S4x2048x32, .f32⟩
  | .hbm, ⟨29, _⟩ => ⟨S4x2048x32, .i1⟩
  | .hbm, ⟨30, _⟩ => ⟨S_, .f32⟩
  | .hbm, ⟨31, _⟩ => ⟨S4x2048x32, .f32⟩
  | .hbm, ⟨32, _⟩ => ⟨S4x2048x32, .f32⟩
  | .hbm, ⟨33, _⟩ => ⟨S4x2048x32, .f32⟩
  | .hbm, ⟨34, _⟩ => ⟨S4x2048x32, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x2048x32, .f32⟩
  | .hbm, ⟨43, _⟩ => ⟨S4x2048x32, .i1⟩
  | .hbm, ⟨44, _⟩ => ⟨S_, .f32⟩
  | .hbm, ⟨45, _⟩ => ⟨S4x2048x32, .f32⟩
  | .hbm, ⟨46, _⟩ => ⟨S4x2048x32, .f32⟩
  | .hbm, ⟨47, _⟩ => ⟨S4x2048x32, .f32⟩
  | .hbm, ⟨48, _⟩ => ⟨S4x2048x32, .f32⟩
  | .hbm, ⟨49, _⟩ => ⟨S4x2048x32, .f32⟩
  | .hbm, ⟨50, _⟩ => ⟨S_, .f32⟩
  | .hbm, ⟨51, _⟩ => ⟨S4x2048x32, .f32⟩
  | .hbm, ⟨52, _⟩ => ⟨S4x2048x32, .f32⟩
  | .hbm, ⟨53, _⟩ => ⟨S4x2048x32, .f32⟩
  | .hbm, ⟨54, _⟩ => ⟨S4x32x2048, .f32⟩
  | .hbm, ⟨55, _⟩ => ⟨S_, .f32⟩
  | .hbm, ⟨56, _⟩ => ⟨S_, .f32⟩
  | .hbm, ⟨57, _⟩ => ⟨S4x32x2048, .f32⟩
  | .hbm, ⟨58, _⟩ => ⟨S_, .f32⟩
  | .hbm, ⟨59, _⟩ => ⟨S_, .f32⟩
  | .hbm, ⟨60, _⟩ => ⟨S4x32x2048, .f32⟩
  | .hbm, ⟨61, _⟩ => ⟨S4x2048x32, .f32⟩
  | .hbm, ⟨62, _⟩ => ⟨S4x2048x32, .f32⟩
  | .hbm, ⟨63, _⟩ => ⟨S4x2048x32, .f32⟩
  | .hbm, ⟨64, _⟩ => ⟨S4x2048x32, .f32⟩
  | .hbm, ⟨65, _⟩ => ⟨S_, .f32⟩
  | .hbm, ⟨66, _⟩ => ⟨S32, .f32⟩
  | .hbm, ⟨67, _⟩ => ⟨S1x1x32, .f32⟩
  | .hbm, ⟨68, _⟩ => ⟨S_, .f32⟩
  | .hbm, ⟨69, _⟩ => ⟨S32, .f32⟩
  | .hbm, ⟨70, _⟩ => ⟨S4x32x2048, .f32⟩
  | .hbm, ⟨71, _⟩ => ⟨S32x1, .f32⟩
  | _, _ => ⟨S4x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_v4 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_call2_call0_cst : Ref sig .tc := ⟨.hbm, 58, rfl⟩
abbrev main_call2_call0_v0 : Ref sig .tc := ⟨.hbm, 59, rfl⟩
abbrev main_v6 : Ref sig .tc := ⟨.hbm, 60, rfl⟩
abbrev main_v7 : Ref sig .tc := ⟨.hbm, 61, rfl⟩
abbrev main_call3_v0 : Ref sig .tc := ⟨.hbm, 62, rfl⟩
abbrev main_call3_v1 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_cst_0 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩

abbrev nD : Nat := 1
abbrev τ : Topo := Topo.v7x

variable {F : FTy → Type} [FloatOps F]
-- ==== Kernel2.lean ====
abbrev S4x2048x1024 : Shape := ⟨3, ![4, 2048, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_14 : BitVec 32 := 0#32
  let v42 : BitVec 1 := Scalar.cmpi .ne v41 c0_i32_14
  v42

def k0_cond2 (i : grid0.Coords) : BitVec 1 :=
  let arg0 : BitVec 32 := BitVec.ofNat 32 (i 0).val
  let c0_i32_15 : BitVec 32 := 0#32
  let v43 : BitVec 1 := Scalar.cmpi .ne arg0 c0_i32_15
  let v44 : BitVec 32 := Scalar.extui v43
  let c0_i32_16 : BitVec 32 := 0#32
  let v45 : BitVec 1 := Scalar.cmpi .ne v44 c0_i32_16
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x2048, .f32⟩
  | .hbm, ⟨41, _⟩ => ⟨S_, .f32⟩
  | .hbm, ⟨42, _⟩ => ⟨S4x2048, .f32⟩
  | .hbm, ⟨43, _⟩ => ⟨S4x2048, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S1024, .f32⟩
  | .hbm, ⟨54, _⟩ => ⟨S4x2048x1024, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S4x2048x1024, .f32⟩
  | .hbm, ⟨59, _⟩ => ⟨S4x2048x1024, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S_, .f32⟩
  | .hbm, ⟨65, _⟩ => ⟨S4x2048, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S8192x1024, .f32⟩
  | .hbm, ⟨72, _⟩ => ⟨S1x1024, .f32⟩
  | .hbm, ⟨73, _⟩ => ⟨S4x2048x1024, .f32⟩
  | .hbm, ⟨74, _⟩ => ⟨S_, .f32⟩
  | .hbm, ⟨75, _⟩ => ⟨S4x2048, .f32⟩
  | .hbm, ⟨76, _⟩ => ⟨S4x2048x1, .f32⟩
  | .hbm, ⟨77, _⟩ => ⟨S_, .f32⟩
  | .hbm, ⟨78, _⟩ => ⟨S4x2048x1, .f32⟩
  | .hbm, ⟨79, _⟩ => ⟨S4x2048x1, .f32⟩
  | .hbm, ⟨80, _⟩ => ⟨S_, .f32⟩
  | .hbm, ⟨81, _⟩ => ⟨S4x2048x1, .f32⟩
  | .hbm, ⟨82, _⟩ => ⟨S4x2048x1, .f32⟩
  | .hbm, ⟨83, _⟩ => ⟨S4x2048x1, .f32⟩
  | .hbm, ⟨84, _⟩ => ⟨S4x2048x1024, .f32⟩
  | .hbm, ⟨85, _⟩ => ⟨S4x2048x1024, .f32⟩
  | .hbm, ⟨86, _⟩ => ⟨S1x1x1024, .f32⟩
  | .hbm, ⟨87, _⟩ => ⟨S4x2048x1024, .f32⟩
  | .hbm, ⟨88, _⟩ => ⟨S4x2048x1024, .f32⟩
  | .hbm, ⟨89, _⟩ => ⟨S4x2048x1024, .f32⟩
  | .hbm, ⟨90, _⟩ => ⟨S4x2048x1024, .f32⟩
  | .hbm, ⟨91, _⟩ => ⟨S_, .f32⟩
  | .hbm, ⟨92, _⟩ => ⟨S1024, .f32⟩
  | .hbm, ⟨93, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_cst_17 : Ref sig .tc := ⟨.hbm, 77, rfl⟩
abbrev main_v56 : Ref sig .tc := ⟨.hbm, 78, rfl⟩
abbrev main_v57 : Ref sig .tc := ⟨.hbm, 79, rfl⟩
abbrev main_cst_18 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_19 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Kernel3.lean ====
abbrev S4x2048x1024 : Shape := ⟨3, ![4, 2048, 1024]⟩
abbrev S1024 : Shape := ⟨1, ![1024]⟩
abbrev S4x1x1024 : Shape := ⟨3, ![4, 1, 1024]⟩
abbrev S1024x8192 : Shape := ⟨2, ![1024, 8192]⟩
abbrev S4x2048x2048 : Shape := ⟨3, ![4, 2048, 2048]⟩
abbrev S8192x1024 : Shape := ⟨2, ![8192, 1024]⟩
abbrev S8192x2048 : Shape := ⟨2, ![8192, 2048]⟩
abbrev S1x1024 : Shape := ⟨2, ![1, 1024]⟩
abbrev S512x2048 : Shape := ⟨2, ![512, 2048]⟩
abbrev S512x1024 : Shape := ⟨2, ![512, 1024]⟩
abbrev S1x1x1024 : Shape := ⟨3, ![1, 1, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 26
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x8192, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x1024, .f32⟩
  | .hbm, ⟨10, _⟩ => ⟨S8192x1024, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x1024, .f32⟩
  | .hbm, ⟨16, _⟩ => ⟨S8192x2048, .bf16⟩
  | .hbm, ⟨17, _⟩ => ⟨S8192x2048, .bf16⟩
  | .hbm, ⟨18, _⟩ => ⟨S8192x2048, .bf16⟩
  | .hbm, ⟨19, _⟩ => ⟨S8192x2048, .bf16⟩
  | .hbm, ⟨20, _⟩ => ⟨S1024x8192, .bf16⟩
  | .hbm, ⟨21, _⟩ => ⟨S8192x1024, .bf16⟩
  | .hbm, ⟨22, _⟩ => ⟨S1x1024, .f32⟩
  | .hbm, ⟨23, _⟩ => ⟨S8192x1024, .f32⟩
  | .hbm, ⟨24, _⟩ => ⟨S4x1x1024, .f32⟩
  | .hbm, ⟨25, _⟩ => ⟨S4x1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S8192x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let c0_i32 : BitVec 32 := 0#32
  let v63 : BitVec 1 := Scalar.cmpi .eq c4_i32 c0_i32
  let c1_i32 : BitVec 32 := 1#32
  let v64 : BitVec 32 := Scalar.select v63 c1_i32 c4_i32
  let v65 : BitVec 32 := Scalar.remsi arg0 v64
  let c0_i32_35 : BitVec 32 := 0#32
  let v67 : BitVec 1 := Scalar.cmpi .slt v65 c0_i32_35
  let c0_i32_36 : BitVec 32 := 0#32
  let v68 : BitVec 1 := Scalar.cmpi .slt v64 c0_i32_36
  let v69 : BitVec 1 := Scalar.xori v67 v68
  let c0_i32_34 : BitVec 32 := 0#32
  let v66 : BitVec 1 := Scalar.cmpi .ne v65 c0_i32_34
  let v70 : BitVec 1 := Scalar.andi v69 v66
  let v71 : BitVec 32 := Scalar.addi v65 v64
  let v72 : BitVec 32 := Scalar.select v70 v71 v65
  let c0_i32_37 : BitVec 32 := 0#32
  let v73 : BitVec 1 := Scalar.cmpi .eq v72 c0_i32_37
  let v74 : BitVec 32 := Scalar.extui v73
  let c0_i32_38 : BitVec 32 := 0#32
  let v75 : BitVec 1 := Scalar.cmpi .ne v74 c0_i32_38
  v75

def k0_cond2 (i : grid0.Coords) : BitVec 1 :=
  let arg0 : BitVec 32 := BitVec.ofNat 32 (i 0).val
  let c4_i32_39 : BitVec 32 := 4#32
  let c0_i32_40 : BitVec 32 := 0#32
  let v76 : BitVec 1 := Scalar.cmpi .eq c4_i32_39 c0_i32_40
  let c1_i32_41 : BitVec 32 := 1#32
  let v77 : BitVec 32 := Scalar.select v76 c1_i32_41 c4_i32_39
  let v78 : BitVec 32 := Scalar.remsi arg0 v77
  let c0_i32_43 : BitVec 32 := 0#32
  let v80 : BitVec 1 := Scalar.cmpi .slt v78 c0_i32_43
  let c0_i32_44 : BitVec 32 := 0#32
  let v81 : BitVec 1 := Scalar.cmpi .slt v77 c0_i32_44
  let v82 : BitVec 1 := Scalar.xori v80 v81
  let c0_i32_42 : BitVec 32 := 0#32
  let v79 : BitVec 1 := Scalar.cmpi .ne v78 c0_i32_42
  let v83 : BitVec 1 := Scalar.andi v82 v79
  let v84 : BitVec 32 := Scalar.addi v78 v77
  let v85 : BitVec 32 := Scalar.select v83 v84 v78
  let c0_i32_45 : BitVec 32 := 0#32
  let v86 : BitVec 1 := Scalar.cmpi .ne v85 c0_i32_45
  let v87 : BitVec 32 := Scalar.extui v86
  let c0_i32_46 : BitVec 32 := 0#32
  let v88 : BitVec 1 := Scalar.cmpi .ne v87 c0_i32_46
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x2048x1024 : Shape := ⟨3, ![4, 2048, 1024]⟩
abbrev S1024 : Shape := ⟨1, ![1024]⟩
abbrev S4x1x1024 : Shape := ⟨3, ![4, 1, 1024]⟩
abbrev S1024x8192 : Shape := ⟨2, ![1024, 8192]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x8192 : Shape := ⟨3, ![4, 2048, 8192]⟩
abbrev S4x1024 : Shape := ⟨2, ![4, 1024]⟩
abbrev S8192x1024 : Shape := ⟨2, ![8192, 1024]⟩

abbrev nBuf : Space → Nat
  | .hbm => 115
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x8192, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x8192, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048x8192, .f32⟩
  | .hbm, ⟨44, _⟩ => ⟨S_, .f32⟩
  | .hbm, ⟨45, _⟩ => ⟨S4x2048x8192, .f32⟩
  | .hbm, ⟨46, _⟩ => ⟨S4x2048x8192, .f32⟩
  | .hbm, ⟨47, _⟩ => ⟨S_, .f32⟩
  | .hbm, ⟨48, _⟩ => ⟨S4x2048x8192, .f32⟩
  | .hbm, ⟨49, _⟩ => ⟨S4x2048x8192, .f32⟩
  | .hbm, ⟨50, _⟩ => ⟨S_, .f32⟩
  | .hbm, ⟨51, _⟩ => ⟨S4x2048x8192, .f32⟩
  | .hbm, ⟨52, _⟩ => ⟨S4x2048x8192, .f32⟩
  | .hbm, ⟨53, _⟩ => ⟨S4x2048x1024, .f32⟩
  | .hbm, ⟨54, _⟩ => ⟨S_, .f32⟩
  | .hbm, ⟨55, _⟩ => ⟨S4x1024, .f32⟩
  | .hbm, ⟨56, _⟩ => ⟨S4x1x1024, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S4x2048, .f32⟩
  | .hbm, ⟨64, _⟩ => ⟨S4x2048x1, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S_, .f32⟩
  | .hbm, ⟨73, _⟩ => ⟨S4x2048, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S_, .f32⟩
  | .hbm, ⟨80, _⟩ => ⟨S4x1x1024, .f32⟩
  | .hbm, ⟨81, _⟩ => ⟨S4x1x1024, .f32⟩
  | .hbm, ⟨82, _⟩ => ⟨S1x1x1024, .f32⟩
  | .hbm, ⟨83, _⟩ => ⟨S4x1x1024, .f32⟩
  | .hbm, ⟨84, _⟩ => ⟨S4x1x1024, .f32⟩
  | .hbm, ⟨85, _⟩ => ⟨S_, .f32⟩
  | .hbm, ⟨86, _⟩ => ⟨S1024, .f32⟩
  | .hbm, ⟨87, _⟩ => ⟨S4x2048x1024, .f32⟩
  | .hbm, ⟨88, _⟩ => ⟨S_, .f32⟩
  | .hbm, ⟨89, _⟩ => ⟨S4x2048, .f32⟩
  | .hbm, ⟨90, _⟩ => ⟨S4x2048x1, .f32⟩
  | .hbm, ⟨91, _⟩ => ⟨S_, .f32⟩
  | .hbm, ⟨92, _⟩ => ⟨S4x2048x1, .f32⟩
  | .hbm, ⟨93, _⟩ => ⟨S4x2048x1, .f32⟩
  | .hbm, ⟨94, _⟩ => ⟨S_, .f32⟩
  | .hbm, ⟨95, _⟩ => ⟨S4x2048x1, .f32⟩
  | .hbm, ⟨96, _⟩ => ⟨S4x2048x1, .f32⟩
  | .hbm, ⟨97, _⟩ => ⟨S4x2048x1, .f32⟩
  | .hbm, ⟨98, _⟩ => ⟨S4x2048x1024, .f32⟩
  | .hbm, ⟨99, _⟩ => ⟨S4x2048x1024, .f32⟩
  | .hbm, ⟨100, _⟩ => ⟨S1x1x1024, .f32⟩
  | .hbm, ⟨101, _⟩ => ⟨S4x2048x1024, .f32⟩
  | .hbm, ⟨102, _⟩ => ⟨S4x2048x1024, .f32⟩
  | .hbm, ⟨103, _⟩ => ⟨S4x2048x1024, .f32⟩
  | .hbm, ⟨104, _⟩ => ⟨S4x2048x1024, .f32⟩
  | .hbm, ⟨105, _⟩ => ⟨S4x2048x1024, .f32⟩
  | .hbm, ⟨106, _⟩ => ⟨S4x2048x1024, .f32⟩
  | .hbm, ⟨107, _⟩ => ⟨S4x2048x8192, .f32⟩
  | .hbm, ⟨108, _⟩ => ⟨S4x2048x8192, .f32⟩
  | .hbm, ⟨109, _⟩ => ⟨S4x2048x1024, .f32⟩
  | .hbm, ⟨110, _⟩ => ⟨S4x2048x1024, .f32⟩
  | .hbm, ⟨111, _⟩ => ⟨S_, .f32⟩
  | .hbm, ⟨112, _⟩ => ⟨S4x1024, .f32⟩
  | .hbm, ⟨113, _⟩ => ⟨S4x1x1024, .f32⟩
  | .hbm, ⟨114, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]
-- ==== Kernel4.lean ====
abbrev S4x2048x2048 : Shape := ⟨3, ![4, 2048, 2048]⟩
abbrev S2048x1024 : Shape := ⟨2, ![2048, 1024]⟩
abbrev S4x1x1024 : Shape := ⟨3, ![4, 1, 1024]⟩
abbrev S4x2048x1024 : Shape := ⟨3, ![4, 2048, 1024]⟩
abbrev S_ : Shape := ⟨0, ![]⟩
abbrev S8192x2048 : Shape := ⟨2, ![8192, 2048]⟩
abbrev S8192x1024 : Shape := ⟨2, ![8192, 1024]⟩
abbrev S256x1024 : Shape := ⟨2, ![256, 1024]⟩
abbrev S1x1x1024 : Shape := ⟨3, ![1, 1, 1024]⟩
abbrev S256x2048 : Shape := ⟨2, ![256, 2048]⟩
abbrev S1024 : Shape := ⟨1, ![1024]⟩
abbrev S1x1024 : Shape := ⟨2, ![1, 1024]⟩

abbrev nBuf : Space → Nat
  | .hbm => 25
  | .vmem => 19
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2048x1024, .f32⟩
  | .hbm, ⟨3, _⟩ => ⟨S4x1x1024, .f32⟩
  | .hbm, ⟨4, _⟩ => ⟨S4x2048x1024, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x1024, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S8192x1024, .f32⟩
  | .hbm, ⟨20, _⟩ => ⟨S2048x1024, .bf16⟩
  | .hbm, ⟨21, _⟩ => ⟨S8192x2048, .bf16⟩
  | .hbm, ⟨22, _⟩ => ⟨S8192x2048, .bf16⟩
  | .hbm, ⟨23, _⟩ => ⟨S8192x1024, .bf16⟩
  | .hbm, ⟨24, _⟩ => ⟨S4x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S2048x1024, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x1024, .bf16⟩
  | .local _ .vmem, ⟨16, _⟩ => ⟨S256x1024, .bf16⟩
  | .local _ .vmem, ⟨17, _⟩ => ⟨S1x1x1024, .f32⟩
  | .local _ .vmem, ⟨18, _⟩ => ⟨S1x1x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c8_i32 : BitVec 32 := 8#32
  let c0_i32 : BitVec 32 := 0#32
  let v7 : BitVec 1 := Scalar.cmpi .eq c8_i32 c0_i32
  let c1_i32 : BitVec 32 := 1#32
  let v8 : BitVec 32 := Scalar.select v7 c1_i32 c8_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let v17 : BitVec 1 := Scalar.cmpi .eq v16 c0_i32_6
  let v18 : BitVec 32 := Scalar.extui v17
  let c0_i32_7 : BitVec 32 := 0#32
  let v19 : BitVec 1 := Scalar.cmpi .ne v18 c0_i32_7
  v19

def k0_cond2 (i : grid0.Coords) : BitVec 1 :=
  let arg0 : BitVec 32 := BitVec.ofNat 32 (i 0).val
  let c8_i32_8 : BitVec 32 := 8#32
  let c0_i32_9 : BitVec 32 := 0#32
  let v20 : BitVec 1 := Scalar.cmpi .eq c8_i32_8 c0_i32_9
  let c1_i32_10 : BitVec 32 := 1#32
  let v21 : BitVec 32 := Scalar.select v20 c1_i32_10 c8_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c0_i32_14 : BitVec 32 := 0#32
  let v30 : BitVec 1 := Scalar.cmpi .ne v29 c0_i32_14
  let v31 : BitVec 32 := Scalar.extui v30
  let c0_i32_15 : BitVec 32 := 0#32
  let v32 : BitVec 1 := Scalar.cmpi .ne v31 c0_i32_15
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x2048x2048 : Shape := ⟨3, ![4, 2048, 2048]⟩
abbrev S2048x1024 : Shape := ⟨2, ![2048, 1024]⟩
abbrev S4x1x1024 : Shape := ⟨3, ![4, 1, 1024]⟩
abbrev S4x2048x1024 : Shape := ⟨3, ![4, 2048, 1024]⟩
abbrev S_ : Shape := ⟨0, ![]⟩
abbrev S4x1024 : Shape := ⟨2, ![4, 1024]⟩
abbrev S8192x2048 : Shape := ⟨2, ![8192, 2048]⟩
abbrev S8192x1024 : Shape := ⟨2, ![8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2048x1024, .f32⟩
  | .hbm, ⟨3, _⟩ => ⟨S4x1x1024, .f32⟩
  | .hbm, ⟨4, _⟩ => ⟨S4x2048x1024, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x1024, .f32⟩
  | .hbm, ⟨27, _⟩ => ⟨S4x1x1024, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S8192x2048, .f32⟩
  | .hbm, ⟨36, _⟩ => ⟨S8192x2048, .bf16⟩
  | .hbm, ⟨37, _⟩ => ⟨S8192x2048, .f32⟩
  | .hbm, ⟨38, _⟩ => ⟨S8192x2048, .bf16⟩
  | .hbm, ⟨39, _⟩ => ⟨S8192x1024, .f32⟩
  | .hbm, ⟨40, _⟩ => ⟨S8192x1024, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== Kernel5.lean ====
abbrev S4x1024 : Shape := ⟨2, ![4, 1024]⟩
abbrev S1024x3072 : Shape := ⟨2, ![1024, 3072]⟩
abbrev S3072 : Shape := ⟨1, ![3072]⟩
abbrev S1024 : Shape := ⟨1, ![1024]⟩
abbrev S4x1x1024 : Shape := ⟨3, ![4, 1, 1024]⟩
abbrev S_ : Shape := ⟨0, ![]⟩
abbrev S4x3072 : Shape := ⟨2, ![4, 3072]⟩
abbrev S1x3072 : Shape := ⟨2, ![1, 3072]⟩
abbrev S16x1024 : Shape := ⟨2, ![16, 1024]⟩
abbrev S1x1024 : Shape := ⟨2, ![1, 1024]⟩
abbrev S16x3072 : Shape := ⟨2, ![16, 3072]⟩

abbrev nBuf : Space → Nat
  | .hbm => 49
  | .vmem => 9
  | .smem => 0
  | _ => 0

abbrev bufTy : (tb : Table) → Fin (tcTables nBuf tb) → BufTy
  | .hbm, ⟨0, _⟩ => ⟨S4x1024, .f32⟩
  | .hbm, ⟨1, _⟩ => ⟨S1024x3072, .f32⟩
  | .hbm, ⟨2, _⟩ => ⟨S3072, .f32⟩
  | .hbm, ⟨3, _⟩ => ⟨S1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S_, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x3072, .f32⟩
  | .hbm, ⟨17, _⟩ => ⟨S1x3072, .f32⟩
  | .hbm, ⟨18, _⟩ => ⟨S4x3072, .f32⟩
  | .hbm, ⟨19, _⟩ => ⟨S4x3072, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S4x1x1024, .f32⟩
  | .hbm, ⟨24, _⟩ => ⟨S4x1x1024, .f32⟩
  | .hbm, ⟨25, _⟩ => ⟨S4x1x1024, .f32⟩
  | .hbm, ⟨26, _⟩ => ⟨S_, .i32⟩
  | .hbm, ⟨27, _⟩ => ⟨S_, .f32⟩
  | .hbm, ⟨28, _⟩ => ⟨S16x1024, .f32⟩
  | .hbm, ⟨29, _⟩ => ⟨S4x1024, .f32⟩
  | .hbm, ⟨30, _⟩ => ⟨S_, .i32⟩
  | .hbm, ⟨31, _⟩ => ⟨S_, .f32⟩
  | .hbm, ⟨32, _⟩ => ⟨S16x1024, .f32⟩
  | .hbm, ⟨33, _⟩ => ⟨S4x1024, .f32⟩
  | .hbm, ⟨34, _⟩ => ⟨S_, .i32⟩
  | .hbm, ⟨35, _⟩ => ⟨S_, .f32⟩
  | .hbm, ⟨36, _⟩ => ⟨S16x1024, .f32⟩
  | .hbm, ⟨37, _⟩ => ⟨S4x1024, .f32⟩
  | .hbm, ⟨38, _⟩ => ⟨S_, .i32⟩
  | .hbm, ⟨39, _⟩ => ⟨S_, .f32⟩
  | .hbm, ⟨40, _⟩ => ⟨S16x1024, .f32⟩
  | .hbm, ⟨41, _⟩ => ⟨S4x1024, .f32⟩
  | .hbm, ⟨42, _⟩ => ⟨S_, .i32⟩
  | .hbm, ⟨43, _⟩ => ⟨S_, .f32⟩
  | .hbm, ⟨44, _⟩ => ⟨S16x1024, .f32⟩
  | .hbm, ⟨45, _⟩ => ⟨S1x1024, .f32⟩
  | .hbm, ⟨46, _⟩ => ⟨S16x3072, .f32⟩
  | .hbm, ⟨47, _⟩ => ⟨S1x3072, .f32⟩
  | .hbm, ⟨48, _⟩ => ⟨S1x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S1x1024, .f32⟩
  | .local _ .vmem, ⟨6, _⟩ => ⟨S16x3072, .f32⟩
  | .local _ .vmem, ⟨7, _⟩ => ⟨S1x3072, .f32⟩
  | .local _ .vmem, ⟨8, _⟩ => ⟨S1x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_call2_v0 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_call3_v0 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_call4_v0 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_call5_v0 : Ref sig .tc := ⟨.hbm, 43, rfl⟩
abbrev main_v19 : Ref sig .tc := ⟨.hbm, 44, rfl⟩
abbrev main_v20 : Ref sig .tc := ⟨.hbm, 45, rfl⟩
abbrev main_v21_0 : Ref sig .tc := ⟨.hbm, 46, rfl⟩
abbrev main_v21_1 : Ref sig .tc := ⟨.hbm, 47, rfl⟩
abbrev main_v21_2 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S4x1024 : Shape := ⟨2, ![4, 1024]⟩
abbrev S1024x3072 : Shape := ⟨2, ![1024, 3072]⟩
abbrev S3072 : Shape := ⟨1, ![3072]⟩
abbrev S1024 : Shape := ⟨1, ![1024]⟩
abbrev S4x1x1024 : Shape := ⟨3, ![4, 1, 1024]⟩
abbrev S_ : Shape := ⟨0, ![]⟩
abbrev S4x3072 : Shape := ⟨2, ![4, 3072]⟩
abbrev S1x3072 : Shape := ⟨2, ![1, 3072]⟩
abbrev S1x1x1024 : Shape := ⟨3, ![1, 1, 1024]⟩
abbrev S1x1024 : Shape := ⟨2, ![1, 1024]⟩
abbrev S16x3072 : Shape := ⟨2, ![16, 3072]⟩

abbrev nBuf : Space → Nat
  | .hbm => 60
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x3072, .f32⟩
  | .hbm, ⟨2, _⟩ => ⟨S3072, .f32⟩
  | .hbm, ⟨3, _⟩ => ⟨S1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S_, .f32⟩
  | .hbm, ⟨8, _⟩ => ⟨S4x3072, .f32⟩
  | .hbm, ⟨9, _⟩ => ⟨S1x3072, .f32⟩
  | .hbm, ⟨10, _⟩ => ⟨S4x3072, .f32⟩
  | .hbm, ⟨11, _⟩ => ⟨S4x3072, .f32⟩
  | .hbm, ⟨12, _⟩ => ⟨S4x1024, .f32⟩
  | .hbm, ⟨13, _⟩ => ⟨S4x1024, .f32⟩
  | .hbm, ⟨14, _⟩ => ⟨S_, .f32⟩
  | .hbm, ⟨15, _⟩ => ⟨S4x1024, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S4x3072, .f32⟩
  | .hbm, ⟨22, _⟩ => ⟨S4x3072, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S4x1x1024, .f32⟩
  | .hbm, ⟨27, _⟩ => ⟨S4x1x1024, .f32⟩
  | .hbm, ⟨28, _⟩ => ⟨S4x1x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S1x1x1024, .f32⟩
  | .hbm, ⟨33, _⟩ => ⟨S4x1x1024, .f32⟩
  | .hbm, ⟨34, _⟩ => ⟨S4x1x1024, .f32⟩
  | .hbm, ⟨35, _⟩ => ⟨S4x1x1024, .f32⟩
  | .hbm, ⟨36, _⟩ => ⟨S4x1x1024, .f32⟩
  | .hbm, ⟨37, _⟩ => ⟨S4x1x1024, .f32⟩
  | .hbm, ⟨38, _⟩ => ⟨S_, .f32⟩
  | .hbm, ⟨39, _⟩ => ⟨S1x1024, .f32⟩
  | .hbm, ⟨40, _⟩ => ⟨S1x1x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S4x1024, .f32⟩
  | .hbm, ⟨45, _⟩ => ⟨S_, .f32⟩
  | .hbm, ⟨46, _⟩ => ⟨S4x1024, .f32⟩
  | .hbm, ⟨47, _⟩ => ⟨S_, .f32⟩
  | .hbm, ⟨48, _⟩ => ⟨S4x1024, .f32⟩
  | .hbm, ⟨49, _⟩ => ⟨S4x3072, .f32⟩
  | .hbm, ⟨50, _⟩ => ⟨S_, .f32⟩
  | .hbm, ⟨51, _⟩ => ⟨S3072, .f32⟩
  | .hbm, ⟨52, _⟩ => ⟨S1x3072, .f32⟩
  | .hbm, ⟨53, _⟩ => ⟨S_, .f32⟩
  | .hbm, ⟨54, _⟩ => ⟨S3072, .f32⟩
  | .hbm, ⟨55, _⟩ => ⟨S_, .i32⟩
  | .hbm, ⟨56, _⟩ => ⟨S_, .f32⟩
  | .hbm, ⟨57, _⟩ => ⟨S16x3072, .f32⟩
  | .hbm, ⟨58, _⟩ => ⟨S1x3072, .f32⟩
  | .hbm, ⟨59, _⟩ => ⟨S1x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_c : Ref sig .tc := ⟨.hbm, 55, rfl⟩
abbrev main_call1_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩

abbrev nD : Nat := 1
abbrev τ : Topo := Topo.v7x

variable {F : FTy → Type} [FloatOps F]
-- ==== Kernel6.lean ====
abbrev S4x2048x2048 : Shape := ⟨3, ![4, 2048, 2048]⟩
abbrev S4x2048x6144 : Shape := ⟨3, ![4, 2048, 6144]⟩
abbrev S8192x6144 : Shape := ⟨2, ![8192, 6144]⟩
abbrev S4x2048x32x64 : Shape := ⟨4, ![4, 2048, 32, 64]⟩
abbrev S4x32x2048x64 : Shape := ⟨4, ![4, 32, 2048, 64]⟩
abbrev S4x32x2048x2048 : Shape := ⟨4, ![4, 32, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x32x2048 : Shape := ⟨3, ![4, 32, 2048]⟩
abbrev S4x16x2x2048 : Shape := ⟨4, ![4, 16, 2, 2048]⟩
abbrev S4x16x2048x2 : Shape := ⟨4, ![4, 16, 2048, 2]⟩
abbrev S4x16x2048x1 : Shape := ⟨4, ![4, 16, 2048, 1]⟩
abbrev S4x16x2048x3 : Shape := ⟨4, ![4, 16, 2048, 3]⟩
abbrev S8192x2048 : Shape := ⟨2, ![8192, 2048]⟩
abbrev S512x128 : Shape := ⟨2, ![512, 128]⟩
abbrev S2048x128 : Shape := ⟨2, ![2048, 128]⟩
abbrev S1x1x512x3 : Shape := ⟨4, ![1, 1, 512, 3]⟩
abbrev S8x128x256 : Shape := ⟨3, ![8, 128, 256]⟩
abbrev S512x256 : Shape := ⟨2, ![512, 256]⟩
abbrev S256x256 : Shape := ⟨2, ![256, 256]⟩
abbrev S128x512 : Shape := ⟨2, ![128, 512]⟩
abbrev S512x64 : Shape := ⟨2, ![512, 64]⟩
abbrev S1x1x512x1 : Shape := ⟨4, ![1, 1, 512, 1]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S256x64 : Shape := ⟨2, ![256, 64]⟩
abbrev S512 : Shape := ⟨1, ![512]⟩
abbrev S64x512 : Shape := ⟨2, ![64, 512]⟩
abbrev S64x256 : Shape := ⟨2, ![64, 256]⟩
abbrev S1x64x256 : Shape := ⟨3, ![1, 64, 256]⟩
abbrev S256x1 : Shape := ⟨2, ![256, 1]⟩
abbrev S256 : Shape := ⟨1, ![256]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 79
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S4x2048x6144, .f32⟩
  | .hbm, ⟨5, _⟩ => ⟨S8192x6144, .f32⟩
  | .hbm, ⟨6, _⟩ => ⟨S8192x6144, .bf16⟩
  | .hbm, ⟨7, _⟩ => ⟨S4x2048x32x64, .f32⟩
  | .hbm, ⟨8, _⟩ => ⟨S4x32x2048x64, .f32⟩
  | .hbm, ⟨9, _⟩ => ⟨S4x2048x32x64, .f32⟩
  | .hbm, ⟨10, _⟩ => ⟨S4x32x2048x64, .f32⟩
  | .hbm, ⟨11, _⟩ => ⟨S4x32x2048x2048, .f32⟩
  | .hbm, ⟨12, _⟩ => ⟨S_, .f32⟩
  | .hbm, ⟨13, _⟩ => ⟨S4x32x2048x2048, .f32⟩
  | .hbm, ⟨14, _⟩ => ⟨S4x32x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S4x32x2048x2048, .f32⟩
  | .hbm, ⟨23, _⟩ => ⟨S4x32x2048x2048, .f32⟩
  | .hbm, ⟨24, _⟩ => ⟨S_, .f32⟩
  | .hbm, ⟨25, _⟩ => ⟨S4x32x2048x2048, .f32⟩
  | .hbm, ⟨26, _⟩ => ⟨S4x32x2048x2048, .f32⟩
  | .hbm, ⟨27, _⟩ => ⟨S4x32x2048x2048, .f32⟩
  | .hbm, ⟨28, _⟩ => ⟨S4x32x2048x2048, .f32⟩
  | .hbm, ⟨29, _⟩ => ⟨S4x32x2048x2048, .i1⟩
  | .hbm, ⟨30, _⟩ => ⟨S4x32x2048x2048, .f32⟩
  | .hbm, ⟨31, _⟩ => ⟨S4x32x2048x2048, .f32⟩
  | .hbm, ⟨32, _⟩ => ⟨S4x32x2048x2048, .f32⟩
  | .hbm, ⟨33, _⟩ => ⟨S4x32x2048x2048, .f32⟩
  | .hbm, ⟨34, _⟩ => ⟨S4x32x2048x2048, .f32⟩
  | .hbm, ⟨35, _⟩ => ⟨S4x32x2048x2048, .f32⟩
  | .hbm, ⟨36, _⟩ => ⟨S4x32x2048x2048, .f32⟩
  | .hbm, ⟨37, _⟩ => ⟨S4x32x2048x2048, .f32⟩
  | .hbm, ⟨38, _⟩ => ⟨S4x32x2048x2048, .f32⟩
  | .hbm, ⟨39, _⟩ => ⟨S_, .f32⟩
  | .hbm, ⟨40, _⟩ => ⟨S_, .f32⟩
  | .hbm, ⟨41, _⟩ => ⟨S4x32x2048x2048, .i1⟩
  | .hbm, ⟨42, _⟩ => ⟨S4x32x2048x2048, .f32⟩
  | .hbm, ⟨43, _⟩ => ⟨S4x32x2048x2048, .f32⟩
  | .hbm, ⟨44, _⟩ => ⟨S_, .f32⟩
  | .hbm, ⟨45, _⟩ => ⟨S4x32x2048, .f32⟩
  | .hbm, ⟨46, _⟩ => ⟨S4x16x2x2048, .f32⟩
  | .hbm, ⟨47, _⟩ => ⟨S4x16x2048x2, .f32⟩
  | .hbm, ⟨48, _⟩ => ⟨S2048, .i32⟩
  | .hbm, ⟨49, _⟩ => ⟨S_, .i32⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S2048, .i32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S2048, .i32⟩
  | .hbm, ⟨58, _⟩ => ⟨S2048, .i32⟩
  | .hbm, ⟨59, _⟩ => ⟨S_, .i32⟩
  | .hbm, ⟨60, _⟩ => ⟨S2048, .i32⟩
  | .hbm, ⟨61, _⟩ => ⟨S2048, .i1⟩
  | .hbm, ⟨62, _⟩ => ⟨S2048, .i1⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .i32⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S2048, .f32⟩
  | .hbm, ⟨71, _⟩ => ⟨S2048x1, .f32⟩
  | .hbm, ⟨72, _⟩ => ⟨S4x16x2048x1, .f32⟩
  | .hbm, ⟨73, _⟩ => ⟨S4x16x2048x3, .f32⟩
  | .hbm, ⟨74, _⟩ => ⟨S8192x2048, .f32⟩
  | .hbm, ⟨75, _⟩ => ⟨S8192x2048, .bf16⟩
  | .hbm, ⟨76, _⟩ => ⟨S8192x2048, .bf16⟩
  | .hbm, ⟨77, _⟩ => ⟨S8192x2048, .bf16⟩
  | .hbm, ⟨78, _⟩ => ⟨S8192x2048, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S1x1x512x3, .f32⟩
  | .local _ .vmem, ⟨9, _⟩ => ⟨S1x1x512x3, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S8x128x256, .f32⟩
  | .local _ .vmem, ⟨17, _⟩ => ⟨S8x128x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v18 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v19 : Ref sig .tc := ⟨.hbm, 43, rfl⟩
abbrev main_cst_1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v24 : Ref sig .tc := ⟨.hbm, 66, rfl⟩
abbrev main_c_2 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33_0 : Ref sig .tc := ⟨.hbm, 76, rfl⟩
abbrev main_v33_1 : Ref sig .tc := ⟨.hbm, 77, rfl⟩
abbrev main_v33_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 16, 4], ![false, false, false]⟩

@[reducible] def k0_t1_loop (i : grid0.Coords) (v50 : BitVec 32) : Scf.Loop 32 :=
  let c0_i32_20 : BitVec 32 := 0#32
  let c2_i32 : BitVec 32 := 2#32
  let arg2 : BitVec 32 := BitVec.ofNat 32 (i 2).val
  let v51 : BitVec 32 := Scalar.muli c2_i32 arg2
  let c0_i32_17 : BitVec 32 := 0#32
  let v52 : BitVec 32 := Scalar.maxsi c0_i32_17 v50
  let v53 : BitVec 32 := Scalar.minsi v51 v52
  let v57 : BitVec 32 := Scalar.subi v53 c0_i32_20
  let c1_i32 : BitVec 32 := 1#32
  let v59 : BitVec 32 := Scalar.divsi v57 c1_i32
  let v60 : BitVec 32 := Scalar.muli v59 c1_i32
  let v61 : BitVec 32 := Scalar.addi c0_i32_20 v60
  let c1_i32_21 : BitVec 32 := 1#32
  ⟨c0_i32_20, v61, c1_i32_21⟩

def k0_mult1 (i : grid0.Coords) (v50 : BitVec 32) (k0_t1 : Fin (k0_t1_loop i v50).trips) : BitVec 32 :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let c1_i32_21 : BitVec 32 := 1#32
  let arg13 : BitVec 32 := Scf.iv c0_i32_20 c1_i32_21 k0_t1
  let v387 : BitVec 32 := Scalar.addi v55 arg13
  let c256_i32_139 : BitVec 32 := 256#32
  let v388 : BitVec 32 := Scalar.muli v387 c256_i32_139
  v388
def k0_off1 (i : grid0.Coords) (v50 : BitVec 32) (k0_t1 : Fin (k0_t1_loop i v50).trips) : Fin 2 → Nat :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let c1_i32_21 : BitVec 32 := 1#32
  let arg13 : BitVec 32 := Scf.iv c0_i32_20 c1_i32_21 k0_t1
  let v387 : BitVec 32 := Scalar.addi v55 arg13
  let c256_i32_139 : BitVec 32 := 256#32
  let v388 : BitVec 32 := Scalar.muli v387 c256_i32_139
  let v389 : BitVec 32 := v388
  let v390 : Index := Scalar.indexCast v389
  let c0_140 : Index := 0#32
  ![v390.toNat, 0]
def k0_off2 (i : grid0.Coords) (v50 : BitVec 32) (k0_t1 : Fin (k0_t1_loop i v50).trips) : Fin 3 → Nat :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let c1_i32_21 : BitVec 32 := 1#32
  let arg13 : BitVec 32 := Scf.iv c0_i32_20 c1_i32_21 k0_t1
  let v387 : BitVec 32 := Scalar.addi v55 arg13
  let v431 : Index := Scalar.indexCast v387
  let c0_151 : Index := 0#32
  let c0_152 : Index := 0#32
  ![v431.toNat, 0, 0]
def k0_mult2 (i : grid0.Coords) (v50 : BitVec 32) (k0_t1 : Fin (k0_t1_loop i v50).trips) : BitVec 32 :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let c1_i32_21 : BitVec 32 := 1#32
  let arg13 : BitVec 32 := Scf.iv c0_i32_20 c1_i32_21 k0_t1
  let v455 : BitVec 32 := Scalar.addi v55 arg13
  let c256_i32_162 : BitVec 32 := 256#32
  let v456 : BitVec 32 := Scalar.muli v455 c256_i32_162
  v456
def k0_off3 (i : grid0.Coords) (v50 : BitVec 32) (k0_t1 : Fin (k0_t1_loop i v50).trips) : Fin 2 → Nat :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let c1_i32_21 : BitVec 32 := 1#32
  let arg13 : BitVec 32 := Scf.iv c0_i32_20 c1_i32_21 k0_t1
  let v455 : BitVec 32 := Scalar.addi v55 arg13
  let c256_i32_162 : BitVec 32 := 256#32
  let v456 : BitVec 32 := Scalar.muli v455 c256_i32_162
  let v457 : BitVec 32 := v456
  let v458 : Index := Scalar.indexCast v457
  let c64_163 : Index := 64#32
  ![v458.toNat, 64]
def k0_off4 (i : grid0.Coords) (v50 : BitVec 32) (k0_t1 : Fin (k0_t1_loop i v50).trips) : Fin 3 → Nat :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let c1_i32_21 : BitVec 32 := 1#32
  let arg13 : BitVec 32 := Scf.iv c0_i32_20 c1_i32_21 k0_t1
  let v455 : BitVec 32 := Scalar.addi v55 arg13
  let v499 : Index := Scalar.indexCast v455
  let c64_174 : Index := 64#32
  let c0_175 : Index := 0#32
  ![v499.toNat, 64, 0]
@[reducible] def k0_t2_loop (i : grid0.Coords) (v50 : BitVec 32) : Scf.Loop 32 :=
  let c0_i32_20 : BitVec 32 := 0#32
  let c2_i32 : BitVec 32 := 2#32
  let arg2 : BitVec 32 := BitVec.ofNat 32 (i 2).val
  let v51 : BitVec 32 := Scalar.muli c2_i32 arg2
  let c0_i32_17 : BitVec 32 := 0#32
  let v52 : BitVec 32 := Scalar.maxsi c0_i32_17 v50
  let v53 : BitVec 32 := Scalar.minsi v51 v52
  let v57 : BitVec 32 := Scalar.subi v53 c0_i32_20
  let c1_i32 : BitVec 32 := 1#32
  let v59 : BitVec 32 := Scalar.divsi v57 c1_i32
  let v60 : BitVec 32 := Scalar.muli v59 c1_i32
  let v61 : BitVec 32 := Scalar.addi c0_i32_20 v60
  let v58 : BitVec 32 := Scalar.addi c0_i32_20 v57
  let c1_i32_22 : BitVec 32 := 1#32
  ⟨v61, v58, c1_i32_22⟩
def k0_mult3 (i : grid0.Coords) (v50 : BitVec 32) (k0_t2 : Fin (k0_t2_loop i v50).trips) : BitVec 32 :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let v57 : BitVec 32 := Scalar.subi v53 c0_i32_20
  let c1_i32 : BitVec 32 := 1#32
  let v59 : BitVec 32 := Scalar.divsi v57 c1_i32
  let v60 : BitVec 32 := Scalar.muli v59 c1_i32
  let v61 : BitVec 32 := Scalar.addi c0_i32_20 v60
  let c1_i32_22 : BitVec 32 := 1#32
  let arg13 : BitVec 32 := Scf.iv v61 c1_i32_22 k0_t2
  let v387 : BitVec 32 := Scalar.addi v55 arg13
  let c256_i32_139 : BitVec 32 := 256#32
  let v388 : BitVec 32 := Scalar.muli v387 c256_i32_139
  v388
def k0_off5 (i : grid0.Coords) (v50 : BitVec 32) (k0_t2 : Fin (k0_t2_loop i v50).trips) : Fin 2 → Nat :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let v57 : BitVec 32 := Scalar.subi v53 c0_i32_20
  let c1_i32 : BitVec 32 := 1#32
  let v59 : BitVec 32 := Scalar.divsi v57 c1_i32
  let v60 : BitVec 32 := Scalar.muli v59 c1_i32
  let v61 : BitVec 32 := Scalar.addi c0_i32_20 v60
  let c1_i32_22 : BitVec 32 := 1#32
  let arg13 : BitVec 32 := Scf.iv v61 c1_i32_22 k0_t2
  let v387 : BitVec 32 := Scalar.addi v55 arg13
  let c256_i32_139 : BitVec 32 := 256#32
  let v388 : BitVec 32 := Scalar.muli v387 c256_i32_139
  let v389 : BitVec 32 := v388
  let v390 : Index := Scalar.indexCast v389
  let c0_140 : Index := 0#32
  ![v390.toNat, 0]
def k0_off6 (i : grid0.Coords) (v50 : BitVec 32) (k0_t2 : Fin (k0_t2_loop i v50).trips) : Fin 3 → Nat :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let v57 : BitVec 32 := Scalar.subi v53 c0_i32_20
  let c1_i32 : BitVec 32 := 1#32
  let v59 : BitVec 32 := Scalar.divsi v57 c1_i32
  let v60 : BitVec 32 := Scalar.muli v59 c1_i32
  let v61 : BitVec 32 := Scalar.addi c0_i32_20 v60
  let c1_i32_22 : BitVec 32 := 1#32
  let arg13 : BitVec 32 := Scf.iv v61 c1_i32_22 k0_t2
  let v387 : BitVec 32 := Scalar.addi v55 arg13
  let v431 : Index := Scalar.indexCast v387
  let c0_151 : Index := 0#32
  let c0_152 : Index := 0#32
  ![v431.toNat, 0, 0]
def k0_mult4 (i : grid0.Coords) (v50 : BitVec 32) (k0_t2 : Fin (k0_t2_loop i v50).trips) : BitVec 32 :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let v57 : BitVec 32 := Scalar.subi v53 c0_i32_20
  let c1_i32 : BitVec 32 := 1#32
  let v59 : BitVec 32 := Scalar.divsi v57 c1_i32
  let v60 : BitVec 32 := Scalar.muli v59 c1_i32
  let v61 : BitVec 32 := Scalar.addi c0_i32_20 v60
  let c1_i32_22 : BitVec 32 := 1#32
  let arg13 : BitVec 32 := Scf.iv v61 c1_i32_22 k0_t2
  let v455 : BitVec 32 := Scalar.addi v55 arg13
  let c256_i32_162 : BitVec 32 := 256#32
  let v456 : BitVec 32 := Scalar.muli v455 c256_i32_162
  v456
def k0_off7 (i : grid0.Coords) (v50 : BitVec 32) (k0_t2 : Fin (k0_t2_loop i v50).trips) : Fin 2 → Nat :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let v57 : BitVec 32 := Scalar.subi v53 c0_i32_20
  let c1_i32 : BitVec 32 := 1#32
  let v59 : BitVec 32 := Scalar.divsi v57 c1_i32
  let v60 : BitVec 32 := Scalar.muli v59 c1_i32
  let v61 : BitVec 32 := Scalar.addi c0_i32_20 v60
  let c1_i32_22 : BitVec 32 := 1#32
  let arg13 : BitVec 32 := Scf.iv v61 c1_i32_22 k0_t2
  let v455 : BitVec 32 := Scalar.addi v55 arg13
  let c256_i32_162 : BitVec 32 := 256#32
  let v456 : BitVec 32 := Scalar.muli v455 c256_i32_162
  let v457 : BitVec 32 := v456
  let v458 : Index := Scalar.indexCast v457
  let c64_163 : Index := 64#32
  ![v458.toNat, 64]
def k0_off8 (i : grid0.Coords) (v50 : BitVec 32) (k0_t2 : Fin (k0_t2_loop i v50).trips) : Fin 3 → Nat :=
  let c2_i32_18 : BitVec 32 := 2#32
  let arg2 : BitVec 32 := BitVec.ofNat 32 (i 2).val
  let v54 : BitVec 32 := Scalar.muli c2_i32_18 arg2
  let c2_i32 : BitVec 32 := 2#32
  let v51 : BitVec 32 := Scalar.muli c2_i32 arg2
  let c0_i32_17 : BitVec 32 := 0#32
  let v52 : BitVec 32 := Scalar.maxsi c0_i32_17 v50
  let v53 : BitVec 32 := Scalar.minsi v51 v52
  let v55 : BitVec 32 := Scalar.subi v54 v53
  let c0_i32_20 : BitVec 32 := 0#32
  let v57 : BitVec 32 := Scalar.subi v53 c0_i32_20
  let c1_i32 : BitVec 32 := 1#32
  let v59 : BitVec 32 := Scalar.divsi v57 c1_i32
  let v60 : BitVec 32 := Scalar.muli v59 c1_i32
  let v61 : BitVec 32 := Scalar.addi c0_i32_20 v60
  let c1_i32_22 : BitVec 32 := 1#32
  let arg13 : BitVec 32 := Scf.iv v61 c1_i32_22 k0_t2
  let v455 : BitVec 32 := Scalar.addi v55 arg13
  let v499 : Index := Scalar.indexCast v455
  let c64_174 : Index := 64#32
  let c0_175 : Index := 0#32
  ![v499.toNat, 64, 0]

def k0_chk1 (i : grid0.Coords) (v50 : BitVec 32) : Prop :=
  ((k0_t1_loop i v50).OK) ∧
  (∀ k0_t1 : Fin (k0_t1_loop i v50).trips, 256 ∣ (k0_mult1 i v50 k0_t1).toNat) ∧
  (∀ k0_t1 : Fin (k0_t1_loop i v50).trips, ∀ a, (k0_off1 i v50 k0_t1) a + S256x64.size a ≤ S2048x128.size a) ∧
  (∀ k0_t1 : Fin (k0_t1_loop i v50).trips, ∀ a, (k0_off2 i v50 k0_t1) a + S1x64x256.size a ≤ S8x128x256.size a) ∧
  (∀ k0_t1 : Fin (k0_t1_loop i v50).trips, 256 ∣ (k0_mult2 i v50 k0_t1).toNat) ∧
  (∀ k0_t1 : Fin (k0_t1_loop i v50).trips, ∀ a, (k0_off3 i v50 k0_t1) a + S256x64.size a ≤ S2048x128.size a) ∧
  (∀ k0_t1 : Fin (k0_t1_loop i v50).trips, ∀ a, (k0_off4 i v50 k0_t1) a + S1x64x256.size a ≤ S8x128x256.size a) ∧
  ((k0_t2_loop i v50).OK) ∧
  (∀ k0_t2 : Fin (k0_t2_loop i v50).trips, 256 ∣ (k0_mult3 i v50 k0_t2).toNat) ∧
  (∀ k0_t2 : Fin (k0_t2_loop i v50).trips, ∀ a, (k0_off5 i v50 k0_t2) a + S256x64.size a ≤ S2048x128.size a) ∧
  (∀ k0_t2 : Fin (k0_t2_loop i v50).trips, ∀ a, (k0_off6 i v50 k0_t2) a + S1x64x256.size a ≤ S8x128x256.size a) ∧
  (∀ k0_t2 : Fin (k0_t2_loop i v50).trips, 256 ∣ (k0_mult4 i v50 k0_t2).toNat) ∧
  (∀ k0_t2 : Fin (k0_t2_loop i v50).trips, ∀ a, (k0_off7 i v50 k0_t2) a + S256x64.size a ≤ S2048x128.size a) ∧
  (∀ k0_t2 : Fin (k0_t2_loop i v50).trips, ∀ a, (k0_off8 i v50 k0_t2) a + S1x64x256.size a ≤ S8x128x256.size a)
theorem k0_t1_ok : ∀ (i : grid0.Coords) (v50 : BitVec 32) (k0_hw1 : k0_chk1 i v50), (k0_t1_loop i v50).OK := fun i v50 k0_hw1 => k0_hw1.1
theorem k0_mult1_dvd : ∀ (i : grid0.Coords) (v50 : BitVec 32) (k0_hw1 : k0_chk1 i v50) (k0_t1 : Fin (k0_t1_loop i v50).trips), 256 ∣ (k0_mult1 i v50 k0_t1).toNat := fun i v50 k0_hw1 k0_t1 => k0_hw1.2.1 k0_t1
theorem k0_off1_inb : ∀ (i : grid0.Coords) (v50 : BitVec 32) (k0_hw1 : k0_chk1 i v50) (k0_t1 : Fin (k0_t1_loop i v50).trips), ∀ a, (k0_off1 i v50 k0_t1) a + S256x64.size a ≤ S2048x128.size a := fun i v50 k0_hw1 k0_t1 => k0_hw1.2.2.1 k0_t1
theorem k0_off2_inb : ∀ (i : grid0.Coords) (v50 : BitVec 32) (k0_hw1 : k0_chk1 i v50) (k0_t1 : Fin (k0_t1_loop i v50).trips), ∀ a, (k0_off2 i v50 k0_t1) a + S1x64x256.size a ≤ S8x128x256.size a := fun i v50 k0_hw1 k0_t1 => k0_hw1.2.2.2.1 k0_t1
theorem k0_mult2_dvd : ∀ (i : grid0.Coords) (v50 : BitVec 32) (k0_hw1 : k0_chk1 i v50) (k0_t1 : Fin (k0_t1_loop i v50).trips), 256 ∣ (k0_mult2 i v50 k0_t1).toNat := fun i v50 k0_hw1 k0_t1 => k0_hw1.2.2.2.2.1 k0_t1
theorem k0_off3_inb : ∀ (i : grid0.Coords) (v50 : BitVec 32) (k0_hw1 : k0_chk1 i v50) (k0_t1 : Fin (k0_t1_loop i v50).trips), ∀ a, (k0_off3 i v50 k0_t1) a + S256x64.size a ≤ S2048x128.size a := fun i v50 k0_hw1 k0_t1 => k0_hw1.2.2.2.2.2.1 k0_t1
theorem k0_off4_inb : ∀ (i : grid0.Coords) (v50 : BitVec 32) (k0_hw1 : k0_chk1 i v50) (k0_t1 : Fin (k0_t1_loop i v50).trips), ∀ a, (k0_off4 i v50 k0_t1) a + S1x64x256.size a ≤ S8x128x256.size a := fun i v50 k0_hw1 k0_t1 => k0_hw1.2.2.2.2.2.2.1 k0_t1
theorem k0_t2_ok : ∀ (i : grid0.Coords) (v50 : BitVec 32) (k0_hw1 : k0_chk1 i v50), (k0_t2_loop i v50).OK := fun i v50 k0_hw1 => k0_hw1.2.2.2.2.2.2.2.1
theorem k0_mult3_dvd : ∀ (i : grid0.Coords) (v50 : BitVec 32) (k0_hw1 : k0_chk1 i v50) (k0_t2 : Fin (k0_t2_loop i v50).trips), 256 ∣ (k0_mult3 i v50 k0_t2).toNat := fun i v50 k0_hw1 k0_t2 => k0_hw1.2.2.2.2.2.2.2.2.1 k0_t2
theorem k0_off5_inb : ∀ (i : grid0.Coords) (v50 : BitVec 32) (k0_hw1 : k0_chk1 i v50) (k0_t2 : Fin (k0_t2_loop i v50).trips), ∀ a, (k0_off5 i v50 k0_t2) a + S256x64.size a ≤ S2048x128.size a := fun i v50 k0_hw1 k0_t2 => k0_hw1.2.2.2.2.2.2.2.2.2.1 k0_t2
theorem k0_off6_inb : ∀ (i : grid0.Coords) (v50 : BitVec 32) (k0_hw1 : k0_chk1 i v50) (k0_t2 : Fin (k0_t2_loop i v50).trips), ∀ a, (k0_off6 i v50 k0_t2) a + S1x64x256.size a ≤ S8x128x256.size a := fun i v50 k0_hw1 k0_t2 => k0_hw1.2.2.2.2.2.2.2.2.2.2.1 k0_t2
theorem k0_mult4_dvd : ∀ (i : grid0.Coords) (v50 : BitVec 32) (k0_hw1 : k0_chk1 i v50) (k0_t2 : Fin (k0_t2_loop i v50).trips), 256 ∣ (k0_mult4 i v50 k0_t2).toNat := fun i v50 k0_hw1 k0_t2 => k0_hw1.2.2.2.2.2.2.2.2.2.2.2.1 k0_t2
theorem k0_off7_inb : ∀ (i : grid0.Coords) (v50 : BitVec 32) (k0_hw1 : k0_chk1 i v50) (k0_t2 : Fin (k0_t2_loop i v50).trips), ∀ a, (k0_off7 i v50 k0_t2) a + S256x64.size a ≤ S2048x128.size a := fun i v50 k0_hw1 k0_t2 => k0_hw1.2.2.2.2.2.2.2.2.2.2.2.2.1 k0_t2
theorem k0_off8_inb : ∀ (i : grid0.Coords) (v50 : BitVec 32) (k0_hw1 : k0_chk1 i v50) (k0_t2 : Fin (k0_t2_loop i v50).trips), ∀ a, (k0_off8 i v50 k0_t2) a + S1x64x256.size a ≤ S8x128x256.size a := fun i v50 k0_hw1 k0_t2 => k0_hw1.2.2.2.2.2.2.2.2.2.2.2.2.2 k0_t2

def k0_mult5 (i : grid0.Coords) : BitVec 32 :=
  let c2_i32_23 : BitVec 32 := 2#32
  let arg2 : BitVec 32 := BitVec.ofNat 32 (i 2).val
  let v64 : BitVec 32 := Scalar.muli c2_i32_23 arg2
  let c0_i32_24 : BitVec 32 := 0#32
  let v65 : BitVec 32 := Scalar.addi v64 c0_i32_24
  let c256_i32_25 : BitVec 32 := 256#32
  let v66 : BitVec 32 := Scalar.muli v65 c256_i32_25
  v66
def k0_off9 (i : grid0.Coords) (c0_i32_24 : BitVec 32) : Fin 2 → Nat :=
  let c2_i32_23 : BitVec 32 := 2#32
  let arg2 : BitVec 32 := BitVec.ofNat 32 (i 2).val
  let v64 : BitVec 32 := Scalar.muli c2_i32_23 arg2
  let v65 : BitVec 32 := Scalar.addi v64 c0_i32_24
  let c256_i32_25 : BitVec 32 := 256#32
  let v66 : BitVec 32 := Scalar.muli v65 c256_i32_25
  let v67 : BitVec 32 := v66
  let v68 : Index := Scalar.indexCast v67
  let c0_26 : Index := 0#32
  ![v68.toNat, 0]
def k0_off10 (i : grid0.Coords) (c0_i32_24 : BitVec 32) : Fin 3 → Nat :=
  let c2_i32_23 : BitVec 32 := 2#32
  let arg2 : BitVec 32 := BitVec.ofNat 32 (i 2).val
  let v64 : BitVec 32 := Scalar.muli c2_i32_23 arg2
  let v65 : BitVec 32 := Scalar.addi v64 c0_i32_24
  let v115 : Index := Scalar.indexCast v65
  let c0_40 : Index := 0#32
  let c0_41 : Index := 0#32
  ![v115.toNat, 0, 0]
def k0_mult6 (i : grid0.Coords) : BitVec 32 :=
  let c2_i32_51 : BitVec 32 := 2#32
  let arg2 : BitVec 32 := BitVec.ofNat 32 (i 2).val
  let v139 : BitVec 32 := Scalar.muli c2_i32_51 arg2
  let c0_i32_52 : BitVec 32 := 0#32
  let v140 : BitVec 32 := Scalar.addi v139 c0_i32_52
  let c256_i32_53 : BitVec 32 := 256#32
  let v141 : BitVec 32 := Scalar.muli v140 c256_i32_53
  v141
def k0_off11 (i : grid0.Coords) (c0_i32_52 : BitVec 32) : Fin 2 → Nat :=
  let c2_i32_51 : BitVec 32 := 2#32
  let arg2 : BitVec 32 := BitVec.ofNat 32 (i 2).val
  let v139 : BitVec 32 := Scalar.muli c2_i32_51 arg2
  let v140 : BitVec 32 := Scalar.addi v139 c0_i32_52
  let c256_i32_53 : BitVec 32 := 256#32
  let v141 : BitVec 32 := Scalar.muli v140 c256_i32_53
  let v142 : BitVec 32 := v141
  let v143 : Index := Scalar.indexCast v142
  let c64 : Index := 64#32
  ![v143.toNat, 64]
def k0_off12 (i : grid0.Coords) (c0_i32_52 : BitVec 32) : Fin 3 → Nat :=
  let c2_i32_51 : BitVec 32 := 2#32
  let arg2 : BitVec 32 := BitVec.ofNat 32 (i 2).val
  let v139 : BitVec 32 := Scalar.muli c2_i32_51 arg2
  let v140 : BitVec 32 := Scalar.addi v139 c0_i32_52
  let v190 : Index := Scalar.indexCast v140
  let c64_67 : Index := 64#32
  let c0_68 : Index := 0#32
  ![v190.toNat, 64, 0]
def k0_mult7 (i : grid0.Coords) : BitVec 32 :=
  let c2_i32_78 : BitVec 32 := 2#32
  let arg2 : BitVec 32 := BitVec.ofNat 32 (i 2).val
  let v214 : BitVec 32 := Scalar.muli c2_i32_78 arg2
  let c1_i32_79 : BitVec 32 := 1#32
  let v215 : BitVec 32 := Scalar.addi v214 c1_i32_79
  let c256_i32_80 : BitVec 32 := 256#32
  let v219 : BitVec 32 := Scalar.muli v215 c256_i32_80
  v219
def k0_mult8 (i : grid0.Coords) : BitVec 32 :=
  let c2_i32_105 : BitVec 32 := 2#32
  let arg2 : BitVec 32 := BitVec.ofNat 32 (i 2).val
  let v295 : BitVec 32 := Scalar.muli c2_i32_105 arg2
  let c1_i32_106 : BitVec 32 := 1#32
  let v296 : BitVec 32 := Scalar.addi v295 c1_i32_106
  let c256_i32_107 : BitVec 32 := 256#32
  let v300 : BitVec 32 := Scalar.muli v296 c256_i32_107
  v300
def k0_cond2 (i : grid0.Coords) : BitVec 1 :=
  let arg2 : BitVec 32 := BitVec.ofNat 32 (i 2).val
  let c3_i32 : BitVec 32 := 3#32
  let v384 : BitVec 1 := Scalar.cmpi .eq arg2 c3_i32
  let v385 : BitVec 32 := Scalar.extui v384
  let c0_i32_138 : BitVec 32 := 0#32
  let v386 : BitVec 1 := Scalar.cmpi .ne v385 c0_i32_138
  v386

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference6Ideal.lean ====
abbrev S4x2048x2048 : Shape := ⟨3, ![4, 2048, 2048]⟩
abbrev S4x2048x32x64 : Shape := ⟨4, ![4, 2048, 32, 64]⟩
abbrev S4x32x2048x64 : Shape := ⟨4, ![4, 32, 2048, 64]⟩
abbrev S4x32x2048x2048 : Shape := ⟨4, ![4, 32, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x32x64x2048 : Shape := ⟨4, ![4, 32, 64, 2048]⟩
abbrev S8192x2048 : Shape := ⟨2, ![8192, 2048]⟩

abbrev nBuf : Space → Nat
  | .hbm => 183
  | .vmem => 0
  | .smem => 0
  | _ => 0

abbrev hbmTy0_0 (i : Nat) : BufTy := match i % 128 with
  | 0 => ⟨S4x2048x2048, .f32⟩
  | 1 => ⟨S4x2048x2048, .f32⟩
  | 2 => ⟨S4x2048x2048, .f32⟩
  | 3 => ⟨S4x2048x2048, .f32⟩
  | 4 => ⟨S4x2048x32x64, .f32⟩
  | 5 => ⟨S4x32x2048x64, .f32⟩
  | 6 => ⟨S4x2048x32x64, .f32⟩
  | 7 => ⟨S4x32x2048x64, .f32⟩
  | 8 => ⟨S4x2048x32x64, .f32⟩
  | 9 => ⟨S4x32x2048x64, .f32⟩
  | 10 => ⟨S4x32x2048x2048, .f32⟩
  | 11 => ⟨S_, .f32⟩
  | 12 => ⟨S4x32x2048x2048, .f32⟩
  | 13 => ⟨S4x32x2048x2048, .f32⟩
  | 14 => ⟨S2048, .i32⟩
  | 15 => ⟨S2048x1, .i32⟩
  | 16 => ⟨S2048, .i32⟩
  | 17 => ⟨S1x2048, .i32⟩
  | 18 => ⟨S2048x2048, .i32⟩
  | 19 => ⟨S2048x2048, .i32⟩
  | 20 => ⟨S2048x2048, .i1⟩
  | 21 => ⟨S4x32x2048x2048, .f32⟩
  | 22 => ⟨S_, .f32⟩
  | 23 => ⟨S4x32x2048x2048, .f32⟩
  | 24 => ⟨S4x32x2048x2048, .f32⟩
  | 25 => ⟨S4x32x2048x2048, .f32⟩
  | 26 => ⟨S4x32x2048x2048, .f32⟩
  | 27 => ⟨S4x32x2048x2048, .i1⟩
  | 28 => ⟨S4x32x2048x2048, .f32⟩
  | 29 => ⟨S4x32x2048x2048, .f32⟩
  | 30 => ⟨S4x32x2048x2048, .f32⟩
  | 31 => ⟨S4x32x2048x2048, .f32⟩
  | 32 => ⟨S4x32x2048x2048, .f32⟩
  | 33 => ⟨S4x32x2048x2048, .f32⟩
  | 34 => ⟨S4x32x2048x2048, .f32⟩
  | 35 => ⟨S4x32x2048x2048, .f32⟩
  | 36 => ⟨S_, .f32⟩
  | 37 => ⟨S4x32x2048x2048, .f32⟩
  | 38 => ⟨S4x32x2048x2048, .i1⟩
  | 39 => ⟨S_, .f32⟩
  | 40 => ⟨S4x32x2048x2048, .f32⟩
  | 41 => ⟨S4x32x2048x2048, .f32⟩
  | 42 => ⟨S_, .f32⟩
  | 43 => ⟨S4x32x2048x2048, .f32⟩
  | 44 => ⟨S4x32x2048x2048, .i1⟩
  | 45 => ⟨S_, .f32⟩
  | 46 => ⟨S4x32x2048x2048, .f32⟩
  | 47 => ⟨S4x32x2048x2048, .f32⟩
  | 48 => ⟨S4x32x2048x2048, .f32⟩
  | 49 => ⟨S4x32x2048x2048, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S4x32x2048x2048, .f32⟩
  | 58 => ⟨S4x32x2048x2048, .i1⟩
  | 59 => ⟨S_, .f32⟩
  | 60 => ⟨S4x32x2048x2048, .f32⟩
  | 61 => ⟨S4x32x2048x2048, .f32⟩
  | 62 => ⟨S4x32x2048x2048, .f32⟩
  | 63 => ⟨S4x32x2048x2048, .f32⟩
  | 64 => ⟨S4x32x2048x2048, .f32⟩
  | 65 => ⟨S_, .f32⟩
  | 66 => ⟨S4x32x2048x2048, .f32⟩
  | 67 => ⟨S4x32x2048x2048, .f32⟩
  | 68 => ⟨S4x32x2048x2048, .f32⟩
  | 69 => ⟨S4x32x2048x2048, .f32⟩
  | 70 => ⟨S4x32x2048x2048, .f32⟩
  | 71 => ⟨S_, .f32⟩
  | 72 => ⟨S4x32x2048x2048, .f32⟩
  | 73 => ⟨S4x32x2048x2048, .f32⟩
  | 74 => ⟨S4x32x2048x2048, .f32⟩
  | 75 => ⟨S4x32x2048x2048, .f32⟩
  | 76 => ⟨S4x32x2048x2048, .i1⟩
  | 77 => ⟨S4x32x2048x2048, .f32⟩
  | 78 => ⟨S4x32x2048x2048, .f32⟩
  | 79 => ⟨S4x32x2048x2048, .f32⟩
  | 80 => ⟨S4x32x2048x2048, .f32⟩
  | 81 => ⟨S4x32x2048x2048, .f32⟩
  | 82 => ⟨S4x32x2048x2048, .f32⟩
  | 83 => ⟨S4x32x2048x2048, .f32⟩
  | 84 => ⟨S4x32x2048x2048, .f32⟩
  | 85 => ⟨S_, .f32⟩
  | 86 => ⟨S4x32x2048x2048, .f32⟩
  | 87 => ⟨S4x32x2048x2048, .i1⟩
  | 88 => ⟨S_, .f32⟩
  | 89 => ⟨S4x32x2048x2048, .f32⟩
  | 90 => ⟨S4x32x2048x2048, .f32⟩
  | 91 => ⟨S_, .f32⟩
  | 92 => ⟨S4x32x2048x2048, .f32⟩
  | 93 => ⟨S4x32x2048x2048, .i1⟩
  | 94 => ⟨S_, .f32⟩
  | 95 => ⟨S4x32x2048x2048, .f32⟩
  | 96 => ⟨S4x32x2048x2048, .f32⟩
  | 97 => ⟨S4x32x2048x2048, .f32⟩
  | 98 => ⟨S4x32x2048x2048, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S4x32x2048x2048, .f32⟩
  | 107 => ⟨S4x32x2048x2048, .i1⟩
  | 108 => ⟨S_, .f32⟩
  | 109 => ⟨S4x32x2048x2048, .f32⟩
  | 110 => ⟨S4x32x2048x2048, .f32⟩
  | 111 => ⟨S4x32x2048x2048, .f32⟩
  | 112 => ⟨S4x32x2048x2048, .f32⟩
  | 113 => ⟨S4x32x2048x2048, .f32⟩
  | 114 => ⟨S_, .f32⟩
  | 115 => ⟨S4x32x2048x2048, .f32⟩
  | 116 => ⟨S4x32x2048x2048, .f32⟩
  | 117 => ⟨S4x32x2048x2048, .f32⟩
  | 118 => ⟨S_, .f32⟩
  | 119 => ⟨S_, .f32⟩
  | 120 => ⟨S4x32x2048x2048, .i1⟩
  | 121 => ⟨S4x32x2048x2048, .f32⟩
  | 122 => ⟨S4x32x2048x2048, .f32⟩
  | 123 => ⟨S_, .f32⟩
  | 124 => ⟨S4x32x2048x2048, .f32⟩
  | 125 => ⟨S_, .f32⟩
  | 126 => ⟨S_, .f32⟩
  | 127 => ⟨S4x32x2048x2048, .f32⟩
  | _ => ⟨S4x2048x2048, .f32⟩

abbrev hbmTy0_1 (i : Nat) : BufTy := match i % 128 with
  | 0 => ⟨S4x32x2048x2048, .f32⟩
  | 1 => ⟨S4x32x2048x2048, .f32⟩
  | 2 => ⟨S4x32x2048x2048, .f32⟩
  | 3 => ⟨S_, .f32⟩
  | 4 => ⟨S_, .f32⟩
  | 5 => ⟨S4x32x2048x2048, .i1⟩
  | 6 => ⟨S4x32x2048x2048, .f32⟩
  | 7 => ⟨S4x32x2048x2048, .f32⟩
  | 8 => ⟨S_, .f32⟩
  | 9 => ⟨S4x32x2048x2048, .f32⟩
  | 10 => ⟨S4x32x2048x64, .f32⟩
  | 11 => ⟨S4x2048x32x64, .f32⟩
  | 12 => ⟨S4x2048x2048, .f32⟩
  | 13 => ⟨S4x2048x32x64, .f32⟩
  | 14 => ⟨S4x32x2048x64, .f32⟩
  | 15 => ⟨S4x32x64x2048, .f32⟩
  | 16 => ⟨S4x32x2048x64, .f32⟩
  | 17 => ⟨S4x32x2048x2048, .f32⟩
  | 18 => ⟨S_, .f32⟩
  | 19 => ⟨S4x32x2048x2048, .f32⟩
  | 20 => ⟨S4x32x2048x2048, .f32⟩
  | 21 => ⟨S4x32x2048x2048, .f32⟩
  | 22 => ⟨S4x32x2048x2048, .f32⟩
  | 23 => ⟨S_, .f32⟩
  | 24 => ⟨S_, .f32⟩
  | 25 => ⟨S4x32x2048x2048, .f32⟩
  | 26 => ⟨S4x32x2048x2048, .f32⟩
  | 27 => ⟨S_, .f32⟩
  | 28 => ⟨S4x32x2048x2048, .f32⟩
  | 29 => ⟨S4x32x2048x2048, .f32⟩
  | 30 => ⟨S4x32x2048x2048, .f32⟩
  | 31 => ⟨S4x32x2048x2048, .f32⟩
  | 32 => ⟨S4x32x2048x2048, .f32⟩
  | 33 => ⟨S4x32x2048x2048, .f32⟩
  | 34 => ⟨S4x32x2048x2048, .f32⟩
  | 35 => ⟨S4x32x2048x2048, .f32⟩
  | 36 => ⟨S4x32x2048x2048, .f32⟩
  | 37 => ⟨S4x32x2048x2048, .f32⟩
  | 38 => ⟨S_, .f32⟩
  | 39 => ⟨S4x32x2048x2048, .f32⟩
  | 40 => ⟨S4x32x2048x2048, .f32⟩
  | 41 => ⟨S4x32x2048x64, .f32⟩
  | 42 => ⟨S4x32x2048x64, .f32⟩
  | 43 => ⟨S4x2048x32x64, .f32⟩
  | 44 => ⟨S4x2048x2048, .f32⟩
  | 45 => ⟨S4x2048x32x64, .f32⟩
  | 46 => ⟨S4x2048x2048, .f32⟩
  | 47 => ⟨S4x2048x32x64, .f32⟩
  | 48 => ⟨S4x2048x2048, .f32⟩
  | 49 => ⟨S8192x2048, .f32⟩
  | 50 => ⟨S8192x2048, .bf16⟩
  | 51 => ⟨S8192x2048, .f32⟩
  | 52 => ⟨S8192x2048, .bf16⟩
  | 53 => ⟨S8192x2048, .f32⟩
  | 54 => ⟨S8192x2048, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v16_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v16_2 : Ref sig .tc := ⟨.hbm, 67, rfl⟩
abbrev main_v16_0 : Ref sig .tc := ⟨.hbm, 68, rfl⟩
abbrev main_v17 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v18_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v18_2 : Ref sig .tc := ⟨.hbm, 116, rfl⟩
abbrev main_v18_0 : Ref sig .tc := ⟨.hbm, 117, rfl⟩
abbrev main_cst_0 : Ref sig .tc := ⟨.hbm, 118, rfl⟩
abbrev main_call2_v0 : Ref sig .tc := ⟨.hbm, 119, rfl⟩
abbrev main_v19_1 : Ref sig .tc := ⟨.hbm, 120, rfl⟩
abbrev main_call2_v2 : Ref sig .tc := ⟨.hbm, 121, rfl⟩
abbrev main_v19_0 : Ref sig .tc := ⟨.hbm, 122, rfl⟩
abbrev main_call2_cst : Ref sig .tc := ⟨.hbm, 123, rfl⟩
abbrev main_v19_2 : Ref sig .tc := ⟨.hbm, 124, rfl⟩
abbrev main_call3_cst : Ref sig .tc := ⟨.hbm, 125, rfl⟩
abbrev main_call3_v0 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩
abbrev main_v23 : Ref sig .tc := ⟨.hbm, 130, rfl⟩
abbrev main_cst_1 : Ref sig .tc := ⟨.hbm, 131, rfl⟩
abbrev main_call4_v0 : Ref sig .tc := ⟨.hbm, 132, rfl⟩
abbrev main_v24_1 : Ref sig .tc := ⟨.hbm, 133, rfl⟩
abbrev main_call4_v2 : Ref sig .tc := ⟨.hbm, 134, rfl⟩
abbrev main_v24_0 : Ref sig .tc := ⟨.hbm, 135, rfl⟩
abbrev main_call4_cst : Ref sig .tc := ⟨.hbm, 136, rfl⟩
abbrev main_v24_2 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_call5_cst : Ref sig .tc := ⟨.hbm, 146, rfl⟩
abbrev main_call5_v0 : Ref sig .tc := ⟨.hbm, 147, rfl⟩
abbrev main_v33 : Ref sig .tc := ⟨.hbm, 148, rfl⟩
abbrev main_v34 : Ref sig .tc := ⟨.hbm, 149, rfl⟩
abbrev main_v35 : Ref sig .tc := ⟨.hbm, 150, rfl⟩
abbrev main_call6_cst : Ref sig .tc := ⟨.hbm, 151, rfl⟩
abbrev main_call6_v0 : Ref sig .tc := ⟨.hbm, 152, rfl⟩
abbrev main_v36 : Ref sig .tc := ⟨.hbm, 153, rfl⟩
abbrev main_v37 : Ref sig .tc := ⟨.hbm, 154, rfl⟩
abbrev main_call7_cst : Ref sig .tc := ⟨.hbm, 155, rfl⟩
abbrev main_call7_v0 : Ref sig .tc := ⟨.hbm, 156, rfl⟩
abbrev main_v38 : Ref sig .tc := ⟨.hbm, 157, rfl⟩
abbrev main_call8_v0 : Ref sig .tc := ⟨.hbm, 158, rfl⟩
abbrev main_call8_v1 : Ref sig .tc := ⟨.hbm, 159, rfl⟩
abbrev main_v39 : Ref sig .tc := ⟨.hbm, 160, rfl⟩
abbrev main_v40 : Ref sig .tc := ⟨.hbm, 161, rfl⟩
abbrev main_call9_v0 : Ref sig .tc := ⟨.hbm, 162, rfl⟩
abbrev main_call9_v1 : Ref sig .tc := ⟨.hbm, 163, rfl⟩
abbrev main_v41 : Ref sig .tc := ⟨.hbm, 164, rfl⟩
abbrev main_v42 : Ref sig .tc := ⟨.hbm, 165, rfl⟩
abbrev main_cst_2 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩

abbrev nD : Nat := 1
abbrev τ : Topo := Topo.v7x

variable {F : FTy → Type} [FloatOps F]
-- ==== Kernel7.lean ====
abbrev S4x2048x2048 : Shape := ⟨3, ![4, 2048, 2048]⟩
abbrev S4x32x2048 : Shape := ⟨3, ![4, 32, 2048]⟩
abbrev S4x2048x6144 : Shape := ⟨3, ![4, 2048, 6144]⟩
abbrev S8192x6144 : Shape := ⟨2, ![8192, 6144]⟩
abbrev S4x2048x32x64 : Shape := ⟨4, ![4, 2048, 32, 64]⟩
abbrev S4x32x2048x64 : Shape := ⟨4, ![4, 32, 2048, 64]⟩
abbrev S4x32x2048x2048 : Shape := ⟨4, ![4, 32, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x32x1x2048 : Shape := ⟨4, ![4, 32, 1, 2048]⟩
abbrev S4x32x2048x1 : Shape := ⟨4, ![4, 32, 2048, 1]⟩
abbrev S8192x2048 : Shape := ⟨2, ![8192, 2048]⟩
abbrev S4x16x2x2048 : Shape := ⟨4, ![4, 16, 2, 2048]⟩
abbrev S4x16x2048x2 : Shape := ⟨4, ![4, 16, 2048, 2]⟩
abbrev S4x16x2048x1 : Shape := ⟨4, ![4, 16, 2048, 1]⟩
abbrev S4x16x2048x3 : Shape := ⟨4, ![4, 16, 2048, 3]⟩
abbrev S4x32x8x256 : Shape := ⟨4, ![4, 32, 8, 256]⟩
abbrev S1024x128 : Shape := ⟨2, ![1024, 128]⟩
abbrev S2048x128 : Shape := ⟨2, ![2048, 128]⟩
abbrev S1x2x8x256 : Shape := ⟨4, ![1, 2, 8, 256]⟩
abbrev S1x1x1024x3 : Shape := ⟨4, ![1, 1, 1024, 3]⟩
abbrev S8x128x256 : Shape := ⟨3, ![8, 128, 256]⟩
abbrev S1024x256 : Shape := ⟨2, ![1024, 256]⟩
abbrev S128x1024 : Shape := ⟨2, ![128, 1024]⟩
abbrev S1024x64 : Shape := ⟨2, ![1024, 64]⟩
abbrev S1024 : Shape := ⟨1, ![1024]⟩
abbrev S1024x1 : Shape := ⟨2, ![1024, 1]⟩
abbrev S1x1x1024x1 : Shape := ⟨4, ![1, 1, 1024, 1]⟩
abbrev S256x64 : Shape := ⟨2, ![256, 64]⟩
abbrev S1x1x1x256 : Shape := ⟨4, ![1, 1, 1, 256]⟩
abbrev S1x256 : Shape := ⟨2, ![1, 256]⟩
abbrev S64x1024 : Shape := ⟨2, ![64, 1024]⟩
abbrev S64x256 : Shape := ⟨2, ![64, 256]⟩
abbrev S1x64x256 : Shape := ⟨3, ![1, 64, 256]⟩
abbrev S256 : Shape := ⟨1, ![256]⟩
abbrev S768x64 : Shape := ⟨2, ![768, 64]⟩
abbrev S768x256 : Shape := ⟨2, ![768, 256]⟩
abbrev S768x1 : Shape := ⟨2, ![768, 1]⟩
abbrev S64x768 : Shape := ⟨2, ![64, 768]⟩
abbrev S512x64 : Shape := ⟨2, ![512, 64]⟩
abbrev S512x256 : Shape := ⟨2, ![512, 256]⟩
abbrev S512x1 : Shape := ⟨2, ![512, 1]⟩
abbrev S64x512 : Shape := ⟨2, ![64, 512]⟩
abbrev S256x256 : Shape := ⟨2, ![256, 256]⟩
abbrev S256x1 : Shape := ⟨2, ![256, 1]⟩
abbrev S1x1024x1 : Shape := ⟨3, ![1, 1024, 1]⟩
abbrev S1 : Shape := ⟨1, ![1]⟩
abbrev S1x1x1 : Shape := ⟨3, ![1, 1, 1]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 85
  | .vmem => 24
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x32x2048, .f32⟩
  | .hbm, ⟨4, _⟩ => ⟨S4x2048x2048, .f32⟩
  | .hbm, ⟨5, _⟩ => ⟨S4x2048x6144, .f32⟩
  | .hbm, ⟨6, _⟩ => ⟨S8192x6144, .f32⟩
  | .hbm, ⟨7, _⟩ => ⟨S8192x6144, .bf16⟩
  | .hbm, ⟨8, _⟩ => ⟨S4x2048x32x64, .f32⟩
  | .hbm, ⟨9, _⟩ => ⟨S4x32x2048x64, .f32⟩
  | .hbm, ⟨10, _⟩ => ⟨S4x2048x32x64, .f32⟩
  | .hbm, ⟨11, _⟩ => ⟨S4x32x2048x64, .f32⟩
  | .hbm, ⟨12, _⟩ => ⟨S4x32x2048x2048, .f32⟩
  | .hbm, ⟨13, _⟩ => ⟨S_, .f32⟩
  | .hbm, ⟨14, _⟩ => ⟨S4x32x2048x2048, .f32⟩
  | .hbm, ⟨15, _⟩ => ⟨S4x32x2048x2048, .f32⟩
  | .hbm, ⟨16, _⟩ => ⟨S2048, .i32⟩
  | .hbm, ⟨17, _⟩ => ⟨S1x2048, .i32⟩
  | .hbm, ⟨18, _⟩ => ⟨S2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S4x32x1x2048, .f32⟩
  | .hbm, ⟨24, _⟩ => ⟨S4x32x2048x2048, .f32⟩
  | .hbm, ⟨25, _⟩ => ⟨S4x32x2048x2048, .f32⟩
  | .hbm, ⟨26, _⟩ => ⟨S_, .f32⟩
  | .hbm, ⟨27, _⟩ => ⟨S_, .f32⟩
  | .hbm, ⟨28, _⟩ => ⟨S4x32x2048x2048, .i1⟩
  | .hbm, ⟨29, _⟩ => ⟨S4x32x2048x2048, .f32⟩
  | .hbm, ⟨30, _⟩ => ⟨S4x32x2048x2048, .f32⟩
  | .hbm, ⟨31, _⟩ => ⟨S_, .f32⟩
  | .hbm, ⟨32, _⟩ => ⟨S4x32x2048, .f32⟩
  | .hbm, ⟨33, _⟩ => ⟨S4x32x2048x1, .f32⟩
  | .hbm, ⟨34, _⟩ => ⟨S4x32x2048x2048, .f32⟩
  | .hbm, ⟨35, _⟩ => ⟨S4x32x2048x2048, .f32⟩
  | .hbm, ⟨36, _⟩ => ⟨S4x32x2048x2048, .f32⟩
  | .hbm, ⟨37, _⟩ => ⟨S_, .f32⟩
  | .hbm, ⟨38, _⟩ => ⟨S4x32x2048, .f32⟩
  | .hbm, ⟨39, _⟩ => ⟨S4x32x2048x1, .f32⟩
  | .hbm, ⟨40, _⟩ => ⟨S4x2048x32x64, .f32⟩
  | .hbm, ⟨41, _⟩ => ⟨S4x32x2048x64, .f32⟩
  | .hbm, ⟨42, _⟩ => ⟨S4x32x2048x64, .f32⟩
  | .hbm, ⟨43, _⟩ => ⟨S4x32x2048x64, .f32⟩
  | .hbm, ⟨44, _⟩ => ⟨S4x32x2048x64, .f32⟩
  | .hbm, ⟨45, _⟩ => ⟨S4x2048x32x64, .f32⟩
  | .hbm, ⟨46, _⟩ => ⟨S4x2048x2048, .f32⟩
  | .hbm, ⟨47, _⟩ => ⟨S8192x2048, .f32⟩
  | .hbm, ⟨48, _⟩ => ⟨S4x32x2048x1, .f32⟩
  | .hbm, ⟨49, _⟩ => ⟨S4x32x2048x1, .f32⟩
  | .hbm, ⟨50, _⟩ => ⟨S4x16x2x2048, .f32⟩
  | .hbm, ⟨51, _⟩ => ⟨S4x16x2048x2, .f32⟩
  | .hbm, ⟨52, _⟩ => ⟨S2048, .i32⟩
  | .hbm, ⟨53, _⟩ => ⟨S_, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S2048, .i32⟩
  | .hbm, ⟨62, _⟩ => ⟨S2048, .i32⟩
  | .hbm, ⟨63, _⟩ => ⟨S_, .i32⟩
  | .hbm, ⟨64, _⟩ => ⟨S2048, .i32⟩
  | .hbm, ⟨65, _⟩ => ⟨S2048, .i1⟩
  | .hbm, ⟨66, _⟩ => ⟨S2048, .i1⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S2048, .i32⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .f32⟩
  | .hbm, ⟨75, _⟩ => ⟨S2048x1, .f32⟩
  | .hbm, ⟨76, _⟩ => ⟨S4x16x2048x1, .f32⟩
  | .hbm, ⟨77, _⟩ => ⟨S4x16x2048x3, .f32⟩
  | .hbm, ⟨78, _⟩ => ⟨S4x32x8x256, .f32⟩
  | .hbm, ⟨79, _⟩ => ⟨S8192x2048, .f32⟩
  | .hbm, ⟨80, _⟩ => ⟨S8192x2048, .bf16⟩
  | .hbm, ⟨81, _⟩ => ⟨S8192x2048, .bf16⟩
  | .hbm, ⟨82, _⟩ => ⟨S8192x2048, .bf16⟩
  | .hbm, ⟨83, _⟩ => ⟨S8192x2048, .bf16⟩
  | .hbm, ⟨84, _⟩ => ⟨S4x32x8x256, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x2x8x256, .f32⟩
  | .local _ .vmem, ⟨7, _⟩ => ⟨S1x2x8x256, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1x1x1024x3, .f32⟩
  | .local _ .vmem, ⟨13, _⟩ => ⟨S1x1x1024x3, .f32⟩
  | .local _ .vmem, ⟨14, _⟩ => ⟨S1024x128, .bf16⟩
  | .local _ .vmem, ⟨15, _⟩ => ⟨S1024x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x2x8x256, .f32⟩
  | .local _ .vmem, ⟨21, _⟩ => ⟨S1x2x8x256, .f32⟩
  | .local _ .vmem, ⟨22, _⟩ => ⟨S8x128x256, .f32⟩
  | .local _ .vmem, ⟨23, _⟩ => ⟨S8x128x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v41 : Ref sig .tc := ⟨.hbm, 70, rfl⟩
abbrev main_c_3 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51_0 : Ref sig .tc := ⟨.hbm, 81, rfl⟩
abbrev main_v51_1 : Ref sig .tc := ⟨.hbm, 82, rfl⟩
abbrev main_v51_2 : Ref sig .tc := ⟨.hbm, 83, rfl⟩
abbrev main_v51_3 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 16, 2], ![false, false, false]⟩

def k0_mult1 (i : grid0.Coords) : BitVec 32 :=
  let c4_i32 : BitVec 32 := 4#32
  let arg2 : BitVec 32 := BitVec.ofNat 32 (i 2).val
  let v52 : BitVec 32 := Scalar.muli c4_i32 arg2
  let c0_i32_18 : BitVec 32 := 0#32
  let v53 : BitVec 32 := Scalar.addi v52 c0_i32_18
  let c256_i32_19 : BitVec 32 := 256#32
  let v54 : BitVec 32 := Scalar.muli v53 c256_i32_19
  v54
def k0_off1 (i : grid0.Coords) (c0_i32_18 : BitVec 32) : Fin 2 → Nat :=
  let c4_i32 : BitVec 32 := 4#32
  let arg2 : BitVec 32 := BitVec.ofNat 32 (i 2).val
  let v52 : BitVec 32 := Scalar.muli c4_i32 arg2
  let v53 : BitVec 32 := Scalar.addi v52 c0_i32_18
  let c256_i32_19 : BitVec 32 := 256#32
  let v54 : BitVec 32 := Scalar.muli v53 c256_i32_19
  let v55 : BitVec 32 := v54
  let v56 : Index := Scalar.indexCast v55
  let c0_20 : Index := 0#32
  ![v56.toNat, 0]
def k0_off2 (i : grid0.Coords) (c0_i32_18 : BitVec 32) : Fin 4 → Nat :=
  let c0_23 : Index := 0#32
  let c0_24 : Index := 0#32
  let c4_i32 : BitVec 32 := 4#32
  let arg2 : BitVec 32 := BitVec.ofNat 32 (i 2).val
  let v52 : BitVec 32 := Scalar.muli c4_i32 arg2
  let v53 : BitVec 32 := Scalar.addi v52 c0_i32_18
  let v63 : Index := Scalar.indexCast v53
  let c0_25 : Index := 0#32
  ![0, 0, v63.toNat, 0]
def k0_off3 (i : grid0.Coords) (c0_i32_18 : BitVec 32) : Fin 3 → Nat :=
  let c4_i32 : BitVec 32 := 4#32
  let arg2 : BitVec 32 := BitVec.ofNat 32 (i 2).val
  let v52 : BitVec 32 := Scalar.muli c4_i32 arg2
  let v53 : BitVec 32 := Scalar.addi v52 c0_i32_18
  let v80 : Index := Scalar.indexCast v53
  let c0_29 : Index := 0#32
  let c0_30 : Index := 0#32
  ![v80.toNat, 0, 0]
def k0_mult2 (i : grid0.Coords) : BitVec 32 :=
  let c4_i32_46 : BitVec 32 := 4#32
  let arg2 : BitVec 32 := BitVec.ofNat 32 (i 2).val
  let v111 : BitVec 32 := Scalar.muli c4_i32_46 arg2
  let c0_i32_47 : BitVec 32 := 0#32
  let v112 : BitVec 32 := Scalar.addi v111 c0_i32_47
  let c256_i32_48 : BitVec 32 := 256#32
  let v113 : BitVec 32 := Scalar.muli v112 c256_i32_48
  v113
def k0_off4 (i : grid0.Coords) (c0_i32_47 : BitVec 32) : Fin 2 → Nat :=
  let c4_i32_46 : BitVec 32 := 4#32
  let arg2 : BitVec 32 := BitVec.ofNat 32 (i 2).val
  let v111 : BitVec 32 := Scalar.muli c4_i32_46 arg2
  let v112 : BitVec 32 := Scalar.addi v111 c0_i32_47
  let c256_i32_48 : BitVec 32 := 256#32
  let v113 : BitVec 32 := Scalar.muli v112 c256_i32_48
  let v114 : BitVec 32 := v113
  let v115 : Index := Scalar.indexCast v114
  let c64_49 : Index := 64#32
  ![v115.toNat, 64]
def k0_off5 (i : grid0.Coords) (c0_i32_47 : BitVec 32) : Fin 4 → Nat :=
  let c0_52 : Index := 0#32
  let c1_53 : Index := 1#32
  let c4_i32_46 : BitVec 32 := 4#32
  let arg2 : BitVec 32 := BitVec.ofNat 32 (i 2).val
  let v111 : BitVec 32 := Scalar.muli c4_i32_46 arg2
  let v112 : BitVec 32 := Scalar.addi v111 c0_i32_47
  let v122 : Index := Scalar.indexCast v112
  let c0_54 : Index := 0#32
  ![0, 1, v122.toNat, 0]
def k0_off6 (i : grid0.Coords) (c0_i32_47 : BitVec 32) : Fin 3 → Nat :=
  let c4_i32_46 : BitVec 32 := 4#32
  let arg2 : BitVec 32 := BitVec.ofNat 32 (i 2).val
  let v111 : BitVec 32 := Scalar.muli c4_i32_46 arg2
  let v112 : BitVec 32 := Scalar.addi v111 c0_i32_47
  let v139 : Index := Scalar.indexCast v112
  let c64_58 : Index := 64#32
  let c0_59 : Index := 0#32
  ![v139.toNat, 64, 0]
def k0_mult3 (i : grid0.Coords) : BitVec 32 :=
  let c4_i32_75 : BitVec 32 := 4#32
  let arg2 : BitVec 32 := BitVec.ofNat 32 (i 2).val
  let v170 : BitVec 32 := Scalar.muli c4_i32_75 arg2
  let c1_i32 : BitVec 32 := 1#32
  let v171 : BitVec 32 := Scalar.addi v170 c1_i32
  let c256_i32_76 : BitVec 32 := 256#32
  let v173 : BitVec 32 := Scalar.muli v171 c256_i32_76
  v173
def k0_mult4 (i : grid0.Coords) : BitVec 32 :=
  let c4_i32_103 : BitVec 32 := 4#32
  let arg2 : BitVec 32 := BitVec.ofNat 32 (i 2).val
  let v237 : BitVec 32 := Scalar.muli c4_i32_103 arg2
  let c1_i32_104 : BitVec 32 := 1#32
  let v238 : BitVec 32 := Scalar.addi v237 c1_i32_104
  let c256_i32_105 : BitVec 32 := 256#32
  let v240 : BitVec 32 := Scalar.muli v238 c256_i32_105
  v240
def k0_mult5 (i : grid0.Coords) : BitVec 32 :=
  let c4_i32_132 : BitVec 32 := 4#32
  let arg2 : BitVec 32 := BitVec.ofNat 32 (i 2).val
  let v304 : BitVec 32 := Scalar.muli c4_i32_132 arg2
  let c2_i32 : BitVec 32 := 2#32
  let v305 : BitVec 32 := Scalar.addi v304 c2_i32
  let c256_i32_133 : BitVec 32 := 256#32
  let v307 : BitVec 32 := Scalar.muli v305 c256_i32_133
  v307
def k0_mult6 (i : grid0.Coords) : BitVec 32 :=
  let c4_i32_160 : BitVec 32 := 4#32
  let arg2 : BitVec 32 := BitVec.ofNat 32 (i 2).val
  let v371 : BitVec 32 := Scalar.muli c4_i32_160 arg2
  let c2_i32_161 : BitVec 32 := 2#32
  let v372 : BitVec 32 := Scalar.addi v371 c2_i32_161
  let c256_i32_162 : BitVec 32 := 256#32
  let v374 : BitVec 32 := Scalar.muli v372 c256_i32_162
  v374
def k0_mult7 (i : grid0.Coords) : BitVec 32 :=
  let c4_i32_189 : BitVec 32 := 4#32
  let arg2 : BitVec 32 := BitVec.ofNat 32 (i 2).val
  let v438 : BitVec 32 := Scalar.muli c4_i32_189 arg2
  let c3_i32 : BitVec 32 := 3#32
  let v439 : BitVec 32 := Scalar.addi v438 c3_i32
  let c256_i32_190 : BitVec 32 := 256#32
  let v441 : BitVec 32 := Scalar.muli v439 c256_i32_190
  v441
def k0_mult8 (i : grid0.Coords) : BitVec 32 :=
  let c4_i32_217 : BitVec 32 := 4#32
  let arg2 : BitVec 32 := BitVec.ofNat 32 (i 2).val
  let v505 : BitVec 32 := Scalar.muli c4_i32_217 arg2
  let c3_i32_218 : BitVec 32 := 3#32
  let v506 : BitVec 32 := Scalar.addi v505 c3_i32_218
  let c256_i32_219 : BitVec 32 := 256#32
  let v508 : BitVec 32 := Scalar.muli v506 c256_i32_219
  v508
@[reducible] def k0_t1_loop (i : grid0.Coords) (v578 : BitVec 32) : Scf.Loop 32 :=
  let c0_i32_261 : BitVec 32 := 0#32
  let c4_i32_250 : BitVec 32 := 4#32
  let arg2 : BitVec 32 := BitVec.ofNat 32 (i 2).val
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let c1_i32_263 : BitVec 32 := 1#32
  ⟨c0_i32_261, v606, c1_i32_263⟩

def k0_mult9 (i : grid0.Coords) (v578 : BitVec 32) (k0_t1 : Fin (k0_t1_loop i v578).trips) : BitVec 32 :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_273 : BitVec 32 := 2#32
  let c0_i32_261 : BitVec 32 := 0#32
  let c1_i32_263 : BitVec 32 := 1#32
  let arg16 : BitVec 32 := Scf.iv c0_i32_261 c1_i32_263 k0_t1
  let v620 : BitVec 32 := Scalar.muli c2_i32_273 arg16
  let v621 : BitVec 32 := Scalar.addi v601 v620
  let c0_i32_274 : BitVec 32 := 0#32
  let v622 : BitVec 32 := Scalar.addi v621 c0_i32_274
  let c256_i32_275 : BitVec 32 := 256#32
  let v623 : BitVec 32 := Scalar.muli v622 c256_i32_275
  v623
def k0_off7 (i : grid0.Coords) (v578 : BitVec 32) (k0_t1 : Fin (k0_t1_loop i v578).trips) (c0_i32_274 : BitVec 32) : Fin 2 → Nat :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_273 : BitVec 32 := 2#32
  let c0_i32_261 : BitVec 32 := 0#32
  let c1_i32_263 : BitVec 32 := 1#32
  let arg16 : BitVec 32 := Scf.iv c0_i32_261 c1_i32_263 k0_t1
  let v620 : BitVec 32 := Scalar.muli c2_i32_273 arg16
  let v621 : BitVec 32 := Scalar.addi v601 v620
  let v622 : BitVec 32 := Scalar.addi v621 c0_i32_274
  let c256_i32_275 : BitVec 32 := 256#32
  let v623 : BitVec 32 := Scalar.muli v622 c256_i32_275
  let v624 : BitVec 32 := v623
  let v625 : Index := Scalar.indexCast v624
  let c0_276 : Index := 0#32
  ![v625.toNat, 0]
def k0_off8 (i : grid0.Coords) (v578 : BitVec 32) (k0_t1 : Fin (k0_t1_loop i v578).trips) (c0_i32_274 : BitVec 32) : Fin 4 → Nat :=
  let c0_279 : Index := 0#32
  let c0_280 : Index := 0#32
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_273 : BitVec 32 := 2#32
  let c0_i32_261 : BitVec 32 := 0#32
  let c1_i32_263 : BitVec 32 := 1#32
  let arg16 : BitVec 32 := Scf.iv c0_i32_261 c1_i32_263 k0_t1
  let v620 : BitVec 32 := Scalar.muli c2_i32_273 arg16
  let v621 : BitVec 32 := Scalar.addi v601 v620
  let v622 : BitVec 32 := Scalar.addi v621 c0_i32_274
  let v632 : Index := Scalar.indexCast v622
  let c0_281 : Index := 0#32
  ![0, 0, v632.toNat, 0]
def k0_off9 (i : grid0.Coords) (v578 : BitVec 32) (k0_t1 : Fin (k0_t1_loop i v578).trips) (c0_i32_274 : BitVec 32) : Fin 3 → Nat :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_273 : BitVec 32 := 2#32
  let c0_i32_261 : BitVec 32 := 0#32
  let c1_i32_263 : BitVec 32 := 1#32
  let arg16 : BitVec 32 := Scf.iv c0_i32_261 c1_i32_263 k0_t1
  let v620 : BitVec 32 := Scalar.muli c2_i32_273 arg16
  let v621 : BitVec 32 := Scalar.addi v601 v620
  let v622 : BitVec 32 := Scalar.addi v621 c0_i32_274
  let v647 : Index := Scalar.indexCast v622
  let c0_284 : Index := 0#32
  let c0_285 : Index := 0#32
  ![v647.toNat, 0, 0]
def k0_mult10 (i : grid0.Coords) (v578 : BitVec 32) (k0_t1 : Fin (k0_t1_loop i v578).trips) : BitVec 32 :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_301 : BitVec 32 := 2#32
  let c0_i32_261 : BitVec 32 := 0#32
  let c1_i32_263 : BitVec 32 := 1#32
  let arg16 : BitVec 32 := Scf.iv c0_i32_261 c1_i32_263 k0_t1
  let v678 : BitVec 32 := Scalar.muli c2_i32_301 arg16
  let v679 : BitVec 32 := Scalar.addi v601 v678
  let c0_i32_302 : BitVec 32 := 0#32
  let v680 : BitVec 32 := Scalar.addi v679 c0_i32_302
  let c256_i32_303 : BitVec 32 := 256#32
  let v681 : BitVec 32 := Scalar.muli v680 c256_i32_303
  v681
def k0_off10 (i : grid0.Coords) (v578 : BitVec 32) (k0_t1 : Fin (k0_t1_loop i v578).trips) (c0_i32_302 : BitVec 32) : Fin 2 → Nat :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_301 : BitVec 32 := 2#32
  let c0_i32_261 : BitVec 32 := 0#32
  let c1_i32_263 : BitVec 32 := 1#32
  let arg16 : BitVec 32 := Scf.iv c0_i32_261 c1_i32_263 k0_t1
  let v678 : BitVec 32 := Scalar.muli c2_i32_301 arg16
  let v679 : BitVec 32 := Scalar.addi v601 v678
  let v680 : BitVec 32 := Scalar.addi v679 c0_i32_302
  let c256_i32_303 : BitVec 32 := 256#32
  let v681 : BitVec 32 := Scalar.muli v680 c256_i32_303
  let v682 : BitVec 32 := v681
  let v683 : Index := Scalar.indexCast v682
  let c64_304 : Index := 64#32
  ![v683.toNat, 64]
def k0_off11 (i : grid0.Coords) (v578 : BitVec 32) (k0_t1 : Fin (k0_t1_loop i v578).trips) (c0_i32_302 : BitVec 32) : Fin 4 → Nat :=
  let c0_307 : Index := 0#32
  let c1_308 : Index := 1#32
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_301 : BitVec 32 := 2#32
  let c0_i32_261 : BitVec 32 := 0#32
  let c1_i32_263 : BitVec 32 := 1#32
  let arg16 : BitVec 32 := Scf.iv c0_i32_261 c1_i32_263 k0_t1
  let v678 : BitVec 32 := Scalar.muli c2_i32_301 arg16
  let v679 : BitVec 32 := Scalar.addi v601 v678
  let v680 : BitVec 32 := Scalar.addi v679 c0_i32_302
  let v690 : Index := Scalar.indexCast v680
  let c0_309 : Index := 0#32
  ![0, 1, v690.toNat, 0]
def k0_off12 (i : grid0.Coords) (v578 : BitVec 32) (k0_t1 : Fin (k0_t1_loop i v578).trips) (c0_i32_302 : BitVec 32) : Fin 3 → Nat :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_301 : BitVec 32 := 2#32
  let c0_i32_261 : BitVec 32 := 0#32
  let c1_i32_263 : BitVec 32 := 1#32
  let arg16 : BitVec 32 := Scf.iv c0_i32_261 c1_i32_263 k0_t1
  let v678 : BitVec 32 := Scalar.muli c2_i32_301 arg16
  let v679 : BitVec 32 := Scalar.addi v601 v678
  let v680 : BitVec 32 := Scalar.addi v679 c0_i32_302
  let v705 : Index := Scalar.indexCast v680
  let c64_312 : Index := 64#32
  let c0_313 : Index := 0#32
  ![v705.toNat, 64, 0]
def k0_mult11 (i : grid0.Coords) (v578 : BitVec 32) (k0_t1 : Fin (k0_t1_loop i v578).trips) : BitVec 32 :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_329 : BitVec 32 := 2#32
  let c0_i32_261 : BitVec 32 := 0#32
  let c1_i32_263 : BitVec 32 := 1#32
  let arg16 : BitVec 32 := Scf.iv c0_i32_261 c1_i32_263 k0_t1
  let v736 : BitVec 32 := Scalar.muli c2_i32_329 arg16
  let v737 : BitVec 32 := Scalar.addi v601 v736
  let c1_i32_330 : BitVec 32 := 1#32
  let v738 : BitVec 32 := Scalar.addi v737 c1_i32_330
  let c256_i32_331 : BitVec 32 := 256#32
  let v739 : BitVec 32 := Scalar.muli v738 c256_i32_331
  v739
def k0_mult12 (i : grid0.Coords) (v578 : BitVec 32) (k0_t1 : Fin (k0_t1_loop i v578).trips) : BitVec 32 :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_357 : BitVec 32 := 2#32
  let c0_i32_261 : BitVec 32 := 0#32
  let c1_i32_263 : BitVec 32 := 1#32
  let arg16 : BitVec 32 := Scf.iv c0_i32_261 c1_i32_263 k0_t1
  let v794 : BitVec 32 := Scalar.muli c2_i32_357 arg16
  let v795 : BitVec 32 := Scalar.addi v601 v794
  let c1_i32_358 : BitVec 32 := 1#32
  let v796 : BitVec 32 := Scalar.addi v795 c1_i32_358
  let c256_i32_359 : BitVec 32 := 256#32
  let v797 : BitVec 32 := Scalar.muli v796 c256_i32_359
  v797
@[reducible] def k0_t2_loop (i : grid0.Coords) (v578 : BitVec 32) : Scf.Loop 32 :=
  let c0_i32_261 : BitVec 32 := 0#32
  let c4_i32_250 : BitVec 32 := 4#32
  let arg2 : BitVec 32 := BitVec.ofNat 32 (i 2).val
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let v603 : BitVec 32 := Scalar.addi c0_i32_261 v602
  let c1_i32_264 : BitVec 32 := 1#32
  ⟨v606, v603, c1_i32_264⟩
def k0_mult13 (i : grid0.Coords) (v578 : BitVec 32) (k0_t2 : Fin (k0_t2_loop i v578).trips) : BitVec 32 :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_273 : BitVec 32 := 2#32
  let c0_i32_261 : BitVec 32 := 0#32
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let c1_i32_264 : BitVec 32 := 1#32
  let arg16 : BitVec 32 := Scf.iv v606 c1_i32_264 k0_t2
  let v620 : BitVec 32 := Scalar.muli c2_i32_273 arg16
  let v621 : BitVec 32 := Scalar.addi v601 v620
  let c0_i32_274 : BitVec 32 := 0#32
  let v622 : BitVec 32 := Scalar.addi v621 c0_i32_274
  let c256_i32_275 : BitVec 32 := 256#32
  let v623 : BitVec 32 := Scalar.muli v622 c256_i32_275
  v623
def k0_off13 (i : grid0.Coords) (v578 : BitVec 32) (k0_t2 : Fin (k0_t2_loop i v578).trips) (c0_i32_274 : BitVec 32) : Fin 2 → Nat :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_273 : BitVec 32 := 2#32
  let c0_i32_261 : BitVec 32 := 0#32
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let c1_i32_264 : BitVec 32 := 1#32
  let arg16 : BitVec 32 := Scf.iv v606 c1_i32_264 k0_t2
  let v620 : BitVec 32 := Scalar.muli c2_i32_273 arg16
  let v621 : BitVec 32 := Scalar.addi v601 v620
  let v622 : BitVec 32 := Scalar.addi v621 c0_i32_274
  let c256_i32_275 : BitVec 32 := 256#32
  let v623 : BitVec 32 := Scalar.muli v622 c256_i32_275
  let v624 : BitVec 32 := v623
  let v625 : Index := Scalar.indexCast v624
  let c0_276 : Index := 0#32
  ![v625.toNat, 0]
def k0_off14 (i : grid0.Coords) (v578 : BitVec 32) (k0_t2 : Fin (k0_t2_loop i v578).trips) (c0_i32_274 : BitVec 32) : Fin 4 → Nat :=
  let c0_279 : Index := 0#32
  let c0_280 : Index := 0#32
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_273 : BitVec 32 := 2#32
  let c0_i32_261 : BitVec 32 := 0#32
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let c1_i32_264 : BitVec 32 := 1#32
  let arg16 : BitVec 32 := Scf.iv v606 c1_i32_264 k0_t2
  let v620 : BitVec 32 := Scalar.muli c2_i32_273 arg16
  let v621 : BitVec 32 := Scalar.addi v601 v620
  let v622 : BitVec 32 := Scalar.addi v621 c0_i32_274
  let v632 : Index := Scalar.indexCast v622
  let c0_281 : Index := 0#32
  ![0, 0, v632.toNat, 0]
def k0_off15 (i : grid0.Coords) (v578 : BitVec 32) (k0_t2 : Fin (k0_t2_loop i v578).trips) (c0_i32_274 : BitVec 32) : Fin 3 → Nat :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_273 : BitVec 32 := 2#32
  let c0_i32_261 : BitVec 32 := 0#32
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let c1_i32_264 : BitVec 32 := 1#32
  let arg16 : BitVec 32 := Scf.iv v606 c1_i32_264 k0_t2
  let v620 : BitVec 32 := Scalar.muli c2_i32_273 arg16
  let v621 : BitVec 32 := Scalar.addi v601 v620
  let v622 : BitVec 32 := Scalar.addi v621 c0_i32_274
  let v647 : Index := Scalar.indexCast v622
  let c0_284 : Index := 0#32
  let c0_285 : Index := 0#32
  ![v647.toNat, 0, 0]
def k0_mult14 (i : grid0.Coords) (v578 : BitVec 32) (k0_t2 : Fin (k0_t2_loop i v578).trips) : BitVec 32 :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_301 : BitVec 32 := 2#32
  let c0_i32_261 : BitVec 32 := 0#32
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let c1_i32_264 : BitVec 32 := 1#32
  let arg16 : BitVec 32 := Scf.iv v606 c1_i32_264 k0_t2
  let v678 : BitVec 32 := Scalar.muli c2_i32_301 arg16
  let v679 : BitVec 32 := Scalar.addi v601 v678
  let c0_i32_302 : BitVec 32 := 0#32
  let v680 : BitVec 32 := Scalar.addi v679 c0_i32_302
  let c256_i32_303 : BitVec 32 := 256#32
  let v681 : BitVec 32 := Scalar.muli v680 c256_i32_303
  v681
def k0_off16 (i : grid0.Coords) (v578 : BitVec 32) (k0_t2 : Fin (k0_t2_loop i v578).trips) (c0_i32_302 : BitVec 32) : Fin 2 → Nat :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_301 : BitVec 32 := 2#32
  let c0_i32_261 : BitVec 32 := 0#32
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let c1_i32_264 : BitVec 32 := 1#32
  let arg16 : BitVec 32 := Scf.iv v606 c1_i32_264 k0_t2
  let v678 : BitVec 32 := Scalar.muli c2_i32_301 arg16
  let v679 : BitVec 32 := Scalar.addi v601 v678
  let v680 : BitVec 32 := Scalar.addi v679 c0_i32_302
  let c256_i32_303 : BitVec 32 := 256#32
  let v681 : BitVec 32 := Scalar.muli v680 c256_i32_303
  let v682 : BitVec 32 := v681
  let v683 : Index := Scalar.indexCast v682
  let c64_304 : Index := 64#32
  ![v683.toNat, 64]
def k0_off17 (i : grid0.Coords) (v578 : BitVec 32) (k0_t2 : Fin (k0_t2_loop i v578).trips) (c0_i32_302 : BitVec 32) : Fin 4 → Nat :=
  let c0_307 : Index := 0#32
  let c1_308 : Index := 1#32
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_301 : BitVec 32 := 2#32
  let c0_i32_261 : BitVec 32 := 0#32
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let c1_i32_264 : BitVec 32 := 1#32
  let arg16 : BitVec 32 := Scf.iv v606 c1_i32_264 k0_t2
  let v678 : BitVec 32 := Scalar.muli c2_i32_301 arg16
  let v679 : BitVec 32 := Scalar.addi v601 v678
  let v680 : BitVec 32 := Scalar.addi v679 c0_i32_302
  let v690 : Index := Scalar.indexCast v680
  let c0_309 : Index := 0#32
  ![0, 1, v690.toNat, 0]
def k0_off18 (i : grid0.Coords) (v578 : BitVec 32) (k0_t2 : Fin (k0_t2_loop i v578).trips) (c0_i32_302 : BitVec 32) : Fin 3 → Nat :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_301 : BitVec 32 := 2#32
  let c0_i32_261 : BitVec 32 := 0#32
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let c1_i32_264 : BitVec 32 := 1#32
  let arg16 : BitVec 32 := Scf.iv v606 c1_i32_264 k0_t2
  let v678 : BitVec 32 := Scalar.muli c2_i32_301 arg16
  let v679 : BitVec 32 := Scalar.addi v601 v678
  let v680 : BitVec 32 := Scalar.addi v679 c0_i32_302
  let v705 : Index := Scalar.indexCast v680
  let c64_312 : Index := 64#32
  let c0_313 : Index := 0#32
  ![v705.toNat, 64, 0]
def k0_mult15 (i : grid0.Coords) (v578 : BitVec 32) (k0_t2 : Fin (k0_t2_loop i v578).trips) : BitVec 32 :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_329 : BitVec 32 := 2#32
  let c0_i32_261 : BitVec 32 := 0#32
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let c1_i32_264 : BitVec 32 := 1#32
  let arg16 : BitVec 32 := Scf.iv v606 c1_i32_264 k0_t2
  let v736 : BitVec 32 := Scalar.muli c2_i32_329 arg16
  let v737 : BitVec 32 := Scalar.addi v601 v736
  let c1_i32_330 : BitVec 32 := 1#32
  let v738 : BitVec 32 := Scalar.addi v737 c1_i32_330
  let c256_i32_331 : BitVec 32 := 256#32
  let v739 : BitVec 32 := Scalar.muli v738 c256_i32_331
  v739
def k0_mult16 (i : grid0.Coords) (v578 : BitVec 32) (k0_t2 : Fin (k0_t2_loop i v578).trips) : BitVec 32 :=
  let c4_i32_259 : BitVec 32 := 4#32
  let arg2 : BitVec 32 := BitVec.ofNat 32 (i 2).val
  let v599 : BitVec 32 := Scalar.muli c4_i32_259 arg2
  let c4_i32_250 : BitVec 32 := 4#32
  let v579 : BitVec 32 := Scalar.muli c4_i32_250 arg2
  let c0_i32_251 : BitVec 32 := 0#32
  let v580 : BitVec 32 := Scalar.maxsi c0_i32_251 v578
  let v581 : BitVec 32 := Scalar.minsi v579 v580
  let c0_i32_253 : BitVec 32 := 0#32
  let v583 : BitVec 1 := Scalar.cmpi .sgt v581 c0_i32_253
  let v584 : BitVec 32 := Scalar.extui v583
  let c0_i32_254 : BitVec 32 := 0#32
  let v585 : BitVec 1 := Scalar.cmpi .slt v581 c0_i32_254
  let v586 : BitVec 32 := Scalar.extui v585
  let v587 : BitVec 32 := Scalar.subi v584 v586
  let c2_i32_252 : BitVec 32 := 2#32
  let c0_i32_255 : BitVec 32 := 0#32
  let v588 : BitVec 1 := Scalar.cmpi .sgt c2_i32_252 c0_i32_255
  let v589 : BitVec 32 := Scalar.extui v588
  let c0_i32_256 : BitVec 32 := 0#32
  let v590 : BitVec 1 := Scalar.cmpi .slt c2_i32_252 c0_i32_256
  let v591 : BitVec 32 := Scalar.extui v590
  let v592 : BitVec 32 := Scalar.subi v589 v591
  let v593 : BitVec 1 := Scalar.cmpi .ne v587 v592
  let v594 : BitVec 32 := Scalar.remsi v581 c2_i32_252
  let c0_i32_257 : BitVec 32 := 0#32
  let v595 : BitVec 1 := Scalar.cmpi .ne v594 c0_i32_257
  let v596 : BitVec 1 := Scalar.andi v593 v595
  let v582 : BitVec 32 := Scalar.divsi v581 c2_i32_252
  let c1_i32_258 : BitVec 32 := 1#32
  let v597 : BitVec 32 := Scalar.subi v582 c1_i32_258
  let v598 : BitVec 32 := Scalar.select v596 v597 v582
  let c2_i32_260 : BitVec 32 := 2#32
  let v600 : BitVec 32 := Scalar.muli v598 c2_i32_260
  let v601 : BitVec 32 := Scalar.subi v599 v600
  let c2_i32_357 : BitVec 32 := 2#32
  let c0_i32_261 : BitVec 32 := 0#32
  let v602 : BitVec 32 := Scalar.subi v598 c0_i32_261
  let c1_i32_262 : BitVec 32 := 1#32
  let v604 : BitVec 32 := Scalar.divsi v602 c1_i32_262
  let v605 : BitVec 32 := Scalar.muli v604 c1_i32_262
  let v606 : BitVec 32 := Scalar.addi c0_i32_261 v605
  let c1_i32_264 : BitVec 32 := 1#32
  let arg16 : BitVec 32 := Scf.iv v606 c1_i32_264 k0_t2
  let v794 : BitVec 32 := Scalar.muli c2_i32_357 arg16
  let v795 : BitVec 32 := Scalar.addi v601 v794
  let c1_i32_358 : BitVec 32 := 1#32
  let v796 : BitVec 32 := Scalar.addi v795 c1_i32_358
  let c256_i32_359 : BitVec 32 := 256#32
  let v797 : BitVec 32 := Scalar.muli v796 c256_i32_359
  v797

def k0_chk1 (i : grid0.Coords) (v578 : BitVec 32) : Prop :=
  ((k0_t1_loop i v578).OK) ∧
  (∀ k0_t1 : Fin (k0_t1_loop i v578).trips, 256 ∣ (k0_mult9 i v578 k0_t1).toNat) ∧
  (∀ k0_t1 : Fin (k0_t1_loop i v578).trips, ∀ (r : Fin 2), ∀ a, (k0_off7 i v578 k0_t1 (BitVec.ofNat 32 r.val)) a + S256x64.size a ≤ S2048x128.size a) ∧
  (∀ k0_t1 : Fin (k0_t1_loop i v578).trips, ∀ (r : Fin 2), ∀ a, (k0_off8 i v578 k0_t1 (BitVec.ofNat 32 r.val)) a + S1x1x1x256.size a ≤ S1x2x8x256.size a) ∧
  (∀ k0_t1 : Fin (k0_t1_loop i v578).trips, ∀ (r : Fin 2), ∀ a, (k0_off9 i v578 k0_t1 (BitVec.ofNat 32 r.val)) a + S1x64x256.size a ≤ S8x128x256.size a) ∧
  (∀ k0_t1 : Fin (k0_t1_loop i v578).trips, 256 ∣ (k0_mult10 i v578 k0_t1).toNat) ∧
  (∀ k0_t1 : Fin (k0_t1_loop i v578).trips, ∀ (r : Fin 2), ∀ a, (k0_off10 i v578 k0_t1 (BitVec.ofNat 32 r.val)) a + S256x64.size a ≤ S2048x128.size a) ∧
  (∀ k0_t1 : Fin (k0_t1_loop i v578).trips, ∀ (r : Fin 2), ∀ a, (k0_off11 i v578 k0_t1 (BitVec.ofNat 32 r.val)) a + S1x1x1x256.size a ≤ S1x2x8x256.size a) ∧
  (∀ k0_t1 : Fin (k0_t1_loop i v578).trips, ∀ (r : Fin 2), ∀ a, (k0_off12 i v578 k0_t1 (BitVec.ofNat 32 r.val)) a + S1x64x256.size a ≤ S8x128x256.size a) ∧
  (∀ k0_t1 : Fin (k0_t1_loop i v578).trips, 256 ∣ (k0_mult11 i v578 k0_t1).toNat) ∧
  (∀ k0_t1 : Fin (k0_t1_loop i v578).trips, 256 ∣ (k0_mult12 i v578 k0_t1).toNat) ∧
  ((k0_t2_loop i v578).OK) ∧
  (∀ k0_t2 : Fin (k0_t2_loop i v578).trips, 256 ∣ (k0_mult13 i v578 k0_t2).toNat) ∧
  (∀ k0_t2 : Fin (k0_t2_loop i v578).trips, ∀ (r : Fin 2), ∀ a, (k0_off13 i v578 k0_t2 (BitVec.ofNat 32 r.val)) a + S256x64.size a ≤ S2048x128.size a) ∧
  (∀ k0_t2 : Fin (k0_t2_loop i v578).trips, ∀ (r : Fin 2), ∀ a, (k0_off14 i v578 k0_t2 (BitVec.ofNat 32 r.val)) a + S1x1x1x256.size a ≤ S1x2x8x256.size a) ∧
  (∀ k0_t2 : Fin (k0_t2_loop i v578).trips, ∀ (r : Fin 2), ∀ a, (k0_off15 i v578 k0_t2 (BitVec.ofNat 32 r.val)) a + S1x64x256.size a ≤ S8x128x256.size a) ∧
  (∀ k0_t2 : Fin (k0_t2_loop i v578).trips, 256 ∣ (k0_mult14 i v578 k0_t2).toNat) ∧
  (∀ k0_t2 : Fin (k0_t2_loop i v578).trips, ∀ (r : Fin 2), ∀ a, (k0_off16 i v578 k0_t2 (BitVec.ofNat 32 r.val)) a + S256x64.size a ≤ S2048x128.size a) ∧
  (∀ k0_t2 : Fin (k0_t2_loop i v578).trips, ∀ (r : Fin 2), ∀ a, (k0_off17 i v578 k0_t2 (BitVec.ofNat 32 r.val)) a + S1x1x1x256.size a ≤ S1x2x8x256.size a) ∧
  (∀ k0_t2 : Fin (k0_t2_loop i v578).trips, ∀ (r : Fin 2), ∀ a, (k0_off18 i v578 k0_t2 (BitVec.ofNat 32 r.val)) a + S1x64x256.size a ≤ S8x128x256.size a) ∧
  (∀ k0_t2 : Fin (k0_t2_loop i v578).trips, 256 ∣ (k0_mult15 i v578 k0_t2).toNat) ∧
  (∀ k0_t2 : Fin (k0_t2_loop i v578).trips, 256 ∣ (k0_mult16 i v578 k0_t2).toNat)
theorem k0_t1_ok : ∀ (i : grid0.Coords) (v578 : BitVec 32) (k0_hw1 : k0_chk1 i v578), (k0_t1_loop i v578).OK := fun i v578 k0_hw1 => k0_hw1.1
theorem k0_mult9_dvd : ∀ (i : grid0.Coords) (v578 : BitVec 32) (k0_hw1 : k0_chk1 i v578) (k0_t1 : Fin (k0_t1_loop i v578).trips), 256 ∣ (k0_mult9 i v578 k0_t1).toNat := fun i v578 k0_hw1 k0_t1 => k0_hw1.2.1 k0_t1
theorem k0_off7_inb : ∀ (i : grid0.Coords) (v578 : BitVec 32) (k0_hw1 : k0_chk1 i v578) (k0_t1 : Fin (k0_t1_loop i v578).trips), ∀ (r : Fin 2), ∀ a, (k0_off7 i v578 k0_t1 (BitVec.ofNat 32 r.val)) a + S256x64.size a ≤ S2048x128.size a := fun i v578 k0_hw1 k0_t1 r => k0_hw1.2.2.1 k0_t1 r
theorem k0_off8_inb : ∀ (i : grid0.Coords) (v578 : BitVec 32) (k0_hw1 : k0_chk1 i v578) (k0_t1 : Fin (k0_t1_loop i v578).trips), ∀ (r : Fin 2), ∀ a, (k0_off8 i v578 k0_t1 (BitVec.ofNat 32 r.val)) a + S1x1x1x256.size a ≤ S1x2x8x256.size a := fun i v578 k0_hw1 k0_t1 r => k0_hw1.2.2.2.1 k0_t1 r
theorem k0_off9_inb : ∀ (i : grid0.Coords) (v578 : BitVec 32) (k0_hw1 : k0_chk1 i v578) (k0_t1 : Fin (k0_t1_loop i v578).trips), ∀ (r : Fin 2), ∀ a, (k0_off9 i v578 k0_t1 (BitVec.ofNat 32 r.val)) a + S1x64x256.size a ≤ S8x128x256.size a := fun i v578 k0_hw1 k0_t1 r => k0_hw1.2.2.2.2.1 k0_t1 r
theorem k0_mult10_dvd : ∀ (i : grid0.Coords) (v578 : BitVec 32) (k0_hw1 : k0_chk1 i v578) (k0_t1 : Fin (k0_t1_loop i v578).trips), 256 ∣ (k0_mult10 i v578 k0_t1).toNat := fun i v578 k0_hw1 k0_t1 => k0_hw1.2.2.2.2.2.1 k0_t1
theorem k0_off10_inb : ∀ (i : grid0.Coords) (v578 : BitVec 32) (k0_hw1 : k0_chk1 i v578) (k0_t1 : Fin (k0_t1_loop i v578).trips), ∀ (r : Fin 2), ∀ a, (k0_off10 i v578 k0_t1 (BitVec.ofNat 32 r.val)) a + S256x64.size a ≤ S2048x128.size a := fun i v578 k0_hw1 k0_t1 r => k0_hw1.2.2.2.2.2.2.1 k0_t1 r
theorem k0_off11_inb : ∀ (i : grid0.Coords) (v578 : BitVec 32) (k0_hw1 : k0_chk1 i v578) (k0_t1 : Fin (k0_t1_loop i v578).trips), ∀ (r : Fin 2), ∀ a, (k0_off11 i v578 k0_t1 (BitVec.ofNat 32 r.val)) a + S1x1x1x256.size a ≤ S1x2x8x256.size a := fun i v578 k0_hw1 k0_t1 r => k0_hw1.2.2.2.2.2.2.2.1 k0_t1 r
theorem k0_off12_inb : ∀ (i : grid0.Coords) (v578 : BitVec 32) (k0_hw1 : k0_chk1 i v578) (k0_t1 : Fin (k0_t1_loop i v578).trips), ∀ (r : Fin 2), ∀ a, (k0_off12 i v578 k0_t1 (BitVec.ofNat 32 r.val)) a + S1x64x256.size a ≤ S8x128x256.size a := fun i v578 k0_hw1 k0_t1 r => k0_hw1.2.2.2.2.2.2.2.2.1 k0_t1 r
theorem k0_mult11_dvd : ∀ (i : grid0.Coords) (v578 : BitVec 32) (k0_hw1 : k0_chk1 i v578) (k0_t1 : Fin (k0_t1_loop i v578).trips), 256 ∣ (k0_mult11 i v578 k0_t1).toNat := fun i v578 k0_hw1 k0_t1 => k0_hw1.2.2.2.2.2.2.2.2.2.1 k0_t1
theorem k0_mult12_dvd : ∀ (i : grid0.Coords) (v578 : BitVec 32) (k0_hw1 : k0_chk1 i v578) (k0_t1 : Fin (k0_t1_loop i v578).trips), 256 ∣ (k0_mult12 i v578 k0_t1).toNat := fun i v578 k0_hw1 k0_t1 => k0_hw1.2.2.2.2.2.2.2.2.2.2.1 k0_t1
theorem k0_t2_ok : ∀ (i : grid0.Coords) (v578 : BitVec 32) (k0_hw1 : k0_chk1 i v578), (k0_t2_loop i v578).OK := fun i v578 k0_hw1 => k0_hw1.2.2.2.2.2.2.2.2.2.2.2.1
theorem k0_mult13_dvd : ∀ (i : grid0.Coords) (v578 : BitVec 32) (k0_hw1 : k0_chk1 i v578) (k0_t2 : Fin (k0_t2_loop i v578).trips), 256 ∣ (k0_mult13 i v578 k0_t2).toNat := fun i v578 k0_hw1 k0_t2 => k0_hw1.2.2.2.2.2.2.2.2.2.2.2.2.1 k0_t2
theorem k0_off13_inb : ∀ (i : grid0.Coords) (v578 : BitVec 32) (k0_hw1 : k0_chk1 i v578) (k0_t2 : Fin (k0_t2_loop i v578).trips), ∀ (r : Fin 2), ∀ a, (k0_off13 i v578 k0_t2 (BitVec.ofNat 32 r.val)) a + S256x64.size a ≤ S2048x128.size a := fun i v578 k0_hw1 k0_t2 r => k0_hw1.2.2.2.2.2.2.2.2.2.2.2.2.2.1 k0_t2 r
theorem k0_off14_inb : ∀ (i : grid0.Coords) (v578 : BitVec 32) (k0_hw1 : k0_chk1 i v578) (k0_t2 : Fin (k0_t2_loop i v578).trips), ∀ (r : Fin 2), ∀ a, (k0_off14 i v578 k0_t2 (BitVec.ofNat 32 r.val)) a + S1x1x1x256.size a ≤ S1x2x8x256.size a := fun i v578 k0_hw1 k0_t2 r => k0_hw1.2.2.2.2.2.2.2.2.2.2.2.2.2.2.1 k0_t2 r
theorem k0_off15_inb : ∀ (i : grid0.Coords) (v578 : BitVec 32) (k0_hw1 : k0_chk1 i v578) (k0_t2 : Fin (k0_t2_loop i v578).trips), ∀ (r : Fin 2), ∀ a, (k0_off15 i v578 k0_t2 (BitVec.ofNat 32 r.val)) a + S1x64x256.size a ≤ S8x128x256.size a := fun i v578 k0_hw1 k0_t2 r => k0_hw1.2.2.2.2.2.2.2.2.2.2.2.2.2.2.2.1 k0_t2 r
theorem k0_mult14_dvd : ∀ (i : grid0.Coords) (v578 : BitVec 32) (k0_hw1 : k0_chk1 i v578) (k0_t2 : Fin (k0_t2_loop i v578).trips), 256 ∣ (k0_mult14 i v578 k0_t2).toNat := fun i v578 k0_hw1 k0_t2 => k0_hw1.2.2.2.2.2.2.2.2.2.2.2.2.2.2.2.2.1 k0_t2
theorem k0_off16_inb : ∀ (i : grid0.Coords) (v578 : BitVec 32) (k0_hw1 : k0_chk1 i v578) (k0_t2 : Fin (k0_t2_loop i v578).trips), ∀ (r : Fin 2), ∀ a, (k0_off16 i v578 k0_t2 (BitVec.ofNat 32 r.val)) a + S256x64.size a ≤ S2048x128.size a := fun i v578 k0_hw1 k0_t2 r => k0_hw1.2.2.2.2.2.2.2.2.2.2.2.2.2.2.2.2.2.1 k0_t2 r
theorem k0_off17_inb : ∀ (i : grid0.Coords) (v578 : BitVec 32) (k0_hw1 : k0_chk1 i v578) (k0_t2 : Fin (k0_t2_loop i v578).trips), ∀ (r : Fin 2), ∀ a, (k0_off17 i v578 k0_t2 (BitVec.ofNat 32 r.val)) a + S1x1x1x256.size a ≤ S1x2x8x256.size a := fun i v578 k0_hw1 k0_t2 r => k0_hw1.2.2.2.2.2.2.2.2.2.2.2.2.2.2.2.2.2.2.1 k0_t2 r
theorem k0_off18_inb : ∀ (i : grid0.Coords) (v578 : BitVec 32) (k0_hw1 : k0_chk1 i v578) (k0_t2 : Fin (k0_t2_loop i v578).trips), ∀ (r : Fin 2), ∀ a, (k0_off18 i v578 k0_t2 (BitVec.ofNat 32 r.val)) a + S1x64x256.size a ≤ S8x128x256.size a := fun i v578 k0_hw1 k0_t2 r => k0_hw1.2.2.2.2.2.2.2.2.2.2.2.2.2.2.2.2.2.2.2.1 k0_t2 r
theorem k0_mult15_dvd : ∀ (i : grid0.Coords) (v578 : BitVec 32) (k0_hw1 : k0_chk1 i v578) (k0_t2 : Fin (k0_t2_loop i v578).trips), 256 ∣ (k0_mult15 i v578 k0_t2).toNat := fun i v578 k0_hw1 k0_t2 => k0_hw1.2.2.2.2.2.2.2.2.2.2.2.2.2.2.2.2.2.2.2.2.1 k0_t2
theorem k0_mult16_dvd : ∀ (i : grid0.Coords) (v578 : BitVec 32) (k0_hw1 : k0_chk1 i v578) (k0_t2 : Fin (k0_t2_loop i v578).trips), 256 ∣ (k0_mult16 i v578 k0_t2).toNat := fun i v578 k0_hw1 k0_t2 => k0_hw1.2.2.2.2.2.2.2.2.2.2.2.2.2.2.2.2.2.2.2.2.2 k0_t2

def k0_cond2 (i : grid0.Coords) : BitVec 1 :=
  let arg2 : BitVec 32 := BitVec.ofNat 32 (i 2).val
  let c1_i32_271 : BitVec 32 := 1#32
  let v617 : BitVec 1 := Scalar.cmpi .eq arg2 c1_i32_271
  let v618 : BitVec 32 := Scalar.extui v617
  let c0_i32_272 : BitVec 32 := 0#32
  let v619 : BitVec 1 := Scalar.cmpi .ne v618 c0_i32_272
  v619

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x2x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference7Ideal.lean ====
abbrev S4x2048x2048 : Shape := ⟨3, ![4, 2048, 2048]⟩
abbrev S4x32x2048 : Shape := ⟨3, ![4, 32, 2048]⟩
abbrev S4x2048x32x64 : Shape := ⟨4, ![4, 2048, 32, 64]⟩
abbrev S4x32x2048x64 : Shape := ⟨4, ![4, 32, 2048, 64]⟩
abbrev S4x32x2048x2048 : Shape := ⟨4, ![4, 32, 2048, 2048]⟩
abbrev S_ : Shape := ⟨0, ![]⟩
abbrev S4x32x2048x1 : Shape := ⟨4, ![4, 32, 2048, 1]⟩
abbrev S4x32x1x2048 : Shape := ⟨4, ![4, 32, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x32x64x2048 : Shape := ⟨4, ![4, 32, 64, 2048]⟩
abbrev S8192x2048 : Shape := ⟨2, ![8192, 2048]⟩
abbrev S4x32x8x256 : Shape := ⟨4, ![4, 32, 8, 256]⟩

abbrev nBuf : Space → Nat
  | .hbm => 128
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x32x2048, .f32⟩
  | .hbm, ⟨4, _⟩ => ⟨S4x2048x2048, .f32⟩
  | .hbm, ⟨5, _⟩ => ⟨S4x2048x32x64, .f32⟩
  | .hbm, ⟨6, _⟩ => ⟨S4x32x2048x64, .f32⟩
  | .hbm, ⟨7, _⟩ => ⟨S4x2048x32x64, .f32⟩
  | .hbm, ⟨8, _⟩ => ⟨S4x32x2048x64, .f32⟩
  | .hbm, ⟨9, _⟩ => ⟨S4x2048x32x64, .f32⟩
  | .hbm, ⟨10, _⟩ => ⟨S4x32x2048x64, .f32⟩
  | .hbm, ⟨11, _⟩ => ⟨S4x32x2048x2048, .f32⟩
  | .hbm, ⟨12, _⟩ => ⟨S_, .f32⟩
  | .hbm, ⟨13, _⟩ => ⟨S4x32x2048x2048, .f32⟩
  | .hbm, ⟨14, _⟩ => ⟨S4x32x2048x2048, .f32⟩
  | .hbm, ⟨15, _⟩ => ⟨S4x32x2048x1, .f32⟩
  | .hbm, ⟨16, _⟩ => ⟨S4x32x2048x2048, .f32⟩
  | .hbm, ⟨17, _⟩ => ⟨S4x32x2048x2048, .f32⟩
  | .hbm, ⟨18, _⟩ => ⟨S4x32x1x2048, .f32⟩
  | .hbm, ⟨19, _⟩ => ⟨S4x32x2048x2048, .f32⟩
  | .hbm, ⟨20, _⟩ => ⟨S4x32x2048x2048, .f32⟩
  | .hbm, ⟨21, _⟩ => ⟨S2048, .i32⟩
  | .hbm, ⟨22, _⟩ => ⟨S2048x1, .i32⟩
  | .hbm, ⟨23, _⟩ => ⟨S2048, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S4x32x2048x2048, .i1⟩
  | .hbm, ⟨31, _⟩ => ⟨S4x32x2048x2048, .f32⟩
  | .hbm, ⟨32, _⟩ => ⟨S4x32x2048x2048, .f32⟩
  | .hbm, ⟨33, _⟩ => ⟨S_, .f32⟩
  | .hbm, ⟨34, _⟩ => ⟨S4x32x2048x2048, .f32⟩
  | .hbm, ⟨35, _⟩ => ⟨S_, .f32⟩
  | .hbm, ⟨36, _⟩ => ⟨S4x32x2048, .f32⟩
  | .hbm, ⟨37, _⟩ => ⟨S4x32x2048x1, .f32⟩
  | .hbm, ⟨38, _⟩ => ⟨S4x32x2048x2048, .f32⟩
  | .hbm, ⟨39, _⟩ => ⟨S4x32x2048x2048, .i1⟩
  | .hbm, ⟨40, _⟩ => ⟨S4x32x2048x2048, .f32⟩
  | .hbm, ⟨41, _⟩ => ⟨S_, .f32⟩
  | .hbm, ⟨42, _⟩ => ⟨S4x32x2048, .f32⟩
  | .hbm, ⟨43, _⟩ => ⟨S_, .f32⟩
  | .hbm, ⟨44, _⟩ => ⟨S4x32x2048, .f32⟩
  | .hbm, ⟨45, _⟩ => ⟨S4x32x2048, .f32⟩
  | .hbm, ⟨46, _⟩ => ⟨S_, .f32⟩
  | .hbm, ⟨47, _⟩ => ⟨S4x32x2048, .f32⟩
  | .hbm, ⟨48, _⟩ => ⟨S4x32x2048, .i1⟩
  | .hbm, ⟨49, _⟩ => ⟨S_, .f32⟩
  | .hbm, ⟨50, _⟩ => ⟨S4x32x2048, .f32⟩
  | .hbm, ⟨51, _⟩ => ⟨S4x32x2048, .i1⟩
  | .hbm, ⟨52, _⟩ => ⟨S_, .f32⟩
  | .hbm, ⟨53, _⟩ => ⟨S4x32x2048, .f32⟩
  | .hbm, ⟨54, _⟩ => ⟨S_, .f32⟩
  | .hbm, ⟨55, _⟩ => ⟨S4x32x2048, .f32⟩
  | .hbm, ⟨56, _⟩ => ⟨S_, .f32⟩
  | .hbm, ⟨57, _⟩ => ⟨S4x32x2048, .f32⟩
  | .hbm, ⟨58, _⟩ => ⟨S4x32x2048, .f32⟩
  | .hbm, ⟨59, _⟩ => ⟨S4x32x2048, .f32⟩
  | .hbm, ⟨60, _⟩ => ⟨S4x32x2048x1, .f32⟩
  | .hbm, ⟨61, _⟩ => ⟨S4x32x2048x2048, .f32⟩
  | .hbm, ⟨62, _⟩ => ⟨S4x32x2048x2048, .f32⟩
  | .hbm, ⟨63, _⟩ => ⟨S4x32x2048x2048, .f32⟩
  | .hbm, ⟨64, _⟩ => ⟨S_, .f32⟩
  | .hbm, ⟨65, _⟩ => ⟨S4x32x2048, .f32⟩
  | .hbm, ⟨66, _⟩ => ⟨S4x32x2048x1, .f32⟩
  | .hbm, ⟨67, _⟩ => ⟨S4x32x2048x2048, .f32⟩
  | .hbm, ⟨68, _⟩ => ⟨S4x32x2048x2048, .f32⟩
  | .hbm, ⟨69, _⟩ => ⟨S4x32x2048x1, .f32⟩
  | .hbm, ⟨70, _⟩ => ⟨S_, .f32⟩
  | .hbm, ⟨71, _⟩ => ⟨S4x32x2048x1, .f32⟩
  | .hbm, ⟨72, _⟩ => ⟨S4x32x2048x1, .f32⟩
  | .hbm, ⟨73, _⟩ => ⟨S4x32x2048x64, .f32⟩
  | .hbm, ⟨74, _⟩ => ⟨S4x2048x32x64, .f32⟩
  | .hbm, ⟨75, _⟩ => ⟨S4x2048x2048, .f32⟩
  | .hbm, ⟨76, _⟩ => ⟨S4x2048x32x64, .f32⟩
  | .hbm, ⟨77, _⟩ => ⟨S4x32x2048x64, .f32⟩
  | .hbm, ⟨78, _⟩ => ⟨S4x32x64x2048, .f32⟩
  | .hbm, ⟨79, _⟩ => ⟨S4x32x2048x64, .f32⟩
  | .hbm, ⟨80, _⟩ => ⟨S4x32x2048x2048, .f32⟩
  | .hbm, ⟨81, _⟩ => ⟨S4x32x2048x2048, .f32⟩
  | .hbm, ⟨82, _⟩ => ⟨S4x32x2048x2048, .f32⟩
  | .hbm, ⟨83, _⟩ => ⟨S4x32x2048x2048, .f32⟩
  | .hbm, ⟨84, _⟩ => ⟨S_, .f32⟩
  | .hbm, ⟨85, _⟩ => ⟨S4x32x2048, .f32⟩
  | .hbm, ⟨86, _⟩ => ⟨S4x32x2048x1, .f32⟩
  | .hbm, ⟨87, _⟩ => ⟨S4x32x2048x1, .f32⟩
  | .hbm, ⟨88, _⟩ => ⟨S4x32x2048x2048, .f32⟩
  | .hbm, ⟨89, _⟩ => ⟨S4x32x2048x2048, .f32⟩
  | .hbm, ⟨90, _⟩ => ⟨S_, .f32⟩
  | .hbm, ⟨91, _⟩ => ⟨S4x32x2048, .f32⟩
  | .hbm, ⟨92, _⟩ => ⟨S4x32x2048x2048, .f32⟩
  | .hbm, ⟨93, _⟩ => ⟨S4x32x2048x2048, .f32⟩
  | .hbm, ⟨94, _⟩ => ⟨S4x32x2048x2048, .f32⟩
  | .hbm, ⟨95, _⟩ => ⟨S_, .f32⟩
  | .hbm, ⟨96, _⟩ => ⟨S4x32x2048x2048, .f32⟩
  | .hbm, ⟨97, _⟩ => ⟨S4x32x2048x2048, .f32⟩
  | .hbm, ⟨98, _⟩ => ⟨S4x32x2048x2048, .f32⟩
  | .hbm, ⟨99, _⟩ => ⟨S_, .f32⟩
  | .hbm, ⟨100, _⟩ => ⟨S4x32x2048, .f32⟩
  | .hbm, ⟨101, _⟩ => ⟨S4x32x1x2048, .f32⟩
  | .hbm, ⟨102, _⟩ => ⟨S_, .f32⟩
  | .hbm, ⟨103, _⟩ => ⟨S4x32x2048, .f32⟩
  | .hbm, ⟨104, _⟩ => ⟨S_, .f32⟩
  | .hbm, ⟨105, _⟩ => ⟨S4x32x2048, .f32⟩
  | .hbm, ⟨106, _⟩ => ⟨S4x32x2048x1, .f32⟩
  | .hbm, ⟨107, _⟩ => ⟨S_, .f32⟩
  | .hbm, ⟨108, _⟩ => ⟨S4x32x2048, .f32⟩
  | .hbm, ⟨109, _⟩ => ⟨S4x32x2048, .f32⟩
  | .hbm, ⟨110, _⟩ => ⟨S_, .f32⟩
  | .hbm, ⟨111, _⟩ => ⟨S4x32x2048x2048, .f32⟩
  | .hbm, ⟨112, _⟩ => ⟨S4x32x2048x2048, .f32⟩
  | .hbm, ⟨113, _⟩ => ⟨S4x32x2048x64, .f32⟩
  | .hbm, ⟨114, _⟩ => ⟨S4x32x2048x64, .f32⟩
  | .hbm, ⟨115, _⟩ => ⟨S4x2048x32x64, .f32⟩
  | .hbm, ⟨116, _⟩ => ⟨S4x2048x2048, .f32⟩
  | .hbm, ⟨117, _⟩ => ⟨S4x2048x32x64, .f32⟩
  | .hbm, ⟨118, _⟩ => ⟨S4x2048x2048, .f32⟩
  | .hbm, ⟨119, _⟩ => ⟨S4x2048x32x64, .f32⟩
  | .hbm, ⟨120, _⟩ => ⟨S4x2048x2048, .f32⟩
  | .hbm, ⟨121, _⟩ => ⟨S8192x2048, .f32⟩
  | .hbm, ⟨122, _⟩ => ⟨S8192x2048, .bf16⟩
  | .hbm, ⟨123, _⟩ => ⟨S8192x2048, .f32⟩
  | .hbm, ⟨124, _⟩ => ⟨S8192x2048, .bf16⟩
  | .hbm, ⟨125, _⟩ => ⟨S8192x2048, .f32⟩
  | .hbm, ⟨126, _⟩ => ⟨S8192x2048, .bf16⟩
  | .hbm, ⟨127, _⟩ => ⟨S4x32x8x256, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== Kernel8.lean ====
abbrev S4x2048x1024 : Shape := ⟨3, ![4, 2048, 1024]⟩
abbrev S1024 : Shape := ⟨1, ![1024]⟩
abbrev S4x1x1024 : Shape := ⟨3, ![4, 1, 1024]⟩
abbrev S1024x8224 : Shape := ⟨2, ![1024, 8224]⟩
abbrev S4x2048x2048 : Shape := ⟨3, ![4, 2048, 2048]⟩
abbrev S4x32x2048 : Shape := ⟨3, ![4, 32, 2048]⟩
abbrev S8192x1024 : Shape := ⟨2, ![8192, 1024]⟩
abbrev S8192x2048 : Shape := ⟨2, ![8192, 2048]⟩
abbrev S4x2048x32 : Shape := ⟨3, ![4, 2048, 32]⟩
abbrev S8192x32 : Shape := ⟨2, ![8192, 32]⟩
abbrev S_ : Shape := ⟨0, ![]⟩
abbrev S8192x128 : Shape := ⟨2, ![8192, 128]⟩
abbrev S1024x32 : Shape := ⟨2, ![1024, 32]⟩
abbrev S1024x128 : Shape := ⟨2, ![1024, 128]⟩
abbrev S128x1024 : Shape := ⟨2, ![128, 1024]⟩
abbrev S1024x8192 : Shape := ⟨2, ![1024, 8192]⟩
abbrev S1x1024 : Shape := ⟨2, ![1, 1024]⟩
abbrev S512x2048 : Shape := ⟨2, ![512, 2048]⟩
abbrev S512x128 : Shape := ⟨2, ![512, 128]⟩
abbrev S512x1024 : Shape := ⟨2, ![512, 1024]⟩
abbrev S1x1x1024 : Shape := ⟨3, ![1, 1, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 39
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x8224, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x32x2048, .f32⟩
  | .hbm, ⟨10, _⟩ => ⟨S4x2048x1024, .f32⟩
  | .hbm, ⟨11, _⟩ => ⟨S8192x1024, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x1024, .f32⟩
  | .hbm, ⟨17, _⟩ => ⟨S1024x8224, .bf16⟩
  | .hbm, ⟨18, _⟩ => ⟨S4x2048x32, .f32⟩
  | .hbm, ⟨19, _⟩ => ⟨S8192x32, .f32⟩
  | .hbm, ⟨20, _⟩ => ⟨S_, .i32⟩
  | .hbm, ⟨21, _⟩ => ⟨S_, .f32⟩
  | .hbm, ⟨22, _⟩ => ⟨S8192x128, .f32⟩
  | .hbm, ⟨23, _⟩ => ⟨S8192x128, .bf16⟩
  | .hbm, ⟨24, _⟩ => ⟨S1024x32, .bf16⟩
  | .hbm, ⟨25, _⟩ => ⟨S_, .i32⟩
  | .hbm, ⟨26, _⟩ => ⟨S_, .bf16⟩
  | .hbm, ⟨27, _⟩ => ⟨S1024x128, .bf16⟩
  | .hbm, ⟨28, _⟩ => ⟨S128x1024, .bf16⟩
  | .hbm, ⟨29, _⟩ => ⟨S8192x2048, .bf16⟩
  | .hbm, ⟨30, _⟩ => ⟨S8192x2048, .bf16⟩
  | .hbm, ⟨31, _⟩ => ⟨S8192x2048, .bf16⟩
  | .hbm, ⟨32, _⟩ => ⟨S8192x2048, .bf16⟩
  | .hbm, ⟨33, _⟩ => ⟨S1024x8192, .bf16⟩
  | .hbm, ⟨34, _⟩ => ⟨S8192x1024, .bf16⟩
  | .hbm, ⟨35, _⟩ => ⟨S1x1024, .f32⟩
  | .hbm, ⟨36, _⟩ => ⟨S8192x1024, .f32⟩
  | .hbm, ⟨37, _⟩ => ⟨S4x1x1024, .f32⟩
  | .hbm, ⟨38, _⟩ => ⟨S4x1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S8192x1024, .bf16⟩
  | .local _ .vmem, ⟨9, _⟩ => ⟨S512x128, .bf16⟩
  | .local _ .vmem, ⟨10, _⟩ => ⟨S512x128, .bf16⟩
  | .local _ .vmem, ⟨11, _⟩ => ⟨S128x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_call1_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c0_i32_42 : BitVec 32 := 0#32
  let v79 : BitVec 1 := Scalar.cmpi .eq v78 c0_i32_42
  let v80 : BitVec 32 := Scalar.extui v79
  let c0_i32_43 : BitVec 32 := 0#32
  let v81 : BitVec 1 := Scalar.cmpi .ne v80 c0_i32_43
  v81

def k0_cond2 (i : grid0.Coords) : BitVec 1 :=
  let arg0 : BitVec 32 := BitVec.ofNat 32 (i 0).val
  let c4_i32_44 : BitVec 32 := 4#32
  let c0_i32_45 : BitVec 32 := 0#32
  let v82 : BitVec 1 := Scalar.cmpi .eq c4_i32_44 c0_i32_45
  let c1_i32_46 : BitVec 32 := 1#32
  let v83 : BitVec 32 := Scalar.select v82 c1_i32_46 c4_i32_44
  let v84 : BitVec 32 := Scalar.remsi arg0 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c0_i32_50 : BitVec 32 := 0#32
  let v92 : BitVec 1 := Scalar.cmpi .ne v91 c0_i32_50
  let v93 : BitVec 32 := Scalar.extui v92
  let c0_i32_51 : BitVec 32 := 0#32
  let v94 : BitVec 1 := Scalar.cmpi .ne v93 c0_i32_51
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference8Ideal.lean ====
abbrev S4x2048x1024 : Shape := ⟨3, ![4, 2048, 1024]⟩
abbrev S1024 : Shape := ⟨1, ![1024]⟩
abbrev S4x1x1024 : Shape := ⟨3, ![4, 1, 1024]⟩
abbrev S1024x8224 : Shape := ⟨2, ![1024, 8224]⟩
abbrev S4x2048x2048 : Shape := ⟨3, ![4, 2048, 2048]⟩
abbrev S4x32x2048 : Shape := ⟨3, ![4, 32, 2048]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x8224 : Shape := ⟨3, ![4, 2048, 8224]⟩
abbrev S4x2048x32 : Shape := ⟨3, ![4, 2048, 32]⟩
abbrev S4x1024 : Shape := ⟨2, ![4, 1024]⟩
abbrev S8192x1024 : Shape := ⟨2, ![8192, 1024]⟩

abbrev nBuf : Space → Nat
  | .hbm => 123
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x8224, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x32x2048, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x8224, .f32⟩
  | .hbm, ⟨39, _⟩ => ⟨S4x2048x32, .f32⟩
  | .hbm, ⟨40, _⟩ => ⟨S4x32x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048x8224, .f32⟩
  | .hbm, ⟨47, _⟩ => ⟨S_, .f32⟩
  | .hbm, ⟨48, _⟩ => ⟨S4x2048x8224, .f32⟩
  | .hbm, ⟨49, _⟩ => ⟨S4x2048x8224, .f32⟩
  | .hbm, ⟨50, _⟩ => ⟨S_, .f32⟩
  | .hbm, ⟨51, _⟩ => ⟨S4x2048x8224, .f32⟩
  | .hbm, ⟨52, _⟩ => ⟨S4x2048x8224, .f32⟩
  | .hbm, ⟨53, _⟩ => ⟨S_, .f32⟩
  | .hbm, ⟨54, _⟩ => ⟨S4x2048x8224, .f32⟩
  | .hbm, ⟨55, _⟩ => ⟨S4x2048x8224, .f32⟩
  | .hbm, ⟨56, _⟩ => ⟨S4x2048x32, .f32⟩
  | .hbm, ⟨57, _⟩ => ⟨S_, .f32⟩
  | .hbm, ⟨58, _⟩ => ⟨S4x2048x8224, .f32⟩
  | .hbm, ⟨59, _⟩ => ⟨S4x2048x8224, .f32⟩
  | .hbm, ⟨60, _⟩ => ⟨S4x2048x1024, .f32⟩
  | .hbm, ⟨61, _⟩ => ⟨S_, .f32⟩
  | .hbm, ⟨62, _⟩ => ⟨S4x1024, .f32⟩
  | .hbm, ⟨63, _⟩ => ⟨S4x1x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S_, .f32⟩
  | .hbm, ⟨70, _⟩ => ⟨S4x2048, .f32⟩
  | .hbm, ⟨71, _⟩ => ⟨S4x2048x1, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1, .f32⟩
  | .hbm, ⟨76, _⟩ => ⟨S_, .f32⟩
  | .hbm, ⟨77, _⟩ => ⟨S4x2048x1, .f32⟩
  | .hbm, ⟨78, _⟩ => ⟨S4x2048x1, .f32⟩
  | .hbm, ⟨79, _⟩ => ⟨S_, .f32⟩
  | .hbm, ⟨80, _⟩ => ⟨S4x2048, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x2048x32, .f32⟩
  | .hbm, ⟨87, _⟩ => ⟨S4x2048x8224, .f32⟩
  | .hbm, ⟨88, _⟩ => ⟨S_, .f32⟩
  | .hbm, ⟨89, _⟩ => ⟨S4x1x1024, .f32⟩
  | .hbm, ⟨90, _⟩ => ⟨S4x1x1024, .f32⟩
  | .hbm, ⟨91, _⟩ => ⟨S1x1x1024, .f32⟩
  | .hbm, ⟨92, _⟩ => ⟨S4x1x1024, .f32⟩
  | .hbm, ⟨93, _⟩ => ⟨S4x1x1024, .f32⟩
  | .hbm, ⟨94, _⟩ => ⟨S_, .f32⟩
  | .hbm, ⟨95, _⟩ => ⟨S1024, .f32⟩
  | .hbm, ⟨96, _⟩ => ⟨S4x2048x1024, .f32⟩
  | .hbm, ⟨97, _⟩ => ⟨S_, .f32⟩
  | .hbm, ⟨98, _⟩ => ⟨S4x2048, .f32⟩
  | .hbm, ⟨99, _⟩ => ⟨S4x2048x1, .f32⟩
  | .hbm, ⟨100, _⟩ => ⟨S_, .f32⟩
  | .hbm, ⟨101, _⟩ => ⟨S4x2048x1, .f32⟩
  | .hbm, ⟨102, _⟩ => ⟨S4x2048x1, .f32⟩
  | .hbm, ⟨103, _⟩ => ⟨S_, .f32⟩
  | .hbm, ⟨104, _⟩ => ⟨S4x2048x1, .f32⟩
  | .hbm, ⟨105, _⟩ => ⟨S4x2048x1, .f32⟩
  | .hbm, ⟨106, _⟩ => ⟨S4x2048x1, .f32⟩
  | .hbm, ⟨107, _⟩ => ⟨S4x2048x1024, .f32⟩
  | .hbm, ⟨108, _⟩ => ⟨S4x2048x1024, .f32⟩
  | .hbm, ⟨109, _⟩ => ⟨S1x1x1024, .f32⟩
  | .hbm, ⟨110, _⟩ => ⟨S4x2048x1024, .f32⟩
  | .hbm, ⟨111, _⟩ => ⟨S4x2048x1024, .f32⟩
  | .hbm, ⟨112, _⟩ => ⟨S4x2048x1024, .f32⟩
  | .hbm, ⟨113, _⟩ => ⟨S4x2048x1024, .f32⟩
  | .hbm, ⟨114, _⟩ => ⟨S4x2048x1024, .f32⟩
  | .hbm, ⟨115, _⟩ => ⟨S4x2048x1024, .f32⟩
  | .hbm, ⟨116, _⟩ => ⟨S4x2048x8224, .f32⟩
  | .hbm, ⟨117, _⟩ => ⟨S4x2048x1024, .f32⟩
  | .hbm, ⟨118, _⟩ => ⟨S4x2048x1024, .f32⟩
  | .hbm, ⟨119, _⟩ => ⟨S_, .f32⟩
  | .hbm, ⟨120, _⟩ => ⟨S4x1024, .f32⟩
  | .hbm, ⟨121, _⟩ => ⟨S4x1x1024, .f32⟩
  | .hbm, ⟨122, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]
-- ==== Kernel9.lean ====
abbrev S4x1024 : Shape := ⟨2, ![4, 1024]⟩
abbrev S1024x3072 : Shape := ⟨2, ![1024, 3072]⟩
abbrev S3072 : Shape := ⟨1, ![3072]⟩
abbrev S1024 : Shape := ⟨1, ![1024]⟩
abbrev S4x1x1024 : Shape := ⟨3, ![4, 1, 1024]⟩
abbrev S_ : Shape := ⟨0, ![]⟩
abbrev S4x3072 : Shape := ⟨2, ![4, 3072]⟩
abbrev S1x3072 : Shape := ⟨2, ![1, 3072]⟩
abbrev S16x1024 : Shape := ⟨2, ![16, 1024]⟩
abbrev S1x1024 : Shape := ⟨2, ![1, 1024]⟩
abbrev S8x1024x384 : Shape := ⟨3, ![8, 1024, 384]⟩
abbrev S1x1024x384 : Shape := ⟨3, ![1, 1024, 384]⟩
abbrev S16x3072 : Shape := ⟨2, ![16, 3072]⟩
abbrev S16x384 : Shape := ⟨2, ![16, 384]⟩
abbrev S1024x384 : Shape := ⟨2, ![1024, 384]⟩

abbrev nBuf : Space → Nat
  | .hbm => 49
  | .vmem => 11
  | .smem => 0
  | _ => 0

abbrev bufTy : (tb : Table) → Fin (tcTables nBuf tb) → BufTy
  | .hbm, ⟨0, _⟩ => ⟨S4x1024, .f32⟩
  | .hbm, ⟨1, _⟩ => ⟨S1024x3072, .f32⟩
  | .hbm, ⟨2, _⟩ => ⟨S3072, .f32⟩
  | .hbm, ⟨3, _⟩ => ⟨S1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S_, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x3072, .f32⟩
  | .hbm, ⟨17, _⟩ => ⟨S1x3072, .f32⟩
  | .hbm, ⟨18, _⟩ => ⟨S4x3072, .f32⟩
  | .hbm, ⟨19, _⟩ => ⟨S4x3072, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S4x1x1024, .f32⟩
  | .hbm, ⟨24, _⟩ => ⟨S4x1x1024, .f32⟩
  | .hbm, ⟨25, _⟩ => ⟨S4x1x1024, .f32⟩
  | .hbm, ⟨26, _⟩ => ⟨S_, .i32⟩
  | .hbm, ⟨27, _⟩ => ⟨S_, .f32⟩
  | .hbm, ⟨28, _⟩ => ⟨S16x1024, .f32⟩
  | .hbm, ⟨29, _⟩ => ⟨S4x1024, .f32⟩
  | .hbm, ⟨30, _⟩ => ⟨S_, .i32⟩
  | .hbm, ⟨31, _⟩ => ⟨S_, .f32⟩
  | .hbm, ⟨32, _⟩ => ⟨S16x1024, .f32⟩
  | .hbm, ⟨33, _⟩ => ⟨S4x1024, .f32⟩
  | .hbm, ⟨34, _⟩ => ⟨S_, .i32⟩
  | .hbm, ⟨35, _⟩ => ⟨S_, .f32⟩
  | .hbm, ⟨36, _⟩ => ⟨S16x1024, .f32⟩
  | .hbm, ⟨37, _⟩ => ⟨S4x1024, .f32⟩
  | .hbm, ⟨38, _⟩ => ⟨S_, .i32⟩
  | .hbm, ⟨39, _⟩ => ⟨S_, .f32⟩
  | .hbm, ⟨40, _⟩ => ⟨S16x1024, .f32⟩
  | .hbm, ⟨41, _⟩ => ⟨S4x1024, .f32⟩
  | .hbm, ⟨42, _⟩ => ⟨S_, .i32⟩
  | .hbm, ⟨43, _⟩ => ⟨S_, .f32⟩
  | .hbm, ⟨44, _⟩ => ⟨S16x1024, .f32⟩
  | .hbm, ⟨45, _⟩ => ⟨S1x1024, .f32⟩
  | .hbm, ⟨46, _⟩ => ⟨S8x1024x384, .bf16⟩
  | .hbm, ⟨47, _⟩ => ⟨S1x3072, .f32⟩
  | .hbm, ⟨48, _⟩ => ⟨S1x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S1x1024, .f32⟩
  | .local _ .vmem, ⟨6, _⟩ => ⟨S1x1024x384, .bf16⟩
  | .local _ .vmem, ⟨7, _⟩ => ⟨S1x1024x384, .bf16⟩
  | .local _ .vmem, ⟨8, _⟩ => ⟨S1x3072, .f32⟩
  | .local _ .vmem, ⟨9, _⟩ => ⟨S1x1024, .f32⟩
  | .local _ .vmem, ⟨10, _⟩ => ⟨S16x3072, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_call2_v0 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_call3_v0 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_call4_v0 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_call5_v0 : Ref sig .tc := ⟨.hbm, 43, rfl⟩
abbrev main_v19 : Ref sig .tc := ⟨.hbm, 44, rfl⟩
abbrev main_v20 : Ref sig .tc := ⟨.hbm, 45, rfl⟩
abbrev main_v21_0 : Ref sig .tc := ⟨.hbm, 46, rfl⟩
abbrev main_v21_1 : Ref sig .tc := ⟨.hbm, 47, rfl⟩
abbrev main_v21_2 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c384_i32 : BitVec 32 := 384#32
  let v14 : BitVec 32 := Scalar.muli arg0 c384_i32
  v14
def k0_off1 (i : grid0.Coords) : Fin 2 → Nat :=
  let c0_4 : Index := 0#32
  let arg0 : BitVec 32 := BitVec.ofNat 32 (i 0).val
  let c384_i32 : BitVec 32 := 384#32
  let v14 : BitVec 32 := Scalar.muli arg0 c384_i32
  let v15 : BitVec 32 := v14
  let v16 : Index := Scalar.indexCast v15
  ![0, v16.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S4x1024 : Shape := ⟨2, ![4, 1024]⟩
abbrev S1024x3072 : Shape := ⟨2, ![1024, 3072]⟩
abbrev S3072 : Shape := ⟨1, ![3072]⟩
abbrev S1024 : Shape := ⟨1, ![1024]⟩
abbrev S4x1x1024 : Shape := ⟨3, ![4, 1, 1024]⟩
abbrev S_ : Shape := ⟨0, ![]⟩
abbrev S4x3072 : Shape := ⟨2, ![4, 3072]⟩
abbrev S1x3072 : Shape := ⟨2, ![1, 3072]⟩
abbrev S1x1x1024 : Shape := ⟨3, ![1, 1, 1024]⟩
abbrev S1x1024 : Shape := ⟨2, ![1, 1024]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 59
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x3072, .f32⟩
  | .hbm, ⟨2, _⟩ => ⟨S3072, .f32⟩
  | .hbm, ⟨3, _⟩ => ⟨S1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S_, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x3072, .f32⟩
  | .hbm, ⟨17, _⟩ => ⟨S1x3072, .f32⟩
  | .hbm, ⟨18, _⟩ => ⟨S4x3072, .f32⟩
  | .hbm, ⟨19, _⟩ => ⟨S4x3072, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S4x1x1024, .f32⟩
  | .hbm, ⟨24, _⟩ => ⟨S4x1x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S1x1x1024, .f32⟩
  | .hbm, ⟨30, _⟩ => ⟨S4x1x1024, .f32⟩
  | .hbm, ⟨31, _⟩ => ⟨S4x1x1024, .f32⟩
  | .hbm, ⟨32, _⟩ => ⟨S4x1x1024, .f32⟩
  | .hbm, ⟨33, _⟩ => ⟨S4x1x1024, .f32⟩
  | .hbm, ⟨34, _⟩ => ⟨S4x1x1024, .f32⟩
  | .hbm, ⟨35, _⟩ => ⟨S_, .f32⟩
  | .hbm, ⟨36, _⟩ => ⟨S1x1024, .f32⟩
  | .hbm, ⟨37, _⟩ => ⟨S1x1x1024, .f32⟩
  | .hbm, ⟨38, _⟩ => ⟨S_, .f32⟩
  | .hbm, ⟨39, _⟩ => ⟨S1024, .f32⟩
  | .hbm, ⟨40, _⟩ => ⟨S_, .f32⟩
  | .hbm, ⟨41, _⟩ => ⟨S4x1024, .f32⟩
  | .hbm, ⟨42, _⟩ => ⟨S_, .f32⟩
  | .hbm, ⟨43, _⟩ => ⟨S4x1024, .f32⟩
  | .hbm, ⟨44, _⟩ => ⟨S_, .f32⟩
  | .hbm, ⟨45, _⟩ => ⟨S4x1024, .f32⟩
  | .hbm, ⟨46, _⟩ => ⟨S4x3072, .f32⟩
  | .hbm, ⟨47, _⟩ => ⟨S_, .f32⟩
  | .hbm, ⟨48, _⟩ => ⟨S3072, .f32⟩
  | .hbm, ⟨49, _⟩ => ⟨S1x3072, .f32⟩
  | .hbm, ⟨50, _⟩ => ⟨S_, .f32⟩
  | .hbm, ⟨51, _⟩ => ⟨S3072, .f32⟩
  | .hbm, ⟨52, _⟩ => ⟨S3072x1024, .f32⟩
  | .hbm, ⟨53, _⟩ => ⟨S1024x3072, .f32⟩
  | .hbm, ⟨54, _⟩ => ⟨S1024x8x384, .f32⟩
  | .hbm, ⟨55, _⟩ => ⟨S8x1024x384, .f32⟩
  | .hbm, ⟨56, _⟩ => ⟨S8x1024x384, .bf16⟩
  | .hbm, ⟨57, _⟩ => ⟨S1x3072, .f32⟩
  | .hbm, ⟨58, _⟩ => ⟨S1x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Kernel10.lean ====
abbrev S4x1024 : Shape := ⟨2, ![4, 1024]⟩
abbrev S1024x3072 : Shape := ⟨2, ![1024, 3072]⟩
abbrev S3072 : Shape := ⟨1, ![3072]⟩
abbrev S_ : Shape := ⟨0, ![]⟩
abbrev S16x1024 : Shape := ⟨2, ![16, 1024]⟩
abbrev S1x3072 : Shape := ⟨2, ![1, 3072]⟩
abbrev S16x3072 : Shape := ⟨2, ![16, 3072]⟩

abbrev nBuf : Space → Nat
  | .hbm => 9
  | .vmem => 4
  | .smem => 0
  | _ => 0

abbrev bufTy : (tb : Table) → Fin (tcTables nBuf tb) → BufTy
  | .hbm, ⟨0, _⟩ => ⟨S4x1024, .f32⟩
  | .hbm, ⟨1, _⟩ => ⟨S1024x3072, .f32⟩
  | .hbm, ⟨2, _⟩ => ⟨S3072, .f32⟩
  | .hbm, ⟨3, _⟩ => ⟨S_, .i32⟩
  | .hbm, ⟨4, _⟩ => ⟨S_, .f32⟩
  | .hbm, ⟨5, _⟩ => ⟨S16x1024, .f32⟩
  | .hbm, ⟨6, _⟩ => ⟨S1024x3072, .bf16⟩
  | .hbm, ⟨7, _⟩ => ⟨S1x3072, .f32⟩
  | .hbm, ⟨8, _⟩ => ⟨S16x3072, .f32⟩
  | .local _ .vmem, ⟨0, _⟩ => ⟨S16x1024, .f32⟩
  | .local _ .vmem, ⟨1, _⟩ => ⟨S1024x3072, .bf16⟩
  | .local _ .vmem, ⟨2, _⟩ => ⟨S1x3072, .f32⟩
  | .local _ .vmem, ⟨3, _⟩ => ⟨S16x3072, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference10Ideal.lean ====
abbrev S4x1024 : Shape := ⟨2, ![4, 1024]⟩
abbrev S1024x3072 : Shape := ⟨2, ![1024, 3072]⟩
abbrev S3072 : Shape := ⟨1, ![3072]⟩
abbrev S_ : Shape := ⟨0, ![]⟩
abbrev S16x1024 : Shape := ⟨2, ![16, 1024]⟩
abbrev S16x3072 : Shape := ⟨2, ![16, 3072]⟩
abbrev S1x3072 : Shape := ⟨2, ![1, 3072]⟩

abbrev nBuf : Space → Nat
  | .hbm => 19
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x3072, .f32⟩
  | .hbm, ⟨2, _⟩ => ⟨S3072, .f32⟩
  | .hbm, ⟨3, _⟩ => ⟨S_, .i32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x3072, .f32⟩
  | .hbm, ⟨16, _⟩ => ⟨S1x3072, .f32⟩
  | .hbm, ⟨17, _⟩ => ⟨S16x3072, .f32⟩
  | .hbm, ⟨18, _⟩ => ⟨S16x3072, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Kernel11.lean ====
abbrev S4x2048x2048 : Shape := ⟨3, ![4, 2048, 2048]⟩
abbrev S2048x1024 : Shape := ⟨2, ![2048, 1024]⟩
abbrev S4x2048x1024 : Shape := ⟨3, ![4, 2048, 1024]⟩
abbrev S4x1x1024 : Shape := ⟨3, ![4, 1, 1024]⟩
abbrev S8192x2048 : Shape := ⟨2, ![8192, 2048]⟩
abbrev S8192x1024 : Shape := ⟨2, ![8192, 1024]⟩
abbrev S256x2048 : Shape := ⟨2, ![256, 2048]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2048x1024, .f32⟩
  | .hbm, ⟨3, _⟩ => ⟨S4x2048x1024, .f32⟩
  | .hbm, ⟨4, _⟩ => ⟨S4x1x1024, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S2048x1024, .bf16⟩
  | .hbm, ⟨9, _⟩ => ⟨S8192x1024, .f32⟩
  | .hbm, ⟨10, _⟩ => ⟨S8192x1024, .f32⟩
  | .hbm, ⟨11, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x1024, .bf16⟩
  | .local _ .vmem, ⟨5, _⟩ => ⟨S256x1024, .f32⟩
  | .local _ .vmem, ⟨6, _⟩ => ⟨S256x1024, .f32⟩
  | .local _ .vmem, ⟨7, _⟩ => ⟨S1x1x1024, .f32⟩
  | .local _ .vmem, ⟨8, _⟩ => ⟨S1x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x2048, .bf16⟩
  | .local _ .vmem, ⟨14, _⟩ => ⟨S256x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4x2048x2048 : Shape := ⟨3, ![4, 2048, 2048]⟩
abbrev S2048x1024 : Shape := ⟨2, ![2048, 1024]⟩
abbrev S4x2048x1024 : Shape := ⟨3, ![4, 2048, 1024]⟩
abbrev S4x1x1024 : Shape := ⟨3, ![4, 1, 1024]⟩
abbrev S_ : Shape := ⟨0, ![]⟩
abbrev S8192x1024 : Shape := ⟨2, ![8192, 1024]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2048x1024, .f32⟩
  | .hbm, ⟨3, _⟩ => ⟨S4x2048x1024, .f32⟩
  | .hbm, ⟨4, _⟩ => ⟨S4x1x1024, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel12.lean ====
abbrev S4x2048x32 : Shape := ⟨3, ![4, 2048, 32]⟩
abbrev S32 : Shape := ⟨1, ![32]⟩
abbrev S4x32x2048 : Shape := ⟨3, ![4, 32, 2048]⟩
abbrev S32x1 : Shape := ⟨2, ![32, 1]⟩
abbrev S1x32x2048 : Shape := ⟨3, ![1, 32, 2048]⟩
abbrev S32x2048 : Shape := ⟨2, ![32, 2048]⟩
abbrev S2048x2048 : Shape := ⟨2, ![2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x32, .f32⟩
  | .hbm, ⟨1, _⟩ => ⟨S32, .f32⟩
  | .hbm, ⟨2, _⟩ => ⟨S4x32x2048, .f32⟩
  | .hbm, ⟨3, _⟩ => ⟨S32x1, .f32⟩
  | .hbm, ⟨4, _⟩ => ⟨S4x32x2048, .f32⟩
  | .local _ .vmem, ⟨0, _⟩ => ⟨S1x32x2048, .f32⟩
  | .local _ .vmem, ⟨1, _⟩ => ⟨S1x32x2048, .f32⟩
  | .local _ .vmem, ⟨2, _⟩ => ⟨S32x1, .f32⟩
  | .local _ .vmem, ⟨3, _⟩ => ⟨S1x32x2048, .f32⟩
  | .local _ .vmem, ⟨4, _⟩ => ⟨S1x32x2048, .f32⟩
  | _, _ => ⟨S4x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4x2048x32 : Shape := ⟨3, ![4, 2048, 32]⟩
abbrev S32 : Shape := ⟨1, ![32]⟩
abbrev S1x1x32 : Shape := ⟨3, ![1, 1, 32]⟩
abbrev S_ : Shape := ⟨0, ![]⟩
abbrev S4x32x2048 : Shape := ⟨3, ![4, 32, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x32, .f32⟩
  | .hbm, ⟨1, _⟩ => ⟨S32, .f32⟩
  | .hbm, ⟨2, _⟩ => ⟨S1x1x32, .f32⟩
  | .hbm, ⟨3, _⟩ => ⟨S4x2048x32, .f32⟩
  | .hbm, ⟨4, _⟩ => ⟨S4x2048x32, .f32⟩
  | .hbm, ⟨5, _⟩ => ⟨S4x2048x32, .f32⟩
  | .hbm, ⟨6, _⟩ => ⟨S_, .f32⟩
  | .hbm, ⟨7, _⟩ => ⟨S4x2048x32, .f32⟩
  | .hbm, ⟨8, _⟩ => ⟨S4x2048x32, .f32⟩
  | .hbm, ⟨9, _⟩ => ⟨S4x2048x32, .f32⟩
  | .hbm, ⟨10, _⟩ => ⟨S4x2048x32, .f32⟩
  | .hbm, ⟨11, _⟩ => ⟨S4x2048x32, .i1⟩
  | .hbm, ⟨12, _⟩ => ⟨S4x2048x32, .f32⟩
  | .hbm, ⟨13, _⟩ => ⟨S4x2048x32, .f32⟩
  | .hbm, ⟨14, _⟩ => ⟨S4x2048x32, .f32⟩
  | .hbm, ⟨15, _⟩ => ⟨S4x2048x32, .f32⟩
  | .hbm, ⟨16, _⟩ => ⟨S4x2048x32, .f32⟩
  | .hbm, ⟨17, _⟩ => ⟨S4x2048x32, .f32⟩
  | .hbm, ⟨18, _⟩ => ⟨S4x2048x32, .f32⟩
  | .hbm, ⟨19, _⟩ => ⟨S4x2048x32, .f32⟩
  | .hbm, ⟨20, _⟩ => ⟨S4x2048x32, .f32⟩
  | .hbm, ⟨21, _⟩ => ⟨S4x32x2048, .f32⟩
  | .hbm, ⟨22, _⟩ => ⟨S_, .f32⟩
  | .hbm, ⟨23, _⟩ => ⟨S_, .f32⟩
  | .hbm, ⟨24, _⟩ => ⟨S4x32x2048, .f32⟩
  | _, _ => ⟨S4x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩

abbrev nD : Nat := 1
abbrev τ : Topo := Topo.v7x

variable {F : FTy → Type} [FloatOps F]
-- ==== Kernel13.lean ====
abbrev S4x2048x1024 : Shape := ⟨3, ![4, 2048, 1024]⟩
abbrev S1024 : Shape := ⟨1, ![1024]⟩
abbrev S4x1x1024 : Shape := ⟨3, ![4, 1, 1024]⟩
abbrev S1024x8192 : Shape := ⟨2, ![1024, 8192]⟩
abbrev S8192x1024 : Shape := ⟨2, ![8192, 1024]⟩
abbrev S1x1024 : Shape := ⟨2, ![1, 1024]⟩
abbrev S8192x6144 : Shape := ⟨2, ![8192, 6144]⟩
abbrev S512x1024 : Shape := ⟨2, ![512, 1024]⟩
abbrev S1x1x1024 : Shape := ⟨3, ![1, 1, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x8192, .f32⟩
  | .hbm, ⟨5, _⟩ => ⟨S8192x1024, .f32⟩
  | .hbm, ⟨6, _⟩ => ⟨S1x1024, .f32⟩
  | .hbm, ⟨7, _⟩ => ⟨S1024x8192, .bf16⟩
  | .hbm, ⟨8, _⟩ => ⟨S8192x6144, .bf16⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S1024x2048, .bf16⟩
  | .local _ .vmem, ⟨9, _⟩ => ⟨S512x2048, .bf16⟩
  | .local _ .vmem, ⟨10, _⟩ => ⟨S512x2048, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference13Ideal.lean ====
abbrev S4x2048x1024 : Shape := ⟨3, ![4, 2048, 1024]⟩
abbrev S1024 : Shape := ⟨1, ![1024]⟩
abbrev S4x1x1024 : Shape := ⟨3, ![4, 1, 1024]⟩
abbrev S1024x8192 : Shape := ⟨2, ![1024, 8192]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x6144 : Shape := ⟨2, ![1024, 6144]⟩
abbrev S4x2048x6144 : Shape := ⟨3, ![4, 2048, 6144]⟩
abbrev S8192x6144 : Shape := ⟨2, ![8192, 6144]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x8192, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1024x6144, .f32⟩
  | .hbm, ⟨29, _⟩ => ⟨S4x2048x6144, .f32⟩
  | .hbm, ⟨30, _⟩ => ⟨S8192x6144, .f32⟩
  | .hbm, ⟨31, _⟩ => ⟨S8192x6144, .bf16⟩
  | .hbm, ⟨32, _⟩ => ⟨S8192x1024, .f32⟩
  | .hbm, ⟨33, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel14.lean ====
abbrev S4x2048x1024 : Shape := ⟨3, ![4, 2048, 1024]⟩
abbrev S1024 : Shape := ⟨1, ![1024]⟩
abbrev S4x1x1024 : Shape := ⟨3, ![4, 1, 1024]⟩
abbrev S1024x8192 : Shape := ⟨2, ![1024, 8192]⟩
abbrev S8192x1024 : Shape := ⟨2, ![8192, 1024]⟩
abbrev S1x1024 : Shape := ⟨2, ![1, 1024]⟩
abbrev S8192x2048 : Shape := ⟨2, ![8192, 2048]⟩
abbrev S512x1024 : Shape := ⟨2, ![512, 1024]⟩
abbrev S1x1x1024 : Shape := ⟨3, ![1, 1, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x8192, .f32⟩
  | .hbm, ⟨5, _⟩ => ⟨S8192x1024, .f32⟩
  | .hbm, ⟨6, _⟩ => ⟨S1x1024, .f32⟩
  | .hbm, ⟨7, _⟩ => ⟨S1024x8192, .bf16⟩
  | .hbm, ⟨8, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | .local _ .vmem, ⟨10, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference14Ideal.lean ====
abbrev S4x2048x1024 : Shape := ⟨3, ![4, 2048, 1024]⟩
abbrev S1024 : Shape := ⟨1, ![1024]⟩
abbrev S4x1x1024 : Shape := ⟨3, ![4, 1, 1024]⟩
abbrev S1024x8192 : Shape := ⟨2, ![1024, 8192]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x2048 : Shape := ⟨2, ![1024, 2048]⟩
abbrev S4x2048x2048 : Shape := ⟨3, ![4, 2048, 2048]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x8192, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1024x2048, .f32⟩
  | .hbm, ⟨29, _⟩ => ⟨S4x2048x2048, .f32⟩
  | .hbm, ⟨30, _⟩ => ⟨S8192x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Window.lean ====
/- Hand-written, untrusted: a running sum along the last axis, as the host writes it (a window as long as the axis,
   padded on one side), read at an index; and the host's sum over the first two axes of a rank-3 array. -/
module

public import Idealize.ShloMosaic.Lib.Pointwise
public import Idealize.ShloMosaic.PureOps.Ideal.Laws

@[expose] public section

namespace Cert.Window

open Idealize.ShloMosaic

/-- A left fold of additions is its start plus the sum. -/
theorem foldl_add_eq {ι : Type*} (g : ι → EReal) (l : List ι) (v : EReal) :
    l.foldl (fun r n => r + g n) v = v + (l.map g).sum := by
  induction l generalizing v with
  | nil => simp
  | cons a l ih => simp only [List.foldl_cons, List.map_cons, List.sum_cons]; rw [ih, add_assoc]

/-- The window sum at an index: the start, plus one term for each position of the window. -/
theorem windowAdd_eq {s t : Shape} (window strides lo hi : Fin s.rank → Nat) (x : s.Idx → EReal) (v : EReal)
    (h : s.ReduceWindows window strides lo hi t) (j : t.Idx) :
    Ideal.hostReduceWindowAdd window strides lo hi h x v j
      = v + ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else v := by
  unfold Ideal.hostReduceWindowAdd Host.reduceWindow
  refine (foldl_add_eq _ _ _).trans (congrArg (v + ·) ?_)
  rw [← Fin.sum_univ_def]
  refine Eq.trans (Finset.sum_congr rfl fun i _ => ?_) (Equiv.sum_comp (Shape.rowMajor ⟨s.rank, window⟩).symm (fun w : (⟨s.rank, window⟩ : Shape).Idx =>
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else v))
  dsimp only
  split <;> rfl

/-- A sum over the tail that starts at `j`, written over offsets, is the sum over the indices from `j` on. -/
theorem sum_tail {N : Nat} (j : Fin N) (f : Fin N → EReal) :
    (∑ w : Fin N, if h : j.val + w.val < N then f ⟨j.val + w.val, h⟩ else 0) = ∑ k : Fin N, if j ≤ k then f k else 0 := by
  haveI : NeZero N := ⟨by have := j.isLt; omega⟩
  rw [← Equiv.sum_comp (Equiv.addLeft j) (fun k => if j ≤ k then f k else 0)]
  refine Finset.sum_congr rfl fun w _ => ?_
  have hw := w.isLt
  have hj := j.isLt
  have hval : (j + w).val = if j.val + w.val < N then j.val + w.val else j.val + w.val - N := by
    rw [Fin.val_add]
    split
    · next h => exact Nat.mod_eq_of_lt h
    · next h => rw [Nat.mod_eq_sub_mod (by omega), Nat.mod_eq_of_lt (by omega)]
  show _ = if j ≤ j + w then f (j + w) else 0
  by_cases h : j.val + w.val < N
  · rw [if_pos h] at hval
    rw [dif_pos h, if_pos (show j ≤ j + w from Fin.le_def.2 (by omega))]
    exact congrArg f (Fin.ext hval.symm)
  · rw [if_neg h] at hval
    rw [dif_neg h, if_neg (fun q : j ≤ j + w => by have : j.val ≤ (j + w).val := q; omega)]

/-- A sum over the head that ends at `j`, written over offsets, is the sum over the indices up to `j`. -/
theorem sum_head {N : Nat} (j : Fin N) (f : Fin N → EReal) :
    (∑ w : Fin N, if h : N - 1 ≤ j.val + w.val then f ⟨j.val + w.val - (N - 1), by omega⟩ else 0)
      = ∑ k : Fin N, if k ≤ j then f k else 0 := by
  haveI : NeZero N := ⟨by have := j.isLt; omega⟩
  have hj := j.isLt
  rw [← Equiv.sum_comp (Equiv.addLeft (j + 1)) (fun k => if k ≤ j then f k else 0)]
  refine Finset.sum_congr rfl fun w _ => ?_
  have hw := w.isLt
  have hval : (j + 1 + w).val = if N - 1 ≤ j.val + w.val then j.val + w.val - (N - 1) else j.val + w.val + 1 := by
    rw [Fin.val_add, Fin.val_add]
    have h1 : (1 : Fin N).val = 1 % N := rfl
    rw [h1]
    simp only [Nat.add_mod_mod, Nat.mod_add_mod]
    split
    · next h =>
      rw [Nat.mod_eq_sub_mod (by omega), Nat.mod_eq_of_lt (by omega)]; omega
    · next h => rw [Nat.mod_eq_of_lt (by omega)]; omega
  show _ = if j + 1 + w ≤ j then f (j + 1 + w) else 0
  by_cases h : N - 1 ≤ j.val + w.val
  · rw [if_pos h] at hval
    rw [dif_pos h, if_pos (show j + 1 + w ≤ j from Fin.le_def.2 (by omega))]
    exact congrArg f (Fin.ext hval.symm)
  · rw [if_neg h] at hval
    rw [dif_neg h, if_neg (fun q : j + 1 + w ≤ j => by have : (j + 1 + w).val ≤ j.val := q; omega)]

/-- The running sum from the end, over the last axis of a rank-3 array. -/
theorem revcumsum3 {A B N M : Nat} (hM : M + 1 = N) (x : (⟨3, ![A, B, N]⟩ : Shape).Idx → EReal)
    (h : (⟨3, ![A, B, N]⟩ : Shape).ReduceWindows (![1, 1, N] : Fin 3 → Nat) ![1, 1, 1] ![0, 0, 0] ![0, 0, M] ⟨3, ![A, B, N]⟩)
    (a : Fin A) (b : Fin B) (j : Fin N) :
    Ideal.hostReduceWindowAdd (![1, 1, N] : Fin 3 → Nat) ![1, 1, 1] ![0, 0, 0] ![0, 0, M] h x 0 (ix3 a b j)
      = ∑ k : Fin N, if j ≤ k then x (ix3 a b k) else 0 := by
  have key := windowAdd_eq (s := ⟨3, ![A, B, N]⟩) (t := ⟨3, ![A, B, N]⟩) (![1, 1, N] : Fin 3 → Nat) ![1, 1, 1] ![0, 0, 0] ![0, 0, M] x 0 h (ix3 a b j)
  refine key.trans ?_
  rw [zero_add]
  refine (sum_idx3 (n0 := 1) (n1 := 1) (n2 := N) _).trans ?_
  rw [Fin.sum_univ_one, Fin.sum_univ_one, ← sum_tail j (fun k => x (ix3 a b k))]
  refine Finset.sum_congr rfl fun w _ => ?_
  by_cases hw : j.val + w.val < N
  · have hin : ∀ c : Fin 3, (![0, 0, 0] : Fin 3 → Nat) c ≤ ((ix3 a b j) (c.cast h.1.symm)).val * (![1, 1, 1] : Fin 3 → Nat) c + ((ix3 (0 : Fin 1) (0 : Fin 1) w) c).val
        ∧ ((ix3 a b j) (c.cast h.1.symm)).val * (![1, 1, 1] : Fin 3 → Nat) c + ((ix3 (0 : Fin 1) (0 : Fin 1) w) c).val - (![0, 0, 0] : Fin 3 → Nat) c < (![A, B, N] : Fin 3 → Nat) c := by
      intro c
      match c with
      | ⟨0, _⟩ => exact ⟨Nat.zero_le _, by show a.val * 1 + 0 - 0 < A; have := a.isLt; omega⟩
      | ⟨1, _⟩ => exact ⟨Nat.zero_le _, by show b.val * 1 + 0 - 0 < B; have := b.isLt; omega⟩
      | ⟨2, _⟩ => exact ⟨Nat.zero_le _, by show j.val * 1 + w.val - 0 < N; omega⟩
    rw [dif_pos hw]
    refine (dif_pos hin).trans (congrArg x (funext fun c => Fin.ext ?_))
    match c with
    | ⟨0, _⟩ => show a.val * 1 + 0 - 0 = a.val; omega
    | ⟨1, _⟩ => show b.val * 1 + 0 - 0 = b.val; omega
    | ⟨2, _⟩ => show j.val * 1 + w.val - 0 = j.val + w.val; omega
  · rw [dif_neg hw]
    refine dif_neg (fun hin => hw ?_)
    have h2 : j.val * 1 + w.val - 0 < N := (hin (2 : Fin 3)).2
    omega

/-- … as the operation that a host program names. -/
theorem reduceWindowAdd_rev3 {A B N M : Nat} (hM : M + 1 = N) {φ : FTy} (x : FVec Ideal ⟨3, ![A, B, N]⟩ φ) {u : Shape} (init : u.Idx → Ideal φ)
    (h : (⟨3, ![A, B, N]⟩ : Shape).ReduceWindows (![1, 1, N] : Fin 3 → Nat) ![1, 1, 1] ![0, 0, 0] ![0, 0, M] ⟨3, ![A, B, N]⟩)
    (hu : 0 < u.numel) (h0 : init (Shape.Idx.first hu) = (0 : EReal)) (a : Fin A) (b : Fin B) (j : Fin N) :
    Host.reduceWindowAdd (![1, 1, N] : Fin 3 → Nat) ![1, 1, 1] ![0, 0, 0] ![0, 0, M] x init h hu (ix3 a b j)
      = ∑ k : Fin N, if j ≤ k then (x (ix3 a b k) : EReal) else 0 := by
  show Ideal.hostReduceWindowAdd _ _ _ _ h x (init (Shape.Idx.first hu)) (ix3 a b j) = _
  rw [h0]
  exact revcumsum3 hM x h a b j

/-- The running sum from the start, over the last axis of a rank-3 array. -/
theorem reduceWindowAdd_fwd3 {A B N M : Nat} (hM : M + 1 = N) {φ : FTy} (x : FVec Ideal ⟨3, ![A, B, N]⟩ φ) {u : Shape} (init : u.Idx → Ideal φ)
    (h : (⟨3, ![A, B, N]⟩ : Shape).ReduceWindows (![1, 1, N] : Fin 3 → Nat) ![1, 1, 1] ![0, 0, M] ![0, 0, 0] ⟨3, ![A, B, N]⟩)
    (hu : 0 < u.numel) (h0 : init (Shape.Idx.first hu) = (0 : EReal)) (a : Fin A) (b : Fin B) (j : Fin N) :
    Host.reduceWindowAdd (![1, 1, N] : Fin 3 → Nat) ![1, 1, 1] ![0, 0, M] ![0, 0, 0] x init h hu (ix3 a b j)
      = ∑ k : Fin N, if k ≤ j then (x (ix3 a b k) : EReal) else 0 := by
  show Ideal.hostReduceWindowAdd _ _ _ _ h x (init (Shape.Idx.first hu)) (ix3 a b j) = _
  rw [h0]
  refine (windowAdd_eq (s := ⟨3, ![A, B, N]⟩) (t := ⟨3, ![A, B, N]⟩) (![1, 1, N] : Fin 3 → Nat) ![1, 1, 1] ![0, 0, M] ![0, 0, 0] x 0 h (ix3 a b j)).trans ?_
  rw [zero_add]
  refine (sum_idx3 (n0 := 1) (n1 := 1) (n2 := N) _).trans ?_
  rw [Fin.sum_univ_one, Fin.sum_univ_one, ← sum_head j (fun k => x (ix3 a b k))]
  refine Finset.sum_congr rfl fun w _ => ?_
  have hj := j.isLt
  have hwN := w.isLt
  by_cases hw : N - 1 ≤ j.val + w.val
  · have hin : ∀ c : Fin 3, (![0, 0, M] : Fin 3 → Nat) c ≤ ((ix3 a b j) (c.cast h.1.symm)).val * (![1, 1, 1] : Fin 3 → Nat) c + ((ix3 (0 : Fin 1) (0 : Fin 1) w) c).val
        ∧ ((ix3 a b j) (c.cast h.1.symm)).val * (![1, 1, 1] : Fin 3 → Nat) c + ((ix3 (0 : Fin 1) (0 : Fin 1) w) c).val - (![0, 0, M] : Fin 3 → Nat) c < (![A, B, N] : Fin 3 → Nat) c := by
      intro c
      match c with
      | ⟨0, _⟩ => exact ⟨Nat.zero_le _, by show a.val * 1 + 0 - 0 < A; have := a.isLt; omega⟩
      | ⟨1, _⟩ => exact ⟨Nat.zero_le _, by show b.val * 1 + 0 - 0 < B; have := b.isLt; omega⟩
      | ⟨2, _⟩ => exact ⟨by show M ≤ j.val * 1 + w.val; omega, by show j.val * 1 + w.val - M < N; omega⟩
    rw [dif_pos hw]
    refine (dif_pos hin).trans (congrArg x (funext fun c => Fin.ext ?_))
    match c with
    | ⟨0, _⟩ => show a.val * 1 + 0 - 0 = a.val; omega
    | ⟨1, _⟩ => show b.val * 1 + 0 - 0 = b.val; omega
    | ⟨2, _⟩ => show j.val * 1 + w.val - M = j.val + w.val - (N - 1); omega
  · rw [dif_neg hw]
    refine dif_neg (fun hin => hw ?_)
    have h2 : M ≤ j.val * 1 + w.val := (hin (2 : Fin 3)).1
    omega

/-- The host's sum over the first two axes of a rank-3 array. -/
theorem reduce_r3_a01 {n0 n1 n2 : Nat} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ k0 : Fin n0, ∑ k1 : Fin n1, v (ix3 k0 k1 j) := by
  refine congrArg (init + ·) ?_
  refine (Finset.sum_filter_eq_sum_of_fiber _ (fun k : Fin n0 × Fin n1 => ix3 k.1 k.2 j)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e (0 : Fin 1))).symm
    · rintro ⟨k, rfl⟩
      funext b
      apply Fin.ext
      match b with
      | ⟨0, _⟩ => rfl
  · simp only [Fintype.sum_prod_type]

end Cert.Window
-- ==== Proof.Finite.lean ====
/- Hand-written, untrusted: extended reals that are real numbers. Sums, products, quotients and exponentials of reals stay
   real, so an identity between them is one between real numbers. -/
module

public import Idealize.ShloMosaic.Lib.Pointwise
public import Idealize.ShloMosaic.Lib.ReduceAll
public import Idealize.ShloMosaic.PureOps.Ideal.Laws

@[expose] public section

namespace Cert.Finite

open Idealize.ShloMosaic

/-- A value that is neither infinity is a real number. -/
theorem real_of {x : EReal} (h1 : x ≠ ⊤) (h2 : x ≠ ⊥) : ∃ r : ℝ, x = (r : EReal) :=
  ⟨x.toReal, (EReal.coe_toReal h1 h2).symm⟩

/-- Both sides of a conjunction of bits that is true. -/
theorem and_one {s : Shape} {x y : IVec s 1} {i : s.Idx} (h : andi x y i = 1#1) : x i = 1#1 ∧ y i = 1#1 := by
  have h : x i &&& y i = 1#1 := h
  revert h
  generalize x i = a
  generalize y i = b
  revert a b
  decide

/-- A value whose absolute value is below `+∞`, as a host program tests it, is a real number. -/
theorem real_of_cmp {x : Ideal .f32} (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := by
    by_contra hn
    simp [Ideal.cmp, hn] at h
  rw [max_lt_iff] at hlt
  refine real_of hlt.1.ne (fun hb => ?_)
  have := hlt.2
  rw [hb] at this
  simp at this

/-- The real sum, cast. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (a : ℝ) : (if p then (a : EReal) else 0) = ((if p then a else 0 : ℝ) : EReal) := by
  split <;> simp

/-- The exponential of a real. -/
theorem exp_coe (r : ℝ) : Ideal.exp (r : EReal) = ((Real.exp r : ℝ) : EReal) := rfl

theorem exp_bot : Ideal.exp ⊥ = 0 := rfl
theorem exp_top : Ideal.exp ⊤ = ⊤ := rfl
theorem log_top : Ideal.log ⊤ = ⊤ := rfl

theorem div_one (x : EReal) : Ideal.div x 1 = x := by
  unfold Ideal.div
  rw [if_neg one_ne_zero, ← EReal.coe_one, ← EReal.coe_inv, inv_one, EReal.coe_one, mul_one]

theorem div_top (x : EReal) : Ideal.div x ⊤ = 0 := by
  unfold Ideal.div
  rw [if_neg (by simp), EReal.inv_top, mul_zero]

/-- The logarithm of a positive real. -/
theorem log_coe {r : ℝ} (h : 0 < r) : Ideal.log (r : EReal) = ((Real.log r : ℝ) : EReal) := if_neg (not_le.2 h)

theorem log1p_zero : Ideal.log1p 0 = 0 := by
  unfold Ideal.log1p
  rw [add_zero]
  exact (log_coe one_pos).trans (by simp)

/-- The logarithm of one plus a real above minus one. -/
theorem log1p_coe {r : ℝ} (h : 0 < 1 + r) : Ideal.log1p (r : EReal) = ((Real.log (1 + r) : ℝ) : EReal) := by
  unfold Ideal.log1p
  rw [← EReal.coe_one, ← EReal.coe_add, log_coe h]

/-- The quotient of reals, the divisor not zero. -/
theorem div_coe (a : ℝ) {b : ℝ} (h : b ≠ 0) : Ideal.div (a : EReal) (b : EReal) = ((a / b : ℝ) : EReal) := by
  unfold Ideal.div
  rw [if_neg (fun e => h (EReal.coe_eq_zero.1 e)), ← EReal.coe_inv, ← EReal.coe_mul, div_eq_mul_inv]

/-- The larger of two reals. -/
theorem max_coe (a b : ℝ) : max (a : EReal) (b : EReal) = ((max a b : ℝ) : EReal) :=
  (EReal.coe_strictMono.monotone.map_max).symm

end Cert.Finite
-- ==== Proof.CumReference.lean ====
/- Hand-written, untrusted: what the reference of the forget gate's running sum computes. Its first result at sequence `i`,
   head `h` and time `t` is the sum of the incoming gradient from `t` on, times `1 / (1 + exp z)` with `z` the gate's logit;
   its second is that summed over sequences and times. The factor is the derivative of `log_sigmoid`, which jax writes with
   the exponential of `-z - softplus(-z)` and guards for infinities. -/
module

public import proofs.«01_k».proof.Proof.Gen.ReferenceIdeal.Read
public import proofs.«01_k».proof.Proof.Window
public import proofs.«01_k».proof.Proof.Finite
public import Idealize.ShloMosaic.Lib.Pipeline.ValueKit

@[expose] public section

set_option maxRecDepth 16384

noncomputable section

namespace Cert.Cum

open Idealize.ShloMosaic Cert.Finite

/-- `softplus` as it is written for stability. -/
def softplus (y : EReal) : EReal := max y 0 + Ideal.log1p (Ideal.exp (-(max y (-y))))

/-- The derivative of `softplus` at `y`, as jax writes it. -/
def slope (y : EReal) : EReal :=
  Ideal.exp ((if y = ⊤ then 0 else y) - (if softplus y = ⊤ then 0 else softplus y))

/-- The logistic function of `-z`, as the kernel writes it. -/
def gate (z : EReal) : EReal := Ideal.div 1 (1 + Ideal.exp z)

/-- The derivative of `softplus` is the logistic function, at every extended real. -/
theorem slope_neg (z : EReal) : slope (-z) = gate z := by
  induction z using EReal.rec with
  | bot =>
    have h : softplus (-⊥) = ⊤ := by
      unfold softplus
      rw [EReal.neg_bot, max_eq_left le_top, max_eq_left le_top, EReal.neg_top, exp_bot, log1p_zero, add_zero]
    unfold slope gate
    rw [h, EReal.neg_bot, if_pos rfl, sub_zero, exp_bot, add_zero, div_one, ← EReal.coe_zero, exp_coe, Real.exp_zero, EReal.coe_one]
  | top =>
    have h : softplus (-⊤) = 0 := by
      unfold softplus
      rw [EReal.neg_top, EReal.neg_bot, max_eq_right bot_le, max_eq_right bot_le, EReal.neg_top, exp_bot, log1p_zero, add_zero]
    unfold slope gate
    rw [h, EReal.neg_top, if_neg (by simp), if_neg (by simp), sub_zero, exp_bot, exp_top, EReal.add_top_of_ne_bot (by decide), div_top]
  | coe r =>
    have hp : 0 < 1 + Real.exp (-|r|) := by positivity
    have h : softplus (-(r : EReal)) = ((Real.log (1 + Real.exp (-r)) : ℝ) : EReal) := by
      unfold softplus
      rw [neg_neg, ← EReal.coe_neg, max_coe, ← EReal.coe_zero, max_coe, ← EReal.coe_neg, exp_coe, log1p_coe (by positivity), ← EReal.coe_add]
      congr 1
      rcases le_total 0 r with h0 | h0
      · rw [max_eq_right (by linarith), max_eq_right (by linarith), zero_add]
      · rw [max_eq_left (by linarith), max_eq_left (by linarith), neg_neg]
        have e : 1 + Real.exp (-r) = Real.exp (-r) * (1 + Real.exp r) := by
          rw [mul_add, ← Real.exp_add]; simp; ring
        rw [e, Real.log_mul (by positivity) (by positivity), Real.log_exp]
    unfold slope gate
    rw [h, if_neg (EReal.coe_ne_top _), if_neg (by rw [← EReal.coe_neg]; exact EReal.coe_ne_top _), ← EReal.coe_neg, ← EReal.coe_sub, exp_coe, exp_coe,
      ← EReal.coe_one, ← EReal.coe_add, div_coe _ (by positivity)]
    congr 1
    rw [Real.exp_sub, Real.exp_log (by positivity)]
    rw [div_eq_div_iff (by positivity) (by positivity), mul_add, ← Real.exp_add]
    simp; ring

/-- A value never differs from itself. -/
theorem select_une (a p q : Ideal .f32) : Scalar.select (FloatOps.cmpf .une a a) p q = q := by
  show Scalar.select (Ideal.cmp .une a a) p q = q
  simp [Ideal.cmp, Scalar.select]

/-- The guard against `+∞`. -/
theorem select_top (a p q : Ideal .f32) :
    Scalar.select (FloatOps.cmpf .oeq a (FloatOps.ofBits (F := Ideal) .f32 0x7F800000#32)) p q = if (a : EReal) = ⊤ then p else q := by
  have htop : Ideal.ofBits .f32 0x7F800000#32 = ⊤ := by simp [Ideal.ofBits, Ideal.ieee]
  show Scalar.select (Ideal.cmp .oeq a (Ideal.ofBits .f32 0x7F800000#32)) p q = _
  rw [htop]
  by_cases h : (a : EReal) = ⊤ <;> simp [Ideal.cmp, Scalar.select, h]

open Cert.ReferenceIdeal Cert.ReferenceIdeal.Read

/-- The factor that multiplies the gradient of `log_sigmoid`. -/
theorem factor_read (x0 : S4x2048x32.Idx → EReal) (x1 : S32.Idx → EReal) (i : Fin 4) (t : Fin 2048) (h : Fin 32) :
    val_main_v3_1 (F := Ideal) x0 x1 (ix3 i t h) = gate (x0 (ix3 i t h) + x1 (ix1 h)) := by
  simp only [val_main_v3_1_apply, val_main_call0_call0_v21_apply, val_main_call0_call0_v20_apply, val_main_call0_call0_v16_apply,
    val_main_call0_call0_v14_apply, val_main_call0_call0_v18_apply, val_main_call0_v1_0_apply, val_main_call0_call0_v4_apply,
    val_main_call0_call0_v6_apply, val_main_call0_call0_v11_apply, val_main_call0_call0_v1_apply, val_main_call0_call0_v10_apply,
    val_main_call0_call0_v9_apply, val_main_call0_call0_v8_apply, val_main_call0_call0_v7_apply, val_main_call0_call0_v3_apply,
    val_main_call0_v0_apply, val_main_v2_apply, val_main_v1_apply, val_main_v0_apply,
    val_main_call0_call0_v0_apply, val_main_call0_call0_v2_apply, val_main_call0_call0_v5_apply, val_main_call0_call0_cst_apply,
    val_main_call0_call0_v13_apply, val_main_call0_call0_v15_apply, val_main_call0_call0_v17_apply, val_main_call0_call0_v19_apply,
    val_main_call0_call0_cst_0_apply, val_main_call0_call0_cst_1_apply, val_main_call0_call0_cst_2_apply, val_main_call0_call0_cst_3_apply,
    select_une, select_top]
  have e : idx_main_v0 (idx_main_v1 (ix3 i t h)) = ix1 h := by funext a; match a with | ⟨0, _⟩ => rfl
  rw [e, ← slope_neg]
  have h0 : FloatOps.ofBits (F := Ideal) .f32 0x00000000#32 = (0 : EReal) := Ideal.ofBits_zero_f32
  have hs : ∀ y : EReal, FloatOps.subf (F := Ideal) (φ := .f32) y (FloatOps.ofBits (F := Ideal) .f32 0x00000000#32) = y := fun y => by
    rw [h0]; exact sub_zero y
  simp only [hs]
  rw [h0]
  rfl

/-- The first result. -/
theorem first (x0 : S4x2048x32.Idx → EReal) (x1 : S32.Idx → EReal) (x2 : S4x32x2048.Idx → EReal) (i : Fin 4) (h : Fin 32) (t : Fin 2048) :
    val_main_v12 (F := Ideal) x0 x1 x2 (ix3 i h t)
      = -(-(∑ k : Fin 2048, if t ≤ k then x2 (ix3 i h k) else 0) * gate (x0 (ix3 i t h) + x1 (ix1 h))) := by
  have e12 : idx_main_v12 (ix3 i h t) = ix3 i t h := by funext a; match a with | ⟨0, _⟩ => rfl | ⟨1, _⟩ => rfl | ⟨2, _⟩ => rfl
  have e7 : idx_main_v7 (ix3 i t h) = ix3 i h t := by funext a; match a with | ⟨0, _⟩ => rfl | ⟨1, _⟩ => rfl | ⟨2, _⟩ => rfl
  rw [val_main_v12_apply, e12, val_main_v8_apply, val_main_call3_v1_apply, val_main_call3_v0_apply, val_main_v7_apply, e7, factor_read]
  have hv : val_main_v6 (F := Ideal) x2 (ix3 i h t) = ∑ k : Fin 2048, if t ≤ k then x2 (ix3 i h k) else 0 := by
    have h0 : val_main_call2_call0_v0 (F := Ideal) (Shape.Idx.first Cert.ReferenceIdeal.Gen.facts.h_S_) = (0 : EReal) := by
      rw [val_main_call2_call0_v0_apply, val_main_call2_call0_cst_apply]; exact Ideal.ofBits_zero_f32
    unfold val_main_v6
    exact Window.reduceWindowAdd_rev3 (M := 2047) rfl x2 _ _ _ h0 i h t
  rw [hv]
  rfl

/-- The second result: the first summed over sequences and times. -/
theorem second (x0 : S4x2048x32.Idx → EReal) (x1 : S32.Idx → EReal) (x2 : S4x32x2048.Idx → EReal) (h : Fin 32) :
    val_main_v13 (F := Ideal) x0 x1 x2 (ix2 h 0) = ∑ i : Fin 4, ∑ t : Fin 2048, val_main_v12 (F := Ideal) x0 x1 x2 (ix3 i h t) := by
  have e13 : idx_main_v13 (ix2 h 0) = ix1 h := by
    funext a; match a with | ⟨0, _⟩ => exact Fin.ext (show h.val * 1 + 0 = h.val by omega)
  have e10 : idx_main_v10 (ix3 0 0 h) = ix1 h := by
    funext a; match a with | ⟨0, _⟩ => exact Fin.ext (by simp)
  have z0 : val_main_cst (F := Ideal) (Shape.Idx.first Cert.ReferenceIdeal.Gen.facts.h_S_) = (0 : EReal) := by
    rw [val_main_cst_apply]; exact Ideal.ofBits_zero_f32
  have z1 : val_main_cst_0 (F := Ideal) (Shape.Idx.first Cert.ReferenceIdeal.Gen.facts.h_S_) = (0 : EReal) := by
    rw [val_main_cst_0_apply]; exact Ideal.ofBits_zero_f32
  rw [val_main_v13_apply, e13]
  refine (Window.reduce_r3_a01 _ (val_main_v10 (F := Ideal) x0 x1 x2) _ h).trans ?_
  rw [z1, zero_add, Fin.sum_univ_one, Fin.sum_univ_one, val_main_v10_apply, e10]
  refine (Window.reduce_r3_a01 _ (val_main_v8 (F := Ideal) x0 x1 x2) _ h).trans ?_
  rw [z0, zero_add]
  refine Finset.sum_congr rfl fun i _ => Finset.sum_congr rfl fun t _ => ?_
  have e12 : idx_main_v12 (ix3 i h t) = ix3 i t h := by funext a; match a with | ⟨0, _⟩ => rfl | ⟨1, _⟩ => rfl | ⟨2, _⟩ => rfl
  rw [val_main_v12_apply, e12]

end Cert.Cum
end
-- ==== Proof.CumKernel.lean ====
/- Hand-written, untrusted: what the kernel of the forget gate's running sum computes, where the incoming gradient is real.
   One grid point holds one sequence: its block of the first result is the block of the gradient times a lower triangular
   matrix of ones, times `1 / (1 + exp z)`; the second result is added up from point to point. The kernel splits the
   gradient into three parts before the product; over the reals the first part is the whole and the others are zero. -/
module

public import proofs.«01_k».proof.Proof.Gen.KernelIdeal.Value
public import proofs.«01_k».proof.Proof.CumReference
public import Idealize.ShloMosaic.Lib.Pipeline.ValueKit
public import Idealize.ShloMosaic.Lib.WordCmp

@[expose] public section

set_option maxRecDepth 16384

noncomputable section

namespace Cert.Cum

open Idealize.ShloMosaic Cert.Finite Idealize.ShloMosaic.TcCoe Cert.KernelIdeal Cert.KernelIdeal.Gen

/-- An entry of the triangular matrix of ones. -/
theorem mask_eq (x t : Fin 2048) :
    (FloatOps.sitofp (F := Ideal) .f32 (BitVec.setWidth 32 (IntOp.cmpi .sge (BitVec.ofNat 32 x.val) (BitVec.ofNat 32 t.val))) : EReal)
      = if t ≤ x then 1 else 0 := by
  rw [WordCmp.cmpi_sge_ofNat (by have := x.isLt; omega) (by have := t.isLt; omega)]
  by_cases h : t ≤ x
  · rw [if_pos h, decide_eq_true (Fin.le_def.1 h)]
    show (((BitVec.setWidth 32 (BitVec.ofBool true)).toInt : ℝ) : EReal) = 1
    rw [show (BitVec.setWidth 32 (BitVec.ofBool true)).toInt = 1 by decide]; simp
  · rw [if_neg h, decide_eq_false (fun q => h (Fin.le_def.2 q))]
    show (((BitVec.setWidth 32 (BitVec.ofBool false)).toInt : ℝ) : EReal) = 0
    rw [show (BitVec.setWidth 32 (BitVec.ofBool false)).toInt = 0 by decide]; simp

/-- One entry of a block of the first result. -/
theorem pay3_apply (d f : Vec Ideal S1x32x2048 .f32) (b : Vec Ideal S32x1 .f32) (h : Fin 32) (t : Fin 2048)
    (hd : ∀ k : Fin 2048, ∃ r : ℝ, (d (ix3 0 h k) : EReal) = r) :
    k0_pay3 (F := Ideal) d f b (ix2 h t)
      = (∑ k : Fin 2048, if t ≤ k then (d (ix3 0 h k) : EReal) else 0) * gate (f (ix3 0 h t) + b (ix2 h 0)) := by
  have e0 : ∀ k : Fin 2048, (d (ix3 0 h k) : EReal) - d (ix3 0 h k) = 0 := fun k => by
    obtain ⟨r, hr⟩ := hd k
    rw [hr, ← EReal.coe_sub, sub_self, EReal.coe_zero]
  unfold k0_pay3
  pointwise
  simp only [mask_eq, e0, sub_zero, zero_mul, Finset.sum_const_zero, add_zero]
  rw [zero_sub, zero_sub, neg_neg]
  refine congrArg₂ (· * ·) (Finset.sum_congr rfl fun k _ => ?_) rfl
  split <;> simp

theorem pay4_apply (d f : Vec Ideal S1x32x2048 .f32) (b : Vec Ideal S32x1 .f32) (h : Fin 32) (t : Fin 2048) :
    k0_pay4 (F := Ideal) d f b (ix3 0 h t) = k0_pay3 (F := Ideal) d f b (ix2 h t) := by
  unfold k0_pay4
  pointwise

theorem pay1_apply (d : FVec Ideal S32x2048 .f32) (h : Fin 32) : k0_pay1 (F := Ideal) d (ix2 h 0) = ∑ t : Fin 2048, (d (ix2 h t) : EReal) := by
  unfold k0_pay1
  pointwise

theorem pay2_apply (d : FVec Ideal S32x2048 .f32) (p : Vec Ideal S32x1 .f32) (h : Fin 32) :
    k0_pay2 (F := Ideal) d p (ix2 h 0) = (p (ix2 h 0) : EReal) + ∑ t : Fin 2048, (d (ix2 h t) : EReal) := by
  unfold k0_pay2
  pointwise
  rw [pay1_apply]

variable (m : (ℓ : Loc nD τ sig) → Buf (Elt Ideal) ℓ)

/-- The arguments' contents. -/
abbrev arg0 (c : Dev nD) : S4x2048x32.Idx → EReal := m ((c : Thread nD τ).loc main_arg0)
abbrev arg1 (c : Dev nD) : S32.Idx → EReal := m ((c : Thread nD τ).loc main_arg1)
abbrev arg2 (c : Dev nD) : S4x32x2048.Idx → EReal := m ((c : Thread nD τ).loc main_arg2)

/-- The transposed logits, as the region finds them. -/
theorem V_main_v0 (c : Dev nD) (i : Fin 4) (h : Fin 32) (t : Fin 2048) : V m c main_v0 (ix3 i h t) = arg0 m c (ix3 i t h) := by
  have e : V m c main_v0 = transpose S4x32x2048 [0, 2, 1] (arg0 m c) Gen.facts.transposes_S4x2048x32_S4x32x2048_0_2_1 := by
    unfold_abbrev_sides
    after_results <;> rfl
  rw [e]
  pointwise

/-- The bias as a column, as the region finds it. -/
theorem V_main_v1 (c : Dev nD) (h : Fin 32) : V m c main_v1 (ix2 h 0) = arg1 m c (ix1 h) := by
  have e : V m c main_v1 = shapeCast S32x1 (arg1 m c) Gen.facts.shapeCasts_S32_S32x1 := by
    unfold_abbrev_sides
    after_results <;> rfl
  rw [e]
  pointwise

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0, 0] := (by decide +kernel : ∀ t : Fin grid0.N, win0_3.index t = ![t.val, 0, 0])
theorem idx4 : ∀ t : Fin cfg0.N, win0_4.index t = ![0, 0] := (by decide +kernel : ∀ t : Fin grid0.N, win0_4.index t = ![0, 0])

/-- The sequence that grid point `t` works on. -/
def seqOf (t : Fin cfg0.N) : Fin 4 := ⟨t.val, lt_of_lt_of_eq t.isLt N_0⟩

theorem iblk0_apply (c : Dev nD) (t : Fin cfg0.N) (h : Fin 32) (k : Fin 2048) : iblk m c 0 t (ix3 0 h k) = arg2 m c (ix3 (seqOf t) h k) := by
  blk_simp [iblk]
  show V m c main_arg2 _ = _
  rw [V_main_arg2]
  refine congrArg (arg2 m c) ?_
  blk_ext [idx0, seqOf]

theorem iblk1_apply (c : Dev nD) (t : Fin cfg0.N) (h : Fin 32) (k : Fin 2048) : iblk m c 1 t (ix3 0 h k) = arg0 m c (ix3 (seqOf t) k h) := by
  rw [← V_main_v0]
  blk_simp [iblk]
  refine congrArg (V m c main_v0) ?_
  blk_ext [idx1, seqOf]

theorem iblk2_apply (c : Dev nD) (t : Fin cfg0.N) (h : Fin 32) : iblk m c 2 t (ix2 h 0) = arg1 m c (ix1 h) := by
  rw [← V_main_v1]
  blk_simp [iblk]
  refine congrArg (V m c main_v1) ?_
  blk_ext [idx2]

/-- One entry of the gradient of the logits, as the kernel computes it. -/
def grad (c : Dev nD) (i : Fin 4) (h : Fin 32) (t : Fin 2048) : EReal :=
  (∑ k : Fin 2048, if t ≤ k then arg2 m c (ix3 i h k) else 0) * gate (arg0 m c (ix3 i t h) + arg1 m c (ix1 h))

variable (hd : ∀ (c : Dev nD) (x : S4x32x2048.Idx), ∃ r : ℝ, arg2 m c x = r)
include hd

theorem point3 (c : Dev nD) (t : Fin cfg0.N) (h : Fin 32) (k : Fin 2048) :
    k0_pay3 (F := Ideal) (iblk m c 0 t) (iblk m c 1 t) (iblk m c 2 t) (ix2 h k) = grad m c (seqOf t) h k := by
  rw [pay3_apply _ _ _ h k (fun k => by rw [iblk0_apply]; exact hd c _), iblk1_apply, iblk2_apply]
  simp only [iblk0_apply]
  rfl

/-- The first result. -/
theorem result3 (c : Dev nD) : (dats m 0 c).arrAt 3 cfg0.N = fun x : S4x32x2048.Idx => (grad m c (x 0) (x 1) (x 2) : EReal) := by
  refine (dats m 0 c).arrAt_eq_of_covers 3 _ (by decide +kernel) fun t hf y => ?_
  have hN : t.val < 4 := lt_of_lt_of_eq t.isLt N_0
  obtain ⟨a, b, rfl⟩ : ∃ (a : Fin 32) (b : Fin 2048), y = ix3 (0 : Fin 1) a b :=
    ⟨y 1, y 2, by rw [← show y 0 = (0 : Fin 1) from Subsingleton.elim (α := Fin 1) _ _]; exact (ix3_eta y).symm⟩
  have fin : k0_pay4 (F := Ideal) (iblk m c 0 t) (iblk m c 1 t) (iblk m c 2 t) (ix3 0 a b) = grad m c (seqOf t) a b := by
    rw [pay4_apply, point3 m hd]
  have eg : (((cfg0.win 3).blk t).view.emb (ix3 (0 : Fin 1) a b)) = ix3 (seqOf t) a b := by
    blk_ext [idx3, seqOf]
  by_cases h0 : t.val % 4 = 0
  · have h1 : ¬ 1 ≤ t.val := by omega
    blk_simp
    rw [after0_3, outsAt0_A m c t h0 h1]
    dsimp only
    frame_out
    rw [eg]
    exact fin
  · have h1 : 1 ≤ t.val := by omega
    blk_simp
    rw [after0_3, outsAt0_B m c t h0 h1]
    dsimp only
    frame_out
    rw [eg]
    exact fin

/-- The sum of one sequence's part. -/
def part (c : Dev nD) (h : Fin 32) (n : ℕ) : EReal := if hn : n < 4 then ∑ t : Fin 2048, grad m c ⟨n, hn⟩ h t else 0

omit hd in
theorem part_seq (c : Dev nD) (h : Fin 32) (t : Fin cfg0.N) : part m c h t.val = ∑ k : Fin 2048, grad m c (seqOf t) h k := by
  rw [part, dif_pos (lt_of_lt_of_eq t.isLt N_0)]
  rfl

/-- What the second result's buffer holds after point `n`. -/
theorem sums (c : Dev nD) (h : Fin 32) : ∀ (n : ℕ) (hn : n < cfg0.N),
    ((outsAt0 m c n hn).2 (ix2 h 0) : EReal) = ∑ i ∈ Finset.range (n + 1), part m c h i
  | 0, hn => by
    rw [outsAt0_A m c ⟨0, hn⟩ (by rfl) (by simp)]
    dsimp only
    frame_out
    refine (pay1_apply _ h).trans ?_
    simp only [point3 m hd]
    rw [Finset.sum_range_one, ← part_seq m c h ⟨0, hn⟩]
  | n + 1, hn => by
    have hN : n + 1 < 4 := lt_of_lt_of_eq hn N_0
    rw [outsAt0_B m c ⟨n + 1, hn⟩ (by show ¬ (n + 1) % 4 = 0; omega) (by show 1 ≤ n + 1; omega)]
    dsimp only
    frame_out
    refine (pay2_apply _ _ h).trans ?_
    simp only [point3 m hd]
    rw [Finset.sum_range_succ, ← part_seq m c h ⟨n + 1, hn⟩, ← sums c h n (by omega)]
    rfl

/-- The last grid point. -/
def last : Fin cfg0.N := ⟨3, lt_of_lt_of_eq (by decide) N_0.symm⟩

/-- The second result. -/
theorem result4 (c : Dev nD) : (dats m 0 c).arrAt 4 cfg0.N = fun x : S32x1.Idx => (∑ i : Fin 4, ∑ t : Fin 2048, grad m c i (x 0) t : EReal) := by
  refine (dats m 0 c).arrAt_eq_of_after_last 4 last (by decide +kernel) _ fun y => ?_
  obtain ⟨a, rfl⟩ : ∃ a : Fin 32, y = ix2 a (0 : Fin 1) :=
    ⟨y 0, by rw [← show y 1 = (0 : Fin 1) from Subsingleton.elim (α := Fin 1) _ _]; exact (ix2_eta y).symm⟩
  blk_simp
  rw [after0_4]
  refine (sums m hd c a 3 last.isLt).trans ?_
  rw [Finset.sum_range fun i => part m c a i]
  refine Finset.sum_congr rfl fun i _ => ?_
  rw [part, dif_pos i.isLt]
  rfl

end Cert.Cum
end
-- ==== Proof.CumProof.lean ====
/- Hand-written, untrusted: the claims about the gradient of the forget gate's running sum. -/
module

public import proofs.«01_k».proof.Defs
public import proofs.«01_k».proof.Proof.Gen.Kernel.Frame
public import proofs.«01_k».proof.Proof.CumKernel
public import Idealize.ShloMosaic.Adequacy

@[expose] public section

set_option maxRecDepth 16384

noncomputable section

namespace Cert.Cum

open Idealize.ShloMosaic Idealize.SL.Sem Idealize.ShloMosaic.TcCoe Cert.KernelIdeal Cert.KernelIdeal.Gen

instance factsPre : Cert.Pre_finite_cum.Facts where
  bcast_S_S4x32x2048 := by decide
  reducesTo_S4x32x2048_S_d0_1_2 := by decide
  h_S_ := by decide

instance : Subsingleton Cert.Pre_finite_cum.S_.Idx := ⟨fun a b => funext fun i => i.elim0⟩

/-- The incoming gradient is real. -/
theorem real_arg2 (m : (ℓ : Loc nD τ sig) → Buf (Elt Ideal) ℓ) (hp : Cert.Pre_KernelIdeal_finite_cum m) (c : Dev nD) (x : S4x32x2048.Idx) :
    ∃ r : ℝ, arg2 m c x = r := by
  have h := congrFun (hp c) (fun i => i.elim0)
  unfold Cert.Pre_finite_cum.fn at h
  dsimp only at h
  exact Cert.Finite.real_of_cmp (Host.reduce_andi_all _ _ _ _ _ h x)

/-- The reference's frame. -/
theorem frame_reference : Cert.quiescent_ReferenceIdeal := fun m ρ _ =>
  (θ_run Cert.ReferenceIdeal.defs _ _).mono (fun r h => ⟨fun c => (h c).2.2, funext fun s => nomatch s.2⟩) (Cert.ReferenceIdeal.Value.run (F := Ideal) m ρ)

theorem frame_kernel : Cert.quiescent_Kernel := fun m ρ _ => Cert.Kernel.Gen.frame m ρ
theorem frame_ideal : Cert.quiescent_KernelIdeal := fun m ρ _ => Cert.KernelIdeal.Gen.frame m ρ

/-- Kernel and reference compute the same arrays. -/
theorem equal : Cert.algebraic_KernelIdeal_ReferenceIdeal_pre_finite_cum := by
  intro m g m' g' hp hargs
  have hd : ∀ (c : Dev nD) (x : S4x32x2048.Idx), ∃ r : ℝ, arg2 m c x = r := real_arg2 m hp
  refine ⟨fun c => (dats m 0 c).arrAt 3 cfg0.N, fun c => (dats m 0 c).arrAt 4 cfg0.N, Cert.KernelIdeal.Value.run_blocks m g,
    (θ_run Cert.ReferenceIdeal.defs _ _).mono (fun r h c => ?_) (Cert.ReferenceIdeal.Value.run (F := Ideal) m' g')⟩
  obtain ⟨a0, a1, a2⟩ := hargs c
  have e3 : ∀ (i : Fin 4) (h : Fin 32) (t : Fin 2048),
      Cert.ReferenceIdeal.Read.val_main_v12 (F := Ideal) (arg0 m c) (arg1 m c) (arg2 m c) (ix3 i h t) = grad m c i h t := fun i h t => by
    refine (first _ _ _ i h t).trans ?_
    rw [← EReal.neg_mul, neg_neg]
    rfl
  refine ⟨(h c).1.trans ?_, (h c).2.1.trans ?_, (h c).2.2⟩
  · rw [Cert.ReferenceIdeal.Read.val_main_v12_eq, a0, a1, a2]
    refine Eq.trans ?_ (result3 m hd c).symm
    funext x
    obtain ⟨i, h, t, rfl⟩ : ∃ (i : Fin 4) (h : Fin 32) (t : Fin 2048), x = ix3 i h t := ⟨x 0, x 1, x 2, (ix3_eta x).symm⟩
    exact e3 i h t
  · rw [Cert.ReferenceIdeal.Read.val_main_v13_eq, a0, a1, a2]
    refine Eq.trans ?_ (result4 m hd c).symm
    funext x
    obtain ⟨h, rfl⟩ : ∃ h : Fin 32, x = ix2 h (0 : Fin 1) :=
      ⟨x 0, by rw [← show x 1 = (0 : Fin 1) from Subsingleton.elim (α := Fin 1) _ _]; exact (ix2_eta x).symm⟩
    refine (second _ _ _ h).trans (Finset.sum_congr rfl fun i _ => Finset.sum_congr rfl fun t _ => e3 i h t)

end Cert.Cum
end
-- ==== Proof.Rms.lean ====
/- Hand-written, untrusted: the gradient through a root mean square over a row of 1024 numbers. The forward pass divides a
   row `x` by the root of the mean of its squares plus a small number; for an incoming gradient `u` of the divided row, the
   derivative written with the divided row is the derivative that the chain rule gives, at all extended reals. -/
module

public import proofs.«01_k».proof.Proof.Finite

@[expose] public section

noncomputable section

namespace Cert.Rms

open Idealize.ShloMosaic Cert.Finite

/-- The length of a row, the small number, and the factor of the derivative of the inverse root, by their float words. -/
def len : EReal := Ideal.ofBits .f32 0x44800000#32
def eps : EReal := Ideal.ofBits .f32 0x358637BD#32
def mhalf : EReal := Ideal.ofBits .f32 0xBF000000#32

theorem len_eq : len = ((1024 : ℝ) : EReal) := by
  unfold len
  simp [Ideal.ofBits, Ideal.ieee]
  rw [← EReal.coe_mul]
  norm_num

theorem mhalf_eq : mhalf = ((-(1 / 2) : ℝ) : EReal) := by
  unfold mhalf
  simp [Ideal.ofBits, Ideal.ieee]
  rw [← EReal.coe_mul]
  norm_num

theorem eps_eq : ∃ e : ℝ, 0 < e ∧ eps = (e : EReal) := by
  unfold eps
  simp [Ideal.ofBits, Ideal.ieee]
  refine ⟨_, ?_, rfl⟩
  norm_num

/-- Division by the length of a row. -/
theorem div_len (x : EReal) : Ideal.div x len = x * ((1 / 1024 : ℝ) : EReal) := by
  unfold Ideal.div
  rw [len_eq, if_neg (fun e => by rw [EReal.coe_eq_zero] at e; norm_num at e), ← EReal.coe_inv]
  norm_num

/-- The mean of the squares plus the small number. -/
def mean (x : Fin 1024 → EReal) : EReal := Ideal.div (∑ k, x k * x k) len + eps

/-- The factor that a row is multiplied by. -/
def rstd (x : Fin 1024 → EReal) : EReal := Ideal.rsqrt (mean x)

theorem mul_self_nonneg (x : EReal) : 0 ≤ x * x := by
  induction x using EReal.rec with
  | bot => simp
  | top => simp
  | coe r => rw [← EReal.coe_mul]; exact EReal.coe_nonneg.2 (_root_.mul_self_nonneg r)

/-- The mean is infinite or a positive real. -/
theorem mean_cases (x : Fin 1024 → EReal) : mean x = ⊤ ∨ ∃ v : ℝ, 0 < v ∧ mean x = (v : EReal) := by
  obtain ⟨e, he, hE⟩ := eps_eq
  have h0 : 0 ≤ ∑ k, x k * x k := Finset.sum_nonneg fun k _ => mul_self_nonneg (x k)
  unfold mean
  rw [div_len, hE]
  generalize ∑ k, x k * x k = s at h0 ⊢
  induction s using EReal.rec with
  | bot => simp at h0
  | top => left; rw [EReal.top_mul_coe_of_pos (by norm_num), EReal.top_add_coe]
  | coe r =>
    right
    have hr := EReal.coe_nonneg.1 h0
    exact ⟨r * (1 / 1024) + e, by positivity, by rw [← EReal.coe_mul, ← EReal.coe_add]⟩

/-- A sum times a positive real. -/
theorem sum_mul_coe {ι : Type*} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- Twice a product with a real. -/
theorem mul_add_mul (y : EReal) (c : ℝ) : y * (c : EReal) + y * (c : EReal) = y * ((2 * c : ℝ) : EReal) := by
  induction y using EReal.rec with
  | coe r => rw [← EReal.coe_mul, ← EReal.coe_add, ← EReal.coe_mul]; congr 1; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The gradient of a row as the kernels write it, with the divided row. -/
def back (x u : Fin 1024 → EReal) (j : Fin 1024) : EReal :=
  rstd x * (u j - x j * rstd x * Ideal.div (∑ k, u k * (x k * rstd x)) len)

/-- The gradient of the row's mean of squares, as the chain rule gives it. -/
def inner (x u : Fin 1024 → EReal) : EReal :=
  Ideal.div ((∑ k, x k * u k) * (mhalf * Ideal.div (rstd x) (mean x))) len

/-- Both forms of the gradient are equal. -/
theorem back_eq (x u : Fin 1024 → EReal) (j : Fin 1024) :
    u j * rstd x + x j * inner x u + inner x u * x j = back x u j := by
  have hc : inner x u * x j = x j * inner x u := mul_comm _ _
  rw [hc]
  unfold back inner
  rw [div_len, div_len]
  rcases mean_cases x with h | ⟨v, hv, h⟩
  · have hr : rstd x = 0 := by unfold rstd; rw [h]; rfl
    rw [hr, h, div_top]
    simp
  · have hs : (0 : ℝ) < (Real.sqrt v)⁻¹ := inv_pos.2 (Real.sqrt_pos.2 hv)
    have hr : rstd x = (((Real.sqrt v)⁻¹ : ℝ) : EReal) := by
      unfold rstd
      rw [h]
      show (if v < 0 then ⊥ else if v = 0 then ⊤ else (((Real.sqrt v)⁻¹ : ℝ) : EReal)) = _
      rw [if_neg (not_lt.2 hv.le), if_neg hv.ne']
    rw [hr, h, mhalf_eq, div_coe _ hv.ne']
    generalize hq : (Real.sqrt v)⁻¹ = r at hs
    have hrv : r * r = 1 / v := by
      rw [← hq, ← mul_inv, Real.mul_self_sqrt hv.le, one_div]
    have hsum : (∑ k, u k * (x k * (r : EReal))) = (∑ k, x k * u k) * (r : EReal) := by
      rw [sum_mul_coe _ _ hs.le]
      exact Finset.sum_congr rfl fun k _ => by rw [← mul_assoc, mul_comm (u k)]
    rw [hsum]
    generalize (∑ k, x k * u k) = S
    rw [EReal.mul_sub_of_nonneg_of_ne_top (EReal.coe_nonneg.2 hs.le) (EReal.coe_ne_top r), add_assoc]
    have e1 : x j * (S * (((-(1 / 2) : ℝ) : EReal) * ((r / v : ℝ) : EReal)) * ((1 / 1024 : ℝ) : EReal))
        = x j * S * ((-(1 / 2) * (r / v) * (1 / 1024) : ℝ) : EReal) := by
      rw [EReal.coe_mul, EReal.coe_mul]; ac_rfl
    have e2 : (r : EReal) * (x j * (r : EReal) * (S * (r : EReal) * ((1 / 1024 : ℝ) : EReal)))
        = x j * S * ((r * r * r * (1 / 1024) : ℝ) : EReal) := by
      rw [EReal.coe_mul, EReal.coe_mul, EReal.coe_mul]; ac_rfl
    have e3 : -(x j * S * ((r * r * r * (1 / 1024) : ℝ) : EReal)) = x j * S * ((-(r * r * r * (1 / 1024)) : ℝ) : EReal) := by
      rw [EReal.coe_neg, mul_comm _ (-_), EReal.neg_mul, mul_comm]
    rw [e1, e2, mul_add_mul, sub_eq_add_neg, e3, mul_comm (u j), hrv]
    congr 4
    ring

end Cert.Rms
end
-- ==== Proof.LossReference.lean ====
/- Hand-written, untrusted: what the reference of the loss computes. For a row `x` of the residual stream, the error is the
   divided row times the gain minus the target; its gradients through the mean, the gain and the root mean square are the
   first two results, the sum of its squares over all rows is the third. -/
module

public import proofs.«01_k».proof.Proof.Gen.Reference2Ideal.Read
public import proofs.«01_k».proof.Proof.Window
public import proofs.«01_k».proof.Proof.Rms
public import Idealize.ShloMosaic.Lib.Pipeline.ValueKit

@[expose] public section

set_option maxRecDepth 16384

noncomputable section

namespace Cert.Loss

open Idealize.ShloMosaic Cert.Finite Cert.Rms

/-- The inverse of the length of a row, by its float word. -/
def inv : EReal := Ideal.ofBits .f32 0x3A800000#32

theorem inv_eq : inv = ((1 / 1024 : ℝ) : EReal) := by
  unfold inv
  simp [Ideal.ofBits, Ideal.ieee]
  rw [← EReal.coe_mul]
  norm_num

/-- The error of a row at `j`. -/
def err (x g t : Fin 1024 → EReal) (j : Fin 1024) : EReal := x j * rstd x * g j - t j

/-- The gradient of the normalised row. -/
def up (x g t : Fin 1024 → EReal) (j : Fin 1024) : EReal := err x g t j * inv * g j

/-- Half of the mean's gradient times twice the error is the error over the length. -/
theorem half_two (e : EReal) :
    Ideal.div (Ideal.ofBits .f32 0x3F000000#32 * Ideal.ofBits .f32 0x3F800000#32) len * (Ideal.ofBits .f32 0x40000000#32 * e) = e * inv := by
  have h1 : Ideal.ofBits .f32 0x3F000000#32 = ((1 / 2 : ℝ) : EReal) := by
    simp [Ideal.ofBits, Ideal.ieee]; rw [← EReal.coe_mul]; norm_num
  have h2 : Ideal.ofBits .f32 0x40000000#32 = ((2 : ℝ) : EReal) := by
    simp [Ideal.ofBits, Ideal.ieee]; rw [← EReal.coe_mul]; norm_num
  rw [h1, h2, Ideal.ofBits_one_f32, mul_one, div_len, inv_eq, ← mul_assoc, ← EReal.coe_mul, ← EReal.coe_mul, mul_comm]
  congr 2
  norm_num

open Cert.Reference2Ideal Cert.Reference2Ideal.Read

variable (x0 : S4x2048x1024.Idx → EReal) (x1 : S1024.Idx → EReal) (x2 : S4x2048x1024.Idx → EReal)

/-- A row of an array of sequences, and the gain as a row. -/
abbrev row (x : (⟨3, ![4, 2048, 1024]⟩ : Shape).Idx → EReal) (i : Fin 4) (s : Fin 2048) : Fin 1024 → EReal := fun k => x (ix3 i s k)
abbrev vec (g : (⟨1, ![1024]⟩ : Shape).Idx → EReal) : Fin 1024 → EReal := fun k => g (ix1 k)

theorem mean_read (i : Fin 4) (s : Fin 2048) : val_main_v6 (F := Ideal) x0 (ix3 i s 0) = mean (row x0 i s) := by
  simp only [val_main_v6_apply, val_main_v4_apply, val_main_v2_apply, val_main_v1_apply, val_main_v0_apply, val_main_v3_apply, val_main_v5_apply,
    val_main_cst_apply, val_main_cst_0_apply, val_main_cst_1_apply]
  have e : ∀ k, idx_main_v1 (idx_main_v2 (ix3 i s 0)) k = ix3 i s k := fun k => by
    funext a; match a with | ⟨0, _⟩ => rfl | ⟨1, _⟩ => rfl | ⟨2, _⟩ => rfl
  simp only [e]
  show Ideal.div (Ideal.ofBits .f32 0x00000000#32 + _) _ + _ = _
  rw [Ideal.ofBits_zero_f32, zero_add]
  rfl

theorem rstd_read (i : Fin 4) (s : Fin 2048) : val_main_v7 (F := Ideal) x0 (ix3 i s 0) = rstd (row x0 i s) := by
  rw [val_main_v7_apply, mean_read]
  rfl

theorem norm_read (i : Fin 4) (s : Fin 2048) (j : Fin 1024) : val_main_v12 (F := Ideal) x0 (ix3 i s j) = row x0 i s j * rstd (row x0 i s) := by
  have e : idx_main_v11 (ix3 i s j) = ix3 i s 0 := by funext a; match a with | ⟨0, _⟩ => rfl | ⟨1, _⟩ => rfl | ⟨2, _⟩ => rfl
  rw [val_main_v12_apply, val_main_v11_apply, e, rstd_read]
  rfl

theorem gain_read (i : Fin 4) (s : Fin 2048) (j : Fin 1024) : val_main_v14 (F := Ideal) x1 (ix3 i s j) = vec x1 j := by
  have e : idx_main_v13 (idx_main_v14 (ix3 i s j)) = ix1 j := by funext a; match a with | ⟨0, _⟩ => rfl
  rw [val_main_v14_apply, val_main_v13_apply, e]

theorem err_read (i : Fin 4) (s : Fin 2048) (j : Fin 1024) :
    val_main_v16 (F := Ideal) x0 x1 x2 (ix3 i s j) = err (row x0 i s) (vec x1) (row x2 i s) j := by
  rw [val_main_v16_apply, val_main_v15_apply, norm_read, gain_read]
  rfl

theorem dy_read (i : Fin 4) (s : Fin 2048) (j : Fin 1024) :
    val_main_v30 (F := Ideal) x0 x1 x2 (ix3 i s j) = err (row x0 i s) (vec x1) (row x2 i s) j * inv := by
  rw [val_main_v30_apply, val_main_v19_apply, err_read, ← half_two]
  simp only [val_main_v29_apply, val_main_v28_apply, val_main_v26_apply, val_main_v27_apply, val_main_v25_apply, val_main_v18_apply,
    val_main_cst_3_apply, val_main_cst_8_apply, val_main_cst_9_apply, val_main_cst_10_apply]
  rfl

theorem up_read (i : Fin 4) (s : Fin 2048) (j : Fin 1024) :
    val_main_v35 (F := Ideal) x0 x1 x2 (ix3 i s j) = up (row x0 i s) (vec x1) (row x2 i s) j := by
  have e : idx_main_v13 (idx_main_v34 (ix3 i s j)) = ix1 j := by funext a; match a with | ⟨0, _⟩ => rfl
  rw [val_main_v35_apply, val_main_v34_apply, val_main_v13_apply, e, dy_read]
  rfl

theorem inner_read (i : Fin 4) (s : Fin 2048) :
    val_main_v45 (F := Ideal) x0 x1 x2 (ix2 i s) = inner (row x0 i s) (up (row x0 i s) (vec x1) (row x2 i s)) := by
  have e45 : idx_main_v45 (ix2 i s) 0 = ix3 i s 0 := by funext a; match a with | ⟨0, _⟩ => rfl | ⟨1, _⟩ => rfl | ⟨2, _⟩ => rfl
  have e39 : idx_main_v39 (ix3 i s 0) = ix2 i s := by
    funext a; match a with | ⟨0, _⟩ => exact Fin.ext (by simp [ix3, ix2]; omega) | ⟨1, _⟩ => exact Fin.ext (by simp [ix3, ix2])
  have e38 : ∀ k, idx_main_v38 (ix2 i s) k = ix3 i s k := fun k => by
    funext a; match a with | ⟨0, _⟩ => rfl | ⟨1, _⟩ => rfl | ⟨2, _⟩ => rfl
  rw [val_main_v45_apply, Fin.sum_univ_one, e45, val_main_v44_apply, val_main_v42_apply, val_main_v39_apply, e39, val_main_v38_apply,
    val_main_v10_apply, val_main_v8_apply, rstd_read, mean_read]
  simp only [e38, val_main_v37_apply, up_read, val_main_v43_apply, val_main_v9_apply, val_main_cst_14_apply, val_main_cst_2_apply,
    val_main_cst_13_apply, val_main_cst_15_apply]
  show Ideal.ofBits .f32 0x00000000#32 + Ideal.div ((Ideal.ofBits .f32 0x00000000#32 + _) * _) _ = _
  rw [Ideal.ofBits_zero_f32, zero_add, zero_add]
  rfl

/-- The first result at sequence `i`, time `s` and feature `j`. -/
theorem first (i : Fin 4) (s : Fin 2048) (j : Fin 1024) :
    val_main_v50 (F := Ideal) x0 x1 x2 (ix3 i s j) = back (row x0 i s) (up (row x0 i s) (vec x1) (row x2 i s)) j := by
  have e40 : idx_main_v40 (ix3 i s j) = ix3 i s 0 := by funext a; match a with | ⟨0, _⟩ => rfl | ⟨1, _⟩ => rfl | ⟨2, _⟩ => rfl
  have e46 : idx_main_v46 (ix3 i s j) = ix2 i s := by funext a; match a with | ⟨0, _⟩ => rfl | ⟨1, _⟩ => rfl
  rw [val_main_v50_apply, val_main_v48_apply, val_main_v49_apply, val_main_v47_apply, val_main_v46_apply, e46, inner_read, val_main_v41_apply,
    val_main_v40_apply, e40, rstd_read, up_read, ← back_eq]
  rfl

/-- The second result: the gradient of the gain. -/
theorem second (j : Fin 1024) : val_main_v52 (F := Ideal) x0 x1 x2 (ix2 0 j)
    = ∑ i : Fin 4, ∑ s : Fin 2048, err (row x0 i s) (vec x1) (row x2 i s) j * inv * (row x0 i s j * rstd (row x0 i s)) := by
  have e52 : idx_main_v52 (ix2 0 j) = ix1 j := by
    funext a; match a with | ⟨0, _⟩ => exact Fin.ext (by simp [ix2])
  have e33 : idx_main_v33 (ix3 0 0 j) = ix1 j := by
    funext a; match a with | ⟨0, _⟩ => exact Fin.ext (by simp [ix3])
  have z0 : val_main_cst_11 (F := Ideal) (Shape.Idx.first Cert.Reference2Ideal.Gen.facts.h_S_) = (0 : EReal) := by
    rw [val_main_cst_11_apply]; exact Ideal.ofBits_zero_f32
  have z1 : val_main_cst_12 (F := Ideal) (Shape.Idx.first Cert.Reference2Ideal.Gen.facts.h_S_) = (0 : EReal) := by
    rw [val_main_cst_12_apply]; exact Ideal.ofBits_zero_f32
  rw [val_main_v52_apply, e52]
  refine (Window.reduce_r3_a01 _ (val_main_v33 (F := Ideal) x0 x1 x2) _ j).trans ?_
  rw [z1, zero_add, Fin.sum_univ_one, Fin.sum_univ_one, val_main_v33_apply, e33]
  refine (Window.reduce_r3_a01 _ (val_main_v31 (F := Ideal) x0 x1 x2) _ j).trans ?_
  rw [z0, zero_add]
  refine Finset.sum_congr rfl fun i _ => Finset.sum_congr rfl fun s _ => ?_
  rw [val_main_v31_apply, norm_read, dy_read]
  exact mul_comm _ _

theorem rstd_read' (i : Fin 4) (s : Fin 2048) : val_main_v60 (F := Ideal) x0 (ix3 i s 0) = rstd (row x0 i s) := by
  rw [← rstd_read]
  rfl

/-- The third result: the squares of the errors. -/
theorem third (j : Fin 1024) : val_main_v69 (F := Ideal) x0 x1 x2 (ix2 0 j)
    = ∑ i : Fin 4, ∑ s : Fin 2048, err (row x0 i s) (vec x1) (row x2 i s) j * err (row x0 i s) (vec x1) (row x2 i s) j := by
  have e69 : idx_main_v69 (ix2 0 j) = ix1 j := by
    funext a; match a with | ⟨0, _⟩ => exact Fin.ext (by simp [ix2])
  have z0 : val_main_cst_19 (F := Ideal) (Shape.Idx.first Cert.Reference2Ideal.Gen.facts.h_S_) = (0 : EReal) := by
    rw [val_main_cst_19_apply]; exact Ideal.ofBits_zero_f32
  rw [val_main_v69_apply, e69]
  refine (Window.reduce_r3_a01 _ (val_main_v67 (F := Ideal) x0 x1 x2) _ j).trans ?_
  rw [z0, zero_add]
  refine Finset.sum_congr rfl fun i _ => Finset.sum_congr rfl fun s _ => ?_
  have e61 : idx_main_v61 (ix3 i s j) = ix3 i s 0 := by funext a; match a with | ⟨0, _⟩ => rfl | ⟨1, _⟩ => rfl | ⟨2, _⟩ => rfl
  have e63 : idx_main_v63 (idx_main_v64 (ix3 i s j)) = ix1 j := by funext a; match a with | ⟨0, _⟩ => rfl
  rw [val_main_v67_apply, val_main_v66_apply, val_main_v65_apply, val_main_v64_apply, val_main_v63_apply, e63, val_main_v62_apply,
    val_main_v61_apply, e61, rstd_read']
  rfl

end Cert.Loss
end
-- ==== Proof.Rows.lean ====
/- Hand-written, untrusted: the rows of the four sequences as one list of 8192 rows, and sums over it block by block. -/
module

public import Idealize.ShloMosaic.Lib.Pipeline.ValueKit
public import Idealize.ShloMosaic.Lib.Pointwise.Sums

@[expose] public section

namespace Cert.Rows

open Idealize.ShloMosaic Idealize.ShloMosaic.Pipeline

/-- The sequence that row `n` belongs to, and its place there. -/
def seq (n : Fin 8192) : Fin 4 := ⟨n.val / 2048, by have := n.isLt; omega⟩
def pos (n : Fin 8192) : Fin 2048 := ⟨n.val % 2048, by omega⟩

/-- Row `r` of the block of 512 rows that grid point `t` works on. -/
def at512 (t : Fin 16) (r : Fin 512) : Fin 8192 := ⟨t.val * 512 + r.val, by have := t.isLt; have := r.isLt; omega⟩

/-- A sum over all blocks of rows is the sum over all sequences and places. -/
theorem sum_blocks (f : Fin 4 → Fin 2048 → EReal) :
    ∑ t : Fin 16, ∑ r : Fin 512, f (seq (at512 t r)) (pos (at512 t r)) = ∑ i : Fin 4, ∑ s : Fin 2048, f i s := by
  have h1 := Fin.sum_univ_tiles 16 512 (by norm_num : 16 * 512 = 8192) fun n : Fin 8192 => f (seq n) (pos n)
  have h2 := Fin.sum_univ_tiles 4 2048 (by norm_num : 4 * 2048 = 8192) fun n : Fin 8192 => f (seq n) (pos n)
  refine (h1.symm.trans h2).trans (Finset.sum_congr rfl fun i _ => Finset.sum_congr rfl fun s _ => ?_)
  have e1 : seq ⟨i.val * 2048 + s.val, by have := i.isLt; have := s.isLt; omega⟩ = i := Fin.ext (by
    have := s.isLt; show (i.val * 2048 + s.val) / 2048 = i.val; omega)
  have e2 : pos ⟨i.val * 2048 + s.val, by have := i.isLt; have := s.isLt; omega⟩ = s := Fin.ext (by
    have := s.isLt; show (i.val * 2048 + s.val) % 2048 = s.val; omega)
  rw [e1, e2]

/-- A sum over the four blocks of rows of one sequence is the sum over its places. -/
theorem sum_seq (f : Fin 2048 → EReal) :
    ∑ k : Fin 4, ∑ r : Fin 512, f ⟨k.val * 512 + r.val, by have := k.isLt; have := r.isLt; omega⟩ = ∑ s : Fin 2048, f s :=
  (Fin.sum_univ_tiles 4 512 (by norm_num : 4 * 512 = 2048) f).symm

/-- Row `r` of the block of 256 rows that grid point `t` works on. -/
def at256 (t : Fin 32) (r : Fin 256) : Fin 8192 := ⟨t.val * 256 + r.val, by have := t.isLt; have := r.isLt; omega⟩

/-- A sum over the eight blocks of rows of one sequence is the sum over its places. -/
theorem sum_seq8 (f : Fin 2048 → EReal) :
    ∑ k : Fin 8, ∑ r : Fin 256, f ⟨k.val * 256 + r.val, by have := k.isLt; have := r.isLt; omega⟩ = ∑ s : Fin 2048, f s :=
  (Fin.sum_univ_tiles 8 256 (by norm_num : 8 * 256 = 2048) f).symm

/-- Sequences laid out as one list of rows. -/
theorem shapeCast_rows {n : Nat} (x : (⟨3, ![4, 2048, n]⟩ : Shape).Idx → EReal)
    (h : (⟨3, ![4, 2048, n]⟩ : Shape).ShapeCasts (⟨2, ![8192, n]⟩ : Shape)) (a : Fin 8192) (j : Fin n) :
    shapeCast (⟨2, ![8192, n]⟩ : Shape) x h (ix2 a j) = x (ix3 (seq a) (pos a) j) := by
  refine shapeCast_apply x h _ _ ?_
  rw [Shape.rowMajor_val_three, Shape.rowMajor_val_two]
  have e : (seq a).val * 2048 + (pos a).val = a.val := by show a.val / 2048 * 2048 + a.val % 2048 = a.val; omega
  show ((seq a).val * 2048 + (pos a).val) * n + j.val = a.val * n + j.val
  rw [e]

end Cert.Rows
-- ==== Proof.LossKernel.lean ====
/- Hand-written, untrusted: what the kernel of the loss computes. One grid point holds 512 rows: it writes the gradient of
   each, and adds up over all points the gradient of the gain and the squares of the errors. -/
module

public import proofs.«01_k».proof.Proof.Gen.Kernel2Ideal.Value
public import proofs.«01_k».proof.Proof.LossReference
public import proofs.«01_k».proof.Proof.Rows

@[expose] public section

set_option maxRecDepth 16384

noncomputable section

namespace Cert.Loss

open Idealize.ShloMosaic Cert.Finite Cert.Rms Cert.Rows Idealize.ShloMosaic.TcCoe Cert.Kernel2Ideal Cert.Kernel2Ideal.Gen

/-- Row `r` of a block, and the one row of a vector. -/
abbrev brow (x : (⟨2, ![512, 1024]⟩ : Shape).Idx → EReal) (r : Fin 512) : Fin 1024 → EReal := fun k => x (ix2 r k)
abbrev bvec (g : (⟨2, ![1, 1024]⟩ : Shape).Idx → EReal) : Fin 1024 → EReal := fun k => g (ix2 0 k)

variable (x : Vec Ideal S512x1024 .f32) (g : Vec Ideal S1x1024 .f32) (t : Vec Ideal S512x1024 .f32)

theorem pay5_apply (r : Fin 512) : k0_pay5 (F := Ideal) x (ix2 r 0) = rstd (brow x r) := by
  unfold k0_pay5 k0_pay3
  pointwise
  rfl

theorem pay6_apply (r : Fin 512) (j : Fin 1024) : k0_pay6 (F := Ideal) x (ix2 r j) = brow x r j * rstd (brow x r) := by
  unfold k0_pay6 k0_pay3
  pointwise
  rw [pay5_apply]

theorem pay7_apply (r : Fin 512) (j : Fin 1024) : k0_pay7 (F := Ideal) x g t (ix2 r j) = err (brow x r) (bvec g) (brow t r) j := by
  unfold k0_pay7 k0_pay4
  pointwise
  rw [pay6_apply]
  rfl

theorem pay8_apply (r : Fin 512) (j : Fin 1024) : k0_pay8 (F := Ideal) x g t (ix2 r j) = err (brow x r) (bvec g) (brow t r) j * inv := by
  unfold k0_pay8
  pointwise
  rw [pay7_apply]
  rfl

theorem pay9_apply (r : Fin 512) (j : Fin 1024) :
    k0_pay9 (F := Ideal) x g t (ix2 r j) = back (brow x r) (up (brow x r) (bvec g) (brow t r)) j := by
  unfold k0_pay9 k0_pay4
  pointwise
  simp only [pay5_apply, pay6_apply, pay8_apply]
  rfl

theorem pay10_apply (j : Fin 1024) : k0_pay10 (F := Ideal) x g t (ix2 0 j)
    = ∑ r : Fin 512, err (brow x r) (bvec g) (brow t r) j * inv * (brow x r j * rstd (brow x r)) := by
  unfold k0_pay10
  pointwise
  simp only [pay6_apply, pay8_apply]

theorem pay11_apply (j : Fin 1024) : k0_pay11 (F := Ideal) x g t (ix2 0 j)
    = ∑ r : Fin 512, err (brow x r) (bvec g) (brow t r) j * err (brow x r) (bvec g) (brow t r) j := by
  unfold k0_pay11
  pointwise
  simp only [pay7_apply]

theorem pay1_apply (a b : Vec Ideal S1x1024 .f32) (j : Fin 1024) : k0_pay1 (F := Ideal) a b (ix2 0 j) = (b (ix2 0 j) : EReal) + a (ix2 0 j) := by
  unfold k0_pay1
  pointwise

theorem pay2_apply (a b : Vec Ideal S1x1024 .f32) (j : Fin 1024) : k0_pay2 (F := Ideal) a b (ix2 0 j) = (b (ix2 0 j) : EReal) + a (ix2 0 j) := by
  unfold k0_pay2
  pointwise

variable (m : (ℓ : Loc nD τ sig) → Buf (Elt Ideal) ℓ)

/-- The arguments' contents. -/
abbrev arg0 (c : Dev nD) : S4x2048x1024.Idx → EReal := m ((c : Thread nD τ).loc main_arg0)
abbrev arg1 (c : Dev nD) : S1024.Idx → EReal := m ((c : Thread nD τ).loc main_arg1)
abbrev arg2 (c : Dev nD) : S4x2048x1024.Idx → EReal := m ((c : Thread nD τ).loc main_arg2)

theorem V_main_v0 (c : Dev nD) (n : Fin 8192) (j : Fin 1024) : V m c main_v0 (ix2 n j) = arg0 m c (ix3 (seq n) (pos n) j) := by
  have e : V m c main_v0 = shapeCast S8192x1024 (arg0 m c) Gen.facts.shapeCasts_S4x2048x1024_S8192x1024 := by
    unfold_abbrev_sides
    after_results <;> rfl
  rw [e]
  exact shapeCast_rows _ _ n j

theorem V_main_v1 (c : Dev nD) (j : Fin 1024) : V m c main_v1 (ix2 0 j) = arg1 m c (ix1 j) := by
  have e : V m c main_v1 = shapeCast S1x1024 (arg1 m c) Gen.facts.shapeCasts_S1024_S1x1024 := by
    unfold_abbrev_sides
    after_results <;> rfl
  rw [e]
  pointwise

theorem V_main_v2 (c : Dev nD) (n : Fin 8192) (j : Fin 1024) : V m c main_v2 (ix2 n j) = arg2 m c (ix3 (seq n) (pos n) j) := by
  have e : V m c main_v2 = shapeCast S8192x1024 (arg2 m c) Gen.facts.shapeCasts_S4x2048x1024_S8192x1024 := by
    unfold_abbrev_sides
    after_results <;> rfl
  rw [e]
  exact shapeCast_rows _ _ n j

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])

/-- Row `r` of grid point `t`. -/
def rowOf (t : Fin cfg0.N) (r : Fin 512) : Fin 8192 := at512 ⟨t.val, lt_of_lt_of_eq t.isLt N_0⟩ r

theorem iblk0_row (c : Dev nD) (t : Fin cfg0.N) (r : Fin 512) :
    brow (iblk m c 0 t) r = row (arg0 m c) (seq (rowOf t r)) (pos (rowOf t r)) := funext fun k => by
  show iblk m c 0 t (ix2 r k) = arg0 m c _
  rw [← V_main_v0]
  blk_simp [iblk]
  refine congrArg (V m c main_v0) ?_
  blk_ext [idx0, rowOf, at512]

theorem iblk1_vec (c : Dev nD) (t : Fin cfg0.N) : bvec (iblk m c 1 t) = vec (arg1 m c) := funext fun k => by
  show iblk m c 1 t (ix2 0 k) = arg1 m c _
  rw [← V_main_v1]
  blk_simp [iblk]
  refine congrArg (V m c main_v1) ?_
  blk_ext [idx1]

theorem iblk2_row (c : Dev nD) (t : Fin cfg0.N) (r : Fin 512) :
    brow (iblk m c 2 t) r = row (arg2 m c) (seq (rowOf t r)) (pos (rowOf t r)) := funext fun k => by
  show iblk m c 2 t (ix2 r k) = arg2 m c _
  rw [← V_main_v2]
  blk_simp [iblk]
  refine congrArg (V m c main_v2) ?_
  blk_ext [idx2, rowOf, at512]

/-- The error, the gradient of a row, and the two terms that are summed, at sequence `i` and place `s`. -/
def errAt (c : Dev nD) (i : Fin 4) (s : Fin 2048) : Fin 1024 → EReal := err (row (arg0 m c) i s) (vec (arg1 m c)) (row (arg2 m c) i s)
def gradAt (c : Dev nD) (i : Fin 4) (s : Fin 2048) : Fin 1024 → EReal :=
  back (row (arg0 m c) i s) (up (row (arg0 m c) i s) (vec (arg1 m c)) (row (arg2 m c) i s))
def gainAt (c : Dev nD) (j : Fin 1024) (i : Fin 4) (s : Fin 2048) : EReal :=
  errAt m c i s j * inv * (row (arg0 m c) i s j * rstd (row (arg0 m c) i s))
def squareAt (c : Dev nD) (j : Fin 1024) (i : Fin 4) (s : Fin 2048) : EReal := errAt m c i s j * errAt m c i s j

/-- The first result. -/
theorem result3 (c : Dev nD) : (dats m 0 c).arrAt 3 cfg0.N = fun x : S8192x1024.Idx => (gradAt m c (seq (x 0)) (pos (x 0)) (x 1) : EReal) := by
  refine (dats m 0 c).arrAt_eq_of_covers 3 _ (by decide +kernel) fun t hf y => ?_
  have hN : t.val < 16 := lt_of_lt_of_eq t.isLt N_0
  obtain ⟨a, b, rfl⟩ : ∃ (a : Fin 512) (b : Fin 1024), y = ix2 a b := ⟨y 0, y 1, (ix2_eta y).symm⟩
  have fin : k0_pay9 (F := Ideal) (iblk m c 0 t) (iblk m c 1 t) (iblk m c 2 t) (ix2 a b) = gradAt m c (seq (rowOf t a)) (pos (rowOf t a)) b := by
    rw [pay9_apply, iblk0_row, iblk1_vec, iblk2_row]
    rfl
  have eg : (((cfg0.win 3).blk t).view.emb (ix2 a b)) = ix2 (rowOf t a) b := by
    blk_ext [idx3, rowOf, at512]
  by_cases h0 : t.val % 16 = 0
  · have h1 : ¬ 1 ≤ t.val := by omega
    blk_simp
    rw [after0_3, outsAt0_A m c t h0 h1]
    dsimp only
    frame_out
    rw [eg]
    exact fin
  · have h1 : 1 ≤ t.val := by omega
    blk_simp
    rw [after0_3, outsAt0_B m c t h0 h1]
    dsimp only
    frame_out
    rw [eg]
    exact fin

/-- The part of a sum over all rows that one grid point adds. -/
def part (f : Fin 4 → Fin 2048 → EReal) (n : ℕ) : EReal :=
  if hn : n < 16 then ∑ r : Fin 512, f (seq (at512 ⟨n, hn⟩ r)) (pos (at512 ⟨n, hn⟩ r)) else 0

theorem part_point (f : Fin 4 → Fin 2048 → EReal) (t : Fin cfg0.N) : part f t.val = ∑ r : Fin 512, f (seq (rowOf t r)) (pos (rowOf t r)) := by
  rw [part, dif_pos (lt_of_lt_of_eq t.isLt N_0)]
  rfl

theorem part_all (f : Fin 4 → Fin 2048 → EReal) : ∑ n ∈ Finset.range 16, part f n = ∑ i : Fin 4, ∑ s : Fin 2048, f i s := by
  rw [← sum_blocks, Finset.sum_range fun n => part f n]
  refine Finset.sum_congr rfl fun t _ => ?_
  rw [part, dif_pos t.isLt]

theorem gain_point (c : Dev nD) (t : Fin cfg0.N) (j : Fin 1024) :
    k0_pay10 (F := Ideal) (iblk m c 0 t) (iblk m c 1 t) (iblk m c 2 t) (ix2 0 j) = part (gainAt m c j) t.val := by
  rw [pay10_apply, part_point]
  refine Finset.sum_congr rfl fun r _ => ?_
  rw [iblk0_row, iblk1_vec, iblk2_row]
  rfl

theorem square_point (c : Dev nD) (t : Fin cfg0.N) (j : Fin 1024) :
    k0_pay11 (F := Ideal) (iblk m c 0 t) (iblk m c 1 t) (iblk m c 2 t) (ix2 0 j) = part (squareAt m c j) t.val := by
  rw [pay11_apply, part_point]
  refine Finset.sum_congr rfl fun r _ => ?_
  rw [iblk0_row, iblk1_vec, iblk2_row]
  rfl

/-- What the two accumulated results' buffers hold after point `n`. -/
theorem sums (c : Dev nD) (j : Fin 1024) : ∀ (n : ℕ) (hn : n < cfg0.N),
    ((outsAt0 m c n hn).2.1 (ix2 0 j) : EReal) = ∑ i ∈ Finset.range (n + 1), part (gainAt m c j) i
      ∧ ((outsAt0 m c n hn).2.2 (ix2 0 j) : EReal) = ∑ i ∈ Finset.range (n + 1), part (squareAt m c j) i
  | 0, hn => by
    rw [outsAt0_A m c ⟨0, hn⟩ (by rfl) (by simp), Finset.sum_range_one, Finset.sum_range_one]
    dsimp only
    refine ⟨?_, ?_⟩
    · frame_out
      exact gain_point m c ⟨0, hn⟩ j
    · frame_out
      exact square_point m c ⟨0, hn⟩ j
  | n + 1, hn => by
    have hN : n + 1 < 16 := lt_of_lt_of_eq hn N_0
    rw [outsAt0_B m c ⟨n + 1, hn⟩ (by show ¬ (n + 1) % 16 = 0; omega) (by show 1 ≤ n + 1; omega),
      Finset.sum_range_succ (part (gainAt m c j)) (n + 1), Finset.sum_range_succ (part (squareAt m c j)) (n + 1)]
    obtain ⟨i1, i2⟩ := sums c j n (by omega)
    dsimp only
    refine ⟨?_, ?_⟩
    · frame_out
      refine (pay1_apply _ _ j).trans ?_
      exact congrArg₂ (· + ·) i1 (gain_point m c ⟨n + 1, hn⟩ j)
    · frame_out
      refine (pay2_apply _ _ j).trans ?_
      exact congrArg₂ (· + ·) i2 (square_point m c ⟨n + 1, hn⟩ j)

/-- The last grid point. -/
def last : Fin cfg0.N := ⟨15, lt_of_lt_of_eq (by decide) N_0.symm⟩

/-- The second result. -/
theorem result4 (c : Dev nD) : (dats m 0 c).arrAt 4 cfg0.N = fun x : S1x1024.Idx => (∑ i : Fin 4, ∑ s : Fin 2048, gainAt m c (x 1) i s : EReal) := by
  refine (dats m 0 c).arrAt_eq_of_after_last 4 last (by decide +kernel) _ fun y => ?_
  obtain ⟨a, rfl⟩ : ∃ a : Fin 1024, y = ix2 (0 : Fin 1) a :=
    ⟨y 1, by rw [← show y 0 = (0 : Fin 1) from Subsingleton.elim (α := Fin 1) _ _]; exact (ix2_eta y).symm⟩
  blk_simp
  rw [after0_4]
  exact ((sums m c a 15 last.isLt).1).trans (part_all _)

/-- The third result. -/
theorem result5 (c : Dev nD) : (dats m 0 c).arrAt 5 cfg0.N = fun x : S1x1024.Idx => (∑ i : Fin 4, ∑ s : Fin 2048, squareAt m c (x 1) i s : EReal) := by
  refine (dats m 0 c).arrAt_eq_of_after_last 5 last (by decide +kernel) _ fun y => ?_
  obtain ⟨a, rfl⟩ : ∃ a : Fin 1024, y = ix2 (0 : Fin 1) a :=
    ⟨y 1, by rw [← show y 0 = (0 : Fin 1) from Subsingleton.elim (α := Fin 1) _ _]; exact (ix2_eta y).symm⟩
  blk_simp
  rw [after0_5]
  exact ((sums m c a 15 last.isLt).2).trans (part_all _)

end Cert.Loss
end
-- ==== Proof.LossProof.lean ====
/- Hand-written, untrusted: the claims about the loss. -/
module

public import proofs.«01_k».proof.Defs
public import proofs.«01_k».proof.Proof.Gen.Kernel2.Frame
public import proofs.«01_k».proof.Proof.LossKernel
public import proofs.«01_k».proof.Proof.Gen.Reference2Ideal.Run

@[expose] public section

set_option maxRecDepth 16384

noncomputable section

namespace Cert.Loss

open Idealize.ShloMosaic Idealize.ShloMosaic.TcCoe Cert.Kernel2Ideal Cert.Kernel2Ideal.Gen Cert.Rows

/-- The reference's frame. -/
theorem frame_reference : Cert.quiescent_Reference2Ideal := fun m ρ _ =>
  (θ_run Cert.Reference2Ideal.defs _ _).mono (fun r h => ⟨fun c => (h c).2.2.2, funext fun s => nomatch s.2⟩) (Cert.Reference2Ideal.Value.run (F := Ideal) m ρ)

theorem frame_kernel : Cert.quiescent_Kernel2 := fun m ρ _ => Cert.Kernel2.Gen.frame m ρ
theorem frame_ideal : Cert.quiescent_Kernel2Ideal := fun m ρ _ => Cert.Kernel2Ideal.Gen.frame m ρ

/-- The reference's rows as one list. -/
theorem idx51 (n : Fin 8192) (j : Fin 1024) : Cert.Reference2Ideal.Read.idx_main_v51 (ix2 n j) = ix3 (seq n) (pos n) j := by
  have := n.isLt
  have := j.isLt
  funext a
  match a with
  | ⟨0, _⟩ => exact Fin.ext (by simp [ix2, ix3, seq]; omega)
  | ⟨1, _⟩ => exact Fin.ext (by simp [ix2, ix3, pos]; omega)
  | ⟨2, _⟩ => exact Fin.ext (by simp [ix2, ix3])

/-- Kernel and reference compute the same arrays. -/
theorem equal : Cert.algebraic_Kernel2Ideal_Reference2Ideal := by
  intro m g m' g' _ hargs
  refine ⟨fun c => (dats m 0 c).arrAt 3 cfg0.N, fun c => (dats m 0 c).arrAt 4 cfg0.N, fun c => (dats m 0 c).arrAt 5 cfg0.N,
    Cert.Kernel2Ideal.Value.run_blocks m g,
    (θ_run Cert.Reference2Ideal.defs _ _).mono (fun r h c => ?_) (Cert.Reference2Ideal.Value.run (F := Ideal) m' g')⟩
  obtain ⟨a0, a1, a2⟩ := hargs c
  refine ⟨(h c).1.trans ?_, (h c).2.1.trans ?_, (h c).2.2.1.trans ?_, (h c).2.2.2⟩
  · rw [Cert.Reference2Ideal.Read.val_main_v51_eq, a0, a1, a2]
    refine Eq.trans ?_ (result3 m c).symm
    funext x
    obtain ⟨n, j, rfl⟩ : ∃ (n : Fin 8192) (j : Fin 1024), x = ix2 n j := ⟨x 0, x 1, (ix2_eta x).symm⟩
    rw [Cert.Reference2Ideal.Read.val_main_v51_apply, idx51]
    exact first _ _ _ _ _ j
  · rw [Cert.Reference2Ideal.Read.val_main_v52_eq, a0, a1, a2]
    refine Eq.trans ?_ (result4 m c).symm
    funext x
    obtain ⟨j, rfl⟩ : ∃ j : Fin 1024, x = ix2 (0 : Fin 1) j :=
      ⟨x 1, by rw [← show x 0 = (0 : Fin 1) from Subsingleton.elim (α := Fin 1) _ _]; exact (ix2_eta x).symm⟩
    exact second _ _ _ j
  · rw [Cert.Reference2Ideal.Read.val_main_v69_eq, a0, a1, a2]
    refine Eq.trans ?_ (result5 m c).symm
    funext x
    obtain ⟨j, rfl⟩ : ∃ j : Fin 1024, x = ix2 (0 : Fin 1) j :=
      ⟨x 1, by rw [← show x 0 = (0 : Fin 1) from Subsingleton.elim (α := Fin 1) _ _]; exact (ix2_eta x).symm⟩
    exact third _ _ _ j

end Cert.Loss
end
-- ==== Proof.NormReference.lean ====
/- Hand-written, untrusted: what the reference of the norm's gradient computes. The four gradients that enter a row times the
   matrix give the gradient `dh` of the normalised and shifted row; the shift's and the gain's gradients are its sums over time,
   and the row's own gradient goes through the root mean square. -/
module

public import proofs.«01_k».proof.Proof.Gen.Reference3Ideal.Read
public import proofs.«01_k».proof.Proof.Window
public import proofs.«01_k».proof.Proof.Rms
public import Idealize.ShloMosaic.Lib.Pipeline.ValueKit
public import Idealize.ShloMosaic.Lib.Pointwise.Sums

@[expose] public section

set_option maxRecDepth 16384

noncomputable section

namespace Cert.Norm

open Idealize.ShloMosaic Cert.Finite Cert.Rms

/-- Column `k` of the matrix's part `n`. -/
def at4 (n : Fin 4) (k : Fin 2048) : Fin 8192 := ⟨n.val * 2048 + k.val, by omega⟩

theorem at4_cover (m : Fin 8192) : ∃ n k, m = at4 n k :=
  ⟨⟨m.val / 2048, by omega⟩, ⟨m.val % 2048, by omega⟩, Fin.ext (by simp only [at4]; omega)⟩

/-- A sum over all columns, part by part. -/
theorem sum_parts (f : Fin 8192 → EReal) : ∑ m, f m = (∑ k, f (at4 0 k)) + (∑ k, f (at4 1 k)) + (∑ k, f (at4 2 k)) + ∑ k, f (at4 3 k) := by
  rw [Fin.sum_univ_tiles 4 2048 (by decide) f, Fin.sum_univ_four]
  rfl

/-- One gradient's row against its part of the matrix, and the four together. -/
def dot (p : Fin 2048 → EReal) (w : Fin 1024 → Fin 8192 → EReal) (n : Fin 4) (j : Fin 1024) : EReal := ∑ k, p k * w j (at4 n k)
def dh (p q r s : Fin 2048 → EReal) (w : Fin 1024 → Fin 8192 → EReal) (j : Fin 1024) : EReal :=
  dot p w 0 j + dot q w 1 j + dot r w 2 j + dot s w 3 j

/-- The gradient of the normalised row. -/
def up (d g sc : Fin 1024 → EReal) (j : Fin 1024) : EReal := d j * (g j * (1 + sc j))

/-- A padded array holds the operand in its own part and the padding elsewhere. -/
theorem pad_read (q : Fin 4) (l : Nat) (hl : l = q.val * 2048) (hi : Fin 3 → Nat) (x : (⟨3, ![4, 2048, 2048]⟩ : Shape).Idx → EReal)
    {u : Shape} (v : u.Idx → EReal) (h : (⟨3, ![4, 2048, 2048]⟩ : Shape).Pads ![0, 0, l] hi ![0, 0, 0] ⟨3, ![4, 2048, 8192]⟩) (hu : 0 < u.numel)
    (i : Fin 4) (s : Fin 2048) (n : Fin 4) (k : Fin 2048) :
    pad ⟨3, ![4, 2048, 8192]⟩ ![0, 0, l] hi ![0, 0, 0] x v h hu (ix3 i s (at4 n k))
      = if n = q then x (ix3 i s k) else v (Shape.Idx.first hu) := by
  subst hl
  have hq := q.isLt
  have hn := n.isLt
  have hk := k.isLt
  unfold pad
  split_ifs with h1 h2 h2
  · subst h2
    refine congrArg x (funext fun a => ?_)
    match a with
    | ⟨0, _⟩ => exact Fin.ext (by simp [ix3])
    | ⟨1, _⟩ => exact Fin.ext (by simp [ix3])
    | ⟨2, _⟩ => exact Fin.ext (by simp [ix3, at4])
  · exfalso
    have := h1 2
    simp [ix3, at4] at this
    exact h2 (Fin.ext (by omega))
  · exfalso
    subst h2
    refine h1 fun a => ?_
    match a with
    | ⟨0, _⟩ => simp [ix3, Nat.mod_one]
    | ⟨1, _⟩ => simp [ix3, Nat.mod_one]
    | ⟨2, _⟩ => simp [ix3, at4, Nat.mod_one]
  · rfl

open Cert.Reference3Ideal Cert.Reference3Ideal.Read

variable (x0 : S4x2048x1024.Idx → EReal) (x1 : S1024.Idx → EReal) (x3 : S4x1x1024.Idx → EReal) (x4 : S1024x8192.Idx → EReal)
  (x5 x6 x7 x8 : S4x2048x2048.Idx → EReal) (x9 : S4x2048x1024.Idx → EReal)

/-- Rows of the arrays of sequences, a sequence's scale, the gain as a row, and the matrix. -/
abbrev row (x : (⟨3, ![4, 2048, 1024]⟩ : Shape).Idx → EReal) (i : Fin 4) (s : Fin 2048) : Fin 1024 → EReal := fun k => x (ix3 i s k)
abbrev wide (x : (⟨3, ![4, 2048, 2048]⟩ : Shape).Idx → EReal) (i : Fin 4) (s : Fin 2048) : Fin 2048 → EReal := fun k => x (ix3 i s k)
abbrev per (x : (⟨3, ![4, 1, 1024]⟩ : Shape).Idx → EReal) (i : Fin 4) : Fin 1024 → EReal := fun k => x (ix3 i 0 k)
abbrev vec (g : (⟨1, ![1024]⟩ : Shape).Idx → EReal) : Fin 1024 → EReal := fun k => g (ix1 k)
abbrev mat (w : (⟨2, ![1024, 8192]⟩ : Shape).Idx → EReal) : Fin 1024 → Fin 8192 → EReal := fun j k => w (ix2 j k)

/-- The gradient `dh` at sequence `i`, time `s`. -/
abbrev dhAt (i : Fin 4) (s : Fin 2048) : Fin 1024 → EReal := dh (wide x5 i s) (wide x6 i s) (wide x7 i s) (wide x8 i s) (mat x4)

theorem mean_read (i : Fin 4) (s : Fin 2048) : val_main_v6 (F := Ideal) x0 (ix3 i s 0) = mean (row x0 i s) := by
  simp only [val_main_v6_apply, val_main_v4_apply, val_main_v2_apply, val_main_v1_apply, val_main_v0_apply, val_main_v3_apply, val_main_v5_apply,
    val_main_cst_apply, val_main_cst_0_apply, val_main_cst_1_apply]
  have e : ∀ k, idx_main_v1 (idx_main_v2 (ix3 i s 0)) k = ix3 i s k := fun k => by
    funext a; match a with | ⟨0, _⟩ => rfl | ⟨1, _⟩ => rfl | ⟨2, _⟩ => rfl
  simp only [e]
  show Ideal.div (Ideal.ofBits .f32 0x00000000#32 + _) _ + _ = _
  rw [Ideal.ofBits_zero_f32, zero_add]
  rfl

theorem rstd_read (i : Fin 4) (s : Fin 2048) : val_main_v7 (F := Ideal) x0 (ix3 i s 0) = rstd (row x0 i s) := by
  rw [val_main_v7_apply, mean_read]
  rfl

theorem parts_read (i : Fin 4) (s : Fin 2048) (n : Fin 4) (k : Fin 2048) :
    val_main_v33 (F := Ideal) x5 x6 x7 x8 (ix3 i s (at4 n k)) = (![wide x5 i s, wide x6 i s, wide x7 i s, wide x8 i s] n) k := by
  have z : Ideal.ofBits .f32 0x00000000#32 = (0 : EReal) := Ideal.ofBits_zero_f32
  rw [val_main_v33_apply, val_main_v31_apply, val_main_v29_apply]
  unfold val_main_v27 val_main_v28 val_main_v30 val_main_v32
  rw [show pad S4x2048x8192 ![0, 0, 6144] _ _ x8 _ _ _ (ix3 i s (at4 n k)) = _ from pad_read 3 6144 (by decide) _ x8 _ _ _ i s n k,
    show pad S4x2048x8192 ![0, 0, 4096] _ _ x7 _ _ _ (ix3 i s (at4 n k)) = _ from pad_read 2 4096 (by decide) _ x7 _ _ _ i s n k,
    show pad S4x2048x8192 ![0, 0, 2048] _ _ x6 _ _ _ (ix3 i s (at4 n k)) = _ from pad_read 1 2048 (by decide) _ x6 _ _ _ i s n k,
    show pad S4x2048x8192 ![0, 0, 0] _ _ x5 _ _ _ (ix3 i s (at4 n k)) = _ from pad_read 0 0 (by decide) _ x5 _ _ _ i s n k,
    val_main_cst_4_apply, val_main_cst_5_apply, val_main_cst_6_apply, val_main_cst_7_apply]
  show ((if n = 3 then _ else Ideal.ofBits .f32 0x00000000#32) + (if n = 2 then _ else Ideal.ofBits .f32 0x00000000#32)
    + (if n = 1 then _ else Ideal.ofBits .f32 0x00000000#32) + (if n = 0 then _ else Ideal.ofBits .f32 0x00000000#32) : EReal) = _
  rw [z]
  match n with
  | 0 => simp [wide]
  | 1 => simp [wide]
  | 2 => simp [wide]
  | 3 => simp [wide]

theorem dh_read (i : Fin 4) (s : Fin 2048) (j : Fin 1024) :
    val_main_v34 (F := Ideal) x4 x5 x6 x7 x8 (ix3 i s j) = dhAt x4 x5 x6 x7 x8 i s j := by
  have el : ∀ k, lidx_main_v34 (ix3 i s j) k = ix3 i s k := fun k => by
    funext a; match a with | ⟨0, _⟩ => rfl | ⟨1, _⟩ => rfl | ⟨2, _⟩ => rfl
  have er : ∀ k, ridx_main_v34 (ix3 i s j) k = ix2 j k := fun k => by
    funext a; match a with | ⟨0, _⟩ => rfl | ⟨1, _⟩ => rfl
  rw [val_main_v34_apply]
  simp only [el, er]
  rw [sum_parts]
  simp only [parts_read]
  rfl

theorem scale_read (i : Fin 4) (s : Fin 2048) (j : Fin 1024) :
    val_main_v37 (F := Ideal) x3 (ix3 i s j) = 1 + per x3 i j := by
  have e : idx_main_v37 (ix3 i s j) = ix3 i 0 j := by funext a; match a with | ⟨0, _⟩ => rfl | ⟨1, _⟩ => rfl | ⟨2, _⟩ => rfl
  rw [val_main_v37_apply, e, val_main_v17_apply, val_main_v16_apply, val_main_cst_3_apply]
  show Ideal.ofBits .f32 0x3F800000#32 + _ = _
  rw [Ideal.ofBits_one_f32]

theorem up_read (i : Fin 4) (s : Fin 2048) (j : Fin 1024) :
    val_main_v40 (F := Ideal) x1 x3 x4 x5 x6 x7 x8 (ix3 i s j) = up (dhAt x4 x5 x6 x7 x8 i s) (vec x1) (per x3 i) j := by
  have e : idx_main_v13 (idx_main_v39 (ix3 i s j)) = ix1 j := by funext a; match a with | ⟨0, _⟩ => rfl
  rw [val_main_v40_apply, val_main_v39_apply, val_main_v13_apply, e, val_main_v38_apply, dh_read, scale_read]
  show dhAt x4 x5 x6 x7 x8 i s j * _ * _ = _
  rw [up, mul_comm (vec x1 j), mul_assoc]

theorem inner_read (i : Fin 4) (s : Fin 2048) :
    val_main_v50 (F := Ideal) x0 x1 x3 x4 x5 x6 x7 x8 (ix2 i s) = inner (row x0 i s) (up (dhAt x4 x5 x6 x7 x8 i s) (vec x1) (per x3 i)) := by
  have e50 : idx_main_v50 (ix2 i s) 0 = ix3 i s 0 := by funext a; match a with | ⟨0, _⟩ => rfl | ⟨1, _⟩ => rfl | ⟨2, _⟩ => rfl
  have e43 : idx_main_v43 (ix3 i s 0) = ix2 i s := by
    funext a; match a with | ⟨0, _⟩ => exact Fin.ext (by simp [ix3, ix2]; omega) | ⟨1, _⟩ => exact Fin.ext (by simp [ix3, ix2])
  have e42 : ∀ k, idx_main_v42 (ix2 i s) k = ix3 i s k := fun k => by
    funext a; match a with | ⟨0, _⟩ => rfl | ⟨1, _⟩ => rfl | ⟨2, _⟩ => rfl
  rw [val_main_v50_apply, Fin.sum_univ_one, e50, val_main_v49_apply, val_main_v47_apply, val_main_v43_apply, e43, val_main_v42_apply,
    val_main_v10_apply, val_main_v8_apply, rstd_read, mean_read]
  simp only [e42, val_main_v41_apply, up_read, val_main_v48_apply, val_main_v9_apply, val_main_cst_9_apply, val_main_cst_2_apply,
    val_main_cst_10_apply, val_main_cst_11_apply]
  show Ideal.ofBits .f32 0x00000000#32 + Ideal.div ((Ideal.ofBits .f32 0x00000000#32 + _) * _) _ = _
  rw [Ideal.ofBits_zero_f32, zero_add, zero_add]
  rfl

/-- The first result at sequence `i`, time `s` and feature `j`: the cotangent plus the gradient through the norm. -/
theorem first (i : Fin 4) (s : Fin 2048) (j : Fin 1024) : val_main_v55 (F := Ideal) x0 x1 x3 x4 x5 x6 x7 x8 x9 (ix3 i s j)
    = row x9 i s j + back (row x0 i s) (up (dhAt x4 x5 x6 x7 x8 i s) (vec x1) (per x3 i)) j := by
  have e44 : idx_main_v44 (ix3 i s j) = ix3 i s 0 := by funext a; match a with | ⟨0, _⟩ => rfl | ⟨1, _⟩ => rfl | ⟨2, _⟩ => rfl
  have e51 : idx_main_v51 (ix3 i s j) = ix2 i s := by funext a; match a with | ⟨0, _⟩ => rfl | ⟨1, _⟩ => rfl
  rw [val_main_v55_apply, val_main_v53_apply, val_main_v54_apply, val_main_v52_apply, val_main_v51_apply, e51, inner_read, val_main_v46_apply,
    val_main_v45_apply, val_main_v44_apply, e44, rstd_read, up_read, ← back_eq, ← add_assoc, ← add_assoc]
  rfl

theorem norm_read (i : Fin 4) (s : Fin 2048) (j : Fin 1024) : val_main_v74 (F := Ideal) x0 (ix3 i s j) = row x0 i s j * rstd (row x0 i s) := by
  have e70 : idx_main_v70 (ix3 i s j) = ix3 i s 0 := by funext a; match a with | ⟨0, _⟩ => rfl | ⟨1, _⟩ => rfl | ⟨2, _⟩ => rfl
  have r : val_main_v69 (F := Ideal) x0 (ix3 i s 0) = rstd (row x0 i s) := (rstd_read x0 i s).symm ▸ rfl
  rw [val_main_v74_apply, val_main_v73_apply, val_main_v72_apply, val_main_v61_apply, val_main_cst_13_apply, val_main_v71_apply, val_main_v70_apply,
    e70, r]
  show _ * _ * Ideal.ofBits .f32 0x3F800000#32 = _
  rw [Ideal.ofBits_one_f32, mul_one]

theorem concat_read (i : Fin 4) (s : Fin 2048) (n : Fin 4) (k : Fin 2048) :
    val_main_v80 (F := Ideal) x5 x6 x7 x8 (ix3 i s (at4 n k)) = (![wide x5 i s, wide x6 i s, wide x7 i s, wide x8 i s] n) k := by
  unfold val_main_v80
  match n with
  | 0 => exact concatenate_apply_piece (t := S4x2048x8192) 2 _ _ _ 0 (by simp) S4x2048x2048 x5 rfl rfl 0 rfl (ix3 i s k)
          (fun b hb => by match b with | ⟨0, _⟩ => rfl | ⟨1, _⟩ => rfl | ⟨2, _⟩ => exact absurd rfl hb) (by show 0 + k.val = 0 * 2048 + k.val; omega)
  | 1 => exact concatenate_apply_piece (t := S4x2048x8192) 2 _ _ _ 1 (by simp) S4x2048x2048 x6 rfl rfl 2048 rfl (ix3 i s k)
          (fun b hb => by match b with | ⟨0, _⟩ => rfl | ⟨1, _⟩ => rfl | ⟨2, _⟩ => exact absurd rfl hb) (by show 2048 + k.val = 1 * 2048 + k.val; omega)
  | 2 => exact concatenate_apply_piece (t := S4x2048x8192) 2 _ _ _ 2 (by simp) S4x2048x2048 x7 rfl rfl 4096 rfl (ix3 i s k)
          (fun b hb => by match b with | ⟨0, _⟩ => rfl | ⟨1, _⟩ => rfl | ⟨2, _⟩ => exact absurd rfl hb) (by show 4096 + k.val = 2 * 2048 + k.val; omega)
  | 3 => exact concatenate_apply_piece (t := S4x2048x8192) 2 _ _ _ 3 (by simp) S4x2048x2048 x8 rfl rfl 6144 rfl (ix3 i s k)
          (fun b hb => by match b with | ⟨0, _⟩ => rfl | ⟨1, _⟩ => rfl | ⟨2, _⟩ => exact absurd rfl hb) (by show 6144 + k.val = 3 * 2048 + k.val; omega)

theorem dh_read' (i : Fin 4) (s : Fin 2048) (j : Fin 1024) :
    val_main_v81 (F := Ideal) x4 x5 x6 x7 x8 (ix3 i s j) = dhAt x4 x5 x6 x7 x8 i s j := by
  have el : ∀ k, lidx_main_v81 (ix3 i s j) k = ix3 i s k := fun k => by
    funext a; match a with | ⟨0, _⟩ => rfl | ⟨1, _⟩ => rfl | ⟨2, _⟩ => rfl
  have er : ∀ k, ridx_main_v81 (ix3 i s j) k = ix2 j k := fun k => by
    funext a; match a with | ⟨0, _⟩ => rfl | ⟨1, _⟩ => rfl
  rw [val_main_v81_apply]
  simp only [el, er]
  rw [sum_parts]
  simp only [concat_read]
  rfl

/-- The second result: the gradient times the normalised row, summed over time. -/
theorem second (i : Fin 4) (j : Fin 1024) : val_main_v84 (F := Ideal) x0 x4 x5 x6 x7 x8 (ix3 i 0 j)
    = ∑ s : Fin 2048, dhAt x4 x5 x6 x7 x8 i s j * (row x0 i s j * rstd (row x0 i s)) := by
  have e84 : idx_main_v84 (ix3 i 0 j) = ix2 i j := by
    have := i.isLt; have := j.isLt
    funext a; match a with | ⟨0, _⟩ => exact Fin.ext (by simp [ix3, ix2]; omega) | ⟨1, _⟩ => exact Fin.ext (by simp [ix3, ix2])
  have e83 : ∀ k, idx_main_v83 (ix2 i j) k = ix3 i k j := fun k => by
    funext a; match a with | ⟨0, _⟩ => rfl | ⟨1, _⟩ => rfl | ⟨2, _⟩ => rfl
  rw [val_main_v84_apply, e84, val_main_v83_apply, val_main_cst_17_apply]
  simp only [e83, val_main_v82_apply, norm_read, dh_read']
  show Ideal.ofBits .f32 0x00000000#32 + _ = _
  rw [Ideal.ofBits_zero_f32, zero_add]
  exact Finset.sum_congr rfl fun s _ => mul_comm _ _

/-- The third result: the gradient summed over time. -/
theorem third (i : Fin 4) (j : Fin 1024) : val_main_v36 (F := Ideal) x4 x5 x6 x7 x8 (ix3 i 0 j)
    = ∑ s : Fin 2048, dhAt x4 x5 x6 x7 x8 i s j := by
  have e36 : idx_main_v36 (ix3 i 0 j) = ix2 i j := by
    have := i.isLt; have := j.isLt
    funext a; match a with | ⟨0, _⟩ => exact Fin.ext (by simp [ix3, ix2]; omega) | ⟨1, _⟩ => exact Fin.ext (by simp [ix3, ix2])
  have e35 : ∀ k, idx_main_v35 (ix2 i j) k = ix3 i k j := fun k => by
    funext a; match a with | ⟨0, _⟩ => rfl | ⟨1, _⟩ => rfl | ⟨2, _⟩ => rfl
  rw [val_main_v36_apply, e36, val_main_v35_apply, val_main_cst_8_apply]
  simp only [e35, dh_read]
  show Ideal.ofBits .f32 0x00000000#32 + _ = _
  rw [Ideal.ofBits_zero_f32, zero_add]

end Cert.Norm
end
-- ==== Proof.NormKernel.lean ====
/- Hand-written, untrusted: what the kernel of the norm's gradient computes. One grid point holds 512 rows of one sequence: it
   writes the gradient of each, and adds up over the sequence's four points the gradients of the gain and of the shift. -/
module

public import proofs.«01_k».proof.Proof.Gen.Kernel3Ideal.Value
public import proofs.«01_k».proof.Proof.NormReference
public import proofs.«01_k».proof.Proof.Rows

@[expose] public section

set_option maxRecDepth 16384

noncomputable section

namespace Cert.Norm

open Idealize.ShloMosaic Cert.Finite Cert.Rms Cert.Rows Idealize.ShloMosaic.TcCoe Cert.Kernel3Ideal Cert.Kernel3Ideal.Gen

/-- Row `r` of a block, the one row of a vector, a sequence's scale, and the matrix by rows. -/
abbrev brow (x : (⟨2, ![512, 1024]⟩ : Shape).Idx → EReal) (r : Fin 512) : Fin 1024 → EReal := fun k => x (ix2 r k)
abbrev bwide (x : (⟨2, ![512, 2048]⟩ : Shape).Idx → EReal) (r : Fin 512) : Fin 2048 → EReal := fun k => x (ix2 r k)
abbrev bvec (g : (⟨2, ![1, 1024]⟩ : Shape).Idx → EReal) : Fin 1024 → EReal := fun k => g (ix2 0 k)
abbrev bper (g : (⟨3, ![1, 1, 1024]⟩ : Shape).Idx → EReal) : Fin 1024 → EReal := fun k => g (ix3 0 0 k)

variable (p q s u : Vec Ideal S512x2048 .bf16) (w0 w1 w2 w3 : Vec Ideal S2048x1024 .bf16) (d : FVec Ideal S512x1024 .f32)
  (x ct : Vec Ideal S512x1024 .f32) (g : Vec Ideal S1x1024 .f32) (sc : Vec Ideal S1x1x1024 .f32)

theorem pay5_apply (r : Fin 512) (j : Fin 1024) : k0_pay5 (F := Ideal) p w0 q w1 s w2 u w3 (ix2 r j)
    = (∑ k, bwide p r k * w0 (ix2 k j)) + (∑ k, bwide q r k * w1 (ix2 k j)) + (∑ k, bwide s r k * w2 (ix2 k j)) + ∑ k, bwide u r k * w3 (ix2 k j) := by
  unfold k0_pay5
  pointwise

theorem pay7_apply (r : Fin 512) : k0_pay7 (F := Ideal) x (ix2 r 0) = rstd (brow x r) := by
  unfold k0_pay7 k0_pay6
  pointwise
  rfl

theorem pay9_apply (r : Fin 512) (j : Fin 1024) : k0_pay9 (F := Ideal) (k0_pay6 x) (k0_pay8 x) (ix2 r j) = brow x r j * rstd (brow x r) := by
  unfold k0_pay9 k0_pay8 k0_pay6
  pointwise
  rw [pay7_apply]

theorem pay10_apply (r : Fin 512) (j : Fin 1024) : k0_pay10 (F := Ideal) d (k0_pay6 x) (k0_pay7 x) (k0_pay8 x) g sc ct (ix2 r j)
    = brow ct r j + back (brow x r) (up (brow d r) (bvec g) (bper sc)) j := by
  unfold k0_pay10
  pointwise
  simp only [pay9_apply, pay7_apply]
  rfl

theorem pay11_apply (j : Fin 1024) : k0_pay11 (F := Ideal) d (k0_pay6 x) (k0_pay8 x) (ix2 0 j)
    = ∑ r : Fin 512, brow d r j * (brow x r j * rstd (brow x r)) := by
  unfold k0_pay11
  pointwise
  simp only [pay9_apply]

theorem pay12_apply (j : Fin 1024) : k0_pay12 (F := Ideal) d (ix2 0 j) = ∑ r : Fin 512, brow d r j := by
  unfold k0_pay12
  pointwise

theorem pay1_apply (a : FVec Ideal S1x1024 .f32) (j : Fin 1024) : k0_pay1 (F := Ideal) a (ix3 0 0 j) = a (ix2 0 j) := by
  unfold k0_pay1
  pointwise

theorem pay2_apply (a : FVec Ideal S1x1024 .f32) (j : Fin 1024) : k0_pay2 (F := Ideal) a (ix3 0 0 j) = a (ix2 0 j) := by
  unfold k0_pay2
  pointwise

theorem pay3_apply (a : FVec Ideal S1x1024 .f32) (b : Vec Ideal S1x1x1024 .f32) (j : Fin 1024) :
    k0_pay3 (F := Ideal) a b (ix3 0 0 j) = (b (ix3 0 0 j) : EReal) + a (ix2 0 j) := by
  unfold k0_pay3
  pointwise

theorem pay4_apply (a : FVec Ideal S1x1024 .f32) (b : Vec Ideal S1x1x1024 .f32) (j : Fin 1024) :
    k0_pay4 (F := Ideal) a b (ix3 0 0 j) = (b (ix3 0 0 j) : EReal) + a (ix2 0 j) := by
  unfold k0_pay4
  pointwise

variable (m : (ℓ : Loc nD τ sig) → Buf (Elt Ideal) ℓ)

/-- The arguments' contents. -/
abbrev arg0 (c : Dev nD) : S4x2048x1024.Idx → EReal := m ((c : Thread nD τ).loc main_arg0)
abbrev arg1 (c : Dev nD) : S1024.Idx → EReal := m ((c : Thread nD τ).loc main_arg1)
abbrev arg3 (c : Dev nD) : S4x1x1024.Idx → EReal := m ((c : Thread nD τ).loc main_arg3)
abbrev arg4 (c : Dev nD) : S1024x8192.Idx → EReal := m ((c : Thread nD τ).loc main_arg4)
abbrev arg5 (c : Dev nD) : S4x2048x2048.Idx → EReal := m ((c : Thread nD τ).loc main_arg5)
abbrev arg6 (c : Dev nD) : S4x2048x2048.Idx → EReal := m ((c : Thread nD τ).loc main_arg6)
abbrev arg7 (c : Dev nD) : S4x2048x2048.Idx → EReal := m ((c : Thread nD τ).loc main_arg7)
abbrev arg8 (c : Dev nD) : S4x2048x2048.Idx → EReal := m ((c : Thread nD τ).loc main_arg8)
abbrev arg9 (c : Dev nD) : S4x2048x1024.Idx → EReal := m ((c : Thread nD τ).loc main_arg9)

theorem V_main_v0 (c : Dev nD) (n : Fin 8192) (j : Fin 1024) : V m c main_v0 (ix2 n j) = arg0 m c (ix3 (seq n) (pos n) j) := by
  have e : V m c main_v0 = shapeCast S8192x1024 (arg0 m c) Gen.facts.shapeCasts_S4x2048x1024_S8192x1024 := by
    unfold_abbrev_sides
    after_results <;> rfl
  rw [e]
  exact shapeCast_rows _ _ n j

theorem V_main_v5 (c : Dev nD) (n : Fin 8192) (j : Fin 1024) : V m c main_v5 (ix2 n j) = arg9 m c (ix3 (seq n) (pos n) j) := by
  have e : V m c main_v5 = shapeCast S8192x1024 (arg9 m c) Gen.facts.shapeCasts_S4x2048x1024_S8192x1024 := by
    unfold_abbrev_sides
    after_results <;> rfl
  rw [e]
  exact shapeCast_rows _ _ n j

theorem V_main_v6 (c : Dev nD) (n : Fin 8192) (j : Fin 2048) : V m c main_v6 (ix2 n j) = arg5 m c (ix3 (seq n) (pos n) j) := by
  have e : V m c main_v6 = shapeCast S8192x2048 (arg5 m c) Gen.facts.shapeCasts_S4x2048x2048_S8192x2048 := by
    unfold_abbrev_sides
    after_results <;> rfl
  rw [e]
  exact shapeCast_rows _ _ n j

theorem V_main_v7 (c : Dev nD) (n : Fin 8192) (j : Fin 2048) : V m c main_v7 (ix2 n j) = arg6 m c (ix3 (seq n) (pos n) j) := by
  have e : V m c main_v7 = shapeCast S8192x2048 (arg6 m c) Gen.facts.shapeCasts_S4x2048x2048_S8192x2048 := by
    unfold_abbrev_sides
    after_results <;> rfl
  rw [e]
  exact shapeCast_rows _ _ n j

theorem V_main_v8 (c : Dev nD) (n : Fin 8192) (j : Fin 2048) : V m c main_v8 (ix2 n j) = arg7 m c (ix3 (seq n) (pos n) j) := by
  have e : V m c main_v8 = shapeCast S8192x2048 (arg7 m c) Gen.facts.shapeCasts_S4x2048x2048_S8192x2048 := by
    unfold_abbrev_sides
    after_results <;> rfl
  rw [e]
  exact shapeCast_rows _ _ n j

theorem V_main_v9 (c : Dev nD) (n : Fin 8192) (j : Fin 2048) : V m c main_v9 (ix2 n j) = arg8 m c (ix3 (seq n) (pos n) j) := by
  have e : V m c main_v9 = shapeCast S8192x2048 (arg8 m c) Gen.facts.shapeCasts_S4x2048x2048_S8192x2048 := by
    unfold_abbrev_sides
    after_results <;> rfl
  rw [e]
  exact shapeCast_rows _ _ n j

theorem V_main_v11 (c : Dev nD) (n : Fin 8192) (j : Fin 1024) : V m c main_v11 (ix2 n j) = arg4 m c (ix2 j n) := by
  have e : V m c main_v11 = transpose S8192x1024 [1, 0] (arg4 m c) Gen.facts.transposes_S1024x8192_S8192x1024_1_0 := by
    unfold_abbrev_sides
    after_results <;> rfl
  rw [e]
  pointwise

theorem V_main_v12 (c : Dev nD) (j : Fin 1024) : V m c main_v12 (ix2 0 j) = arg1 m c (ix1 j) := by
  have e : V m c main_v12 = shapeCast S1x1024 (arg1 m c) Gen.facts.shapeCasts_S1024_S1x1024 := by
    unfold_abbrev_sides
    after_results <;> rfl
  rw [e]
  pointwise

theorem V_main_arg3 (c : Dev nD) : V m c main_arg3 = arg3 m c := by
  unfold_abbrev_sides
  after_results <;> rfl

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])
theorem idx7 : ∀ t : Fin cfg0.N, win0_7.index t = ![t.val / 4, 0, 0] := (by decide +kernel : ∀ t : Fin grid0.N, win0_7.index t = ![t.val / 4, 0, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val / 4, 0, 0] := (by decide +kernel : ∀ t : Fin grid0.N, win0_10.index t = ![t.val / 4, 0, 0])
theorem idx11 : ∀ t : Fin cfg0.N, win0_11.index t = ![t.val / 4, 0, 0] := (by decide +kernel : ∀ t : Fin grid0.N, win0_11.index t = ![t.val / 4, 0, 0])

/-- Row `r` of grid point `t`, and the sequence of the point. -/
def rowOf (t : Fin cfg0.N) (r : Fin 512) : Fin 8192 := at512 ⟨t.val, lt_of_lt_of_eq t.isLt N_0⟩ r
def seqOf (t : Fin cfg0.N) : Fin 4 := ⟨t.val / 4, by have := lt_of_lt_of_eq t.isLt N_0; omega⟩

theorem seq_rowOf (t : Fin cfg0.N) (r : Fin 512) : seq (rowOf t r) = seqOf t := by
  have := lt_of_lt_of_eq t.isLt N_0
  exact Fin.ext (by simp only [seq, rowOf, at512, seqOf]; omega)

theorem iblk0_row (c : Dev nD) (t : Fin cfg0.N) (r : Fin 512) :
    bwide (iblk m c 0 t) r = wide (arg5 m c) (seq (rowOf t r)) (pos (rowOf t r)) := funext fun k => by
  show iblk m c 0 t (ix2 r k) = arg5 m c _
  rw [← V_main_v6]
  blk_simp [iblk]
  refine congrArg (V m c main_v6) ?_
  blk_ext [idx0, rowOf, at512]

theorem iblk1_row (c : Dev nD) (t : Fin cfg0.N) (r : Fin 512) :
    bwide (iblk m c 1 t) r = wide (arg6 m c) (seq (rowOf t r)) (pos (rowOf t r)) := funext fun k => by
  show iblk m c 1 t (ix2 r k) = arg6 m c _
  rw [← V_main_v7]
  blk_simp [iblk]
  refine congrArg (V m c main_v7) ?_
  blk_ext [idx1, rowOf, at512]

theorem iblk2_row (c : Dev nD) (t : Fin cfg0.N) (r : Fin 512) :
    bwide (iblk m c 2 t) r = wide (arg7 m c) (seq (rowOf t r)) (pos (rowOf t r)) := funext fun k => by
  show iblk m c 2 t (ix2 r k) = arg7 m c _
  rw [← V_main_v8]
  blk_simp [iblk]
  refine congrArg (V m c main_v8) ?_
  blk_ext [idx2, rowOf, at512]

theorem iblk3_row (c : Dev nD) (t : Fin cfg0.N) (r : Fin 512) :
    bwide (iblk m c 3 t) r = wide (arg8 m c) (seq (rowOf t r)) (pos (rowOf t r)) := funext fun k => by
  show iblk m c 3 t (ix2 r k) = arg8 m c _
  rw [← V_main_v9]
  blk_simp [iblk]
  refine congrArg (V m c main_v9) ?_
  blk_ext [idx3, rowOf, at512]

theorem iblk4_mat (c : Dev nD) (t : Fin cfg0.N) (n : Fin 8192) (j : Fin 1024) : iblk m c 4 t (ix2 n j) = mat (arg4 m c) j n := by
  show iblk m c 4 t (ix2 n j) = arg4 m c _
  rw [← V_main_v11]
  blk_simp [iblk]
  refine congrArg (V m c main_v11) ?_
  blk_ext [idx4]

theorem iblk5_row (c : Dev nD) (t : Fin cfg0.N) (r : Fin 512) :
    brow (iblk m c 5 t) r = row (arg0 m c) (seq (rowOf t r)) (pos (rowOf t r)) := funext fun k => by
  show iblk m c 5 t (ix2 r k) = arg0 m c _
  rw [← V_main_v0]
  blk_simp [iblk]
  refine congrArg (V m c main_v0) ?_
  blk_ext [idx5, rowOf, at512]

theorem iblk6_vec (c : Dev nD) (t : Fin cfg0.N) : bvec (iblk m c 6 t) = vec (arg1 m c) := funext fun k => by
  show iblk m c 6 t (ix2 0 k) = arg1 m c _
  rw [← V_main_v12]
  blk_simp [iblk]
  refine congrArg (V m c main_v12) ?_
  blk_ext [idx6]

theorem iblk7_per (c : Dev nD) (t : Fin cfg0.N) : bper (iblk m c 7 t) = per (arg3 m c) (seqOf t) := funext fun k => by
  show iblk m c 7 t (ix3 0 0 k) = arg3 m c _
  rw [← V_main_arg3]
  blk_simp [iblk]
  refine congrArg (V m c main_arg3) ?_
  blk_ext [idx7, seqOf]

theorem iblk8_row (c : Dev nD) (t : Fin cfg0.N) (r : Fin 512) :
    brow (iblk m c 8 t) r = row (arg9 m c) (seq (rowOf t r)) (pos (rowOf t r)) := funext fun k => by
  show iblk m c 8 t (ix2 r k) = arg9 m c _
  rw [← V_main_v5]
  blk_simp [iblk]
  refine congrArg (V m c main_v5) ?_
  blk_ext [idx8, rowOf, at512]

/-- The gradient `dh` and the result's gradient at sequence `i` and place `s`. -/
def dhOf (c : Dev nD) (i : Fin 4) (s : Fin 2048) : Fin 1024 → EReal := dhAt (arg4 m c) (arg5 m c) (arg6 m c) (arg7 m c) (arg8 m c) i s
def gradAt (c : Dev nD) (i : Fin 4) (s : Fin 2048) (j : Fin 1024) : EReal :=
  row (arg9 m c) i s j + back (row (arg0 m c) i s) (up (dhOf m c i s) (vec (arg1 m c)) (per (arg3 m c) i)) j
def gainAt (c : Dev nD) (j : Fin 1024) (i : Fin 4) (s : Fin 2048) : EReal :=
  dhOf m c i s j * (row (arg0 m c) i s j * rstd (row (arg0 m c) i s))

/-- The gradient `dh` of a grid point's rows. -/
def dhBlk (c : Dev nD) (t : Fin cfg0.N) : FVec Ideal S512x1024 .f32 :=
  k0_pay5 (iblk m c 0 t) (View.ld (iblk m c 4 t) (Rect.unit ![0, 0] ![2048, 1024] Gen.facts.inb_S8192x1024_S2048x1024_0_0))
    (iblk m c 1 t) (View.ld (iblk m c 4 t) (Rect.unit ![2048, 0] ![2048, 1024] Gen.facts.inb_S8192x1024_S2048x1024_2048_0))
    (iblk m c 2 t) (View.ld (iblk m c 4 t) (Rect.unit ![4096, 0] ![2048, 1024] Gen.facts.inb_S8192x1024_S2048x1024_4096_0))
    (iblk m c 3 t) (View.ld (iblk m c 4 t) (Rect.unit ![6144, 0] ![2048, 1024] Gen.facts.inb_S8192x1024_S2048x1024_6144_0))

/-- A part of the matrix, read at a row. -/
theorem part_mat (c : Dev nD) (t : Fin cfg0.N) (n : Fin 4) (o : Nat) (ho : o = n.val * 2048) (h) (k : Fin 2048) (j : Fin 1024) :
    View.ld (iblk m c 4 t) (Rect.unit (s := S8192x1024) ![o, 0] ![2048, 1024] h) (ix2 k j) = mat (arg4 m c) j (at4 n k) := by
  rw [← iblk4_mat m c t]
  subst ho
  refine congrArg (iblk m c 4 t) (funext fun a => ?_)
  match a with
  | ⟨0, _⟩ => exact Fin.ext (by simp [View.ld, Rect.unit, ix2, at4])
  | ⟨1, _⟩ => exact Fin.ext (by simp [View.ld, Rect.unit, ix2])

theorem dhBlk_row (c : Dev nD) (t : Fin cfg0.N) (r : Fin 512) : brow (dhBlk m c t) r = dhOf m c (seq (rowOf t r)) (pos (rowOf t r)) := funext fun j => by
  show k0_pay5 (F := Ideal) _ _ _ _ _ _ _ _ (ix2 r j) = _
  rw [pay5_apply, iblk0_row, iblk1_row, iblk2_row, iblk3_row]
  simp only [part_mat m c t 0 0 rfl, part_mat m c t 1 2048 rfl, part_mat m c t 2 4096 rfl, part_mat m c t 3 6144 rfl]
  rfl

/-- The first result. -/
theorem result9 (c : Dev nD) : (dats m 0 c).arrAt 9 cfg0.N = fun x : S8192x1024.Idx => (gradAt m c (seq (x 0)) (pos (x 0)) (x 1) : EReal) := by
  refine (dats m 0 c).arrAt_eq_of_covers 9 _ (by decide +kernel) fun t hf y => ?_
  obtain ⟨a, b, rfl⟩ : ∃ (a : Fin 512) (b : Fin 1024), y = ix2 a b := ⟨y 0, y 1, (ix2_eta y).symm⟩
  have eg : (((cfg0.win 9).blk t).view.emb (ix2 a b)) = ix2 (rowOf t a) b := by
    blk_ext [idx9, rowOf, at512]
  have fin : k0_pay10 (F := Ideal) (dhBlk m c t) (k0_pay6 (iblk m c 5 t)) (k0_pay7 (iblk m c 5 t)) (k0_pay8 (iblk m c 5 t)) (iblk m c 6 t)
      (iblk m c 7 t) (iblk m c 8 t) (ix2 a b) = gradAt m c (seq (rowOf t a)) (pos (rowOf t a)) b := by
    rw [pay10_apply, dhBlk_row, iblk5_row, iblk6_vec, iblk7_per, iblk8_row, ← seq_rowOf t a]
    rfl
  by_cases h0 : t.val % 4 = 0
  · blk_simp
    rw [after0_9, outsAt0_A m c t h0 (fun h => h h0)]
    dsimp only
    frame_out
    rw [eg]
    exact fin
  · blk_simp
    rw [after0_9, outsAt0_B m c t h0 h0]
    dsimp only
    frame_out
    rw [eg]
    exact fin

/-- The part of a sum over sequence `q` that its grid point `n` adds. -/
def part (f : Fin 4 → Fin 2048 → EReal) (q n : ℕ) : EReal :=
  if h : q < 4 ∧ n < 4 then ∑ r : Fin 512, f ⟨q, h.1⟩ ⟨n * 512 + r.val, by have := r.isLt; omega⟩ else 0

theorem part_point (f : Fin 4 → Fin 2048 → EReal) (t : Fin cfg0.N) :
    part f (t.val / 4) (t.val % 4) = ∑ r : Fin 512, f (seq (rowOf t r)) (pos (rowOf t r)) := by
  have hN := lt_of_lt_of_eq t.isLt N_0
  rw [part, dif_pos (by omega)]
  refine Finset.sum_congr rfl fun r _ => ?_
  rw [seq_rowOf]
  exact congrArg (f _) (Fin.ext (by simp only [pos, rowOf, at512]; omega))

theorem part_all (f : Fin 4 → Fin 2048 → EReal) (q : Fin 4) : ∑ n ∈ Finset.range 4, part f q.val n = ∑ s : Fin 2048, f q s := by
  rw [← sum_seq, Finset.sum_range fun n => part f q.val n]
  refine Finset.sum_congr rfl fun t _ => ?_
  rw [part, dif_pos ⟨q.isLt, t.isLt⟩]

theorem gain_point (c : Dev nD) (t : Fin cfg0.N) (j : Fin 1024) :
    k0_pay11 (F := Ideal) (dhBlk m c t) (k0_pay6 (iblk m c 5 t)) (k0_pay8 (iblk m c 5 t)) (ix2 0 j) = part (gainAt m c j) (t.val / 4) (t.val % 4) := by
  rw [pay11_apply, part_point]
  refine Finset.sum_congr rfl fun r _ => ?_
  rw [dhBlk_row, iblk5_row]
  rfl

theorem shift_point (c : Dev nD) (t : Fin cfg0.N) (j : Fin 1024) :
    k0_pay12 (F := Ideal) (dhBlk m c t) (ix2 0 j) = part (fun i s => dhOf m c i s j) (t.val / 4) (t.val % 4) := by
  rw [pay12_apply, part_point]
  refine Finset.sum_congr rfl fun r _ => ?_
  rw [dhBlk_row]

/-- What the two accumulated results' buffers hold after point `n`. -/
theorem sums (c : Dev nD) (j : Fin 1024) : ∀ (n : ℕ) (hn : n < cfg0.N),
    ((outsAt0 m c n hn).2.1 (ix3 0 0 j) : EReal) = ∑ i ∈ Finset.range (n % 4 + 1), part (gainAt m c j) (n / 4) i
      ∧ ((outsAt0 m c n hn).2.2 (ix3 0 0 j) : EReal) = ∑ i ∈ Finset.range (n % 4 + 1), part (fun i s => dhOf m c i s j) (n / 4) i := by
  intro n
  induction n with
  | zero =>
    intro hn
    rw [outsAt0_A m c ⟨0, hn⟩ (by rfl) (by simp), Finset.sum_range_one, Finset.sum_range_one]
    dsimp only
    refine ⟨?_, ?_⟩
    · frame_out
      exact (pay1_apply _ j).trans (gain_point m c ⟨0, hn⟩ j)
    · frame_out
      exact (pay2_apply _ j).trans (shift_point m c ⟨0, hn⟩ j)
  | succ n ih =>
    intro hn
    by_cases h0 : (n + 1) % 4 = 0
    · rw [h0, zero_add, Finset.sum_range_one, Finset.sum_range_one, outsAt0_A m c ⟨n + 1, hn⟩ h0 (fun h => h h0)]
      have e1 := gain_point m c ⟨n + 1, hn⟩ j
      have e2 := shift_point m c ⟨n + 1, hn⟩ j
      simp only [h0] at e1 e2
      dsimp only
      refine ⟨?_, ?_⟩
      · frame_out
        exact (pay1_apply _ j).trans e1
      · frame_out
        exact (pay2_apply _ j).trans e2
    · obtain ⟨i1, i2⟩ := ih (by omega)
      rw [show n % 4 + 1 = (n + 1) % 4 by omega, show n / 4 = (n + 1) / 4 by omega] at i1 i2
      rw [outsAt0_B m c ⟨n + 1, hn⟩ h0 h0, Finset.sum_range_succ (part (gainAt m c j) _), Finset.sum_range_succ (part (fun i s => dhOf m c i s j) _)]
      dsimp only
      refine ⟨?_, ?_⟩
      · frame_out
        refine (pay3_apply _ _ j).trans ?_
        exact congrArg₂ (· + ·) i1 (gain_point m c ⟨n + 1, hn⟩ j)
      · frame_out
        refine (pay4_apply _ _ j).trans ?_
        exact congrArg₂ (· + ·) i2 (shift_point m c ⟨n + 1, hn⟩ j)

/-- An index of a block of one row. -/
theorem one_eta (y : S1x1x1024.Idx) : ∃ b : Fin 1024, y = ix3 (0 : Fin 1) (0 : Fin 1) b :=
  ⟨y 2, funext fun a => match a with
    | ⟨0, _⟩ => Subsingleton.elim (α := Fin 1) _ _
    | ⟨1, _⟩ => Subsingleton.elim (α := Fin 1) _ _
    | ⟨2, _⟩ => rfl⟩

/-- The second result. -/
theorem result10 (c : Dev nD) : (dats m 0 c).arrAt 10 cfg0.N = fun x : S4x1x1024.Idx => (∑ s : Fin 2048, gainAt m c (x 2) (x 0) s : EReal) := by
  refine (dats m 0 c).arrAt_eq_of_covers 10 _ (by decide +kernel) fun t hf y => ?_
  have h3 : t.val % 4 = 3 := (by decide +kernel : ∀ t : Fin grid0.N, win0_10.flush t = true → t.val % 4 = 3) t hf
  obtain ⟨b, rfl⟩ := one_eta y
  have eg : (((cfg0.win 10).blk t).view.emb (ix3 0 0 b)) = ix3 (seqOf t) 0 b := by
    blk_ext [idx10, seqOf]
  have e := (sums m c b t.val t.isLt).1
  rw [h3] at e
  blk_simp
  rw [after0_10, eg]
  exact e.trans (part_all _ (seqOf t))

/-- The third result. -/
theorem result11 (c : Dev nD) : (dats m 0 c).arrAt 11 cfg0.N = fun x : S4x1x1024.Idx => (∑ s : Fin 2048, dhOf m c (x 0) s (x 2) : EReal) := by
  refine (dats m 0 c).arrAt_eq_of_covers 11 _ (by decide +kernel) fun t hf y => ?_
  have h3 : t.val % 4 = 3 := (by decide +kernel : ∀ t : Fin grid0.N, win0_11.flush t = true → t.val % 4 = 3) t hf
  obtain ⟨b, rfl⟩ := one_eta y
  have eg : (((cfg0.win 11).blk t).view.emb (ix3 0 0 b)) = ix3 (seqOf t) 0 b := by
    blk_ext [idx11, seqOf]
  have e := (sums m c b t.val t.isLt).2
  rw [h3] at e
  blk_simp
  rw [after0_11, eg]
  exact e.trans (part_all (fun i s => dhOf m c i s b) (seqOf t))

end Cert.Norm
end
-- ==== Proof.NormProof.lean ====
/- Hand-written, untrusted: the claims about the norm's gradient. -/
module

public import proofs.«01_k».proof.Defs
public import proofs.«01_k».proof.Proof.Gen.Kernel3.Frame
public import proofs.«01_k».proof.Proof.NormKernel
public import proofs.«01_k».proof.Proof.Gen.Reference3Ideal.Run

@[expose] public section

set_option maxRecDepth 16384

noncomputable section

namespace Cert.Norm

open Idealize.ShloMosaic Idealize.ShloMosaic.TcCoe Cert.Kernel3Ideal Cert.Kernel3Ideal.Gen Cert.Rows

/-- The reference's frame. -/
theorem frame_reference : Cert.quiescent_Reference3Ideal := fun m ρ _ =>
  (θ_run Cert.Reference3Ideal.defs _ _).mono (fun r h => ⟨fun c => (h c).2.2.2, funext fun s => nomatch s.2⟩) (Cert.Reference3Ideal.Value.run (F := Ideal) m ρ)

theorem frame_kernel : Cert.quiescent_Kernel3 := fun m ρ _ => Cert.Kernel3.Gen.frame m ρ
theorem frame_ideal : Cert.quiescent_Kernel3Ideal := fun m ρ _ => Cert.Kernel3Ideal.Gen.frame m ρ

/-- The reference's rows as one list. -/
theorem idx85 (n : Fin 8192) (j : Fin 1024) : Cert.Reference3Ideal.Read.idx_main_v85 (ix2 n j) = ix3 (seq n) (pos n) j := by
  have := n.isLt
  have := j.isLt
  funext a
  match a with
  | ⟨0, _⟩ => exact Fin.ext (by simp [ix2, ix3, seq]; omega)
  | ⟨1, _⟩ => exact Fin.ext (by simp [ix2, ix3, pos]; omega)
  | ⟨2, _⟩ => exact Fin.ext (by simp [ix2, ix3])

/-- An index of a result with one row a sequence. -/
theorem per_eta (x : S4x1x1024.Idx) : ∃ (i : Fin 4) (j : Fin 1024), x = ix3 i (0 : Fin 1) j :=
  ⟨x 0, x 2, by rw [← show x 1 = (0 : Fin 1) from Subsingleton.elim (α := Fin 1) _ _]; exact (ix3_eta x).symm⟩

/-- Kernel and reference compute the same arrays. -/
theorem equal : Cert.algebraic_Kernel3Ideal_Reference3Ideal := by
  intro m g m' g' _ hargs
  refine ⟨fun c => (dats m 0 c).arrAt 9 cfg0.N, fun c => (dats m 0 c).arrAt 10 cfg0.N, fun c => (dats m 0 c).arrAt 11 cfg0.N,
    Cert.Kernel3Ideal.Value.run_blocks m g,
    (θ_run Cert.Reference3Ideal.defs _ _).mono (fun r h c => ?_) (Cert.Reference3Ideal.Value.run (F := Ideal) m' g')⟩
  obtain ⟨a0, a1, a2, a3, a4, a5, a6, a7, a8, a9⟩ := hargs c
  refine ⟨(h c).1.trans ?_, (h c).2.1.trans ?_, (h c).2.2.1.trans ?_, (h c).2.2.2⟩
  · rw [Cert.Reference3Ideal.Read.val_main_v85_eq, a0, a1, a3, a4, a5, a6, a7, a8, a9]
    refine Eq.trans ?_ (result9 m c).symm
    funext x
    obtain ⟨n, j, rfl⟩ : ∃ (n : Fin 8192) (j : Fin 1024), x = ix2 n j := ⟨x 0, x 1, (ix2_eta x).symm⟩
    rw [Cert.Reference3Ideal.Read.val_main_v85_apply, idx85]
    exact first _ _ _ _ _ _ _ _ _ _ _ j
  · rw [Cert.Reference3Ideal.Read.val_main_v84_eq, a0, a4, a5, a6, a7, a8]
    refine Eq.trans ?_ (result10 m c).symm
    funext x
    obtain ⟨i, j, rfl⟩ := per_eta x
    exact second _ _ _ _ _ _ i j
  · rw [Cert.Reference3Ideal.Read.val_main_v36_eq, a4, a5, a6, a7, a8]
    refine Eq.trans ?_ (result11 m c).symm
    funext x
    obtain ⟨i, j, rfl⟩ := per_eta x
    exact third _ _ _ _ _ i j

end Cert.Norm
end
-- ==== Proof.GateReference.lean ====
/- Hand-written, untrusted: what the reference of the output gate's gradient computes. With `s` the logistic of the gate's
   input `z`, the branch is `o * (z * s)` times a matrix; its gradients by `o` and `z` and the gradients around the residual sum. -/
module

public import proofs.«01_k».proof.Proof.Gen.Reference4Ideal.Read
public import proofs.«01_k».proof.Proof.Finite
public import Idealize.ShloMosaic.Lib.Pipeline.ValueKit

@[expose] public section

set_option maxRecDepth 16384

noncomputable section

namespace Cert.Gate

open Idealize.ShloMosaic Cert.Finite

/-- The logistic function. -/
def sgm (z : EReal) : EReal := Ideal.div 1 (1 + Ideal.exp (-z))

theorem sgm_top : sgm ⊤ = 1 := by
  rw [sgm, EReal.neg_top, exp_bot, add_zero, div_one]

theorem sgm_bot : sgm ⊥ = 0 := by
  rw [sgm, EReal.neg_bot, exp_top, show (1 : EReal) + ⊤ = ⊤ from EReal.coe_add_top 1, div_top]

theorem sgm_coe (r : ℝ) : ∃ t : ℝ, sgm r = t := by
  refine ⟨1 / (1 + Real.exp (-r)), ?_⟩
  have h : (1 : ℝ) + Real.exp (-r) ≠ 0 := by positivity
  rw [sgm, ← EReal.coe_neg, exp_coe, ← EReal.coe_one, ← EReal.coe_add, div_coe _ h]

/-- The derivative of `z * sgm z`, in the two ways it is written. -/
theorem silu_back (a : ℝ) (z : EReal) : a * sgm z + z * a * (sgm z * (1 - sgm z)) = a * (sgm z * (1 + z * (1 - sgm z))) := by
  have e : (1 : EReal) - 1 = 0 := by rw [← EReal.coe_one, ← EReal.coe_sub, sub_self, EReal.coe_zero]
  induction z with
  | bot => simp only [sgm_bot, mul_zero, zero_mul, add_zero]
  | top => simp only [sgm_top, e, mul_zero, mul_one, add_zero]
  | coe r =>
    obtain ⟨t, ht⟩ := sgm_coe r
    rw [ht]
    simp only [← EReal.coe_one, ← EReal.coe_sub, ← EReal.coe_mul, ← EReal.coe_add]
    congr 1
    ring

open Cert.Reference4Ideal Cert.Reference4Ideal.Read

variable (x0 x1 : S4x2048x2048.Idx → EReal) (x2 : S2048x1024.Idx → EReal) (x3 : S4x1x1024.Idx → EReal) (x4 : S4x2048x1024.Idx → EReal)

/-- The gradient of the branch's output, and of its gated input. -/
def dy (i : Fin 4) (s : Fin 2048) (j : Fin 1024) : EReal := x4 (ix3 i s j) * x3 (ix3 i 0 j)
def du (i : Fin 4) (s : Fin 2048) (k : Fin 2048) : EReal := ∑ j, dy x3 x4 i s j * x2 (ix2 k j)

theorem du_real (h2 : ∀ x, ∃ r : ℝ, x2 x = r) (h3 : ∀ x, ∃ r : ℝ, x3 x = r) (h4 : ∀ x, ∃ r : ℝ, x4 x = r) (i : Fin 4) (s k : Fin 2048) :
    ∃ r : ℝ, du x2 x3 x4 i s k = r := by
  choose f2 h2 using h2
  choose f3 h3 using h3
  choose f4 h4 using h4
  refine ⟨∑ j, f4 (ix3 i s j) * f3 (ix3 i 0 j) * f2 (ix2 k j), ?_⟩
  rw [coe_sum]
  refine Finset.sum_congr rfl fun j _ => ?_
  rw [dy, h2, h3, h4, ← EReal.coe_mul, ← EReal.coe_mul]

theorem logistic_read (x : S4x2048x2048.Idx) : val_main_v0_2 (F := Ideal) x1 x = sgm (x1 x) := by
  simp only [val_main_v0_2_apply, val_main_call0_v4_apply, val_main_call0_v3_apply, val_main_call0_v2_apply, val_main_call0_v1_apply,
    val_main_call0_v0_apply, val_main_call0_cst_apply, val_main_call0_cst_0_apply]
  show Ideal.div (Ideal.ofBits .f32 0x3F800000#32) (Ideal.ofBits .f32 0x3F800000#32 + Ideal.exp (-(x1 x))) = _
  rw [Ideal.ofBits_one_f32]
  rfl

theorem silu_read (x : S4x2048x2048.Idx) : val_main_v0_0 (F := Ideal) x1 x = x1 x * sgm (x1 x) := by
  rw [val_main_v0_0_apply, logistic_read]
  rfl

theorem dy_read (i : Fin 4) (s : Fin 2048) (j : Fin 1024) : val_main_v6 (F := Ideal) x3 x4 (ix3 i s j) = dy x3 x4 i s j := by
  have e : idx_main_v5 (ix3 i s j) = ix3 i 0 j := by funext a; match a with | ⟨0, _⟩ => rfl | ⟨1, _⟩ => rfl | ⟨2, _⟩ => rfl
  rw [val_main_v6_apply, val_main_v5_apply, e]
  exact mul_comm _ _

theorem du_read (i : Fin 4) (s k : Fin 2048) : val_main_v10 (F := Ideal) x2 x3 x4 (ix3 i s k) = du x2 x3 x4 i s k := by
  have el : ∀ j, lidx_main_v10 (ix3 i s k) j = ix3 i s j := fun j => by
    funext a; match a with | ⟨0, _⟩ => rfl | ⟨1, _⟩ => rfl | ⟨2, _⟩ => rfl
  have er : ∀ j, ridx_main_v10 (ix3 i s k) j = ix2 k j := fun j => by
    funext a; match a with | ⟨0, _⟩ => rfl | ⟨1, _⟩ => rfl
  rw [val_main_v10_apply]
  simp only [el, er, dy_read]
  rfl

/-- The gradient of `o`. -/
theorem first (i : Fin 4) (s k : Fin 2048) :
    val_main_v12 (F := Ideal) x1 x2 x3 x4 (ix3 i s k) = du x2 x3 x4 i s k * (x1 (ix3 i s k) * sgm (x1 (ix3 i s k))) := by
  rw [val_main_v12_apply, du_read, silu_read]
  rfl

/-- The gradient of the gate's input. -/
theorem second (h0 : ∀ x, ∃ r : ℝ, x0 x = r) (hd : ∀ i s k, ∃ r : ℝ, du x2 x3 x4 i s k = r) (i : Fin 4) (s k : Fin 2048) :
    val_main_v13 (F := Ideal) x0 x1 x2 x3 x4 (ix3 i s k)
      = du x2 x3 x4 i s k * x0 (ix3 i s k) * (sgm (x1 (ix3 i s k)) * (1 + x1 (ix3 i s k) * (1 - sgm (x1 (ix3 i s k))))) := by
  rw [val_main_v13_apply, val_main_call1_v1_apply, val_main_call1_v2_apply, val_main_call1_v0_apply, val_main_v0_1_apply, val_main_call0_v7_apply,
    val_main_call0_v6_apply, val_main_call0_cst_1_apply, val_main_v11_apply, logistic_read, du_read]
  obtain ⟨a, ha⟩ := h0 (ix3 i s k)
  obtain ⟨b, hb⟩ := hd i s k
  show x0 (ix3 i s k) * _ * _ + x1 (ix3 i s k) * (x0 (ix3 i s k) * _) * (_ * (Ideal.ofBits .f32 0x3F800000#32 - _)) = _
  rw [Ideal.ofBits_one_f32, ha, hb, ← EReal.coe_mul, ← EReal.coe_mul, mul_comm b a]
  exact silu_back _ _

/-- The gradient of the residual gate: the cotangent times the branch's output, summed over time. -/
theorem fourth (i : Fin 4) (j : Fin 1024) : val_main_v9 (F := Ideal) x0 x1 x2 x4 (ix3 i 0 j)
    = ∑ s : Fin 2048, x4 (ix3 i s j) * val_main_v2 (F := Ideal) x0 x1 x2 (ix3 i s j) := by
  have e9 : idx_main_v9 (ix3 i 0 j) = ix2 i j := by
    have := i.isLt; have := j.isLt
    funext a; match a with | ⟨0, _⟩ => exact Fin.ext (by simp [ix3, ix2]; omega) | ⟨1, _⟩ => exact Fin.ext (by simp [ix3, ix2])
  have e8 : ∀ k, idx_main_v8 (ix2 i j) k = ix3 i k j := fun k => by
    funext a; match a with | ⟨0, _⟩ => rfl | ⟨1, _⟩ => rfl | ⟨2, _⟩ => rfl
  rw [val_main_v9_apply, e9, val_main_v8_apply, val_main_cst_apply]
  simp only [e8, val_main_v7_apply]
  show Ideal.ofBits .f32 0x00000000#32 + _ = _
  rw [Ideal.ofBits_zero_f32, zero_add]
  rfl

end Cert.Gate
end
-- ==== Proof.GateKernel.lean ====
/- Hand-written, untrusted: what the kernel of the output gate's gradient computes. One grid point holds 256 rows of one
   sequence: it writes the gradients of each row, and adds up over the sequence's eight points the residual gate's gradient. -/
module

public import proofs.«01_k».proof.Proof.Gen.Kernel4Ideal.Value
public import proofs.«01_k».proof.Proof.GateReference
public import proofs.«01_k».proof.Proof.Rows

@[expose] public section

set_option maxRecDepth 16384

noncomputable section

namespace Cert.Gate

open Idealize.ShloMosaic Cert.Finite Cert.Rows Idealize.ShloMosaic.TcCoe Cert.Kernel4Ideal Cert.Kernel4Ideal.Gen

section
variable (d y : Vec Ideal S256x1024 .f32) (g : Vec Ideal S1x1x1024 .f32) (w : Vec Ideal S2048x1024 .bf16) (z o : Vec Ideal S256x2048 .f32)

theorem pay1_apply (r : Fin 256) (j : Fin 1024) : k0_pay1 (F := Ideal) (k0_pay7 d) g (ix2 r j) = (d (ix2 r j) : EReal) * g (ix3 0 0 j) := by
  unfold k0_pay1 k0_pay7
  pointwise

theorem pay2_apply (r : Fin 256) (k : Fin 2048) :
    k0_pay2 (F := Ideal) (k0_pay7 d) g w (ix2 r k) = ∑ j : Fin 1024, (d (ix2 r j) : EReal) * g (ix3 0 0 j) * w (ix2 k j) := by
  unfold k0_pay2
  pointwise
  simp only [pay1_apply]

theorem pay4_apply (x : S256x2048.Idx) : k0_pay4 (F := Ideal) z x = sgm (z x) := by
  unfold k0_pay4 k0_pay3
  pointwise
  rw [zero_sub]
  rfl

theorem pay5_apply (r : Fin 256) (k : Fin 2048) : k0_pay5 (F := Ideal) (k0_pay7 d) g w z (ix2 r k)
    = (∑ j : Fin 1024, (d (ix2 r j) : EReal) * g (ix3 0 0 j) * w (ix2 k j)) * (z (ix2 r k) * sgm (z (ix2 r k))) := by
  unfold k0_pay5 k0_pay3
  pointwise
  rw [pay2_apply, pay4_apply]

theorem pay6_apply (r : Fin 256) (k : Fin 2048) : k0_pay6 (F := Ideal) (k0_pay7 d) g w z o (ix2 r k)
    = (∑ j : Fin 1024, (d (ix2 r j) : EReal) * g (ix3 0 0 j) * w (ix2 k j)) * o (ix2 r k)
      * (sgm (z (ix2 r k)) * (1 + z (ix2 r k) * (1 - sgm (z (ix2 r k))))) := by
  unfold k0_pay6 k0_pay3
  pointwise
  rw [pay2_apply, pay4_apply]

/-- The sum over a block's rows of the products in column `j`. -/
def prod (d y : S256x1024.Idx → EReal) (j : Fin 1024) : EReal := ∑ r : Fin 256, d (ix2 r j) * y (ix2 r j)

theorem pay8_apply (j : Fin 1024) : k0_pay8 (F := Ideal) d y (ix2 0 j) = prod d y j := by
  unfold k0_pay8 k0_pay7
  pointwise
  rfl

theorem pay9_apply (j : Fin 1024) : k0_pay9 (F := Ideal) d y (ix3 0 0 j) = prod d y j := by
  unfold k0_pay9
  pointwise
  exact pay8_apply d y j

theorem pay10_apply (b : Vec Ideal S1x1x1024 .f32) (j : Fin 1024) :
    k0_pay10 (F := Ideal) d y b (ix3 0 0 j) = (b (ix3 0 0 j) : EReal) + prod d y j := by
  unfold k0_pay10
  pointwise
  rw [pay8_apply]

end

variable (m : (ℓ : Loc nD τ sig) → Buf (Elt Ideal) ℓ)

/-- The arguments' contents. -/
abbrev arg0 (c : Dev nD) : S4x2048x2048.Idx → EReal := m ((c : Thread nD τ).loc main_arg0)
abbrev arg1 (c : Dev nD) : S4x2048x2048.Idx → EReal := m ((c : Thread nD τ).loc main_arg1)
abbrev arg2 (c : Dev nD) : S2048x1024.Idx → EReal := m ((c : Thread nD τ).loc main_arg2)
abbrev arg3 (c : Dev nD) : S4x1x1024.Idx → EReal := m ((c : Thread nD τ).loc main_arg3)
abbrev arg4 (c : Dev nD) : S4x2048x1024.Idx → EReal := m ((c : Thread nD τ).loc main_arg4)

/-- The branch's output, as the host lines before the kernel compute it. -/
def y (c : Dev nD) : S4x2048x1024.Idx → EReal := Cert.Reference4Ideal.Read.val_main_v2 (F := Ideal) (arg0 m c) (arg1 m c) (arg2 m c)

theorem V_main_v3 (c : Dev nD) (n : Fin 8192) (j : Fin 2048) : V m c main_v3 (ix2 n j) = arg0 m c (ix3 (seq n) (pos n) j) := by
  have e : V m c main_v3 = shapeCast S8192x2048 (arg0 m c) Gen.facts.shapeCasts_S4x2048x2048_S8192x2048 := by
    simp only [V, hostOps0, hostOps0_1, List.flatten_cons, List.flatten_nil, List.append_nil, List.cons_append, List.nil_append]
    after_results <;> rfl
  rw [e]
  exact shapeCast_rows _ _ n j

theorem V_main_v4 (c : Dev nD) (n : Fin 8192) (j : Fin 2048) : V m c main_v4 (ix2 n j) = arg1 m c (ix3 (seq n) (pos n) j) := by
  have e : V m c main_v4 = shapeCast S8192x2048 (arg1 m c) Gen.facts.shapeCasts_S4x2048x2048_S8192x2048 := by
    simp only [V, hostOps0, hostOps0_1, List.flatten_cons, List.flatten_nil, List.append_nil, List.cons_append, List.nil_append]
    after_results <;> rfl
  rw [e]
  exact shapeCast_rows _ _ n j

theorem V_main_v5 (c : Dev nD) (n : Fin 8192) (j : Fin 1024) : V m c main_v5 (ix2 n j) = y m c (ix3 (seq n) (pos n) j) := by
  have e : V m c main_v5 = shapeCast S8192x1024 (y m c) Gen.facts.shapeCasts_S4x2048x1024_S8192x1024 := by
    simp only [V, hostOps0, hostOps0_1, List.flatten_cons, List.flatten_nil, List.append_nil, List.cons_append, List.nil_append]
    after_results <;> rfl
  rw [e]
  exact shapeCast_rows _ _ n j

theorem V_main_v6 (c : Dev nD) (n : Fin 8192) (j : Fin 1024) : V m c main_v6 (ix2 n j) = arg4 m c (ix3 (seq n) (pos n) j) := by
  have e : V m c main_v6 = shapeCast S8192x1024 (arg4 m c) Gen.facts.shapeCasts_S4x2048x1024_S8192x1024 := by
    simp only [V, hostOps0, hostOps0_1, List.flatten_cons, List.flatten_nil, List.append_nil, List.cons_append, List.nil_append]
    after_results <;> rfl
  rw [e]
  exact shapeCast_rows _ _ n j

theorem V_main_v7 (c : Dev nD) : V m c main_v7 = arg2 m c := by
  simp only [V, hostOps0, hostOps0_1, List.flatten_cons, List.flatten_nil, List.append_nil, List.cons_append, List.nil_append]
  after_results <;> rfl

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val / 8, 0, 0] := (by decide +kernel : ∀ t : Fin grid0.N, win0_2.index t = ![t.val / 8, 0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val / 8, 0, 0] := (by decide +kernel : ∀ t : Fin grid0.N, win0_9.index t = ![t.val / 8, 0, 0])

/-- Row `r` of grid point `t`, and the sequence of the point. -/
def rowOf (t : Fin cfg0.N) (r : Fin 256) : Fin 8192 := at256 ⟨t.val, lt_of_lt_of_eq t.isLt N_0⟩ r
def seqOf (t : Fin cfg0.N) : Fin 4 := ⟨t.val / 8, by have := lt_of_lt_of_eq t.isLt N_0; omega⟩

theorem seq_rowOf (t : Fin cfg0.N) (r : Fin 256) : seq (rowOf t r) = seqOf t := by
  have := lt_of_lt_of_eq t.isLt N_0
  exact Fin.ext (by simp only [seq, rowOf, at256, seqOf]; omega)

theorem iblk0_at (c : Dev nD) (t : Fin cfg0.N) (r : Fin 256) (k : Fin 1024) :
    iblk m c 0 t (ix2 r k) = arg4 m c (ix3 (seqOf t) (pos (rowOf t r)) k) := by
  rw [← seq_rowOf t r, ← V_main_v6]
  blk_simp [iblk]
  refine congrArg (V m c main_v6) ?_
  blk_ext [idx0, rowOf, at256]

theorem iblk1_at (c : Dev nD) (t : Fin cfg0.N) (r : Fin 256) (k : Fin 1024) :
    iblk m c 1 t (ix2 r k) = y m c (ix3 (seqOf t) (pos (rowOf t r)) k) := by
  rw [← seq_rowOf t r, ← V_main_v5]
  blk_simp [iblk]
  refine congrArg (V m c main_v5) ?_
  blk_ext [idx1, rowOf, at256]

theorem iblk4_at (c : Dev nD) (t : Fin cfg0.N) (r : Fin 256) (k : Fin 2048) :
    iblk m c 4 t (ix2 r k) = arg0 m c (ix3 (seqOf t) (pos (rowOf t r)) k) := by
  rw [← seq_rowOf t r, ← V_main_v3]
  blk_simp [iblk]
  refine congrArg (V m c main_v3) ?_
  blk_ext [idx4, rowOf, at256]

theorem iblk5_at (c : Dev nD) (t : Fin cfg0.N) (r : Fin 256) (k : Fin 2048) :
    iblk m c 5 t (ix2 r k) = arg1 m c (ix3 (seqOf t) (pos (rowOf t r)) k) := by
  rw [← seq_rowOf t r, ← V_main_v4]
  blk_simp [iblk]
  refine congrArg (V m c main_v4) ?_
  blk_ext [idx5, rowOf, at256]

theorem iblk2_at (c : Dev nD) (t : Fin cfg0.N) (k : Fin 1024) : iblk m c 2 t (ix3 0 0 k) = arg3 m c (ix3 (seqOf t) 0 k) := by
  rw [show arg3 m c = V m c main_arg3 from (V_main_arg3 m c).symm]
  blk_simp [iblk]
  refine congrArg (V m c main_arg3) ?_
  blk_ext [idx2, seqOf]

theorem iblk3_at (c : Dev nD) (t : Fin cfg0.N) (k : Fin 2048) (j : Fin 1024) : iblk m c 3 t (ix2 k j) = arg2 m c (ix2 k j) := by
  rw [← V_main_v7]
  blk_simp [iblk]
  refine congrArg (V m c main_v7) ?_
  blk_ext [idx3]

/-- The gradients of `o` and of `z`, and the terms of the residual gate's gradient. -/
abbrev outGrad (c : Dev nD) (i : Fin 4) (s : Fin 2048) (k : Fin 2048) : EReal := du (arg2 m c) (arg3 m c) (arg4 m c) i s k
def oGrad (c : Dev nD) (i : Fin 4) (s : Fin 2048) (k : Fin 2048) : EReal :=
  outGrad m c i s k * (arg1 m c (ix3 i s k) * sgm (arg1 m c (ix3 i s k)))
def zGrad (c : Dev nD) (i : Fin 4) (s : Fin 2048) (k : Fin 2048) : EReal :=
  outGrad m c i s k * arg0 m c (ix3 i s k) * (sgm (arg1 m c (ix3 i s k)) * (1 + arg1 m c (ix3 i s k) * (1 - sgm (arg1 m c (ix3 i s k)))))
def yGrad (c : Dev nD) (i : Fin 4) (s : Fin 2048) (j : Fin 1024) : EReal := dy (arg3 m c) (arg4 m c) i s j
def gateAt (c : Dev nD) (j : Fin 1024) (i : Fin 4) (s : Fin 2048) : EReal := arg4 m c (ix3 i s j) * y m c (ix3 i s j)

theorem oGrad_point (c : Dev nD) (t : Fin cfg0.N) (a : Fin 256) (b : Fin 2048) :
    k0_pay5 (F := Ideal) (k0_pay7 (iblk m c 0 t)) (iblk m c 2 t) (iblk m c 3 t) (iblk m c 5 t) (ix2 a b) = oGrad m c (seqOf t) (pos (rowOf t a)) b := by
  rw [pay5_apply, iblk5_at]
  simp only [iblk0_at, iblk2_at, iblk3_at]
  rfl

theorem zGrad_point (c : Dev nD) (t : Fin cfg0.N) (a : Fin 256) (b : Fin 2048) :
    k0_pay6 (F := Ideal) (k0_pay7 (iblk m c 0 t)) (iblk m c 2 t) (iblk m c 3 t) (iblk m c 5 t) (iblk m c 4 t) (ix2 a b)
      = zGrad m c (seqOf t) (pos (rowOf t a)) b := by
  rw [pay6_apply, iblk5_at, iblk4_at]
  simp only [iblk0_at, iblk2_at, iblk3_at]
  rfl

theorem yGrad_point (c : Dev nD) (t : Fin cfg0.N) (a : Fin 256) (b : Fin 1024) :
    k0_pay1 (F := Ideal) (k0_pay7 (iblk m c 0 t)) (iblk m c 2 t) (ix2 a b) = yGrad m c (seqOf t) (pos (rowOf t a)) b := by
  rw [pay1_apply, iblk0_at, iblk2_at]
  rfl

/-- The first result. -/
theorem result6 (c : Dev nD) : (dats m 0 c).arrAt 6 cfg0.N = fun x : S8192x2048.Idx => (oGrad m c (seq (x 0)) (pos (x 0)) (x 1) : EReal) := by
  refine (dats m 0 c).arrAt_eq_of_covers 6 _ (by decide +kernel) fun t hf y => ?_
  obtain ⟨a, b, rfl⟩ : ∃ (a : Fin 256) (b : Fin 2048), y = ix2 a b := ⟨y 0, y 1, (ix2_eta y).symm⟩
  have eg : (((cfg0.win 6).blk t).view.emb (ix2 a b)) = ix2 (rowOf t a) b := by
    blk_ext [idx6, rowOf, at256]
  have fin : k0_pay5 (F := Ideal) (k0_pay7 (iblk m c 0 t)) (iblk m c 2 t) (iblk m c 3 t) (iblk m c 5 t) (ix2 a b) = oGrad m c (seq (rowOf t a)) (pos (rowOf t a)) b := by
    rw [seq_rowOf]
    exact oGrad_point m c t a b
  by_cases h0 : t.val % 8 = 0
  · blk_simp
    rw [after0_6, outsAt0_A m c t h0 (fun h => h h0)]
    dsimp only
    frame_out
    rw [eg]
    exact fin
  · blk_simp
    rw [after0_6, outsAt0_B m c t h0 h0]
    dsimp only
    frame_out
    rw [eg]
    exact fin

/-- The second result. -/
theorem result7 (c : Dev nD) : (dats m 0 c).arrAt 7 cfg0.N = fun x : S8192x2048.Idx => (zGrad m c (seq (x 0)) (pos (x 0)) (x 1) : EReal) := by
  refine (dats m 0 c).arrAt_eq_of_covers 7 _ (by decide +kernel) fun t hf y => ?_
  obtain ⟨a, b, rfl⟩ : ∃ (a : Fin 256) (b : Fin 2048), y = ix2 a b := ⟨y 0, y 1, (ix2_eta y).symm⟩
  have eg : (((cfg0.win 7).blk t).view.emb (ix2 a b)) = ix2 (rowOf t a) b := by
    blk_ext [idx7, rowOf, at256]
  have fin : k0_pay6 (F := Ideal) (k0_pay7 (iblk m c 0 t)) (iblk m c 2 t) (iblk m c 3 t) (iblk m c 5 t) (iblk m c 4 t) (ix2 a b) = zGrad m c (seq (rowOf t a)) (pos (rowOf t a)) b := by
    rw [seq_rowOf]
    exact zGrad_point m c t a b
  by_cases h0 : t.val % 8 = 0
  · blk_simp
    rw [after0_7, outsAt0_A m c t h0 (fun h => h h0)]
    dsimp only
    frame_out
    rw [eg]
    exact fin
  · blk_simp
    rw [after0_7, outsAt0_B m c t h0 h0]
    dsimp only
    frame_out
    rw [eg]
    exact fin

/-- The third result. -/
theorem result8 (c : Dev nD) : (dats m 0 c).arrAt 8 cfg0.N = fun x : S8192x1024.Idx => (yGrad m c (seq (x 0)) (pos (x 0)) (x 1) : EReal) := by
  refine (dats m 0 c).arrAt_eq_of_covers 8 _ (by decide +kernel) fun t hf y => ?_
  obtain ⟨a, b, rfl⟩ : ∃ (a : Fin 256) (b : Fin 1024), y = ix2 a b := ⟨y 0, y 1, (ix2_eta y).symm⟩
  have eg : (((cfg0.win 8).blk t).view.emb (ix2 a b)) = ix2 (rowOf t a) b := by
    blk_ext [idx8, rowOf, at256]
  have fin : k0_pay1 (F := Ideal) (k0_pay7 (iblk m c 0 t)) (iblk m c 2 t) (ix2 a b) = yGrad m c (seq (rowOf t a)) (pos (rowOf t a)) b := by
    rw [seq_rowOf]
    exact yGrad_point m c t a b
  by_cases h0 : t.val % 8 = 0
  · blk_simp
    rw [after0_8, outsAt0_A m c t h0 (fun h => h h0)]
    dsimp only
    frame_out
    rw [eg]
    exact fin
  · blk_simp
    rw [after0_8, outsAt0_B m c t h0 h0]
    dsimp only
    frame_out
    rw [eg]
    exact fin

/-- The part of a sum over sequence `q` that its grid point `n` adds. -/
def part (f : Fin 4 → Fin 2048 → EReal) (q n : ℕ) : EReal :=
  if h : q < 4 ∧ n < 8 then ∑ r : Fin 256, f ⟨q, h.1⟩ ⟨n * 256 + r.val, by have := r.isLt; omega⟩ else 0

theorem part_all (f : Fin 4 → Fin 2048 → EReal) (q : Fin 4) : ∑ n ∈ Finset.range 8, part f q.val n = ∑ s : Fin 2048, f q s := by
  rw [← sum_seq8, Finset.sum_range fun n => part f q.val n]
  refine Finset.sum_congr rfl fun t _ => ?_
  rw [part, dif_pos ⟨q.isLt, t.isLt⟩]

theorem gate_point (c : Dev nD) (t : Fin cfg0.N) (j : Fin 1024) :
    prod (iblk m c 0 t) (iblk m c 1 t) j = part (gateAt m c j) (t.val / 8) (t.val % 8) := by
  have hN := lt_of_lt_of_eq t.isLt N_0
  rw [part, dif_pos (by omega), prod]
  refine Finset.sum_congr rfl fun r _ => ?_
  refine (congrArg₂ (fun a b : EReal => a * b) (iblk0_at m c t r j) (iblk1_at m c t r j)).trans ?_
  exact congrArg (gateAt m c j (seqOf t)) (Fin.ext (by simp only [pos, rowOf, at256]; omega))

/-- What the accumulated result's buffer holds after point `n`. -/
theorem sums (c : Dev nD) (j : Fin 1024) : ∀ (n : ℕ) (hn : n < cfg0.N),
    ((outsAt0 m c n hn).2.2.2 (ix3 0 0 j) : EReal) = ∑ i ∈ Finset.range (n % 8 + 1), part (gateAt m c j) (n / 8) i := by
  intro n
  induction n with
  | zero =>
    intro hn
    rw [outsAt0_A m c ⟨0, hn⟩ (by rfl) (by simp), Finset.sum_range_one]
    dsimp only
    frame_out
    exact (pay9_apply _ _ j).trans (gate_point m c ⟨0, hn⟩ j)
  | succ n ih =>
    intro hn
    by_cases h0 : (n + 1) % 8 = 0
    · rw [h0, zero_add, Finset.sum_range_one, outsAt0_A m c ⟨n + 1, hn⟩ h0 (fun h => h h0)]
      have e1 := gate_point m c ⟨n + 1, hn⟩ j
      simp only [h0] at e1
      dsimp only
      frame_out
      exact (pay9_apply _ _ j).trans e1
    · have i1 := ih (by omega)
      rw [show n % 8 + 1 = (n + 1) % 8 by omega, show n / 8 = (n + 1) / 8 by omega] at i1
      rw [outsAt0_B m c ⟨n + 1, hn⟩ h0 h0, Finset.sum_range_succ]
      dsimp only
      frame_out
      refine (pay10_apply _ _ _ j).trans ?_
      exact congrArg₂ (fun a b : EReal => a + b) i1 (gate_point m c ⟨n + 1, hn⟩ j)

/-- An index of a block of one row. -/
theorem one_eta (y : S1x1x1024.Idx) : ∃ b : Fin 1024, y = ix3 (0 : Fin 1) (0 : Fin 1) b :=
  ⟨y 2, funext fun a => match a with
    | ⟨0, _⟩ => Subsingleton.elim (α := Fin 1) _ _
    | ⟨1, _⟩ => Subsingleton.elim (α := Fin 1) _ _
    | ⟨2, _⟩ => rfl⟩

/-- The fourth result. -/
theorem result9 (c : Dev nD) : (dats m 0 c).arrAt 9 cfg0.N = fun x : S4x1x1024.Idx => (∑ s : Fin 2048, gateAt m c (x 2) (x 0) s : EReal) := by
  refine (dats m 0 c).arrAt_eq_of_covers 9 _ (by decide +kernel) fun t hf y => ?_
  have h3 : t.val % 8 = 7 := (by decide +kernel : ∀ t : Fin grid0.N, win0_9.flush t = true → t.val % 8 = 7) t hf
  obtain ⟨b, rfl⟩ := one_eta y
  have eg : (((cfg0.win 9).blk t).view.emb (ix3 0 0 b)) = ix3 (seqOf t) 0 b := by
    blk_ext [idx9, seqOf]
  have e := sums m c b t.val t.isLt
  rw [h3] at e
  blk_simp
  rw [after0_9, eg]
  exact e.trans (part_all _ (seqOf t))

end Cert.Gate
end
-- ==== Proof.GateProof.lean ====
/- Hand-written, untrusted: the claims about the output gate's gradient. -/
module

public import proofs.«01_k».proof.Defs
public import proofs.«01_k».proof.Proof.Gen.Kernel4.Frame
public import proofs.«01_k».proof.Proof.GateKernel
public import proofs.«01_k».proof.Proof.Gen.Reference4Ideal.Run

@[expose] public section

set_option maxRecDepth 16384

noncomputable section

namespace Cert.Gate

open Idealize.ShloMosaic Idealize.ShloMosaic.TcCoe Cert.Kernel4Ideal Cert.Kernel4Ideal.Gen Cert.Rows

instance factsPre : Cert.Pre_finite_gate.Facts where
  bcast_S_S4x2048x2048 := by decide
  reducesTo_S4x2048x2048_S_d0_1_2 := by decide
  h_S_ := by decide
  bcast_S_S2048x1024 := by decide
  reducesTo_S2048x1024_S_d0_1 := by decide
  bcast_S_S4x1x1024 := by decide
  reducesTo_S4x1x1024_S_d0_1_2 := by decide
  bcast_S_S4x2048x1024 := by decide
  reducesTo_S4x2048x1024_S_d0_1_2 := by decide

instance : Subsingleton Cert.Pre_finite_gate.S_.Idx := ⟨fun a b => funext fun i => i.elim0⟩

/-- What the precondition says: all of `o`, the matrix, the residual gate and the incoming gradient are real. -/
theorem real_args (m : (ℓ : Loc nD τ sig) → Buf (Elt Ideal) ℓ) (hp : Cert.Pre_Kernel4Ideal_finite_gate m) (c : Dev nD) :
    (∀ x, ∃ r : ℝ, arg0 m c x = r) ∧ (∀ x, ∃ r : ℝ, arg2 m c x = r) ∧ (∀ x, ∃ r : ℝ, arg3 m c x = r) ∧ ∀ x, ∃ r : ℝ, arg4 m c x = r := by
  have h := congrFun (hp c) (fun i => i.elim0)
  unfold Cert.Pre_finite_gate.fn Cert.Pre_finite_gate.fn_part1 at h
  dsimp only at h
  obtain ⟨h, h4⟩ := Cert.Finite.and_one h
  obtain ⟨h, h3⟩ := Cert.Finite.and_one h
  obtain ⟨h0, h2⟩ := Cert.Finite.and_one h
  exact ⟨fun x => Cert.Finite.real_of_cmp (Host.reduce_andi_all _ _ _ _ _ h0 x), fun x => Cert.Finite.real_of_cmp (Host.reduce_andi_all _ _ _ _ _ h2 x),
    fun x => Cert.Finite.real_of_cmp (Host.reduce_andi_all _ _ _ _ _ h3 x), fun x => Cert.Finite.real_of_cmp (Host.reduce_andi_all _ _ _ _ _ h4 x)⟩

/-- The reference's frame. -/
theorem frame_reference : Cert.quiescent_Reference4Ideal := fun m ρ _ =>
  (θ_run Cert.Reference4Ideal.defs _ _).mono (fun r h => ⟨fun c => (h c).2.2.2.2, funext fun s => nomatch s.2⟩) (Cert.Reference4Ideal.Value.run (F := Ideal) m ρ)

theorem frame_kernel : Cert.quiescent_Kernel4 := fun m ρ _ => Cert.Kernel4.Gen.frame m ρ
theorem frame_ideal : Cert.quiescent_Kernel4Ideal := fun m ρ _ => Cert.Kernel4Ideal.Gen.frame m ρ

/-- The reference's rows as one list. -/
theorem idx14 (n : Fin 8192) (j : Fin 2048) : Cert.Reference4Ideal.Read.idx_main_v14 (ix2 n j) = ix3 (seq n) (pos n) j := by
  have := n.isLt
  have := j.isLt
  funext a
  match a with
  | ⟨0, _⟩ => exact Fin.ext (by simp [ix2, ix3, seq]; omega)
  | ⟨1, _⟩ => exact Fin.ext (by simp [ix2, ix3, pos]; omega)
  | ⟨2, _⟩ => exact Fin.ext (by simp [ix2, ix3])

theorem idx16 (n : Fin 8192) (j : Fin 2048) : Cert.Reference4Ideal.Read.idx_main_v16 (ix2 n j) = ix3 (seq n) (pos n) j := idx14 n j

theorem idx18 (n : Fin 8192) (j : Fin 1024) : Cert.Reference4Ideal.Read.idx_main_v18 (ix2 n j) = ix3 (seq n) (pos n) j := by
  have := n.isLt
  have := j.isLt
  funext a
  match a with
  | ⟨0, _⟩ => exact Fin.ext (by simp [ix2, ix3, seq]; omega)
  | ⟨1, _⟩ => exact Fin.ext (by simp [ix2, ix3, pos]; omega)
  | ⟨2, _⟩ => exact Fin.ext (by simp [ix2, ix3])

/-- An index of a result with one row a sequence. -/
theorem per_eta (x : S4x1x1024.Idx) : ∃ (i : Fin 4) (j : Fin 1024), x = ix3 i (0 : Fin 1) j :=
  ⟨x 0, x 2, by rw [← show x 1 = (0 : Fin 1) from Subsingleton.elim (α := Fin 1) _ _]; exact (ix3_eta x).symm⟩

/-- Kernel and reference compute the same arrays. -/
theorem equal : Cert.algebraic_Kernel4Ideal_Reference4Ideal_pre_finite_gate := by
  intro m g m' g' hp hargs
  refine ⟨fun c => (dats m 0 c).arrAt 6 cfg0.N, fun c => (dats m 0 c).arrAt 7 cfg0.N, fun c => (dats m 0 c).arrAt 8 cfg0.N,
    fun c => (dats m 0 c).arrAt 9 cfg0.N, Cert.Kernel4Ideal.Value.run_blocks m g,
    (θ_run Cert.Reference4Ideal.defs _ _).mono (fun r h c => ?_) (Cert.Reference4Ideal.Value.run (F := Ideal) m' g')⟩
  obtain ⟨a0, a1, a2, a3, a4⟩ := hargs c
  obtain ⟨r0, r2, r3, r4⟩ := real_args m hp c
  refine ⟨(h c).1.trans ?_, (h c).2.1.trans ?_, (h c).2.2.1.trans ?_, (h c).2.2.2.1.trans ?_, (h c).2.2.2.2⟩
  · rw [Cert.Reference4Ideal.Read.val_main_v15_eq, a1, a2, a3, a4]
    refine Eq.trans ?_ (result6 m c).symm
    funext x
    obtain ⟨n, j, rfl⟩ : ∃ (n : Fin 8192) (j : Fin 2048), x = ix2 n j := ⟨x 0, x 1, (ix2_eta x).symm⟩
    rw [Cert.Reference4Ideal.Read.val_main_v15_apply, Cert.Reference4Ideal.Read.val_main_v14_apply, idx14]
    exact first _ _ _ _ _ _ j
  · rw [Cert.Reference4Ideal.Read.val_main_v17_eq, a0, a1, a2, a3, a4]
    refine Eq.trans ?_ (result7 m c).symm
    funext x
    obtain ⟨n, j, rfl⟩ : ∃ (n : Fin 8192) (j : Fin 2048), x = ix2 n j := ⟨x 0, x 1, (ix2_eta x).symm⟩
    rw [Cert.Reference4Ideal.Read.val_main_v17_apply, Cert.Reference4Ideal.Read.val_main_v16_apply, idx16]
    exact second _ _ _ _ _ r0 (du_real _ _ _ r2 r3 r4) _ _ j
  · rw [Cert.Reference4Ideal.Read.val_main_v19_eq, a3, a4]
    refine Eq.trans ?_ (result8 m c).symm
    funext x
    obtain ⟨n, j, rfl⟩ : ∃ (n : Fin 8192) (j : Fin 1024), x = ix2 n j := ⟨x 0, x 1, (ix2_eta x).symm⟩
    rw [Cert.Reference4Ideal.Read.val_main_v19_apply, Cert.Reference4Ideal.Read.val_main_v18_apply, idx18]
    exact dy_read _ _ _ _ j
  · rw [Cert.Reference4Ideal.Read.val_main_v9_eq, a0, a1, a2, a4]
    refine Eq.trans ?_ (result9 m c).symm
    funext x
    obtain ⟨i, j, rfl⟩ := per_eta x
    exact fourth _ _ _ _ i j

end Cert.Gate
end
-- ==== Proof.AdaRows.lean ====
/- Hand-written, untrusted: four rows padded to sixteen, and the three parts of the conditioning's gradient side by side. -/
module

public import Idealize.ShloMosaic.Lib.Pipeline.ValueKit
public import Idealize.ShloMosaic.Lib.Pointwise.Sums
public import Idealize.ShloMosaic.PureOps.Ideal

@[expose] public section

noncomputable section

namespace Cert.Ada

open Idealize.ShloMosaic Idealize.ShloMosaic.Pipeline

/-- Column `j` of part `n` of three. -/
def col (n : Fin 3) (j : Fin 1024) : Fin 3072 := ⟨n.val * 1024 + j.val, by have := n.isLt; have := j.isLt; omega⟩

theorem col_of (q : Fin 3072) : ∃ n j, q = col n j :=
  ⟨⟨q.val / 1024, by have := q.isLt; omega⟩, ⟨q.val % 1024, by omega⟩, Fin.ext (by show q.val = q.val / 1024 * 1024 + q.val % 1024; omega)⟩

/-- Four values padded by zeros to sixteen. -/
def padded (f : Fin 4 → EReal) (r : Fin 16) : EReal := if h : r.val < 4 then f ⟨r.val, h⟩ else 0

theorem sum_padded (f : Fin 4 → EReal) : ∑ r : Fin 16, padded f r = ∑ i : Fin 4, f i := by
  simp [Fin.sum_univ_succ, padded]

theorem padded_mul (f : Fin 4 → EReal) (a : EReal) (r : Fin 16) : padded f r * a = padded (fun i => f i * a) r := by
  unfold padded
  split_ifs
  · rfl
  · exact zero_mul a

theorem padded_mod (s f : Fin 4 → EReal) (r : Fin 16) : (1 + padded s r) * padded f r = padded (fun i => (1 + s i) * f i) r := by
  unfold padded
  split_ifs
  · rfl
  · exact mul_zero _

/-- The zero that the rows are padded with. -/
theorem pad_zero (s : Shape) (i : s.Idx) : sitofp (F := Ideal) .f32 (constantI s 32 0#32) i = (0 : EReal) := by
  show (((0#32 : BitVec 32).toInt : ℝ) : EReal) = 0
  simp

/-- A matrix of four rows padded to sixteen, read at an index. -/
theorem pad_rows {n : Nat} (x : (⟨2, ![4, n]⟩ : Shape).Idx → EReal) {u : Shape} (v : u.Idx → EReal)
    (h : (⟨2, ![4, n]⟩ : Shape).Pads ![0, 0] ![12, 0] ![0, 0] ⟨2, ![16, n]⟩) (hu : 0 < u.numel) (hv : v (Shape.Idx.first hu) = 0)
    (r : Fin 16) (j : Fin n) : pad ⟨2, ![16, n]⟩ ![0, 0] ![12, 0] ![0, 0] x v h hu (ix2 r j) = padded (fun i => x (ix2 i j)) r := by
  have hj := j.isLt
  unfold pad padded
  split_ifs with h1 h2 h2
  · refine congrArg x (funext fun a => ?_)
    match a with
    | ⟨0, _⟩ => exact Fin.ext (by simp [ix2])
    | ⟨1, _⟩ => exact Fin.ext (by simp [ix2])
  · exfalso
    have h3 : r.val < 4 := by
      have h3 : (r.val - 0) / (0 + 1) < 4 := (h1 0).2.2
      simpa using h3
    exact h2 h3
  · exfalso
    refine h1 fun a => ?_
    match a with
    | ⟨0, _⟩ => simp [ix2, Nat.mod_one, h2]
    | ⟨1, _⟩ => simp [ix2, Nat.mod_one]
  · exact hv

end Cert.Ada
end
-- ==== Proof.AdaReference.lean ====
/- Hand-written, untrusted: what the reference of the conditioning's gradient computes: the gradients of shift, scale and gate side
   by side, their sum over the sequences, and the gradient of the norm's gain. -/
module

public import proofs.«01_k».proof.Proof.Gen.Reference5Ideal.Read
public import proofs.«01_k».proof.Proof.AdaRows
public import proofs.«01_k».proof.Proof.Window

@[expose] public section

set_option maxRecDepth 16384

noncomputable section

namespace Cert.Ada

open Idealize.ShloMosaic Cert.Reference5Ideal Cert.Reference5Ideal.Read

variable (x0 : S4x1024.Idx → EReal) (x1 : S1024x3072.Idx → EReal) (x2 : S3072.Idx → EReal) (x3 : S1024.Idx → EReal) (x4 x5 x6 : S4x1x1024.Idx → EReal)

/-- The gradients of shift, scale and gate side by side, and the scale that the conditioning gives. -/
def dmod (n : Fin 3) (i : Fin 4) (j : Fin 1024) : EReal := ![x4 (ix3 i 0 j), x5 (ix3 i 0 j) * x3 (ix1 j), x6 (ix3 i 0 j)] n
def scale (i : Fin 4) (j : Fin 1024) : EReal := val_main_v5 (F := Ideal) x0 x1 (ix2 i (col 1 j)) + x2 (ix1 (col 1 j))

theorem one_read (e : S4x1x1024.Idx → EReal) (i : Fin 4) (j : Fin 1024) (f : Fin 1 → S4x1x1024.Idx) (h : f 0 = ix3 i 0 j) :
    Ideal.ofBits .f32 0x00000000#32 + ∑ k : Fin 1, e (f k) = e (ix3 i 0 j) := by
  rw [Ideal.ofBits_zero_f32, zero_add, Fin.sum_univ_one, h]

theorem v26_read (i : Fin 4) (j : Fin 1024) : val_main_v26 (F := Ideal) x4 (ix2 i j) = x4 (ix3 i 0 j) := by
  rw [val_main_v26_apply, val_main_cst_5_apply]
  exact one_read x4 i j _ (funext fun a => match a with | ⟨0, _⟩ => rfl | ⟨1, _⟩ => rfl | ⟨2, _⟩ => rfl)

theorem v24_read (i : Fin 4) (j : Fin 1024) : val_main_v24 (F := Ideal) x6 (ix2 i j) = x6 (ix3 i 0 j) := by
  rw [val_main_v24_apply, val_main_cst_3_apply]
  exact one_read x6 i j _ (funext fun a => match a with | ⟨0, _⟩ => rfl | ⟨1, _⟩ => rfl | ⟨2, _⟩ => rfl)

theorem v25_read (i : Fin 4) (j : Fin 1024) : val_main_v25 (F := Ideal) x3 x5 (ix2 i j) = x5 (ix3 i 0 j) * x3 (ix1 j) := by
  rw [val_main_v25_apply, val_main_cst_4_apply]
  refine (one_read _ i j _ (funext fun a => match a with | ⟨0, _⟩ => rfl | ⟨1, _⟩ => rfl | ⟨2, _⟩ => rfl)).trans ?_
  rw [val_main_v19_apply, val_main_v18_apply, val_main_v15_apply]
  refine (mul_comm _ _).trans (congrArg (x5 (ix3 i 0 j) * x3 ·) ?_)
  funext a
  match a with
  | ⟨0, _⟩ => rfl

theorem dmod_read (n : Fin 3) (i : Fin 4) (j : Fin 1024) : val_main_v27 (F := Ideal) x3 x4 x5 x6 (ix2 i (col n j)) = dmod x3 x4 x5 x6 n i j := by
  unfold val_main_v27
  match n with
  | 0 => exact (concatenate_apply_piece (t := S4x3072) 1 _ _ _ 0 (by simp) S4x1024 (val_main_v26 (F := Ideal) x4) rfl rfl 0 rfl (ix2 i j)
          (fun b hb => by match b with | ⟨0, _⟩ => rfl | ⟨1, _⟩ => exact absurd rfl hb) (by show 0 + j.val = 0 * 1024 + j.val; omega)).trans (v26_read x4 i j)
  | 1 => exact (concatenate_apply_piece (t := S4x3072) 1 _ _ _ 1 (by simp) S4x1024 (val_main_v25 (F := Ideal) x3 x5) rfl rfl 1024 rfl (ix2 i j)
          (fun b hb => by match b with | ⟨0, _⟩ => rfl | ⟨1, _⟩ => exact absurd rfl hb) (by show 1024 + j.val = 1 * 1024 + j.val; omega)).trans (v25_read x3 x5 i j)
  | 2 => exact (concatenate_apply_piece (t := S4x3072) 1 _ _ _ 2 (by simp) S4x1024 (val_main_v24 (F := Ideal) x6) rfl rfl 2048 rfl (ix2 i j)
          (fun b hb => by match b with | ⟨0, _⟩ => rfl | ⟨1, _⟩ => exact absurd rfl hb) (by show 2048 + j.val = 2 * 1024 + j.val; omega)).trans (v24_read x6 i j)

/-- The first result. -/
theorem first (n : Fin 3) (r : Fin 16) (j : Fin 1024) :
    val_main_v31 (F := Ideal) x3 x4 x5 x6 (ix2 r (col n j)) = padded (fun i => dmod x3 x4 x5 x6 n i j) r := by
  unfold val_main_v31
  refine (pad_rows _ _ _ _ ?_ r (col n j)).trans ?_
  · exact pad_zero _ _
  · exact congrArg (padded · r) (funext fun i => dmod_read x3 x4 x5 x6 n i j)

/-- The second result. -/
theorem second (n : Fin 3) (j : Fin 1024) : val_main_v32 (F := Ideal) x3 x4 x5 x6 (ix2 0 (col n j)) = ∑ i : Fin 4, dmod x3 x4 x5 x6 n i j := by
  have e32 : idx_main_v32 (ix2 0 (col n j)) = ix1 (col n j) := by
    funext a; match a with | ⟨0, _⟩ => exact Fin.ext (by simp [ix2, ix1])
  have e30 : idx_main_v30 (ix1 (col n j)) 0 = ix2 0 (col n j) := by
    funext a; match a with | ⟨0, _⟩ => rfl | ⟨1, _⟩ => rfl
  have e29 : idx_main_v29 (ix2 0 (col n j)) = ix1 (col n j) := by
    funext a; match a with | ⟨0, _⟩ => exact Fin.ext (by simp [ix2, ix1])
  have e28 : ∀ k, idx_main_v28 (ix1 (col n j)) k = ix2 k (col n j) := fun k => by
    funext a; match a with | ⟨0, _⟩ => rfl | ⟨1, _⟩ => rfl
  rw [val_main_v32_apply, e32, val_main_v30_apply, val_main_cst_7_apply, Fin.sum_univ_one, e30, val_main_v29_apply, e29, val_main_v28_apply,
    val_main_cst_6_apply]
  simp only [e28, dmod_read]
  show Ideal.ofBits .f32 0x00000000#32 + (Ideal.ofBits .f32 0x00000000#32 + _) = _
  rw [Ideal.ofBits_zero_f32, zero_add, zero_add]

theorem scale_read (i : Fin 4) (j : Fin 1024) : val_main_v8 (F := Ideal) x0 x1 x2 (ix2 i j) = scale x0 x1 x2 i j := by
  have e8 : idx_main_v8 (ix2 i j) = ix2 i (col 1 j) := by
    funext a
    match a with
    | ⟨0, _⟩ => exact Fin.ext (by simp [ix2])
    | ⟨1, _⟩ => exact Fin.ext (by simp [ix2, col])
  have e2 : idx_main_v1 (idx_main_v2 (ix2 i (col 1 j))) = ix1 (col 1 j) := by
    funext a; match a with | ⟨0, _⟩ => rfl
  rw [val_main_v8_apply, e8, val_main_v6_apply, val_main_v3_apply, val_main_v2_apply, val_main_v1_apply, e2, val_main_v0_apply, val_main_cst_apply]
  show _ + (_ + Ideal.ofBits .f32 0x00000000#32) = _
  rw [Ideal.ofBits_zero_f32, add_zero]
  rfl

/-- The third result. -/
theorem third (j : Fin 1024) : val_main_v33 (F := Ideal) x0 x1 x2 x5 (ix2 0 j) = ∑ i : Fin 4, (1 + scale x0 x1 x2 i j) * x5 (ix3 i 0 j) := by
  have e33 : idx_main_v33 (ix2 0 j) = ix1 j := by
    funext a; match a with | ⟨0, _⟩ => exact Fin.ext (by simp [ix2, ix1])
  have e22 : idx_main_v22 (ix3 0 0 j) = ix2 0 j := by
    funext a; match a with | ⟨0, _⟩ => exact Subsingleton.elim (α := Fin 1) _ _ | ⟨1, _⟩ => exact Fin.ext (by simp [ix2, ix3])
  have e21 : ∀ k, idx_main_v21 (ix2 0 j) k = ix3 k 0 j := fun k => by
    funext a; match a with | ⟨0, _⟩ => rfl | ⟨1, _⟩ => rfl | ⟨2, _⟩ => rfl
  have e11 : ∀ k : Fin 4, idx_main_v11 (ix3 k 0 j) = ix2 k j := fun k => by
    funext a; match a with | ⟨0, _⟩ => rfl | ⟨1, _⟩ => rfl
  rw [val_main_v33_apply, e33]
  unfold val_main_v23
  refine (Cert.Window.reduce_r3_a01 _ _ _ j).trans ?_
  rw [Fin.sum_univ_one, Fin.sum_univ_one, val_main_v22_apply, e22, val_main_v21_apply, val_main_cst_1_apply, val_main_cst_2_apply]
  simp only [e21, val_main_v20_apply, val_main_v14_apply, val_main_v13_apply, val_main_cst_0_apply, val_main_v11_apply, e11, scale_read]
  show Ideal.ofBits .f32 0x00000000#32 + (Ideal.ofBits .f32 0x00000000#32
    + ∑ k : Fin 4, x5 (ix3 k 0 j) * (Ideal.ofBits .f32 0x3F800000#32 + scale x0 x1 x2 k j)) = _
  rw [Ideal.ofBits_zero_f32, zero_add, zero_add, Ideal.ofBits_one_f32]
  exact Finset.sum_congr rfl fun k _ => mul_comm _ _

end Cert.Ada
end
-- ==== Proof.AdaKernel.lean ====
/- Hand-written, untrusted: what the kernel of the conditioning's gradient computes at its one grid point. -/
module

public import proofs.«01_k».proof.Proof.Gen.Kernel5Ideal.Value
public import proofs.«01_k».proof.Proof.AdaReference

@[expose] public section

set_option maxRecDepth 16384

noncomputable section

namespace Cert.Ada

open Idealize.ShloMosaic Idealize.ShloMosaic.TcCoe Cert.Kernel5Ideal Cert.Kernel5Ideal.Gen

section
variable (p ds dg sc : Vec Ideal S16x1024 .f32) (g : Vec Ideal S1x1024 .f32)

theorem pay2_apply (n : Fin 3) (r : Fin 16) (j : Fin 1024) : k0_pay2 (F := Ideal) p ds g dg (ix2 r (col n j))
    = (![ds (ix2 r j), p (ix2 r j) * g (ix2 0 j), dg (ix2 r j)] : Fin 3 → EReal) n := by
  unfold k0_pay2
  match n with
  | 0 =>
    refine (concatenate_apply_piece (t := S16x3072) 1 _ _ _ 0 (by simp) S16x1024 _ rfl rfl 0 rfl (ix2 r j)
      (fun b hb => by match b with | ⟨0, _⟩ => rfl | ⟨1, _⟩ => exact absurd rfl hb) (by show 0 + j.val = 0 * 1024 + j.val; omega)).trans ?_
    pointwise
  | 1 =>
    refine (concatenate_apply_piece (t := S16x3072) 1 _ _ _ 1 (by simp) S16x1024 _ rfl rfl 1024 rfl (ix2 r j)
      (fun b hb => by match b with | ⟨0, _⟩ => rfl | ⟨1, _⟩ => exact absurd rfl hb) (by show 1024 + j.val = 1 * 1024 + j.val; omega)).trans ?_
    unfold k0_pay1
    pointwise
  | 2 =>
    refine (concatenate_apply_piece (t := S16x3072) 1 _ _ _ 2 (by simp) S16x1024 _ rfl rfl 2048 rfl (ix2 r j)
      (fun b hb => by match b with | ⟨0, _⟩ => rfl | ⟨1, _⟩ => exact absurd rfl hb) (by show 2048 + j.val = 2 * 1024 + j.val; omega)).trans ?_
    pointwise

theorem pay3_apply (q : Fin 3072) : k0_pay3 (F := Ideal) p ds g dg (ix2 0 q) = ∑ r : Fin 16, (k0_pay2 (F := Ideal) p ds g dg (ix2 r q) : EReal) := by
  unfold k0_pay3
  pointwise

theorem pay4_apply (j : Fin 1024) : k0_pay4 (F := Ideal) p sc (ix2 0 j) = ∑ r : Fin 16, (1 + (sc (ix2 r j) : EReal)) * p (ix2 r j) := by
  unfold k0_pay4 k0_pay1
  pointwise

end

variable (m : (ℓ : Loc nD τ sig) → Buf (Elt Ideal) ℓ)

/-- The arguments' contents. -/
abbrev arg0 (c : Dev nD) : S4x1024.Idx → EReal := m ((c : Thread nD τ).loc main_arg0)
abbrev arg1 (c : Dev nD) : S1024x3072.Idx → EReal := m ((c : Thread nD τ).loc main_arg1)
abbrev arg2 (c : Dev nD) : S3072.Idx → EReal := m ((c : Thread nD τ).loc main_arg2)
abbrev arg3 (c : Dev nD) : S1024.Idx → EReal := m ((c : Thread nD τ).loc main_arg3)
abbrev arg4 (c : Dev nD) : S4x1x1024.Idx → EReal := m ((c : Thread nD τ).loc main_arg4)
abbrev arg5 (c : Dev nD) : S4x1x1024.Idx → EReal := m ((c : Thread nD τ).loc main_arg5)
abbrev arg6 (c : Dev nD) : S4x1x1024.Idx → EReal := m ((c : Thread nD τ).loc main_arg6)

/-- One row a sequence, as a matrix. -/
theorem flat (x : S4x1x1024.Idx → EReal) (i : Fin 4) (j : Fin 1024) :
    shapeCast S4x1024 x Gen.facts.shapeCasts_S4x1x1024_S4x1024 (ix2 i j) = x (ix3 i 0 j) := by
  pointwise

/-- One row a sequence, padded to sixteen rows. -/
theorem pad_flat (x : S4x1x1024.Idx → EReal) (r : Fin 16) (j : Fin 1024) :
    pad S16x1024 ![0, 0] ![12, 0] ![0, 0] (shapeCast S4x1024 x Gen.facts.shapeCasts_S4x1x1024_S4x1024)
      (sitofp (F := Ideal) .f32 (constantI S_ 32 0#32)) Gen.facts.pads_S4x1024_S16x1024_0120_000 Gen.facts.h_S_ (ix2 r j) = padded (fun i => x (ix3 i 0 j)) r :=
  (pad_rows _ _ _ _ (pad_zero _ _) r j).trans (congrArg (padded · r) (funext fun i => flat _ i j))

/-- The scale before padding: the middle part of the conditioning's product and bias. -/
def mid (x0 : S4x1024.Idx → EReal) (x1 : S1024x3072.Idx → EReal) (x2 : S3072.Idx → EReal) : S4x1x1024.Idx → EReal := broadcastInDim S4x1x1024 ![0, 2] Gen.facts.bcast_S4x1024_S4x1x1024_0_2
  (extractStridedSlice S4x1024 ![0, 1024] (addf (F := Ideal) (φ := .f32) (Cert.Reference5Ideal.Read.val_main_v5 (F := Ideal) x0 x1)
    (Cert.Reference5Ideal.Read.val_main_v2 (F := Ideal) x2)) Gen.facts.slices_S4x3072_S4x1024_0_1024)

theorem mid_read (x0 : S4x1024.Idx → EReal) (x1 : S1024x3072.Idx → EReal) (x2 : S3072.Idx → EReal) (i : Fin 4) (j : Fin 1024) : mid x0 x1 x2 (ix3 i 0 j) = scale x0 x1 x2 i j := by
  have e2 : Cert.Reference5Ideal.Read.idx_main_v1 (Cert.Reference5Ideal.Read.idx_main_v2 (ix2 i (col 1 j))) = ix1 (col 1 j) := by
    funext a; match a with | ⟨0, _⟩ => rfl
  unfold mid
  refine (broadcastInDim_apply _ _ _ (ix3 i 0 j) (ix2 i j) (fun a => match a with
    | ⟨0, _⟩ => by show i.val = if (4 : Nat) = 1 then 0 else i.val; rw [if_neg (by decide)]
    | ⟨1, _⟩ => by show j.val = if (1024 : Nat) = 1 then 0 else j.val; rw [if_neg (by decide)])).trans ?_
  refine (extractStridedSlice_apply ![0, 1024] _ _ (ix2 i j) (ix2 i (col 1 j)) (fun a => match a with
    | ⟨0, _⟩ => by show i.val = 0 + i.val; omega
    | ⟨1, _⟩ => by show 1 * 1024 + j.val = 1024 + j.val; omega)).trans ?_
  show _ + Cert.Reference5Ideal.Read.val_main_v2 (F := Ideal) x2 (ix2 i (col 1 j)) = _
  rw [Cert.Reference5Ideal.Read.val_main_v2_apply, Cert.Reference5Ideal.Read.val_main_v1_apply, e2]
  rfl

/-- What is known of the five operands: padded rows, the scale's and the gain's. -/
structure Rows (p ds dg sc : Vec Ideal S16x1024 .f32) (g : Vec Ideal S1x1024 .f32) (x0 : S4x1024.Idx → EReal) (x1 : S1024x3072.Idx → EReal)
    (x2 : S3072.Idx → EReal) (x3 : S1024.Idx → EReal) (x4 x5 x6 : S4x1x1024.Idx → EReal) : Prop where
  ds : ∀ r j, ds (ix2 r j) = padded (fun i => x4 (ix3 i 0 j)) r
  p : ∀ r j, p (ix2 r j) = padded (fun i => x5 (ix3 i 0 j)) r
  dg : ∀ r j, dg (ix2 r j) = padded (fun i => x6 (ix3 i 0 j)) r
  sc : ∀ r j, sc (ix2 r j) = padded (fun i => scale x0 x1 x2 i j) r
  g : ∀ j, g (ix2 0 j) = x3 (ix1 j)

section
variable {p ds dg sc : Vec Ideal S16x1024 .f32} {g : Vec Ideal S1x1024 .f32} {x0 : S4x1024.Idx → EReal} {x1 : S1024x3072.Idx → EReal}
    {x2 : S3072.Idx → EReal} {x3 : S1024.Idx → EReal} {x4 x5 x6 : S4x1x1024.Idx → EReal}
variable (R : Rows p ds dg sc g x0 x1 x2 x3 x4 x5 x6)
include R

theorem Rows.dmod (n : Fin 3) (r : Fin 16) (j : Fin 1024) :
    k0_pay2 (F := Ideal) p ds g dg (ix2 r (col n j)) = padded (fun i => Cert.Ada.dmod x3 x4 x5 x6 n i j) r := by
  refine (pay2_apply _ _ _ _ n r j).trans ?_
  match n with
  | 0 => exact R.ds r j
  | 1 => exact (congrArg₂ (fun a b : EReal => a * b) (R.p r j) (R.g j)).trans (padded_mul _ _ r)
  | 2 => exact R.dg r j

theorem Rows.sum (n : Fin 3) (j : Fin 1024) :
    k0_pay3 (F := Ideal) p ds g dg (ix2 0 (col n j)) = ∑ i : Fin 4, Cert.Ada.dmod x3 x4 x5 x6 n i j := by
  refine (pay3_apply _ _ _ _ _).trans ?_
  rw [← sum_padded]
  exact Finset.sum_congr rfl fun r _ => R.dmod n r j

theorem Rows.gain (j : Fin 1024) : k0_pay4 (F := Ideal) p sc (ix2 0 j) = ∑ i : Fin 4, (1 + scale x0 x1 x2 i j) * x5 (ix3 i 0 j) := by
  refine (pay4_apply _ _ j).trans ?_
  rw [← sum_padded]
  refine Finset.sum_congr rfl fun r _ => ?_
  exact (congrArg₂ (fun a b : EReal => (1 + a) * b) (R.sc r j) (R.p r j)).trans (padded_mod _ _ r)

end

theorem V_main_v13 (c : Dev nD) (r : Fin 16) (j : Fin 1024) : V m c main_v13 (ix2 r j) = padded (fun i => arg4 m c (ix3 i 0 j)) r := by
  have e : V m c main_v13 = pad S16x1024 ![0, 0] ![12, 0] ![0, 0] (shapeCast S4x1024 (arg4 m c) Gen.facts.shapeCasts_S4x1x1024_S4x1024)
      (sitofp (F := Ideal) .f32 (constantI S_ 32 0#32)) Gen.facts.pads_S4x1024_S16x1024_0120_000 Gen.facts.h_S_ := by
    simp only [V, hostOps0, hostOps0_1, hostOps0_2, hostOps0_3, hostOps0_4, hostOps0_5, hostOps0_6, hostOps0_7, hostOps0_8, hostOps0_9, hostOps0_10, hostOps0_11,
      List.flatten_cons, List.flatten_nil, List.append_nil, List.cons_append, List.nil_append]
    after_results <;> rfl
  rw [e]
  exact pad_flat _ r j

theorem V_main_v15 (c : Dev nD) (r : Fin 16) (j : Fin 1024) : V m c main_v15 (ix2 r j) = padded (fun i => arg5 m c (ix3 i 0 j)) r := by
  have e : V m c main_v15 = pad S16x1024 ![0, 0] ![12, 0] ![0, 0] (shapeCast S4x1024 (arg5 m c) Gen.facts.shapeCasts_S4x1x1024_S4x1024)
      (sitofp (F := Ideal) .f32 (constantI S_ 32 0#32)) Gen.facts.pads_S4x1024_S16x1024_0120_000 Gen.facts.h_S_ := by
    simp only [V, hostOps0, hostOps0_1, hostOps0_2, hostOps0_3, hostOps0_4, hostOps0_5, hostOps0_6, hostOps0_7, hostOps0_8, hostOps0_9, hostOps0_10, hostOps0_11,
      List.flatten_cons, List.flatten_nil, List.append_nil, List.cons_append, List.nil_append]
    after_results <;> rfl
  rw [e]
  exact pad_flat _ r j

theorem V_main_v17 (c : Dev nD) (r : Fin 16) (j : Fin 1024) : V m c main_v17 (ix2 r j) = padded (fun i => arg6 m c (ix3 i 0 j)) r := by
  have e : V m c main_v17 = pad S16x1024 ![0, 0] ![12, 0] ![0, 0] (shapeCast S4x1024 (arg6 m c) Gen.facts.shapeCasts_S4x1x1024_S4x1024)
      (sitofp (F := Ideal) .f32 (constantI S_ 32 0#32)) Gen.facts.pads_S4x1024_S16x1024_0120_000 Gen.facts.h_S_ := by
    simp only [V, hostOps0, hostOps0_1, hostOps0_2, hostOps0_3, hostOps0_4, hostOps0_5, hostOps0_6, hostOps0_7, hostOps0_8, hostOps0_9, hostOps0_10, hostOps0_11,
      List.flatten_cons, List.flatten_nil, List.append_nil, List.cons_append, List.nil_append]
    after_results <;> rfl
  rw [e]
  exact pad_flat _ r j

theorem V_main_v19 (c : Dev nD) (r : Fin 16) (j : Fin 1024) : V m c main_v19 (ix2 r j) = padded (fun i => scale (arg0 m c) (arg1 m c) (arg2 m c) i j) r := by
  have e : V m c main_v19 = pad S16x1024 ![0, 0] ![12, 0] ![0, 0] (shapeCast S4x1024 (mid (arg0 m c) (arg1 m c) (arg2 m c)) Gen.facts.shapeCasts_S4x1x1024_S4x1024)
      (sitofp (F := Ideal) .f32 (constantI S_ 32 0#32)) Gen.facts.pads_S4x1024_S16x1024_0120_000 Gen.facts.h_S_ := by
    simp only [V, hostOps0, hostOps0_1, hostOps0_2, hostOps0_3, hostOps0_4, hostOps0_5, hostOps0_6, hostOps0_7, hostOps0_8, hostOps0_9, hostOps0_10, hostOps0_11,
      List.flatten_cons, List.flatten_nil, List.append_nil, List.cons_append, List.nil_append]
    after_results <;> rfl
  rw [e]
  exact (pad_flat _ r j).trans (congrArg (padded · r) (funext fun i => mid_read _ _ _ i j))

theorem V_main_v20 (c : Dev nD) (j : Fin 1024) : V m c main_v20 (ix2 0 j) = arg3 m c (ix1 j) := by
  have e : V m c main_v20 = shapeCast S1x1024 (arg3 m c) Gen.facts.shapeCasts_S1024_S1x1024 := by
    simp only [V, hostOps0, hostOps0_1, hostOps0_2, hostOps0_3, hostOps0_4, hostOps0_5, hostOps0_6, hostOps0_7, hostOps0_8, hostOps0_9, hostOps0_10, hostOps0_11,
      List.flatten_cons, List.flatten_nil, List.append_nil, List.cons_append, List.nil_append]
    after_results <;> rfl
  rw [e]
  pointwise

theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])

theorem iblk1_at (c : Dev nD) (t : Fin cfg0.N) (r : Fin 16) (j : Fin 1024) : iblk m c 1 t (ix2 r j) = V m c main_v13 (ix2 r j) := by
  blk_simp [iblk]
  refine congrArg (V m c main_v13) ?_
  blk_ext [idx1]

theorem iblk2_at (c : Dev nD) (t : Fin cfg0.N) (r : Fin 16) (j : Fin 1024) : iblk m c 2 t (ix2 r j) = V m c main_v15 (ix2 r j) := by
  blk_simp [iblk]
  refine congrArg (V m c main_v15) ?_
  blk_ext [idx2]

theorem iblk3_at (c : Dev nD) (t : Fin cfg0.N) (r : Fin 16) (j : Fin 1024) : iblk m c 3 t (ix2 r j) = V m c main_v17 (ix2 r j) := by
  blk_simp [iblk]
  refine congrArg (V m c main_v17) ?_
  blk_ext [idx3]

theorem iblk4_at (c : Dev nD) (t : Fin cfg0.N) (r : Fin 16) (j : Fin 1024) : iblk m c 4 t (ix2 r j) = V m c main_v19 (ix2 r j) := by
  blk_simp [iblk]
  refine congrArg (V m c main_v19) ?_
  blk_ext [idx4]

theorem iblk5_at (c : Dev nD) (t : Fin cfg0.N) (j : Fin 1024) : iblk m c 5 t (ix2 0 j) = arg3 m c (ix1 j) := by
  rw [← V_main_v20]
  blk_simp [iblk]
  refine congrArg (V m c main_v20) ?_
  blk_ext [idx5]

/-- The operands at a point. -/
theorem rows (c : Dev nD) (t : Fin cfg0.N) : Rows (iblk m c 2 t) (iblk m c 1 t) (iblk m c 3 t) (iblk m c 4 t) (iblk m c 5 t)
    (arg0 m c) (arg1 m c) (arg2 m c) (arg3 m c) (arg4 m c) (arg5 m c) (arg6 m c) where
  ds r j := (iblk1_at m c t r j).trans (V_main_v13 m c r j)
  p r j := (iblk2_at m c t r j).trans (V_main_v15 m c r j)
  dg r j := (iblk3_at m c t r j).trans (V_main_v17 m c r j)
  sc r j := (iblk4_at m c t r j).trans (V_main_v19 m c r j)
  g j := iblk5_at m c t j

/-- The results, read at an index. -/
def resA (c : Dev nD) (x : S16x3072.Idx) : EReal := Cert.Reference5Ideal.Read.val_main_v31 (F := Ideal) (arg3 m c) (arg4 m c) (arg5 m c) (arg6 m c) x
def resB (c : Dev nD) (x : S1x3072.Idx) : EReal := Cert.Reference5Ideal.Read.val_main_v32 (F := Ideal) (arg3 m c) (arg4 m c) (arg5 m c) (arg6 m c) x
def resC (c : Dev nD) (x : S1x1024.Idx) : EReal := Cert.Reference5Ideal.Read.val_main_v33 (F := Ideal) (arg0 m c) (arg1 m c) (arg2 m c) (arg5 m c) x

theorem result6 (c : Dev nD) : (dats m 0 c).arrAt 6 cfg0.N = resA m c := by
  refine (dats m 0 c).arrAt_eq_of_covers 6 _ (by decide +kernel) fun t hf y => ?_
  obtain ⟨a, b, rfl⟩ : ∃ (a : Fin 16) (b : Fin 3072), y = ix2 a b := ⟨y 0, y 1, (ix2_eta y).symm⟩
  have eg : (((cfg0.win 6).blk t).view.emb (ix2 a b)) = ix2 a b := by
    blk_ext [idx6]
  obtain ⟨n, j, rfl⟩ := col_of b
  blk_simp
  rw [after0_6]
  dsimp only [outsAt0]
  frame_out
  rw [eg]
  exact ((rows m c t).dmod n a j).trans (first _ _ _ _ n a j).symm

theorem result7 (c : Dev nD) : (dats m 0 c).arrAt 7 cfg0.N = resB m c := by
  refine (dats m 0 c).arrAt_eq_of_covers 7 _ (by decide +kernel) fun t hf y => ?_
  obtain ⟨b, rfl⟩ : ∃ b : Fin 3072, y = ix2 (0 : Fin 1) b :=
    ⟨y 1, by rw [← show y 0 = (0 : Fin 1) from Subsingleton.elim (α := Fin 1) _ _]; exact (ix2_eta y).symm⟩
  have eg : (((cfg0.win 7).blk t).view.emb (ix2 0 b)) = ix2 0 b := by
    blk_ext [idx7]
  obtain ⟨n, j, rfl⟩ := col_of b
  blk_simp
  rw [after0_7]
  dsimp only [outsAt0]
  frame_out
  rw [eg]
  exact ((rows m c t).sum n j).trans (second _ _ _ _ n j).symm

theorem result8 (c : Dev nD) : (dats m 0 c).arrAt 8 cfg0.N = resC m c := by
  refine (dats m 0 c).arrAt_eq_of_covers 8 _ (by decide +kernel) fun t hf y => ?_
  obtain ⟨b, rfl⟩ : ∃ b : Fin 1024, y = ix2 (0 : Fin 1) b :=
    ⟨y 1, by rw [← show y 0 = (0 : Fin 1) from Subsingleton.elim (α := Fin 1) _ _]; exact (ix2_eta y).symm⟩
  have eg : (((cfg0.win 8).blk t).view.emb (ix2 0 b)) = ix2 0 b := by
    blk_ext [idx8]
  blk_simp
  rw [after0_8]
  dsimp only [outsAt0]
  frame_out
  rw [eg]
  exact ((rows m c t).gain b).trans (third _ _ _ _ b).symm

end Cert.Ada
end
-- ==== Proof.AdaProof.lean ====
/- Hand-written, untrusted: the claims about the conditioning's gradient. -/
module

public import proofs.«01_k».proof.Defs
public import proofs.«01_k».proof.Proof.Gen.Kernel5.Frame
public import proofs.«01_k».proof.Proof.AdaKernel
public import proofs.«01_k».proof.Proof.Gen.Reference5Ideal.Run

@[expose] public section

set_option maxRecDepth 16384

noncomputable section

namespace Cert.Ada

open Idealize.ShloMosaic Idealize.ShloMosaic.TcCoe Cert.Kernel5Ideal Cert.Kernel5Ideal.Gen

/-- The reference's frame. -/
theorem frame_reference : Cert.quiescent_Reference5Ideal := fun m ρ _ =>
  (θ_run Cert.Reference5Ideal.defs _ _).mono (fun r h => ⟨fun c => (h c).2.2.2, funext fun s => nomatch s.2⟩) (Cert.Reference5Ideal.Value.run (F := Ideal) m ρ)

theorem frame_kernel : Cert.quiescent_Kernel5 := fun m ρ _ => Cert.Kernel5.Gen.frame m ρ
theorem frame_ideal : Cert.quiescent_Kernel5Ideal := fun m ρ _ => Cert.Kernel5Ideal.Gen.frame m ρ

/-- Kernel and reference compute the same arrays. -/
theorem equal : Cert.algebraic_Kernel5Ideal_Reference5Ideal := by
  intro m g m' g' _ hargs
  refine ⟨fun c => (dats m 0 c).arrAt 6 cfg0.N, fun c => (dats m 0 c).arrAt 7 cfg0.N, fun c => (dats m 0 c).arrAt 8 cfg0.N,
    Cert.Kernel5Ideal.Value.run_blocks m g,
    (θ_run Cert.Reference5Ideal.defs _ _).mono (fun r h c => ?_) (Cert.Reference5Ideal.Value.run (F := Ideal) m' g')⟩
  obtain ⟨a0, a1, a2, a3, a4, a5, a6⟩ := hargs c
  refine ⟨(h c).1.trans ?_, (h c).2.1.trans ?_, (h c).2.2.1.trans ?_, (h c).2.2.2⟩
  · rw [Cert.Reference5Ideal.Read.val_main_v31_eq, a3, a4, a5, a6]
    exact (result6 m c).symm
  · rw [Cert.Reference5Ideal.Read.val_main_v32_eq, a3, a4, a5, a6]
    exact (result7 m c).symm
  · rw [Cert.Reference5Ideal.Read.val_main_v33_eq, a0, a1, a2, a5]
    exact (result8 m c).symm

end Cert.Ada
end
-- ==== Proof.SbStep.lean ====
module

public import proofs.«01_k».proof.Proof.Gen.Kernel6Ideal.Frame
public import Idealize.ShloMosaic.Lib.VecWindow

@[expose] public section

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal

variable {F : FTy → Type} [FloatOps F]

local notation "𝕄" => MT nD τ sig Unit (Elt F) ℕ (UR sig nD τ) ℕ

variable {𝒱 : Variants} {c : Dev nD} {bd : Option 𝒱.V} {E : Set ℕ} {β : Type}
variable {cs : CoreSpace} {s : Shape} {e : EltTy} {m : Memref sig .tc cs s e}

/-- A load of a part of an owned array goes on from what the array holds there. -/
theorem ld {off size : Fin s.rank → ℕ} {inb : ∀ a, off a + size a ≤ s.size a}
    {hl : m.view.LoadsAt (Rect.unit off size inb).toLoadRect}
    (X : s.Idx → Elt F e) {k : ((Rect.unit off size inb).shape.Idx → Elt F e) → Prog (TpuEff nD τ sig (Elt F) Λ₀ .tc) β} {Q : β → sProp 𝕄} :
    (owns (c : Thread nD τ) m fullShare X : sProp 𝕄)
      ⊢ iprop((owns (c : Thread nD τ) m fullShare X -∗ wp frame (wpE (defs₀ (F := F)) 𝒱 (c : Thread nD τ) bd) E (k (VecWindow.window X off size inb)) Q)
        -∗ wp frame (wpE (defs₀ (F := F)) 𝒱 (c : Thread nD τ) bd) E (Prog.lift (.load m (Rect.unit off size inb).toLoadRect hl) >>= k) Q) := by
  unfold owns
  iintro ⟨%f, %hf, H⟩ Hk
  have hS : (m.access (Rect.unit off size inb)).set ⊆ m.view.set := by
    exact m.view.set_slice_subset _
  iapply (wp_load_rect 𝒱 (c : Thread nD τ) bd E (m := m) (hl := hl) (k := k) (r := Rect.unit off size inb) (f := f) hS) $$ H
  iintro H
  subst hf
  iapply Hk
  iexists f
  isplitr
  · ipureintro; rfl
  iexact H

/-- A store over a part of an owned array leaves the array with the stored values there. -/
theorem st {off size : Fin s.rank → ℕ} {inb : ∀ a, off a + size a ≤ s.size a} {w : (Rect.unit off size inb).shape.Idx → Elt F e}
    {hx : (m.access (Rect.unit off size inb)).Stores Finset.univ} {hm : (Finset.univ : Finset (Rect.unit off size inb).shape.Idx) = Finset.univ ∨ ∀ a, (Rect.unit off size inb).stride a = 1}
    (X : s.Idx → Elt F e) {k : PUnit → Prog (TpuEff nD τ sig (Elt F) Λ₀ .tc) β} {Q : β → sProp 𝕄} :
    (owns (c : Thread nD τ) m fullShare X : sProp 𝕄)
      ⊢ iprop((owns (c : Thread nD τ) m fullShare (VecWindow.put X off size w) -∗ wp frame (wpE (defs₀ (F := F)) 𝒱 (c : Thread nD τ) bd) E (k ⟨⟩) Q)
        -∗ wp frame (wpE (defs₀ (F := F)) 𝒱 (c : Thread nD τ) bd) E (Prog.lift (.store m (Rect.unit off size inb) w Finset.univ hx hm) >>= k) Q) := by
  unfold owns
  iintro ⟨%f, %hf, H⟩ Hk
  have hS : (m.access (Rect.unit off size inb)).setOn Finset.univ ⊆ m.view.set := by
    exact m.view.set_slice_subset _
  iapply (wp_store 𝒱 (c : Thread nD τ) bd E (m := m) (hx := hx) (hm := hm) (k := k) (r := Rect.unit off size inb) (f := f) hS) $$ H
  iintro H
  subst hf
  iapply Hk
  iexists _
  isplitr
  · ipureintro
    exact View.read_writes_cons_put m.view f inb w [] rfl
  iexact H

/-- What a program assumes and holds, it goes on from. -/
theorem asm {P : Prop} {d : Decidable P} (h : P) {k : PLift P → Prog (TpuEff nD τ sig (Elt F) Λ₀ .tc) β} {Q : β → sProp 𝕄} :
    (wp frame (wpE (defs₀ (F := F)) 𝒱 (c : Thread nD τ) bd) E (k ⟨h⟩) Q : sProp 𝕄)
      ⊢ wp frame (wpE (defs₀ (F := F)) 𝒱 (c : Thread nD τ) bd) E (Prog.lift (.assume P d) >>= k) Q :=
  wp_assume 𝒱 (c : Thread nD τ) bd E h

end Cert.Sb
-- ==== Proof.SbWords.lean ====
module

public import proofs.«01_k».proof.Proof.Gen.Kernel6Ideal.Skeleton
public import Idealize.ShloMosaic.Lib.WordCmp

@[expose] public section

set_option maxRecDepth 16384

namespace Cert.Sb

open Idealize.ShloMosaic Idealize.ShloMosaic.TcCoe Cert.Kernel6Ideal

/-- The clipped number of visited blocks, of any word, is that of a natural number at most `2 n`. -/
theorem clip (n : Fin 4) (v : BitVec 32) :
    ∃ k : Fin 7, k.val ≤ 2 * n.val ∧
      Scalar.minsi (Scalar.muli 2#32 (BitVec.ofNat 32 n.val)) (Scalar.maxsi 0#32 v)
        = Scalar.minsi (Scalar.muli 2#32 (BitVec.ofNat 32 n.val)) (Scalar.maxsi 0#32 (BitVec.ofNat 32 k.val)) := by
  have hp : (Scalar.muli 2#32 (BitVec.ofNat 32 n.val)).toInt = 2 * n.val := by revert n; decide
  by_cases h0 : v.slt 0#32 = true
  · exact ⟨0, by simp, by
      rw [show Scalar.maxsi (0#32) v = 0#32 from if_pos h0]; rfl⟩
  have hm : Scalar.maxsi (0#32) v = v := if_neg h0
  rw [hm]
  by_cases h1 : (Scalar.muli 2#32 (BitVec.ofNat 32 n.val)).slt v = true
  · refine ⟨⟨2 * n.val, by omega⟩, le_rfl, ?_⟩
    rw [show Scalar.minsi (Scalar.muli 2#32 (BitVec.ofNat 32 n.val)) v = Scalar.muli 2#32 (BitVec.ofNat 32 n.val) from if_pos h1]
    clear h1 hp
    revert n; decide
  · rw [BitVec.slt_iff_toInt_lt] at h0 h1
    rw [hp] at h1
    have hv : v.toInt = v.toNat := by
      rw [BitVec.toInt_eq_toNat_cond]; rw [BitVec.toInt_eq_toNat_cond] at h0
      simp only [BitVec.toInt_zero] at h0
      split_ifs at h0 ⊢ with hc
      · rfl
      · have := v.isLt; omega
    refine ⟨⟨v.toNat, by omega⟩, by simp only; omega, ?_⟩
    have : BitVec.ofNat 32 v.toNat = v := by rw [BitVec.ofNat_toNat, BitVec.setWidth_eq]
    rw [show (⟨v.toNat, by omega⟩ : Fin 7).val = v.toNat from rfl, this, hm]

/-- A grid point of query block `n`. -/
def point (n : Fin 4) : grid0.Coords := Fin.cons (0 : Fin 4) (Fin.cons (0 : Fin 16) (Fin.cons n fun a => a.elim0))

/-- What the kernel assumes of the blocks that it visits depends on the query block and the number of visited blocks only. -/
theorem chk_congr (i j : grid0.Coords) (a b : BitVec 32) (hij : (i 2).val = (j 2).val)
    (h : Scalar.minsi (Scalar.muli 2#32 (BitVec.ofNat 32 (j 2).val)) (Scalar.maxsi 0#32 a)
        = Scalar.minsi (Scalar.muli 2#32 (BitVec.ofNat 32 (j 2).val)) (Scalar.maxsi 0#32 b)) :
    k0_chk1 j b → k0_chk1 i a := by
  unfold k0_chk1 k0_mult1 k0_mult2 k0_mult3 k0_mult4 k0_off1 k0_off2 k0_off3 k0_off4 k0_off5 k0_off6 k0_off7 k0_off8 k0_t1_loop k0_t2_loop
  dsimp only
  rw [hij, h]
  exact id

theorem chk_small : ∀ (n : Fin 4) (k : Fin 7), k.val ≤ 2 * n.val → k0_chk1 (point n) (BitVec.ofNat 32 k.val) := by
  decide +kernel

/-- What the kernel assumes of the blocks that it visits is always so: it clips their number. -/
theorem chk (i : grid0.Coords) (v : BitVec 32) : k0_chk1 i v := by
  obtain ⟨k, hk, h⟩ := clip (i 2) v
  exact chk_congr i (point (i 2)) v _ rfl h (chk_small (i 2) k hk)

end Cert.Sb
-- ==== Proof.SbTrip.lean ====
module

public import proofs.«01_k».proof.Proof.SbStep
public import proofs.«01_k».proof.Proof.SbWords

@[expose] public section

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen
open VecWindow (window put)

variable {F : FTy → Type} [FloatOps F]

local notation "𝕄" => MT nD τ sig Unit (Elt F) ℕ (UR sig nD τ) ℕ

/-- What the loop over the key blocks carries: for each of two heads the sums of log keeps and of `de`, and the gradient of `q`. -/
abbrev Acc (F : FTy → Type) := FVec F S512x1 .f32 × FVec F S512x1 .f32 × FVec F S512x64 .f32 × FVec F S512x1 .f32 × FVec F S512x1 .f32 × FVec F S512x64 .f32

/-- The carried values and the two arrays that collect the gradients of `k` and of `v`. -/
structure St (F : FTy → Type) where
  acc : Acc F
  dk : Vec F S8x128x256 .f32
  dv : Vec F S8x128x256 .f32

/-- The query block's values that every key block uses: two triangles of ones, the transposed query and cotangent blocks, and for each head the
    query, the cotangent and the row's total of log keeps. -/
structure Pro (F : FTy → Type) where
  ua : FVec F S256x256 .bf16
  ub : FVec F S256x256 .bf16
  qt : FVec F S128x512 .bf16
  dt : FVec F S128x512 .bf16
  q0 : FVec F S512x64 .bf16
  q1 : FVec F S512x64 .bf16
  d0 : FVec F S512x64 .bf16
  d1 : FVec F S512x64 .bf16
  r0 : FVec F S512x1 .f32
  r1 : FVec F S512x1 .f32

variable (p : Pro F) (x4 x5 : Vec F S2048x128 .bf16) (i : grid0.Coords) (v : BitVec 32)

section
variable (k : Fin (k0_t1_loop i v).trips)

/-- The first head's key block of a trip. -/
def key0 : FVec F S256x64 .bf16 := window x4 (k0_off1 i v k) S256x64.size (k0_off1_inb i v (chk i v) k)
def key1 : FVec F S256x64 .bf16 := window x4 (k0_off3 i v k) S256x64.size (k0_off3_inb i v (chk i v) k)

/-- One trip of the loop: the first head. -/
def half0 (s : St F) : St F :=
  let kb := key0 x4 i v k
  let vb := key0 x5 i v k
  { acc := (k0_pay11 p.q0 s.acc.1 kb, k0_pay18 s.acc.2.1 (k0_pay13 p.ua p.q0 p.d0 p.r0 s.acc.1 kb vb),
      k0_pay19 s.acc.2.2.1 (k0_pay7 kb) (k0_pay14 p.ua p.ub p.q0 p.d0 p.r0 s.acc.1 s.acc.2.1 kb vb), s.acc.2.2.2)
    dk := put s.dk (k0_off2 i v k) S1x64x256.size (k0_pay16 (k0_pay15 p.ua p.ub p.qt p.q0 p.d0 p.r0 s.acc.1 s.acc.2.1 kb vb)
      (window s.dk (k0_off2 i v k) S1x64x256.size (k0_off2_inb i v (chk i v) k)))
    dv := put s.dv (k0_off2 i v k) S1x64x256.size (k0_pay17 p.dt (k0_pay12 p.ua p.q0 p.r0 s.acc.1 kb)
      (window s.dv (k0_off2 i v k) S1x64x256.size (k0_off2_inb i v (chk i v) k))) }

/-- One trip of the loop: the second head. -/
def half1 (s : St F) : St F :=
  let kb := key1 x4 i v k
  let vb := k0_pay21 (key1 x5 i v k)
  let z := k0_pay22 p.q1 kb
  let lb := k0_pay23 p.q1 kb
  let lk := k0_pay24 p.q1 kb
  { acc := (s.acc.1, s.acc.2.1, s.acc.2.2.1, k0_pay27 s.acc.2.2.2.1 z lb lk,
      k0_pay90 s.acc.2.2.2.2.1 (k0_pay29 p.ua p.d1 p.r1 s.acc.2.2.2.1 vb z lb lk),
      k0_pay91 s.acc.2.2.2.2.2 (k0_pay20 kb) (k0_pay30 p.ua p.ub p.d1 p.r1 s.acc.2.2.2.1 s.acc.2.2.2.2.1 vb z lb lk))
    dk := put s.dk (k0_off4 i v k) S1x64x256.size (k0_pay31 p.ua p.ub p.qt p.d1 p.r1 s.acc.2.2.2.1 s.acc.2.2.2.2.1 vb z lb lk
      (window s.dk (k0_off4 i v k) S1x64x256.size (k0_off4_inb i v (chk i v) k)))
    dv := put s.dv (k0_off4 i v k) S1x64x256.size (k0_pay32 p.ua p.dt p.r1 s.acc.2.2.2.1 z lb lk
      (window s.dv (k0_off4 i v k) S1x64x256.size (k0_off4_inb i v (chk i v) k))) }

/-- One trip of the loop. -/
def trip (s : St F) : St F := half1 p x4 x5 i v k (half0 p x4 x5 i v k s)

end

/-- The state before trip `n`. -/
def before (s : St F) : ℕ → St F
  | 0 => s
  | n + 1 => if h : n < (k0_t1_loop i v).trips then trip p x4 x5 i v ⟨n, h⟩ (before s n) else before s n

variable {𝒱 : Variants} {c : Dev nD} {bd : Option 𝒱.V} {E : Set ℕ}

set_option maxHeartbeats 1000000 in
/-- A trip of the loop computes `trip`. -/
theorem trip_run (arg3 : Memref sig .tc .vmem S512x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S512x128 .bf16) (harg6 : arg6.IsWhole)
    (arg7 : Memref sig .tc .vmem S1x1x512x3 .f32) (harg7 : arg7.IsWhole) (arg8 : Memref sig .tc .vmem S512x128 .bf16) (harg8 : arg8.IsWhole)
    (arg9 : Memref sig .tc .vmem S2048x128 .bf16) (harg9 : arg9.IsWhole) (arg10 : Memref sig .tc .vmem S2048x128 .bf16) (harg10 : arg10.IsWhole)
    (arg11 : Memref sig .tc .vmem S8x128x256 .f32) (harg11 : arg11.IsWhole) (arg12 : Memref sig .tc .vmem S8x128x256 .f32) (harg12 : arg12.IsWhole)
    (arg2 : BitVec 32) (v41 : Vec F S1x1x512x1 .f32) (h41 : k0_pay86 v41 = p.r1) (w55 : BitVec 32)
    (k : Fin (k0_t1_loop i v).trips) (s : St F) (Q : Acc F → sProp 𝕄) :
    (iprop(owns (c : Thread nD τ) arg4 fullShare x4 ∗ owns (c : Thread nD τ) arg5 fullShare x5
        ∗ owns (c : Thread nD τ) arg11 fullShare s.dk ∗ owns (c : Thread nD τ) arg12 fullShare s.dv) : sProp 𝕄)
      ⊢ iprop((owns (c : Thread nD τ) arg4 fullShare x4 -∗ owns (c : Thread nD τ) arg5 fullShare x5
          -∗ owns (c : Thread nD τ) arg11 fullShare (trip p x4 x5 i v k s).dk -∗ owns (c : Thread nD τ) arg12 fullShare (trip p x4 x5 i v k s).dv
          -∗ Q (trip p x4 x5 i v k s).acc)
        -∗ wp frame (wpE (defs₀ (F := F)) 𝒱 (c : Thread nD τ) bd) E (k0_t1_body (F := F) i arg3 harg3 arg4 harg4 arg5 harg5 arg6 harg6 arg7 harg7 arg8 harg8 arg9 harg9 arg10 harg10
            arg11 harg11 arg12 harg12 arg2 p.ua p.ub p.qt p.dt p.q0 p.q1 p.d0 p.d1 p.r0 v41 v (chk i v) w55 k s.acc) Q) := by
  obtain ⟨⟨a14, a15, a16, a17, a18, a19⟩, dk, dv⟩ := s
  unfold k0_t1_body trip half1 half0 key0 key1
  dsimp only
  rw [k0_part1_eq_skeleton, k0_part2_eq_skeleton, k0_part3_eq_skeleton]
  iintro ⟨H4, H5, H11, H12⟩ Hk
  rw [wp_bind]
  unfold k0_part1_skel
  iapply (Cert.Sb.ld x4) $$ H4
  iintro H4
  iapply (Cert.Sb.ld x5) $$ H5
  iintro H5
  rw [wp_pure]
  imodintro
  dsimp only
  rw [wp_bind]
  unfold k0_part2_skel
  iapply (Cert.Sb.ld dk) $$ H11
  iintro H11
  iapply (Cert.Sb.ld dk) $$ H11
  iintro H11
  iapply (Cert.Sb.st dk) $$ H11
  iintro H11
  iapply (Cert.Sb.ld dv) $$ H12
  iintro H12
  iapply (Cert.Sb.ld dv) $$ H12
  iintro H12
  iapply (Cert.Sb.st dv) $$ H12
  iintro H12
  iapply (Cert.Sb.ld x4) $$ H4
  iintro H4
  iapply (Cert.Sb.ld x5) $$ H5
  iintro H5
  rw [wp_pure]
  imodintro
  dsimp only
  rw [wp_bind]
  unfold k0_part3_skel
  rw [h41]
  iapply (Cert.Sb.ld _) $$ H11
  iintro H11
  iapply (Cert.Sb.ld _) $$ H11
  iintro H11
  iapply (Cert.Sb.st _) $$ H11
  iintro H11
  iapply (Cert.Sb.ld _) $$ H12
  iintro H12
  iapply (Cert.Sb.ld _) $$ H12
  iintro H12
  iapply (Cert.Sb.st _) $$ H12
  iintro H12
  rw [wp_pure]
  imodintro
  dsimp only
  rw [wp_pure]
  imodintro
  iapply Hk $$ H4 H5 H11 H12

end Cert.Sb
-- ==== Proof.SbBody.lean ====
module

public import proofs.«01_k».proof.Proof.SbTrip

@[expose] public section

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen
open VecWindow (window put)

variable {F : FTy → Type} [FloatOps F]

local notation "𝕄" => MT nD τ sig Unit (Elt F) ℕ (UR sig nD τ) ℕ

variable (p : Pro F) (x3 : Vec F S512x128 .bf16) (x4 x5 : Vec F S2048x128 .bf16) (x6 : Vec F S512x128 .bf16) (x7 : Vec F S1x1x512x3 .f32) (i : grid0.Coords)

/-- The values of a query block that every key block uses. -/
def pro : Pro F where
  ua := k0_pay75
  ub := k0_pay76
  qt := k0_pay79 (window x3 ![0, 0] S512x128.size inb_S512x128_S512x128_0_0)
  dt := k0_pay80 (window x6 ![0, 0] S512x128.size inb_S512x128_S512x128_0_0)
  q0 := k0_pay81 (window x3 ![0, 0] S512x128.size inb_S512x128_S512x128_0_0)
  q1 := k0_pay82 (window x3 ![0, 0] S512x128.size inb_S512x128_S512x128_0_0)
  d0 := k0_pay83 (window x6 ![0, 0] S512x128.size inb_S512x128_S512x128_0_0)
  d1 := k0_pay84 (window x6 ![0, 0] S512x128.size inb_S512x128_S512x128_0_0)
  r0 := k0_pay85 (window x7 ![0, 0, 0, 0] S1x1x512x1.size inb_S1x1x512x3_S1x1x512x1_0_0_0_0)
  r1 := k0_pay86 (window x7 ![0, 0, 0, 1] S1x1x512x1.size inb_S1x1x512x3_S1x1x512x1_0_0_0_1)

/-- The word that says how many key blocks the query block visits. -/
def word : BitVec 32 := Scalar.fptosi 32 (k0_pay88 (window x7 ![0, 0, 0, 2] S1x1x512x1.size inb_S1x1x512x3_S1x1x512x1_0_0_0_2))

/-- What is carried at first: nothing. -/
def acc0 : Acc F := (k0_pay87, k0_pay87, k0_pay89, k0_pay87, k0_pay87, k0_pay89)

/-- An array that collects a gradient, after the first point's clearing. -/
def clear (w x : Vec F S8x128x256 .f32) : Vec F S8x128x256 .f32 :=
  if Scalar.cmpi .ne (Scalar.extui (Scalar.cmpi .eq (BitVec.ofNat 32 (i 2).val) 0#32) : BitVec 32) 0#32 = 1#1 then put x ![0, 0, 0] S8x128x256.size w else x

/-- The first diagonal key block, first head. -/
def diag00 (s : St F) : St F :=
  let kb : FVec F S256x64 .bf16 := window x4 (k0_off9 i 0#32) S256x64.size (k0_off9_inb i 0)
  let vb : FVec F S256x64 .bf16 := window x5 (k0_off9 i 0#32) S256x64.size (k0_off9_inb i 0)
  let v73 := k0_pay95 vb
  let v74 := k0_pay96 p.q0 kb
  let v75 := k0_pay97 p.q0 kb
  { acc := (k0_pay101 k0_pay73 s.acc.1 v74 v75 k0_pay98, k0_pay107 s.acc.2.1 (k0_pay103 k0_pay73 p.ua p.d0 p.r0 s.acc.1 v73 v74 v75 k0_pay98),
      k0_pay108 s.acc.2.2.1 (k0_pay94 kb) (k0_pay104 k0_pay73 p.ua p.ub p.d0 p.r0 s.acc.1 s.acc.2.1 v73 v74 v75 k0_pay98), s.acc.2.2.2)
    dk := put s.dk (k0_off10 i 0#32) S1x64x256.size (k0_pay105 k0_pay73 p.ua p.ub p.qt p.d0 p.r0 s.acc.1 s.acc.2.1 v73 v74 v75 k0_pay98
      (window s.dk (k0_off10 i 0#32) S1x64x256.size (k0_off10_inb i 0)))
    dv := put s.dv (k0_off10 i 0#32) S1x64x256.size (k0_pay106 p.dt (k0_pay102 k0_pay73 p.ua p.r0 s.acc.1 v74 v75 k0_pay98)
      (window s.dv (k0_off10 i 0#32) S1x64x256.size (k0_off10_inb i 0))) }

/-- The first diagonal key block, second head. -/
def diag01 (s : St F) : St F :=
  let kb : FVec F S256x64 .bf16 := window x4 (k0_off11 i 0#32) S256x64.size (k0_off11_inb i 0)
  let vb : FVec F S256x64 .bf16 := window x5 (k0_off11 i 0#32) S256x64.size (k0_off11_inb i 0)
  let v148 := k0_pay110 vb
  let v159 := k0_pay112 p.q1 kb
  let v162 := k0_pay113 k0_pay73 p.q1 kb
  { acc := (s.acc.1, s.acc.2.1, s.acc.2.2.1, k0_pay114 s.acc.2.2.2.1 v162,
      k0_pay121 s.acc.2.2.2.2.1 (k0_pay116 k0_pay73 p.ua p.d1 p.r1 s.acc.2.2.2.1 v148 v159 v162),
      k0_pay122 s.acc.2.2.2.2.2 (k0_pay109 kb) (k0_pay117 k0_pay73 p.ua p.ub p.d1 p.r1 s.acc.2.2.2.1 s.acc.2.2.2.2.1 v148 v159 v162))
    dk := put s.dk (k0_off12 i 0#32) S1x64x256.size (k0_pay118 k0_pay73 p.ua p.ub p.qt p.d1 p.r1 s.acc.2.2.2.1 s.acc.2.2.2.2.1 v148 v159 v162
      (window s.dk (k0_off12 i 0#32) S1x64x256.size (k0_off12_inb i 0)))
    dv := put s.dv (k0_off12 i 0#32) S1x64x256.size (k0_pay120 (k0_pay119 k0_pay73 p.ua p.dt p.r1 s.acc.2.2.2.1 v159 v162
      (window s.dv (k0_off12 i 0#32) S1x64x256.size (k0_off12_inb i 0)))) }

/-- The second diagonal key block, first head. Of what is carried only the gradient of `q` is still wanted. -/
def diag10 (s : St F) : St F :=
  let kb : FVec F S256x64 .bf16 := window x4 (k0_off9 i 1#32) S256x64.size (k0_off9_inb i 1)
  let vb : FVec F S256x64 .bf16 := window x5 (k0_off9 i 1#32) S256x64.size (k0_off9_inb i 1)
  let v226 := k0_pay126 vb
  let v227 := k0_pay127 k0_pay74
  let v239 := k0_pay129 p.q0 kb
  let v251 := k0_pay130 k0_pay74 p.ua p.q0 p.r0 s.acc.1 kb
  { acc := (s.acc.1, s.acc.2.1, k0_pay135 p.ub p.d0 s.acc.2.2.1 (k0_pay123 s.acc.2.1) (k0_pay124 s.acc.2.2.1) (k0_pay125 kb) v226 v227 v239 v251, s.acc.2.2.2)
    dk := put s.dk (k0_off10 i 1#32) S1x64x256.size (k0_pay133 p.ub p.qt p.d0 (k0_pay123 s.acc.2.1) v226 v227 v239 v251
      (window s.dk (k0_off10 i 1#32) S1x64x256.size (k0_off10_inb i 1)))
    dv := put s.dv (k0_off10 i 1#32) S1x64x256.size (k0_pay134 p.dt v227 v239 v251
      (window s.dv (k0_off10 i 1#32) S1x64x256.size (k0_off10_inb i 1))) }

/-- The second diagonal key block, second head. -/
def diag11 (s : St F) : St F :=
  let kb : FVec F S256x64 .bf16 := window x4 (k0_off11 i 1#32) S256x64.size (k0_off11_inb i 1)
  let vb : FVec F S256x64 .bf16 := window x5 (k0_off11 i 1#32) S256x64.size (k0_off11_inb i 1)
  let v308 := k0_pay139 k0_pay74
  let v320 := k0_pay141 p.q1 kb
  let v336 := k0_pay142 k0_pay74 p.ua p.q1 p.r1 s.acc.2.2.2.1 kb
  let v339 := k0_pay143 k0_pay74 p.ua p.q1 p.d1 p.r1 s.acc.2.2.2.1 kb vb
  let v340 := k0_pay144 k0_pay74 p.ua p.q1 p.d1 p.r1 s.acc.2.2.2.1 kb vb
  { acc := (s.acc.1, s.acc.2.1, s.acc.2.2.1, s.acc.2.2.2.1, s.acc.2.2.2.2.1,
      k0_pay148 p.ub s.acc.2.2.2.2.2 (k0_pay136 s.acc.2.2.2.2.1) (k0_pay137 s.acc.2.2.2.2.2) (k0_pay138 kb) v308 v320 v339 v340)
    dk := put s.dk (k0_off12 i 1#32) S1x64x256.size (k0_pay146 p.ub p.qt (k0_pay136 s.acc.2.2.2.2.1) v308 v320 v339 v340
      (window s.dk (k0_off12 i 1#32) S1x64x256.size (k0_off12_inb i 1)))
    dv := put s.dv (k0_off12 i 1#32) S1x64x256.size (k0_pay147 p.dt v336
      (window s.dv (k0_off12 i 1#32) S1x64x256.size (k0_off12_inb i 1))) }

/-- The state after the loop over the key blocks below the diagonal. -/
def looped (v : BitVec 32) (dk dv : Vec F S8x128x256 .f32) : St F :=
  before p x4 x5 i v { acc := acc0, dk := clear i k0_pay71 dk, dv := clear i k0_pay72 dv } (k0_t1_loop i v).trips

/-- The state when the query block is done. -/
def done (dk dv : Vec F S8x128x256 .f32) : St F :=
  let p := pro x3 x6 x7
  diag11 p x4 x5 i (diag10 p x4 x5 i (diag01 p x4 x5 i (diag00 p x4 x5 i (looped p x4 x5 i (word x7) dk dv))))

/-- The block of the gradient of `q`. -/
def dq (s : St F) (x8 : Vec F S512x128 .bf16) : Vec F S512x128 .bf16 :=
  put (put x8 ![0, 0] S512x64.size (k0_pay149 s.acc.2.2.1)) ![0, 64] S512x64.size (k0_pay1 s.acc.2.2.2.2.2 k0_pay150)

/-- The block of the gradient of `k` that the last query block writes. -/
def dkOut (x : Vec F S8x128x256 .f32) (x9 : Vec F S2048x128 .bf16) : Vec F S2048x128 .bf16 :=
  put (put (put (put (put (put (put (put x9 ![0, 0] S256x128.size
    (k0_pay59 (window x ![0, 0, 0] S1x128x256.size inb_S8x128x256_S1x128x256_0_0_0))) ![256, 0] S256x128.size
    (k0_pay60 (window x ![1, 0, 0] S1x128x256.size inb_S8x128x256_S1x128x256_1_0_0))) ![512, 0] S256x128.size
    (k0_pay61 (window x ![2, 0, 0] S1x128x256.size inb_S8x128x256_S1x128x256_2_0_0))) ![768, 0] S256x128.size
    (k0_pay62 (window x ![3, 0, 0] S1x128x256.size inb_S8x128x256_S1x128x256_3_0_0))) ![1024, 0] S256x128.size
    (k0_pay63 (window x ![4, 0, 0] S1x128x256.size inb_S8x128x256_S1x128x256_4_0_0))) ![1280, 0] S256x128.size
    (k0_pay65 (k0_pay64 (window x ![5, 0, 0] S1x128x256.size inb_S8x128x256_S1x128x256_5_0_0)))) ![1536, 0] S256x128.size
    (k0_pay66 (window x ![6, 0, 0] S1x128x256.size inb_S8x128x256_S1x128x256_6_0_0))) ![1792, 0] S256x128.size
    (k0_pay67 (window x ![7, 0, 0] S1x128x256.size inb_S8x128x256_S1x128x256_7_0_0))

/-- The block of the gradient of `v` that the last query block writes. -/
def dvOut (x : Vec F S8x128x256 .f32) (x10 : Vec F S2048x128 .bf16) : Vec F S2048x128 .bf16 :=
  put (put (put (put (put (put (put (put x10 ![0, 0] S256x128.size
    (k0_pay68 (window x ![0, 0, 0] S1x128x256.size inb_S8x128x256_S1x128x256_0_0_0))) ![256, 0] S256x128.size
    (k0_pay69 (window x ![1, 0, 0] S1x128x256.size inb_S8x128x256_S1x128x256_1_0_0))) ![512, 0] S256x128.size
    (k0_pay70 (window x ![2, 0, 0] S1x128x256.size inb_S8x128x256_S1x128x256_2_0_0))) ![768, 0] S256x128.size
    (k0_pay2 (window x ![3, 0, 0] S1x128x256.size inb_S8x128x256_S1x128x256_3_0_0))) ![1024, 0] S256x128.size
    (k0_pay3 (window x ![4, 0, 0] S1x128x256.size inb_S8x128x256_S1x128x256_4_0_0))) ![1280, 0] S256x128.size
    (k0_pay4 (window x ![5, 0, 0] S1x128x256.size inb_S8x128x256_S1x128x256_5_0_0))) ![1536, 0] S256x128.size
    (k0_pay5 (window x ![6, 0, 0] S1x128x256.size inb_S8x128x256_S1x128x256_6_0_0))) ![1792, 0] S256x128.size
    (k0_pay6 (window x ![7, 0, 0] S1x128x256.size inb_S8x128x256_S1x128x256_7_0_0))

variable {𝒱 : Variants} {c : Dev nD} {bd : Option 𝒱.V} {E : Set ℕ}
variable (arg3 : Memref sig .tc .vmem S512x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S512x128 .bf16) (harg6 : arg6.IsWhole)
    (arg7 : Memref sig .tc .vmem S1x1x512x3 .f32) (harg7 : arg7.IsWhole) (arg8 : Memref sig .tc .vmem S512x128 .bf16) (harg8 : arg8.IsWhole)
    (arg9 : Memref sig .tc .vmem S2048x128 .bf16) (harg9 : arg9.IsWhole) (arg10 : Memref sig .tc .vmem S2048x128 .bf16) (harg10 : arg10.IsWhole)
    (arg11 : Memref sig .tc .vmem S8x128x256 .f32) (harg11 : arg11.IsWhole) (arg12 : Memref sig .tc .vmem S8x128x256 .f32) (harg12 : arg12.IsWhole)

/-- The loop that visits no key block: the kernel does not split its range. -/
theorem no_trips (v : BitVec 32) : (k0_t2_loop i v).trips = 0 := by
  obtain ⟨k, hk, h⟩ := clip (i 2) v
  unfold k0_t2_loop
  dsimp only
  rw [h]
  have : ∀ (n : Fin 4) (k : Fin 7), (⟨Scalar.addi 0#32 (Scalar.muli (Scalar.divsi (Scalar.subi (Scalar.minsi (Scalar.muli 2#32 (BitVec.ofNat 32 n.val)) (Scalar.maxsi 0#32 (BitVec.ofNat 32 k.val))) 0#32) 1#32) 1#32),
      Scalar.addi 0#32 (Scalar.subi (Scalar.minsi (Scalar.muli 2#32 (BitVec.ofNat 32 n.val)) (Scalar.maxsi 0#32 (BitVec.ofNat 32 k.val))) 0#32), 1#32⟩ : Scf.Loop 32).trips = 0 := by
    decide +kernel
  exact this (i 2) k

set_option maxHeartbeats 1000000 in
/-- The first part: the clearing and the loads of the query block. -/
theorem part9_run (dk dv : Vec F S8x128x256 .f32) (Q : _ → sProp 𝕄) :
    (iprop(owns (c : Thread nD τ) arg3 fullShare x3
        ∗ owns (c : Thread nD τ) arg6 fullShare x6
        ∗ owns (c : Thread nD τ) arg7 fullShare x7
        ∗ owns (c : Thread nD τ) arg11 fullShare dk
        ∗ owns (c : Thread nD τ) arg12 fullShare dv) : sProp 𝕄)
      ⊢ iprop((owns (c : Thread nD τ) arg3 fullShare x3
          -∗ owns (c : Thread nD τ) arg6 fullShare x6
          -∗ owns (c : Thread nD τ) arg7 fullShare x7
          -∗ owns (c : Thread nD τ) arg11 fullShare (clear i k0_pay71 dk)
          -∗ owns (c : Thread nD τ) arg12 fullShare (clear i k0_pay72 dv)
          -∗ Q ⟨BitVec.ofNat 32 (i 2).val, k0_pay73, k0_pay74, (pro x3 x6 x7).ua, (pro x3 x6 x7).ub, (pro x3 x6 x7).qt, (pro x3 x6 x7).dt, (pro x3 x6 x7).q0, (pro x3 x6 x7).q1,
              (pro x3 x6 x7).d0, (pro x3 x6 x7).d1, (pro x3 x6 x7).r0⟩)
        -∗ wp frame (wpE (defs₀ (F := F)) 𝒱 (c : Thread nD τ) bd) E (k0_part9 (F := F) i arg3 harg3 arg4 harg4 arg5 harg5 arg6 harg6 arg7 harg7 arg8 harg8 arg9 harg9 arg10 harg10 arg11 harg11 arg12 harg12) Q) := by
  rw [k0_part9_eq_skeleton]
  unfold k0_part9_skel pro clear
  iintro ⟨H3, H6, H7, H11, H12⟩ Hk
  dsimp only
  by_cases h : Scalar.cmpi .ne (Scalar.extui (Scalar.cmpi .eq (BitVec.ofNat 32 (i 2).val) 0#32) : BitVec 32) 0#32 = 1#1
  · rw [dif_pos h, if_pos h, if_pos h]
    iapply (ld _) $$ H11
    iintro H11
    iapply (st _) $$ H11
    iintro H11
    iapply (ld _) $$ H12
    iintro H12
    iapply (st _) $$ H12
    iintro H12
    iapply (ld _) $$ H3
    iintro H3
    iapply (ld _) $$ H6
    iintro H6
    iapply (ld _) $$ H7
    iintro H7
    rw [wp_pure]
    imodintro
    iapply Hk $$ H3 H6 H7 H11 H12
  · rw [dif_neg h, if_neg h, if_neg h]
    iapply (ld _) $$ H3
    iintro H3
    iapply (ld _) $$ H6
    iintro H6
    iapply (ld _) $$ H7
    iintro H7
    rw [wp_pure]
    imodintro
    iapply Hk $$ H3 H6 H7 H11 H12

end Cert.Sb
-- ==== Proof.SbRun.lean ====
module

public import proofs.«01_k».proof.Proof.SbBody

@[expose] public section

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen
open VecWindow (window put)

variable {F : FTy → Type} [FloatOps F]

local notation "𝕄" => MT nD τ sig Unit (Elt F) ℕ (UR sig nD τ) ℕ

variable (p : Pro F) (x3 : Vec F S512x128 .bf16) (x4 x5 : Vec F S2048x128 .bf16) (x6 : Vec F S512x128 .bf16) (x7 : Vec F S1x1x512x3 .f32) (i : grid0.Coords)
variable {𝒱 : Variants} {c : Dev nD} {bd : Option 𝒱.V} {E : Set ℕ}
variable (arg3 : Memref sig .tc .vmem S512x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S512x128 .bf16) (harg6 : arg6.IsWhole)
    (arg7 : Memref sig .tc .vmem S1x1x512x3 .f32) (harg7 : arg7.IsWhole) (arg8 : Memref sig .tc .vmem S512x128 .bf16) (harg8 : arg8.IsWhole)
    (arg9 : Memref sig .tc .vmem S2048x128 .bf16) (harg9 : arg9.IsWhole) (arg10 : Memref sig .tc .vmem S2048x128 .bf16) (harg10 : arg10.IsWhole)
    (arg11 : Memref sig .tc .vmem S8x128x256 .f32) (harg11 : arg11.IsWhole) (arg12 : Memref sig .tc .vmem S8x128x256 .f32) (harg12 : arg12.IsWhole)

set_option maxHeartbeats 2000000 in
/-- The second part: the loop over the key blocks below the diagonal. -/
theorem part10_run (dk dv : Vec F S8x128x256 .f32) (w2 : BitVec 32) (v : BitVec 32) (hv : word x7 = v) (hr : p.r1 = (pro x3 x6 x7).r1) (Q : _ → sProp 𝕄) :
    (iprop(owns (c : Thread nD τ) arg4 fullShare x4
        ∗ owns (c : Thread nD τ) arg5 fullShare x5
        ∗ owns (c : Thread nD τ) arg7 fullShare x7
        ∗ owns (c : Thread nD τ) arg11 fullShare (clear i k0_pay71 dk)
        ∗ owns (c : Thread nD τ) arg12 fullShare (clear i k0_pay72 dv)) : sProp 𝕄)
      ⊢ iprop((∀ w, owns (c : Thread nD τ) arg4 fullShare x4
          -∗ owns (c : Thread nD τ) arg5 fullShare x5
          -∗ owns (c : Thread nD τ) arg7 fullShare x7
          -∗ owns (c : Thread nD τ) arg11 fullShare (looped p x4 x5 i v dk dv).dk
          -∗ owns (c : Thread nD τ) arg12 fullShare (looped p x4 x5 i v dk dv).dv
          -∗ Q ⟨p.r1, (looped p x4 x5 i v dk dv).acc.1, (looped p x4 x5 i v dk dv).acc.2.1, (looped p x4 x5 i v dk dv).acc.2.2.1,
            (looped p x4 x5 i v dk dv).acc.2.2.2.1, (looped p x4 x5 i v dk dv).acc.2.2.2.2.1, (looped p x4 x5 i v dk dv).acc.2.2.2.2.2, w,
            k0_pay94 (window x4 (k0_off9 i 0#32) S256x64.size (k0_off9_inb i 0)), k0_pay95 (window x5 (k0_off9 i 0#32) S256x64.size (k0_off9_inb i 0)),
            k0_pay96 p.q0 (window x4 (k0_off9 i 0#32) S256x64.size (k0_off9_inb i 0)), k0_pay97 p.q0 (window x4 (k0_off9 i 0#32) S256x64.size (k0_off9_inb i 0)), k0_pay98⟩)
        -∗ wp frame (wpE (defs₀ (F := F)) 𝒱 (c : Thread nD τ) bd) E (k0_part10 (F := F) i arg3 harg3 arg4 harg4 arg5 harg5 arg6 harg6 arg7 harg7 arg8 harg8 arg9 harg9 arg10 harg10 arg11 harg11 arg12 harg12 w2 p.ua p.ub p.qt p.dt p.q0 p.q1 p.d0 p.d1 p.r0) Q) := by
  rw [k0_part10_eq_skeleton]
  unfold k0_part10_skel
  subst hv
  unfold word looped
  have hr' : k0_pay86 (window x7 ![0, 0, 0, 1] S1x1x512x1.size inb_S1x1x512x3_S1x1x512x1_0_0_0_1) = p.r1 := hr.symm
  iintro ⟨H4, H5, H7, H11, H12⟩ Hk
  iapply (ld _) $$ H7
  iintro H7
  iapply (ld _) $$ H7
  iintro H7
  dsimp only
  iapply (asm (chk i _))
  iapply (Scf.wp_for_bind _ _ _ _ _ _ _ _ _ (fun n (acc : Acc F) => iprop(⌜acc = (before p x4 x5 i (Scalar.fptosi 32 (k0_pay88 (window x7 ![0, 0, 0, 2] ![1, 1, 512, 1] inb_S1x1x512x3_S1x1x512x1_0_0_0_2))) { acc := acc0, dk := clear i k0_pay71 dk, dv := clear i k0_pay72 dv } n).acc⌝
      ∗ owns (c : Thread nD τ) arg4 fullShare x4 ∗ owns (c : Thread nD τ) arg5 fullShare x5
      ∗ owns (c : Thread nD τ) arg11 fullShare (before p x4 x5 i (Scalar.fptosi 32 (k0_pay88 (window x7 ![0, 0, 0, 2] ![1, 1, 512, 1] inb_S1x1x512x3_S1x1x512x1_0_0_0_2))) { acc := acc0, dk := clear i k0_pay71 dk, dv := clear i k0_pay72 dv } n).dk
      ∗ owns (c : Thread nD τ) arg12 fullShare (before p x4 x5 i (Scalar.fptosi 32 (k0_pay88 (window x7 ![0, 0, 0, 2] ![1, 1, 512, 1] inb_S1x1x512x3_S1x1x512x1_0_0_0_2))) { acc := acc0, dk := clear i k0_pay71 dk, dv := clear i k0_pay72 dv } n).dv)) ?_) $$ [H4 H5 H11 H12]
  · intro k acc
    iintro ⟨%hacc, H4, H5, H11, H12⟩
    subst hacc
    have hn : before p x4 x5 i (Scalar.fptosi 32 (k0_pay88 (window x7 ![0, 0, 0, 2] ![1, 1, 512, 1] inb_S1x1x512x3_S1x1x512x1_0_0_0_2))) { acc := acc0, dk := clear i k0_pay71 dk, dv := clear i k0_pay72 dv } (k.val + 1)
        = trip p x4 x5 i (Scalar.fptosi 32 (k0_pay88 (window x7 ![0, 0, 0, 2] ![1, 1, 512, 1] inb_S1x1x512x3_S1x1x512x1_0_0_0_2))) k (before p x4 x5 i (Scalar.fptosi 32 (k0_pay88 (window x7 ![0, 0, 0, 2] ![1, 1, 512, 1] inb_S1x1x512x3_S1x1x512x1_0_0_0_2))) { acc := acc0, dk := clear i k0_pay71 dk, dv := clear i k0_pay72 dv } k.val) := by
      rw [before, dif_pos k.isLt]
    rw [hn]
    iapply (trip_run p x4 x5 i (Scalar.fptosi 32 (k0_pay88 (window x7 ![0, 0, 0, 2] ![1, 1, 512, 1] inb_S1x1x512x3_S1x1x512x1_0_0_0_2))) arg3 harg3 arg4 harg4 arg5 harg5 arg6 harg6 arg7 harg7 arg8 harg8 arg9 harg9 arg10 harg10 arg11 harg11 arg12 harg12 w2 _ hr' _ k _ _) $$ [H4 H5 H11 H12]
    · isplitl [H4]; · iexact H4
      isplitl [H5]; · iexact H5
      isplitl [H11]; · iexact H11
      iexact H12
    iintro H4 H5 H11 H12
    isplitr
    · ipureintro; rfl
    isplitl [H4]; · iexact H4
    isplitl [H5]; · iexact H5
    isplitl [H11]; · iexact H11
    iexact H12
  · isplitr
    · ipureintro; rfl
    isplitl [H4]; · iexact H4
    isplitl [H5]; · iexact H5
    isplitl [H11]; · iexact H11
    iexact H12
  iintro %acc ⟨%hacc, H4, H5, H11, H12⟩
  revert hacc
  generalize before p x4 x5 i _ _ _ = s
  intro hacc
  subst hacc
  obtain ⟨⟨a14, a15, a16, a17, a18, a19⟩, dk', dv'⟩ := s
  dsimp only
  iapply (Scf.wp_for_bind _ _ _ _ _ _ _ _ _ (fun _ (acc : Acc F) => iprop(⌜acc = (a14, a15, a16, a17, a18, a19)⌝)) ?_)
  · intro k
    exact absurd k.isLt (by have := no_trips i (Scalar.fptosi 32 (k0_pay88 (window x7 ![0, 0, 0, 2] ![1, 1, 512, 1] inb_S1x1x512x3_S1x1x512x1_0_0_0_2))); unfold Scf.Loop.trips at this; omega)
  · ipureintro; rfl
  iintro %acc %hacc
  subst hacc
  dsimp only
  iapply (ld _) $$ H4
  iintro H4
  iapply (ld _) $$ H5
  iintro H5
  rw [wp_pure, hr']
  imodintro
  iapply Hk $$ %_ H4 H5 H7 H11 H12

/-- The block of the gradient of `k`, written at the last query block. -/
def last9 (s : St F) (x9 : Vec F S2048x128 .bf16) : Vec F S2048x128 .bf16 := if k0_cond2 i = 1#1 then dkOut s.dk x9 else x9

/-- The block of the gradient of `v`, written at the last query block. -/
def last10 (s : St F) (x10 : Vec F S2048x128 .bf16) : Vec F S2048x128 .bf16 := if k0_cond2 i = 1#1 then dvOut s.dv x10 else x10

set_option maxHeartbeats 4000000 in
/-- What the body leaves of its arrays. -/
theorem body_run (x8 : Vec F S512x128 .bf16) (x9 x10 : Vec F S2048x128 .bf16) (x11 x12 : Vec F S8x128x256 .f32) (Q : PUnit → sProp 𝕄) :
    (iprop(owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12) : sProp 𝕄)
      ⊢ iprop((owns (c : Thread nD τ) arg3 fullShare x3
          -∗ owns (c : Thread nD τ) arg4 fullShare x4
          -∗ owns (c : Thread nD τ) arg5 fullShare x5
          -∗ owns (c : Thread nD τ) arg6 fullShare x6
          -∗ owns (c : Thread nD τ) arg7 fullShare x7
          -∗ owns (c : Thread nD τ) arg8 fullShare (dq (done x3 x4 x5 x6 x7 i x11 x12) x8)
          -∗ owns (c : Thread nD τ) arg9 fullShare (last9 i (done x3 x4 x5 x6 x7 i x11 x12) x9)
          -∗ owns (c : Thread nD τ) arg10 fullShare (last10 i (done x3 x4 x5 x6 x7 i x11 x12) x10)
          -∗ owns (c : Thread nD τ) arg11 fullShare (done x3 x4 x5 x6 x7 i x11 x12).dk
          -∗ owns (c : Thread nD τ) arg12 fullShare (done x3 x4 x5 x6 x7 i x11 x12).dv
          -∗ Q ⟨⟩)
        -∗ wp frame (wpE (defs₀ (F := F)) 𝒱 (c : Thread nD τ) bd) E (cc0_sb_dattn (F := F) i arg3 harg3 arg4 harg4 arg5 harg5 arg6 harg6 arg7 harg7 arg8 harg8 arg9 harg9 arg10 harg10 arg11 harg11 arg12 harg12) Q) := by
  rw [cc0_sb_dattn_eq_skeleton]
  unfold cc0_sb_dattn_skel done
  iintro ⟨H3, H4, H5, H6, H7, H8, H9, H10, H11, H12⟩ Hk
  rw [wp_bind]
  iapply (part9_run x3 x6 x7 i arg3 harg3 arg4 harg4 arg5 harg5 arg6 harg6 arg7 harg7 arg8 harg8 arg9 harg9 arg10 harg10 arg11 harg11 arg12 harg12 x11 x12 _) $$ [H3 H6 H7 H11 H12]
  · isplitl [H3]; · iexact H3
    isplitl [H6]; · iexact H6
    isplitl [H7]; · iexact H7
    isplitl [H11]; · iexact H11
    iexact H12
  iintro H3 H6 H7 H11 H12
  dsimp only
  rw [wp_bind]
  iapply (part10_run (pro x3 x6 x7) x3 x4 x5 x6 x7 i arg3 harg3 arg4 harg4 arg5 harg5 arg6 harg6 arg7 harg7 arg8 harg8 arg9 harg9 arg10 harg10 arg11 harg11 arg12 harg12 x11 x12 _ (word x7) rfl rfl _) $$ [H4 H5 H7 H11 H12]
  · isplitl [H4]; · iexact H4
    isplitl [H5]; · iexact H5
    isplitl [H7]; · iexact H7
    isplitl [H11]; · iexact H11
    iexact H12
  iintro %w H4 H5 H7 H11 H12
  dsimp only
  generalize pro x3 x6 x7 = p
  generalize looped p x4 x5 i (word x7) x11 x12 = s
  obtain ⟨⟨a14, a15, a16, a17, a18, a19⟩, dk, dv⟩ := s
  unfold diag11 diag10 diag01 diag00 dq
  dsimp only
  rw [wp_bind, k0_part11_eq_skeleton]
  unfold k0_part11_skel
  iapply (ld _) $$ H11
  iintro H11
  iapply (ld _) $$ H11
  iintro H11
  rw [wp_pure]
  imodintro
  dsimp only
  rw [wp_bind, k0_part12_eq_skeleton]
  unfold k0_part12_skel
  iapply (st _) $$ H11
  iintro H11
  iapply (ld _) $$ H12
  iintro H12
  iapply (ld _) $$ H12
  iintro H12
  iapply (st _) $$ H12
  iintro H12
  iapply (ld _) $$ H4
  iintro H4
  iapply (ld _) $$ H5
  iintro H5
  rw [wp_pure]
  imodintro
  dsimp only
  rw [wp_bind, k0_part13_eq_skeleton]
  unfold k0_part13_skel
  iapply (ld _) $$ H11
  iintro H11
  iapply (ld _) $$ H11
  iintro H11
  iapply (st _) $$ H11
  iintro H11
  iapply (ld _) $$ H12
  iintro H12
  iapply (ld _) $$ H12
  iintro H12
  rw [wp_pure]
  imodintro
  dsimp only
  rw [wp_bind, k0_part14_eq_skeleton]
  unfold k0_part14_skel
  iapply (st _) $$ H12
  iintro H12
  iapply (ld _) $$ H4
  iintro H4
  iapply (ld _) $$ H5
  iintro H5
  rw [wp_pure]
  imodintro
  dsimp only
  rw [wp_bind, k0_part15_eq_skeleton]
  unfold k0_part15_skel
  iapply (ld _) $$ H11
  iintro H11
  iapply (ld _) $$ H11
  iintro H11
  iapply (st _) $$ H11
  iintro H11
  iapply (ld _) $$ H12
  iintro H12
  iapply (ld _) $$ H12
  iintro H12
  iapply (st _) $$ H12
  iintro H12
  rw [wp_pure]
  imodintro
  dsimp only
  rw [wp_bind, k0_part16_eq_skeleton]
  unfold k0_part16_skel
  iapply (ld _) $$ H4
  iintro H4
  iapply (ld _) $$ H5
  iintro H5
  rw [wp_pure]
  imodintro
  dsimp only
  rw [wp_bind, k0_part17_eq_skeleton]
  unfold k0_part17_skel
  iapply (ld _) $$ H11
  iintro H11
  iapply (ld _) $$ H11
  iintro H11
  iapply (st _) $$ H11
  iintro H11
  iapply (ld _) $$ H12
  iintro H12
  iapply (ld _) $$ H12
  iintro H12
  iapply (st _) $$ H12
  iintro H12
  iapply (ld _) $$ H8
  iintro H8
  iapply (st _) $$ H8
  iintro H8
  rw [wp_pure]
  imodintro
  dsimp only
  iapply (ld _) $$ H8
  iintro H8
  iapply (st _) $$ H8
  iintro H8
  unfold last9 last10
  by_cases h : k0_cond2 i = 1#1
  · rw [dif_pos h, if_pos h, if_pos h]
    unfold dkOut dvOut
    dsimp only
    rw [wp_bind, k0_part7_eq_skeleton]
    unfold k0_part7_skel
    iapply (ld _) $$ H11
    iintro H11
    iapply (ld _) $$ H9
    iintro H9
    iapply (st _) $$ H9
    iintro H9
    iapply (ld _) $$ H11
    iintro H11
    iapply (ld _) $$ H9
    iintro H9
    iapply (st _) $$ H9
    iintro H9
    iapply (ld _) $$ H11
    iintro H11
    iapply (ld _) $$ H9
    iintro H9
    iapply (st _) $$ H9
    iintro H9
    iapply (ld _) $$ H11
    iintro H11
    iapply (ld _) $$ H9
    iintro H9
    iapply (st _) $$ H9
    iintro H9
    iapply (ld _) $$ H11
    iintro H11
    iapply (ld _) $$ H9
    iintro H9
    iapply (st _) $$ H9
    iintro H9
    iapply (ld _) $$ H11
    iintro H11
    rw [wp_pure]
    imodintro
    dsimp only
    rw [wp_bind, k0_part8_eq_skeleton]
    unfold k0_part8_skel
    iapply (ld _) $$ H9
    iintro H9
    iapply (st _) $$ H9
    iintro H9
    iapply (ld _) $$ H11
    iintro H11
    iapply (ld _) $$ H9
    iintro H9
    iapply (st _) $$ H9
    iintro H9
    iapply (ld _) $$ H11
    iintro H11
    iapply (ld _) $$ H9
    iintro H9
    iapply (st _) $$ H9
    iintro H9
    iapply (ld _) $$ H12
    iintro H12
    iapply (ld _) $$ H10
    iintro H10
    iapply (st _) $$ H10
    iintro H10
    iapply (ld _) $$ H12
    iintro H12
    iapply (ld _) $$ H10
    iintro H10
    iapply (st _) $$ H10
    iintro H10
    iapply (ld _) $$ H12
    iintro H12
    iapply (ld _) $$ H10
    iintro H10
    rw [wp_pure]
    imodintro
    dsimp only
    iapply (st _) $$ H10
    iintro H10
    iapply (ld _) $$ H12
    iintro H12
    iapply (ld _) $$ H10
    iintro H10
    iapply (st _) $$ H10
    iintro H10
    iapply (ld _) $$ H12
    iintro H12
    iapply (ld _) $$ H10
    iintro H10
    iapply (st _) $$ H10
    iintro H10
    iapply (ld _) $$ H12
    iintro H12
    iapply (ld _) $$ H10
    iintro H10
    iapply (st _) $$ H10
    iintro H10
    iapply (ld _) $$ H12
    iintro H12
    iapply (ld _) $$ H10
    iintro H10
    iapply (st _) $$ H10
    iintro H10
    iapply (ld _) $$ H12
    iintro H12
    iapply (ld _) $$ H10
    iintro H10
    iapply (st _) $$ H10
    iintro H10
    rw [wp_pure]
    imodintro
    iapply Hk $$ H3 H4 H5 H6 H7 H8 H9 H10 H11 H12
  · rw [dif_neg h, if_neg h, if_neg h]
    rw [wp_pure]
    imodintro
    iapply Hk $$ H3 H4 H5 H6 H7 H8 H9 H10 H11 H12

end Cert.Sb
-- ==== Proof.SbFrame.lean ====
module

public import proofs.«01_k».proof.Proof.SbRun
public import Idealize.ShloMosaic.Lib.Claim

/-! The frame of the stick-breaking attention's gradient: what the two arrays that collect the gradients of the
keys and values hold before each grid point, the proof data of the launch and the run. -/

@[expose] public section

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel6Ideal Cert.Kernel6Ideal.Gen
open VecWindow (window put)

variable {F : FTy → Type} [FloatOps F]

local notation "𝕄" => MT nD τ sig Unit (Elt F) ℕ (UR sig nD τ) ℕ

/-- The block of the gradient of `q` is stored whole. -/
theorem dq_indep (s : St F) (x x' : Vec F S512x128 .bf16) : dq s x = dq s x' := by
  funext y
  have h0 : (y 0).val < 512 := (y 0).isLt
  have h1 : (y 1).val < 128 := (y 1).isLt
  unfold dq put
  split_ifs with a b
  · rfl
  · rfl
  · exfalso
    simp [Fin.forall_fin_two, S512x64] at a b
    omega

/-- The block of the gradient of `k` is stored whole. -/
theorem dkOut_indep (s : Vec F S8x128x256 .f32) (x x' : Vec F S2048x128 .bf16) : dkOut s x = dkOut s x' := by
  funext y
  have h0 : (y 0).val < 2048 := (y 0).isLt
  have h1 : (y 1).val < 128 := (y 1).isLt
  unfold dkOut put
  split_ifs with a0 a1 a2 a3 a4 a5 a6 a7
  iterate 8 rfl
  · exfalso
    simp [Fin.forall_fin_two, S256x128] at a0 a1 a2 a3 a4 a5 a6 a7
    omega

/-- The block of the gradient of `v` is stored whole. -/
theorem dvOut_indep (s : Vec F S8x128x256 .f32) (x x' : Vec F S2048x128 .bf16) : dvOut s x = dvOut s x' := by
  funext y
  have h0 : (y 0).val < 2048 := (y 0).isLt
  have h1 : (y 1).val < 128 := (y 1).isLt
  unfold dvOut put
  split_ifs with a0 a1 a2 a3 a4 a5 a6 a7
  iterate 8 rfl
  · exfalso
    simp [Fin.forall_fin_two, S256x128] at a0 a1 a2 a3 a4 a5 a6 a7
    omega

/-- Clearing forgets what was there. -/
theorem clear_first (i : grid0.Coords) (w x x' : Vec F S8x128x256 .f32)
    (h : Scalar.cmpi .ne (Scalar.extui (Scalar.cmpi .eq (BitVec.ofNat 32 (i 2).val) 0#32) : BitVec 32) 0#32 = 1#1) :
    clear i w x = clear i w x' := by
  unfold clear
  rw [if_pos h, if_pos h]
  funext y
  have h0 : (y 0).val < 8 := (y 0).isLt
  have h1 : (y 1).val < 128 := (y 1).isLt
  have h2 : (y 2).val < 256 := (y 2).isLt
  unfold put
  rw [dif_pos, dif_pos] <;> intro a <;> fin_cases a <;> simp [S8x128x256] <;> omega

/-- The last coordinate counts the query blocks. -/
theorem coord2 : ∀ t : Fin grid0.N, ((grid0.coords t) 2).val = t.val % 4 := by decide +kernel

/-- The gradients of the keys and values are stored at the last query block. -/
theorem last_iff : ∀ t : Fin grid0.N, k0_cond2 (grid0.coords t) = 1#1 ↔ t.val % 4 = 3 := by decide +kernel

/-- The arrays are cleared at the first query block. -/
theorem first_of : ∀ t : Fin grid0.N, t.val % 4 = 0 →
    Scalar.cmpi .ne (Scalar.extui (Scalar.cmpi .eq (BitVec.ofNat 32 ((grid0.coords t) 2).val) 0#32) : BitVec 32) 0#32 = 1#1 := by
  decide +kernel

variable (m : (ℓ : Loc nD τ sig) → Buf (Elt F) ℓ) (ρ : Dev nD → PrngReg)

/-- What the body makes at point `t` of arrays that hold `x11` and `x12`. -/
def doneAt (c : Dev nD) (t : Fin cfg0.N) (x11 x12 : Vec F S8x128x256 .f32) : St F :=
  done (iblk m c 0 t) (iblk m c 1 t) (iblk m c 2 t) (iblk m c 3 t) (iblk m c 4 t) (grid0.coords t) x11 x12

/-- What the two arrays hold before point `n`. -/
def carried (c : Dev nD) : ℕ → Vec F S8x128x256 .f32 × Vec F S8x128x256 .f32
  | 0 => (k0_pay71, k0_pay71)
  | n + 1 => if h : n < cfg0.N then
      ((doneAt m c ⟨n, h⟩ (carried c n).1 (carried c n).2).dk, (doneAt m c ⟨n, h⟩ (carried c n).1 (carried c n).2).dv)
    else (k0_pay71, k0_pay71)

/-- What the body makes at point `t`. -/
def made (c : Dev nD) (t : Fin cfg0.N) : St F := doneAt m c t (carried m c t.val).1 (carried m c t.val).2

theorem carried_succ (c : Dev nD) (t : Fin cfg0.N) : carried m c (t.val + 1) = ((made m c t).dk, (made m c t).dv) := by
  rw [carried, dif_pos t.isLt]
  rfl

/-- What the first query block makes does not depend on the arrays' contents. -/
theorem doneAt_first (c : Dev nD) (t : Fin cfg0.N) (h : t.val % 4 = 0) (x x' y y' : Vec F S8x128x256 .f32) :
    doneAt m c t x y = doneAt m c t x' y' := by
  unfold doneAt done looped
  rw [clear_first _ _ x x' (first_of t h), clear_first _ _ y y' (first_of t h)]

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dq (made m c t) (fun _ => FloatOps.ofBits .bf16 0)
    | ⟨6, _⟩ => dkOut (made m c t).dk (fun _ => FloatOps.ofBits .bf16 0)
    | ⟨7, _⟩ => dvOut (made m c t).dv (fun _ => FloatOps.ofBits .bf16 0)
  Φ t := iprop(∃ x11 x12, ⌜t.val % 4 ≠ 0 → x11 = (carried m c t.val).1 ∧ x12 = (carried m c t.val).2⌝
    ∗ owns (c : Thread nD τ) (Memref.whole cc0_scratch0) fullShare x11 ∗ owns (c : Thread nD τ) (Memref.whole cc0_scratch1) fullShare x12
    ∗ ∃ r, prngReg c r)
  q w := shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dq (made m c t) (fun _ => FloatOps.ofBits .bf16 0) := by dsimp only [dats]
theorem after_6 (c : Dev nD) (t : Fin cfg0.N) : (dats m 0 c).after 6 t = dkOut (made m c t).dk (fun _ => FloatOps.ofBits .bf16 0) := by dsimp only [dats]
theorem after_7 (c : Dev nD) (t : Fin cfg0.N) : (dats m 0 c).after 7 t = dvOut (made m c t).dv (fun _ => FloatOps.ofBits .bf16 0) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- What the two arrays hold of the points before point `n`, as the body finds and leaves them. -/
def keeps (c : Dev nD) (n : ℕ) : sProp 𝕄 :=
  iprop(∃ x11 x12, ⌜n % 4 ≠ 0 → x11 = (carried m c n).1 ∧ x12 = (carried m c n).2⌝
    ∗ owns (c : Thread nD τ) (Memref.whole cc0_scratch0) fullShare x11 ∗ owns (c : Thread nD τ) (Memref.whole cc0_scratch1) fullShare x12
    ∗ ∃ r, prngReg c r)

/-- A window that is stored at every point is left at what the data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [show cfg0.idle w (cfg0.grid.coords t) = false from h]

/-- A window that is left alone at a point that does not write it back. -/
theorem leaves_idle (c : Dev nD) (w : Fin cfg0.W) (t : Fin cfg0.N) (h : cfg0.idle w (grid0.coords t) = true) (hf : (cfg0.win w).flush t = false) :
    (dats m 0 c).leavesExact w t = iprop(∃ d, owns (c : Thread nD τ) ((cfg0.win w).stage (cfg0.slots t w)) fullShare ((dats m 0 c).before w t d)) := by
  unfold Dat.leavesExact
  rw [show cfg0.idle w (cfg0.grid.coords t) = true from h, hf]

/-- What the body makes of what it finds is what the data says. -/
theorem found (c : Dev nD) (t : Fin cfg0.N) (x11 x12 : Vec F S8x128x256 .f32)
    (h : t.val % 4 ≠ 0 → x11 = (carried m c t.val).1 ∧ x12 = (carried m c t.val).2) : doneAt m c t x11 x12 = made m c t := by
  by_cases h0 : t.val % 4 = 0
  · exact doneAt_first m c t h0 _ _ _ _
  · obtain ⟨rfl, rfl⟩ := h h0
    rfl

set_option maxHeartbeats 1000000 in
/-- The body at any point. -/
theorem sound_body (c : Dev nD) (t : Fin cfg0.N) :
    iprop(keeps m c t.val ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d)))
      ⊢ wp frame (wpE (defs₀ (F := F)) Variants.none (c : Thread nD τ) none) Set.univ (bodyAt0 t) (fun _ =>
        iprop(keeps m c (t.val + 1) ∗ (dats m 0 c).owesAt () t.castSucc
          ∗ (dats m 0 c).leavesExact 0 t ∗ (dats m 0 c).leavesExact 1 t ∗ (dats m 0 c).leavesExact 2 t ∗ (dats m 0 c).leavesExact 3 t
          ∗ (dats m 0 c).leavesExact 4 t ∗ (dats m 0 c).leavesExact 5 t ∗ (dats m 0 c).leavesExact 6 t ∗ (dats m 0 c).leavesExact 7 t)) := by
  unfold bodyAt0
  simp only [before_0, before_1, before_2, before_3, before_4]
  rw [leaves_live m c 0 t rfl, leaves_live m c 1 t rfl, leaves_live m c 2 t rfl, leaves_live m c 3 t rfl, leaves_live m c 4 t rfl,
    leaves_live m c 5 t rfl, after_0, after_1, after_2, after_3, after_4, after_5]
  unfold keeps
  iintro ⟨⟨%x11, %x12, %hx, H11, H12, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hf := found m c t x11 x12 hx
  unfold doneAt at hf
  iapply (body_run (iblk m c 0 t) (iblk m c 1 t) (iblk m c 2 t) (iblk m c 3 t) (iblk m c 4 t) (grid0.coords t)
    _ _ _ _ _ _ _ _ _ _ _ _ _ _ _ _ _ _ _ _ ((dats m 0 c).before 5 t d5) ((dats m 0 c).before 6 t d6) ((dats m 0 c).before 7 t d7) x11 x12 _)
    $$ [H0 H1 H2 H3 H4 H5 H6 H7 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H11]; · iexact H11
    iexact H12
  rw [hf]
  iintro H0 H1 H2 H3 H4 H5 H6 H7 H11 H12
  isplitl [H11 H12 Hr]
  · iexists (made m c t).dk, (made m c t).dv
    isplitr
    · ipureintro
      intro _
      rw [carried_succ]
      exact ⟨rfl, rfl⟩
    isplitl [H11]; · iexact H11
    isplitl [H12]; · iexact H12
    iexact Hr
  isplitl [Ho]; · iexact Ho
  isplitl [H0]; · iexact H0
  isplitl [H1]; · iexact H1
  isplitl [H2]; · iexact H2
  isplitl [H3]; · iexact H3
  isplitl [H4]; · iexact H4
  rw [dq_indep _ _ (fun _ => FloatOps.ofBits .bf16 0)]
  isplitl [H5]; · iexact H5
  unfold last9 last10
  by_cases h : t.val % 4 = 3
  · have h' := (last_iff t).mpr h
    rw [leaves_live m c 6 t (by show (!(k0_cond2 (grid0.coords t) == 1#1)) = false; rw [h']; rfl),
      leaves_live m c 7 t (by show (!(k0_cond2 (grid0.coords t) == 1#1)) = false; rw [h']; rfl), after_6, after_7, if_pos h', if_pos h',
      dkOut_indep _ _ (fun _ => FloatOps.ofBits .bf16 0), dvOut_indep _ _ (fun _ => FloatOps.ofBits .bf16 0)]
    isplitl [H6]; · iexact H6
    iexact H7
  · have h' : ¬ k0_cond2 (grid0.coords t) = 1#1 := fun e => h ((last_iff t).mp e)
    rw [leaves_idle m c 6 t (by show (!(k0_cond2 (grid0.coords t) == 1#1)) = true; simp [h']) (Bool.eq_false_iff.mpr fun e => h ((flush0_6 t).mp e)),
      leaves_idle m c 7 t (by show (!(k0_cond2 (grid0.coords t) == 1#1)) = true; simp [h']) (Bool.eq_false_iff.mpr fun e => h ((flush0_7 t).mp e)),
      if_neg h', if_neg h']
    isplitl [H6]; · iexists d6; iexact H6
    iexists d7; iexact H7

theorem defs₀_row (t : Fin cfg0.N) :
    defs₀ (F := F) .tc cfg0.body (cfg0.bodyArgs t (cfg0.slots t)) = bodyAt0 t := by
  unfold defs₀; rw [Defs.onTc_tc]

/-- The body obligation of the launch. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the launch. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by
      unfold ΦA
      rw [scopedRest0_eq]
      show _ ⊢ keeps m c 0
      unfold keeps
      simp only [owns_whole]
      iintro ⟨⟨⟨%f, H⟩, ⟨%g, H'⟩⟩, Hr⟩
      iexists f, g
      isplitr; · ipureintro; intro h; exact absurd rfl h
      isplitl [H]; · iexact H
      isplitl [H']; · iexact H'
      iexact Hr)
    (hout := fun c => by
      unfold ΦA
      rw [scopedRest0_eq]
      show keeps m c (Fin.last cfg0.N).val ⊢ _
      unfold keeps
      simp only [owns_whole]
      iintro ⟨%f, %g, -, H, H', Hr⟩
      isplitl [H H']
      · isplitl [H]
        · iexists f; iexact H
        · iexists g; iexact H'
      iexact Hr)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Sb
-- ==== Proof.SbFrames.lean ====
module

public import proofs.«01_k».proof.Proof.SbFrame
public import proofs.«01_k».proof.Proof.Gen.Kernel6
public import proofs.«01_k».proof.Proof.Gen.Reference6Ideal.Run
public import proofs.«01_k».proof.Defs

@[expose] public section

noncomputable section

namespace Cert.Sb

open Idealize.ShloMosaic Idealize.ShloMosaic.TcCoe Idealize.ShloMosaic.Tactic

theorem frame_ideal : Cert.quiescent_Kernel6Ideal := fun m ρ _ => frame m ρ

/-- The kernel's frame is the ideal program's: the two have the same text. -/
theorem frame_kernel : Cert.quiescent_Kernel6 := fun m ρ _ => by
  refine Eq.mp ?_ (frame (F := Bits) m ρ)
  sl_kernel_rfl

/-- The reference's frame. -/
theorem frame_reference : Cert.quiescent_Reference6Ideal := fun m ρ _ =>
  (θ_run Cert.Reference6Ideal.defs _ _).mono (fun r h => ⟨fun c => (h c).2.2.2, funext fun s => nomatch s.2⟩) (Cert.Reference6Ideal.Value.run (F := Ideal) m ρ)

end Cert.Sb
-- ==== Proof.Window4.lean ====
/- Hand-written, untrusted: running sums along the last axis of a rank-4 array, from either end, as the host writes them. -/
module

public import proofs.«01_k».proof.Proof.Window

@[expose] public section

namespace Cert.Window

open Idealize.ShloMosaic

section
variable {A B C N M : Nat} (hM : M + 1 = N) {φ : FTy} (x : FVec Ideal ⟨4, ![A, B, C, N]⟩ φ) {u : Shape} (init : u.Idx → Ideal φ) (hu : 0 < u.numel)
  (h0 : init (Shape.Idx.first hu) = (0 : EReal)) (a : Fin A) (b : Fin B) (c : Fin C) (j : Fin N)

include h0 in
/-- From the end. -/
theorem reduceWindowAdd_rev4 (h : (⟨4, ![A, B, C, N]⟩ : Shape).ReduceWindows (![1, 1, 1, N] : Fin 4 → Nat) ![1, 1, 1, 1] ![0, 0, 0, 0] ![0, 0, 0, M] ⟨4, ![A, B, C, N]⟩) :
    Host.reduceWindowAdd (![1, 1, 1, N] : Fin 4 → Nat) ![1, 1, 1, 1] ![0, 0, 0, 0] ![0, 0, 0, M] x init h hu (ix4 a b c j)
      = ∑ k : Fin N, if j ≤ k then (x (ix4 a b c k) : EReal) else 0 := by
  show Ideal.hostReduceWindowAdd _ _ _ _ h x (init (Shape.Idx.first hu)) (ix4 a b c j) = _
  rw [h0]
  have key := windowAdd_eq (s := ⟨4, ![A, B, C, N]⟩) (t := ⟨4, ![A, B, C, N]⟩) (![1, 1, 1, N] : Fin 4 → Nat) ![1, 1, 1, 1] ![0, 0, 0, 0] ![0, 0, 0, M] x 0 h (ix4 a b c j)
  refine key.trans ?_
  rw [zero_add]
  refine (sum_idx4 (n0 := 1) (n1 := 1) (n2 := 1) (n3 := N) _).trans ?_
  rw [Fin.sum_univ_one, Fin.sum_univ_one, Fin.sum_univ_one, ← sum_tail j (fun k => x (ix4 a b c k))]
  refine Finset.sum_congr rfl fun w _ => ?_
  by_cases hw : j.val + w.val < N
  · have hin : ∀ e : Fin 4, (![0, 0, 0, 0] : Fin 4 → Nat) e ≤ ((ix4 a b c j) (e.cast h.1.symm)).val * (![1, 1, 1, 1] : Fin 4 → Nat) e + ((ix4 (0 : Fin 1) (0 : Fin 1) (0 : Fin 1) w) e).val
        ∧ ((ix4 a b c j) (e.cast h.1.symm)).val * (![1, 1, 1, 1] : Fin 4 → Nat) e + ((ix4 (0 : Fin 1) (0 : Fin 1) (0 : Fin 1) w) e).val - (![0, 0, 0, 0] : Fin 4 → Nat) e < (![A, B, C, N] : Fin 4 → Nat) e := by
      intro e
      match e with
      | ⟨0, _⟩ => exact ⟨Nat.zero_le _, by show a.val * 1 + 0 - 0 < A; have := a.isLt; omega⟩
      | ⟨1, _⟩ => exact ⟨Nat.zero_le _, by show b.val * 1 + 0 - 0 < B; have := b.isLt; omega⟩
      | ⟨2, _⟩ => exact ⟨Nat.zero_le _, by show c.val * 1 + 0 - 0 < C; have := c.isLt; omega⟩
      | ⟨3, _⟩ => exact ⟨Nat.zero_le _, by show j.val * 1 + w.val - 0 < N; omega⟩
    rw [dif_pos hw]
    refine (dif_pos hin).trans (congrArg x (funext fun e => Fin.ext ?_))
    match e with
    | ⟨0, _⟩ => show a.val * 1 + 0 - 0 = a.val; omega
    | ⟨1, _⟩ => show b.val * 1 + 0 - 0 = b.val; omega
    | ⟨2, _⟩ => show c.val * 1 + 0 - 0 = c.val; omega
    | ⟨3, _⟩ => show j.val * 1 + w.val - 0 = j.val + w.val; omega
  · rw [dif_neg hw]
    refine dif_neg (fun hin => hw ?_)
    have h2 : j.val * 1 + w.val - 0 < N := (hin (3 : Fin 4)).2
    omega

include hM h0 in
/-- From the start. -/
theorem reduceWindowAdd_fwd4 (h : (⟨4, ![A, B, C, N]⟩ : Shape).ReduceWindows (![1, 1, 1, N] : Fin 4 → Nat) ![1, 1, 1, 1] ![0, 0, 0, M] ![0, 0, 0, 0] ⟨4, ![A, B, C, N]⟩) :
    Host.reduceWindowAdd (![1, 1, 1, N] : Fin 4 → Nat) ![1, 1, 1, 1] ![0, 0, 0, M] ![0, 0, 0, 0] x init h hu (ix4 a b c j)
      = ∑ k : Fin N, if k ≤ j then (x (ix4 a b c k) : EReal) else 0 := by
  have hj := j.isLt
  show Ideal.hostReduceWindowAdd _ _ _ _ h x (init (Shape.Idx.first hu)) (ix4 a b c j) = _
  rw [h0]
  have key := windowAdd_eq (s := ⟨4, ![A, B, C, N]⟩) (t := ⟨4, ![A, B, C, N]⟩) (![1, 1, 1, N] : Fin 4 → Nat) ![1, 1, 1, 1] ![0, 0, 0, M] ![0, 0, 0, 0] x 0 h (ix4 a b c j)
  refine key.trans ?_
  rw [zero_add]
  refine (sum_idx4 (n0 := 1) (n1 := 1) (n2 := 1) (n3 := N) _).trans ?_
  rw [Fin.sum_univ_one, Fin.sum_univ_one, Fin.sum_univ_one, ← sum_head j (fun k => x (ix4 a b c k))]
  refine Finset.sum_congr rfl fun w _ => ?_
  have hww := w.isLt
  by_cases hw : N - 1 ≤ j.val + w.val
  · have hin : ∀ e : Fin 4, (![0, 0, 0, M] : Fin 4 → Nat) e ≤ ((ix4 a b c j) (e.cast h.1.symm)).val * (![1, 1, 1, 1] : Fin 4 → Nat) e + ((ix4 (0 : Fin 1) (0 : Fin 1) (0 : Fin 1) w) e).val
        ∧ ((ix4 a b c j) (e.cast h.1.symm)).val * (![1, 1, 1, 1] : Fin 4 → Nat) e + ((ix4 (0 : Fin 1) (0 : Fin 1) (0 : Fin 1) w) e).val - (![0, 0, 0, M] : Fin 4 → Nat) e < (![A, B, C, N] : Fin 4 → Nat) e := by
      intro e
      match e with
      | ⟨0, _⟩ => exact ⟨Nat.zero_le _, by show a.val * 1 + 0 - 0 < A; have := a.isLt; omega⟩
      | ⟨1, _⟩ => exact ⟨Nat.zero_le _, by show b.val * 1 + 0 - 0 < B; have := b.isLt; omega⟩
      | ⟨2, _⟩ => exact ⟨Nat.zero_le _, by show c.val * 1 + 0 - 0 < C; have := c.isLt; omega⟩
      | ⟨3, _⟩ => exact ⟨by show M ≤ j.val * 1 + w.val; omega, by show j.val * 1 + w.val - M < N; omega⟩
    rw [dif_pos hw]
    refine (dif_pos hin).trans (congrArg x (funext fun e => Fin.ext ?_))
    match e with
    | ⟨0, _⟩ => show a.val * 1 + 0 - 0 = a.val; omega
    | ⟨1, _⟩ => show b.val * 1 + 0 - 0 = b.val; omega
    | ⟨2, _⟩ => show c.val * 1 + 0 - 0 = c.val; omega
    | ⟨3, _⟩ => show j.val * 1 + w.val - M = j.val + w.val - (N - 1); omega
  · rw [dif_neg hw]
    refine dif_neg (fun hin => hw ?_)
    have h2 : M ≤ j.val * 1 + w.val := (hin (3 : Fin 4)).1
    omega

end

end Cert.Window
-- ==== Proof.SbPay.lean ====
/- Hand-written, untrusted: what one block of the stick-breaking attention's gradient computes, entry by entry, over any
   extended reals. The kernel has six texts of it: a key block below the diagonal, the diagonal's first key block, and its second
   one, which only the lower half of the query block reaches; each for two heads. All six are the one `Blk`. -/
module

public import proofs.«01_k».proof.Proof.Gen.Kernel6Ideal.Skeleton
public import proofs.«01_k».proof.Proof.Finite
public import Idealize.ShloMosaic.Lib.Pipeline.ValueKit
public import Idealize.ShloMosaic.Lib.WordCmp

@[expose] public section

set_option maxRecDepth 16384

noncomputable section

namespace Cert.Sb

open Idealize.ShloMosaic Cert.Finite Idealize.ShloMosaic.TcCoe Cert.Kernel6Ideal Cert.Kernel6Ideal.Gen

/-- What a block of `R` query rows and 256 keys computes with: the mask, the queries and cotangents, the keys and values, the
    triangles that sum over later and earlier keys, each row's total of log keeps, and what the earlier blocks of the row
    have summed up of log keeps and of `de`. -/
structure Blk (R : ℕ) where
  on : Fin R → Fin 256 → BitVec 1
  q : Fin R → Fin 64 → EReal
  d : Fin R → Fin 64 → EReal
  k : Fin 256 → Fin 64 → EReal
  v : Fin 256 → Fin 64 → EReal
  ua : Fin 256 → Fin 256 → EReal
  ub : Fin 256 → Fin 256 → EReal
  rt : Fin R → EReal
  lc : Fin R → EReal
  gc : Fin R → EReal

namespace Blk
variable {R : ℕ} (B : Blk R) (r : Fin R) (c : Fin 256)

/-- The logit. -/
def z : EReal := ∑ x, B.q r x * B.k c x
/-- The logarithm of the chance to stop. -/
def lb : EReal := min (B.z r c) 0 - Ideal.log (1 + Ideal.exp (0 - max (B.z r c) (-B.z r c)))
/-- The logarithm of the chance to go on, masked. -/
def lk : EReal := Scalar.select (B.on r c) (B.lb r c - B.z r c) 0
/-- The sum of log keeps after the block. -/
def lc' : EReal := B.lc r + ∑ x, B.lk r x
/-- The attention's weight. -/
def a : EReal := Scalar.select (B.on r c) (Ideal.exp (B.lb r c + (B.rt r - B.lc' r + ∑ x, B.lk r x * B.ua x c))) 0
/-- The weight times its gradient. -/
def de : EReal := B.a r c * ∑ x, B.d r x * B.v c x
/-- The sum of `de` after the block. -/
def gc' : EReal := B.gc r + ∑ x, B.de r x
/-- The logit's gradient. -/
def dz : EReal := Scalar.select (B.on r c) (B.de r c - Ideal.exp (B.lb r c) * (B.de r c + (B.gc r + ∑ x, B.de r x * B.ub x c))) 0

end Blk

/-- A masked number times another. -/
theorem select_mul (b : BitVec 1) (x y : EReal) : Scalar.select b (x * y) 0 = Scalar.select b x 0 * y := by
  unfold Scalar.select
  split <;> simp

/-- The blocks of numbers that go into it. -/
structure Ins where
  ua : FVec Ideal S256x256 .bf16
  ub : FVec Ideal S256x256 .bf16
  q : FVec Ideal S512x64 .bf16
  d : FVec Ideal S512x64 .bf16
  rt : FVec Ideal S512x1 .f32
  lc : FVec Ideal S512x1 .f32
  gc : FVec Ideal S512x1 .f32
  kb : Vec Ideal S256x64 .bf16
  vb : Vec Ideal S256x64 .bf16

section
variable (D : Ins) (qt : FVec Ideal S128x512 .bf16) (w : Vec Ideal S1x64x256 .f32) (dq : FVec Ideal S512x64 .f32)

/-- A block of all the query block's rows. -/
def whole (m : IVec S512x256 1) : Blk 512 where
  on r c := m (ix2 r c)
  q r x := D.q (ix2 r x)
  d r x := D.d (ix2 r x)
  k c x := D.kb (ix2 c x)
  v c x := D.vb (ix2 c x)
  ua x c := D.ua (ix2 x c)
  ub x c := D.ub (ix2 x c)
  rt r := D.rt (ix2 r 0)
  lc r := D.lc (ix2 r 0)
  gc r := D.gc (ix2 r 0)

/-- A row of the query block's lower half. -/
def low (r : Fin 256) : Fin 512 := ⟨256 + r.val, by omega⟩

/-- A block of the query block's lower half. -/
def lower (m : IVec S512x256 1) : Blk 256 where
  on r c := m (ix2 (low r) c)
  q r x := D.q (ix2 (low r) x)
  d r x := D.d (ix2 (low r) x)
  k c x := D.kb (ix2 c x)
  v c x := D.vb (ix2 c x)
  ua x c := D.ua (ix2 x c)
  ub x c := D.ub (ix2 x c)
  rt r := D.rt (ix2 (low r) 0)
  lc r := D.lc (ix2 (low r) 0)
  gc r := D.gc (ix2 (low r) 0)

/-! ### A key block below the diagonal -/

/-- No mask. -/
def ones : IVec S512x256 1 := fun _ => 1#1

theorem pay8_apply (r : Fin 512) (c : Fin 256) : k0_pay8 (F := Ideal) D.q D.kb (ix2 r c) = Blk.z (whole D ones) r c := by
  unfold k0_pay8 k0_pay7
  pointwise
  rfl

theorem pay9_apply (r : Fin 512) (c : Fin 256) : k0_pay9 (F := Ideal) D.q D.kb (ix2 r c) = Blk.lb (whole D ones) r c := by
  unfold k0_pay9
  pointwise
  simp only [pay8_apply D]
  rfl

theorem pay10_apply (r : Fin 512) (c : Fin 256) : k0_pay10 (F := Ideal) D.q D.kb (ix2 r c) = Blk.lk (whole D ones) r c := by
  unfold k0_pay10
  pointwise
  simp only [pay8_apply D, pay9_apply D]
  rfl

theorem pay11_apply (r : Fin 512) : k0_pay11 (F := Ideal) D.q D.lc D.kb (ix2 r 0) = Blk.lc' (whole D ones) r := by
  unfold k0_pay11
  pointwise
  simp only [pay10_apply D]
  rfl

theorem pay12_apply (r : Fin 512) (c : Fin 256) : k0_pay12 (F := Ideal) D.ua D.q D.rt D.lc D.kb (ix2 r c) = Blk.a (whole D ones) r c := by
  unfold k0_pay12
  pointwise
  simp only [pay9_apply D, pay10_apply D, pay11_apply D]
  rfl

theorem pay13_apply (r : Fin 512) (c : Fin 256) : k0_pay13 (F := Ideal) D.ua D.q D.d D.rt D.lc D.kb D.vb (ix2 r c) = Blk.de (whole D ones) r c := by
  unfold k0_pay13
  pointwise
  simp only [pay12_apply D]
  rfl

theorem pay14_apply (r : Fin 512) (c : Fin 256) : k0_pay14 (F := Ideal) D.ua D.ub D.q D.d D.rt D.lc D.gc D.kb D.vb (ix2 r c) = Blk.dz (whole D ones) r c := by
  unfold k0_pay14
  pointwise
  simp only [pay9_apply D, pay13_apply D]
  rfl

theorem pay18_apply (r : Fin 512) :
    k0_pay18 (F := Ideal) D.gc (k0_pay13 (F := Ideal) D.ua D.q D.d D.rt D.lc D.kb D.vb) (ix2 r 0) = Blk.gc' (whole D ones) r := by
  unfold k0_pay18
  pointwise
  simp only [pay13_apply D]
  rfl

theorem pay19_apply (r : Fin 512) (x : Fin 64) :
    k0_pay19 (F := Ideal) dq (k0_pay7 D.kb) (k0_pay14 (F := Ideal) D.ua D.ub D.q D.d D.rt D.lc D.gc D.kb D.vb) (ix2 r x)
      = dq (ix2 r x) + ∑ c, Blk.dz (whole D ones) r c * D.kb (ix2 c x) := by
  unfold k0_pay19 k0_pay7
  pointwise
  simp only [pay14_apply D]

theorem pay16_apply (x : Fin 64) (c : Fin 256) :
    k0_pay16 (F := Ideal) (k0_pay15 D.ua D.ub qt D.q D.d D.rt D.lc D.gc D.kb D.vb) w (ix3 0 x c)
      = w (ix3 0 x c) + ∑ r, qt (ix2 ⟨x.val, by omega⟩ r) * Blk.dz (whole D ones) r c := by
  unfold k0_pay16 k0_pay15
  pointwise
  simp only [pay14_apply D]

theorem pay17_apply (x : Fin 64) (c : Fin 256) :
    k0_pay17 (F := Ideal) qt (k0_pay12 D.ua D.q D.rt D.lc D.kb) w (ix3 0 x c)
      = w (ix3 0 x c) + ∑ r, qt (ix2 ⟨x.val, by omega⟩ r) * Blk.a (whole D ones) r c := by
  unfold k0_pay17
  pointwise
  simp only [pay12_apply D]

/-! The second head's text spells the same numbers. -/

theorem pay27_eq : k0_pay27 (F := Ideal) D.lc (k0_pay22 D.q D.kb) (k0_pay23 D.q D.kb) (k0_pay24 D.q D.kb) = k0_pay11 D.q D.lc D.kb := rfl
theorem pay28_eq : k0_pay28 (F := Ideal) D.ua D.rt D.lc (k0_pay22 D.q D.kb) (k0_pay23 D.q D.kb) (k0_pay24 D.q D.kb) = k0_pay12 D.ua D.q D.rt D.lc D.kb := rfl
theorem pay29_eq : k0_pay29 (F := Ideal) D.ua D.d D.rt D.lc (k0_pay21 D.vb) (k0_pay22 D.q D.kb) (k0_pay23 D.q D.kb) (k0_pay24 D.q D.kb) = k0_pay13 D.ua D.q D.d D.rt D.lc D.kb D.vb := rfl
theorem pay30_eq : k0_pay30 (F := Ideal) D.ua D.ub D.d D.rt D.lc D.gc (k0_pay21 D.vb) (k0_pay22 D.q D.kb) (k0_pay23 D.q D.kb) (k0_pay24 D.q D.kb)
    = k0_pay14 D.ua D.ub D.q D.d D.rt D.lc D.gc D.kb D.vb := rfl

theorem pay90_apply (r : Fin 512) :
    k0_pay90 (F := Ideal) D.gc (k0_pay29 (F := Ideal) D.ua D.d D.rt D.lc (k0_pay21 D.vb) (k0_pay22 D.q D.kb) (k0_pay23 D.q D.kb) (k0_pay24 D.q D.kb)) (ix2 r 0)
      = Blk.gc' (whole D ones) r :=
  pay18_apply D r

theorem pay91_apply (r : Fin 512) (x : Fin 64) :
    k0_pay91 (F := Ideal) dq (k0_pay20 D.kb) (k0_pay30 (F := Ideal) D.ua D.ub D.d D.rt D.lc D.gc (k0_pay21 D.vb) (k0_pay22 D.q D.kb) (k0_pay23 D.q D.kb) (k0_pay24 D.q D.kb)) (ix2 r x)
      = dq (ix2 r x) + ∑ c, Blk.dz (whole D ones) r c * D.kb (ix2 c x) :=
  pay19_apply D dq r x

theorem pay31_apply (x : Fin 64) (c : Fin 256) :
    k0_pay31 (F := Ideal) D.ua D.ub qt D.d D.rt D.lc D.gc (k0_pay21 D.vb) (k0_pay22 D.q D.kb) (k0_pay23 D.q D.kb) (k0_pay24 D.q D.kb) w (ix3 0 x c)
      = w (ix3 0 x c) + ∑ r, qt (ix2 ⟨64 + x.val, by omega⟩ r) * Blk.dz (whole D ones) r c := by
  unfold k0_pay31
  rw [pay30_eq]
  pointwise
  simp only [pay14_apply D]

theorem pay32_apply (x : Fin 64) (c : Fin 256) :
    k0_pay32 (F := Ideal) D.ua qt D.rt D.lc (k0_pay22 D.q D.kb) (k0_pay23 D.q D.kb) (k0_pay24 D.q D.kb) w (ix3 0 x c)
      = w (ix3 0 x c) + ∑ r, qt (ix2 ⟨64 + x.val, by omega⟩ r) * Blk.a (whole D ones) r c := by
  unfold k0_pay32
  rw [pay28_eq]
  pointwise
  simp only [pay12_apply D]

/-! ### The diagonal's first key block -/

variable (m : IVec S512x256 1)
theorem pay96_apply (r : Fin 512) (c : Fin 256) : k0_pay96 (F := Ideal) D.q D.kb (ix2 r c) = Blk.z (whole D m) r c := by
  unfold k0_pay96 k0_pay94
  pointwise
  rfl

theorem pay99_apply (r : Fin 512) (c : Fin 256) :
    k0_pay99 (F := Ideal) (k0_pay96 D.q D.kb) (k0_pay97 D.q D.kb) k0_pay98 (ix2 r c) = Blk.lb (whole D m) r c := by
  unfold k0_pay99 k0_pay97 k0_pay98
  pointwise
  simp only [pay96_apply D m]
  rfl

theorem pay100_apply (r : Fin 512) (c : Fin 256) :
    k0_pay100 (F := Ideal) m (k0_pay96 D.q D.kb) (k0_pay97 D.q D.kb) k0_pay98 (ix2 r c) = Blk.lk (whole D m) r c := by
  unfold k0_pay100
  pointwise
  simp only [pay96_apply D m, pay99_apply D m]
  rfl

theorem pay101_apply (r : Fin 512) :
    k0_pay101 (F := Ideal) m D.lc (k0_pay96 D.q D.kb) (k0_pay97 D.q D.kb) k0_pay98 (ix2 r 0) = Blk.lc' (whole D m) r := by
  unfold k0_pay101
  pointwise
  simp only [pay100_apply D m]
  rfl

theorem pay102_apply (r : Fin 512) (c : Fin 256) :
    k0_pay102 (F := Ideal) m D.ua D.rt D.lc (k0_pay96 D.q D.kb) (k0_pay97 D.q D.kb) k0_pay98 (ix2 r c) = Blk.a (whole D m) r c := by
  unfold k0_pay102
  pointwise
  simp only [pay99_apply D m, pay100_apply D m, pay101_apply D m]
  rfl

theorem pay103_apply (r : Fin 512) (c : Fin 256) :
    k0_pay103 (F := Ideal) m D.ua D.d D.rt D.lc (k0_pay95 D.vb) (k0_pay96 D.q D.kb) (k0_pay97 D.q D.kb) k0_pay98 (ix2 r c) = Blk.de (whole D m) r c := by
  unfold k0_pay103 k0_pay95
  pointwise
  simp only [pay102_apply D m]
  rfl

theorem pay104_apply (r : Fin 512) (c : Fin 256) :
    k0_pay104 (F := Ideal) m D.ua D.ub D.d D.rt D.lc D.gc (k0_pay95 D.vb) (k0_pay96 D.q D.kb) (k0_pay97 D.q D.kb) k0_pay98 (ix2 r c) = Blk.dz (whole D m) r c := by
  unfold k0_pay104
  pointwise
  simp only [pay99_apply D m, pay103_apply D m]
  rfl

theorem pay107_apply (r : Fin 512) :
    k0_pay107 (F := Ideal) D.gc (k0_pay103 m D.ua D.d D.rt D.lc (k0_pay95 D.vb) (k0_pay96 D.q D.kb) (k0_pay97 D.q D.kb) k0_pay98) (ix2 r 0) = Blk.gc' (whole D m) r := by
  unfold k0_pay107
  pointwise
  simp only [pay103_apply D m]
  rfl

theorem pay108_apply (r : Fin 512) (x : Fin 64) :
    k0_pay108 (F := Ideal) dq (k0_pay94 D.kb) (k0_pay104 m D.ua D.ub D.d D.rt D.lc D.gc (k0_pay95 D.vb) (k0_pay96 D.q D.kb) (k0_pay97 D.q D.kb) k0_pay98) (ix2 r x)
      = dq (ix2 r x) + ∑ c, Blk.dz (whole D m) r c * D.kb (ix2 c x) := by
  unfold k0_pay108 k0_pay94
  pointwise
  simp only [pay104_apply D m]

theorem pay105_apply (x : Fin 64) (c : Fin 256) :
    k0_pay105 (F := Ideal) m D.ua D.ub qt D.d D.rt D.lc D.gc (k0_pay95 D.vb) (k0_pay96 D.q D.kb) (k0_pay97 D.q D.kb) k0_pay98 w (ix3 0 x c)
      = w (ix3 0 x c) + ∑ r, qt (ix2 ⟨x.val, by omega⟩ r) * Blk.dz (whole D m) r c := by
  unfold k0_pay105
  pointwise
  simp only [pay104_apply D m]

theorem pay106_apply (x : Fin 64) (c : Fin 256) :
    k0_pay106 (F := Ideal) qt (k0_pay102 m D.ua D.rt D.lc (k0_pay96 D.q D.kb) (k0_pay97 D.q D.kb) k0_pay98) w (ix3 0 x c)
      = w (ix3 0 x c) + ∑ r, qt (ix2 ⟨x.val, by omega⟩ r) * Blk.a (whole D m) r c := by
  unfold k0_pay106
  pointwise
  simp only [pay102_apply D m]

theorem pay114_eq : k0_pay114 (F := Ideal) D.lc (k0_pay113 m D.q D.kb) = k0_pay101 m D.lc (k0_pay96 D.q D.kb) (k0_pay97 D.q D.kb) k0_pay98 := rfl
theorem pay115_eq : k0_pay115 (F := Ideal) m D.ua D.rt D.lc (k0_pay112 D.q D.kb) (k0_pay113 m D.q D.kb)
    = k0_pay102 m D.ua D.rt D.lc (k0_pay96 D.q D.kb) (k0_pay97 D.q D.kb) k0_pay98 := rfl
theorem pay116_eq : k0_pay116 (F := Ideal) m D.ua D.d D.rt D.lc (k0_pay110 D.vb) (k0_pay112 D.q D.kb) (k0_pay113 m D.q D.kb)
    = k0_pay103 m D.ua D.d D.rt D.lc (k0_pay95 D.vb) (k0_pay96 D.q D.kb) (k0_pay97 D.q D.kb) k0_pay98 := rfl
theorem pay117_eq : k0_pay117 (F := Ideal) m D.ua D.ub D.d D.rt D.lc D.gc (k0_pay110 D.vb) (k0_pay112 D.q D.kb) (k0_pay113 m D.q D.kb)
    = k0_pay104 m D.ua D.ub D.d D.rt D.lc D.gc (k0_pay95 D.vb) (k0_pay96 D.q D.kb) (k0_pay97 D.q D.kb) k0_pay98 := rfl

theorem pay121_apply (r : Fin 512) :
    k0_pay121 (F := Ideal) D.gc (k0_pay116 m D.ua D.d D.rt D.lc (k0_pay110 D.vb) (k0_pay112 D.q D.kb) (k0_pay113 m D.q D.kb)) (ix2 r 0) = Blk.gc' (whole D m) r :=
  pay107_apply D m r

theorem pay122_apply (r : Fin 512) (x : Fin 64) :
    k0_pay122 (F := Ideal) dq (k0_pay109 D.kb) (k0_pay117 m D.ua D.ub D.d D.rt D.lc D.gc (k0_pay110 D.vb) (k0_pay112 D.q D.kb) (k0_pay113 m D.q D.kb)) (ix2 r x)
      = dq (ix2 r x) + ∑ c, Blk.dz (whole D m) r c * D.kb (ix2 c x) :=
  pay108_apply D dq m r x

theorem pay118_apply (x : Fin 64) (c : Fin 256) :
    k0_pay118 (F := Ideal) m D.ua D.ub qt D.d D.rt D.lc D.gc (k0_pay110 D.vb) (k0_pay112 D.q D.kb) (k0_pay113 m D.q D.kb) w (ix3 0 x c)
      = w (ix3 0 x c) + ∑ r, qt (ix2 ⟨64 + x.val, by omega⟩ r) * Blk.dz (whole D m) r c := by
  unfold k0_pay118
  rw [pay117_eq]
  pointwise
  simp only [pay104_apply D m]

theorem pay120_apply (x : Fin 64) (c : Fin 256) :
    k0_pay120 (F := Ideal) (k0_pay119 m D.ua qt D.rt D.lc (k0_pay112 D.q D.kb) (k0_pay113 m D.q D.kb) w) (ix3 0 x c)
      = w (ix3 0 x c) + ∑ r, qt (ix2 ⟨64 + x.val, by omega⟩ r) * Blk.a (whole D m) r c := by
  unfold k0_pay120 k0_pay119
  rw [pay115_eq]
  pointwise
  simp only [pay102_apply D m]

/-! ### The diagonal's second key block -/

theorem pay128_apply (r c : Fin 256) : k0_pay128 (F := Ideal) D.q D.kb (ix2 r c) = Blk.z (lower D m) r c := by
  unfold k0_pay128 k0_pay125
  pointwise
  rfl

theorem pay129_apply (r c : Fin 256) : k0_pay129 (F := Ideal) D.q D.kb (ix2 r c) = Blk.lb (lower D m) r c := by
  unfold k0_pay129
  pointwise
  simp only [pay128_apply D m]
  rfl

theorem pay127_apply (r c : Fin 256) : k0_pay127 m (ix2 r c) = m (ix2 (low r) c) := by
  unfold k0_pay127
  pointwise
  rfl

theorem pay130_apply (r c : Fin 256) :
    k0_pay130 (F := Ideal) m D.ua D.q D.rt D.lc D.kb (ix2 r c) = Blk.rt (lower D m) r - Blk.lc' (lower D m) r + ∑ x, Blk.lk (lower D m) r x * Blk.ua (lower D m) x c := by
  unfold k0_pay130
  pointwise
  simp only [pay128_apply D m, pay129_apply D m, pay127_apply, select_mul]
  rfl

theorem pay131_apply (r c : Fin 256) :
    k0_pay131 (F := Ideal) (k0_pay127 m) (k0_pay129 D.q D.kb) (k0_pay130 m D.ua D.q D.rt D.lc D.kb) (ix2 r c) = Blk.a (lower D m) r c := by
  unfold k0_pay131
  pointwise
  simp only [pay129_apply D m, pay130_apply D m, pay127_apply]
  rfl

theorem pay132_apply (r c : Fin 256) :
    k0_pay132 (F := Ideal) D.ub D.d (k0_pay123 D.gc) (k0_pay126 D.vb) (k0_pay127 m) (k0_pay129 D.q D.kb) (k0_pay130 m D.ua D.q D.rt D.lc D.kb) (ix2 r c) = Blk.dz (lower D m) r c := by
  unfold k0_pay132 k0_pay126 k0_pay123
  pointwise
  simp only [pay129_apply D m, pay131_apply D m, pay127_apply]
  rfl

theorem pay133_apply (x : Fin 64) (c : Fin 256) :
    k0_pay133 (F := Ideal) D.ub qt D.d (k0_pay123 D.gc) (k0_pay126 D.vb) (k0_pay127 m) (k0_pay129 D.q D.kb) (k0_pay130 m D.ua D.q D.rt D.lc D.kb) w (ix3 0 x c)
      = w (ix3 0 x c) + ∑ r, qt (ix2 ⟨x.val, by omega⟩ (low r)) * Blk.dz (lower D m) r c := by
  unfold k0_pay133
  pointwise
  simp only [pay132_apply D m]
  rfl

theorem pay134_apply (x : Fin 64) (c : Fin 256) :
    k0_pay134 (F := Ideal) qt (k0_pay127 m) (k0_pay129 D.q D.kb) (k0_pay130 m D.ua D.q D.rt D.lc D.kb) w (ix3 0 x c)
      = w (ix3 0 x c) + ∑ r, qt (ix2 ⟨x.val, by omega⟩ (low r)) * Blk.a (lower D m) r c := by
  unfold k0_pay134
  pointwise
  simp only [pay131_apply D m]
  rfl

/-- A row of the upper half. -/
def up (r : Fin 256) : Fin 512 := ⟨r.val, by omega⟩

theorem pay135_low (r : Fin 256) (x : Fin 64) :
    k0_pay135 (F := Ideal) D.ub D.d dq (k0_pay123 D.gc) (k0_pay124 dq) (k0_pay125 D.kb) (k0_pay126 D.vb) (k0_pay127 m) (k0_pay129 D.q D.kb) (k0_pay130 m D.ua D.q D.rt D.lc D.kb)
        (ix2 (low r) x)
      = dq (ix2 (low r) x) + ∑ c, Blk.dz (lower D m) r c * D.kb (ix2 c x) := by
  unfold k0_pay135
  refine (concatenate_apply_piece (t := S512x64) 0 _ _ _ 1 (by simp) S256x64 _ rfl rfl 256 rfl (ix2 r x) (fun b hb => ?_) ?_).trans ?_
  · fin_cases b
    · exact absurd rfl hb
    · rfl
  · rfl
  unfold k0_pay124 k0_pay125
  pointwise
  simp only [pay132_apply D m]
  rfl

theorem pay135_up (r : Fin 256) (x : Fin 64) :
    k0_pay135 (F := Ideal) D.ub D.d dq (k0_pay123 D.gc) (k0_pay124 dq) (k0_pay125 D.kb) (k0_pay126 D.vb) (k0_pay127 m) (k0_pay129 D.q D.kb) (k0_pay130 m D.ua D.q D.rt D.lc D.kb)
        (ix2 (up r) x)
      = dq (ix2 (up r) x) := by
  unfold k0_pay135
  refine (concatenate_apply_piece (t := S512x64) 0 _ _ _ 0 (by simp) S256x64 _ rfl rfl 0 rfl (ix2 r x) (fun b hb => ?_) ?_).trans ?_
  · fin_cases b
    · exact absurd rfl hb
    · rfl
  · exact Nat.zero_add _
  pointwise
  rfl

theorem pay142_eq : k0_pay142 (F := Ideal) m D.ua D.q D.rt D.lc D.kb = k0_pay131 (k0_pay127 m) (k0_pay129 D.q D.kb) (k0_pay130 m D.ua D.q D.rt D.lc D.kb) := rfl
theorem pay145_eq : k0_pay145 (F := Ideal) D.ub (k0_pay136 D.gc) (k0_pay139 m) (k0_pay141 D.q D.kb) (k0_pay143 m D.ua D.q D.d D.rt D.lc D.kb D.vb) (k0_pay144 m D.ua D.q D.d D.rt D.lc D.kb D.vb)
    = k0_pay132 D.ub D.d (k0_pay123 D.gc) (k0_pay126 D.vb) (k0_pay127 m) (k0_pay129 D.q D.kb) (k0_pay130 m D.ua D.q D.rt D.lc D.kb) := rfl
theorem pay148_eq : k0_pay148 (F := Ideal) D.ub dq (k0_pay136 D.gc) (k0_pay137 dq) (k0_pay138 D.kb) (k0_pay139 m) (k0_pay141 D.q D.kb) (k0_pay143 m D.ua D.q D.d D.rt D.lc D.kb D.vb)
      (k0_pay144 m D.ua D.q D.d D.rt D.lc D.kb D.vb)
    = k0_pay135 D.ub D.d dq (k0_pay123 D.gc) (k0_pay124 dq) (k0_pay125 D.kb) (k0_pay126 D.vb) (k0_pay127 m) (k0_pay129 D.q D.kb) (k0_pay130 m D.ua D.q D.rt D.lc D.kb) := rfl

theorem pay146_apply (x : Fin 64) (c : Fin 256) :
    k0_pay146 (F := Ideal) D.ub qt (k0_pay136 D.gc) (k0_pay139 m) (k0_pay141 D.q D.kb) (k0_pay143 m D.ua D.q D.d D.rt D.lc D.kb D.vb) (k0_pay144 m D.ua D.q D.d D.rt D.lc D.kb D.vb) w (ix3 0 x c)
      = w (ix3 0 x c) + ∑ r, qt (ix2 ⟨64 + x.val, by omega⟩ (low r)) * Blk.dz (lower D m) r c := by
  unfold k0_pay146
  rw [pay145_eq]
  pointwise
  simp only [pay132_apply D m]
  rfl

theorem pay147_apply (x : Fin 64) (c : Fin 256) :
    k0_pay147 (F := Ideal) qt (k0_pay142 m D.ua D.q D.rt D.lc D.kb) w (ix3 0 x c)
      = w (ix3 0 x c) + ∑ r, qt (ix2 ⟨64 + x.val, by omega⟩ (low r)) * Blk.a (lower D m) r c := by
  unfold k0_pay147
  rw [pay142_eq]
  pointwise
  simp only [pay131_apply D m]
  rfl

end

end Cert.Sb
-- ==== Proof.SbMath.lean ====
/- Hand-written, untrusted: the stick-breaking attention's gradient over the reals, for one head of one sequence, and what the
   kernel's sums over blocks of keys add up to. -/
module

public import proofs.«01_k».proof.Proof.SbPay

@[expose] public section

noncomputable section

namespace Cert.Sb

open Idealize.ShloMosaic Cert.Finite Finset

/-- One head of one sequence: the scaled queries, the keys, the values and the output's cotangent. -/
structure Head where
  q : ℕ → Fin 64 → ℝ
  k : ℕ → Fin 64 → ℝ
  v : ℕ → Fin 64 → ℝ
  d : ℕ → Fin 64 → ℝ

namespace Head
variable (H : Head) (s j : ℕ)

/-- The logit of query `s` and key `j`. -/
def z : ℝ := ∑ x, H.q s x * H.k j x
/-- The logarithm of the chance that query `s` stops at key `j`. -/
def lb : ℝ := min (H.z s j) 0 - Real.log (1 + Real.exp (0 - max (H.z s j) (-H.z s j)))
/-- The logarithm of the chance that it goes on; nothing is asked of keys that are not earlier. -/
def lk : ℝ := if j < s then H.lb s j - H.z s j else 0
/-- The attention's weight. -/
def a : ℝ := if j < s then Real.exp (H.lb s j + ∑ i ∈ Ico (j + 1) 2048, H.lk s i) else 0
/-- The weight times its gradient. -/
def de : ℝ := H.a s j * ∑ x, H.d s x * H.v j x
/-- The logit's gradient. -/
def dz : ℝ := if j < s then H.de s j - Real.exp (H.lb s j) * (H.de s j + ∑ i ∈ range j, H.de s i) else 0

theorem lk_zero {s j : ℕ} (h : s ≤ j) : H.lk s j = 0 := if_neg (by omega)
theorem a_zero {s j : ℕ} (h : s ≤ j) : H.a s j = 0 := if_neg (by omega)
theorem de_zero {s j : ℕ} (h : s ≤ j) : H.de s j = 0 := by unfold de; rw [H.a_zero h, zero_mul]
theorem dz_zero {s j : ℕ} (h : s ≤ j) : H.dz s j = 0 := if_neg (by omega)

end Head

/-- A sum over the keys of the next block. -/
theorem sum_next (f : ℕ → ℝ) (J : ℕ) : ∑ j ∈ range (256 * (J + 1)), f j = ∑ j ∈ range (256 * J), f j + ∑ c : Fin 256, f (256 * J + c.val) := by
  rw [Nat.mul_succ, sum_range_add, Fin.sum_univ_eq_sum_range (fun c => f (256 * J + c)) 256]

/-- The block's keys before one of them. -/
theorem sum_before (f : ℕ → ℝ) (J : ℕ) (c : Fin 256) :
    ∑ j ∈ range (256 * J), f j + ∑ x : Fin 256, f (256 * J + x.val) * (if x < c then 1 else 0) = ∑ j ∈ range (256 * J + c.val), f j := by
  rw [sum_range_add]
  refine congrArg _ ?_
  rw [show (∑ x : Fin 256, f (256 * J + x.val) * (if x < c then 1 else 0)) = ∑ x ∈ range 256, f (256 * J + x) * (if x < c.val then 1 else 0) from
    Fin.sum_univ_eq_sum_range (fun x => f (256 * J + x) * (if x < c.val then 1 else 0)) 256]
  simp only [mul_ite, mul_one, mul_zero]
  rw [← sum_filter]
  refine sum_congr (Finset.ext fun x => ?_) fun _ _ => rfl
  have := c.isLt
  simp only [mem_filter, mem_range]
  omega

/-- The block's keys after one of them, with all later blocks: the row's total without what has been summed up to the block's end. -/
theorem sum_after (f : ℕ → ℝ) (J : ℕ) (hJ : J < 8) (c : Fin 256) :
    ∑ j ∈ range 2048, f j - ∑ j ∈ range (256 * (J + 1)), f j + ∑ x : Fin 256, f (256 * J + x.val) * (if c < x then 1 else 0)
      = ∑ j ∈ Ico (256 * J + c.val + 1) 2048, f j := by
  have hc := c.isLt
  have e1 : ∑ j ∈ range 2048, f j = ∑ j ∈ range (256 * J + c.val + 1), f j + ∑ j ∈ Ico (256 * J + c.val + 1) 2048, f j :=
    (sum_range_add_sum_Ico f (by omega)).symm
  have e2 : ∑ j ∈ range (256 * (J + 1)), f j
      = ∑ j ∈ range (256 * J + c.val + 1), f j + ∑ x : Fin 256, f (256 * J + x.val) * (if c < x then 1 else 0) := by
    rw [sum_next f J, Nat.add_assoc (256 * J), sum_range_add, add_assoc]
    refine congrArg _ ?_
    rw [Fin.sum_univ_eq_sum_range (fun c => f (256 * J + c)) 256,
      show (∑ x : Fin 256, f (256 * J + x.val) * (if c < x then 1 else 0)) = ∑ x ∈ range 256, f (256 * J + x) * (if c.val < x then 1 else 0) from
        Fin.sum_univ_eq_sum_range (fun x => f (256 * J + x) * (if c.val < x then 1 else 0)) 256]
    simp only [mul_ite, mul_one, mul_zero]
    rw [← sum_filter, ← sum_range_add_sum_Ico (fun x => f (256 * J + x)) (show c.val + 1 ≤ 256 by omega)]
    refine congrArg _ (sum_congr (Finset.ext fun x => ?_) fun _ _ => rfl)
    simp only [mem_filter, mem_range, mem_Ico]
    omega
  rw [e1, e2]
  ring

/-- A block holds the numbers of key block `J` for the queries `row`. -/
structure Holds {R : ℕ} (B : Blk R) (H : Head) (row : Fin R → ℕ) (J : ℕ) : Prop where
  small : J < 8
  on : ∀ r c, B.on r c = BitVec.ofBool (decide (256 * J + c.val < row r))
  q : ∀ r x, B.q r x = (H.q (row r) x : ℝ)
  d : ∀ r x, B.d r x = (H.d (row r) x : ℝ)
  k : ∀ c x, B.k c x = (H.k (256 * J + c.val) x : ℝ)
  v : ∀ c x, B.v c x = (H.v (256 * J + c.val) x : ℝ)
  ua : ∀ x c, B.ua x c = if c < x then 1 else 0
  ub : ∀ x c, B.ub x c = if x < c then 1 else 0
  rt : ∀ r, B.rt r = (∑ j ∈ range 2048, H.lk (row r) j : ℝ)
  lc : ∀ r, B.lc r = (∑ j ∈ range (256 * J), H.lk (row r) j : ℝ)
  gc : ∀ r, B.gc r = (∑ j ∈ range (256 * J), H.de (row r) j : ℝ)

/-- A masked real number. -/
theorem select_coe (p : Prop) [Decidable p] (x : ℝ) : Scalar.select (BitVec.ofBool (decide p)) (x : EReal) 0 = ((if p then x else 0 : ℝ) : EReal) := by
  by_cases h : p
  · rw [decide_eq_true h, if_pos h]; rfl
  · rw [decide_eq_false h, if_neg h]; exact EReal.coe_zero.symm

theorem mul_ind (p : Prop) [Decidable p] (x : ℝ) : (x : EReal) * (if p then 1 else 0) = ((x * (if p then 1 else 0) : ℝ) : EReal) := by
  split <;> simp

theorem min_coe (x y : ℝ) : min (x : EReal) (y : EReal) = ((min x y : ℝ) : EReal) := (EReal.coe_strictMono.monotone.map_min).symm

theorem lb_coe (x : ℝ) : min (x : EReal) 0 - Ideal.log (1 + Ideal.exp (0 - max (x : EReal) (-(x : EReal))))
    = ((min x 0 - Real.log (1 + Real.exp (0 - max x (-x))) : ℝ) : EReal) := by
  rw [← EReal.coe_zero, ← EReal.coe_one, ← EReal.coe_neg, max_coe, min_coe, ← EReal.coe_sub, exp_coe, ← EReal.coe_add,
    log_coe (by positivity), ← EReal.coe_sub]

namespace Holds
variable {R : ℕ} {B : Blk R} {H : Head} {row : Fin R → ℕ} {J : ℕ} (h : Holds B H row J) (r : Fin R) (c : Fin 256)
include h

theorem z_eq : B.z r c = (H.z (row r) (256 * J + c.val) : ℝ) := by
  unfold Blk.z Head.z
  rw [coe_sum]
  refine sum_congr rfl fun x _ => ?_
  rw [h.q, h.k, EReal.coe_mul]

theorem lb_eq : B.lb r c = (H.lb (row r) (256 * J + c.val) : ℝ) := by
  unfold Blk.lb
  rw [h.z_eq, lb_coe]
  rfl

theorem lk_eq : B.lk r c = (H.lk (row r) (256 * J + c.val) : ℝ) := by
  unfold Blk.lk
  rw [h.z_eq, h.lb_eq, h.on, ← EReal.coe_sub, select_coe]
  rfl

theorem lc_next : B.lc' r = (∑ j ∈ range (256 * (J + 1)), H.lk (row r) j : ℝ) := by
  unfold Blk.lc'
  rw [h.lc, sum_next, EReal.coe_add, coe_sum univ]
  simp only [h.lk_eq]

theorem a_eq : B.a r c = (H.a (row r) (256 * J + c.val) : ℝ) := by
  unfold Blk.a
  simp only [h.lc_next, h.lk_eq, h.lb_eq, h.on, h.rt, h.ua, mul_ind]
  rw [← coe_sum, ← EReal.coe_sub, ← EReal.coe_add, sum_after (fun j => H.lk (row r) j) J h.small c, ← EReal.coe_add, exp_coe, select_coe]
  rfl

theorem de_eq : B.de r c = (H.de (row r) (256 * J + c.val) : ℝ) := by
  unfold Blk.de Head.de
  rw [h.a_eq, EReal.coe_mul, coe_sum]
  refine congrArg _ (sum_congr rfl fun x _ => ?_)
  rw [h.d, h.v, EReal.coe_mul]

theorem gc_next : B.gc' r = (∑ j ∈ range (256 * (J + 1)), H.de (row r) j : ℝ) := by
  unfold Blk.gc'
  rw [h.gc, sum_next, EReal.coe_add, coe_sum univ]
  simp only [h.de_eq]

theorem dz_eq : B.dz r c = (H.dz (row r) (256 * J + c.val) : ℝ) := by
  unfold Blk.dz
  simp only [h.de_eq, h.lb_eq, h.on, h.gc, h.ub, mul_ind]
  rw [← coe_sum, ← EReal.coe_add, sum_before (fun j => H.de (row r) j) J c, ← EReal.coe_add, exp_coe, ← EReal.coe_mul, ← EReal.coe_sub, select_coe]
  rfl

end Holds

end Cert.Sb
-- ==== Proof.SbHeads.lean ====
/- Hand-written, untrusted: the heads of the stick-breaking attention, out of real queries, keys, values and cotangents, and the
   logarithms and slopes that the host writes, over the reals. -/
module

public import proofs.«01_k».proof.Proof.SbMath
public import proofs.«01_k».proof.Proof.CumReference

@[expose] public section

noncomputable section

namespace Cert.Sb

open Idealize.ShloMosaic Cert.Finite Finset
open Cert.Cum (softplus)

/-- Lane `x` of head `h`. -/
def laneOf (h : Fin 32) (x : Fin 64) : Fin 2048 := ⟨h.val * 64 + x.val, by omega⟩
/-- A place in the sequence. -/
def place (s : ℕ) : Fin 2048 := ⟨s % 2048, by omega⟩

theorem place_val (s : Fin 2048) : place s.val = s := Fin.ext (Nat.mod_eq_of_lt s.isLt)

/-- Head `h` of sequence `b`. -/
def headOf (Q K V D : (⟨3, ![4, 2048, 2048]⟩ : Shape).Idx → ℝ) (b : Fin 4) (h : Fin 32) : Head where
  q s x := Q (ix3 b (place s) (laneOf h x)) * (1 / 8)
  k j x := K (ix3 b (place j) (laneOf h x))
  v j x := V (ix3 b (place j) (laneOf h x))
  d s x := D (ix3 b (place s) (laneOf h x))

/-- The logarithm of the logistic function. -/
theorem lb_log (z : ℝ) : min z 0 - Real.log (1 + Real.exp (0 - max z (-z))) = -Real.log (1 + Real.exp (-z)) := by
  rcases le_total 0 z with h | h
  · rw [min_eq_right h, max_eq_left (by linarith), zero_sub, zero_sub]
  · have e : 1 + Real.exp (-z) = Real.exp (-z) * (1 + Real.exp z) := by
      rw [mul_add, ← Real.exp_add]; simp; ring
    rw [min_eq_left h, max_eq_right (by linarith), zero_sub, neg_neg, e, Real.log_mul (by positivity) (by positivity), Real.log_exp]
    ring

/-- `softplus` of a real number. -/
theorem softplus_coe (y : ℝ) : softplus (y : EReal) = ((Real.log (1 + Real.exp y) : ℝ) : EReal) := by
  unfold softplus
  rw [← EReal.coe_neg, max_coe, ← EReal.coe_zero, max_coe, ← EReal.coe_neg, exp_coe, log1p_coe (by positivity), ← EReal.coe_add]
  congr 1
  have := lb_log (-y)
  rw [neg_neg, zero_sub, max_comm (-y) y] at this
  rcases le_total 0 y with h | h
  · rw [max_eq_left h]; rw [min_eq_left (by linarith)] at this; linarith
  · rw [max_eq_right h]; rw [min_eq_right (by linarith)] at this; linarith

/-- The slope of `softplus` at a real number. -/
theorem slope_coe (y : ℝ) : Cum.slope (y : EReal) = ((Real.exp (y - Real.log (1 + Real.exp y)) : ℝ) : EReal) := by
  unfold Cum.slope
  rw [softplus_coe, if_neg (EReal.coe_ne_top _), if_neg (EReal.coe_ne_top _), ← EReal.coe_sub, exp_coe]

variable (H : Head) (s j : ℕ)

theorem Head.lb_eq_log : H.lb s j = -Real.log (1 + Real.exp (-H.z s j)) := lb_log _

theorem Head.lb_sub : H.lb s j - H.z s j = -Real.log (1 + Real.exp (H.z s j)) := by
  rw [H.lb_eq_log]
  have e : 1 + Real.exp (H.z s j) = Real.exp (H.z s j) * (1 + Real.exp (-H.z s j)) := by
    rw [mul_add, ← Real.exp_add]; simp; ring
  rw [e, Real.log_mul (by positivity) (by positivity), Real.log_exp]
  ring

/-- The chance to stop and the chance to go on. -/
theorem Head.stop_go : Real.exp (-H.z s j - Real.log (1 + Real.exp (-H.z s j))) = 1 - Real.exp (H.lb s j) := by
  rw [H.lb_eq_log, Real.exp_sub, Real.exp_neg (Real.log _), Real.exp_log (by positivity)]
  field_simp
  ring

theorem Head.stop : Real.exp (H.z s j - Real.log (1 + Real.exp (H.z s j))) = Real.exp (H.lb s j) := by
  congr 1
  have := H.lb_sub s j
  linarith

end Cert.Sb
-- ==== Proof.SbState.lean ====
/- Hand-written, untrusted: what one head has gathered of the stick-breaking attention's gradient after some of the key blocks of
   a query block, over the reals. -/
module

public import proofs.«01_k».proof.Proof.SbMath

@[expose] public section

noncomputable section

namespace Cert.Sb

open Idealize.ShloMosaic Cert.Finite Cert.Kernel6Ideal Cert.Kernel6Ideal.Gen Finset

/-- What one head carries: each row's sums of log keeps and of `de`, the gradient of the queries, and the gradients of the keys and
    of the values, by key block, lane and key. -/
structure Got where
  lc : Fin 512 → EReal
  gc : Fin 512 → EReal
  dq : Fin 512 → Fin 64 → EReal
  dk : Fin 8 → Fin 64 → Fin 256 → EReal
  dv : Fin 8 → Fin 64 → Fin 256 → EReal

/-- A gradient of the keys (`f` the queries, `g` the logits' gradients) or of the values (`f` the cotangents, `g` the weights) over
    the first `n` query blocks. -/
def gath (f : ℕ → Fin 64 → ℝ) (g : ℕ → ℕ → ℝ) (n : ℕ) (J : Fin 8) (x : Fin 64) (c : Fin 256) : ℝ :=
  ∑ s ∈ range (512 * n), f s x * g s (256 * J.val + c.val)

/-- In query block `n` the key blocks before `J` are done. -/
structure Upto (H : Head) (n J : ℕ) (g : Got) : Prop where
  lc : ∀ r, g.lc r = (∑ j ∈ range (256 * J), H.lk (512 * n + r.val) j : ℝ)
  gc : ∀ r, g.gc r = (∑ j ∈ range (256 * J), H.de (512 * n + r.val) j : ℝ)
  dq : ∀ r x, g.dq r x = (∑ j ∈ range (256 * J), H.dz (512 * n + r.val) j * H.k j x : ℝ)
  dk : ∀ (K : Fin 8) x c, g.dk K x c = (gath H.q H.dz (if K.val < J then n + 1 else n) K x c : ℝ)
  dv : ∀ (K : Fin 8) x c, g.dv K x c = (gath H.d H.a (if K.val < J then n + 1 else n) K x c : ℝ)

/-- Query block `n` is done. -/
structure Fin' (H : Head) (n : ℕ) (g : Got) : Prop where
  dq : ∀ r x, g.dq r x = (∑ j ∈ range 2048, H.dz (512 * n + r.val) j * H.k j x : ℝ)
  dk : ∀ K x c, g.dk K x c = (gath H.q H.dz (n + 1) K x c : ℝ)
  dv : ∀ K x c, g.dv K x c = (gath H.d H.a (n + 1) K x c : ℝ)

/-- Key block `J`, of all rows. -/
structure Step (B : Blk 512) (qt dt : Fin 64 → Fin 512 → EReal) (J : ℕ) (g g' : Got) : Prop where
  lc : ∀ r, g'.lc r = B.lc' r
  gc : ∀ r, g'.gc r = B.gc' r
  dq : ∀ r x, g'.dq r x = g.dq r x + ∑ c, B.dz r c * B.k c x
  dk : ∀ (K : Fin 8) x c, g'.dk K x c = if K.val = J then g.dk K x c + ∑ r, qt x r * B.dz r c else g.dk K x c
  dv : ∀ (K : Fin 8) x c, g'.dv K x c = if K.val = J then g.dv K x c + ∑ r, dt x r * B.a r c else g.dv K x c

/-- Key block `J`, of the lower rows. -/
structure StepLow (B : Blk 256) (qt dt : Fin 64 → Fin 512 → EReal) (J : ℕ) (g g' : Got) : Prop where
  upper : ∀ r x, g'.dq (up r) x = g.dq (up r) x
  rest : ∀ r x, g'.dq (low r) x = g.dq (low r) x + ∑ c, B.dz r c * B.k c x
  dk : ∀ (K : Fin 8) x c, g'.dk K x c = if K.val = J then g.dk K x c + ∑ r, qt x (low r) * B.dz r c else g.dk K x c
  dv : ∀ (K : Fin 8) x c, g'.dv K x c = if K.val = J then g.dv K x c + ∑ r, dt x (low r) * B.a r c else g.dv K x c

/-- A further query block. -/
theorem gath_next (f : ℕ → Fin 64 → ℝ) (g : ℕ → ℕ → ℝ) (n : ℕ) (J : Fin 8) (x : Fin 64) (c : Fin 256) :
    gath f g (n + 1) J x c = gath f g n J x c + ∑ r : Fin 512, f (512 * n + r.val) x * g (512 * n + r.val) (256 * J.val + c.val) := by
  unfold gath
  rw [Nat.mul_succ, sum_range_add, Fin.sum_univ_eq_sum_range (fun r => f (512 * n + r) x * g (512 * n + r) (256 * J.val + c.val)) 512]

/-- A sum over the rows, whose upper half is zero. -/
theorem sum_low (f : ℕ → ℝ) (h : ∀ r < 256, f r = 0) : ∑ r : Fin 512, f r.val = ∑ r : Fin 256, f (256 + r.val) := by
  rw [Fin.sum_univ_eq_sum_range f 512, show 512 = 256 + 256 from rfl, sum_range_add,
    sum_eq_zero fun r hr => h r (mem_range.1 hr), zero_add, Fin.sum_univ_eq_sum_range (fun r => f (256 + r)) 256]

/-- The sum over a block's rows, of real numbers. -/
theorem coe_rows {R : ℕ} (u v : Fin R → EReal) (f g : Fin R → ℝ) (hu : ∀ r, u r = f r) (hv : ∀ r, v r = g r) :
    ∑ r, u r * v r = ((∑ r, f r * g r : ℝ) : EReal) := by
  rw [coe_sum]
  exact sum_congr rfl fun r _ => by rw [hu, hv, EReal.coe_mul]

variable {H : Head} {n J : ℕ} {g g' : Got}

theorem Upto.step {B : Blk 512} {qt dt : Fin 64 → Fin 512 → EReal} (hu : Upto H n J g) (hB : Holds B H (fun r => 512 * n + r.val) J)
    (hq : ∀ x r, qt x r = (H.q (512 * n + r.val) x : ℝ)) (hd : ∀ x r, dt x r = (H.d (512 * n + r.val) x : ℝ)) (hs : Step B qt dt J g g') :
    Upto H n (J + 1) g' where
  lc r := (hs.lc r).trans (hB.lc_next r)
  gc r := (hs.gc r).trans (hB.gc_next r)
  dq r x := by
    rw [hs.dq, hu.dq, sum_next, EReal.coe_add, coe_rows _ _ _ _ (fun c => hB.dz_eq r c) (fun c => hB.k c x)]
  dk K x c := by
    rw [hs.dk, hu.dk]
    by_cases h : K.val = J
    · rw [if_pos h, if_neg (by omega), if_pos (by omega), gath_next, EReal.coe_add, h,
        coe_rows _ _ _ _ (fun r => hq x r) (fun r => hB.dz_eq r c)]
    · rw [if_neg h]
      by_cases h' : K.val < J
      · rw [if_pos h', if_pos (by omega)]
      · rw [if_neg h', if_neg (by omega)]
  dv K x c := by
    rw [hs.dv, hu.dv]
    by_cases h : K.val = J
    · rw [if_pos h, if_neg (by omega), if_pos (by omega), gath_next, EReal.coe_add, h,
        coe_rows _ _ _ _ (fun r => hd x r) (fun r => hB.a_eq r c)]
    · rw [if_neg h]
      by_cases h' : K.val < J
      · rw [if_pos h', if_pos (by omega)]
      · rw [if_neg h', if_neg (by omega)]

/-- A query block adds nothing to the gradients at later key blocks. -/
theorem gath_late (f : ℕ → Fin 64 → ℝ) (g : ℕ → ℕ → ℝ) (hg : ∀ s j, s ≤ j → g s j = 0) (n : ℕ) (K : Fin 8) (hK : 2 * n + 2 ≤ K.val) (x : Fin 64) (c : Fin 256) :
    gath f g n K x c = gath f g (n + 1) K x c := by
  rw [gath_next, sum_eq_zero, add_zero]
  intro r _
  rw [hg _ _ (by have := r.isLt; omega), mul_zero]

/-- The keys from the diagonal on add nothing. -/
theorem range_late (f : ℕ → ℝ) (m : ℕ) (hm : m ≤ 2048) (hf : ∀ j, m ≤ j → f j = 0) : ∑ j ∈ range m, f j = ∑ j ∈ range 2048, f j := by
  rw [← sum_range_add_sum_Ico f hm, sum_eq_zero (s := Ico m 2048) fun j hj => hf j (mem_Ico.1 hj).1, add_zero]

theorem gath_lower (f : ℕ → Fin 64 → ℝ) (g : ℕ → ℕ → ℝ) (hg : ∀ s j, s ≤ j → g s j = 0) (K : Fin 8) (hK : K.val = 2 * n + 1) (x : Fin 64) (c : Fin 256) :
    gath f g (n + 1) K x c = gath f g n K x c
      + ∑ r : Fin 256, f (512 * n + (low r).val) x * g (512 * n + 256 + r.val) (256 * (2 * n + 1) + c.val) := by
  rw [gath_next, sum_low (fun r => f (512 * n + r) x * g (512 * n + r) (256 * K.val + c.val)) (fun r hr => by
    rw [hg _ _ (by omega), mul_zero]), hK]
  simp only [low, Nat.add_assoc]

theorem Upto.last {B : Blk 256} {qt dt : Fin 64 → Fin 512 → EReal} (hn : n < 4) (hu : Upto H n (2 * n + 1) g)
    (hB : Holds B H (fun r => 512 * n + 256 + r.val) (2 * n + 1))
    (hq : ∀ x r, qt x r = (H.q (512 * n + r.val) x : ℝ)) (hd : ∀ x r, dt x r = (H.d (512 * n + r.val) x : ℝ))
    (hs : StepLow B qt dt (2 * n + 1) g g') : Fin' H n g' where
  dq r x := by
    by_cases h : r.val < 256
    · have e : r = up ⟨r.val, h⟩ := rfl
      rw [e, hs.upper, ← e, hu.dq, range_late _ _ (by omega)]
      intro j hj
      rw [H.dz_zero (by omega), zero_mul]
    · have e : r = low ⟨r.val - 256, by omega⟩ := Fin.ext (by show r.val = 256 + (r.val - 256); omega)
      have e' : 512 * n + r.val = 512 * n + 256 + (⟨r.val - 256, by omega⟩ : Fin 256).val := by show _ = 512 * n + 256 + (r.val - 256); omega
      rw [e, hs.rest, ← e, hu.dq, coe_rows _ _ _ _ (fun c => hB.dz_eq _ c) (fun c => hB.k c x), ← EReal.coe_add, e',
        ← sum_next (fun j => H.dz (512 * n + 256 + (⟨r.val - 256, by omega⟩ : Fin 256).val) j * H.k j x) (2 * n + 1), range_late _ _ (by omega)]
      intro j hj
      rw [← e', H.dz_zero (by omega), zero_mul]
  dk K x c := by
    rw [hs.dk, hu.dk]
    by_cases h : K.val = 2 * n + 1
    · rw [if_pos h, if_neg (by omega), gath_lower H.q H.dz (fun s j => H.dz_zero) K h, EReal.coe_add,
        coe_rows _ _ _ _ (fun r => hq x (low r)) (fun r => hB.dz_eq r c)]
    · rw [if_neg h]
      by_cases h' : K.val < 2 * n + 1
      · rw [if_pos h']
      · rw [if_neg h', gath_late _ _ (fun s j => H.dz_zero) _ _ (by omega)]
  dv K x c := by
    rw [hs.dv, hu.dv]
    by_cases h : K.val = 2 * n + 1
    · rw [if_pos h, if_neg (by omega), gath_lower H.d H.a (fun s j => H.a_zero) K h, EReal.coe_add,
        coe_rows _ _ _ _ (fun r => hd x (low r)) (fun r => hB.a_eq r c)]
    · rw [if_neg h]
      by_cases h' : K.val < 2 * n + 1
      · rw [if_pos h']
      · rw [if_neg h', gath_late _ _ (fun s j => H.a_zero) _ _ (by omega)]

end Cert.Sb
-- ==== Proof.SbBlock.lean ====
/- Hand-written, untrusted: what one grid point of the stick-breaking attention's gradient computes, over the reals: the loop over
   the key blocks below the diagonal and the two blocks on it, for both heads. -/
module

public import proofs.«01_k».proof.Proof.SbState
public import proofs.«01_k».proof.Proof.SbBody

@[expose] public section

set_option maxRecDepth 16384

noncomputable section

namespace Cert.Sb

open Idealize.ShloMosaic Cert.Finite Idealize.ShloMosaic.TcCoe Cert.Kernel6Ideal Cert.Kernel6Ideal.Gen
open VecWindow (window put)

/-! ### Where the blocks lie -/

section
variable (n : Fin 4)
/-- The word that says that all key blocks below the diagonal are visited. -/
def full : BitVec 32 := BitVec.ofNat 32 (2 * n.val)
end

theorem trips_small : ∀ n : Fin 4, (k0_t1_loop (point n) (full n)).trips = 2 * n.val := by decide +kernel
theorem off1_small : ∀ (n : Fin 4) (k : Fin (k0_t1_loop (point n) (full n)).trips), k0_off1 (point n) (full n) k = ![256 * k.val, 0] := by decide +kernel
theorem off2_small : ∀ (n : Fin 4) (k : Fin (k0_t1_loop (point n) (full n)).trips), k0_off2 (point n) (full n) k = ![k.val, 0, 0] := by decide +kernel
theorem off3_small : ∀ (n : Fin 4) (k : Fin (k0_t1_loop (point n) (full n)).trips), k0_off3 (point n) (full n) k = ![256 * k.val, 64] := by decide +kernel
theorem off4_small : ∀ (n : Fin 4) (k : Fin (k0_t1_loop (point n) (full n)).trips), k0_off4 (point n) (full n) k = ![k.val, 64, 0] := by decide +kernel
theorem off9_small : ∀ (n : Fin 4) (d : Fin 2), k0_off9 (point n) (BitVec.ofNat 32 d.val) = ![256 * (2 * n.val + d.val), 0] := by decide +kernel
theorem off10_small : ∀ (n : Fin 4) (d : Fin 2), k0_off10 (point n) (BitVec.ofNat 32 d.val) = ![2 * n.val + d.val, 0, 0] := by decide +kernel
theorem off11_small : ∀ (n : Fin 4) (d : Fin 2), k0_off11 (point n) (BitVec.ofNat 32 d.val) = ![256 * (2 * n.val + d.val), 64] := by decide +kernel
theorem off12_small : ∀ (n : Fin 4) (d : Fin 2), k0_off12 (point n) (BitVec.ofNat 32 d.val) = ![2 * n.val + d.val, 64, 0] := by decide +kernel

section
variable (i : grid0.Coords)
theorem trips_eq : (k0_t1_loop i (full (i 2))).trips = 2 * (i 2).val := trips_small (i 2)
theorem off1_eq (k : Fin (k0_t1_loop i (full (i 2))).trips) : k0_off1 i (full (i 2)) k = ![256 * k.val, 0] := off1_small (i 2) k
theorem off2_eq (k : Fin (k0_t1_loop i (full (i 2))).trips) : k0_off2 i (full (i 2)) k = ![k.val, 0, 0] := off2_small (i 2) k
theorem off3_eq (k : Fin (k0_t1_loop i (full (i 2))).trips) : k0_off3 i (full (i 2)) k = ![256 * k.val, 64] := off3_small (i 2) k
theorem off4_eq (k : Fin (k0_t1_loop i (full (i 2))).trips) : k0_off4 i (full (i 2)) k = ![k.val, 64, 0] := off4_small (i 2) k
theorem off9_eq (d : Fin 2) : k0_off9 i (BitVec.ofNat 32 d.val) = ![256 * (2 * (i 2).val + d.val), 0] := off9_small (i 2) d
theorem off10_eq (d : Fin 2) : k0_off10 i (BitVec.ofNat 32 d.val) = ![2 * (i 2).val + d.val, 0, 0] := off10_small (i 2) d
theorem off11_eq (d : Fin 2) : k0_off11 i (BitVec.ofNat 32 d.val) = ![256 * (2 * (i 2).val + d.val), 64] := off11_small (i 2) d
theorem off12_eq (d : Fin 2) : k0_off12 i (BitVec.ofNat 32 d.val) = ![2 * (i 2).val + d.val, 64, 0] := off12_small (i 2) d
end

/-- A lane of the first head. -/
def lane0 (x : Fin 64) : Fin 128 := ⟨x.val, by omega⟩
/-- A lane of the second head. -/
def lane1 (x : Fin 64) : Fin 128 := ⟨64 + x.val, by omega⟩

/-- A block of keys or values. -/
theorem win_key (x : Vec Ideal S2048x128 .bf16) (off : Fin 2 → ℕ) (inb : ∀ a, off a + S256x64.size a ≤ S2048x128.size a) (a b : ℕ) (h : off = ![a, b])
    (c : Fin 256) (y : Fin 64) (r : Fin 2048) (s : Fin 128) (hr : r.val = a + c.val) (hs : s.val = b + y.val) :
    window x off S256x64.size inb (ix2 c y) = x (ix2 r s) := by
  subst h
  refine congrArg x (funext fun e => Fin.ext ?_)
  match e with
  | 0 => show a + 1 * c.val = r.val; omega
  | 1 => show b + 1 * y.val = s.val; omega

/-- A block of a gathered gradient. -/
theorem win_acc (x : Vec Ideal S8x128x256 .f32) (off : Fin 3 → ℕ) (inb : ∀ a, off a + S1x64x256.size a ≤ S8x128x256.size a) (a b : ℕ) (h : off = ![a, b, 0])
    (y : Fin 64) (c : Fin 256) (K : Fin 8) (s : Fin 128) (hK : K.val = a) (hs : s.val = b + y.val) :
    window x off S1x64x256.size inb (ix3 0 y c) = x (ix3 K s c) := by
  subst h
  refine congrArg x (funext fun e => Fin.ext ?_)
  match e with
  | 0 => show a + 1 * 0 = K.val; omega
  | 1 => show b + 1 * y.val = s.val; omega
  | 2 => show 0 + 1 * c.val = c.val; omega

/-- A gathered gradient, after a block of one head has been added to. -/
theorem put_step (x : Vec Ideal S8x128x256 .f32) (off : Fin 3 → ℕ) (inb : ∀ a, off a + S1x64x256.size a ≤ S8x128x256.size a) (a b : ℕ) (h : off = ![a, b, 0])
    (w : Vec Ideal S1x64x256 .f32) (f : Fin 64 → Fin 256 → EReal) (hw : ∀ y c, w (ix3 0 y c) = window x off S1x64x256.size inb (ix3 0 y c) + f y c)
    (K : Fin 8) (y : Fin 64) (c : Fin 256) (s : Fin 128) (hs : s.val = b + y.val) :
    put x off S1x64x256.size w (ix3 K s c) = if K.val = a then x (ix3 K s c) + f y c else x (ix3 K s c) := by
  by_cases hK : K.val = a
  · rw [if_pos hK, ← win_acc x off inb a b h y c K s hK hs, ← hw]
    subst h
    unfold put
    rw [dif_pos (fun e => by
      match e with
      | 0 => exact ⟨by show a ≤ K.val; omega, by show K.val < a + 1; omega⟩
      | 1 => exact ⟨by show b ≤ s.val; omega, by show s.val < b + 64; omega⟩
      | 2 => exact ⟨Nat.zero_le _, by show c.val < 0 + 256; omega⟩)]
    refine congrArg w (funext fun e => Fin.ext ?_)
    match e with
    | 0 => show K.val - a = 0; omega
    | 1 => show s.val - b = y.val; omega
    | 2 => show c.val - 0 = c.val; omega
  · rw [if_neg hK]
    subst h
    unfold put
    exact dif_neg (fun e => hK (by have := e 0; have h1 : a ≤ K.val := this.1; have h2 : K.val < a + 1 := this.2; omega))

/-- The other head's lanes stay. -/
theorem put_other (x : Vec Ideal S8x128x256 .f32) (off : Fin 3 → ℕ) (a b : ℕ) (h : off = ![a, b, 0]) (w : Vec Ideal S1x64x256 .f32)
    (K : Fin 8) (c : Fin 256) (s : Fin 128) (hs : s.val < b ∨ b + 64 ≤ s.val) : put x off S1x64x256.size w (ix3 K s c) = x (ix3 K s c) := by
  subst h
  unfold put
  exact dif_neg (fun e => by have := e 1; have h1 : b ≤ s.val := this.1; have h2 : s.val < b + 64 := this.2; omega)

/-! ### What a grid point starts from -/

theorem mask0 (r : Fin 512) (c : Fin 256) : k0_pay73 (ix2 r c) = BitVec.ofBool (decide (c.val < r.val)) := by
  unfold k0_pay73
  pointwise
  rw [show IntOp.addi (BitVec.ofNat 32 c.val) 0#32 = BitVec.ofNat 32 c.val from by simp [IntOp.addi],
    WordCmp.cmpi_slt_ofNat (by omega) (by omega)]

theorem mask1 (r : Fin 512) (c : Fin 256) : k0_pay74 (ix2 r c) = BitVec.ofBool (decide (c.val + 256 < r.val)) := by
  unfold k0_pay74
  pointwise
  rw [show IntOp.addi (BitVec.ofNat 32 c.val) 256#32 = BitVec.ofNat 32 (c.val + 256) from by simp [IntOp.addi, BitVec.ofNat_add],
    WordCmp.cmpi_slt_ofNat (by omega) (by omega)]

/-- A bit as a number. -/
theorem bit_val (p : Prop) [Decidable p] :
    (FloatOps.sitofp (F := Ideal) .f32 (BitVec.setWidth 32 (BitVec.ofBool (decide p))) : EReal) = if p then 1 else 0 := by
  by_cases h : p
  · rw [if_pos h, decide_eq_true h]
    show (((BitVec.setWidth 32 (BitVec.ofBool true)).toInt : ℝ) : EReal) = 1
    rw [show (BitVec.setWidth 32 (BitVec.ofBool true)).toInt = 1 by decide]; simp
  · rw [if_neg h, decide_eq_false h]
    show (((BitVec.setWidth 32 (BitVec.ofBool false)).toInt : ℝ) : EReal) = 0
    rw [show (BitVec.setWidth 32 (BitVec.ofBool false)).toInt = 0 by decide]; simp

theorem after_apply (x c : Fin 256) : (k0_pay75 (F := Ideal) (ix2 x c) : EReal) = if c < x then 1 else 0 := by
  unfold k0_pay75
  pointwise
  rw [WordCmp.cmpi_sgt_ofNat (by omega) (by omega), bit_val]
  rfl

theorem before_apply (x c : Fin 256) : (k0_pay76 (F := Ideal) (ix2 x c) : EReal) = if x < c then 1 else 0 := by
  unfold k0_pay76
  pointwise
  rw [WordCmp.cmpi_slt_ofNat (by omega) (by omega), bit_val]
  rfl

/-- The scale. -/
theorem eighth : Ideal.ofBits .f32 0x3E000000#32 = ((1 / 8 : ℝ) : EReal) := by
  simp [Ideal.ofBits, Ideal.ieee]
  rw [← EReal.coe_mul]
  norm_num

section
variable (x : Vec Ideal S512x128 .bf16) (r : Fin 512) (y : Fin 64)

theorem qt_apply (s : Fin 128) : k0_pay79 (F := Ideal) x (ix2 s r) = x (ix2 r s) * ((1 / 8 : ℝ) : EReal) := by
  unfold k0_pay79 k0_pay77
  pointwise
  rw [← eighth]
theorem dt_apply (s : Fin 128) : k0_pay80 (F := Ideal) x (ix2 s r) = x (ix2 r s) := by
  unfold k0_pay80 k0_pay78
  pointwise
theorem q0_apply : k0_pay81 (F := Ideal) x (ix2 r y) = x (ix2 r (lane0 y)) * ((1 / 8 : ℝ) : EReal) := by
  unfold k0_pay81 k0_pay77
  pointwise
  rw [← eighth]
  rfl
theorem q1_apply : k0_pay82 (F := Ideal) x (ix2 r y) = x (ix2 r (lane1 y)) * ((1 / 8 : ℝ) : EReal) := by
  unfold k0_pay82 k0_pay77
  pointwise
  rw [← eighth]
  rfl
theorem d0_apply : k0_pay83 (F := Ideal) x (ix2 r y) = x (ix2 r (lane0 y)) := by
  unfold k0_pay83 k0_pay78
  pointwise
  rfl
theorem d1_apply : k0_pay84 (F := Ideal) x (ix2 r y) = x (ix2 r (lane1 y)) := by
  unfold k0_pay84 k0_pay78
  pointwise
  rfl
end

/-- A column of the row totals. -/
theorem win_col (x : Vec Ideal S1x1x512x3 .f32) (b : ℕ) (inb : ∀ a, (![0, 0, 0, b] : Fin 4 → ℕ) a + S1x1x512x1.size a ≤ S1x1x512x3.size a) (r : Fin 512) (k : Fin 3)
    (hk : k.val = b) : window x ![0, 0, 0, b] S1x1x512x1.size inb (ix4 0 0 r 0) = x (ix4 0 0 r k) := by
  refine congrArg x (funext fun e => Fin.ext ?_)
  match e with
  | 0 => rfl
  | 1 => rfl
  | 2 => show 0 + 1 * r.val = r.val; omega
  | 3 => show b + 1 * 0 = k.val; omega

theorem col0_apply (x : Vec Ideal S1x1x512x1 .f32) (r : Fin 512) : k0_pay85 (F := Ideal) x (ix2 r 0) = x (ix4 0 0 r 0) := by
  unfold k0_pay85
  pointwise
theorem col1_apply (x : Vec Ideal S1x1x512x1 .f32) (r : Fin 512) : k0_pay86 (F := Ideal) x (ix2 r 0) = x (ix4 0 0 r 0) := by
  unfold k0_pay86
  pointwise

/-- The whole of the query or cotangent block. -/
theorem win_q (x : Vec Ideal S512x128 .bf16) : window x ![0, 0] S512x128.size inb_S512x128_S512x128_0_0 = x := by
  funext y
  refine congrArg x (funext fun e => Fin.ext ?_)
  match e with
  | 0 => show 0 + 1 * (y 0).val = (y 0).val; omega
  | 1 => show 0 + 1 * (y 1).val = (y 1).val; omega

/-- The greatest of equal numbers. -/
theorem max_const {ι : Type*} [Fintype ι] [Nonempty ι] (f : ι → EReal) (x : EReal) (h : ∀ i, f i = x) : Finset.fold max ⊥ f Finset.univ = x := by
  apply le_antisymm
  · rw [Finset.fold_max_le]
    exact ⟨bot_le, fun i _ => (h i).le⟩
  · rw [Finset.le_fold_max]
    exact Or.inr ⟨Classical.arbitrary ι, Finset.mem_univ _, (h _).ge⟩

/-- The number of visited key blocks that the third column of the row totals holds. -/
theorem word_eq (x7 : Vec Ideal S1x1x512x3 .f32) (n : Fin 4) (h : ∀ r : Fin 512, x7 (ix4 0 0 r 2) = ((2 * n.val : ℝ) : EReal)) : word x7 = full n := by
  have e : k0_pay88 (F := Ideal) (window x7 ![0, 0, 0, 2] S1x1x512x1.size inb_S1x1x512x3_S1x1x512x1_0_0_0_2) = ((2 * n.val : ℝ) : EReal) := by
    unfold k0_pay88
    pointwise
    rw [show Ideal.ofBits .f32 4286578688#32 = ⊥ from by simp [Ideal.ofBits, Ideal.ieee]]
    refine max_const _ _ fun r => ?_
    exact (win_col x7 2 inb_S1x1x512x3_S1x1x512x1_0_0_0_2 r.1 2 rfl).trans (h r.1)
  unfold word
  rw [e]
  show Ideal.fptosi 32 _ = _
  unfold Ideal.fptosi full
  rw [Ideal.toIntClamped_coe, if_pos (by positivity), show ⌊(2 * n.val : ℝ)⌋ = ((2 * n.val : ℕ) : ℤ) from by
    rw [show (2 * n.val : ℝ) = ((2 * n.val : ℕ) : ℝ) by push_cast; ring, Int.floor_natCast]]
  clear e h
  revert n
  decide

end Cert.Sb
-- ==== Proof.SbReference.lean ====
/- Hand-written, untrusted: what the reference of the stick-breaking attention's gradient computes at real arguments. -/
module

public import proofs.«01_k».proof.Proof.Gen.Reference6Ideal.Read
public import proofs.«01_k».proof.Proof.Window4
public import proofs.«01_k».proof.Proof.SbHeads
public import proofs.«01_k».proof.Proof.SbBlock

@[expose] public section

set_option maxRecDepth 16384

noncomputable section

namespace Cert.Sb

open Idealize.ShloMosaic Cert.Finite Finset
open Cert.Reference6Ideal Cert.Reference6Ideal.Read
open Cert.Cum (softplus select_une select_top)

/-- Arrays of real numbers. -/
structure AreReal (x0 x1 x2 x3 : S4x2048x2048.Idx → EReal) (Q K V D : S4x2048x2048.Idx → ℝ) : Prop where
  q : ∀ i, x0 i = (Q i : EReal)
  k : ∀ i, x1 i = (K i : EReal)
  v : ∀ i, x2 i = (V i : EReal)
  d : ∀ i, x3 i = (D i : EReal)

/-- Heads, out of the lanes. -/
theorem split (b : Fin 4) (h : Fin 32) (s : Fin 2048) (x : Fin 64) : idx_main_v0 (idx_main_v1 (ix4 b h s x)) = ix3 b s (laneOf h x) := by
  have := b.isLt; have := h.isLt; have := s.isLt; have := x.isLt
  funext a
  match a with
  | ⟨0, _⟩ => exact Fin.ext (by show (((b.val * 2048 + s.val) * 32 + h.val) * 64 + x.val) / 4194304 = b.val; omega)
  | ⟨1, _⟩ => exact Fin.ext (by show (((b.val * 2048 + s.val) * 32 + h.val) * 64 + x.val) / 2048 % 2048 = s.val; omega)
  | ⟨2, _⟩ => exact Fin.ext (by show (((b.val * 2048 + s.val) * 32 + h.val) * 64 + x.val) % 2048 = h.val * 64 + x.val; omega)

/-- A bit that chooses between a real number and nothing. -/
theorem pick (p : Prop) [Decidable p] (x : ℝ) (y : EReal) (h : y = x) :
    Scalar.select (BitVec.ofBool (decide p)) y (FloatOps.ofBits (F := Ideal) .f32 0x00000000#32) = ((if p then x else 0 : ℝ) : EReal) := by
  rw [h, show FloatOps.ofBits (F := Ideal) .f32 0x00000000#32 = (0 : EReal) from Ideal.ofBits_zero_f32]
  exact select_coe p x

/-- Sums from the end and from the start, of real numbers. -/
theorem sum_from (f : ℕ → ℝ) (j : Fin 2048) : ∑ k : Fin 2048, (if j ≤ k then (f k.val : EReal) else 0) = ((∑ i ∈ Ico j.val 2048, f i : ℝ) : EReal) := by
  have e : ∀ k : Fin 2048, (if j ≤ k then (f k.val : EReal) else 0) = ((if j.val ≤ k.val then f k.val else 0 : ℝ) : EReal) := fun k => by
    rw [coe_ite]; rfl
  rw [sum_congr rfl fun k _ => e k, ← coe_sum, Fin.sum_univ_eq_sum_range (fun k => if j.val ≤ k then f k else 0) 2048, ← sum_filter]
  congr 2
  ext k
  simp only [mem_filter, mem_range, mem_Ico]
  tauto

theorem sum_to (f : ℕ → ℝ) (j : Fin 2048) : ∑ k : Fin 2048, (if k ≤ j then (f k.val : EReal) else 0) = ((∑ i ∈ range (j.val + 1), f i : ℝ) : EReal) := by
  have e : ∀ k : Fin 2048, (if k ≤ j then (f k.val : EReal) else 0) = ((if k.val ≤ j.val then f k.val else 0 : ℝ) : EReal) := fun k => by
    rw [coe_ite]; rfl
  have hj := j.isLt
  rw [sum_congr rfl fun k _ => e k, ← coe_sum, Fin.sum_univ_eq_sum_range (fun k => if k ≤ j.val then f k else 0) 2048, ← sum_filter]
  congr 2
  ext k
  simp only [mem_filter, mem_range]
  omega

variable {x0 x1 x2 x3 : S4x2048x2048.Idx → EReal} {Q K V D : S4x2048x2048.Idx → ℝ} (R : AreReal x0 x1 x2 x3 Q K V D)
variable (b : Fin 4) (h : Fin 32) (s j : Fin 2048) (x : Fin 64)

include R

theorem v1_at : val_main_v1 (F := Ideal) x0 (ix4 b h s x) = (Q (ix3 b s (laneOf h x)) : EReal) := by
  rw [val_main_v1_apply, val_main_v0_apply, split, R.q]
theorem v3_at : val_main_v3 (F := Ideal) x1 (ix4 b h j x) = ((headOf Q K V D b h).k j.val x : ℝ) := by
  rw [val_main_v3_apply, val_main_v2_apply]
  refine (congrArg x1 (split b h j x)).trans ?_
  rw [R.k]; unfold headOf; dsimp only; rw [place_val]
theorem v5_at : val_main_v5 (F := Ideal) x2 (ix4 b h j x) = ((headOf Q K V D b h).v j.val x : ℝ) := by
  rw [val_main_v5_apply, val_main_v4_apply]
  refine (congrArg x2 (split b h j x)).trans ?_
  rw [R.v]; unfold headOf; dsimp only; rw [place_val]
theorem v29_at : val_main_v29 (F := Ideal) x3 (ix4 b h s x) = ((headOf Q K V D b h).d s.val x : ℝ) := by
  rw [val_main_v29_apply, val_main_v28_apply]
  refine (congrArg x3 (split b h s x)).trans ?_
  rw [R.d]; unfold headOf; dsimp only; rw [place_val]

/-- The logits. -/
theorem v8_at : val_main_v8 (F := Ideal) x0 x1 (ix4 b h s j) = ((headOf Q K V D b h).z s.val j.val : ℝ) := by
  have e6 : val_main_v6 (F := Ideal) x0 x1 (ix4 b h s j) = ((∑ x, Q (ix3 b s (laneOf h x)) * (headOf Q K V D b h).k j.val x : ℝ) : EReal) := by
    rw [val_main_v6_apply, coe_sum]
    refine sum_congr rfl fun x _ => ?_
    rw [show lidx_main_v6 (ix4 b h s j) x = ix4 b h s x from by funext a; match a with | ⟨0, _⟩ => rfl | ⟨1, _⟩ => rfl | ⟨2, _⟩ => rfl | ⟨3, _⟩ => rfl,
      show ridx_main_v6 (ix4 b h s j) x = ix4 b h j x from by funext a; match a with | ⟨0, _⟩ => rfl | ⟨1, _⟩ => rfl | ⟨2, _⟩ => rfl | ⟨3, _⟩ => rfl,
      v1_at R, v3_at R, EReal.coe_mul]
  rw [val_main_v8_apply, val_main_v7_apply, val_main_cst_apply, e6]
  show _ * Ideal.ofBits .f32 0x3E000000#32 = _
  rw [eighth, ← EReal.coe_mul]
  unfold Head.z headOf
  dsimp only
  rw [place_val s, sum_mul]
  exact congrArg _ (sum_congr rfl fun x _ => by ring)

omit R in
theorem v15_at : val_main_v15 (F := Ideal) (ix2 s j) = BitVec.ofBool (decide (j.val < s.val)) := by
  rw [val_main_v15_apply, val_main_v13_apply, val_main_v12_apply, val_main_v11_apply, val_main_v14_apply, val_main_v10_apply, val_main_v9_apply]
  exact WordCmp.cmpi_slt_ofNat (by have := j.isLt; show j.val < _; omega) (by have := s.isLt; show s.val < _; omega)

omit R in
theorem mask19 : val_main_v19_1 (F := Ideal) (ix4 b h s j) = BitVec.ofBool (decide (j.val < s.val)) := by
  rw [val_main_v19_1_apply, ← v15_at]
  congr 1
  funext a; match a with | ⟨0, _⟩ => rfl | ⟨1, _⟩ => rfl
omit R in
theorem mask24 : val_main_v24_1 (F := Ideal) (ix4 b h s j) = BitVec.ofBool (decide (j.val < s.val)) := by
  rw [val_main_v24_1_apply, ← v15_at]
  congr 1
  funext a; match a with | ⟨0, _⟩ => rfl | ⟨1, _⟩ => rfl

/-- The logarithm of the chance to stop, and the chance to go on. -/
theorem v16_0_at : val_main_v16_0 (F := Ideal) x0 x1 (ix4 b h s j) = ((headOf Q K V D b h).lb s.val j.val : ℝ) := by
  have e : val_main_v16_0 (F := Ideal) x0 x1 (ix4 b h s j) = -softplus (-(((headOf Q K V D b h).z s.val j.val : ℝ) : EReal)) := by
    simp only [val_main_v16_0_apply, val_main_call0_call0_v21_apply, val_main_call0_call0_v20_apply, val_main_call0_call0_v16_apply, val_main_call0_call0_v14_apply, val_main_call0_call0_v18_apply, val_main_call0_call0_v4_apply, val_main_call0_call0_v6_apply, val_main_call0_call0_v11_apply, val_main_call0_call0_v1_apply, val_main_call0_call0_v10_apply, val_main_call0_call0_v9_apply, val_main_call0_call0_v8_apply, val_main_call0_call0_v7_apply, val_main_call0_call0_v3_apply, val_main_call0_call0_v0_apply, val_main_call0_call0_v2_apply, val_main_call0_call0_v5_apply, val_main_call0_call0_v13_apply, val_main_call0_call0_v15_apply, val_main_call0_call0_v17_apply, val_main_call0_call0_v19_apply, val_main_call0_call0_cst_apply, val_main_call0_call0_cst_0_apply, val_main_call0_call0_cst_1_apply, val_main_call0_call0_cst_2_apply, val_main_call0_call0_cst_3_apply, val_main_call0_v1_0_apply, val_main_call0_v0_apply, select_une, v8_at R]
    have h0 : FloatOps.ofBits (F := Ideal) .f32 0x00000000#32 = (0 : EReal) := Ideal.ofBits_zero_f32
    have hs : ∀ y : EReal, FloatOps.subf (F := Ideal) (φ := .f32) y (FloatOps.ofBits (F := Ideal) .f32 0x00000000#32) = y := fun y => by
      rw [h0]; exact sub_zero y
    simp only [hs]
    rw [h0]
    rfl
  rw [e, ← EReal.coe_neg, softplus_coe, ← EReal.coe_neg, Head.lb_eq_log]

theorem v16_1_at : val_main_v16_1 (F := Ideal) x0 x1 (ix4 b h s j) = ((1 - Real.exp ((headOf Q K V D b h).lb s.val j.val) : ℝ) : EReal) := by
  have e : val_main_v16_1 (F := Ideal) x0 x1 (ix4 b h s j) = Cum.slope (-(((headOf Q K V D b h).z s.val j.val : ℝ) : EReal)) := by
    simp only [val_main_v16_1_apply, val_main_call0_call0_v21_apply, val_main_call0_call0_v20_apply, val_main_call0_call0_v16_apply, val_main_call0_call0_v14_apply, val_main_call0_call0_v18_apply, val_main_call0_call0_v4_apply, val_main_call0_call0_v6_apply, val_main_call0_call0_v11_apply, val_main_call0_call0_v1_apply, val_main_call0_call0_v10_apply, val_main_call0_call0_v9_apply, val_main_call0_call0_v8_apply, val_main_call0_call0_v7_apply, val_main_call0_call0_v3_apply, val_main_call0_call0_v0_apply, val_main_call0_call0_v2_apply, val_main_call0_call0_v5_apply, val_main_call0_call0_v13_apply, val_main_call0_call0_v15_apply, val_main_call0_call0_v17_apply, val_main_call0_call0_v19_apply, val_main_call0_call0_cst_apply, val_main_call0_call0_cst_0_apply, val_main_call0_call0_cst_1_apply, val_main_call0_call0_cst_2_apply, val_main_call0_call0_cst_3_apply, val_main_call0_v1_0_apply, val_main_call0_v0_apply, select_une, select_top, v8_at R]
    have h0 : FloatOps.ofBits (F := Ideal) .f32 0x00000000#32 = (0 : EReal) := Ideal.ofBits_zero_f32
    have hs : ∀ y : EReal, FloatOps.subf (F := Ideal) (φ := .f32) y (FloatOps.ofBits (F := Ideal) .f32 0x00000000#32) = y := fun y => by
      rw [h0]; exact sub_zero y
    simp only [hs]
    rw [h0]
    rfl
  rw [e, ← EReal.coe_neg, slope_coe, Head.stop_go]

/-- The logarithm of the chance to go on, and the chance to stop. -/
theorem v18_0_at : val_main_v18_0 (F := Ideal) x0 x1 (ix4 b h s j) = ((headOf Q K V D b h).lb s.val j.val - (headOf Q K V D b h).z s.val j.val : ℝ) := by
  have e : val_main_v18_0 (F := Ideal) x0 x1 (ix4 b h s j) = -softplus (- -(((headOf Q K V D b h).z s.val j.val : ℝ) : EReal)) := by
    simp only [val_main_v18_0_apply, val_main_call1_call0_v21_apply, val_main_call1_call0_v20_apply, val_main_call1_call0_v16_apply, val_main_call1_call0_v14_apply, val_main_call1_call0_v18_apply, val_main_call1_call0_v4_apply, val_main_call1_call0_v6_apply, val_main_call1_call0_v11_apply, val_main_call1_call0_v1_apply, val_main_call1_call0_v10_apply, val_main_call1_call0_v9_apply, val_main_call1_call0_v8_apply, val_main_call1_call0_v7_apply, val_main_call1_call0_v3_apply, val_main_call1_call0_v0_apply, val_main_call1_call0_v2_apply, val_main_call1_call0_v5_apply, val_main_call1_call0_v13_apply, val_main_call1_call0_v15_apply, val_main_call1_call0_v17_apply, val_main_call1_call0_v19_apply, val_main_call1_call0_cst_apply, val_main_call1_call0_cst_0_apply, val_main_call1_call0_cst_1_apply, val_main_call1_call0_cst_2_apply, val_main_call1_call0_cst_3_apply, val_main_call1_v1_0_apply, val_main_call1_v0_apply, select_une, val_main_v17_apply, v8_at R]
    have h0 : FloatOps.ofBits (F := Ideal) .f32 0x00000000#32 = (0 : EReal) := Ideal.ofBits_zero_f32
    have hs : ∀ y : EReal, FloatOps.subf (F := Ideal) (φ := .f32) y (FloatOps.ofBits (F := Ideal) .f32 0x00000000#32) = y := fun y => by
      rw [h0]; exact sub_zero y
    simp only [hs]
    rw [h0]
    rfl
  rw [e, neg_neg, softplus_coe, ← EReal.coe_neg, Head.lb_sub]

theorem v18_1_at : val_main_v18_1 (F := Ideal) x0 x1 (ix4 b h s j) = ((Real.exp ((headOf Q K V D b h).lb s.val j.val) : ℝ) : EReal) := by
  have e : val_main_v18_1 (F := Ideal) x0 x1 (ix4 b h s j) = Cum.slope (- -(((headOf Q K V D b h).z s.val j.val : ℝ) : EReal)) := by
    simp only [val_main_v18_1_apply, val_main_call1_call0_v21_apply, val_main_call1_call0_v20_apply, val_main_call1_call0_v16_apply, val_main_call1_call0_v14_apply, val_main_call1_call0_v18_apply, val_main_call1_call0_v4_apply, val_main_call1_call0_v6_apply, val_main_call1_call0_v11_apply, val_main_call1_call0_v1_apply, val_main_call1_call0_v10_apply, val_main_call1_call0_v9_apply, val_main_call1_call0_v8_apply, val_main_call1_call0_v7_apply, val_main_call1_call0_v3_apply, val_main_call1_call0_v0_apply, val_main_call1_call0_v2_apply, val_main_call1_call0_v5_apply, val_main_call1_call0_v13_apply, val_main_call1_call0_v15_apply, val_main_call1_call0_v17_apply, val_main_call1_call0_v19_apply, val_main_call1_call0_cst_apply, val_main_call1_call0_cst_0_apply, val_main_call1_call0_cst_1_apply, val_main_call1_call0_cst_2_apply, val_main_call1_call0_cst_3_apply, val_main_call1_v1_0_apply, val_main_call1_v0_apply, select_une, select_top, val_main_v17_apply, v8_at R]
    have h0 : FloatOps.ofBits (F := Ideal) .f32 0x00000000#32 = (0 : EReal) := Ideal.ofBits_zero_f32
    have hs : ∀ y : EReal, FloatOps.subf (F := Ideal) (φ := .f32) y (FloatOps.ofBits (F := Ideal) .f32 0x00000000#32) = y := fun y => by
      rw [h0]; exact sub_zero y
    simp only [hs]
    rw [h0]
    rfl
  rw [e, neg_neg, slope_coe, Head.stop]

/-- The log keeps. -/
theorem v19_at : val_main_v19_0 (F := Ideal) x0 x1 (ix4 b h s j) = ((headOf Q K V D b h).lk s.val j.val : ℝ) := by
  rw [val_main_v19_0_apply, mask19, val_main_call2_v2_apply, val_main_call2_v0_apply, val_main_cst_0_apply]
  exact pick _ _ _ (v18_0_at R b h s j)

/-- Their sums over the later keys. -/
theorem v21_at : val_main_v21 (F := Ideal) x0 x1 (ix4 b h s j) = ((∑ i ∈ Ico (j.val + 1) 2048, (headOf Q K V D b h).lk s.val i : ℝ) : EReal) := by
  have e : val_main_v20 (F := Ideal) x0 x1 (ix4 b h s j) = ((∑ i ∈ Ico j.val 2048, (headOf Q K V D b h).lk s.val i : ℝ) : EReal) := by
    have h0 : val_main_call3_v0 (F := Ideal) (Shape.Idx.first Cert.Reference6Ideal.Gen.facts.h_S_) = (0 : EReal) := by
      rw [val_main_call3_v0_apply, val_main_call3_cst_apply]; exact Ideal.ofBits_zero_f32
    unfold val_main_v20
    refine (Window.reduceWindowAdd_rev4 (M := 2047) _ _ _ h0 b h s j _).trans ?_
    rw [← sum_from]
    exact sum_congr rfl fun k _ => by rw [v19_at R]
  rw [val_main_v21_apply, e, v19_at R]
  show (_ : EReal) - _ = _
  rw [← EReal.coe_sub, sum_eq_sum_Ico_succ_bot j.isLt, add_sub_cancel_left]

theorem v23_at : val_main_v23 (F := Ideal) x0 x1 (ix4 b h s j)
    = ((Real.exp ((headOf Q K V D b h).lb s.val j.val + ∑ i ∈ Ico (j.val + 1) 2048, (headOf Q K V D b h).lk s.val i) : ℝ) : EReal) := by
  have he : ∀ x y : EReal, FloatOps.hostUnary (F := Ideal) (φ := .f32) .exp (FloatOps.addf (F := Ideal) (φ := .f32) x y) = Ideal.exp (x + y) := fun _ _ => rfl
  rw [val_main_v23_apply, val_main_v22_apply, v16_0_at R, v21_at R, he, ← EReal.coe_add, exp_coe]

/-- The weights. -/
theorem v24_at : val_main_v24_0 (F := Ideal) x0 x1 (ix4 b h s j) = ((headOf Q K V D b h).a s.val j.val : ℝ) := by
  rw [val_main_v24_0_apply, mask24, val_main_call4_v2_apply, val_main_call4_v0_apply, val_main_cst_1_apply]
  exact pick _ _ _ (v23_at R b h s j)

/-- The weights times their gradients. -/
theorem v34_at : val_main_v34 (F := Ideal) x0 x1 x2 x3 (ix4 b h s j) = ((headOf Q K V D b h).de s.val j.val : ℝ) := by
  have e : val_main_v32 (F := Ideal) x2 x3 (ix4 b h s j) = ((∑ x, (headOf Q K V D b h).d s.val x * (headOf Q K V D b h).v j.val x : ℝ) : EReal) := by
    rw [val_main_v32_apply, coe_sum]
    refine sum_congr rfl fun x _ => ?_
    rw [show lidx_main_v32 (ix4 b h s j) x = ix4 b h s x from by funext a; match a with | ⟨0, _⟩ => rfl | ⟨1, _⟩ => rfl | ⟨2, _⟩ => rfl | ⟨3, _⟩ => rfl,
      show ridx_main_v32 (ix4 b h s j) x = ix4 b h j x from by funext a; match a with | ⟨0, _⟩ => rfl | ⟨1, _⟩ => rfl | ⟨2, _⟩ => rfl | ⟨3, _⟩ => rfl,
      v29_at R, v5_at R, EReal.coe_mul]
  rw [val_main_v34_apply, val_main_v33_apply, mask24, val_main_call5_v0_apply, val_main_call5_cst_apply, pick _ _ _ e, v23_at R]
  show (_ : EReal) * _ = _
  rw [← EReal.coe_mul]
  unfold Head.de Head.a
  by_cases hm : j.val < s.val
  · rw [if_pos hm, if_pos hm, mul_comm]
  · rw [if_neg hm, if_neg hm, zero_mul, zero_mul]

/-- Their sums over the earlier keys. -/
theorem v37_at : val_main_v37 (F := Ideal) x0 x1 x2 x3 (ix4 b h s j) = ((∑ i ∈ range j.val, (headOf Q K V D b h).de s.val i : ℝ) : EReal) := by
  have e : val_main_v36 (F := Ideal) x0 x1 x2 x3 (ix4 b h s j) = ((∑ i ∈ range (j.val + 1), (headOf Q K V D b h).de s.val i : ℝ) : EReal) := by
    have h0 : val_main_call6_v0 (F := Ideal) (Shape.Idx.first Cert.Reference6Ideal.Gen.facts.h_S_) = (0 : EReal) := by
      rw [val_main_call6_v0_apply, val_main_call6_cst_apply]; exact Ideal.ofBits_zero_f32
    unfold val_main_v36
    refine (Window.reduceWindowAdd_fwd4 (M := 2047) rfl _ _ _ h0 b h s j _).trans ?_
    rw [← sum_to]
    exact sum_congr rfl fun k _ => by rw [v34_at R]
  have he : ∀ x y : EReal, FloatOps.addf (F := Ideal) (φ := .f32) (FloatOps.hostNegf (F := Ideal) (φ := .f32) x) y = -x + y := fun _ _ => rfl
  rw [val_main_v37_apply, val_main_v35_apply, e, v34_at R, he, ← EReal.coe_neg, ← EReal.coe_add, sum_range_succ]
  exact congrArg Real.toEReal (by ring)

/-- The logits' gradients. -/
theorem v42_at : val_main_v42 (F := Ideal) x0 x1 x2 x3 (ix4 b h s j) = ((headOf Q K V D b h).dz s.val j.val : ℝ) := by
  have e : val_main_v38 (F := Ideal) x0 x1 x2 x3 (ix4 b h s j) = ((if j.val < s.val then ∑ i ∈ range j.val, (headOf Q K V D b h).de s.val i else 0 : ℝ) : EReal) := by
    rw [val_main_v38_apply, mask19, val_main_call7_v0_apply, val_main_call7_cst_apply]
    exact pick _ _ _ (v37_at R b h s j)
  rw [val_main_v42_apply, val_main_v40_apply, val_main_v39_apply, val_main_call8_v1_apply, val_main_call8_v0_apply, e, v18_1_at R,
    val_main_v41_apply, val_main_call9_v1_apply, val_main_call9_v0_apply, v34_at R, v16_1_at R]
  show - -(-(_ : EReal) * _) + -(-(_ : EReal) * _) = _
  simp only [← EReal.coe_neg, ← EReal.coe_mul, ← EReal.coe_add]
  congr 1
  unfold Head.dz
  by_cases hm : j.val < s.val
  · rw [if_pos hm, if_pos hm]
    ring
  · rw [if_neg hm, if_neg hm, Head.de_zero _ (by omega)]
    ring

theorem v44_at : val_main_v44 (F := Ideal) x0 x1 x2 x3 (ix4 b h s j) = ((headOf Q K V D b h).dz s.val j.val * (1 / 8) : ℝ) := by
  rw [val_main_v44_apply, val_main_v43_apply, val_main_cst_2_apply, v42_at R]
  show _ * Ideal.ofBits .f32 0x3E000000#32 = _
  rw [eighth, ← EReal.coe_mul]

/-- The gradient of the queries. -/
theorem v46_at : val_main_v46 (F := Ideal) x0 x1 x2 x3 (ix4 b h s x)
    = (((∑ j ∈ range 2048, (headOf Q K V D b h).dz s.val j * (headOf Q K V D b h).k j x) * (1 / 8) : ℝ) : EReal) := by
  rw [val_main_v46_apply, sum_mul, ← Fin.sum_univ_eq_sum_range (fun j => (headOf Q K V D b h).dz s.val j * (headOf Q K V D b h).k j x * (1 / 8)) 2048, coe_sum]
  refine sum_congr rfl fun j _ => ?_
  rw [show lidx_main_v46 (ix4 b h s x) j = ix4 b h s j from by funext a; match a with | ⟨0, _⟩ => rfl | ⟨1, _⟩ => rfl | ⟨2, _⟩ => rfl | ⟨3, _⟩ => rfl,
    show ridx_main_v46 (ix4 b h s x) j = ix4 b h j x from by funext a; match a with | ⟨0, _⟩ => rfl | ⟨1, _⟩ => rfl | ⟨2, _⟩ => rfl | ⟨3, _⟩ => rfl,
    v44_at R, v3_at R, ← EReal.coe_mul]
  congr 1
  ring

/-- The gradient of the keys. -/
theorem v45_at : val_main_v45 (F := Ideal) x0 x1 x2 x3 (ix4 b h j x)
    = ((∑ s ∈ range 2048, (headOf Q K V D b h).q s x * (headOf Q K V D b h).dz s j.val : ℝ) : EReal) := by
  rw [val_main_v45_apply, ← Fin.sum_univ_eq_sum_range (fun s => (headOf Q K V D b h).q s x * (headOf Q K V D b h).dz s j.val) 2048, coe_sum]
  refine sum_congr rfl fun s _ => ?_
  rw [show lidx_main_v45 (ix4 b h j x) s = ix4 b h s j from by funext a; match a with | ⟨0, _⟩ => rfl | ⟨1, _⟩ => rfl | ⟨2, _⟩ => rfl | ⟨3, _⟩ => rfl,
    show ridx_main_v45 (ix4 b h j x) s = ix4 b h s x from by funext a; match a with | ⟨0, _⟩ => rfl | ⟨1, _⟩ => rfl | ⟨2, _⟩ => rfl | ⟨3, _⟩ => rfl,
    v44_at R, v1_at R, ← EReal.coe_mul]
  congr 1
  show _ * Q _ = Q (ix3 b (place s.val) (laneOf h x)) * (1 / 8) * _
  rw [place_val]
  ring

/-- The gradient of the values. -/
theorem v31_at : val_main_v31 (F := Ideal) x0 x1 x3 (ix4 b h j x)
    = ((∑ s ∈ range 2048, (headOf Q K V D b h).d s x * (headOf Q K V D b h).a s j.val : ℝ) : EReal) := by
  rw [val_main_v31_apply, show idx_main_v31 (ix4 b h j x) = ix4 b h x j from by funext a; match a with | ⟨0, _⟩ => rfl | ⟨1, _⟩ => rfl | ⟨2, _⟩ => rfl | ⟨3, _⟩ => rfl,
    val_main_v30_apply, ← Fin.sum_univ_eq_sum_range (fun s => (headOf Q K V D b h).d s x * (headOf Q K V D b h).a s j.val) 2048, coe_sum]
  refine sum_congr rfl fun s _ => ?_
  rw [show lidx_main_v30 (ix4 b h x j) s = ix4 b h s x from by funext a; match a with | ⟨0, _⟩ => rfl | ⟨1, _⟩ => rfl | ⟨2, _⟩ => rfl | ⟨3, _⟩ => rfl,
    show ridx_main_v30 (ix4 b h x j) s = ix4 b h s j from by funext a; match a with | ⟨0, _⟩ => rfl | ⟨1, _⟩ => rfl | ⟨2, _⟩ => rfl | ⟨3, _⟩ => rfl,
    v29_at R, v24_at R, EReal.coe_mul]

omit R in
/-- The lanes of the heads, as one list of rows. -/
theorem merge (n : Fin 8192) (e : Fin 2048) : idx_main_v51 (idx_main_v52 (idx_main_v53 (ix2 n e)))
    = ix4 (⟨n.val / 2048, by omega⟩ : Fin 4) (⟨e.val / 64, by omega⟩ : Fin 32) (⟨n.val % 2048, by omega⟩ : Fin 2048) (⟨e.val % 64, by omega⟩ : Fin 64) := by
  have := n.isLt; have := e.isLt
  have a0 : (n.val * 2048 + e.val) / 4194304 = n.val / 2048 := by omega
  have a1 : (n.val * 2048 + e.val) / 2048 % 2048 = n.val % 2048 := by omega
  have a2 : (n.val * 2048 + e.val) % 2048 = e.val := by omega
  funext a
  match a with
  | ⟨0, _⟩ => exact Fin.ext (by
      show (((n.val * 2048 + e.val) / 4194304 * 2048 + (n.val * 2048 + e.val) / 2048 % 2048) * 2048 + (n.val * 2048 + e.val) % 2048) / 4194304 = n.val / 2048
      rw [a0, a1, a2]; omega)
  | ⟨1, _⟩ => exact Fin.ext (by
      show (((n.val * 2048 + e.val) / 4194304 * 2048 + (n.val * 2048 + e.val) / 2048 % 2048) * 2048 + (n.val * 2048 + e.val) % 2048) / 64 % 32 = e.val / 64
      rw [a0, a1, a2]; omega)
  | ⟨2, _⟩ => exact Fin.ext (by
      show (((n.val * 2048 + e.val) / 4194304 * 2048 + (n.val * 2048 + e.val) / 2048 % 2048) * 2048 + (n.val * 2048 + e.val) % 2048) / 2048 % 2048 = n.val % 2048
      rw [a0, a1, a2]; omega)
  | ⟨3, _⟩ => exact Fin.ext (by
      show (((n.val * 2048 + e.val) / 4194304 * 2048 + (n.val * 2048 + e.val) / 2048 % 2048) * 2048 + (n.val * 2048 + e.val) % 2048) % 64 = e.val % 64
      rw [a0, a1, a2]; omega)

section
variable (n : Fin 8192) (e : Fin 2048)

/-- The three results. -/
theorem v54_at : val_main_v54 (F := Ideal) x0 x1 x2 x3 (ix2 n e)
    = (((∑ j ∈ range 2048, (headOf Q K V D ⟨n.val / 2048, by omega⟩ ⟨e.val / 64, by omega⟩).dz (n.val % 2048) j
        * (headOf Q K V D ⟨n.val / 2048, by omega⟩ ⟨e.val / 64, by omega⟩).k j ⟨e.val % 64, by omega⟩) * (1 / 8) : ℝ) : EReal) := by
  rw [val_main_v54_apply, val_main_v53_apply, val_main_v52_apply, val_main_v51_apply, merge]
  exact v46_at R _ _ _ _
theorem v56_at : val_main_v56 (F := Ideal) x0 x1 x2 x3 (ix2 n e)
    = ((∑ s ∈ range 2048, (headOf Q K V D ⟨n.val / 2048, by omega⟩ ⟨e.val / 64, by omega⟩).q s ⟨e.val % 64, by omega⟩
        * (headOf Q K V D ⟨n.val / 2048, by omega⟩ ⟨e.val / 64, by omega⟩).dz s (n.val % 2048) : ℝ) : EReal) := by
  rw [val_main_v56_apply, val_main_v55_apply, val_main_v50_apply, val_main_v49_apply]
  refine (congrArg (val_main_v45 (F := Ideal) x0 x1 x2 x3) (merge n e)).trans ?_
  exact v45_at R _ _ _ _
theorem v58_at : val_main_v58 (F := Ideal) x0 x1 x3 (ix2 n e)
    = ((∑ s ∈ range 2048, (headOf Q K V D ⟨n.val / 2048, by omega⟩ ⟨e.val / 64, by omega⟩).d s ⟨e.val % 64, by omega⟩
        * (headOf Q K V D ⟨n.val / 2048, by omega⟩ ⟨e.val / 64, by omega⟩).a s (n.val % 2048) : ℝ) : EReal) := by
  rw [val_main_v58_apply, val_main_v57_apply, val_main_v48_apply, val_main_v47_apply]
  refine (congrArg (val_main_v31 (F := Ideal) x0 x1 x3) (merge n e)).trans ?_
  exact v31_at R _ _ _ _
end

end Cert.Sb
-- ==== Proof.SbHost.lean ====
/- Hand-written, untrusted: what the host lines before the stick-breaking attention's gradient hand to it. -/
module

public import proofs.«01_k».proof.Proof.SbFrame
public import proofs.«01_k».proof.Proof.SbReference
public import proofs.«01_k».proof.Proof.Rows

@[expose] public section

set_option maxRecDepth 16384

noncomputable section

namespace Cert.Sb

open Idealize.ShloMosaic Cert.Finite Cert.Rows Idealize.ShloMosaic.TcCoe Cert.Kernel6Ideal Cert.Kernel6Ideal.Gen

variable (m : (ℓ : Loc nD τ sig) → Buf (Elt Ideal) ℓ)

/-- The arguments' contents. -/
abbrev arg0 (c : Dev nD) : S4x2048x2048.Idx → EReal := m ((c : Thread nD τ).loc main_arg0)
abbrev arg1 (c : Dev nD) : S4x2048x2048.Idx → EReal := m ((c : Thread nD τ).loc main_arg1)
abbrev arg2 (c : Dev nD) : S4x2048x2048.Idx → EReal := m ((c : Thread nD τ).loc main_arg2)
abbrev arg3 (c : Dev nD) : S4x2048x2048.Idx → EReal := m ((c : Thread nD τ).loc main_arg3)

/-- The three projections side by side. -/
def wide (c : Dev nD) : S4x2048x6144.Idx → EReal :=
  concatenate S4x2048x6144 2 [⟨S4x2048x2048, arg0 m c⟩, ⟨S4x2048x2048, arg1 m c⟩, ⟨S4x2048x2048, arg2 m c⟩] Gen.facts.concatenates_S4x2048x2048_S4x2048x2048_S4x2048x2048_S4x2048x6144_d2

theorem wide_q (c : Dev nD) (b : Fin 4) (s e : Fin 2048) : wide m c (ix3 b s ⟨e.val, by omega⟩) = arg0 m c (ix3 b s e) :=
  concatenate_apply_piece (t := S4x2048x6144) 2 _ _ _ 0 (by simp) S4x2048x2048 _ rfl rfl 0 rfl (ix3 b s e)
    (fun b hb => by match b with | ⟨0, _⟩ => rfl | ⟨1, _⟩ => rfl | ⟨2, _⟩ => exact absurd rfl hb) (by show 0 + e.val = e.val; omega)
theorem wide_k (c : Dev nD) (b : Fin 4) (s e : Fin 2048) : wide m c (ix3 b s ⟨2048 + e.val, by omega⟩) = arg1 m c (ix3 b s e) :=
  concatenate_apply_piece (t := S4x2048x6144) 2 _ _ _ 1 (by simp) S4x2048x2048 _ rfl rfl 2048 rfl (ix3 b s e)
    (fun b hb => by match b with | ⟨0, _⟩ => rfl | ⟨1, _⟩ => rfl | ⟨2, _⟩ => exact absurd rfl hb) (by show 2048 + e.val = 2048 + e.val; rfl)
theorem wide_v (c : Dev nD) (b : Fin 4) (s e : Fin 2048) : wide m c (ix3 b s ⟨4096 + e.val, by omega⟩) = arg2 m c (ix3 b s e) :=
  concatenate_apply_piece (t := S4x2048x6144) 2 _ _ _ 2 (by simp) S4x2048x2048 _ rfl rfl 4096 rfl (ix3 b s e)
    (fun b hb => by match b with | ⟨0, _⟩ => rfl | ⟨1, _⟩ => rfl | ⟨2, _⟩ => exact absurd rfl hb) (by show 4096 + e.val = 4096 + e.val; rfl)

theorem V_main_v2 (c : Dev nD) (n : Fin 8192) (e : Fin 6144) : V m c main_v2 (ix2 n e) = wide m c (ix3 (seq n) (pos n) e) := by
  have e : V m c main_v2 = shapeCast S8192x6144 (wide m c) Gen.facts.shapeCasts_S4x2048x6144_S8192x6144 := by
    simp only [V, hostOps0, hostOps0_1, hostOps0_2, hostOps0_3, hostOps0_4, hostOps0_5, hostOps0_6, List.flatten_cons, List.flatten_nil, List.append_nil, List.cons_append, List.nil_append]
    after_results <;> rfl
  rw [e]
  exact shapeCast_rows _ _ n _

theorem V_main_v32 (c : Dev nD) (n : Fin 8192) (e : Fin 2048) : V m c main_v32 (ix2 n e) = arg3 m c (ix3 (seq n) (pos n) e) := by
  have e : V m c main_v32 = shapeCast S8192x2048 (arg3 m c) Gen.facts.shapeCasts_S4x2048x2048_S8192x2048 := by
    simp only [V, hostOps0, hostOps0_1, hostOps0_2, hostOps0_3, hostOps0_4, hostOps0_5, hostOps0_6, List.flatten_cons, List.flatten_nil, List.append_nil, List.cons_append, List.nil_append]
    after_results <;> rfl
  rw [e]
  exact shapeCast_rows _ _ n _

/-- The sums of the log keeps over all keys. -/
def totals (c : Dev nD) : S4x32x2048.Idx → EReal :=
  Host.reduceAdd (F := Ideal) (φ := .f32) (Cert.Reference6Ideal.Read.val_main_v19_0 (F := Ideal) (arg0 m c) (arg1 m c)) (constant S_ .f32 0x00000000#32)
    Gen.facts.reducesTo_S4x32x2048x2048_S4x32x2048_d3 Gen.facts.h_S_

/-- The key blocks before each row's. -/
def floors : S2048.Idx → BitVec 32 :=
  let d : S2048.Idx → BitVec 32 := broadcastInDim S2048 ![] Gen.facts.bcast_S_S2048 (constantI S_ 32 512#32)
  let q : S2048.Idx → BitVec 32 := Host.divsi (iotaInDim S2048 32 0) d
  select (andi (cmpi .ne (signi (iotaInDim S2048 32 0)) (broadcastInDim S2048 ![] Gen.facts.bcast_S_S2048 (signi (constantI S_ 32 512#32))))
      (cmpi .ne (Host.remsi (iotaInDim S2048 32 0) d) (broadcastInDim S2048 ![] Gen.facts.bcast_S_S2048 (constantI S_ 32 0#32))))
    (subi q (broadcastInDim S2048 ![] Gen.facts.bcast_S_S2048 (constantI S_ 32 1#32))) q
def visited : S4x16x2048x1.Idx → EReal :=
  broadcastInDim S4x16x2048x1 ![2, 3] Gen.facts.bcast_S2048x1_S4x16x2048x1_2_3 (broadcastInDim S2048x1 ![0] Gen.facts.bcast_S2048_S2048x1_0
    (sitofp (F := Ideal) .f32 (muli floors (broadcastInDim S2048 ![] Gen.facts.bcast_S_S2048 (constantI S_ 32 2#32)))))

theorem V_main_v30 (c : Dev nD) : V m c main_v30 = concatenate S4x16x2048x3 3
    [⟨S4x16x2048x2, transpose S4x16x2048x2 [0, 1, 3, 2] (shapeCast S4x16x2x2048 (totals m c) Gen.facts.shapeCasts_S4x32x2048_S4x16x2x2048) Gen.facts.transposes_S4x16x2x2048_S4x16x2048x2_0_1_3_2⟩,
      ⟨S4x16x2048x1, visited⟩] Gen.facts.concatenates_S4x16x2048x2_S4x16x2048x1_S4x16x2048x3_d3 := by
  simp only [V, hostOps0, hostOps0_1, hostOps0_2, hostOps0_3, hostOps0_4, hostOps0_5, hostOps0_6, List.flatten_cons, List.flatten_nil, List.append_nil, List.cons_append, List.nil_append]
  after_results <;> rfl

end Cert.Sb
-- ==== Proof.SbPoint.lean ====
/- Hand-written, untrusted: a grid point of the stick-breaking attention's gradient adds its query block to the gradients of the
   keys and of the values, and holds the gradient of its queries. -/
module

public import proofs.«01_k».proof.Proof.SbBlock

@[expose] public section

set_option maxRecDepth 16384

noncomputable section

namespace Cert.Sb

open Idealize.ShloMosaic Cert.Finite Idealize.ShloMosaic.TcCoe Cert.Kernel6Ideal Cert.Kernel6Ideal.Gen
open VecWindow (window put)

/-- What the first head carries. -/
def got0 (s : St Ideal) : Got where
  lc r := s.acc.1 (ix2 r 0)
  gc r := s.acc.2.1 (ix2 r 0)
  dq r x := s.acc.2.2.1 (ix2 r x)
  dk K x c := s.dk (ix3 K (lane0 x) c)
  dv K x c := s.dv (ix3 K (lane0 x) c)

/-- What the second head carries. -/
def got1 (s : St Ideal) : Got where
  lc r := s.acc.2.2.2.1 (ix2 r 0)
  gc r := s.acc.2.2.2.2.1 (ix2 r 0)
  dq r x := s.acc.2.2.2.2.2 (ix2 r x)
  dk K x c := s.dk (ix3 K (lane1 x) c)
  dv K x c := s.dv (ix3 K (lane1 x) c)

section
variable (p : Pro Ideal) (x4 x5 : Vec Ideal S2048x128 .bf16) (i : grid0.Coords) (s : St Ideal)

/-- What goes into a block of the first head. -/
def ins0 (kb vb : Vec Ideal S256x64 .bf16) : Ins := ⟨p.ua, p.ub, p.q0, p.d0, p.r0, s.acc.1, s.acc.2.1, kb, vb⟩
/-- What goes into a block of the second head. -/
def ins1 (kb vb : Vec Ideal S256x64 .bf16) : Ins := ⟨p.ua, p.ub, p.q1, p.d1, p.r1, s.acc.2.2.2.1, s.acc.2.2.2.2.1, kb, vb⟩
def qt0 (x : Fin 64) (r : Fin 512) : EReal := p.qt (ix2 (lane0 x) r)
def qt1 (x : Fin 64) (r : Fin 512) : EReal := p.qt (ix2 (lane1 x) r)
def dt0 (x : Fin 64) (r : Fin 512) : EReal := p.dt (ix2 (lane0 x) r)
def dt1 (x : Fin 64) (r : Fin 512) : EReal := p.dt (ix2 (lane1 x) r)

/-! ### A trip of the loop -/

section
variable (k : Fin (k0_t1_loop i (full (i 2))).trips)

theorem half0_step : Step (whole (ins0 p s (key0 x4 i (full (i 2)) k) (key0 x5 i (full (i 2)) k)) ones) (qt0 p) (dt0 p) k.val
    (got0 s) (got0 (half0 p x4 x5 i (full (i 2)) k s)) where
  lc r := pay11_apply (ins0 p s (key0 x4 i (full (i 2)) k) (key0 x5 i (full (i 2)) k)) r
  gc r := pay18_apply (ins0 p s (key0 x4 i (full (i 2)) k) (key0 x5 i (full (i 2)) k)) r
  dq r x := pay19_apply (ins0 p s (key0 x4 i (full (i 2)) k) (key0 x5 i (full (i 2)) k)) s.acc.2.2.1 r x
  dk K x c := put_step _ _ (k0_off2_inb i _ (chk i _) k) _ _ (off2_eq i k) _ _ (pay16_apply (ins0 p s _ _) p.qt _) K x c _ (Nat.zero_add _).symm
  dv K x c := put_step _ _ (k0_off2_inb i _ (chk i _) k) _ _ (off2_eq i k) _ _ (pay17_apply (ins0 p s _ (key0 x5 i (full (i 2)) k)) p.dt _) K x c _ (Nat.zero_add _).symm

theorem half0_other : got1 (half0 p x4 x5 i (full (i 2)) k s) = got1 s := by
  unfold got1 half0
  refine congrArg₂ (Got.mk _ _ _) ?_ ?_ <;> funext K x c <;> exact put_other _ _ _ _ (off2_eq i k) _ _ _ _ (Or.inr (by show 0 + 64 ≤ 64 + x.val; omega))

theorem half1_step : Step (whole (ins1 p s (key1 x4 i (full (i 2)) k) (key1 x5 i (full (i 2)) k)) ones) (qt1 p) (dt1 p) k.val
    (got1 s) (got1 (half1 p x4 x5 i (full (i 2)) k s)) where
  lc r := pay11_apply (ins1 p s (key1 x4 i (full (i 2)) k) (key1 x5 i (full (i 2)) k)) r
  gc r := pay90_apply (ins1 p s (key1 x4 i (full (i 2)) k) (key1 x5 i (full (i 2)) k)) r
  dq r x := pay91_apply (ins1 p s (key1 x4 i (full (i 2)) k) (key1 x5 i (full (i 2)) k)) s.acc.2.2.2.2.2 r x
  dk K x c := put_step _ _ (k0_off4_inb i _ (chk i _) k) _ _ (off4_eq i k) _ _ (pay31_apply (ins1 p s _ _) p.qt _) K x c _ rfl
  dv K x c := put_step _ _ (k0_off4_inb i _ (chk i _) k) _ _ (off4_eq i k) _ _ (pay32_apply (ins1 p s _ (key1 x5 i (full (i 2)) k)) p.dt _) K x c _ rfl

theorem half1_other : got0 (half1 p x4 x5 i (full (i 2)) k s) = got0 s := by
  unfold got0 half1
  refine congrArg₂ (Got.mk _ _ _) ?_ ?_ <;> funext K x c <;> exact put_other _ _ _ _ (off4_eq i k) _ _ _ _ (Or.inl (by show x.val < 64; omega))

end

/-! ### The diagonal -/

/-- A diagonal key block of the first head. -/
def diagKey0 (x : Vec Ideal S2048x128 .bf16) (d : Fin 2) : Vec Ideal S256x64 .bf16 := window x (k0_off9 i (BitVec.ofNat 32 d.val)) S256x64.size (k0_off9_inb i d)
/-- A diagonal key block of the second head. -/
def diagKey1 (x : Vec Ideal S2048x128 .bf16) (d : Fin 2) : Vec Ideal S256x64 .bf16 := window x (k0_off11 i (BitVec.ofNat 32 d.val)) S256x64.size (k0_off11_inb i d)

theorem diag00_step : Step (whole (ins0 p s (diagKey0 i x4 0) (diagKey0 i x5 0)) k0_pay73) (qt0 p) (dt0 p) (2 * (i 2).val) (got0 s) (got0 (diag00 p x4 x5 i s)) where
  lc r := pay101_apply (ins0 p s (diagKey0 i x4 0) (diagKey0 i x5 0)) k0_pay73 r
  gc r := pay107_apply (ins0 p s (diagKey0 i x4 0) (diagKey0 i x5 0)) k0_pay73 r
  dq r x := pay108_apply (ins0 p s (diagKey0 i x4 0) (diagKey0 i x5 0)) s.acc.2.2.1 k0_pay73 r x
  dk K x c := put_step _ _ (k0_off10_inb i 0) _ _ (off10_eq i 0) _ _ (pay105_apply (ins0 p s _ _) p.qt _ k0_pay73) K x c _ (Nat.zero_add _).symm
  dv K x c := put_step _ _ (k0_off10_inb i 0) _ _ (off10_eq i 0) _ _ (pay106_apply (ins0 p s _ (diagKey0 i x5 0)) p.dt _ k0_pay73) K x c _ (Nat.zero_add _).symm

theorem diag00_other : got1 (diag00 p x4 x5 i s) = got1 s := by
  unfold got1 diag00
  refine congrArg₂ (Got.mk _ _ _) ?_ ?_ <;> funext K x c <;> exact put_other _ _ _ _ (off10_eq i 0) _ _ _ _ (Or.inr (by show 0 + 64 ≤ 64 + x.val; omega))

theorem diag01_step : Step (whole (ins1 p s (diagKey1 i x4 0) (diagKey1 i x5 0)) k0_pay73) (qt1 p) (dt1 p) (2 * (i 2).val) (got1 s) (got1 (diag01 p x4 x5 i s)) where
  lc r := pay101_apply (ins1 p s (diagKey1 i x4 0) (diagKey1 i x5 0)) k0_pay73 r
  gc r := pay121_apply (ins1 p s (diagKey1 i x4 0) (diagKey1 i x5 0)) k0_pay73 r
  dq r x := pay122_apply (ins1 p s (diagKey1 i x4 0) (diagKey1 i x5 0)) s.acc.2.2.2.2.2 k0_pay73 r x
  dk K x c := put_step _ _ (k0_off12_inb i 0) _ _ (off12_eq i 0) _ _ (pay118_apply (ins1 p s _ _) p.qt _ k0_pay73) K x c _ rfl
  dv K x c := put_step _ _ (k0_off12_inb i 0) _ _ (off12_eq i 0) _ _ (pay120_apply (ins1 p s _ (diagKey1 i x5 0)) p.dt _ k0_pay73) K x c _ rfl

theorem diag01_other : got0 (diag01 p x4 x5 i s) = got0 s := by
  unfold got0 diag01
  refine congrArg₂ (Got.mk _ _ _) ?_ ?_ <;> funext K x c <;> exact put_other _ _ _ _ (off12_eq i 0) _ _ _ _ (Or.inl (by show x.val < 64; omega))

theorem diag10_step : StepLow (lower (ins0 p s (diagKey0 i x4 1) (diagKey0 i x5 1)) k0_pay74) (qt0 p) (dt0 p) (2 * (i 2).val + 1) (got0 s) (got0 (diag10 p x4 x5 i s)) where
  upper r x := pay135_up (ins0 p s (diagKey0 i x4 1) (diagKey0 i x5 1)) s.acc.2.2.1 k0_pay74 r x
  rest r x := pay135_low (ins0 p s (diagKey0 i x4 1) (diagKey0 i x5 1)) s.acc.2.2.1 k0_pay74 r x
  dk K x c := put_step _ _ (k0_off10_inb i 1) _ _ (off10_eq i 1) _ _ (pay133_apply (ins0 p s _ _) p.qt _ k0_pay74) K x c _ (Nat.zero_add _).symm
  dv K x c := put_step _ _ (k0_off10_inb i 1) _ _ (off10_eq i 1) _ _ (pay134_apply (ins0 p s _ (diagKey0 i x5 1)) p.dt _ k0_pay74) K x c _ (Nat.zero_add _).symm

theorem diag10_other : got1 (diag10 p x4 x5 i s) = got1 s := by
  unfold got1 diag10
  refine congrArg₂ (Got.mk _ _ _) ?_ ?_ <;> funext K x c <;> exact put_other _ _ _ _ (off10_eq i 1) _ _ _ _ (Or.inr (by show 0 + 64 ≤ 64 + x.val; omega))

theorem diag11_step : StepLow (lower (ins1 p s (diagKey1 i x4 1) (diagKey1 i x5 1)) k0_pay74) (qt1 p) (dt1 p) (2 * (i 2).val + 1) (got1 s) (got1 (diag11 p x4 x5 i s)) where
  upper r x := pay135_up (ins1 p s (diagKey1 i x4 1) (diagKey1 i x5 1)) s.acc.2.2.2.2.2 k0_pay74 r x
  rest r x := pay135_low (ins1 p s (diagKey1 i x4 1) (diagKey1 i x5 1)) s.acc.2.2.2.2.2 k0_pay74 r x
  dk K x c := put_step _ _ (k0_off12_inb i 1) _ _ (off12_eq i 1) _ _ (pay146_apply (ins1 p s _ _) p.qt _ k0_pay74) K x c _ rfl
  dv K x c := put_step _ _ (k0_off12_inb i 1) _ _ (off12_eq i 1) _ _ (pay147_apply (ins1 p s _ (diagKey1 i x5 1)) p.dt _ k0_pay74) K x c _ rfl

theorem diag11_other : got0 (diag11 p x4 x5 i s) = got0 s := by
  unfold got0 diag11
  refine congrArg₂ (Got.mk _ _ _) ?_ ?_ <;> funext K x c <;> exact put_other _ _ _ _ (off12_eq i 1) _ _ _ _ (Or.inl (by show x.val < 64; omega))

end

/-! ### What a query block makes -/

/-- The windows hold the numbers of a head for query block `n`. -/
structure Seen (H : Head) (lane : Fin 64 → Fin 128) (col : Fin 3) (n : ℕ) (x3 : Vec Ideal S512x128 .bf16) (x4 x5 : Vec Ideal S2048x128 .bf16)
    (x6 : Vec Ideal S512x128 .bf16) (x7 : Vec Ideal S1x1x512x3 .f32) : Prop where
  q : ∀ r x, x3 (ix2 r (lane x)) * ((1 / 8 : ℝ) : EReal) = (H.q (512 * n + r.val) x : ℝ)
  d : ∀ r x, x6 (ix2 r (lane x)) = (H.d (512 * n + r.val) x : ℝ)
  k : ∀ (j : Fin 2048) x, x4 (ix2 j (lane x)) = (H.k j.val x : ℝ)
  v : ∀ (j : Fin 2048) x, x5 (ix2 j (lane x)) = (H.v j.val x : ℝ)
  rt : ∀ r, x7 (ix4 0 0 r col) = (∑ j ∈ Finset.range 2048, H.lk (512 * n + r.val) j : ℝ)

/-- What goes into a block is that of key block `J`. -/
structure Fed (D : Ins) (H : Head) (n J : ℕ) : Prop where
  small : J < 8
  q : ∀ r x, D.q (ix2 r x) = (H.q (512 * n + r.val) x : ℝ)
  d : ∀ r x, D.d (ix2 r x) = (H.d (512 * n + r.val) x : ℝ)
  k : ∀ (c : Fin 256) x, D.kb (ix2 c x) = (H.k (256 * J + c.val) x : ℝ)
  v : ∀ (c : Fin 256) x, D.vb (ix2 c x) = (H.v (256 * J + c.val) x : ℝ)
  ua : D.ua = k0_pay75
  ub : D.ub = k0_pay76
  rt : ∀ r, D.rt (ix2 r 0) = (∑ j ∈ Finset.range 2048, H.lk (512 * n + r.val) j : ℝ)

theorem Fed.whole {D : Ins} {H : Head} {n J : ℕ} {g : Got} (h : Fed D H n J) (hu : Upto H n J g) (m : IVec S512x256 1)
    (hlc : ∀ r, D.lc (ix2 r 0) = g.lc r) (hgc : ∀ r, D.gc (ix2 r 0) = g.gc r)
    (hm : ∀ (r : Fin 512) (c : Fin 256), m (ix2 r c) = BitVec.ofBool (decide (256 * J + c.val < 512 * n + r.val))) :
    Holds (Cert.Sb.whole D m) H (fun r => 512 * n + r.val) J where
  small := h.small
  on := hm
  q := h.q
  d := h.d
  k := h.k
  v := h.v
  ua x c := (congrFun h.ua _).trans (after_apply x c)
  ub x c := (congrFun h.ub _).trans (before_apply x c)
  rt := h.rt
  lc r := (hlc r).trans (hu.lc r)
  gc r := (hgc r).trans (hu.gc r)

theorem Fed.lower {D : Ins} {H : Head} {n J : ℕ} {g : Got} (h : Fed D H n J) (hu : Upto H n J g) (m : IVec S512x256 1)
    (hlc : ∀ r, D.lc (ix2 r 0) = g.lc r) (hgc : ∀ r, D.gc (ix2 r 0) = g.gc r)
    (hm : ∀ (r : Fin 256) (c : Fin 256), m (ix2 (low r) c) = BitVec.ofBool (decide (256 * J + c.val < 512 * n + 256 + r.val))) :
    Holds (Cert.Sb.lower D m) H (fun r => 512 * n + 256 + r.val) J where
  small := h.small
  on := hm
  q r x := by rw [Nat.add_assoc]; exact h.q (low r) x
  d r x := by rw [Nat.add_assoc]; exact h.d (low r) x
  k := h.k
  v := h.v
  ua x c := (congrFun h.ua _).trans (after_apply x c)
  ub x c := (congrFun h.ub _).trans (before_apply x c)
  rt r := by rw [Nat.add_assoc]; exact h.rt (low r)
  lc r := by rw [Nat.add_assoc]; exact (hlc (low r)).trans (hu.lc (low r))
  gc r := by rw [Nat.add_assoc]; exact (hgc (low r)).trans (hu.gc (low r))

section
variable (x3 : Vec Ideal S512x128 .bf16) (x4 x5 : Vec Ideal S2048x128 .bf16) (x6 : Vec Ideal S512x128 .bf16) (x7 : Vec Ideal S1x1x512x3 .f32) (i : grid0.Coords)
variable {H0 H1 : Head} (h0 : Seen H0 lane0 0 (i 2).val x3 x4 x5 x6 x7) (h1 : Seen H1 lane1 1 (i 2).val x3 x4 x5 x6 x7) (s : St Ideal)

include h0 in
theorem fed0 (J : ℕ) (hJ : J < 8) (off : Fin 2 → ℕ) (inb : ∀ a, off a + S256x64.size a ≤ S2048x128.size a) (h : off = ![256 * J, 0]) :
    Fed (ins0 (pro x3 x6 x7) s (window x4 off S256x64.size inb) (window x5 off S256x64.size inb)) H0 (i 2).val J where
  small := hJ
  q r x := (q0_apply _ r x).trans (by rw [win_q]; exact h0.q r x)
  d r x := (d0_apply (window x6 ![0, 0] S512x128.size inb_S512x128_S512x128_0_0) r x).trans (by rw [win_q]; exact h0.d r x)
  k c x := (win_key x4 off inb _ _ h c x ⟨256 * J + c.val, by omega⟩ (lane0 x) rfl (Nat.zero_add _).symm).trans (h0.k _ x)
  v c x := (win_key x5 off inb _ _ h c x ⟨256 * J + c.val, by omega⟩ (lane0 x) rfl (Nat.zero_add _).symm).trans (h0.v _ x)
  ua := rfl
  ub := rfl
  rt r := (col0_apply _ r).trans ((win_col x7 0 _ r 0 rfl).trans (h0.rt r))

include h1 in
theorem fed1 (J : ℕ) (hJ : J < 8) (off : Fin 2 → ℕ) (inb : ∀ a, off a + S256x64.size a ≤ S2048x128.size a) (h : off = ![256 * J, 64]) :
    Fed (ins1 (pro x3 x6 x7) s (window x4 off S256x64.size inb) (window x5 off S256x64.size inb)) H1 (i 2).val J where
  small := hJ
  q r x := (q1_apply _ r x).trans (by rw [win_q]; exact h1.q r x)
  d r x := (d1_apply (window x6 ![0, 0] S512x128.size inb_S512x128_S512x128_0_0) r x).trans (by rw [win_q]; exact h1.d r x)
  k c x := (win_key x4 off inb _ _ h c x ⟨256 * J + c.val, by omega⟩ (lane1 x) rfl rfl).trans (h1.k _ x)
  v c x := (win_key x5 off inb _ _ h c x ⟨256 * J + c.val, by omega⟩ (lane1 x) rfl rfl).trans (h1.v _ x)
  ua := rfl
  ub := rfl
  rt r := (col1_apply _ r).trans ((win_col x7 1 _ r 1 rfl).trans (h1.rt r))

include h0 in
theorem qt0_eq (x : Fin 64) (r : Fin 512) : qt0 (pro x3 x6 x7) x r = (H0.q (512 * (i 2).val + r.val) x : ℝ) :=
  (qt_apply _ r (lane0 x)).trans (by rw [win_q]; exact h0.q r x)
include h1 in
theorem qt1_eq (x : Fin 64) (r : Fin 512) : qt1 (pro x3 x6 x7) x r = (H1.q (512 * (i 2).val + r.val) x : ℝ) :=
  (qt_apply _ r (lane1 x)).trans (by rw [win_q]; exact h1.q r x)
include h0 in
theorem dt0_eq (x : Fin 64) (r : Fin 512) : dt0 (pro x3 x6 x7) x r = (H0.d (512 * (i 2).val + r.val) x : ℝ) :=
  (dt_apply _ r (lane0 x)).trans (by rw [win_q]; exact h0.d r x)
include h1 in
theorem dt1_eq (x : Fin 64) (r : Fin 512) : dt1 (pro x3 x6 x7) x r = (H1.d (512 * (i 2).val + r.val) x : ℝ) :=
  (dt_apply _ r (lane1 x)).trans (by rw [win_q]; exact h1.d r x)

/-- A key block below the diagonal is read whole. -/
theorem mask_ones (n J : ℕ) (h : J < 2 * n) (r : Fin 512) (c : Fin 256) : ones (ix2 r c) = BitVec.ofBool (decide (256 * J + c.val < 512 * n + r.val)) := by
  rw [decide_eq_true (by omega)]
  rfl
theorem mask_diag (n : ℕ) (r : Fin 512) (c : Fin 256) : k0_pay73 (ix2 r c) = BitVec.ofBool (decide (256 * (2 * n) + c.val < 512 * n + r.val)) := by
  rw [mask0]
  exact congrArg BitVec.ofBool (decide_eq_decide.mpr (by omega))
theorem mask_low (n : ℕ) (r : Fin 256) (c : Fin 256) : k0_pay74 (ix2 (low r) c) = BitVec.ofBool (decide (256 * (2 * n + 1) + c.val < 512 * n + 256 + r.val)) := by
  rw [mask1]
  exact congrArg BitVec.ofBool (decide_eq_decide.mpr (by show c.val + 256 < 256 + r.val ↔ _; omega))

variable {s}

include h0 h1 in
/-- A trip of the loop is a key block, of both heads. -/
theorem trip_upto (k : Fin (k0_t1_loop i (full (i 2))).trips) (g0 : Upto H0 (i 2).val k.val (got0 s)) (g1 : Upto H1 (i 2).val k.val (got1 s)) :
    Upto H0 (i 2).val (k.val + 1) (got0 (trip (pro x3 x6 x7) x4 x5 i (full (i 2)) k s))
      ∧ Upto H1 (i 2).val (k.val + 1) (got1 (trip (pro x3 x6 x7) x4 x5 i (full (i 2)) k s)) := by
  have hk : k.val < 2 * (i 2).val := lt_of_lt_of_eq k.isLt (trips_eq i)
  have hn : (i 2).val < 4 := (i 2).isLt
  unfold trip
  constructor
  · rw [half1_other]
    exact g0.step ((fed0 x3 x4 x5 x6 x7 i h0 s k.val (by omega) _ _ (off1_eq i k)).whole g0 ones (fun _ => rfl) (fun _ => rfl) (mask_ones _ _ hk))
      (qt0_eq x3 x4 x5 x6 x7 i h0) (dt0_eq x3 x4 x5 x6 x7 i h0) (half0_step _ x4 x5 i s k)
  · rw [← half0_other (pro x3 x6 x7) x4 x5 i s k] at g1
    exact g1.step ((fed1 x3 x4 x5 x6 x7 i h1 _ k.val (by omega) _ _ (off3_eq i k)).whole g1 ones (fun _ => rfl) (fun _ => rfl) (mask_ones _ _ hk))
      (qt1_eq x3 x4 x5 x6 x7 i h1) (dt1_eq x3 x4 x5 x6 x7 i h1) (half1_step _ x4 x5 i _ k)

include h0 h1 in
/-- The loop does the key blocks below the diagonal. -/
theorem before_upto (g0 : Upto H0 (i 2).val 0 (got0 s)) (g1 : Upto H1 (i 2).val 0 (got1 s)) (n : ℕ) (hn : n ≤ (k0_t1_loop i (full (i 2))).trips) :
    Upto H0 (i 2).val n (got0 (before (pro x3 x6 x7) x4 x5 i (full (i 2)) s n)) ∧ Upto H1 (i 2).val n (got1 (before (pro x3 x6 x7) x4 x5 i (full (i 2)) s n)) := by
  induction n with
  | zero => exact ⟨g0, g1⟩
  | succ n ih =>
    obtain ⟨a, b⟩ := ih (by omega)
    rw [before, dif_pos (by omega)]
    exact trip_upto x3 x4 x5 x6 x7 i h0 h1 ⟨n, by omega⟩ a b

include h0 h1 in
/-- The diagonal ends the query block. -/
theorem diag_fin (g0 : Upto H0 (i 2).val (2 * (i 2).val) (got0 s)) (g1 : Upto H1 (i 2).val (2 * (i 2).val) (got1 s)) (s' : St Ideal)
    (e : s' = diag11 (pro x3 x6 x7) x4 x5 i (diag10 (pro x3 x6 x7) x4 x5 i (diag01 (pro x3 x6 x7) x4 x5 i (diag00 (pro x3 x6 x7) x4 x5 i s)))) :
    Fin' H0 (i 2).val (got0 s') ∧ Fin' H1 (i 2).val (got1 s') := by
  subst e
  have hn : (i 2).val < 4 := (i 2).isLt
  have a0 := g0.step ((fed0 x3 x4 x5 x6 x7 i h0 s (2 * (i 2).val) (by omega) _ _ (off9_eq i 0)).whole g0 k0_pay73 (fun _ => rfl) (fun _ => rfl) (mask_diag _))
    (qt0_eq x3 x4 x5 x6 x7 i h0) (dt0_eq x3 x4 x5 x6 x7 i h0) (diag00_step _ x4 x5 i s)
  rw [← diag01_other (pro x3 x6 x7) x4 x5 i] at a0
  rw [← diag00_other (pro x3 x6 x7) x4 x5 i] at g1
  have a1 := g1.step ((fed1 x3 x4 x5 x6 x7 i h1 _ (2 * (i 2).val) (by omega) _ _ (off11_eq i 0)).whole g1 k0_pay73 (fun _ => rfl) (fun _ => rfl) (mask_diag _))
    (qt1_eq x3 x4 x5 x6 x7 i h1) (dt1_eq x3 x4 x5 x6 x7 i h1) (diag01_step _ x4 x5 i _)
  constructor
  · rw [diag11_other]
    exact Upto.last hn a0 ((fed0 x3 x4 x5 x6 x7 i h0 _ (2 * (i 2).val + 1) (by omega) _ _ (off9_eq i 1)).lower a0 k0_pay74 (fun _ => rfl) (fun _ => rfl) (mask_low _))
      (qt0_eq x3 x4 x5 x6 x7 i h0) (dt0_eq x3 x4 x5 x6 x7 i h0) (diag10_step _ x4 x5 i _)
  · rw [← diag10_other (pro x3 x6 x7) x4 x5 i] at a1
    exact Upto.last hn a1 ((fed1 x3 x4 x5 x6 x7 i h1 _ (2 * (i 2).val + 1) (by omega) _ _ (off11_eq i 1)).lower a1 k0_pay74 (fun _ => rfl) (fun _ => rfl) (mask_low _))
      (qt1_eq x3 x4 x5 x6 x7 i h1) (dt1_eq x3 x4 x5 x6 x7 i h1) (diag11_step _ x4 x5 i _)

theorem zero1 (j : S512x1.Idx) : (k0_pay87 (F := Ideal) j : EReal) = ((0 : ℝ) : EReal) := Ideal.ofBits_zero_f32
theorem zero64 (j : S512x64.Idx) : (k0_pay89 (F := Ideal) j : EReal) = ((0 : ℝ) : EReal) := Ideal.ofBits_zero_f32

include h0 h1 in
/-- A query block, of both heads. -/
theorem done_fin (hw : word x7 = full (i 2)) (dk dv : Vec Ideal S8x128x256 .f32)
    (k0 : ∀ K x c, clear i (k0_pay71 (F := Ideal)) dk (ix3 K (lane0 x) c) = (gath H0.q H0.dz (i 2).val K x c : ℝ))
    (v0 : ∀ K x c, clear i (k0_pay72 (F := Ideal)) dv (ix3 K (lane0 x) c) = (gath H0.d H0.a (i 2).val K x c : ℝ))
    (k1 : ∀ K x c, clear i (k0_pay71 (F := Ideal)) dk (ix3 K (lane1 x) c) = (gath H1.q H1.dz (i 2).val K x c : ℝ))
    (v1 : ∀ K x c, clear i (k0_pay72 (F := Ideal)) dv (ix3 K (lane1 x) c) = (gath H1.d H1.a (i 2).val K x c : ℝ)) :
    Fin' H0 (i 2).val (got0 (done x3 x4 x5 x6 x7 i dk dv)) ∧ Fin' H1 (i 2).val (got1 (done x3 x4 x5 x6 x7 i dk dv)) := by
  have hb := before_upto x3 x4 x5 x6 x7 i h0 h1 (s := { acc := acc0, dk := clear i (k0_pay71 (F := Ideal)) dk, dv := clear i (k0_pay72 (F := Ideal)) dv })
    ⟨fun r => zero1 (ix2 r 0), fun r => zero1 (ix2 r 0), fun r x => zero64 (ix2 r x), fun K x c => by rw [if_neg (Nat.not_lt_zero _)]; exact k0 K x c, fun K x c => by rw [if_neg (Nat.not_lt_zero _)]; exact v0 K x c⟩ ⟨fun r => zero1 (ix2 r 0), fun r => zero1 (ix2 r 0), fun r x => zero64 (ix2 r x), fun K x c => by rw [if_neg (Nat.not_lt_zero _)]; exact k1 K x c, fun K x c => by rw [if_neg (Nat.not_lt_zero _)]; exact v1 K x c⟩
    _ le_rfl
  generalize hS : ({ acc := acc0, dk := clear i (k0_pay71 (F := Ideal)) dk, dv := clear i (k0_pay72 (F := Ideal)) dv } : St Ideal) = S at hb
  generalize hB : before (pro x3 x6 x7) x4 x5 i (full (i 2)) S (k0_t1_loop i (full (i 2))).trips = s at hb
  rw [trips_eq] at hb
  refine diag_fin x3 x4 x5 x6 x7 i h0 h1 hb.1 hb.2 _ ?_
  subst hB hS
  unfold done looped
  rw [hw]

end

end Cert.Sb
-- ==== Proof.SbCarry.lean ====
/- Hand-written, untrusted: what the stick-breaking attention's gradient has gathered at each grid point. -/
module

public import proofs.«01_k».proof.Proof.SbPoint
public import proofs.«01_k».proof.Proof.SbFrame

@[expose] public section

set_option maxRecDepth 16384

noncomputable section

namespace Cert.Sb

open Idealize.ShloMosaic Cert.Finite Idealize.ShloMosaic.TcCoe Cert.Kernel6Ideal Cert.Kernel6Ideal.Gen
open VecWindow (window put)

theorem later_of : ∀ t : Fin grid0.N, t.val % 4 ≠ 0 →
    ¬ Scalar.cmpi .ne (Scalar.extui (Scalar.cmpi .eq (BitVec.ofNat 32 ((grid0.coords t) 2).val) 0#32) : BitVec 32) 0#32 = 1#1 := by
  decide +kernel

/-- Later query blocks find what was gathered. -/
theorem clear_later (t : Fin grid0.N) (h : t.val % 4 ≠ 0) (w x : Vec Ideal S8x128x256 .f32) : clear (grid0.coords t) w x = x :=
  if_neg (later_of t h)

theorem zero71 (j : S8x128x256.Idx) : (k0_pay71 (F := Ideal) j : EReal) = ((0 : ℝ) : EReal) := Ideal.ofBits_zero_f32
theorem zero72 (j : S8x128x256.Idx) : (k0_pay72 (F := Ideal) j : EReal) = ((0 : ℝ) : EReal) := Ideal.ofBits_zero_f32

/-- The first query block finds nothing. -/
theorem clear_zero (t : Fin grid0.N) (h : t.val % 4 = 0) (w x : Vec Ideal S8x128x256 .f32) (hw : ∀ j, w j = ((0 : ℝ) : EReal)) (y : S8x128x256.Idx) :
    clear (grid0.coords t) w x y = ((0 : ℝ) : EReal) := by
  unfold clear
  rw [if_pos (first_of t h)]
  have h0 : (y 0).val < 8 := (y 0).isLt
  have h1 : (y 1).val < 128 := (y 1).isLt
  have h2 : (y 2).val < 256 := (y 2).isLt
  unfold put
  rw [dif_pos, hw]
  intro a
  fin_cases a <;> simp [S8x128x256] <;> omega

theorem gath_zero (f : ℕ → Fin 64 → ℝ) (g : ℕ → ℕ → ℝ) (J : Fin 8) (x : Fin 64) (c : Fin 256) : gath f g 0 J x c = 0 := rfl

variable (m : (ℓ : Loc nD τ sig) → Buf (Elt Ideal) ℓ) (c : Dev nD)

/-- The windows at every point hold the numbers of two heads, the same at the four query blocks. -/
structure Sees (H0 H1 : ℕ → Head) : Prop where
  head0 : ∀ t : Fin cfg0.N, Seen (H0 (t.val / 4)) lane0 0 (t.val % 4) (iblk m c 0 t) (iblk m c 1 t) (iblk m c 2 t) (iblk m c 3 t) (iblk m c 4 t)
  head1 : ∀ t : Fin cfg0.N, Seen (H1 (t.val / 4)) lane1 1 (t.val % 4) (iblk m c 0 t) (iblk m c 1 t) (iblk m c 2 t) (iblk m c 3 t) (iblk m c 4 t)
  count : ∀ (t : Fin cfg0.N) (r : Fin 512), iblk m c 4 t (ix4 0 0 r 2) = ((2 * (t.val % 4 : ℕ) : ℝ) : EReal)

variable {m c} {H0 H1 : ℕ → Head} (hs : Sees m c H0 H1)

include hs in
theorem doneAt_fin (t : Fin cfg0.N) (dk dv : Vec Ideal S8x128x256 .f32)
    (k0 : ∀ K x c, clear (grid0.coords t) (k0_pay71 (F := Ideal)) dk (ix3 K (lane0 x) c) = (gath (H0 (t.val / 4)).q (H0 (t.val / 4)).dz (t.val % 4) K x c : ℝ))
    (v0 : ∀ K x c, clear (grid0.coords t) (k0_pay72 (F := Ideal)) dv (ix3 K (lane0 x) c) = (gath (H0 (t.val / 4)).d (H0 (t.val / 4)).a (t.val % 4) K x c : ℝ))
    (k1 : ∀ K x c, clear (grid0.coords t) (k0_pay71 (F := Ideal)) dk (ix3 K (lane1 x) c) = (gath (H1 (t.val / 4)).q (H1 (t.val / 4)).dz (t.val % 4) K x c : ℝ))
    (v1 : ∀ K x c, clear (grid0.coords t) (k0_pay72 (F := Ideal)) dv (ix3 K (lane1 x) c) = (gath (H1 (t.val / 4)).d (H1 (t.val / 4)).a (t.val % 4) K x c : ℝ)) :
    Fin' (H0 (t.val / 4)) (t.val % 4) (got0 (doneAt m c t dk dv)) ∧ Fin' (H1 (t.val / 4)) (t.val % 4) (got1 (doneAt m c t dk dv)) := by
  have a0 := hs.head0 t
  have a1 := hs.head1 t
  have aw := hs.count t
  unfold doneAt
  have e := coord2 t
  rw [← e] at k0 v0 k1 v1 a0 a1 aw ⊢
  exact done_fin _ _ _ _ _ _ a0 a1 (word_eq _ _ aw) dk dv k0 v0 k1 v1

include hs in
/-- What a grid point has gathered. -/
theorem made_fin (n : ℕ) : ∀ t : Fin cfg0.N, t.val = n →
    Fin' (H0 (t.val / 4)) (t.val % 4) (got0 (made m c t)) ∧ Fin' (H1 (t.val / 4)) (t.val % 4) (got1 (made m c t)) := by
  induction n with
  | zero =>
    intro t ht
    have h : t.val % 4 = 0 := by omega
    refine doneAt_fin hs t _ _ ?_ ?_ ?_ ?_ <;> intro K x c <;> rw [h, gath_zero]
    · exact clear_zero t h _ _ zero71 _
    · exact clear_zero t h _ _ zero72 _
    · exact clear_zero t h _ _ zero71 _
    · exact clear_zero t h _ _ zero72 _
  | succ n ih =>
    intro t ht
    by_cases h : t.val % 4 = 0
    · refine doneAt_fin hs t _ _ ?_ ?_ ?_ ?_ <;> intro K x c <;> rw [h, gath_zero]
      · exact clear_zero t h _ _ zero71 _
      · exact clear_zero t h _ _ zero72 _
      · exact clear_zero t h _ _ zero71 _
      · exact clear_zero t h _ _ zero72 _
    · have hlt : n < cfg0.N := by have := t.isLt; omega
      obtain ⟨i0, i1⟩ := ih ⟨n, hlt⟩ rfl
      have hd : n / 4 = t.val / 4 := by omega
      have hm : n % 4 + 1 = t.val % 4 := by omega
      have e := carried_succ m c ⟨n, hlt⟩
      rw [show (⟨n, hlt⟩ : Fin cfg0.N).val + 1 = t.val from by show n + 1 = _; omega] at e
      unfold made
      dsimp only at i0 i1
      rw [hd] at i0 i1
      rw [e]
      refine doneAt_fin hs t _ _ ?_ ?_ ?_ ?_ <;> intro K x c <;> rw [clear_later t h, ← hm]
      · exact i0.dk K x c
      · exact i0.dv K x c
      · exact i1.dk K x c
      · exact i1.dv K x c

end Cert.Sb
-- ==== Proof.SbWindows.lean ====
/- Hand-written, untrusted: the numbers that each grid point of the stick-breaking attention's gradient sees. -/
module

public import proofs.«01_k».proof.Proof.SbHost
public import proofs.«01_k».proof.Proof.SbCarry

@[expose] public section

set_option maxRecDepth 16384

noncomputable section

namespace Cert.Sb

open Idealize.ShloMosaic Cert.Finite Cert.Rows Idealize.ShloMosaic.TcCoe Cert.Kernel6Ideal Cert.Kernel6Ideal.Gen Finset

variable (m : (ℓ : Loc nD τ sig) → Buf (Elt Ideal) ℓ) (c : Dev nD)

/-- The key blocks counted before each row's. -/
theorem count_word : ∀ s : Fin 2048, floors (ix1 s) * 2#32 = BitVec.ofNat 32 (2 * (s.val / 512)) := by
  have e : ∀ s : Fin 2048, floors (ix1 s) = Scalar.select (IntOp.andi (Scalar.cmpi .ne (if BitVec.ofNat 32 s.val = 0 then 0 else if (BitVec.ofNat 32 s.val).msb then -1 else 1 : BitVec 32) (if 512#32 = 0 then 0 else if (512#32).msb then -1 else 1 : BitVec 32))
      (Scalar.cmpi .ne (IntOp.remsi .host (BitVec.ofNat 32 s.val) 512#32) 0#32)) (IntOp.divsi .host (BitVec.ofNat 32 s.val) 512#32 - 1#32) (IntOp.divsi .host (BitVec.ofNat 32 s.val) 512#32) := fun s => rfl
  simp only [e]
  decide +kernel

theorem visited_at (b : Fin 4) (p : Fin 16) (s : Fin 2048) : visited (ix4 b p s 0) = ((2 * (s.val / 512 : ℕ) : ℝ) : EReal) := by
  have e : visited (ix4 b p s 0) = (((floors (ix1 s) * 2#32).toInt : ℝ) : EReal) := rfl
  have hs := s.isLt
  rw [e, count_word, BitVec.toInt_ofNat', Int.bmod_eq_of_le (by omega) (by omega)]
  push_cast
  rfl

variable {m c} {Q K V' D : (⟨3, ![4, 2048, 2048]⟩ : Shape).Idx → ℝ} (R : AreReal (arg0 m c) (arg1 m c) (arg2 m c) (arg3 m c) Q K V' D)

include R in
theorem totals_at (b : Fin 4) (h : Fin 32) (s : Fin 2048) : totals m c (ix3 b h s) = ((∑ j ∈ range 2048, (headOf Q K V' D b h).lk s.val j : ℝ) : EReal) := by
  have e : totals m c (ix3 b h s) = ∑ j : Fin 2048, Cert.Reference6Ideal.Read.val_main_v19_0 (F := Ideal) (arg0 m c) (arg1 m c) (ix4 b h s j) := by
    unfold totals
    pointwise
  rw [e, ← Fin.sum_univ_eq_sum_range (fun j => (headOf Q K V' D b h).lk s.val j) 2048, coe_sum]
  exact sum_congr rfl fun j _ => v19_at R b h s j

/-- The third window operand's columns. -/
theorem V30_count (b : Fin 4) (p : Fin 16) (s : Fin 2048) : V m c main_v30 (ix4 b p s 2) = ((2 * (s.val / 512 : ℕ) : ℝ) : EReal) := by
  rw [V_main_v30]
  exact (concatenate_apply_piece (t := S4x16x2048x3) 3 _ _ _ 1 (by simp) S4x16x2048x1 _ rfl rfl 2 rfl (ix4 b p s 0)
    (fun b hb => by match b with | ⟨0, _⟩ => rfl | ⟨1, _⟩ => rfl | ⟨2, _⟩ => rfl | ⟨3, _⟩ => exact absurd rfl hb) rfl).trans (visited_at b p s)

include R in
theorem V30_total (b : Fin 4) (p : Fin 16) (s : Fin 2048) (e : Fin 2) : V m c main_v30 (ix4 b p s ⟨e.val, by omega⟩)
    = ((∑ j ∈ range 2048, (headOf Q K V' D b ⟨2 * p.val + e.val, by omega⟩).lk s.val j : ℝ) : EReal) := by
  rw [V_main_v30, ← totals_at R b ⟨2 * p.val + e.val, by omega⟩ s]
  refine (concatenate_apply_piece (t := S4x16x2048x3) 3 _ _ _ 0 (by simp) S4x16x2048x2 _ rfl rfl 0 rfl (ix4 b p s e)
    (fun b hb => by match b with | ⟨0, _⟩ => rfl | ⟨1, _⟩ => rfl | ⟨2, _⟩ => rfl | ⟨3, _⟩ => exact absurd rfl hb) (by show 0 + e.val = e.val; omega)).trans ?_
  pointwise
  exact congrArg (fun h => totals m c (ix3 b h s)) (Fin.ext (by show p.val * 2 + e.val = 2 * p.val + e.val; omega))

theorem idx0 : ∀ t : Fin cfg0.N, win0_0.index t = ![t.val / 64 * 4 + t.val % 4, t.val / 4 % 16] := (by decide +kernel : ∀ t : Fin grid0.N, win0_0.index t = ![t.val / 64 * 4 + t.val % 4, t.val / 4 % 16])
theorem idx1 : ∀ t : Fin cfg0.N, win0_1.index t = ![t.val / 64, 16 + t.val / 4 % 16] := (by decide +kernel : ∀ t : Fin grid0.N, win0_1.index t = ![t.val / 64, 16 + t.val / 4 % 16])
theorem idx2 : ∀ t : Fin cfg0.N, win0_2.index t = ![t.val / 64, 32 + t.val / 4 % 16] := (by decide +kernel : ∀ t : Fin grid0.N, win0_2.index t = ![t.val / 64, 32 + t.val / 4 % 16])
theorem idx3 : ∀ t : Fin cfg0.N, win0_3.index t = ![t.val / 64 * 4 + t.val % 4, t.val / 4 % 16] := (by decide +kernel : ∀ t : Fin grid0.N, win0_3.index t = ![t.val / 64 * 4 + t.val % 4, t.val / 4 % 16])
theorem idx4 : ∀ t : Fin cfg0.N, win0_4.index t = ![t.val / 64, t.val / 4 % 16, t.val % 4, 0] := (by decide +kernel : ∀ t : Fin grid0.N, win0_4.index t = ![t.val / 64, t.val / 4 % 16, t.val % 4, 0])
theorem idx5 : ∀ t : Fin cfg0.N, win0_5.index t = ![t.val / 64 * 4 + t.val % 4, t.val / 4 % 16] := (by decide +kernel : ∀ t : Fin grid0.N, win0_5.index t = ![t.val / 64 * 4 + t.val % 4, t.val / 4 % 16])
theorem idx6 : ∀ t : Fin cfg0.N, win0_6.index t = ![t.val / 64, t.val / 4 % 16] := (by decide +kernel : ∀ t : Fin grid0.N, win0_6.index t = ![t.val / 64, t.val / 4 % 16])
theorem idx7 : ∀ t : Fin cfg0.N, win0_7.index t = ![t.val / 64, t.val / 4 % 16] := (by decide +kernel : ∀ t : Fin grid0.N, win0_7.index t = ![t.val / 64, t.val / 4 % 16])

/-- The sequence and the pair of heads of a point, and the rows of its query block. -/
def seqOf (p : ℕ) : Fin 4 := ⟨p / 16 % 4, by omega⟩
def pairOf (p : ℕ) : Fin 16 := ⟨p % 16, by omega⟩
def queryRow (t : Fin cfg0.N) (r : Fin 512) : Fin 2048 := ⟨512 * (t.val % 4) + r.val, by omega⟩
def lanesOf (t : Fin cfg0.N) (x : Fin 128) : Fin 2048 := ⟨128 * (t.val / 4 % 16) + x.val, by omega⟩

theorem lt_points (t : Fin cfg0.N) : t.val < 256 := lt_of_lt_of_eq t.isLt N_0

section
variable (m c)

theorem iblk0_at (t : Fin cfg0.N) (r : Fin 512) (x : Fin 128) : iblk m c 0 t (ix2 r x) = arg0 m c (ix3 (seqOf (t.val / 4)) (queryRow t r) (lanesOf t x)) := by
  have ht := lt_points t
  rw [← wide_q]
  have e : V m c main_v2 (ix2 (⟨(t.val / 64 * 4 + t.val % 4) * 512 + r.val, by omega⟩ : Fin 8192) (⟨128 * (t.val / 4 % 16) + x.val, by omega⟩ : Fin 6144)) = wide m c (ix3 (seqOf (t.val / 4)) (queryRow t r) ⟨(lanesOf t x).val, by omega⟩) := by
    rw [V_main_v2]
    refine congrArg (wide m c) (congrArg₂ (fun a b => ix3 a b _) (Fin.ext ?_) (Fin.ext ?_))
    · show ((t.val / 64 * 4 + t.val % 4) * 512 + r.val) / 2048 = t.val / 4 / 16 % 4; omega
    · show ((t.val / 64 * 4 + t.val % 4) * 512 + r.val) % 2048 = 512 * (t.val % 4) + r.val; omega
  rw [← e]
  blk_simp [iblk]
  refine congrArg (V m c main_v2) ?_
  blk_ext [idx0]

theorem iblk1_at (t : Fin cfg0.N) (j : Fin 2048) (x : Fin 128) : iblk m c 1 t (ix2 j x) = arg1 m c (ix3 (seqOf (t.val / 4)) j (lanesOf t x)) := by
  have ht := lt_points t
  rw [← wide_k]
  have e : V m c main_v2 (ix2 (⟨t.val / 64 * 2048 + j.val, by omega⟩ : Fin 8192) (⟨128 * (16 + t.val / 4 % 16) + x.val, by omega⟩ : Fin 6144)) = wide m c (ix3 (seqOf (t.val / 4)) j ⟨2048 + (lanesOf t x).val, by have := (lanesOf t x).isLt; omega⟩) := by
    rw [V_main_v2]
    refine congrArg (wide m c) (congr (congrArg₂ (fun a b => ix3 a b) (Fin.ext ?_) (Fin.ext ?_)) (Fin.ext ?_))
    · show (t.val / 64 * 2048 + j.val) / 2048 = t.val / 4 / 16 % 4; omega
    · show (t.val / 64 * 2048 + j.val) % 2048 = j.val; omega
    · show 128 * (16 + t.val / 4 % 16) + x.val = 2048 + (128 * (t.val / 4 % 16) + x.val); omega
  rw [← e]
  blk_simp [iblk]
  refine congrArg (V m c main_v2) ?_
  blk_ext [idx1]

theorem iblk2_at (t : Fin cfg0.N) (j : Fin 2048) (x : Fin 128) : iblk m c 2 t (ix2 j x) = arg2 m c (ix3 (seqOf (t.val / 4)) j (lanesOf t x)) := by
  have ht := lt_points t
  rw [← wide_v]
  have e : V m c main_v2 (ix2 (⟨t.val / 64 * 2048 + j.val, by omega⟩ : Fin 8192) (⟨128 * (32 + t.val / 4 % 16) + x.val, by omega⟩ : Fin 6144)) = wide m c (ix3 (seqOf (t.val / 4)) j ⟨4096 + (lanesOf t x).val, by have := (lanesOf t x).isLt; omega⟩) := by
    rw [V_main_v2]
    refine congrArg (wide m c) (congr (congrArg₂ (fun a b => ix3 a b) (Fin.ext ?_) (Fin.ext ?_)) (Fin.ext ?_))
    · show (t.val / 64 * 2048 + j.val) / 2048 = t.val / 4 / 16 % 4; omega
    · show (t.val / 64 * 2048 + j.val) % 2048 = j.val; omega
    · show 128 * (32 + t.val / 4 % 16) + x.val = 4096 + (128 * (t.val / 4 % 16) + x.val); omega
  rw [← e]
  blk_simp [iblk]
  refine congrArg (V m c main_v2) ?_
  blk_ext [idx2]

theorem iblk3_at (t : Fin cfg0.N) (r : Fin 512) (x : Fin 128) : iblk m c 3 t (ix2 r x) = arg3 m c (ix3 (seqOf (t.val / 4)) (queryRow t r) (lanesOf t x)) := by
  have ht := lt_points t
  have e : V m c main_v32 (ix2 (⟨(t.val / 64 * 4 + t.val % 4) * 512 + r.val, by omega⟩ : Fin 8192) (lanesOf t x)) = arg3 m c (ix3 (seqOf (t.val / 4)) (queryRow t r) (lanesOf t x)) := by
    rw [V_main_v32]
    refine congrArg (arg3 m c) (congrArg₂ (fun a b => ix3 a b _) (Fin.ext ?_) (Fin.ext ?_))
    · show ((t.val / 64 * 4 + t.val % 4) * 512 + r.val) / 2048 = t.val / 4 / 16 % 4; omega
    · show ((t.val / 64 * 4 + t.val % 4) * 512 + r.val) % 2048 = 512 * (t.val % 4) + r.val; omega
  rw [← e]
  blk_simp [iblk]
  refine congrArg (V m c main_v32) ?_
  blk_ext [idx3, lanesOf]

theorem iblk4_at (t : Fin cfg0.N) (r : Fin 512) (e : Fin 3) : iblk m c 4 t (ix4 0 0 r e) = V m c main_v30 (ix4 (seqOf (t.val / 4)) (pairOf (t.val / 4)) (queryRow t r) e) := by
  have ht := lt_points t
  blk_simp [iblk]
  refine congrArg (V m c main_v30) ?_
  blk_ext [idx4, seqOf, pairOf, queryRow]
end

/-- The two heads of a run of four points. -/
def headAt (Q K V' D : (⟨3, ![4, 2048, 2048]⟩ : Shape).Idx → ℝ) (e : Fin 2) (p : ℕ) : Head :=
  headOf Q K V' D (seqOf p) ⟨2 * (pairOf p).val + e.val, by have := (pairOf p).isLt; omega⟩

/-- Their lanes. -/
theorem lanes_eq (t : Fin cfg0.N) (e : Fin 2) (x : Fin 64) (y : Fin 128) (hy : y.val = 64 * e.val + x.val) :
    lanesOf t y = laneOf ⟨2 * (pairOf (t.val / 4)).val + e.val, by have := (pairOf (t.val / 4)).isLt; omega⟩ x :=
  Fin.ext (by show 128 * (t.val / 4 % 16) + y.val = (2 * (t.val / 4 % 16) + e.val) * 64 + x.val; omega)

include R in
theorem seen (t : Fin cfg0.N) (e : Fin 2) (lane : Fin 64 → Fin 128) (hl : ∀ x, (lane x).val = 64 * e.val + x.val) :
    Seen (headAt Q K V' D e (t.val / 4)) lane ⟨e.val, by omega⟩ (t.val % 4) (iblk m c 0 t) (iblk m c 1 t) (iblk m c 2 t) (iblk m c 3 t) (iblk m c 4 t) where
  q r x := by
    rw [iblk0_at, R.q, ← EReal.coe_mul, lanes_eq t e x _ (hl x)]
    show _ = ((Q (ix3 _ (place (queryRow t r).val) _) * (1 / 8) : ℝ) : EReal)
    rw [place_val]
  d r x := by
    rw [iblk3_at, R.d, lanes_eq t e x _ (hl x)]
    show _ = ((D (ix3 _ (place (queryRow t r).val) _) : ℝ) : EReal)
    rw [place_val]
  k j x := by
    rw [iblk1_at, R.k, lanes_eq t e x _ (hl x)]
    show _ = ((K (ix3 _ (place j.val) _) : ℝ) : EReal)
    rw [place_val]
  v j x := by
    rw [iblk2_at, R.v, lanes_eq t e x _ (hl x)]
    show _ = ((V' (ix3 _ (place j.val) _) : ℝ) : EReal)
    rw [place_val]
  rt r := (iblk4_at m c t r _).trans (V30_total R _ _ _ e)

include R in
theorem sees : Sees m c (headAt Q K V' D 0) (headAt Q K V' D 1) where
  head0 t := seen R t 0 lane0 fun x => by show _ = 64 * 0 + x.val; simp [lane0]
  head1 t := seen R t 1 lane1 fun x => by show _ = 64 * 1 + x.val; simp [lane1]
  count t r := by
    rw [iblk4_at, V30_count]
    have e : (queryRow t r).val / 512 = t.val % 4 := by have := r.isLt; show (512 * (t.val % 4) + r.val) / 512 = _; omega
    rw [e]

end Cert.Sb
-- ==== Proof.SbOut.lean ====
/- Hand-written, untrusted: the arrays that the stick-breaking attention's gradient writes. -/
module

public import proofs.«01_k».proof.Proof.SbWindows

@[expose] public section

set_option maxRecDepth 16384

noncomputable section

namespace Cert.Sb

open Idealize.ShloMosaic Cert.Finite Cert.Rows Idealize.ShloMosaic.TcCoe Cert.Kernel6Ideal Cert.Kernel6Ideal.Gen Finset
open VecWindow (window put)

section
variable (s : Vec Ideal S8x128x256 .f32)

/-- One key block, turned. -/
theorem turned (x : Vec Ideal S1x128x256 .f32) (c : Fin 256) (y : Fin 128) : k0_pay59 (F := Ideal) x (ix2 c y) = x (ix3 0 y c) := by
  unfold k0_pay59
  pointwise

theorem slab (J : Fin 8) (inb : ∀ a, (![J.val, 0, 0] : Fin 3 → ℕ) a + S1x128x256.size a ≤ S8x128x256.size a) (c : Fin 256) (y : Fin 128) :
    k0_pay59 (F := Ideal) (window s ![J.val, 0, 0] S1x128x256.size inb) (ix2 c y) = s (ix3 J y c) := by
  rw [turned]
  refine congrArg s (funext fun e => Fin.ext ?_)
  match e with
  | 0 => show J.val + 1 * 0 = J.val; omega
  | 1 => show 0 + 1 * y.val = y.val; omega
  | 2 => show 0 + 1 * c.val = c.val; omega

/-- A key block's rows, stored. -/
theorem put_rows (x : Vec Ideal S2048x128 .bf16) (b : ℕ) (w : Vec Ideal S256x128 .bf16) (j : Fin 2048) (y : Fin 128) :
    put x ![b, 0] S256x128.size w (ix2 j y) = if h : b ≤ j.val ∧ j.val < b + 256 then w (ix2 ⟨j.val - b, by omega⟩ y) else x (ix2 j y) := by
  have hy := y.isLt
  by_cases h : b ≤ j.val ∧ j.val < b + 256
  · rw [dif_pos h]
    unfold put
    rw [dif_pos (by intro a; match a with | 0 => exact h | 1 => exact ⟨Nat.zero_le _, by show y.val < 0 + 128; omega⟩)]
    refine congrArg w (funext fun e => Fin.ext ?_)
    match e with
    | 0 => rfl
    | 1 => rfl
  · rw [dif_neg h]
    unfold put
    rw [dif_neg fun h' => h (h' 0)]

theorem in_slab (j : Fin 2048) (y : Fin 128) (J : Fin 8) (b : ℕ) (hb : b = 256 * J.val) (h : b ≤ j.val ∧ j.val < b + 256) :
    s (ix3 J y ⟨j.val - b, by omega⟩) = s (ix3 ⟨j.val / 256, by omega⟩ y ⟨j.val % 256, by omega⟩) :=
  congrArg₂ (fun a b => s (ix3 a y b)) (Fin.ext (by show J.val = j.val / 256; omega)) (Fin.ext (by show j.val - b = j.val % 256; omega))

theorem dkOut_at (x : Vec Ideal S2048x128 .bf16) (j : Fin 2048) (y : Fin 128) :
    dkOut s x (ix2 j y) = s (ix3 ⟨j.val / 256, by omega⟩ y ⟨j.val % 256, by omega⟩) := by
  have hj := j.isLt
  unfold dkOut
  rw [put_rows, put_rows, put_rows, put_rows, put_rows, put_rows, put_rows, put_rows]
  split_ifs with h7 h6 h5 h4 h3 h2 h1 h0
  · exact (slab s 7 _ _ y).trans (in_slab s j y 7 _ rfl h7)
  · exact (slab s 6 _ _ y).trans (in_slab s j y 6 _ rfl h6)
  · exact (slab s 5 _ _ y).trans (in_slab s j y 5 _ rfl h5)
  · exact (slab s 4 _ _ y).trans (in_slab s j y 4 _ rfl h4)
  · exact (slab s 3 _ _ y).trans (in_slab s j y 3 _ rfl h3)
  · exact (slab s 2 _ _ y).trans (in_slab s j y 2 _ rfl h2)
  · exact (slab s 1 _ _ y).trans (in_slab s j y 1 _ rfl h1)
  · exact (slab s 0 _ _ y).trans (in_slab s j y 0 _ rfl h0)
  · omega

/-- The two blocks of results are laid out alike. -/
theorem dvOut_eq (x : Vec Ideal S2048x128 .bf16) : dvOut s x = dkOut s x := rfl

end

theorem dq_first (s : St Ideal) (x : Vec Ideal S512x128 .bf16) (r : Fin 512) (y : Fin 64) :
    dq s x (ix2 r (lane0 y)) = (got0 s).dq r y * ((1 / 8 : ℝ) : EReal) := by
  have hy := y.isLt
  unfold dq put
  rw [dif_neg fun h' => by have := (h' 1).1; simp [lane0] at this; omega,
    dif_pos (by intro a; match a with | 0 => exact ⟨Nat.zero_le _, by show r.val < 0 + 512; omega⟩ | 1 => exact ⟨Nat.zero_le _, by show y.val < 0 + 64; omega⟩)]
  rw [← eighth]
  exact congrArg (fun i => s.acc.2.2.1 i * Ideal.ofBits .f32 0x3E000000#32) (funext fun e => Fin.ext (by match e with | 0 => rfl | 1 => rfl))

theorem dq_second (s : St Ideal) (x : Vec Ideal S512x128 .bf16) (r : Fin 512) (y : Fin 64) :
    dq s x (ix2 r (lane1 y)) = (got1 s).dq r y * ((1 / 8 : ℝ) : EReal) := by
  have hy := y.isLt
  unfold dq put
  rw [dif_pos (by intro a; match a with | 0 => exact ⟨Nat.zero_le _, by show r.val < 0 + 512; omega⟩ | 1 => exact ⟨by show 64 ≤ 64 + y.val; omega, by show 64 + y.val < 64 + 64; omega⟩)]
  rw [← eighth]
  exact congrArg (fun i => s.acc.2.2.2.2.2 i * Ideal.ofBits .f32 0x3E000000#32) (funext fun e => Fin.ext (by match e with | 0 => rfl | 1 => show 64 + y.val - 64 = y.val; omega))

section
variable (Q K V' D : (⟨3, ![4, 2048, 2048]⟩ : Shape).Idx → ℝ)

/-- The three gradients: of sequence `b`, head `h`, row `s`, lane `x` of the head. -/
def gradQ (b : Fin 4) (h : Fin 32) (s : Fin 2048) (x : Fin 64) : ℝ := (∑ j ∈ range 2048, (headOf Q K V' D b h).dz s.val j * (headOf Q K V' D b h).k j x) * (1 / 8)
def gradK (b : Fin 4) (h : Fin 32) (j : Fin 2048) (x : Fin 64) : ℝ := ∑ s ∈ range 2048, (headOf Q K V' D b h).q s x * (headOf Q K V' D b h).dz s j.val
def gradV (b : Fin 4) (h : Fin 32) (j : Fin 2048) (x : Fin 64) : ℝ := ∑ s ∈ range 2048, (headOf Q K V' D b h).d s x * (headOf Q K V' D b h).a s j.val

/-- As an array of all rows and lanes. -/
def flat (g : Fin 4 → Fin 32 → Fin 2048 → Fin 64 → ℝ) : S8192x2048.Idx → EReal := fun i =>
  (g ⟨(i 0).val / 2048, by have : (i 0).val < 8192 := (i 0).isLt; omega⟩ ⟨(i 1).val / 64, by have : (i 1).val < 2048 := (i 1).isLt; omega⟩
    ⟨(i 0).val % 2048, by omega⟩ ⟨(i 1).val % 64, by omega⟩ : ℝ)

theorem flat_at (g : Fin 4 → Fin 32 → Fin 2048 → Fin 64 → ℝ) (n : Fin 8192) (e : Fin 2048) (b : Fin 4) (h : Fin 32) (s : Fin 2048) (x : Fin 64)
    (hn : n.val = b.val * 2048 + s.val) (he : e.val = h.val * 64 + x.val) : flat g (ix2 n e) = (g b h s x : ℝ) := by
  have e0 : (⟨n.val / 2048, by omega⟩ : Fin 4) = b := Fin.ext (by show n.val / 2048 = b.val; omega)
  have e1 : (⟨e.val / 64, by omega⟩ : Fin 32) = h := Fin.ext (by show e.val / 64 = h.val; omega)
  have e2 : (⟨n.val % 2048, by omega⟩ : Fin 2048) = s := Fin.ext (by show n.val % 2048 = s.val; omega)
  have e3 : (⟨e.val % 64, by omega⟩ : Fin 64) = x := Fin.ext (by show e.val % 64 = x.val; omega)
  show ((g ⟨n.val / 2048, _⟩ ⟨e.val / 64, _⟩ ⟨n.val % 2048, _⟩ ⟨e.val % 64, _⟩ : ℝ) : EReal) = _
  rw [e0, e1, e2, e3]
end

/-- A lane belongs to the first head or to the second. -/
theorem lane_cases (b : Fin 128) : (∃ x, b = lane0 x) ∨ ∃ x, b = lane1 x := by
  by_cases h : b.val < 64
  · exact Or.inl ⟨⟨b.val, h⟩, rfl⟩
  · exact Or.inr ⟨⟨b.val - 64, by omega⟩, Fin.ext (by show b.val = 64 + (b.val - 64); omega)⟩

variable {m : (ℓ : Loc nD τ sig) → Buf (Elt Ideal) ℓ} {c : Dev nD}
variable {Q K V' D : (⟨3, ![4, 2048, 2048]⟩ : Shape).Idx → ℝ} (R : AreReal (arg0 m c) (arg1 m c) (arg2 m c) (arg3 m c) Q K V' D)

include R

/-- The first result. -/
theorem result5 : (dats m 0 c).arrAt 5 cfg0.N = flat (gradQ Q K V' D) := by
  refine (dats m 0 c).arrAt_eq_of_covers 5 _ (by decide +kernel) fun t hf y => ?_
  obtain ⟨a, b, rfl⟩ : ∃ (a : Fin 512) (b : Fin 128), y = ix2 a b := ⟨y 0, y 1, (ix2_eta y).symm⟩
  have ht := lt_points t
  have eg : (((cfg0.win 5).blk t).view.emb (ix2 a b)) = ix2 (⟨(t.val / 64 * 4 + t.val % 4) * 512 + a.val, by omega⟩ : Fin 8192) (lanesOf t b) := by
    blk_ext [idx5, lanesOf]
  obtain ⟨f0, f1⟩ := made_fin (sees R) t.val t rfl
  blk_simp
  rw [after_5, eg]
  rcases lane_cases b with ⟨x, rfl⟩ | ⟨x, rfl⟩
  · rw [dq_first, f0.dq, ← EReal.coe_mul]
    refine (flat_at (gradQ Q K V' D) _ _ (seqOf (t.val / 4)) ⟨2 * (pairOf (t.val / 4)).val + 0, by have := (pairOf (t.val / 4)).isLt; omega⟩ (queryRow t a) x ?_ ?_).symm
    · show (t.val / 64 * 4 + t.val % 4) * 512 + a.val = t.val / 4 / 16 % 4 * 2048 + (512 * (t.val % 4) + a.val); omega
    · show 128 * (t.val / 4 % 16) + x.val = (2 * (t.val / 4 % 16) + 0) * 64 + x.val; omega
  · rw [dq_second, f1.dq, ← EReal.coe_mul]
    refine (flat_at (gradQ Q K V' D) _ _ (seqOf (t.val / 4)) ⟨2 * (pairOf (t.val / 4)).val + 1, by have := (pairOf (t.val / 4)).isLt; omega⟩ (queryRow t a) x ?_ ?_).symm
    · show (t.val / 64 * 4 + t.val % 4) * 512 + a.val = t.val / 4 / 16 % 4 * 2048 + (512 * (t.val % 4) + a.val); omega
    · show 128 * (t.val / 4 % 16) + (64 + x.val) = (2 * (t.val / 4 % 16) + 1) * 64 + x.val; omega

omit R in
/-- All four query blocks: all rows. -/
theorem gath_all (f : ℕ → Fin 64 → ℝ) (g : ℕ → ℕ → ℝ) (j : Fin 2048) (x : Fin 64) (n : ℕ) (hn : n = 3) :
    gath f g (n + 1) ⟨j.val / 256, by omega⟩ x ⟨j.val % 256, by omega⟩ = ∑ s ∈ range 2048, f s x * g s j.val := by
  subst hn
  unfold gath
  rw [show 256 * (j.val / 256) + j.val % 256 = j.val by omega]

/-- The second result. -/
theorem result6 : (dats m 0 c).arrAt 6 cfg0.N = flat (gradK Q K V' D) := by
  refine (dats m 0 c).arrAt_eq_of_covers 6 _ (by decide +kernel) fun t hf y => ?_
  obtain ⟨a, b, rfl⟩ : ∃ (a : Fin 2048) (b : Fin 128), y = ix2 a b := ⟨y 0, y 1, (ix2_eta y).symm⟩
  have ht := lt_points t
  have h3 : t.val % 4 = 3 := by rw [flush0_6] at hf; simpa using hf
  have eg : (((cfg0.win 6).blk t).view.emb (ix2 a b)) = ix2 (⟨t.val / 64 * 2048 + a.val, by omega⟩ : Fin 8192) (lanesOf t b) := by
    blk_ext [idx6, lanesOf]
  obtain ⟨f0, f1⟩ := made_fin (sees R) t.val t rfl
  blk_simp
  rw [after_6, eg, dkOut_at]
  rcases lane_cases b with ⟨x, rfl⟩ | ⟨x, rfl⟩
  · refine ((f0.dk _ x _).trans (congrArg Real.toEReal (gath_all _ _ a x _ h3))).trans ?_
    refine (flat_at (gradK Q K V' D) _ _ (seqOf (t.val / 4)) ⟨2 * (pairOf (t.val / 4)).val + 0, by have := (pairOf (t.val / 4)).isLt; omega⟩ a x ?_ ?_).symm
    · show t.val / 64 * 2048 + a.val = t.val / 4 / 16 % 4 * 2048 + a.val; omega
    · show 128 * (t.val / 4 % 16) + x.val = (2 * (t.val / 4 % 16) + 0) * 64 + x.val; omega
  · refine ((f1.dk _ x _).trans (congrArg Real.toEReal (gath_all _ _ a x _ h3))).trans ?_
    refine (flat_at (gradK Q K V' D) _ _ (seqOf (t.val / 4)) ⟨2 * (pairOf (t.val / 4)).val + 1, by have := (pairOf (t.val / 4)).isLt; omega⟩ a x ?_ ?_).symm
    · show t.val / 64 * 2048 + a.val = t.val / 4 / 16 % 4 * 2048 + a.val; omega
    · show 128 * (t.val / 4 % 16) + (64 + x.val) = (2 * (t.val / 4 % 16) + 1) * 64 + x.val; omega

/-- The third result. -/
theorem result7 : (dats m 0 c).arrAt 7 cfg0.N = flat (gradV Q K V' D) := by
  refine (dats m 0 c).arrAt_eq_of_covers 7 _ (by decide +kernel) fun t hf y => ?_
  obtain ⟨a, b, rfl⟩ : ∃ (a : Fin 2048) (b : Fin 128), y = ix2 a b := ⟨y 0, y 1, (ix2_eta y).symm⟩
  have ht := lt_points t
  have h3 : t.val % 4 = 3 := by rw [flush0_7] at hf; simpa using hf
  have eg : (((cfg0.win 7).blk t).view.emb (ix2 a b)) = ix2 (⟨t.val / 64 * 2048 + a.val, by omega⟩ : Fin 8192) (lanesOf t b) := by
    blk_ext [idx7, lanesOf]
  obtain ⟨f0, f1⟩ := made_fin (sees R) t.val t rfl
  blk_simp
  rw [after_7, eg, dvOut_eq, dkOut_at]
  rcases lane_cases b with ⟨x, rfl⟩ | ⟨x, rfl⟩
  · refine ((f0.dv _ x _).trans (congrArg Real.toEReal (gath_all _ _ a x _ h3))).trans ?_
    refine (flat_at (gradV Q K V' D) _ _ (seqOf (t.val / 4)) ⟨2 * (pairOf (t.val / 4)).val + 0, by have := (pairOf (t.val / 4)).isLt; omega⟩ a x ?_ ?_).symm
    · show t.val / 64 * 2048 + a.val = t.val / 4 / 16 % 4 * 2048 + a.val; omega
    · show 128 * (t.val / 4 % 16) + x.val = (2 * (t.val / 4 % 16) + 0) * 64 + x.val; omega
  · refine ((f1.dv _ x _).trans (congrArg Real.toEReal (gath_all _ _ a x _ h3))).trans ?_
    refine (flat_at (gradV Q K V' D) _ _ (seqOf (t.val / 4)) ⟨2 * (pairOf (t.val / 4)).val + 1, by have := (pairOf (t.val / 4)).isLt; omega⟩ a x ?_ ?_).symm
    · show t.val / 64 * 2048 + a.val = t.val / 4 / 16 % 4 * 2048 + a.val; omega
    · show 128 * (t.val / 4 % 16) + (64 + x.val) = (2 * (t.val / 4 % 16) + 1) * 64 + x.val; omega

end Cert.Sb
-- ==== Proof.SbProof.lean ====
/- Hand-written, untrusted: the claim about the value of the stick-breaking attention's gradient. -/
module

public import proofs.«01_k».proof.Proof.SbFrames
public import proofs.«01_k».proof.Proof.SbOut
public import proofs.«01_k».proof.Proof.Gen.Reference6Ideal.Run

@[expose] public section

set_option maxRecDepth 16384

noncomputable section

namespace Cert.Sb

open Idealize.ShloMosaic Idealize.ShloMosaic.TcCoe Cert.Kernel6Ideal Cert.Kernel6Ideal.Gen

instance factsPre : Cert.Pre_finite_sb.Facts where
  bcast_S_S4x2048x2048 := by decide
  reducesTo_S4x2048x2048_S_d0_1_2 := by decide
  h_S_ := by decide

instance : Subsingleton Cert.Pre_finite_sb.S_.Idx := ⟨fun a b => funext fun i => i.elim0⟩

/-- What the precondition says: all arguments are real. -/
theorem real_args (m : (ℓ : Loc nD τ sig) → Buf (Elt Ideal) ℓ) (hp : Cert.Pre_Kernel6Ideal_finite_sb m) (c : Dev nD) :
    ∃ Q K V' D, AreReal (arg0 m c) (arg1 m c) (arg2 m c) (arg3 m c) Q K V' D := by
  have h := congrFun (hp c) (fun i => i.elim0)
  unfold Cert.Pre_finite_sb.fn Cert.Pre_finite_sb.fn_part1 at h
  dsimp only at h
  obtain ⟨h, h3⟩ := Cert.Finite.and_one h
  obtain ⟨h, h2⟩ := Cert.Finite.and_one h
  obtain ⟨h0, h1⟩ := Cert.Finite.and_one h
  have e0 : ∀ x, ∃ r : ℝ, arg0 m c x = r := fun x => Cert.Finite.real_of_cmp (Host.reduce_andi_all _ _ _ _ _ h0 x)
  have e1 : ∀ x, ∃ r : ℝ, arg1 m c x = r := fun x => Cert.Finite.real_of_cmp (Host.reduce_andi_all _ _ _ _ _ h1 x)
  have e2 : ∀ x, ∃ r : ℝ, arg2 m c x = r := fun x => Cert.Finite.real_of_cmp (Host.reduce_andi_all _ _ _ _ _ h2 x)
  have e3 : ∀ x, ∃ r : ℝ, arg3 m c x = r := fun x => Cert.Finite.real_of_cmp (Host.reduce_andi_all _ _ _ _ _ h3 x)
  choose Q hQ using e0
  choose K hK using e1
  choose V' hV using e2
  choose D hD using e3
  exact ⟨Q, K, V', D, hQ, hK, hV, hD⟩

/-- What the kernel leaves in memory. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33_0) = (dats m 0 c).arrAt 5 cfg0.N
      ∧ r.2.mem ((c.tc : Thread nD τ).loc main_v33_1) = (dats m 0 c).arrAt 6 cfg0.N
      ∧ r.2.mem ((c.tc : Thread nD τ).loc main_v33_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.1 c).1 5, (h.1.1 c).1 6, (h.1.1 c).1 7, h.2.1 c⟩) (θ_run_and (run_quiescent m ρ) (frame m ρ))

/-- Kernel and reference compute the same arrays. -/
theorem equal : Cert.algebraic_Kernel6Ideal_Reference6Ideal_pre_finite_sb := by
  intro m g m' g' hp hargs
  refine ⟨fun c => (dats m 0 c).arrAt 5 cfg0.N, fun c => (dats m 0 c).arrAt 6 cfg0.N, fun c => (dats m 0 c).arrAt 7 cfg0.N, run_blocks m g,
    (θ_run Cert.Reference6Ideal.defs _ _).mono (fun r h c => ?_) (Cert.Reference6Ideal.Value.run (F := Ideal) m' g')⟩
  obtain ⟨a0, a1, a2, a3⟩ := hargs c
  obtain ⟨Q, K, V', D, R⟩ := real_args m hp c
  refine ⟨(h c).1.trans ?_, (h c).2.1.trans ?_, (h c).2.2.1.trans ?_, (h c).2.2.2⟩
  · rw [Cert.Reference6Ideal.Read.val_main_v54_eq, a0, a1, a2, a3]
    refine Eq.trans ?_ (result5 R).symm
    funext x
    obtain ⟨n, j, rfl⟩ : ∃ (n : Fin 8192) (j : Fin 2048), x = ix2 n j := ⟨x 0, x 1, (ix2_eta x).symm⟩
    exact v54_at R n j
  · rw [Cert.Reference6Ideal.Read.val_main_v56_eq, a0, a1, a2, a3]
    refine Eq.trans ?_ (result6 R).symm
    funext x
    obtain ⟨n, j, rfl⟩ : ∃ (n : Fin 8192) (j : Fin 2048), x = ix2 n j := ⟨x 0, x 1, (ix2_eta x).symm⟩
    exact v56_at R n j
  · rw [Cert.Reference6Ideal.Read.val_main_v58_eq, a0, a1, a3]
    refine Eq.trans ?_ (result7 R).symm
    funext x
    obtain ⟨n, j, rfl⟩ : ∃ (n : Fin 8192) (j : Fin 2048), x = ix2 n j := ⟨x 0, x 1, (ix2_eta x).symm⟩
    exact v58_at R n j

end Cert.Sb
end
-- ==== Proof.FoxStep.lean ====
module

public import proofs.«01_k».proof.Proof.Gen.Kernel7Ideal.Frame
public import Idealize.ShloMosaic.Lib.VecWindow

@[expose] public section

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal

variable {F : FTy → Type} [FloatOps F]

local notation "𝕄" => MT nD τ sig Unit (Elt F) ℕ (UR sig nD τ) ℕ

variable {𝒱 : Variants} {c : Dev nD} {bd : Option 𝒱.V} {E : Set ℕ} {β : Type}
variable {cs : CoreSpace} {s : Shape} {e : EltTy} {m : Memref sig .tc cs s e}

/-- A load of a part of an owned array goes on from what the array holds there. -/
theorem ld {off size : Fin s.rank → ℕ} {inb : ∀ a, off a + size a ≤ s.size a}
    {hl : m.view.LoadsAt (Rect.unit off size inb).toLoadRect}
    (X : s.Idx → Elt F e) {k : ((Rect.unit off size inb).shape.Idx → Elt F e) → Prog (TpuEff nD τ sig (Elt F) Λ₀ .tc) β} {Q : β → sProp 𝕄} :
    (owns (c : Thread nD τ) m fullShare X : sProp 𝕄)
      ⊢ iprop((owns (c : Thread nD τ) m fullShare X -∗ wp frame (wpE (defs₀ (F := F)) 𝒱 (c : Thread nD τ) bd) E (k (VecWindow.window X off size inb)) Q)
        -∗ wp frame (wpE (defs₀ (F := F)) 𝒱 (c : Thread nD τ) bd) E (Prog.lift (.load m (Rect.unit off size inb).toLoadRect hl) >>= k) Q) := by
  unfold owns
  iintro ⟨%f, %hf, H⟩ Hk
  have hS : (m.access (Rect.unit off size inb)).set ⊆ m.view.set := by
    exact m.view.set_slice_subset _
  iapply (wp_load_rect 𝒱 (c : Thread nD τ) bd E (m := m) (hl := hl) (k := k) (r := Rect.unit off size inb) (f := f) hS) $$ H
  iintro H
  subst hf
  iapply Hk
  iexists f
  isplitr
  · ipureintro; rfl
  iexact H

/-- A store over a part of an owned array leaves the array with the stored values there. -/
theorem st {off size : Fin s.rank → ℕ} {inb : ∀ a, off a + size a ≤ s.size a} {w : (Rect.unit off size inb).shape.Idx → Elt F e}
    {hx : (m.access (Rect.unit off size inb)).Stores Finset.univ} {hm : (Finset.univ : Finset (Rect.unit off size inb).shape.Idx) = Finset.univ ∨ ∀ a, (Rect.unit off size inb).stride a = 1}
    (X : s.Idx → Elt F e) {k : PUnit → Prog (TpuEff nD τ sig (Elt F) Λ₀ .tc) β} {Q : β → sProp 𝕄} :
    (owns (c : Thread nD τ) m fullShare X : sProp 𝕄)
      ⊢ iprop((∀ Y : s.Idx → Elt F e, ⌜Y = VecWindow.put X off size w⌝ -∗ owns (c : Thread nD τ) m fullShare Y
          -∗ wp frame (wpE (defs₀ (F := F)) 𝒱 (c : Thread nD τ) bd) E (k ⟨⟩) Q)
        -∗ wp frame (wpE (defs₀ (F := F)) 𝒱 (c : Thread nD τ) bd) E (Prog.lift (.store m (Rect.unit off size inb) w Finset.univ hx hm) >>= k) Q) := by
  unfold owns
  iintro ⟨%f, %hf, H⟩ Hk
  have hS : (m.access (Rect.unit off size inb)).setOn Finset.univ ⊆ m.view.set := by
    exact m.view.set_slice_subset _
  iapply (wp_store 𝒱 (c : Thread nD τ) bd E (m := m) (hx := hx) (hm := hm) (k := k) (r := Rect.unit off size inb) (f := f) hS) $$ H
  iintro H
  subst hf
  iapply Hk $$ %(VecWindow.put (m.view.read (Elt F) f) off size w) %rfl
  iexists _
  isplitr
  · ipureintro
    exact View.read_writes_cons_put m.view f inb w [] rfl
  iexact H

/-- A program that ends with a value ends with an equal one. -/
theorem pure_to {x y : β} (h : x = y) : (pure x : Prog (TpuEff nD τ sig (Elt F) Λ₀ .tc) β) = pure y := by rw [h]

/-- What a program assumes and holds, it goes on from. -/
theorem asm {P : Prop} {d : Decidable P} (h : P) {k : PLift P → Prog (TpuEff nD τ sig (Elt F) Λ₀ .tc) β} {Q : β → sProp 𝕄} :
    (wp frame (wpE (defs₀ (F := F)) 𝒱 (c : Thread nD τ) bd) E (k ⟨h⟩) Q : sProp 𝕄)
      ⊢ wp frame (wpE (defs₀ (F := F)) 𝒱 (c : Thread nD τ) bd) E (Prog.lift (.assume P d) >>= k) Q :=
  wp_assume 𝒱 (c : Thread nD τ) bd E h

end Cert.Fox
-- ==== Proof.FoxWords.lean ====
module

public import proofs.«01_k».proof.Proof.Gen.Kernel7Ideal.Skeleton
public import Idealize.ShloMosaic.Lib.WordCmp

@[expose] public section

set_option maxRecDepth 16384

namespace Cert.Fox

open Idealize.ShloMosaic Idealize.ShloMosaic.TcCoe Cert.Kernel7Ideal

/-- The clipped number of visited blocks, of any word, is that of a natural number at most `4 n`. -/
theorem clip (n : Fin 2) (v : BitVec 32) :
    ∃ k : Fin 5, k.val ≤ 4 * n.val ∧
      Scalar.minsi (Scalar.muli 4#32 (BitVec.ofNat 32 n.val)) (Scalar.maxsi 0#32 v)
        = Scalar.minsi (Scalar.muli 4#32 (BitVec.ofNat 32 n.val)) (Scalar.maxsi 0#32 (BitVec.ofNat 32 k.val)) := by
  have hp : (Scalar.muli 4#32 (BitVec.ofNat 32 n.val)).toInt = 4 * n.val := by revert n; decide
  by_cases h0 : v.slt 0#32 = true
  · exact ⟨0, by simp, by
      rw [show Scalar.maxsi (0#32) v = 0#32 from if_pos h0]; rfl⟩
  have hm : Scalar.maxsi (0#32) v = v := if_neg h0
  rw [hm]
  by_cases h1 : (Scalar.muli 4#32 (BitVec.ofNat 32 n.val)).slt v = true
  · refine ⟨⟨4 * n.val, by omega⟩, le_rfl, ?_⟩
    rw [show Scalar.minsi (Scalar.muli 4#32 (BitVec.ofNat 32 n.val)) v = Scalar.muli 4#32 (BitVec.ofNat 32 n.val) from if_pos h1]
    clear h1 hp
    revert n; decide
  · rw [BitVec.slt_iff_toInt_lt] at h0 h1
    rw [hp] at h1
    have hv : v.toInt = v.toNat := by
      rw [BitVec.toInt_eq_toNat_cond]; rw [BitVec.toInt_eq_toNat_cond] at h0
      simp only [BitVec.toInt_zero] at h0
      split_ifs at h0 ⊢ with hc
      · rfl
      · have := v.isLt; omega
    refine ⟨⟨v.toNat, by omega⟩, by simp only; omega, ?_⟩
    have : BitVec.ofNat 32 v.toNat = v := by rw [BitVec.ofNat_toNat, BitVec.setWidth_eq]
    rw [show (⟨v.toNat, by omega⟩ : Fin 5).val = v.toNat from rfl, this, hm]

/-- A grid point of query block `n`. -/
def point (n : Fin 2) : grid0.Coords := Fin.cons (0 : Fin 4) (Fin.cons (0 : Fin 16) (Fin.cons n fun a => a.elim0))

/-- What the kernel assumes of the blocks that it visits depends on the query block and the number of visited blocks only. -/
theorem chk_congr (i j : grid0.Coords) (a b : BitVec 32) (hij : (i 2).val = (j 2).val)
    (h : Scalar.minsi (Scalar.muli 4#32 (BitVec.ofNat 32 (j 2).val)) (Scalar.maxsi 0#32 a)
        = Scalar.minsi (Scalar.muli 4#32 (BitVec.ofNat 32 (j 2).val)) (Scalar.maxsi 0#32 b)) :
    k0_chk1 j b → k0_chk1 i a := by
  unfold k0_chk1 k0_mult9 k0_mult10 k0_mult11 k0_mult12 k0_mult13 k0_mult14 k0_mult15 k0_mult16 k0_off7 k0_off8 k0_off9 k0_off10 k0_off11 k0_off12
    k0_off13 k0_off14 k0_off15 k0_off16 k0_off17 k0_off18 k0_t1_loop k0_t2_loop
  dsimp only
  rw [hij, h]
  exact id

theorem chk_small : ∀ (n : Fin 2) (k : Fin 5), k.val ≤ 4 * n.val → k0_chk1 (point n) (BitVec.ofNat 32 k.val) := by
  decide +kernel

/-- What the kernel assumes of the blocks that it visits is always so: it clips their number. -/
theorem chk (i : grid0.Coords) (v : BitVec 32) : k0_chk1 i v := by
  obtain ⟨k, hk, h⟩ := clip (i 2) v
  exact chk_congr i (point (i 2)) v _ rfl h (chk_small (i 2) k hk)

end Cert.Fox
-- ==== Proof.FoxTrip.lean ====
module

public import proofs.«01_k».proof.Proof.FoxStep
public import proofs.«01_k».proof.Proof.FoxWords

@[expose] public section

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal Cert.Kernel7Ideal.Gen
open VecWindow (window put)

variable {F : FTy → Type} [FloatOps F]

local notation "𝕄" => MT nD τ sig Unit (Elt F) ℕ (UR sig nD τ) ℕ

/-- What the loop over the key blocks carries: the gradient of `q` of each of the two heads. -/
abbrev Acc (F : FTy → Type) := FVec F S1024x64 .f32 × FVec F S1024x64 .f32

/-- The carried values and the three arrays that collect the gradients of `k`, of `v` and of the keys' decays. -/
structure St (F : FTy → Type) where
  acc : Acc F
  dk : Vec F S8x128x256 .f32
  dv : Vec F S8x128x256 .f32
  dc : Vec F S1x2x8x256 .f32

/-- One head of a query block: the queries, the cotangents, the rows' sums of cotangent times output, and the rows' logarithms of their sums. -/
structure Head (F : FTy → Type) where
  q : FVec F S1024x64 .bf16
  d : FVec F S1024x64 .bf16
  e : FVec F S1024x1 .f32
  l : FVec F S1024x1 .f32

/-- The query block's values that every key block uses: the transposed query and cotangent blocks and the two heads. -/
structure Pro (F : FTy → Type) where
  qt : FVec F S128x1024 .bf16
  dt : FVec F S128x1024 .bf16
  h0 : Head F
  h1 : Head F

/-- What a key block does to the parts of the collecting arrays that it meets and to the carried gradient of `q`. -/
structure Txt (F : FTy → Type) where
  k : Vec F S1x64x256 .f32 → FVec F S1x64x256 .f32
  v : Vec F S1x64x256 .f32 → FVec F S1x64x256 .f32
  c : Vec F S1x1x1x256 .f32 → FVec F S1x1x1x256 .f32
  a : FVec F S1024x64 .f32 → FVec F S1024x64 .f32

/-- A product of transposed rows and a block's weights is added to a part of a collecting array: all 1024 rows. -/
def up1024 (x : FVec F S64x1024 .bf16) (y : FVec F S1024x256 .bf16) (w : Vec F S1x64x256 .f32) : FVec F S1x64x256 .f32 :=
  shapeCast S1x64x256 (addf (shapeCast S64x256 w shapeCasts_S1x64x256_S64x256)
    (matmul dot_S64x1024_S1024x256_S64x256_1_0_0_1_n_n none x y (constant S64x256 .f32 0x00000000#32))) shapeCasts_S64x256_S1x64x256

/-- The same of the last 768 rows. -/
def up768 (x : FVec F S64x768 .bf16) (y : FVec F S768x256 .bf16) (w : Vec F S1x64x256 .f32) : FVec F S1x64x256 .f32 :=
  shapeCast S1x64x256 (addf (shapeCast S64x256 w shapeCasts_S1x64x256_S64x256)
    (matmul dot_S64x768_S768x256_S64x256_1_0_0_1_n_n none x y (constant S64x256 .f32 0x00000000#32))) shapeCasts_S64x256_S1x64x256

/-- The same of the last 512 rows. -/
def up512 (x : FVec F S64x512 .bf16) (y : FVec F S512x256 .bf16) (w : Vec F S1x64x256 .f32) : FVec F S1x64x256 .f32 :=
  shapeCast S1x64x256 (addf (shapeCast S64x256 w shapeCasts_S1x64x256_S64x256)
    (matmul dot_S64x512_S512x256_S64x256_1_0_0_1_n_n none x y (constant S64x256 .f32 0x00000000#32))) shapeCasts_S64x256_S1x64x256

/-- The same of the last 256 rows. -/
def up256 (x : FVec F S64x256 .bf16) (y : FVec F S256x256 .bf16) (w : Vec F S1x64x256 .f32) : FVec F S1x64x256 .f32 :=
  shapeCast S1x64x256 (addf (shapeCast S64x256 w shapeCasts_S1x64x256_S64x256)
    (matmul dot_S64x256_S256x256_S64x256_1_0_0_1_n_n none x y (constant S64x256 .f32 0x00000000#32))) shapeCasts_S64x256_S1x64x256

section
variable (h : Head F) (kb vb : Vec F S256x64 .bf16) (cb : Vec F S1x1x1x256 .f32)

/-- A key block before the query block: every row meets every key. -/
def full (x y : FVec F S64x1024 .bf16) : Txt F where
  k := up1024 x (truncf .bf16 (k0_pay12 h.q h.d h.e h.l kb vb cb) bitsLt_bf16_f32)
  v := up1024 y (truncf .bf16 (k0_pay11 h.q h.l kb cb) bitsLt_bf16_f32)
  c := k0_pay19 (k0_pay12 h.q h.d h.e h.l kb vb cb)
  a := fun a => k0_pay20 a (k0_pay10 kb) (truncf .bf16 (k0_pay12 h.q h.d h.e h.l kb vb cb) bitsLt_bf16_f32)

/-- The first key block on the diagonal: all rows, masked. -/
def edge0 (x y : FVec F S64x1024 .bf16) : Txt F where
  k := up1024 x (truncf .bf16 (k0_pay130 k0_pay101 h.q h.d h.e h.l kb vb cb) bitsLt_bf16_f32)
  v := up1024 y (truncf .bf16 (k0_pay129 k0_pay101 h.q h.l kb cb) bitsLt_bf16_f32)
  c := k0_pay19 (k0_pay130 k0_pay101 h.q h.d h.e h.l kb vb cb)
  a := fun a => k0_pay20 a (k0_pay10 kb) (truncf .bf16 (k0_pay130 k0_pay101 h.q h.d h.e h.l kb vb cb) bitsLt_bf16_f32)

/-- The second: the last 768 rows, masked. -/
def edge1 (x y : FVec F S64x768 .bf16) : Txt F where
  k := up768 x (truncf .bf16 (k0_pay152 k0_pay102 h.q h.d h.e h.l kb vb cb) bitsLt_bf16_f32)
  v := up768 y (truncf .bf16 (k0_pay151 k0_pay102 h.q h.l kb cb) bitsLt_bf16_f32)
  c := k0_pay157 (k0_pay152 k0_pay102 h.q h.d h.e h.l kb vb cb)
  a := fun a => k0_pay158 a (k0_pay149 a) (k0_pay150 kb) (truncf .bf16 (k0_pay152 k0_pay102 h.q h.d h.e h.l kb vb cb) bitsLt_bf16_f32)

/-- The third: the last 512 rows, masked. -/
def edge2 (x y : FVec F S64x512 .bf16) : Txt F where
  k := up512 x (truncf .bf16 (k0_pay175 (k0_pay172 k0_pay103 h.q h.l kb cb) (k0_pay173 h.d vb) (k0_pay174 h.e)) bitsLt_bf16_f32)
  v := up512 y (truncf .bf16 (k0_pay172 k0_pay103 h.q h.l kb cb) bitsLt_bf16_f32)
  c := k0_pay168 (k0_pay175 (k0_pay172 k0_pay103 h.q h.l kb cb) (k0_pay173 h.d vb) (k0_pay174 h.e))
  a := fun a => k0_pay169 a (k0_pay159 a) (k0_pay160 kb) (truncf .bf16 (k0_pay175 (k0_pay172 k0_pay103 h.q h.l kb cb) (k0_pay173 h.d vb) (k0_pay174 h.e)) bitsLt_bf16_f32)

/-- The fourth: the last 256 rows, masked. -/
def edge3 (x y : FVec F S64x256 .bf16) : Txt F where
  k := up256 x (truncf .bf16 (k0_pay184 k0_pay104 h.q h.d h.e h.l kb vb cb) bitsLt_bf16_f32)
  v := up256 y (truncf .bf16 (k0_pay183 k0_pay104 h.q h.l kb cb) bitsLt_bf16_f32)
  c := k0_pay188 (k0_pay184 k0_pay104 h.q h.d h.e h.l kb vb cb)
  a := fun a => k0_pay189 a (k0_pay181 a) (k0_pay182 kb) (truncf .bf16 (k0_pay184 k0_pay104 h.q h.d h.e h.l kb vb cb) bitsLt_bf16_f32)

end

/-- A key block of the first head, whose parts of the collecting arrays lie at `og` and `oc`. -/
def left (t : Txt F) (og : Fin 3 → ℕ) (hg : ∀ a, og a + S1x64x256.size a ≤ S8x128x256.size a) (oc : Fin 4 → ℕ)
    (hc : ∀ a, oc a + S1x1x1x256.size a ≤ S1x2x8x256.size a) (s : St F) : St F where
  acc := (t.a s.acc.1, s.acc.2)
  dk := put s.dk og S1x64x256.size (t.k (window s.dk og S1x64x256.size hg))
  dv := put s.dv og S1x64x256.size (t.v (window s.dv og S1x64x256.size hg))
  dc := put s.dc oc S1x1x1x256.size (t.c (window s.dc oc S1x1x1x256.size hc))

/-- The same of the second head. -/
def right (t : Txt F) (og : Fin 3 → ℕ) (hg : ∀ a, og a + S1x64x256.size a ≤ S8x128x256.size a) (oc : Fin 4 → ℕ)
    (hc : ∀ a, oc a + S1x1x1x256.size a ≤ S1x2x8x256.size a) (s : St F) : St F where
  acc := (s.acc.1, t.a s.acc.2)
  dk := put s.dk og S1x64x256.size (t.k (window s.dk og S1x64x256.size hg))
  dv := put s.dv og S1x64x256.size (t.v (window s.dv og S1x64x256.size hg))
  dc := put s.dc oc S1x1x1x256.size (t.c (window s.dc oc S1x1x1x256.size hc))

variable (p : Pro F) (x4 x5 : Vec F S2048x128 .bf16) (x6 : Vec F S1x2x8x256 .f32) (i : grid0.Coords) (v : BitVec 32)

section
variable (k : Fin (k0_t1_loop i v).trips) (j : Fin 2)

/-- Key block `j` of a trip, first head. -/
def text0 : Txt F :=
  full p.h0 (window x4 (k0_off7 i v k (BitVec.ofNat 32 j.val)) S256x64.size (k0_off7_inb i v (chk i v) k j))
    (window x5 (k0_off7 i v k (BitVec.ofNat 32 j.val)) S256x64.size (k0_off7_inb i v (chk i v) k j))
    (window x6 (k0_off8 i v k (BitVec.ofNat 32 j.val)) S1x1x1x256.size (k0_off8_inb i v (chk i v) k j))
    (extractStridedSlice S64x1024 ![0, 0] p.qt slices_S128x1024_o0_0_S64x1024) (extractStridedSlice S64x1024 ![0, 0] p.dt slices_S128x1024_o0_0_S64x1024)

/-- The same, second head. -/
def text1 : Txt F :=
  full p.h1 (window x4 (k0_off10 i v k (BitVec.ofNat 32 j.val)) S256x64.size (k0_off10_inb i v (chk i v) k j))
    (window x5 (k0_off10 i v k (BitVec.ofNat 32 j.val)) S256x64.size (k0_off10_inb i v (chk i v) k j))
    (window x6 (k0_off11 i v k (BitVec.ofNat 32 j.val)) S1x1x1x256.size (k0_off11_inb i v (chk i v) k j))
    (extractStridedSlice S64x1024 ![64, 0] p.qt slices_S128x1024_o64_0_S64x1024) (extractStridedSlice S64x1024 ![64, 0] p.dt slices_S128x1024_o64_0_S64x1024)

/-- Key block `j` of a trip: the first head. -/
def pass0 (s : St F) : St F :=
  left (text0 p x4 x5 x6 i v k j) (k0_off9 i v k (BitVec.ofNat 32 j.val)) (k0_off9_inb i v (chk i v) k j)
    (k0_off8 i v k (BitVec.ofNat 32 j.val)) (k0_off8_inb i v (chk i v) k j) s

/-- The second head. -/
def pass1 (s : St F) : St F :=
  right (text1 p x4 x5 x6 i v k j) (k0_off12 i v k (BitVec.ofNat 32 j.val)) (k0_off12_inb i v (chk i v) k j)
    (k0_off11 i v k (BitVec.ofNat 32 j.val)) (k0_off11_inb i v (chk i v) k j) s

/-- Both heads. -/
def pass (s : St F) : St F := pass1 p x4 x5 x6 i v k j (pass0 p x4 x5 x6 i v k j s)

/-- One trip of the loop: two key blocks. -/
def trip (s : St F) : St F := pass p x4 x5 x6 i v k 1 (pass p x4 x5 x6 i v k 0 s)

end

/-- The state before trip `n`. -/
def before (s : St F) : ℕ → St F
  | 0 => s
  | n + 1 => if h : n < (k0_t1_loop i v).trips then trip p x4 x5 x6 i v ⟨n, h⟩ (before s n) else before s n

variable {𝒱 : Variants} {c : Dev nD} {bd : Option 𝒱.V} {E : Set ℕ}

set_option maxHeartbeats 4000000 in
/-- A trip of the loop computes `trip`. -/
theorem trip_run (arg3 : Memref sig .tc .vmem S1024x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S1x2x8x256 .f32) (harg6 : arg6.IsWhole)
    (arg7 : Memref sig .tc .vmem S1024x128 .f32) (harg7 : arg7.IsWhole) (arg8 : Memref sig .tc .vmem S1024x128 .bf16) (harg8 : arg8.IsWhole)
    (arg9 : Memref sig .tc .vmem S1x1x1024x3 .f32) (harg9 : arg9.IsWhole) (arg10 : Memref sig .tc .vmem S1024x128 .bf16) (harg10 : arg10.IsWhole)
    (arg11 : Memref sig .tc .vmem S2048x128 .bf16) (harg11 : arg11.IsWhole) (arg12 : Memref sig .tc .vmem S2048x128 .bf16) (harg12 : arg12.IsWhole)
    (arg13 : Memref sig .tc .vmem S1x2x8x256 .f32) (harg13 : arg13.IsWhole)
    (arg14 : Memref sig .tc .vmem S8x128x256 .f32) (harg14 : arg14.IsWhole) (arg15 : Memref sig .tc .vmem S8x128x256 .f32) (harg15 : arg15.IsWhole)
    (w : BitVec 32) (k : Fin (k0_t1_loop i v).trips) (s : St F) (Q : Acc F → sProp 𝕄) :
    (iprop(owns (c : Thread nD τ) arg4 fullShare x4 ∗ owns (c : Thread nD τ) arg5 fullShare x5 ∗ owns (c : Thread nD τ) arg6 fullShare x6
        ∗ owns (c : Thread nD τ) arg13 fullShare s.dc ∗ owns (c : Thread nD τ) arg14 fullShare s.dk ∗ owns (c : Thread nD τ) arg15 fullShare s.dv) : sProp 𝕄)
      ⊢ iprop((owns (c : Thread nD τ) arg4 fullShare x4 -∗ owns (c : Thread nD τ) arg5 fullShare x5 -∗ owns (c : Thread nD τ) arg6 fullShare x6
          -∗ owns (c : Thread nD τ) arg13 fullShare (trip p x4 x5 x6 i v k s).dc
          -∗ owns (c : Thread nD τ) arg14 fullShare (trip p x4 x5 x6 i v k s).dk -∗ owns (c : Thread nD τ) arg15 fullShare (trip p x4 x5 x6 i v k s).dv
          -∗ Q (trip p x4 x5 x6 i v k s).acc)
        -∗ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg15 harg15
            p.qt p.dt p.h0.q p.h1.q p.h0.d p.h1.d p.h0.e p.h1.e p.h0.l p.h1.l v (chk i v) w k s.acc) Q) := by
  obtain ⟨⟨a17, a18⟩, dk, dv, dc⟩ := s
  unfold k0_t1_body
  dsimp only
  rw [k0_part6_eq_skeleton]
  unfold k0_part6_skel
  rw [k0_part1_eq_skeleton, k0_part2_eq_skeleton, k0_part3_eq_skeleton, k0_part4_eq_skeleton, k0_part5_eq_skeleton]
  iintro ⟨H4, H5, H6, H13, H14, H15⟩ Hk
  rw [wp_bind]
  rw [wp_bind]
  unfold k0_part1_skel
  iapply (Cert.Fox.ld x4) $$ H4
  iintro H4
  iapply (Cert.Fox.ld x5) $$ H5
  iintro H5
  iapply (Cert.Fox.ld x6) $$ H6
  iintro H6
  iapply (Cert.Fox.ld _) $$ H14
  iintro H14
  iapply (Cert.Fox.ld _) $$ H14
  iintro H14
  iapply (Cert.Fox.st _) $$ H14
  iintro %dk1 %hdk1 H14
  iapply (Cert.Fox.ld _) $$ H15
  iintro H15
  rw [wp_pure]
  imodintro
  dsimp only
  rw [wp_bind]
  unfold k0_part2_skel
  iapply (Cert.Fox.ld _) $$ H15
  iintro H15
  iapply (Cert.Fox.st _) $$ H15
  iintro %dv1 %hdv1 H15
  iapply (Cert.Fox.ld _) $$ H13
  iintro H13
  iapply (Cert.Fox.ld _) $$ H13
  iintro H13
  iapply (Cert.Fox.st _) $$ H13
  iintro %dc1 %hdc1 H13
  iapply (Cert.Fox.ld x4) $$ H4
  iintro H4
  iapply (Cert.Fox.ld x5) $$ H5
  iintro H5
  iapply (Cert.Fox.ld x6) $$ H6
  iintro H6
  rw [wp_pure]
  imodintro
  dsimp only
  rw [wp_bind]
  unfold k0_part3_skel
  iapply (Cert.Fox.ld _) $$ H14
  iintro H14
  iapply (Cert.Fox.ld _) $$ H14
  iintro H14
  iapply (Cert.Fox.st _) $$ H14
  iintro %dk2 %hdk2 H14
  iapply (Cert.Fox.ld _) $$ H15
  iintro H15
  iapply (Cert.Fox.ld _) $$ H15
  iintro H15
  iapply (Cert.Fox.st _) $$ H15
  iintro %dv2 %hdv2 H15
  iapply (Cert.Fox.ld _) $$ H13
  iintro H13
  iapply (Cert.Fox.ld _) $$ H13
  iintro H13
  iapply (Cert.Fox.st _) $$ H13
  iintro %dc2 %hdc2 H13
  rw [wp_pure]
  imodintro
  dsimp only
  rw [wp_bind]
  unfold k0_part4_skel
  iapply (Cert.Fox.ld x4) $$ H4
  iintro H4
  iapply (Cert.Fox.ld x5) $$ H5
  iintro H5
  iapply (Cert.Fox.ld x6) $$ H6
  iintro H6
  iapply (Cert.Fox.ld _) $$ H14
  iintro H14
  iapply (Cert.Fox.ld _) $$ H14
  iintro H14
  iapply (Cert.Fox.st _) $$ H14
  iintro %dk3 %hdk3 H14
  iapply (Cert.Fox.ld _) $$ H15
  iintro H15
  rw [wp_pure]
  imodintro
  dsimp only
  rw [wp_bind]
  unfold k0_part5_skel
  iapply (Cert.Fox.ld _) $$ H15
  iintro H15
  iapply (Cert.Fox.st _) $$ H15
  iintro %dv3 %hdv3 H15
  iapply (Cert.Fox.ld _) $$ H13
  iintro H13
  iapply (Cert.Fox.ld _) $$ H13
  iintro H13
  iapply (Cert.Fox.st _) $$ H13
  iintro %dc3 %hdc3 H13
  iapply (Cert.Fox.ld x4) $$ H4
  iintro H4
  iapply (Cert.Fox.ld x5) $$ H5
  iintro H5
  iapply (Cert.Fox.ld x6) $$ H6
  iintro H6
  rw [wp_pure]
  imodintro
  dsimp only
  iapply (Cert.Fox.ld _) $$ H14
  iintro H14
  iapply (Cert.Fox.ld _) $$ H14
  iintro H14
  iapply (Cert.Fox.st _) $$ H14
  iintro %dk4 %hdk4 H14
  iapply (Cert.Fox.ld _) $$ H15
  iintro H15
  iapply (Cert.Fox.ld _) $$ H15
  iintro H15
  iapply (Cert.Fox.st _) $$ H15
  iintro %dv4 %hdv4 H15
  iapply (Cert.Fox.ld _) $$ H13
  iintro H13
  iapply (Cert.Fox.ld _) $$ H13
  iintro H13
  iapply (Cert.Fox.st _) $$ H13
  iintro %dc4 %hdc4 H13
  rw [wp_pure]
  imodintro
  dsimp only
  obtain ⟨s0, hs0⟩ : ∃ s : St F, s = ⟨(a17, a18), dk, dv, dc⟩ := ⟨_, rfl⟩
  obtain ⟨s1, hs1⟩ : ∃ s, s = pass0 p x4 x5 x6 i v k 0 s0 := ⟨_, rfl⟩
  obtain ⟨s2, hs2⟩ : ∃ s, s = pass1 p x4 x5 x6 i v k 0 s1 := ⟨_, rfl⟩
  obtain ⟨s3, hs3⟩ : ∃ s, s = pass0 p x4 x5 x6 i v k 1 s2 := ⟨_, rfl⟩
  obtain ⟨s4, hs4⟩ : ∃ s, s = pass1 p x4 x5 x6 i v k 1 s3 := ⟨_, rfl⟩
  have edk1 : dk1 = s1.dk := by rw [hdk1, hs1, hs0]; rfl
  have edv1 : dv1 = s1.dv := by rw [hdv1, hs1, hs0]; rfl
  have edc1 : dc1 = s1.dc := by rw [hdc1, hs1, hs0]; rfl
  have edk2 : dk2 = s2.dk := by rw [hdk2, hs2, edk1]; rfl
  have edv2 : dv2 = s2.dv := by rw [hdv2, hs2, edv1]; rfl
  have edc2 : dc2 = s2.dc := by rw [hdc2, hs2, edc1]; rfl
  have edk3 : dk3 = s3.dk := by rw [hdk3, hs3, edk2]; rfl
  have edv3 : dv3 = s3.dv := by rw [hdv3, hs3, edv2]; rfl
  have edc3 : dc3 = s3.dc := by rw [hdc3, hs3, edc2]; rfl
  have edk4 : dk4 = s4.dk := by rw [hdk4, hs4, edk3]; rfl
  have edv4 : dv4 = s4.dv := by rw [hdv4, hs4, edv3]; rfl
  have edc4 : dc4 = s4.dc := by rw [hdc4, hs4, edc3]; rfl
  have et : trip p x4 x5 x6 i v k ⟨(a17, a18), dk, dv, dc⟩ = s4 := by rw [hs4, hs3, hs2, hs1, hs0]; rfl
  rw [et]
  rw [pure_to (y := s4.acc)]
  · rw [wp_pure]
    imodintro
    rw [← edk4, ← edv4, ← edc4]
    iapply Hk $$ H4 H5 H6 H13 H14 H15
  · rw [hs4, hs3, hs2, hs1, hs0]; rfl

end Cert.Fox
-- ==== Proof.FoxBody.lean ====
module

public import proofs.«01_k».proof.Proof.FoxTrip

@[expose] public section

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal Cert.Kernel7Ideal.Gen
open VecWindow (window put)

variable {F : FTy → Type} [FloatOps F]

local notation "𝕄" => MT nD τ sig Unit (Elt F) ℕ (UR sig nD τ) ℕ

variable (p : Pro F) (x3 : Vec F S1024x128 .bf16) (x4 x5 : Vec F S2048x128 .bf16) (x6 : Vec F S1x2x8x256 .f32) (x7 : Vec F S1024x128 .f32)
  (x8 : Vec F S1024x128 .bf16) (x9 : Vec F S1x1x1024x3 .f32) (i : grid0.Coords)

/-- The values of a query block that every key block uses. -/
def pro : Pro F where
  qt := k0_pay107 (window x3 ![0, 0] S1024x128.size inb_S1024x128_S1024x128_0_0)
  dt := k0_pay108 (window x8 ![0, 0] S1024x128.size inb_S1024x128_S1024x128_0_0)
  h0 :=
    { q := k0_pay109 (window x3 ![0, 0] S1024x128.size inb_S1024x128_S1024x128_0_0)
      d := k0_pay111 (window x8 ![0, 0] S1024x128.size inb_S1024x128_S1024x128_0_0)
      e := k0_pay113 (window x8 ![0, 0] S1024x128.size inb_S1024x128_S1024x128_0_0) (window x7 ![0, 0] S1024x64.size inb_S1024x128_S1024x64_0_0)
      l := k0_pay116 (window x9 ![0, 0, 0, 0] S1x1x1024x1.size inb_S1x1x1024x3_S1x1x1024x1_0_0_0_0) }
  h1 :=
    { q := k0_pay110 (window x3 ![0, 0] S1024x128.size inb_S1024x128_S1024x128_0_0)
      d := k0_pay112 (window x8 ![0, 0] S1024x128.size inb_S1024x128_S1024x128_0_0)
      e := k0_pay115 (k0_pay114 (window x8 ![0, 0] S1024x128.size inb_S1024x128_S1024x128_0_0)) (window x7 ![0, 64] S1024x64.size inb_S1024x128_S1024x64_0_64)
      l := k0_pay117 (window x9 ![0, 0, 0, 1] S1x1x1024x1.size inb_S1x1x1024x3_S1x1x1024x1_0_0_0_1) }

/-- The word that says how many key blocks the query block visits. -/
def word : BitVec 32 := Scalar.fptosi 32 (k0_pay201 (window x9 ![0, 0, 0, 2] S1x1x1024x1.size inb_S1x1x1024x3_S1x1x1024x1_0_0_0_2))

/-- The first query block of a sequence. -/
abbrev first : Prop := Scalar.cmpi .ne (Scalar.extui (Scalar.cmpi .eq (BitVec.ofNat 32 (i 2).val) 0#32) : BitVec 32) 0#32 = 1#1

/-- An array that collects a gradient, after the first point's clearing. -/
def clear (w x : Vec F S8x128x256 .f32) : Vec F S8x128x256 .f32 := if first i then put x ![0, 0, 0] S8x128x256.size w else x
def clearC (w x : Vec F S1x2x8x256 .f32) : Vec F S1x2x8x256 .f32 := if first i then put x ![0, 0, 0, 0] S1x2x8x256.size w else x

/-- The state at the start of a query block. -/
def start (dk dv : Vec F S8x128x256 .f32) (dc : Vec F S1x2x8x256 .f32) : St F where
  acc := (k0_pay118, k0_pay118)
  dk := clear i k0_pay98 dk
  dv := clear i k0_pay99 dv
  dc := clearC i k0_pay100 dc

/-- Key block 0 of the diagonal, head 0. -/
def diag00 (s : St F) : St F :=
  left (edge0 p.h0 (window x4 (k0_off1 i 0#32) S256x64.size (k0_off1_inb i 0)) (window x5 (k0_off1 i 0#32) S256x64.size (k0_off1_inb i 0))
      (window x6 (k0_off2 i 0#32) S1x1x1x256.size (k0_off2_inb i 0)) (extractStridedSlice S64x1024 ![0, 0] p.qt slices_S128x1024_o0_0_S64x1024) (extractStridedSlice S64x1024 ![0, 0] p.dt slices_S128x1024_o0_0_S64x1024))
    (k0_off3 i 0#32) (k0_off3_inb i 0) (k0_off2 i 0#32) (k0_off2_inb i 0) s

/-- Key block 0 of the diagonal, head 1. -/
def diag01 (s : St F) : St F :=
  right (edge0 p.h1 (window x4 (k0_off4 i 0#32) S256x64.size (k0_off4_inb i 0)) (window x5 (k0_off4 i 0#32) S256x64.size (k0_off4_inb i 0))
      (window x6 (k0_off5 i 0#32) S1x1x1x256.size (k0_off5_inb i 0)) (extractStridedSlice S64x1024 ![64, 0] p.qt slices_S128x1024_o64_0_S64x1024) (extractStridedSlice S64x1024 ![64, 0] p.dt slices_S128x1024_o64_0_S64x1024))
    (k0_off6 i 0#32) (k0_off6_inb i 0) (k0_off5 i 0#32) (k0_off5_inb i 0) s

/-- Key block 1 of the diagonal, head 0. -/
def diag10 (s : St F) : St F :=
  left (edge1 p.h0 (window x4 (k0_off1 i 1#32) S256x64.size (k0_off1_inb i 1)) (window x5 (k0_off1 i 1#32) S256x64.size (k0_off1_inb i 1))
      (window x6 (k0_off2 i 1#32) S1x1x1x256.size (k0_off2_inb i 1)) (extractStridedSlice S64x768 ![0, 256] p.qt slices_S128x1024_o0_256_S64x768) (extractStridedSlice S64x768 ![0, 256] p.dt slices_S128x1024_o0_256_S64x768))
    (k0_off3 i 1#32) (k0_off3_inb i 1) (k0_off2 i 1#32) (k0_off2_inb i 1) s

/-- Key block 1 of the diagonal, head 1. -/
def diag11 (s : St F) : St F :=
  right (edge1 p.h1 (window x4 (k0_off4 i 1#32) S256x64.size (k0_off4_inb i 1)) (window x5 (k0_off4 i 1#32) S256x64.size (k0_off4_inb i 1))
      (window x6 (k0_off5 i 1#32) S1x1x1x256.size (k0_off5_inb i 1)) (extractStridedSlice S64x768 ![64, 256] p.qt slices_S128x1024_o64_256_S64x768) (extractStridedSlice S64x768 ![64, 256] p.dt slices_S128x1024_o64_256_S64x768))
    (k0_off6 i 1#32) (k0_off6_inb i 1) (k0_off5 i 1#32) (k0_off5_inb i 1) s

/-- Key block 2 of the diagonal, head 0. -/
def diag20 (s : St F) : St F :=
  left (edge2 p.h0 (window x4 (k0_off1 i 2#32) S256x64.size (k0_off1_inb i 2)) (window x5 (k0_off1 i 2#32) S256x64.size (k0_off1_inb i 2))
      (window x6 (k0_off2 i 2#32) S1x1x1x256.size (k0_off2_inb i 2)) (extractStridedSlice S64x512 ![0, 512] p.qt slices_S128x1024_o0_512_S64x512) (extractStridedSlice S64x512 ![0, 512] p.dt slices_S128x1024_o0_512_S64x512))
    (k0_off3 i 2#32) (k0_off3_inb i 2) (k0_off2 i 2#32) (k0_off2_inb i 2) s

/-- Key block 2 of the diagonal, head 1. -/
def diag21 (s : St F) : St F :=
  right (edge2 p.h1 (window x4 (k0_off4 i 2#32) S256x64.size (k0_off4_inb i 2)) (window x5 (k0_off4 i 2#32) S256x64.size (k0_off4_inb i 2))
      (window x6 (k0_off5 i 2#32) S1x1x1x256.size (k0_off5_inb i 2)) (extractStridedSlice S64x512 ![64, 512] p.qt slices_S128x1024_o64_512_S64x512) (extractStridedSlice S64x512 ![64, 512] p.dt slices_S128x1024_o64_512_S64x512))
    (k0_off6 i 2#32) (k0_off6_inb i 2) (k0_off5 i 2#32) (k0_off5_inb i 2) s

/-- Key block 3 of the diagonal, head 0. -/
def diag30 (s : St F) : St F :=
  left (edge3 p.h0 (window x4 (k0_off1 i 3#32) S256x64.size (k0_off1_inb i 3)) (window x5 (k0_off1 i 3#32) S256x64.size (k0_off1_inb i 3))
      (window x6 (k0_off2 i 3#32) S1x1x1x256.size (k0_off2_inb i 3)) (extractStridedSlice S64x256 ![0, 768] p.qt slices_S128x1024_o0_768_S64x256) (extractStridedSlice S64x256 ![0, 768] p.dt slices_S128x1024_o0_768_S64x256))
    (k0_off3 i 3#32) (k0_off3_inb i 3) (k0_off2 i 3#32) (k0_off2_inb i 3) s

/-- Key block 3 of the diagonal, head 1. -/
def diag31 (s : St F) : St F :=
  right (edge3 p.h1 (window x4 (k0_off4 i 3#32) S256x64.size (k0_off4_inb i 3)) (window x5 (k0_off4 i 3#32) S256x64.size (k0_off4_inb i 3))
      (window x6 (k0_off5 i 3#32) S1x1x1x256.size (k0_off5_inb i 3)) (extractStridedSlice S64x256 ![64, 768] p.qt slices_S128x1024_o64_768_S64x256) (extractStridedSlice S64x256 ![64, 768] p.dt slices_S128x1024_o64_768_S64x256))
    (k0_off6 i 3#32) (k0_off6_inb i 3) (k0_off5 i 3#32) (k0_off5_inb i 3) s

/-- The state after the key blocks on the diagonal. -/
def diags (s : St F) : St F :=
  diag31 p x4 x5 x6 i (diag30 p x4 x5 x6 i (diag21 p x4 x5 x6 i (diag20 p x4 x5 x6 i
    (diag11 p x4 x5 x6 i (diag10 p x4 x5 x6 i (diag01 p x4 x5 x6 i (diag00 p x4 x5 x6 i s)))))))

/-- The state after the loop over the key blocks below the diagonal. -/
def looped (v : BitVec 32) (s : St F) : St F := before p x4 x5 x6 i v s (k0_t1_loop i v).trips

/-- The state when the query block is done. -/
def done (dk dv : Vec F S8x128x256 .f32) (dc : Vec F S1x2x8x256 .f32) : St F :=
  looped (pro x3 x7 x8 x9) x4 x5 x6 i (word x9) (diags (pro x3 x7 x8 x9) x4 x5 x6 i (start i dk dv dc))

/-- The block of the gradient of `q`. -/
def dq (s : St F) (x10 : Vec F S1024x128 .bf16) : Vec F S1024x128 .bf16 :=
  put (put x10 ![0, 0] S1024x64.size (k0_pay3 s.acc.1)) ![0, 64] S1024x64.size (k0_pay4 s.acc.2)

/-- The block of the gradient of `k` that the last query block writes. -/
def dkOut (x : Vec F S8x128x256 .f32) (x11 : Vec F S2048x128 .bf16) : Vec F S2048x128 .bf16 :=
  put (put (put (put (put (put (put (put x11 ![0, 0] S256x128.size (k0_pay86 (window x ![0, 0, 0] S1x128x256.size inb_S8x128x256_S1x128x256_0_0_0))) ![256, 0] S256x128.size
    (k0_pay87 (window x ![1, 0, 0] S1x128x256.size inb_S8x128x256_S1x128x256_1_0_0))) ![512, 0] S256x128.size
    (k0_pay88 (window x ![2, 0, 0] S1x128x256.size inb_S8x128x256_S1x128x256_2_0_0))) ![768, 0] S256x128.size
    (k0_pay89 (window x ![3, 0, 0] S1x128x256.size inb_S8x128x256_S1x128x256_3_0_0))) ![1024, 0] S256x128.size
    (k0_pay90 (window x ![4, 0, 0] S1x128x256.size inb_S8x128x256_S1x128x256_4_0_0))) ![1280, 0] S256x128.size
    (k0_pay92 (k0_pay91 (window x ![5, 0, 0] S1x128x256.size inb_S8x128x256_S1x128x256_5_0_0)))) ![1536, 0] S256x128.size
    (k0_pay93 (window x ![6, 0, 0] S1x128x256.size inb_S8x128x256_S1x128x256_6_0_0))) ![1792, 0] S256x128.size
    (k0_pay94 (window x ![7, 0, 0] S1x128x256.size inb_S8x128x256_S1x128x256_7_0_0))

/-- The block of the gradient of `v` that the last query block writes. -/
def dvOut (x : Vec F S8x128x256 .f32) (x12 : Vec F S2048x128 .bf16) : Vec F S2048x128 .bf16 :=
  put (put (put (put (put (put (put (put x12 ![0, 0] S256x128.size (k0_pay95 (window x ![0, 0, 0] S1x128x256.size inb_S8x128x256_S1x128x256_0_0_0))) ![256, 0] S256x128.size
    (k0_pay96 (window x ![1, 0, 0] S1x128x256.size inb_S8x128x256_S1x128x256_1_0_0))) ![512, 0] S256x128.size
    (k0_pay97 (window x ![2, 0, 0] S1x128x256.size inb_S8x128x256_S1x128x256_2_0_0))) ![768, 0] S256x128.size
    (k0_pay5 (window x ![3, 0, 0] S1x128x256.size inb_S8x128x256_S1x128x256_3_0_0))) ![1024, 0] S256x128.size
    (k0_pay6 (window x ![4, 0, 0] S1x128x256.size inb_S8x128x256_S1x128x256_4_0_0))) ![1280, 0] S256x128.size
    (k0_pay7 (window x ![5, 0, 0] S1x128x256.size inb_S8x128x256_S1x128x256_5_0_0))) ![1536, 0] S256x128.size
    (k0_pay8 (window x ![6, 0, 0] S1x128x256.size inb_S8x128x256_S1x128x256_6_0_0))) ![1792, 0] S256x128.size
    (k0_pay9 (window x ![7, 0, 0] S1x128x256.size inb_S8x128x256_S1x128x256_7_0_0))

/-- The blocks of the gradients of `k` and `v`, written at the last query block. -/
def last11 (s : St F) (x11 : Vec F S2048x128 .bf16) : Vec F S2048x128 .bf16 := if k0_cond2 i = 1#1 then dkOut s.dk x11 else x11
def last12 (s : St F) (x12 : Vec F S2048x128 .bf16) : Vec F S2048x128 .bf16 := if k0_cond2 i = 1#1 then dvOut s.dv x12 else x12

/-- The loop that visits no key block: the kernel does not split its range. -/
theorem no_trips (v : BitVec 32) : (k0_t2_loop i v).trips = 0 := by
  obtain ⟨k, hk, h⟩ := clip (i 2) v
  rw [show k0_t2_loop i v = k0_t2_loop (point (i 2)) (BitVec.ofNat 32 k.val) by
    unfold k0_t2_loop; dsimp only; rw [h]; rfl]
  have : ∀ (n : Fin 2) (k : Fin 5), (k0_t2_loop (point n) (BitVec.ofNat 32 k.val)).trips = 0 := by decide +kernel
  exact this (i 2) k

variable {𝒱 : Variants} {c : Dev nD} {bd : Option 𝒱.V} {E : Set ℕ}
variable (arg3 : Memref sig .tc .vmem S1024x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S1x2x8x256 .f32) (harg6 : arg6.IsWhole)
    (arg7 : Memref sig .tc .vmem S1024x128 .f32) (harg7 : arg7.IsWhole) (arg8 : Memref sig .tc .vmem S1024x128 .bf16) (harg8 : arg8.IsWhole)
    (arg9 : Memref sig .tc .vmem S1x1x1024x3 .f32) (harg9 : arg9.IsWhole) (arg10 : Memref sig .tc .vmem S1024x128 .bf16) (harg10 : arg10.IsWhole)
    (arg11 : Memref sig .tc .vmem S2048x128 .bf16) (harg11 : arg11.IsWhole) (arg12 : Memref sig .tc .vmem S2048x128 .bf16) (harg12 : arg12.IsWhole)
    (arg13 : Memref sig .tc .vmem S1x2x8x256 .f32) (harg13 : arg13.IsWhole)
    (arg14 : Memref sig .tc .vmem S8x128x256 .f32) (harg14 : arg14.IsWhole) (arg15 : Memref sig .tc .vmem S8x128x256 .f32) (harg15 : arg15.IsWhole)

set_option maxHeartbeats 2000000 in
/-- The first part: the clearing and the loads of the query block. -/
theorem part15_run (dk dv : Vec F S8x128x256 .f32) (dc : Vec F S1x2x8x256 .f32) (Q : _ → sProp 𝕄) :
    (iprop(owns (c : Thread nD τ) arg3 fullShare x3 ∗ owns (c : Thread nD τ) arg7 fullShare x7 ∗ owns (c : Thread nD τ) arg8 fullShare x8
        ∗ owns (c : Thread nD τ) arg13 fullShare dc ∗ owns (c : Thread nD τ) arg14 fullShare dk ∗ owns (c : Thread nD τ) arg15 fullShare dv) : sProp 𝕄)
      ⊢ iprop((owns (c : Thread nD τ) arg3 fullShare x3 -∗ owns (c : Thread nD τ) arg7 fullShare x7 -∗ owns (c : Thread nD τ) arg8 fullShare x8
          -∗ owns (c : Thread nD τ) arg13 fullShare (start i dk dv dc).dc -∗ owns (c : Thread nD τ) arg14 fullShare (start i dk dv dc).dk
          -∗ owns (c : Thread nD τ) arg15 fullShare (start i dk dv dc).dv
          -∗ Q ⟨BitVec.ofNat 32 (i 2).val, k0_pay101, k0_pay102, k0_pay103, k0_pay104, (pro x3 x7 x8 x9).qt, (pro x3 x7 x8 x9).dt,
              (pro x3 x7 x8 x9).h0.q, (pro x3 x7 x8 x9).h1.q, (pro x3 x7 x8 x9).h0.d, (pro x3 x7 x8 x9).h1.d, (pro x3 x7 x8 x9).h0.e, k0_pay114 (window x8 ![0, 0] S1024x128.size inb_S1024x128_S1024x128_0_0)⟩)
        -∗ wp frame (wpE (defs₀ (F := F)) 𝒱 (c : Thread nD τ) bd) E (k0_part15 (F := F) i arg3 harg3 arg4 harg4 arg5 harg5 arg6 harg6 arg7 harg7 arg8 harg8 arg9 harg9 arg10 harg10 arg11 harg11 arg12 harg12 arg13 harg13 arg14 harg14 arg15 harg15) Q) := by
  rw [k0_part15_eq_skeleton]
  unfold k0_part15_skel pro start clear clearC
  iintro ⟨H3, H7, H8, H13, H14, H15⟩ Hk
  dsimp only
  by_cases h : first i
  · rw [dif_pos h, if_pos h, if_pos h, if_pos h]
    iapply (ld _) $$ H14
    iintro H14
    iapply (st _) $$ H14
    iintro %y14 %h14 H14
    iapply (ld _) $$ H15
    iintro H15
    iapply (st _) $$ H15
    iintro %y15 %h15 H15
    iapply (ld _) $$ H13
    iintro H13
    iapply (st _) $$ H13
    iintro %y13 %h13 H13
    subst h13 h14 h15
    iapply (ld _) $$ H3
    iintro H3
    iapply (ld _) $$ H8
    iintro H8
    iapply (ld _) $$ H7
    iintro H7
    rw [wp_pure]
    imodintro
    iapply Hk $$ H3 H7 H8 H13 H14 H15
  · rw [dif_neg h, if_neg h, if_neg h, if_neg h]
    iapply (ld _) $$ H3
    iintro H3
    iapply (ld _) $$ H8
    iintro H8
    iapply (ld _) $$ H7
    iintro H7
    rw [wp_pure]
    imodintro
    iapply Hk $$ H3 H7 H8 H13 H14 H15

end Cert.Fox
-- ==== Proof.FoxRun.lean ====
module

public import proofs.«01_k».proof.Proof.FoxBody

@[expose] public section

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel7Ideal Cert.Kernel7Ideal.Gen
open VecWindow (window put)

variable {F : FTy → Type} [FloatOps F]

local notation "𝕄" => MT nD τ sig Unit (Elt F) ℕ (UR sig nD τ) ℕ

variable (p : Pro F) (x3 : Vec F S1024x128 .bf16) (x4 x5 : Vec F S2048x128 .bf16) (x6 : Vec F S1x2x8x256 .f32) (x7 : Vec F S1024x128 .f32)
  (x8 : Vec F S1024x128 .bf16) (x9 : Vec F S1x1x1024x3 .f32) (i : grid0.Coords)
variable {𝒱 : Variants} {c : Dev nD} {bd : Option 𝒱.V} {E : Set ℕ}
variable (arg3 : Memref sig .tc .vmem S1024x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S1x2x8x256 .f32) (harg6 : arg6.IsWhole)
    (arg7 : Memref sig .tc .vmem S1024x128 .f32) (harg7 : arg7.IsWhole) (arg8 : Memref sig .tc .vmem S1024x128 .bf16) (harg8 : arg8.IsWhole)
    (arg9 : Memref sig .tc .vmem S1x1x1024x3 .f32) (harg9 : arg9.IsWhole) (arg10 : Memref sig .tc .vmem S1024x128 .bf16) (harg10 : arg10.IsWhole)
    (arg11 : Memref sig .tc .vmem S2048x128 .bf16) (harg11 : arg11.IsWhole) (arg12 : Memref sig .tc .vmem S2048x128 .bf16) (harg12 : arg12.IsWhole)
    (arg13 : Memref sig .tc .vmem S1x2x8x256 .f32) (harg13 : arg13.IsWhole)
    (arg14 : Memref sig .tc .vmem S8x128x256 .f32) (harg14 : arg14.IsWhole) (arg15 : Memref sig .tc .vmem S8x128x256 .f32) (harg15 : arg15.IsWhole)

set_option maxHeartbeats 2000000 in
/-- The last of the straight parts: it ends the diagonal and reads how many key blocks the row skips. -/
theorem part29_run (arg2 : BitVec 32) (v437 : FVec F S1024x64 .f32) (v506 : BitVec 32) (v507 : FVec F S256x64 .f32) (v512 : FVec F S256x64 .bf16) (v535 : FVec F S256x256 .f32)
    (v536 : FVec F S256x256 .bf16) (v559 : Vec F S1x1x1x256 .f32) (X : Vec F S1x2x8x256 .f32) (Q : _ → sProp 𝕄) :
    (iprop(owns (c : Thread nD τ) arg13 fullShare X ∗ owns (c : Thread nD τ) arg9 fullShare x9) : sProp 𝕄)
      ⊢ iprop((∀ (Y : Vec F S1x2x8x256 .f32) (v w : BitVec 32), ⌜Y = put X (k0_off5 i 3#32) S1x1x1x256.size (k0_pay199 v535 v559)⌝ -∗ ⌜v = word x9⌝
          -∗ owns (c : Thread nD τ) arg13 fullShare Y -∗ owns (c : Thread nD τ) arg9 fullShare x9
          -∗ Q ⟨k0_pay200 v437 v507 v512 v536, v, chk i v, w⟩)
        -∗ wp frame (wpE (defs₀ (F := F)) 𝒱 (c : Thread nD τ) bd) E (k0_part29 (F := F) i arg3 harg3 arg4 harg4 arg5 harg5 arg6 harg6 arg7 harg7 arg8 harg8 arg9 harg9 arg10 harg10 arg11 harg11 arg12 harg12 arg13 harg13 arg14 harg14 arg15 harg15 arg2 v437 v506 v507 v512 v535 v536 v559) Q) := by
  rw [k0_part29_eq_skeleton]
  unfold k0_part29_skel word
  iintro ⟨H13, H9⟩ Hk
  iapply (ld _) $$ H13
  iintro H13
  iapply (st _) $$ H13
  iintro %Y %hY H13
  iapply (ld _) $$ H9
  iintro H9
  iapply (asm (chk i _))
  rw [wp_pure]
  imodintro
  iapply Hk $$ %Y %_ %_ %hY %rfl H13 H9

set_option maxHeartbeats 8000000 in
/-- What the body leaves of its arrays. -/
theorem body_run (x10 : Vec F S1024x128 .bf16) (x11 x12 : Vec F S2048x128 .bf16) (x13 : Vec F S1x2x8x256 .f32) (x14 x15 : Vec F S8x128x256 .f32) (Q : PUnit → sProp 𝕄) :
    (iprop(owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15) : sProp 𝕄)
      ⊢ iprop((owns (c : Thread nD τ) arg3 fullShare x3
          -∗ owns (c : Thread nD τ) arg4 fullShare x4
          -∗ owns (c : Thread nD τ) arg5 fullShare x5
          -∗ owns (c : Thread nD τ) arg6 fullShare x6
          -∗ owns (c : Thread nD τ) arg7 fullShare x7
          -∗ owns (c : Thread nD τ) arg8 fullShare x8
          -∗ owns (c : Thread nD τ) arg9 fullShare x9
          -∗ owns (c : Thread nD τ) arg10 fullShare (dq (done x3 x4 x5 x6 x7 x8 x9 i x14 x15 x13) x10)
          -∗ owns (c : Thread nD τ) arg11 fullShare (last11 i (done x3 x4 x5 x6 x7 x8 x9 i x14 x15 x13) x11)
          -∗ owns (c : Thread nD τ) arg12 fullShare (last12 i (done x3 x4 x5 x6 x7 x8 x9 i x14 x15 x13) x12)
          -∗ owns (c : Thread nD τ) arg13 fullShare (done x3 x4 x5 x6 x7 x8 x9 i x14 x15 x13).dc
          -∗ owns (c : Thread nD τ) arg14 fullShare (done x3 x4 x5 x6 x7 x8 x9 i x14 x15 x13).dk
          -∗ owns (c : Thread nD τ) arg15 fullShare (done x3 x4 x5 x6 x7 x8 x9 i x14 x15 x13).dv
          -∗ Q ⟨⟩)
        -∗ wp frame (wpE (defs₀ (F := F)) 𝒱 (c : Thread nD τ) bd) E (cc0_fox_dattn (F := F) i arg3 harg3 arg4 harg4 arg5 harg5 arg6 harg6 arg7 harg7 arg8 harg8 arg9 harg9 arg10 harg10 arg11 harg11 arg12 harg12 arg13 harg13 arg14 harg14 arg15 harg15) Q) := by
  rw [cc0_fox_dattn_eq_skeleton]
  unfold cc0_fox_dattn_skel
  iintro ⟨H3, H4, H5, H6, H7, H8, H9, H10, H11, H12, H13, H14, H15⟩ Hk
  rw [wp_bind]
  iapply (part15_run x3 x7 x8 x9 i arg3 harg3 arg4 harg4 arg5 harg5 arg6 harg6 arg7 harg7 arg8 harg8 arg9 harg9 arg10 harg10 arg11 harg11 arg12 harg12 arg13 harg13 arg14 harg14 arg15 harg15 x14 x15 x13 _) $$ [H3 H7 H8 H13 H14 H15]
  · isplitl [H3]; · iexact H3
    isplitl [H7]; · iexact H7
    isplitl [H8]; · iexact H8
    isplitl [H13]; · iexact H13
    isplitl [H14]; · iexact H14
    iexact H15
  iintro H3 H7 H8 H13 H14 H15
  dsimp only
  obtain ⟨s0, hs0⟩ : ∃ s : St F, s = start i x14 x15 x13 := ⟨_, rfl⟩
  rw [← hs0]
  have ha : s0.acc = (k0_pay118, k0_pay118) := by rw [hs0]; rfl
  obtain ⟨q, hq⟩ : ∃ q : Pro F, q = pro x3 x7 x8 x9 := ⟨_, rfl⟩
  have he : q.h1.e = k0_pay115 (k0_pay114 (window x8 ![0, 0] S1024x128.size inb_S1024x128_S1024x128_0_0)) (window x7 ![0, 64] S1024x64.size inb_S1024x128_S1024x64_0_64) := by rw [hq]; rfl
  have hl0 : q.h0.l = k0_pay116 (window x9 ![0, 0, 0, 0] S1x1x1024x1.size inb_S1x1x1024x3_S1x1x1024x1_0_0_0_0) := by rw [hq]; rfl
  have hl1 : q.h1.l = k0_pay117 (window x9 ![0, 0, 0, 1] S1x1x1024x1.size inb_S1x1x1024x3_S1x1x1024x1_0_0_0_1) := by rw [hq]; rfl
  rw [show (pro x3 x7 x8 x9).qt = q.qt by rw [hq]]
  rw [show (pro x3 x7 x8 x9).dt = q.dt by rw [hq]]
  rw [show (pro x3 x7 x8 x9).h0.q = q.h0.q by rw [hq]]
  rw [show (pro x3 x7 x8 x9).h1.q = q.h1.q by rw [hq]]
  rw [show (pro x3 x7 x8 x9).h0.d = q.h0.d by rw [hq]]
  rw [show (pro x3 x7 x8 x9).h1.d = q.h1.d by rw [hq]]
  rw [show (pro x3 x7 x8 x9).h0.e = q.h0.e by rw [hq]]
  rw [wp_bind, k0_part16_eq_skeleton]
  unfold k0_part16_skel
  iapply (ld _) $$ H7
  iintro H7
  iapply (ld _) $$ H9
  iintro H9
  iapply (ld _) $$ H9
  iintro H9
  iapply (ld _) $$ H4
  iintro H4
  iapply (ld _) $$ H5
  iintro H5
  iapply (ld _) $$ H6
  iintro H6
  rw [← he, ← hl0, ← hl1]
  rw [wp_pure]
  imodintro
  dsimp only
  rw [wp_bind, k0_part17_eq_skeleton]
  unfold k0_part17_skel
  iapply (ld _) $$ H14
  iintro H14
  iapply (ld _) $$ H14
  iintro H14
  iapply (st _) $$ H14
  iintro %dk1 %hdk1 H14
  iapply (ld _) $$ H15
  iintro H15
  iapply (ld _) $$ H15
  iintro H15
  iapply (st _) $$ H15
  iintro %dv1 %hdv1 H15
  iapply (ld _) $$ H13
  iintro H13
  iapply (ld _) $$ H13
  iintro H13
  iapply (st _) $$ H13
  iintro %dc1 %hdc1 H13
  rw [wp_pure]
  imodintro
  dsimp only
  rw [wp_bind, k0_part18_eq_skeleton]
  unfold k0_part18_skel
  iapply (ld _) $$ H4
  iintro H4
  iapply (ld _) $$ H5
  iintro H5
  iapply (ld _) $$ H6
  iintro H6
  iapply (ld _) $$ H14
  iintro H14
  iapply (ld _) $$ H14
  iintro H14
  iapply (st _) $$ H14
  iintro %dk2 %hdk2 H14
  iapply (ld _) $$ H15
  iintro H15
  iapply (ld _) $$ H15
  iintro H15
  rw [wp_pure]
  imodintro
  dsimp only
  rw [wp_bind, k0_part19_eq_skeleton]
  unfold k0_part19_skel
  iapply (st _) $$ H15
  iintro %dv2 %hdv2 H15
  iapply (ld _) $$ H13
  iintro H13
  iapply (ld _) $$ H13
  iintro H13
  iapply (st _) $$ H13
  iintro %dc2 %hdc2 H13
  iapply (ld _) $$ H4
  iintro H4
  iapply (ld _) $$ H5
  iintro H5
  iapply (ld _) $$ H6
  iintro H6
  rw [wp_pure]
  imodintro
  dsimp only
  rw [wp_bind, k0_part20_eq_skeleton]
  unfold k0_part20_skel
  iapply (ld _) $$ H14
  iintro H14
  iapply (ld _) $$ H14
  iintro H14
  iapply (st _) $$ H14
  iintro %dk3 %hdk3 H14
  iapply (ld _) $$ H15
  iintro H15
  iapply (ld _) $$ H15
  iintro H15
  iapply (st _) $$ H15
  iintro %dv3 %hdv3 H15
  iapply (ld _) $$ H13
  iintro H13
  iapply (ld _) $$ H13
  iintro H13
  iapply (st _) $$ H13
  iintro %dc3 %hdc3 H13
  rw [wp_pure]
  imodintro
  rw [wp_bind, k0_part21_eq_skeleton]
  unfold k0_part21_skel
  iapply (ld _) $$ H4
  iintro H4
  iapply (ld _) $$ H5
  iintro H5
  iapply (ld _) $$ H6
  iintro H6
  iapply (ld _) $$ H14
  iintro H14
  iapply (ld _) $$ H14
  iintro H14
  rw [wp_pure]
  imodintro
  dsimp only
  rw [wp_bind, k0_part22_eq_skeleton]
  unfold k0_part22_skel
  iapply (st _) $$ H14
  iintro %dk4 %hdk4 H14
  iapply (ld _) $$ H15
  iintro H15
  iapply (ld _) $$ H15
  iintro H15
  iapply (st _) $$ H15
  iintro %dv4 %hdv4 H15
  iapply (ld _) $$ H13
  iintro H13
  iapply (ld _) $$ H13
  iintro H13
  iapply (st _) $$ H13
  iintro %dc4 %hdc4 H13
  iapply (ld _) $$ H4
  iintro H4
  iapply (ld _) $$ H5
  iintro H5
  rw [wp_pure]
  imodintro
  dsimp only
  rw [wp_bind, k0_part23_eq_skeleton]
  unfold k0_part23_skel
  iapply (ld _) $$ H6
  iintro H6
  iapply (ld _) $$ H14
  iintro H14
  iapply (ld _) $$ H14
  iintro H14
  iapply (st _) $$ H14
  iintro %dk5 %hdk5 H14
  iapply (ld _) $$ H15
  iintro H15
  iapply (ld _) $$ H15
  iintro H15
  iapply (st _) $$ H15
  iintro %dv5 %hdv5 H15
  rw [wp_pure]
  imodintro
  dsimp only
  rw [wp_bind, k0_part24_eq_skeleton]
  unfold k0_part24_skel
  iapply (ld _) $$ H13
  iintro H13
  iapply (ld _) $$ H13
  iintro H13
  iapply (st _) $$ H13
  iintro %dc5 %hdc5 H13
  iapply (ld _) $$ H4
  iintro H4
  iapply (ld _) $$ H5
  iintro H5
  iapply (ld _) $$ H6
  iintro H6
  rw [wp_pure]
  imodintro
  dsimp only
  rw [wp_bind, k0_part25_eq_skeleton]
  unfold k0_part25_skel
  iapply (ld _) $$ H14
  iintro H14
  iapply (ld _) $$ H14
  iintro H14
  iapply (st _) $$ H14
  iintro %dk6 %hdk6 H14
  iapply (ld _) $$ H15
  iintro H15
  iapply (ld _) $$ H15
  iintro H15
  iapply (st _) $$ H15
  iintro %dv6 %hdv6 H15
  iapply (ld _) $$ H13
  iintro H13
  iapply (ld _) $$ H13
  iintro H13
  iapply (st _) $$ H13
  iintro %dc6 %hdc6 H13
  rw [wp_pure]
  imodintro
  rw [wp_bind, k0_part26_eq_skeleton]
  unfold k0_part26_skel
  iapply (ld _) $$ H4
  iintro H4
  iapply (ld _) $$ H5
  iintro H5
  iapply (ld _) $$ H6
  iintro H6
  iapply (ld _) $$ H14
  iintro H14
  iapply (ld _) $$ H14
  iintro H14
  iapply (st _) $$ H14
  iintro %dk7 %hdk7 H14
  rw [wp_pure]
  imodintro
  dsimp only
  rw [wp_bind, k0_part27_eq_skeleton]
  unfold k0_part27_skel
  iapply (ld _) $$ H15
  iintro H15
  iapply (ld _) $$ H15
  iintro H15
  iapply (st _) $$ H15
  iintro %dv7 %hdv7 H15
  iapply (ld _) $$ H13
  iintro H13
  iapply (ld _) $$ H13
  iintro H13
  iapply (st _) $$ H13
  iintro %dc7 %hdc7 H13
  iapply (ld _) $$ H4
  iintro H4
  iapply (ld _) $$ H5
  iintro H5
  rw [wp_pure]
  imodintro
  dsimp only
  rw [wp_bind, k0_part28_eq_skeleton]
  unfold k0_part28_skel
  iapply (ld _) $$ H6
  iintro H6
  iapply (ld _) $$ H14
  iintro H14
  iapply (ld _) $$ H14
  iintro H14
  iapply (st _) $$ H14
  iintro %dk8 %hdk8 H14
  iapply (ld _) $$ H15
  iintro H15
  iapply (ld _) $$ H15
  iintro H15
  iapply (st _) $$ H15
  iintro %dv8 %hdv8 H15
  iapply (ld _) $$ H13
  iintro H13
  rw [wp_pure]
  imodintro
  dsimp only
  rw [wp_bind]
  iapply (part29_run x9 i arg3 harg3 arg4 harg4 arg5 harg5 arg6 harg6 arg7 harg7 arg8 harg8 arg9 harg9 arg10 harg10 arg11 harg11 arg12 harg12 arg13 harg13 arg14 harg14 arg15 harg15 _ _ _ _ _ _ _ _ _ _) $$ [H13 H9]
  · isplitl [H13]; · iexact H13
    iexact H9
  iintro %dc8 %v %w %hdc8 %hv H13 H9
  dsimp only
  obtain ⟨s1, hs1⟩ : ∃ s, s = diag00 q x4 x5 x6 i s0 := ⟨_, rfl⟩
  obtain ⟨s2, hs2⟩ : ∃ s, s = diag01 q x4 x5 x6 i s1 := ⟨_, rfl⟩
  obtain ⟨s3, hs3⟩ : ∃ s, s = diag10 q x4 x5 x6 i s2 := ⟨_, rfl⟩
  obtain ⟨s4, hs4⟩ : ∃ s, s = diag11 q x4 x5 x6 i s3 := ⟨_, rfl⟩
  obtain ⟨s5, hs5⟩ : ∃ s, s = diag20 q x4 x5 x6 i s4 := ⟨_, rfl⟩
  obtain ⟨s6, hs6⟩ : ∃ s, s = diag21 q x4 x5 x6 i s5 := ⟨_, rfl⟩
  obtain ⟨s7, hs7⟩ : ∃ s, s = diag30 q x4 x5 x6 i s6 := ⟨_, rfl⟩
  obtain ⟨s8, hs8⟩ : ∃ s, s = diag31 q x4 x5 x6 i s7 := ⟨_, rfl⟩
  have edk1 : dk1 = s1.dk := by
    rw [hdk1, hs1]
    unfold diag00 left edge0; dsimp only; rw [hl0]; rfl
  have edv1 : dv1 = s1.dv := by
    rw [hdv1, hs1]
    unfold diag00 left edge0; dsimp only; rw [hl0]; rfl
  have edc1 : dc1 = s1.dc := by
    rw [hdc1, hs1]
    unfold diag00 left edge0; dsimp only; rw [hl0]; rfl
  have edk2 : dk2 = s2.dk := by
    rw [hdk2, hs2, edk1]
    rfl
  have edv2 : dv2 = s2.dv := by
    rw [hdv2, hs2, edv1]
    rfl
  have edc2 : dc2 = s2.dc := by
    rw [hdc2, hs2, edc1]
    rfl
  have edk3 : dk3 = s3.dk := by
    rw [hdk3, hs3, edk2]
    rfl
  have edv3 : dv3 = s3.dv := by
    rw [hdv3, hs3, edv2]
    rfl
  have edc3 : dc3 = s3.dc := by
    rw [hdc3, hs3, edc2]
    rfl
  have edk4 : dk4 = s4.dk := by
    rw [hdk4, hs4, edk3]
    rfl
  have edv4 : dv4 = s4.dv := by
    rw [hdv4, hs4, edv3]
    rfl
  have edc4 : dc4 = s4.dc := by
    rw [hdc4, hs4, edc3]
    rfl
  have edk5 : dk5 = s5.dk := by
    rw [hdk5, hs5, edk4]
    rfl
  have edv5 : dv5 = s5.dv := by
    rw [hdv5, hs5, edv4]
    rfl
  have edc5 : dc5 = s5.dc := by
    rw [hdc5, hs5, edc4]
    rfl
  have edk6 : dk6 = s6.dk := by
    rw [hdk6, hs6, edk5]
    rfl
  have edv6 : dv6 = s6.dv := by
    rw [hdv6, hs6, edv5]
    rfl
  have edc6 : dc6 = s6.dc := by
    rw [hdc6, hs6, edc5]
    rfl
  have edk7 : dk7 = s7.dk := by
    rw [hdk7, hs7, edk6]
    rfl
  have edv7 : dv7 = s7.dv := by
    rw [hdv7, hs7, edv6]
    rfl
  have edc7 : dc7 = s7.dc := by
    rw [hdc7, hs7, edc6]
    rfl
  have edk8 : dk8 = s8.dk := by
    rw [hdk8, hs8, edk7]
    rfl
  have edv8 : dv8 = s8.dv := by
    rw [hdv8, hs8, edv7]
    rfl
  have edc8 : dc8 = s8.dc := by
    rw [hdc8, hs8, edc7]
    rfl
  subst edk8 edv8 edc8
  iapply (Scf.wp_for_bind _ _ _ _ _ _ _ _ _ (fun n (acc : Acc F) => iprop(⌜acc = (before q x4 x5 x6 i v s8 n).acc⌝
      ∗ owns (c : Thread nD τ) arg4 fullShare x4 ∗ owns (c : Thread nD τ) arg5 fullShare x5 ∗ owns (c : Thread nD τ) arg6 fullShare x6
      ∗ owns (c : Thread nD τ) arg13 fullShare (before q x4 x5 x6 i v s8 n).dc
      ∗ owns (c : Thread nD τ) arg14 fullShare (before q x4 x5 x6 i v s8 n).dk
      ∗ owns (c : Thread nD τ) arg15 fullShare (before q x4 x5 x6 i v s8 n).dv)) ?_) $$ [H4 H5 H6 H13 H14 H15]
  · intro k acc
    iintro ⟨%hacc, H4, H5, H6, H13, H14, H15⟩
    subst hacc
    have hn : before q x4 x5 x6 i v s8 (k.val + 1) = trip q x4 x5 x6 i v k (before q x4 x5 x6 i v s8 k.val) := by
      rw [before, dif_pos k.isLt]
    rw [hn]
    iapply (trip_run q x4 x5 x6 i v arg3 harg3 arg4 harg4 arg5 harg5 arg6 harg6 arg7 harg7 arg8 harg8 arg9 harg9 arg10 harg10 arg11 harg11 arg12 harg12 arg13 harg13 arg14 harg14 arg15 harg15 _ k _ _) $$ [H4 H5 H6 H13 H14 H15]
    · isplitl [H4]; · iexact H4
      isplitl [H5]; · iexact H5
      isplitl [H6]; · iexact H6
      isplitl [H13]; · iexact H13
      isplitl [H14]; · iexact H14
      iexact H15
    iintro H4 H5 H6 H13 H14 H15
    isplitr
    · ipureintro; rfl
    isplitl [H4]; · iexact H4
    isplitl [H5]; · iexact H5
    isplitl [H6]; · iexact H6
    isplitl [H13]; · iexact H13
    isplitl [H14]; · iexact H14
    iexact H15
  · isplitr
    · ipureintro
      rw [hs8, hs7, hs6, hs5, hs4, hs3, hs2, hs1]
      unfold before diag31 diag30 diag21 diag20 diag11 diag10 diag01 diag00 left right edge0 edge1 edge2 edge3
      dsimp only
      rw [ha, hl0]
      rfl
    isplitl [H4]; · iexact H4
    isplitl [H5]; · iexact H5
    isplitl [H6]; · iexact H6
    isplitl [H13]; · iexact H13
    isplitl [H14]; · iexact H14
    iexact H15
  iintro %acc ⟨%hacc, H4, H5, H6, H13, H14, H15⟩
  revert hacc
  rw [← show looped q x4 x5 x6 i v s8 = before q x4 x5 x6 i v s8 (k0_t1_loop i v).trips from rfl]
  have hd : done x3 x4 x5 x6 x7 x8 x9 i x14 x15 x13 = looped q x4 x5 x6 i v s8 := by
    rw [hs8, hs7, hs6, hs5, hs4, hs3, hs2, hs1, hs0, hq, hv]; rfl
  rw [hd]
  generalize looped q x4 x5 x6 i v s8 = s
  intro hacc
  subst hacc
  obtain ⟨⟨a0, a1⟩, dk', dv', dc'⟩ := s
  dsimp only
  iapply (Scf.wp_for_bind _ _ _ _ _ _ _ _ _ (fun _ (acc : Acc F) => iprop(⌜acc = (a0, a1)⌝)) ?_)
  · intro k
    exact absurd k.isLt (by have := no_trips i v; unfold Scf.Loop.trips at this; omega)
  · ipureintro; rfl
  iintro %acc %hacc
  subst hacc
  dsimp only
  iapply (ld _) $$ H10
  iintro H10
  iapply (st _) $$ H10
  iintro %y1 %h1 H10
  iapply (ld _) $$ H10
  iintro H10
  iapply (st _) $$ H10
  iintro %y2 %h2 H10
  subst h1 h2
  unfold dq last11 last12
  by_cases h : k0_cond2 i = 1#1
  · rw [dif_pos h, if_pos h, if_pos h]
    unfold dkOut dvOut
    dsimp only
    rw [wp_bind, k0_part13_eq_skeleton]
    unfold k0_part13_skel
    iapply (ld _) $$ H14
    iintro H14
    iapply (ld _) $$ H11
    iintro H11
    iapply (st _) $$ H11
    iintro %y3 %h3 H11
    iapply (ld _) $$ H14
    iintro H14
    iapply (ld _) $$ H11
    iintro H11
    iapply (st _) $$ H11
    iintro %y4 %h4 H11
    iapply (ld _) $$ H14
    iintro H14
    iapply (ld _) $$ H11
    iintro H11
    iapply (st _) $$ H11
    iintro %y5 %h5 H11
    iapply (ld _) $$ H14
    iintro H14
    iapply (ld _) $$ H11
    iintro H11
    iapply (st _) $$ H11
    iintro %y6 %h6 H11
    iapply (ld _) $$ H14
    iintro H14
    iapply (ld _) $$ H11
    iintro H11
    iapply (st _) $$ H11
    iintro %y7 %h7 H11
    iapply (ld _) $$ H14
    iintro H14
    rw [wp_pure]
    imodintro
    rw [wp_bind, k0_part14_eq_skeleton]
    unfold k0_part14_skel
    iapply (ld _) $$ H11
    iintro H11
    iapply (st _) $$ H11
    iintro %y8 %h8 H11
    iapply (ld _) $$ H14
    iintro H14
    iapply (ld _) $$ H11
    iintro H11
    iapply (st _) $$ H11
    iintro %y9 %h9 H11
    iapply (ld _) $$ H14
    iintro H14
    iapply (ld _) $$ H11
    iintro H11
    iapply (st _) $$ H11
    iintro %y10 %h10 H11
    iapply (ld _) $$ H15
    iintro H15
    iapply (ld _) $$ H12
    iintro H12
    iapply (st _) $$ H12
    iintro %y11 %h11 H12
    iapply (ld _) $$ H15
    iintro H15
    iapply (ld _) $$ H12
    iintro H12
    iapply (st _) $$ H12
    iintro %y12 %h12 H12
    iapply (ld _) $$ H15
    iintro H15
    iapply (ld _) $$ H12
    iintro H12
    rw [wp_pure]
    imodintro
    iapply (st _) $$ H12
    iintro %y13 %h13 H12
    iapply (ld _) $$ H15
    iintro H15
    iapply (ld _) $$ H12
    iintro H12
    iapply (st _) $$ H12
    iintro %y14 %h14 H12
    iapply (ld _) $$ H15
    iintro H15
    iapply (ld _) $$ H12
    iintro H12
    iapply (st _) $$ H12
    iintro %y15 %h15 H12
    iapply (ld _) $$ H15
    iintro H15
    iapply (ld _) $$ H12
    iintro H12
    iapply (st _) $$ H12
    iintro %y16 %h16 H12
    iapply (ld _) $$ H15
    iintro H15
    iapply (ld _) $$ H12
    iintro H12
    iapply (st _) $$ H12
    iintro %y17 %h17 H12
    iapply (ld _) $$ H15
    iintro H15
    iapply (ld _) $$ H12
    iintro H12
    iapply (st _) $$ H12
    iintro %y18 %h18 H12
    subst h3 h4 h5 h6 h7 h8 h9 h10 h11 h12 h13 h14 h15 h16 h17 h18
    rw [wp_pure]
    imodintro
    iapply Hk $$ H3 H4 H5 H6 H7 H8 H9 H10 H11 H12 H13 H14 H15
  · rw [dif_neg h, if_neg h, if_neg h]
    rw [wp_pure]
    imodintro
    iapply Hk $$ H3 H4 H5 H6 H7 H8 H9 H10 H11 H12 H13 H14 H15

end Cert.Fox
-- ==== Proof.FoxFrame.lean ====
module

public import proofs.«01_k».proof.Proof.FoxRun
public import Idealize.ShloMosaic.Lib.Claim

/-! The frame of the forgetting attention's gradient: what the arrays that collect the gradients of the keys,
values and gate sums hold before each grid point, the proof data of the launch and the run. -/

@[expose] public section

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel7Ideal Cert.Kernel7Ideal.Gen
open VecWindow (window put)

variable {F : FTy → Type} [FloatOps F]

local notation "𝕄" => MT nD τ sig Unit (Elt F) ℕ (UR sig nD τ) ℕ

/-- The block of the gradient of `q` is stored whole. -/
theorem dq_indep (s : St F) (x x' : Vec F S1024x128 .bf16) : dq s x = dq s x' := by
  funext y
  have h0 : (y 0).val < 1024 := (y 0).isLt
  have h1 : (y 1).val < 128 := (y 1).isLt
  unfold dq put
  split_ifs with a b
  · rfl
  · rfl
  · exfalso
    simp [Fin.forall_fin_two, S1024x64] at a b
    omega

/-- The block of the gradient of `k` is stored whole. -/
theorem dkOut_indep (s : Vec F S8x128x256 .f32) (x x' : Vec F S2048x128 .bf16) : dkOut s x = dkOut s x' := by
  funext y
  have h0 : (y 0).val < 2048 := (y 0).isLt
  have h1 : (y 1).val < 128 := (y 1).isLt
  unfold dkOut put
  split_ifs with a0 a1 a2 a3 a4 a5 a6 a7
  iterate 8 rfl
  · exfalso
    simp [Fin.forall_fin_two, S256x128] at a0 a1 a2 a3 a4 a5 a6 a7
    omega

/-- The block of the gradient of `v` is stored whole. -/
theorem dvOut_indep (s : Vec F S8x128x256 .f32) (x x' : Vec F S2048x128 .bf16) : dvOut s x = dvOut s x' := by
  funext y
  have h0 : (y 0).val < 2048 := (y 0).isLt
  have h1 : (y 1).val < 128 := (y 1).isLt
  unfold dvOut put
  split_ifs with a0 a1 a2 a3 a4 a5 a6 a7
  iterate 8 rfl
  · exfalso
    simp [Fin.forall_fin_two, S256x128] at a0 a1 a2 a3 a4 a5 a6 a7
    omega

/-- Clearing forgets what was there. -/
theorem clear_first (i : grid0.Coords) (w x x' : Vec F S8x128x256 .f32)
    (h : first i) :
    clear i w x = clear i w x' := by
  unfold clear
  rw [if_pos h, if_pos h]
  funext y
  have h0 : (y 0).val < 8 := (y 0).isLt
  have h1 : (y 1).val < 128 := (y 1).isLt
  have h2 : (y 2).val < 256 := (y 2).isLt
  unfold put
  rw [dif_pos, dif_pos] <;> intro a <;> fin_cases a <;> simp [S8x128x256] <;> omega

theorem clearC_first (i : grid0.Coords) (w x x' : Vec F S1x2x8x256 .f32) (h : first i) : clearC i w x = clearC i w x' := by
  unfold clearC
  rw [if_pos h, if_pos h]
  funext y
  have h0 : (y 0).val < 1 := (y 0).isLt
  have h1 : (y 1).val < 2 := (y 1).isLt
  have h2 : (y 2).val < 8 := (y 2).isLt
  have h3 : (y 3).val < 256 := (y 3).isLt
  unfold put
  rw [dif_pos, dif_pos] <;> intro a <;> fin_cases a <;> simp [S1x2x8x256] <;> omega

/-- The last coordinate counts the query blocks. -/
theorem coord2 : ∀ t : Fin grid0.N, ((grid0.coords t) 2).val = t.val % 2 := by decide +kernel

/-- The gradients of the keys and values are stored at the last query block. -/
theorem last_iff : ∀ t : Fin grid0.N, k0_cond2 (grid0.coords t) = 1#1 ↔ t.val % 2 = 1 := by decide +kernel

/-- The arrays are cleared at the first query block. -/
theorem first_iff : ∀ t : Fin grid0.N, first (grid0.coords t) ↔ t.val % 2 = 0 := by decide +kernel

variable (m : (ℓ : Loc nD τ sig) → Buf (Elt F) ℓ) (ρ : Dev nD → PrngReg)

/-- What the body makes at point `t` of arrays that hold `dk`, `dv` and `dc`. -/
def doneAt (c : Dev nD) (t : Fin cfg0.N) (dk dv : Vec F S8x128x256 .f32) (dc : Vec F S1x2x8x256 .f32) : St F :=
  done (iblk m c 0 t) (iblk m c 1 t) (iblk m c 2 t) (iblk m c 3 t) (iblk m c 4 t) (iblk m c 5 t) (iblk m c 6 t) (grid0.coords t) dk dv dc

/-- What the arrays hold before point `n`. -/
def carried (c : Dev nD) : ℕ → Vec F S8x128x256 .f32 × Vec F S8x128x256 .f32 × Vec F S1x2x8x256 .f32
  | 0 => (k0_pay98, k0_pay99, k0_pay100)
  | n + 1 => if h : n < cfg0.N then
      ((doneAt m c ⟨n, h⟩ (carried c n).1 (carried c n).2.1 (carried c n).2.2).dk,
        (doneAt m c ⟨n, h⟩ (carried c n).1 (carried c n).2.1 (carried c n).2.2).dv,
        (doneAt m c ⟨n, h⟩ (carried c n).1 (carried c n).2.1 (carried c n).2.2).dc)
    else (k0_pay98, k0_pay99, k0_pay100)

/-- What the body makes at point `t`. -/
def made (c : Dev nD) (t : Fin cfg0.N) : St F := doneAt m c t (carried m c t.val).1 (carried m c t.val).2.1 (carried m c t.val).2.2

theorem carried_succ (c : Dev nD) (t : Fin cfg0.N) : carried m c (t.val + 1) = ((made m c t).dk, (made m c t).dv, (made m c t).dc) := by
  rw [carried, dif_pos t.isLt]
  rfl

/-- What the first query block makes does not depend on the arrays' contents. -/
theorem doneAt_first (c : Dev nD) (t : Fin cfg0.N) (h : t.val % 2 = 0) (x x' y y' : Vec F S8x128x256 .f32) (z z' : Vec F S1x2x8x256 .f32) :
    doneAt m c t x y z = doneAt m c t x' y' z' := by
  unfold doneAt done start
  rw [clear_first _ _ x x' ((first_iff t).mpr h), clear_first _ _ y y' ((first_iff t).mpr h), clearC_first _ _ z z' ((first_iff t).mpr h)]

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dq (made m c t) (fun _ => FloatOps.ofBits .bf16 0)
    | ⟨8, _⟩ => dkOut (made m c t).dk (fun _ => FloatOps.ofBits .bf16 0)
    | ⟨9, _⟩ => dvOut (made m c t).dv (fun _ => FloatOps.ofBits .bf16 0)
    | ⟨10, _⟩ => (made m c t).dc
  Φ t := iprop(∃ dk dv, ⌜t.val % 2 ≠ 0 → dk = (carried m c t.val).1 ∧ dv = (carried m c t.val).2.1⌝
    ∗ owns (c : Thread nD τ) (Memref.whole cc0_scratch0) fullShare dk ∗ owns (c : Thread nD τ) (Memref.whole cc0_scratch1) fullShare dv
    ∗ ∃ r, prngReg c r)
  q w := shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dq (made m c t) (fun _ => FloatOps.ofBits .bf16 0) := by dsimp only [dats]
theorem after_8 (c : Dev nD) (t : Fin cfg0.N) : (dats m 0 c).after 8 t = dkOut (made m c t).dk (fun _ => FloatOps.ofBits .bf16 0) := by dsimp only [dats]
theorem after_9 (c : Dev nD) (t : Fin cfg0.N) : (dats m 0 c).after 9 t = dvOut (made m c t).dv (fun _ => FloatOps.ofBits .bf16 0) := by dsimp only [dats]
theorem after_10 (c : Dev nD) (t : Fin cfg0.N) : (dats m 0 c).after 10 t = (made m c t).dc := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d

/-- At a later query block the collected gradient of the gate sums is what the block before left. -/
theorem before_10 (c : Dev nD) (t : Fin cfg0.N) (h : t.val % 2 ≠ 0) (d) : (dats m 0 c).before 10 t d = (carried m c t.val).2.2 := by
  obtain ⟨n, hn⟩ := t
  obtain ⟨n, rfl⟩ : ∃ k, n = k + 1 := ⟨n - 1, by dsimp only at h; omega⟩
  rw [(dats m 0 c).before_out_kept 10 rfl ⟨n + 1, hn⟩ (Nat.succ_ne_zero n) (Bool.eq_false_iff.mpr fun e => ?_) (fun _ => rfl) (fun _ _ => rfl), after_10]
  · exact congrArg (fun p => p.2.2) (carried_succ m c ⟨n, by omega⟩).symm
  · have := (flush0_10 ⟨n, by omega⟩).mp e
    dsimp only at this h
    omega

/-- What the two scratch arrays hold of the points before point `n`, as the body finds and leaves them. -/
def keeps (c : Dev nD) (n : ℕ) : sProp 𝕄 :=
  iprop(∃ dk dv, ⌜n % 2 ≠ 0 → dk = (carried m c n).1 ∧ dv = (carried m c n).2.1⌝
    ∗ owns (c : Thread nD τ) (Memref.whole cc0_scratch0) fullShare dk ∗ owns (c : Thread nD τ) (Memref.whole cc0_scratch1) fullShare dv
    ∗ ∃ r, prngReg c r)

/-- A window that is stored at every point is left at what the data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [show cfg0.idle w (cfg0.grid.coords t) = false from h]

/-- A window that is left alone at a point that does not write it back. -/
theorem leaves_idle (c : Dev nD) (w : Fin cfg0.W) (t : Fin cfg0.N) (h : cfg0.idle w (grid0.coords t) = true) (hf : (cfg0.win w).flush t = false) :
    (dats m 0 c).leavesExact w t = iprop(∃ d, owns (c : Thread nD τ) ((cfg0.win w).stage (cfg0.slots t w)) fullShare ((dats m 0 c).before w t d)) := by
  unfold Dat.leavesExact
  rw [show cfg0.idle w (cfg0.grid.coords t) = true from h, hf]

/-- What the body makes of what it finds is what the data says. -/
theorem found (c : Dev nD) (t : Fin cfg0.N) (dk dv : Vec F S8x128x256 .f32) (d)
    (h : t.val % 2 ≠ 0 → dk = (carried m c t.val).1 ∧ dv = (carried m c t.val).2.1) : doneAt m c t dk dv ((dats m 0 c).before 10 t d) = made m c t := by
  by_cases h0 : t.val % 2 = 0
  · exact doneAt_first m c t h0 _ _ _ _ _ _
  · obtain ⟨rfl, rfl⟩ := h h0
    rw [before_10 m c t h0]
    rfl

set_option maxHeartbeats 1000000 in
/-- The body at any point. -/
theorem sound_body (c : Dev nD) (t : Fin cfg0.N) :
    iprop(keeps m c t.val ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d))
        ∗ (∃ d, owns (c : Thread nD τ) (st0_8 t) fullShare ((dats m 0 c).before 8 t d))
        ∗ (∃ d, owns (c : Thread nD τ) (st0_9 t) fullShare ((dats m 0 c).before 9 t d))
        ∗ (∃ d, owns (c : Thread nD τ) (st0_10 t) fullShare ((dats m 0 c).before 10 t d)))
      ⊢ wp frame (wpE (defs₀ (F := F)) Variants.none (c : Thread nD τ) none) Set.univ (bodyAt0 t) (fun _ =>
        iprop(keeps m c (t.val + 1) ∗ (dats m 0 c).owesAt () t.castSucc
          ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)) := by
  unfold bodyAt0
  simp only [before_0, before_1, before_2, before_3, before_4, before_5, before_6]
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 10 t rfl, after_0, after_1, after_2, after_3, after_4, after_5, after_6, after_7, after_10]
  unfold keeps
  iintro ⟨⟨%dk, %dv, %hx, Hk, Hv, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hf := found m c t dk dv d10 hx
  unfold doneAt at hf
  iapply (body_run (iblk m c 0 t) (iblk m c 1 t) (iblk m c 2 t) (iblk m c 3 t) (iblk m c 4 t) (iblk m c 5 t) (iblk m c 6 t) (grid0.coords t)
    _ _ _ _ _ _ _ _ _ _ _ _ _ _ _ _ _ _ _ _ _ _ _ _ _ _ ((dats m 0 c).before 7 t d7) ((dats m 0 c).before 8 t d8) ((dats m 0 c).before 9 t d9) ((dats m 0 c).before 10 t d10) dk dv _)
    $$ [H0 H1 H2 H3 H4 H5 H6 H7 H8 H9 H10 Hk Hv]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hk]; · iexact Hk
    iexact Hv
  rw [hf]
  iintro H0 H1 H2 H3 H4 H5 H6 H7 H8 H9 H10 Hk Hv
  isplitl [Hk Hv Hr]
  · iexists (made m c t).dk, (made m c t).dv
    isplitr
    · ipureintro
      intro _
      rw [carried_succ]
      exact ⟨rfl, rfl⟩
    isplitl [Hk]; · iexact Hk
    isplitl [Hv]; · iexact Hv
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [dq_indep _ _ (fun _ => FloatOps.ofBits .bf16 0)]
  isplitl [H7]; · iexact H7
  unfold last11 last12
  by_cases h : t.val % 2 = 1
  · have h' := (last_iff t).mpr h
    rw [leaves_live m c 8 t (by show (!(k0_cond2 (grid0.coords t) == 1#1)) = false; rw [h']; rfl),
      leaves_live m c 9 t (by show (!(k0_cond2 (grid0.coords t) == 1#1)) = false; rw [h']; rfl), after_8, after_9, if_pos h', if_pos h',
      dkOut_indep _ _ (fun _ => FloatOps.ofBits .bf16 0), dvOut_indep _ _ (fun _ => FloatOps.ofBits .bf16 0)]
    isplitl [H8]; · iexact H8
    isplitl [H9]; · iexact H9
    iexact H10
  · have h' : ¬ k0_cond2 (grid0.coords t) = 1#1 := fun e => h ((last_iff t).mp e)
    rw [leaves_idle m c 8 t (by show (!(k0_cond2 (grid0.coords t) == 1#1)) = true; simp [h']) (Bool.eq_false_iff.mpr fun e => h ((flush0_8 t).mp e)),
      leaves_idle m c 9 t (by show (!(k0_cond2 (grid0.coords t) == 1#1)) = true; simp [h']) (Bool.eq_false_iff.mpr fun e => h ((flush0_9 t).mp e)),
      if_neg h', if_neg h']
    isplitl [H8]; · iexists d8; iexact H8
    isplitl [H9]; · iexists d9; iexact H9
    iexact H10

theorem defs₀_row (t : Fin cfg0.N) :
    defs₀ (F := F) .tc cfg0.body (cfg0.bodyArgs t (cfg0.slots t)) = bodyAt0 t := by
  unfold defs₀; rw [Defs.onTc_tc]

/-- The body obligation of the launch. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the launch. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by
      unfold ΦA
      rw [scopedRest0_eq]
      show _ ⊢ keeps m c 0
      unfold keeps
      simp only [owns_whole]
      iintro ⟨⟨⟨%f, H⟩, ⟨%g, H'⟩⟩, Hr⟩
      iexists f, g
      isplitr; · ipureintro; intro h; exact absurd rfl h
      isplitl [H]; · iexact H
      isplitl [H']; · iexact H'
      iexact Hr)
    (hout := fun c => by
      unfold ΦA
      rw [scopedRest0_eq]
      show keeps m c (Fin.last cfg0.N).val ⊢ _
      unfold keeps
      simp only [owns_whole]
      iintro ⟨%f, %g, -, H, H', Hr⟩
      isplitl [H H']
      · isplitl [H]
        · iexists f; iexact H
        · iexists g; iexact H'
      iexact Hr)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Fox
-- ==== Proof.FoxFrames.lean ====
module

public import proofs.«01_k».proof.Proof.FoxFrame
public import proofs.«01_k».proof.Proof.Gen.Kernel7
public import proofs.«01_k».proof.Proof.Gen.Reference7Ideal.Run
public import proofs.«01_k».proof.Defs

@[expose] public section

noncomputable section

namespace Cert.Fox

open Idealize.ShloMosaic Idealize.ShloMosaic.TcCoe Idealize.ShloMosaic.Tactic

theorem frame_ideal : Cert.quiescent_Kernel7Ideal := fun m ρ _ => frame m ρ

/-- The kernel's frame is the ideal program's: the two have the same text. -/
theorem frame_kernel : Cert.quiescent_Kernel7 := fun m ρ _ => by
  refine Eq.mp ?_ (frame (F := Bits) m ρ)
  sl_kernel_rfl

/-- The reference's frame. -/
theorem frame_reference : Cert.quiescent_Reference7Ideal := fun m ρ _ =>
  (θ_run Cert.Reference7Ideal.defs _ _).mono (fun r h => ⟨fun c => (h c).2.2.2.2, funext fun s => nomatch s.2⟩) (Cert.Reference7Ideal.Value.run (F := Ideal) m ρ)

end Cert.Fox
-- ==== Proof.FoxPay.lean ====
/- Hand-written, untrusted: what one key block of the forgetting attention's gradient computes, entry by entry. The kernel has five
   texts of it: a key block before the query block, and the four on the diagonal, of which the later ones leave out the first rows. -/
module

public import proofs.«01_k».proof.Proof.FoxTrip
public import proofs.«01_k».proof.Proof.Finite
public import Idealize.ShloMosaic.Lib.Pipeline.ValueKit
public import Idealize.ShloMosaic.Lib.WordCmp

@[expose] public section

set_option maxRecDepth 16384

noncomputable section

namespace Cert.Fox

open Idealize.ShloMosaic Cert.Finite Idealize.ShloMosaic.TcCoe Cert.Kernel7Ideal Cert.Kernel7Ideal.Gen

/-- Row `r` of the rows from the 256th, the 512th or the 768th on. -/
def row1 (r : Fin 768) : Fin 1024 := ⟨256 + r.val, by omega⟩
def row2 (r : Fin 512) : Fin 1024 := ⟨512 + r.val, by omega⟩
def row3 (r : Fin 256) : Fin 1024 := ⟨768 + r.val, by omega⟩

section
variable (h : Head Ideal) (kb vb : Vec Ideal S256x64 .bf16) (cb : Vec Ideal S1x1x1x256 .f32) (r : Fin 1024) (c : Fin 256)

/-- The attention's weight, not yet masked. -/
def wt : EReal := Ideal.exp ((∑ x, h.q (ix2 r x) * kb (ix2 c x)) - cb (ix4 0 0 0 c) - h.l (ix2 r 0))
/-- A masked number. -/
def msk (b : BitVec 1) (x : EReal) : EReal := Scalar.select b x 0
/-- What the weight is multiplied with. -/
def dif : EReal := (∑ x, h.d (ix2 r x) * vb (ix2 c x)) - h.e (ix2 r 0)

theorem pay11_apply : k0_pay11 (F := Ideal) h.q h.l kb cb (ix2 r c) = wt h kb cb r c := by
  unfold k0_pay11 k0_pay10
  pointwise
  rfl

theorem pay12_apply : k0_pay12 (F := Ideal) h.q h.d h.e h.l kb vb cb (ix2 r c) = wt h kb cb r c * dif h vb r c := by
  unfold k0_pay12
  pointwise
  simp only [pay11_apply]
  rfl

variable (m : IVec S1024x256 1)

theorem pay129_apply : k0_pay129 (F := Ideal) m h.q h.l kb cb (ix2 r c) = msk (m (ix2 r c)) (wt h kb cb r c) := by
  unfold k0_pay129 k0_pay128
  pointwise
  rfl

theorem pay130_apply : k0_pay130 (F := Ideal) m h.q h.d h.e h.l kb vb cb (ix2 r c)
    = msk (m (ix2 r c)) (wt h kb cb r c) * dif h vb r c := by
  unfold k0_pay130
  pointwise
  simp only [pay129_apply]
  rfl

theorem pay151_apply (r : Fin 768) : k0_pay151 (F := Ideal) m h.q h.l kb cb (ix2 r c)
    = msk (m (ix2 (row1 r) c)) (wt h kb cb (row1 r) c) := by
  unfold k0_pay151 k0_pay150
  pointwise
  rfl

theorem pay152_apply (r : Fin 768) : k0_pay152 (F := Ideal) m h.q h.d h.e h.l kb vb cb (ix2 r c)
    = msk (m (ix2 (row1 r) c)) (wt h kb cb (row1 r) c) * dif h vb (row1 r) c := by
  unfold k0_pay152
  pointwise
  simp only [pay151_apply]
  rfl

theorem pay172_apply (r : Fin 512) : k0_pay172 (F := Ideal) m h.q h.l kb cb (ix2 r c)
    = msk (m (ix2 (row2 r) c)) (wt h kb cb (row2 r) c) := by
  unfold k0_pay172 k0_pay171
  pointwise
  rfl

theorem pay175_apply (r : Fin 512) : k0_pay175 (F := Ideal) (k0_pay172 m h.q h.l kb cb) (k0_pay173 h.d vb) (k0_pay174 h.e) (ix2 r c)
    = msk (m (ix2 (row2 r) c)) (wt h kb cb (row2 r) c) * dif h vb (row2 r) c := by
  unfold k0_pay175 k0_pay173 k0_pay174
  pointwise
  simp only [pay172_apply]
  rfl

theorem pay183_apply (r : Fin 256) : k0_pay183 (F := Ideal) m h.q h.l kb cb (ix2 r c)
    = msk (m (ix2 (row3 r) c)) (wt h kb cb (row3 r) c) := by
  unfold k0_pay183 k0_pay182
  pointwise
  rfl

theorem pay184_apply (r : Fin 256) : k0_pay184 (F := Ideal) m h.q h.d h.e h.l kb vb cb (ix2 r c)
    = msk (m (ix2 (row3 r) c)) (wt h kb cb (row3 r) c) * dif h vb (row3 r) c := by
  unfold k0_pay184
  pointwise
  simp only [pay183_apply]
  rfl

end

/-! ### The masks -/

section
variable (r : Fin 1024) (c : Fin 256)

theorem mask0 : k0_pay101 (ix2 r c) = BitVec.ofBool (decide (c.val ≤ r.val)) := by
  unfold k0_pay101
  pointwise
  rw [show IntOp.addi (BitVec.ofNat 32 c.val) 0#32 = BitVec.ofNat 32 c.val from by simp [IntOp.addi],
    WordCmp.cmpi_sle_ofNat (by omega) (by omega)]
theorem mask1 : k0_pay102 (ix2 r c) = BitVec.ofBool (decide (c.val + 256 ≤ r.val)) := by
  unfold k0_pay102
  pointwise
  rw [show IntOp.addi (BitVec.ofNat 32 c.val) 256#32 = BitVec.ofNat 32 (c.val + 256) from by simp [IntOp.addi, BitVec.ofNat_add],
    WordCmp.cmpi_sle_ofNat (by omega) (by omega)]
theorem mask2 : k0_pay103 (ix2 r c) = BitVec.ofBool (decide (c.val + 512 ≤ r.val)) := by
  unfold k0_pay103
  pointwise
  rw [show IntOp.addi (BitVec.ofNat 32 c.val) 512#32 = BitVec.ofNat 32 (c.val + 512) from by simp [IntOp.addi, BitVec.ofNat_add],
    WordCmp.cmpi_sle_ofNat (by omega) (by omega)]
theorem mask3 : k0_pay104 (ix2 r c) = BitVec.ofBool (decide (c.val + 768 ≤ r.val)) := by
  unfold k0_pay104
  pointwise
  rw [show IntOp.addi (BitVec.ofNat 32 c.val) 768#32 = BitVec.ofNat 32 (c.val + 768) from by simp [IntOp.addi, BitVec.ofNat_add],
    WordCmp.cmpi_sle_ofNat (by omega) (by omega)]
end

/-! ### What is added to the collecting arrays -/

section
variable (x : Fin 64) (c : Fin 256) (w : Vec Ideal S1x64x256 .f32) (u : Vec Ideal S1x1x1x256 .f32)

theorem up1024_apply (y : FVec Ideal S64x1024 .bf16) (z : FVec Ideal S1024x256 .bf16) : up1024 y z w (ix3 0 x c) = w (ix3 0 x c) + ∑ r, y (ix2 x r) * z (ix2 r c) := by
  unfold up1024
  pointwise
theorem up768_apply (y : FVec Ideal S64x768 .bf16) (z : FVec Ideal S768x256 .bf16) : up768 y z w (ix3 0 x c) = w (ix3 0 x c) + ∑ r, y (ix2 x r) * z (ix2 r c) := by
  unfold up768
  pointwise
theorem up512_apply (y : FVec Ideal S64x512 .bf16) (z : FVec Ideal S512x256 .bf16) : up512 y z w (ix3 0 x c) = w (ix3 0 x c) + ∑ r, y (ix2 x r) * z (ix2 r c) := by
  unfold up512
  pointwise
theorem up256_apply (y : FVec Ideal S64x256 .bf16) (z : FVec Ideal S256x256 .bf16) : up256 y z w (ix3 0 x c) = w (ix3 0 x c) + ∑ r, y (ix2 x r) * z (ix2 r c) := by
  unfold up256
  pointwise

theorem pay19_apply (z : FVec Ideal S1024x256 .f32) : k0_pay19 (F := Ideal) z u (ix4 0 0 0 c) = u (ix4 0 0 0 c) - ∑ r : Fin 1024, z (ix2 r c) := by
  unfold k0_pay19
  pointwise
theorem pay157_apply (z : FVec Ideal S768x256 .f32) : k0_pay157 (F := Ideal) z u (ix4 0 0 0 c) = u (ix4 0 0 0 c) - ∑ r : Fin 768, z (ix2 r c) := by
  unfold k0_pay157
  pointwise
theorem pay168_apply (z : FVec Ideal S512x256 .f32) : k0_pay168 (F := Ideal) z u (ix4 0 0 0 c) = u (ix4 0 0 0 c) - ∑ r : Fin 512, z (ix2 r c) := by
  unfold k0_pay168
  pointwise
theorem pay188_apply (z : FVec Ideal S256x256 .f32) : k0_pay188 (F := Ideal) z u (ix4 0 0 0 c) = u (ix4 0 0 0 c) - ∑ r : Fin 256, z (ix2 r c) := by
  unfold k0_pay188
  pointwise
end

/-! ### What is added to the gradient of the queries -/

section
variable (x : Fin 64) (a : FVec Ideal S1024x64 .f32) (kb : Vec Ideal S256x64 .bf16)

theorem pay20_apply (z : FVec Ideal S1024x256 .bf16) (r : Fin 1024) :
    k0_pay20 (F := Ideal) a (k0_pay10 kb) z (ix2 r x) = a (ix2 r x) + ∑ c, z (ix2 r c) * kb (ix2 c x) := by
  unfold k0_pay20 k0_pay10
  pointwise

theorem pay158_late (z : FVec Ideal S768x256 .bf16) (r : Fin 768) :
    k0_pay158 (F := Ideal) a (k0_pay149 a) (k0_pay150 kb) z (ix2 (row1 r) x) = a (ix2 (row1 r) x) + ∑ c, z (ix2 r c) * kb (ix2 c x) := by
  unfold k0_pay158 k0_pay149 k0_pay150
  refine (concatenate_apply_piece (t := S1024x64) 0 _ _ _ 1 (by simp) S768x64 _ rfl rfl 256 rfl (ix2 r x) (fun b hb => ?_) ?_).trans ?_
  · fin_cases b
    · exact absurd rfl hb
    · rfl
  · rfl
  pointwise
  rfl
theorem pay158_early (z : FVec Ideal S768x256 .bf16) (r : Fin 1024) (hr : r.val < 256) :
    k0_pay158 (F := Ideal) a (k0_pay149 a) (k0_pay150 kb) z (ix2 r x) = a (ix2 r x) := by
  unfold k0_pay158
  refine (concatenate_apply_piece (t := S1024x64) 0 _ _ _ 0 (by simp) S256x64 _ rfl rfl 0 rfl (ix2 ⟨r.val, hr⟩ x) (fun b hb => ?_) ?_).trans ?_
  · fin_cases b
    · exact absurd rfl hb
    · rfl
  · exact Nat.zero_add _
  pointwise

theorem pay169_late (z : FVec Ideal S512x256 .bf16) (r : Fin 512) :
    k0_pay169 (F := Ideal) a (k0_pay159 a) (k0_pay160 kb) z (ix2 (row2 r) x) = a (ix2 (row2 r) x) + ∑ c, z (ix2 r c) * kb (ix2 c x) := by
  unfold k0_pay169 k0_pay159 k0_pay160
  refine (concatenate_apply_piece (t := S1024x64) 0 _ _ _ 1 (by simp) S512x64 _ rfl rfl 512 rfl (ix2 r x) (fun b hb => ?_) ?_).trans ?_
  · fin_cases b
    · exact absurd rfl hb
    · rfl
  · rfl
  pointwise
  rfl
theorem pay169_early (z : FVec Ideal S512x256 .bf16) (r : Fin 1024) (hr : r.val < 512) :
    k0_pay169 (F := Ideal) a (k0_pay159 a) (k0_pay160 kb) z (ix2 r x) = a (ix2 r x) := by
  unfold k0_pay169
  refine (concatenate_apply_piece (t := S1024x64) 0 _ _ _ 0 (by simp) S512x64 _ rfl rfl 0 rfl (ix2 ⟨r.val, hr⟩ x) (fun b hb => ?_) ?_).trans ?_
  · fin_cases b
    · exact absurd rfl hb
    · rfl
  · exact Nat.zero_add _
  pointwise

theorem pay189_late (z : FVec Ideal S256x256 .bf16) (r : Fin 256) :
    k0_pay189 (F := Ideal) a (k0_pay181 a) (k0_pay182 kb) z (ix2 (row3 r) x) = a (ix2 (row3 r) x) + ∑ c, z (ix2 r c) * kb (ix2 c x) := by
  unfold k0_pay189 k0_pay181 k0_pay182
  refine (concatenate_apply_piece (t := S1024x64) 0 _ _ _ 1 (by simp) S256x64 _ rfl rfl 768 rfl (ix2 r x) (fun b hb => ?_) ?_).trans ?_
  · fin_cases b
    · exact absurd rfl hb
    · rfl
  · rfl
  pointwise
  rfl
theorem pay189_early (z : FVec Ideal S256x256 .bf16) (r : Fin 1024) (hr : r.val < 768) :
    k0_pay189 (F := Ideal) a (k0_pay181 a) (k0_pay182 kb) z (ix2 r x) = a (ix2 r x) := by
  unfold k0_pay189
  refine (concatenate_apply_piece (t := S1024x64) 0 _ _ _ 0 (by simp) S768x64 _ rfl rfl 0 rfl (ix2 ⟨r.val, hr⟩ x) (fun b hb => ?_) ?_).trans ?_
  · fin_cases b
    · exact absurd rfl hb
    · rfl
  · exact Nat.zero_add _
  pointwise
end

end Cert.Fox
-- ==== Proof.FoxMath.lean ====
/- Hand-written, untrusted: the forgetting attention's gradient over the reals, for one head of one sequence, and what one key
   block of one query block adds to it. -/
module

public import proofs.«01_k».proof.Proof.FoxPay

@[expose] public section

set_option maxRecDepth 16384

noncomputable section

namespace Cert.Fox

open Idealize.ShloMosaic Cert.Finite Idealize.ShloMosaic.TcCoe Cert.Kernel7Ideal Cert.Kernel7Ideal.Gen Finset

/-- One head of one sequence: the scaled queries, the keys, the values, the output's cotangent, the keys' decays, the rows'
    logarithms of their sums and the rows' sums of cotangent times output. -/
structure Att where
  q : ℕ → Fin 64 → ℝ
  k : ℕ → Fin 64 → ℝ
  v : ℕ → Fin 64 → ℝ
  d : ℕ → Fin 64 → ℝ
  c : ℕ → ℝ
  l : ℕ → ℝ
  e : ℕ → ℝ

namespace Att
variable (A : Att) (s j : ℕ)

/-- The attention's weight of query `s` and key `j`. -/
def p : ℝ := if j ≤ s then Real.exp (∑ x, A.q s x * A.k j x - A.c j - A.l s) else 0
/-- The logit's gradient. -/
def ds : ℝ := A.p s j * (∑ x, A.d s x * A.v j x - A.e s)

theorem p_zero {s j : ℕ} (h : s < j) : A.p s j = 0 := if_neg (by omega)
theorem ds_zero {s j : ℕ} (h : s < j) : A.ds s j = 0 := by unfold ds; rw [A.p_zero h, zero_mul]

end Att

/-- A key block's inputs hold the numbers of key block `J` for query block `n`. -/
structure Good (h : Head Ideal) (kb vb : Vec Ideal S256x64 .bf16) (cb : Vec Ideal S1x1x1x256 .f32) (A : Att) (n J : ℕ) : Prop where
  q : ∀ (r : Fin 1024) x, h.q (ix2 r x) = (A.q (1024 * n + r.val) x : ℝ)
  d : ∀ (r : Fin 1024) x, h.d (ix2 r x) = (A.d (1024 * n + r.val) x : ℝ)
  e : ∀ r : Fin 1024, h.e (ix2 r 0) = (A.e (1024 * n + r.val) : ℝ)
  l : ∀ r : Fin 1024, h.l (ix2 r 0) = (A.l (1024 * n + r.val) : ℝ)
  k : ∀ (c : Fin 256) x, kb (ix2 c x) = (A.k (256 * J + c.val) x : ℝ)
  v : ∀ (c : Fin 256) x, vb (ix2 c x) = (A.v (256 * J + c.val) x : ℝ)
  c : ∀ c : Fin 256, cb (ix4 0 0 0 c) = (A.c (256 * J + c.val) : ℝ)

/-- The sum of products of real numbers. -/
theorem coe_rows {R : ℕ} (u v : Fin R → EReal) (f g : Fin R → ℝ) (hu : ∀ r, u r = f r) (hv : ∀ r, v r = g r) :
    ∑ r, u r * v r = ((∑ r, f r * g r : ℝ) : EReal) := by
  rw [coe_sum]
  exact sum_congr rfl fun r _ => by rw [hu, hv, EReal.coe_mul]

namespace Good
variable {h : Head Ideal} {kb vb : Vec Ideal S256x64 .bf16} {cb : Vec Ideal S1x1x1x256 .f32} {A : Att} {n J : ℕ} (g : Good h kb vb cb A n J)
  (r : Fin 1024) (c : Fin 256)
include g

theorem wt_eq : wt h kb cb r c = ((Real.exp (∑ x, A.q (1024 * n + r.val) x * A.k (256 * J + c.val) x - A.c (256 * J + c.val) - A.l (1024 * n + r.val)) : ℝ) : EReal) := by
  unfold wt
  rw [coe_rows _ _ _ _ (fun x => g.q r x) (fun x => g.k c x), g.c, g.l, ← EReal.coe_sub, ← EReal.coe_sub, exp_coe]

theorem dif_eq : dif h vb r c = ((∑ x, A.d (1024 * n + r.val) x * A.v (256 * J + c.val) x - A.e (1024 * n + r.val) : ℝ) : EReal) := by
  unfold dif
  rw [coe_rows _ _ _ _ (fun x => g.d r x) (fun x => g.v c x), g.e, ← EReal.coe_sub]

/-- A key block before the query block is not masked. -/
theorem p_full (hJ : J < 4 * n) : wt h kb cb r c = (A.p (1024 * n + r.val) (256 * J + c.val) : ℝ) := by
  rw [g.wt_eq, Att.p, if_pos (by omega)]
theorem ds_full (hJ : J < 4 * n) : wt h kb cb r c * dif h vb r c = (A.ds (1024 * n + r.val) (256 * J + c.val) : ℝ) := by
  rw [g.p_full r c hJ, g.dif_eq, ← EReal.coe_mul]
  rfl

/-- The diagonal's are. -/
theorem p_edge (d : ℕ) (hJ : J = 4 * n + d) : msk (BitVec.ofBool (decide (c.val + 256 * d ≤ r.val))) (wt h kb cb r c) = (A.p (1024 * n + r.val) (256 * J + c.val) : ℝ) := by
  rw [g.wt_eq, Att.p]
  by_cases hc : c.val + 256 * d ≤ r.val
  · rw [decide_eq_true hc, if_pos (by omega)]; rfl
  · rw [decide_eq_false hc, if_neg (by omega)]; exact EReal.coe_zero.symm
theorem ds_edge (d : ℕ) (hJ : J = 4 * n + d) : msk (BitVec.ofBool (decide (c.val + 256 * d ≤ r.val))) (wt h kb cb r c) * dif h vb r c
    = (A.ds (1024 * n + r.val) (256 * J + c.val) : ℝ) := by
  rw [g.p_edge r c d hJ, g.dif_eq, ← EReal.coe_mul]
  rfl

end Good

/-- What a key block adds to a gradient of the keys (`f` the queries, `g` the logits' gradients) or of the values (`f` the
    cotangents, `g` the weights). -/
def add (f : ℕ → Fin 64 → ℝ) (g : ℕ → ℕ → ℝ) (n J : ℕ) (x : Fin 64) (c : Fin 256) : ℝ :=
  ∑ r ∈ range 1024, f (1024 * n + r) x * g (1024 * n + r) (256 * J + c.val)
/-- What it takes from the decays' gradient. -/
def take (g : ℕ → ℕ → ℝ) (n J : ℕ) (c : Fin 256) : ℝ := ∑ r ∈ range 1024, g (1024 * n + r) (256 * J + c.val)
/-- What it adds to the gradient of the queries. -/
def more (A : Att) (J s : ℕ) (x : Fin 64) : ℝ := ∑ c ∈ range 256, A.ds s (256 * J + c) * A.k (256 * J + c) x

/-- A key block's text does what it should. -/
structure Does (t : Txt Ideal) (A : Att) (n J : ℕ) : Prop where
  k : ∀ w x c, t.k w (ix3 0 x c) = w (ix3 0 x c) + (add A.q A.ds n J x c : ℝ)
  v : ∀ w x c, t.v w (ix3 0 x c) = w (ix3 0 x c) + (add A.d A.p n J x c : ℝ)
  c : ∀ w c, t.c w (ix4 0 0 0 c) = w (ix4 0 0 0 c) - (take A.ds n J c : ℝ)
  a : ∀ a (r : Fin 1024) x, t.a a (ix2 r x) = a (ix2 r x) + (more A J (1024 * n + r.val) x : ℝ)

/-- The transposed rows that a text is given, from row `m` on. -/
structure Rows {R : ℕ} (x y : Fin 64 → Fin R → EReal) (A : Att) (n m : ℕ) : Prop where
  q : ∀ a r, x a r = (A.q (1024 * n + (m + r.val)) a : ℝ)
  d : ∀ a r, y a r = (A.d (1024 * n + (m + r.val)) a : ℝ)

/-- A sum over rows of which the first are zero. -/
theorem sum_late (m R : ℕ) (hR : m + R = 1024) (f : ℕ → ℝ) (hf : ∀ r < m, f r = 0) : ∑ r : Fin R, f (m + r.val) = ∑ r ∈ range 1024, f r := by
  rw [← hR, sum_range_add, sum_eq_zero fun r hr => hf r (mem_range.1 hr), zero_add, Fin.sum_univ_eq_sum_range (fun r => f (m + r)) R]

theorem add_eq {R : ℕ} (m : ℕ) (hR : m + R = 1024) (f : ℕ → Fin 64 → ℝ) (g : ℕ → ℕ → ℝ) (n J : ℕ) (x : Fin 64) (c : Fin 256) (u v : Fin R → EReal)
    (hg : ∀ r < m, g (1024 * n + r) (256 * J + c.val) = 0)
    (hu : ∀ r, u r = (f (1024 * n + (m + r.val)) x : ℝ)) (hv : ∀ r, v r = (g (1024 * n + (m + r.val)) (256 * J + c.val) : ℝ)) :
    ∑ r, u r * v r = (add f g n J x c : ℝ) := by
  rw [coe_rows _ _ _ _ hu hv]
  exact congrArg _ (sum_late m R hR (fun r => f (1024 * n + r) x * g (1024 * n + r) (256 * J + c.val)) fun r hr => by rw [hg r hr, mul_zero])

theorem take_eq {R : ℕ} (m : ℕ) (hR : m + R = 1024) (g : ℕ → ℕ → ℝ) (n J : ℕ) (c : Fin 256) (v : Fin R → EReal)
    (hg : ∀ r < m, g (1024 * n + r) (256 * J + c.val) = 0) (hv : ∀ r, v r = (g (1024 * n + (m + r.val)) (256 * J + c.val) : ℝ)) :
    ∑ r, v r = (take g n J c : ℝ) := by
  rw [sum_congr rfl fun r _ => hv r, ← coe_sum]
  exact congrArg _ (sum_late m R hR (fun r => g (1024 * n + r) (256 * J + c.val)) hg)

theorem more_eq (A : Att) (J s : ℕ) (x : Fin 64) (u v : Fin 256 → EReal) (hu : ∀ c, u c = (A.ds s (256 * J + c.val) : ℝ))
    (hv : ∀ c, v c = (A.k (256 * J + c.val) x : ℝ)) : ∑ c, u c * v c = (more A J s x : ℝ) := by
  rw [coe_rows _ _ _ _ hu hv]
  exact congrArg _ (Fin.sum_univ_eq_sum_range (fun c => A.ds s (256 * J + c) * A.k (256 * J + c) x) 256)

theorem more_zero (A : Att) (J s : ℕ) (x : Fin 64) (h : s < 256 * J) : more A J s x = 0 :=
  sum_eq_zero fun c _ => by rw [A.ds_zero (by omega), zero_mul]

section
variable {h : Head Ideal} {kb vb : Vec Ideal S256x64 .bf16} {cb : Vec Ideal S1x1x1x256 .f32} {A : Att} {n J : ℕ} (g : Good h kb vb cb A n J)
include g

/-- The text of a key block before the query block. -/
theorem full_does (hJ : J < 4 * n) (x y : FVec Ideal S64x1024 .bf16) (hx : Rows (fun a r => x (ix2 a r)) (fun a r => y (ix2 a r)) A n 0) :
    Does (full h kb vb cb x y) A n J where
  k w a c := (up1024_apply _ _ _ _ _).trans (congrArg _ (add_eq 0 rfl _ _ n J a c _ _ (fun r hr => absurd hr (Nat.not_lt_zero r)) (hx.q a)
    fun r => (pay12_apply h kb vb cb r c).trans (by rw [g.ds_full r c hJ, Nat.zero_add])))
  v w a c := (up1024_apply _ _ _ _ _).trans (congrArg _ (add_eq 0 rfl _ _ n J a c _ _ (fun r hr => absurd hr (Nat.not_lt_zero r)) (hx.d a)
    fun r => (pay11_apply h kb cb r c).trans (by rw [g.p_full r c hJ, Nat.zero_add])))
  c w c := (pay19_apply _ _ _).trans (congrArg _ (take_eq 0 rfl _ n J c _ (fun r hr => absurd hr (Nat.not_lt_zero r))
    fun r => (pay12_apply h kb vb cb r c).trans (by rw [g.ds_full r c hJ, Nat.zero_add])))
  a a r x := (pay20_apply _ _ _ _ _).trans (congrArg _ (more_eq A J _ x _ _ (fun c => (pay12_apply h kb vb cb r c).trans (g.ds_full r c hJ)) fun c => g.k c x))

/-- The text of the first key block on the diagonal. -/
theorem edge0_does (hJ : J = 4 * n + 0) (x y : FVec Ideal S64x1024 .bf16) (hx : Rows (fun a r => x (ix2 a r)) (fun a r => y (ix2 a r)) A n 0) :
    Does (edge0 h kb vb cb x y) A n J := by
  have hd : ∀ (r : Fin 1024) (c : Fin 256), k0_pay130 (F := Ideal) k0_pay101 h.q h.d h.e h.l kb vb cb (ix2 r c) = (A.ds (1024 * n + r.val) (256 * J + c.val) : ℝ) :=
    fun r c => (pay130_apply h kb vb cb r c _).trans (by rw [mask0]; exact g.ds_edge r c 0 hJ)
  have hp : ∀ (r : Fin 1024) (c : Fin 256), k0_pay129 (F := Ideal) k0_pay101 h.q h.l kb cb (ix2 r c) = (A.p (1024 * n + r.val) (256 * J + c.val) : ℝ) :=
    fun r c => (pay129_apply h kb cb r c _).trans (by rw [mask0]; exact g.p_edge r c 0 hJ)
  exact {
    k := fun w a c => (up1024_apply _ _ _ _ _).trans (congrArg _ (add_eq 0 rfl _ _ n J a c _ _ (fun r hr => absurd hr (Nat.not_lt_zero r)) (hx.q a)
      fun r => (hd r c).trans (by rw [Nat.zero_add])))
    v := fun w a c => (up1024_apply _ _ _ _ _).trans (congrArg _ (add_eq 0 rfl _ _ n J a c _ _ (fun r hr => absurd hr (Nat.not_lt_zero r)) (hx.d a)
      fun r => (hp r c).trans (by rw [Nat.zero_add])))
    c := fun w c => (pay19_apply _ _ _).trans (congrArg _ (take_eq 0 rfl _ n J c _ (fun r hr => absurd hr (Nat.not_lt_zero r))
      fun r => (hd r c).trans (by rw [Nat.zero_add])))
    a := fun a r x => (pay20_apply _ _ _ _ _).trans (congrArg _ (more_eq A J _ x _ _ (fun c => hd r c) fun c => g.k c x)) }

/-- A late row is not an early one. -/
theorem early (A : Att) (m : ℕ) (hJ : 1024 * n + m ≤ 256 * J) (c : Fin 256) : ∀ r < m, A.p (1024 * n + r) (256 * J + c.val) = 0 ∧ A.ds (1024 * n + r) (256 * J + c.val) = 0 :=
  fun r hr => ⟨A.p_zero (by omega), A.ds_zero (by omega)⟩

theorem edge1_does (hJ : J = 4 * n + 1) (x y : FVec Ideal S64x768 .bf16) (hx : Rows (fun a r => x (ix2 a r)) (fun a r => y (ix2 a r)) A n 256) :
    Does (edge1 h kb vb cb x y) A n J := by
  have hd : ∀ (r : Fin 768) (c : Fin 256), k0_pay152 (F := Ideal) k0_pay102 h.q h.d h.e h.l kb vb cb (ix2 r c) = (A.ds (1024 * n + (256 + r.val)) (256 * J + c.val) : ℝ) :=
    fun r c => (pay152_apply h kb vb cb c _ r).trans (by rw [mask1]; exact g.ds_edge (row1 r) c 1 hJ)
  have hp : ∀ (r : Fin 768) (c : Fin 256), k0_pay151 (F := Ideal) k0_pay102 h.q h.l kb cb (ix2 r c) = (A.p (1024 * n + (256 + r.val)) (256 * J + c.val) : ℝ) :=
    fun r c => (pay151_apply h kb cb c _ r).trans (by rw [mask1]; exact g.p_edge (row1 r) c 1 hJ)
  have ho := fun c => early g A 256 (show 1024 * n + 256 ≤ 256 * J by omega) c
  exact {
    k := fun w a c => (up768_apply _ _ _ _ _).trans (congrArg _ (add_eq 256 rfl _ _ n J a c _ _ (fun r hr => (ho c r hr).2) (hx.q a) fun r => hd r c))
    v := fun w a c => (up768_apply _ _ _ _ _).trans (congrArg _ (add_eq 256 rfl _ _ n J a c _ _ (fun r hr => (ho c r hr).1) (hx.d a) fun r => hp r c))
    c := fun w c => (pay157_apply _ _ _).trans (congrArg _ (take_eq 256 rfl _ n J c _ (fun r hr => (ho c r hr).2) fun r => hd r c))
    a := fun a r x => by
      by_cases hr : r.val < 256
      · refine (pay158_early _ _ _ _ _ hr).trans ?_
        rw [more_zero A J _ x (by omega), EReal.coe_zero, add_zero]
      · have er : r = row1 ⟨r.val - 256, by omega⟩ := Fin.ext (by show r.val = 256 + (r.val - 256); omega)
        rw [er]
        exact (pay158_late _ _ _ _ _).trans (congrArg _ (more_eq A J _ x _ _ (fun c => hd _ c) fun c => g.k c x)) }

theorem edge2_does (hJ : J = 4 * n + 2) (x y : FVec Ideal S64x512 .bf16) (hx : Rows (fun a r => x (ix2 a r)) (fun a r => y (ix2 a r)) A n 512) :
    Does (edge2 h kb vb cb x y) A n J := by
  have hd : ∀ (r : Fin 512) (c : Fin 256), k0_pay175 (F := Ideal) (k0_pay172 k0_pay103 h.q h.l kb cb) (k0_pay173 h.d vb) (k0_pay174 h.e) (ix2 r c)
      = (A.ds (1024 * n + (512 + r.val)) (256 * J + c.val) : ℝ) :=
    fun r c => (pay175_apply h kb vb cb c _ r).trans (by rw [mask2]; exact g.ds_edge (row2 r) c 2 hJ)
  have hp : ∀ (r : Fin 512) (c : Fin 256), k0_pay172 (F := Ideal) k0_pay103 h.q h.l kb cb (ix2 r c) = (A.p (1024 * n + (512 + r.val)) (256 * J + c.val) : ℝ) :=
    fun r c => (pay172_apply h kb cb c _ r).trans (by rw [mask2]; exact g.p_edge (row2 r) c 2 hJ)
  have ho := fun c => early g A 512 (show 1024 * n + 512 ≤ 256 * J by omega) c
  exact {
    k := fun w a c => (up512_apply _ _ _ _ _).trans (congrArg _ (add_eq 512 rfl _ _ n J a c _ _ (fun r hr => (ho c r hr).2) (hx.q a) fun r => hd r c))
    v := fun w a c => (up512_apply _ _ _ _ _).trans (congrArg _ (add_eq 512 rfl _ _ n J a c _ _ (fun r hr => (ho c r hr).1) (hx.d a) fun r => hp r c))
    c := fun w c => (pay168_apply _ _ _).trans (congrArg _ (take_eq 512 rfl _ n J c _ (fun r hr => (ho c r hr).2) fun r => hd r c))
    a := fun a r x => by
      by_cases hr : r.val < 512
      · refine (pay169_early _ _ _ _ _ hr).trans ?_
        rw [more_zero A J _ x (by omega), EReal.coe_zero, add_zero]
      · have er : r = row2 ⟨r.val - 512, by omega⟩ := Fin.ext (by show r.val = 512 + (r.val - 512); omega)
        rw [er]
        exact (pay169_late _ _ _ _ _).trans (congrArg _ (more_eq A J _ x _ _ (fun c => hd _ c) fun c => g.k c x)) }

theorem edge3_does (hJ : J = 4 * n + 3) (x y : FVec Ideal S64x256 .bf16) (hx : Rows (fun a r => x (ix2 a r)) (fun a r => y (ix2 a r)) A n 768) :
    Does (edge3 h kb vb cb x y) A n J := by
  have hd : ∀ (r c : Fin 256), k0_pay184 (F := Ideal) k0_pay104 h.q h.d h.e h.l kb vb cb (ix2 r c) = (A.ds (1024 * n + (768 + r.val)) (256 * J + c.val) : ℝ) :=
    fun r c => (pay184_apply h kb vb cb c _ r).trans (by rw [mask3]; exact g.ds_edge (row3 r) c 3 hJ)
  have hp : ∀ (r c : Fin 256), k0_pay183 (F := Ideal) k0_pay104 h.q h.l kb cb (ix2 r c) = (A.p (1024 * n + (768 + r.val)) (256 * J + c.val) : ℝ) :=
    fun r c => (pay183_apply h kb cb c _ r).trans (by rw [mask3]; exact g.p_edge (row3 r) c 3 hJ)
  have ho := fun c => early g A 768 (show 1024 * n + 768 ≤ 256 * J by omega) c
  exact {
    k := fun w a c => (up256_apply _ _ _ _ _).trans (congrArg _ (add_eq 768 rfl _ _ n J a c _ _ (fun r hr => (ho c r hr).2) (hx.q a) fun r => hd r c))
    v := fun w a c => (up256_apply _ _ _ _ _).trans (congrArg _ (add_eq 768 rfl _ _ n J a c _ _ (fun r hr => (ho c r hr).1) (hx.d a) fun r => hp r c))
    c := fun w c => (pay188_apply _ _ _).trans (congrArg _ (take_eq 768 rfl _ n J c _ (fun r hr => (ho c r hr).2) fun r => hd r c))
    a := fun a r x => by
      by_cases hr : r.val < 768
      · refine (pay189_early _ _ _ _ _ hr).trans ?_
        rw [more_zero A J _ x (by omega), EReal.coe_zero, add_zero]
      · have er : r = row3 ⟨r.val - 768, by omega⟩ := Fin.ext (by show r.val = 768 + (r.val - 768); omega)
        rw [er]
        exact (pay189_late _ _ _ _ _).trans (congrArg _ (more_eq A J _ x _ _ (fun c => hd _ c) fun c => g.k c x)) }

end

end Cert.Fox
-- ==== Proof.FoxHeads.lean ====
/- Hand-written, untrusted: the heads of the forgetting attention, out of real queries, keys, values, decays and cotangents, and the
   softmax of one row, whatever number is taken off its logits. -/
module

public import proofs.«01_k».proof.Proof.FoxMath
public import proofs.«01_k».proof.Proof.SbHeads

@[expose] public section

set_option maxRecDepth 16384

noncomputable section

namespace Cert.Fox

open Idealize.ShloMosaic Cert.Finite Finset
open Cert.Sb (laneOf place place_val)

/-- The logit of query `s` and key `j`, without what a row has in common. -/
def logit (q k : ℕ → Fin 64 → ℝ) (c : ℕ → ℝ) (s j : ℕ) : ℝ := ∑ x, q s x * k j x - c j
/-- The logarithm of the sum of a row's exponentials. -/
def logSum (q k : ℕ → Fin 64 → ℝ) (c : ℕ → ℝ) (s : ℕ) : ℝ := Real.log (∑ j ∈ range 2048, if j ≤ s then Real.exp (logit q k c s j) else 0)
/-- A row's output. -/
def outOf (q k v : ℕ → Fin 64 → ℝ) (c : ℕ → ℝ) (s : ℕ) (x : Fin 64) : ℝ :=
  ∑ j ∈ range 2048, (if j ≤ s then Real.exp (logit q k c s j - logSum q k c s) else 0) * v j x

/-- The attention of given queries, keys, values, cotangents and decays. -/
def attOf (q k v d : ℕ → Fin 64 → ℝ) (c : ℕ → ℝ) : Att where
  q := q
  k := k
  v := v
  d := d
  c := c
  l := logSum q k c
  e s := ∑ x, d s x * outOf q k v c s x

/-- Head `h` of sequence `b`. -/
def headOf (Q K V D : (⟨3, ![4, 2048, 2048]⟩ : Shape).Idx → ℝ) (C : (⟨3, ![4, 32, 2048]⟩ : Shape).Idx → ℝ) (b : Fin 4) (h : Fin 32) : Att :=
  attOf (fun s x => Q (ix3 b (place s) (laneOf h x)) * (1 / 8)) (fun j x => K (ix3 b (place j) (laneOf h x)))
    (fun j x => V (ix3 b (place j) (laneOf h x))) (fun s x => D (ix3 b (place s) (laneOf h x))) (fun j => C (ix3 b h (place j)))

section
variable (q k v d : ℕ → Fin 64 → ℝ) (c : ℕ → ℝ)

/-- The weights of a row add up to one. -/
theorem attOf_sum (s : ℕ) : ∑ j ∈ range 2048, (attOf q k v d c).p s j = 1 := by
  have pos : 0 < ∑ j ∈ range 2048, if j ≤ s then Real.exp (logit q k c s j) else 0 :=
    sum_pos' (fun j _ => by split <;> positivity) ⟨0, mem_range.2 (by omega), by rw [if_pos (Nat.zero_le s)]; positivity⟩
  have e : ∀ j, (attOf q k v d c).p s j = (if j ≤ s then Real.exp (logit q k c s j) else 0) / ∑ j ∈ range 2048, if j ≤ s then Real.exp (logit q k c s j) else 0 := fun j => by
    unfold Att.p
    by_cases h : j ≤ s
    · rw [if_pos h, if_pos h]
      show Real.exp (logit q k c s j - Real.log _) = _
      rw [Real.exp_sub, Real.exp_log pos]
    · rw [if_neg h, if_neg h, zero_div]
  rw [sum_congr rfl fun j _ => e j, ← sum_div, div_self pos.ne']

/-- A row's sum of cotangent times output, lane by lane. -/
theorem attOf_e_lanes (s : ℕ) : (attOf q k v d c).e s = ∑ x, (attOf q k v d c).d s x * ∑ j ∈ range 2048, (attOf q k v d c).p s j * (attOf q k v d c).v j x := rfl

/-- A row's sum of cotangent times output, by the weights. -/
theorem attOf_e (s : ℕ) : (attOf q k v d c).e s = ∑ j ∈ range 2048, (attOf q k v d c).p s j * ∑ x, d s x * v j x := by
  show ∑ x, d s x * ∑ j ∈ range 2048, (attOf q k v d c).p s j * v j x = _
  simp only [mul_sum]
  rw [sum_comm]
  exact sum_congr rfl fun j _ => sum_congr rfl fun x _ => by ring

/-- The gradients of a row's logits add up to nothing. -/
theorem attOf_ds_sum (s : ℕ) : ∑ j ∈ range 2048, (attOf q k v d c).ds s j = 0 := by
  have e : ∀ j, (attOf q k v d c).ds s j = (attOf q k v d c).p s j * (∑ x, d s x * v j x) - (attOf q k v d c).p s j * (attOf q k v d c).e s := fun j => mul_sub _ _ _
  rw [sum_congr rfl fun j _ => e j, sum_sub_distrib, ← sum_mul, attOf_sum, ← attOf_e, one_mul, sub_self]

/-- The exponential of a row's logit, when a real number has been taken off: the weight, times a number of the row. -/
theorem attOf_exp (s j : ℕ) (t M : ℝ) (y : EReal) (hy : y = if j ≤ s then ((logit q k c s j + t : ℝ) : EReal) else ⊥) :
    Ideal.exp (y - M) = (((attOf q k v d c).p s j * Real.exp (logSum q k c s + t - M) : ℝ) : EReal) := by
  rw [hy]
  unfold Att.p
  by_cases h : j ≤ s
  · rw [if_pos h, if_pos h, ← EReal.coe_sub, exp_coe]
    show _ = ((Real.exp (logit q k c s j - logSum q k c s) * _ : ℝ) : EReal)
    rw [← Real.exp_add]
    exact congrArg (fun r : ℝ => ((Real.exp r : ℝ) : EReal)) (by ring)
  · rw [if_neg h, if_neg h, zero_mul, EReal.bot_sub, exp_bot, EReal.coe_zero]
end

instance : Std.Commutative (max : EReal → EReal → EReal) := ⟨max_comm⟩
instance : Std.Associative (max : EReal → EReal → EReal) := ⟨max_assoc⟩

/-- The largest of the numbers along the last axis, one of which is real and none of which is `⊤`. -/
theorem row_max (X : (⟨4, ![4, 32, 2048, 2048]⟩ : Shape).Idx → EReal) (init : (⟨0, ![]⟩ : Shape).Idx → EReal)
    (h : (⟨4, ![4, 32, 2048, 2048]⟩ : Shape).ReducesTo [3] ⟨3, ![4, 32, 2048]⟩) (hu : 0 < (⟨0, ![]⟩ : Shape).numel)
    (h0 : init (Shape.Idx.first hu) = ⊥) (ht : ∀ i, X i ≠ ⊤) (b : Fin 4) (g : Fin 32) (s : Fin 2048) (h1 : X (ix4 b g s 0) ≠ ⊥) :
    ∃ M : ℝ, Host.reduce (FloatOps.maximumf (F := Ideal) (φ := .f32)) X init h hu (ix3 b g s) = (M : EReal) := by
  have e : Host.reduce (FloatOps.maximumf (F := Ideal) (φ := .f32)) X init h hu (ix3 b g s) = Host.reduce (max : EReal → EReal → EReal) X init h hu (ix3 b g s) := rfl
  rw [e, Host.reduce_eq_fold_single (a := 3) _ X init h (by decide) hu, h0]
  refine ⟨EReal.toReal _, (EReal.coe_toReal ?_ ?_).symm⟩
  · exact ((fold_max_lt _).2 ⟨bot_lt_top, fun x _ => lt_top_iff_ne_top.2 (ht _)⟩).ne
  · refine ((lt_fold_max _).2 (Or.inr ⟨(0 : Fin 2048), mem_univ _, bot_lt_iff_ne_bot.2 ?_⟩)).ne'
    refine (congrArg X ?_).trans_ne h1
    funext a
    match a with | ⟨0, _⟩ => rfl | ⟨1, _⟩ => rfl | ⟨2, _⟩ => rfl | ⟨3, _⟩ => rfl

end Cert.Fox
-- ==== Proof.FoxState.lean ====
/- Hand-written, untrusted: what one head has gathered of the forgetting attention's gradient after some of the key blocks of a
   query block, over the reals. -/
module

public import proofs.«01_k».proof.Proof.FoxMath

@[expose] public section

noncomputable section

namespace Cert.Fox

open Idealize.ShloMosaic Cert.Finite Finset

/-- What one head carries: the gradient of a query block's queries, and the gradients of the keys, of the values (by key block,
    lane and key) and of the keys' decays. -/
structure Got where
  dq : Fin 1024 → Fin 64 → EReal
  dk : Fin 8 → Fin 64 → Fin 256 → EReal
  dv : Fin 8 → Fin 64 → Fin 256 → EReal
  dc : Fin 8 → Fin 256 → EReal

/-- A gradient of the keys (`f` the queries, `g` the logits' gradients) or of the values (`f` the cotangents, `g` the weights) over
    the first `n` query blocks. -/
def gath (f : ℕ → Fin 64 → ℝ) (g : ℕ → ℕ → ℝ) (n : ℕ) (K : Fin 8) (x : Fin 64) (c : Fin 256) : ℝ := ∑ m ∈ range n, add f g m K.val x c
/-- The decays' gradient over the first `n` query blocks. -/
def lost (g : ℕ → ℕ → ℝ) (n : ℕ) (K : Fin 8) (c : Fin 256) : ℝ := -∑ m ∈ range n, take g m K.val c

/-- In query block `n` the key blocks `S` are done. -/
structure Upto (A : Att) (n : ℕ) (S : Finset ℕ) (g : Got) : Prop where
  dq : ∀ (r : Fin 1024) x, g.dq r x = (∑ J ∈ S, more A J (1024 * n + r.val) x : ℝ)
  dk : ∀ (K : Fin 8) x c, g.dk K x c = (gath A.q A.ds (if K.val ∈ S then n + 1 else n) K x c : ℝ)
  dv : ∀ (K : Fin 8) x c, g.dv K x c = (gath A.d A.p (if K.val ∈ S then n + 1 else n) K x c : ℝ)
  dc : ∀ (K : Fin 8) c, g.dc K c = (lost A.ds (if K.val ∈ S then n + 1 else n) K c : ℝ)

/-- Query block `n` is done. -/
structure Fin' (A : Att) (n : ℕ) (g : Got) : Prop where
  dq : ∀ (r : Fin 1024) x, g.dq r x = (∑ J ∈ range 8, more A J (1024 * n + r.val) x : ℝ)
  dk : ∀ (K : Fin 8) x c, g.dk K x c = (gath A.q A.ds (n + 1) K x c : ℝ)
  dv : ∀ (K : Fin 8) x c, g.dv K x c = (gath A.d A.p (n + 1) K x c : ℝ)
  dc : ∀ (K : Fin 8) c, g.dc K c = (lost A.ds (n + 1) K c : ℝ)

/-- What key block `J` changes. -/
structure Step (A : Att) (n J : ℕ) (g g' : Got) : Prop where
  dq : ∀ (r : Fin 1024) x, g'.dq r x = g.dq r x + (more A J (1024 * n + r.val) x : ℝ)
  dk : ∀ (K : Fin 8) x c, g'.dk K x c = if K.val = J then g.dk K x c + (add A.q A.ds n J x c : ℝ) else g.dk K x c
  dv : ∀ (K : Fin 8) x c, g'.dv K x c = if K.val = J then g.dv K x c + (add A.d A.p n J x c : ℝ) else g.dv K x c
  dc : ∀ (K : Fin 8) c, g'.dc K c = if K.val = J then g.dc K c - (take A.ds n J c : ℝ) else g.dc K c

theorem gath_next (f : ℕ → Fin 64 → ℝ) (g : ℕ → ℕ → ℝ) (n : ℕ) (K : Fin 8) (x : Fin 64) (c : Fin 256) :
    gath f g (n + 1) K x c = gath f g n K x c + add f g n K.val x c := sum_range_succ _ _
theorem lost_next (g : ℕ → ℕ → ℝ) (n : ℕ) (K : Fin 8) (c : Fin 256) : lost g (n + 1) K c = lost g n K c - take g n K.val c := by
  unfold lost
  rw [sum_range_succ, neg_add, sub_eq_add_neg]

variable {A : Att} {n J : ℕ} {S : Finset ℕ} {g g' : Got}

theorem Upto.step (hu : Upto A n S g) (hJ : J ∉ S) (hs : Step A n J g g') : Upto A n (insert J S) g' where
  dq r x := by rw [hs.dq, hu.dq, sum_insert hJ, add_comm (more A J _ x), EReal.coe_add]
  dk K x c := by
    rw [hs.dk, hu.dk]
    by_cases h : K.val = J
    · rw [if_pos h, h, if_neg hJ, if_pos (mem_insert_self J S), gath_next, EReal.coe_add, h]
    · rw [if_neg h]
      simp only [mem_insert, h, false_or]
  dv K x c := by
    rw [hs.dv, hu.dv]
    by_cases h : K.val = J
    · rw [if_pos h, h, if_neg hJ, if_pos (mem_insert_self J S), gath_next, EReal.coe_add, h]
    · rw [if_neg h]
      simp only [mem_insert, h, false_or]
  dc K c := by
    rw [hs.dc, hu.dc]
    by_cases h : K.val = J
    · rw [if_pos h, h, if_neg hJ, if_pos (mem_insert_self J S), lost_next, EReal.coe_sub, h]
    · rw [if_neg h]
      simp only [mem_insert, h, false_or]

/-- A query block adds nothing at later key blocks. -/
theorem gath_late (f : ℕ → Fin 64 → ℝ) (g : ℕ → ℕ → ℝ) (hg : ∀ s j, s < j → g s j = 0) (K : Fin 8) (hK : 4 * n + 4 ≤ K.val) (x : Fin 64) (c : Fin 256) :
    gath f g n K x c = gath f g (n + 1) K x c := by
  rw [gath_next, add, sum_eq_zero, add_zero]
  intro r hr
  have := mem_range.1 hr
  rw [hg _ _ (by omega), mul_zero]
theorem lost_late (g : ℕ → ℕ → ℝ) (hg : ∀ s j, s < j → g s j = 0) (K : Fin 8) (hK : 4 * n + 4 ≤ K.val) (c : Fin 256) : lost g n K c = lost g (n + 1) K c := by
  rw [lost_next, take, sum_eq_zero, sub_zero]
  intro r hr
  have := mem_range.1 hr
  exact hg _ _ (by omega)

/-- When all key blocks up to the diagonal's last are done, the query block is. -/
theorem Upto.fin (hn : n < 2) (hS : ∀ J < 8, J ∈ S ↔ J < 4 * n + 4) (hlt : ∀ J ∈ S, J < 8) (hu : Upto A n S g) : Fin' A n g where
  dq r x := by
    rw [hu.dq]
    refine congrArg _ (sum_subset (fun J h => mem_range.2 (hlt J h)) fun J h h' => more_zero A J _ x ?_)
    have h8 := mem_range.1 h
    have := (hS J h8).not.1 h'
    omega
  dk K x c := by
    rw [hu.dk]
    by_cases h : K.val < 4 * n + 4
    · rw [if_pos ((hS _ K.isLt).2 h)]
    · rw [if_neg ((hS _ K.isLt).not.2 h), gath_late _ _ (fun s j => A.ds_zero) K (by omega)]
  dv K x c := by
    rw [hu.dv]
    by_cases h : K.val < 4 * n + 4
    · rw [if_pos ((hS _ K.isLt).2 h)]
    · rw [if_neg ((hS _ K.isLt).not.2 h), gath_late _ _ (fun s j => A.p_zero) K (by omega)]
  dc K c := by
    rw [hu.dc]
    by_cases h : K.val < 4 * n + 4
    · rw [if_pos ((hS _ K.isLt).2 h)]
    · rw [if_neg ((hS _ K.isLt).not.2 h), lost_late _ (fun s j => A.ds_zero) K (by omega)]

end Cert.Fox
-- ==== Proof.FoxBlock.lean ====
/- Hand-written, untrusted: where the forgetting attention's gradient finds its blocks, and what a block of one head does to what the
   two heads have gathered. -/
module

public import proofs.«01_k».proof.Proof.FoxState
public import proofs.«01_k».proof.Proof.FoxBody

@[expose] public section

set_option maxRecDepth 16384

noncomputable section

namespace Cert.Fox

open Idealize.ShloMosaic Cert.Finite Idealize.ShloMosaic.TcCoe Cert.Kernel7Ideal Cert.Kernel7Ideal.Gen
open VecWindow (window put)

/-! ### Where the blocks lie -/

/-- The word that says that all key blocks before the query block are visited. -/
def whole (n : Fin 2) : BitVec 32 := BitVec.ofNat 32 (4 * n.val)

section
variable (n : Fin 2) (d : Fin 4)
theorem trips_small : ∀ n : Fin 2, (k0_t1_loop (point n) (whole n)).trips = 2 * n.val := by decide +kernel
theorem off1_small : ∀ (n : Fin 2) (d : Fin 4), k0_off1 (point n) (BitVec.ofNat 32 d.val) = ![256 * (4 * n.val + d.val), 0] := by decide +kernel
theorem off2_small : ∀ (n : Fin 2) (d : Fin 4), k0_off2 (point n) (BitVec.ofNat 32 d.val) = ![0, 0, 4 * n.val + d.val, 0] := by decide +kernel
theorem off3_small : ∀ (n : Fin 2) (d : Fin 4), k0_off3 (point n) (BitVec.ofNat 32 d.val) = ![4 * n.val + d.val, 0, 0] := by decide +kernel
theorem off4_small : ∀ (n : Fin 2) (d : Fin 4), k0_off4 (point n) (BitVec.ofNat 32 d.val) = ![256 * (4 * n.val + d.val), 64] := by decide +kernel
theorem off5_small : ∀ (n : Fin 2) (d : Fin 4), k0_off5 (point n) (BitVec.ofNat 32 d.val) = ![0, 1, 4 * n.val + d.val, 0] := by decide +kernel
theorem off6_small : ∀ (n : Fin 2) (d : Fin 4), k0_off6 (point n) (BitVec.ofNat 32 d.val) = ![4 * n.val + d.val, 64, 0] := by decide +kernel
theorem off7_small : ∀ (n : Fin 2) (k : Fin (k0_t1_loop (point n) (whole n)).trips) (j : Fin 2),
    k0_off7 (point n) (whole n) k (BitVec.ofNat 32 j.val) = ![256 * (2 * k.val + j.val), 0] := by decide +kernel
theorem off8_small : ∀ (n : Fin 2) (k : Fin (k0_t1_loop (point n) (whole n)).trips) (j : Fin 2),
    k0_off8 (point n) (whole n) k (BitVec.ofNat 32 j.val) = ![0, 0, 2 * k.val + j.val, 0] := by decide +kernel
theorem off9_small : ∀ (n : Fin 2) (k : Fin (k0_t1_loop (point n) (whole n)).trips) (j : Fin 2),
    k0_off9 (point n) (whole n) k (BitVec.ofNat 32 j.val) = ![2 * k.val + j.val, 0, 0] := by decide +kernel
theorem off10_small : ∀ (n : Fin 2) (k : Fin (k0_t1_loop (point n) (whole n)).trips) (j : Fin 2),
    k0_off10 (point n) (whole n) k (BitVec.ofNat 32 j.val) = ![256 * (2 * k.val + j.val), 64] := by decide +kernel
theorem off11_small : ∀ (n : Fin 2) (k : Fin (k0_t1_loop (point n) (whole n)).trips) (j : Fin 2),
    k0_off11 (point n) (whole n) k (BitVec.ofNat 32 j.val) = ![0, 1, 2 * k.val + j.val, 0] := by decide +kernel
theorem off12_small : ∀ (n : Fin 2) (k : Fin (k0_t1_loop (point n) (whole n)).trips) (j : Fin 2),
    k0_off12 (point n) (whole n) k (BitVec.ofNat 32 j.val) = ![2 * k.val + j.val, 64, 0] := by decide +kernel
end

section
variable (i : grid0.Coords) (d : Fin 4)
theorem trips_eq : (k0_t1_loop i (whole (i 2))).trips = 2 * (i 2).val := trips_small (i 2)
theorem off1_eq : k0_off1 i (BitVec.ofNat 32 d.val) = ![256 * (4 * (i 2).val + d.val), 0] := off1_small (i 2) d
theorem off2_eq : k0_off2 i (BitVec.ofNat 32 d.val) = ![0, 0, 4 * (i 2).val + d.val, 0] := off2_small (i 2) d
theorem off3_eq : k0_off3 i (BitVec.ofNat 32 d.val) = ![4 * (i 2).val + d.val, 0, 0] := off3_small (i 2) d
theorem off4_eq : k0_off4 i (BitVec.ofNat 32 d.val) = ![256 * (4 * (i 2).val + d.val), 64] := off4_small (i 2) d
theorem off5_eq : k0_off5 i (BitVec.ofNat 32 d.val) = ![0, 1, 4 * (i 2).val + d.val, 0] := off5_small (i 2) d
theorem off6_eq : k0_off6 i (BitVec.ofNat 32 d.val) = ![4 * (i 2).val + d.val, 64, 0] := off6_small (i 2) d
variable (k : Fin (k0_t1_loop i (whole (i 2))).trips) (j : Fin 2)
theorem off7_eq : k0_off7 i (whole (i 2)) k (BitVec.ofNat 32 j.val) = ![256 * (2 * k.val + j.val), 0] := off7_small (i 2) k j
theorem off8_eq : k0_off8 i (whole (i 2)) k (BitVec.ofNat 32 j.val) = ![0, 0, 2 * k.val + j.val, 0] := off8_small (i 2) k j
theorem off9_eq : k0_off9 i (whole (i 2)) k (BitVec.ofNat 32 j.val) = ![2 * k.val + j.val, 0, 0] := off9_small (i 2) k j
theorem off10_eq : k0_off10 i (whole (i 2)) k (BitVec.ofNat 32 j.val) = ![256 * (2 * k.val + j.val), 64] := off10_small (i 2) k j
theorem off11_eq : k0_off11 i (whole (i 2)) k (BitVec.ofNat 32 j.val) = ![0, 1, 2 * k.val + j.val, 0] := off11_small (i 2) k j
theorem off12_eq : k0_off12 i (whole (i 2)) k (BitVec.ofNat 32 j.val) = ![2 * k.val + j.val, 64, 0] := off12_small (i 2) k j
end

/-- A lane of the first head. -/
def lane0 (x : Fin 64) : Fin 128 := ⟨x.val, by omega⟩
/-- A lane of the second head. -/
def lane1 (x : Fin 64) : Fin 128 := ⟨64 + x.val, by omega⟩

/-- A block of keys or values. -/
theorem win_key (x : Vec Ideal S2048x128 .bf16) {off : Fin 2 → ℕ} (inb : ∀ a, off a + S256x64.size a ≤ S2048x128.size a) {a b : ℕ} (h : off = ![a, b])
    (c : Fin 256) (y : Fin 64) (r : Fin 2048) (s : Fin 128) (hr : r.val = a + c.val) (hs : s.val = b + y.val) :
    window x off S256x64.size inb (ix2 c y) = x (ix2 r s) := by
  subst h
  refine congrArg x (funext fun e => Fin.ext ?_)
  match e with
  | 0 => show a + 1 * c.val = r.val; omega
  | 1 => show b + 1 * y.val = s.val; omega

/-- A block of the keys' decays or of their gradient. -/
theorem win_decay (x : Vec Ideal S1x2x8x256 .f32) {off : Fin 4 → ℕ} (inb : ∀ a, off a + S1x1x1x256.size a ≤ S1x2x8x256.size a) {a b : ℕ} (h : off = ![0, b, a, 0])
    (c : Fin 256) (s : Fin 2) (K : Fin 8) (hs : s.val = b) (hK : K.val = a) : window x off S1x1x1x256.size inb (ix4 0 0 0 c) = x (ix4 0 s K c) := by
  subst h
  refine congrArg x (funext fun e => Fin.ext ?_)
  match e with
  | 0 => rfl
  | 1 => show b + 1 * 0 = s.val; omega
  | 2 => show a + 1 * 0 = K.val; omega
  | 3 => show 0 + 1 * c.val = c.val; omega

/-- A block of a gathered gradient. -/
theorem win_acc (x : Vec Ideal S8x128x256 .f32) {off : Fin 3 → ℕ} (inb : ∀ a, off a + S1x64x256.size a ≤ S8x128x256.size a) {a b : ℕ} (h : off = ![a, b, 0])
    (y : Fin 64) (c : Fin 256) (K : Fin 8) (s : Fin 128) (hK : K.val = a) (hs : s.val = b + y.val) :
    window x off S1x64x256.size inb (ix3 0 y c) = x (ix3 K s c) := by
  subst h
  refine congrArg x (funext fun e => Fin.ext ?_)
  match e with
  | 0 => show a + 1 * 0 = K.val; omega
  | 1 => show b + 1 * y.val = s.val; omega
  | 2 => show 0 + 1 * c.val = c.val; omega

/-- A gathered gradient, after a block of one head has been added to. -/
theorem put_step (x : Vec Ideal S8x128x256 .f32) {off : Fin 3 → ℕ} (inb : ∀ a, off a + S1x64x256.size a ≤ S8x128x256.size a) {a b : ℕ} (h : off = ![a, b, 0])
    (w : Vec Ideal S1x64x256 .f32) (f : Fin 64 → Fin 256 → EReal) (hw : ∀ y c, w (ix3 0 y c) = window x off S1x64x256.size inb (ix3 0 y c) + f y c)
    (K : Fin 8) (y : Fin 64) (c : Fin 256) (s : Fin 128) (hs : s.val = b + y.val) :
    put x off S1x64x256.size w (ix3 K s c) = if K.val = a then x (ix3 K s c) + f y c else x (ix3 K s c) := by
  by_cases hK : K.val = a
  · rw [if_pos hK, ← win_acc x inb h y c K s hK hs, ← hw]
    subst h
    unfold put
    rw [dif_pos (fun e => by
      match e with
      | 0 => exact ⟨by show a ≤ K.val; omega, by show K.val < a + 1; omega⟩
      | 1 => exact ⟨by show b ≤ s.val; omega, by show s.val < b + 64; omega⟩
      | 2 => exact ⟨Nat.zero_le _, by show c.val < 0 + 256; omega⟩)]
    refine congrArg w (funext fun e => Fin.ext ?_)
    match e with
    | 0 => show K.val - a = 0; omega
    | 1 => show s.val - b = y.val; omega
    | 2 => show c.val - 0 = c.val; omega
  · rw [if_neg hK]
    subst h
    unfold put
    exact dif_neg (fun e => hK (by have := e 0; have h1 : a ≤ K.val := this.1; have h2 : K.val < a + 1 := this.2; omega))

/-- The other head's lanes stay. -/
theorem put_other (x : Vec Ideal S8x128x256 .f32) {off : Fin 3 → ℕ} {a b : ℕ} (h : off = ![a, b, 0]) (w : Vec Ideal S1x64x256 .f32)
    (K : Fin 8) (c : Fin 256) (s : Fin 128) (hs : s.val < b ∨ b + 64 ≤ s.val) : put x off S1x64x256.size w (ix3 K s c) = x (ix3 K s c) := by
  subst h
  unfold put
  exact dif_neg (fun e => by have := e 1; have h1 : b ≤ s.val := this.1; have h2 : s.val < b + 64 := this.2; omega)

/-- The decays' gradient, after a block of one head. -/
theorem decay_step (x : Vec Ideal S1x2x8x256 .f32) {off : Fin 4 → ℕ} (inb : ∀ a, off a + S1x1x1x256.size a ≤ S1x2x8x256.size a) {a b : ℕ} (h : off = ![0, b, a, 0])
    (w : Vec Ideal S1x1x1x256 .f32) (f : Fin 256 → EReal) (hw : ∀ c, w (ix4 0 0 0 c) = window x off S1x1x1x256.size inb (ix4 0 0 0 c) - f c)
    (K : Fin 8) (c : Fin 256) (s : Fin 2) (hs : s.val = b) :
    put x off S1x1x1x256.size w (ix4 0 s K c) = if K.val = a then x (ix4 0 s K c) - f c else x (ix4 0 s K c) := by
  by_cases hK : K.val = a
  · rw [if_pos hK, ← win_decay x inb h c s K hs hK, ← hw]
    subst h
    unfold put
    rw [dif_pos (fun e => by
      match e with
      | 0 => exact ⟨Nat.le_refl _, Nat.zero_lt_one⟩
      | 1 => exact ⟨by show b ≤ s.val; omega, by show s.val < b + 1; omega⟩
      | 2 => exact ⟨by show a ≤ K.val; omega, by show K.val < a + 1; omega⟩
      | 3 => exact ⟨Nat.zero_le _, by show c.val < 0 + 256; omega⟩)]
    refine congrArg w (funext fun e => Fin.ext ?_)
    match e with
    | 0 => rfl
    | 1 => show s.val - b = 0; omega
    | 2 => show K.val - a = 0; omega
    | 3 => show c.val - 0 = c.val; omega
  · rw [if_neg hK]
    subst h
    unfold put
    exact dif_neg (fun e => hK (by have := e 2; have h1 : a ≤ K.val := this.1; have h2 : K.val < a + 1 := this.2; omega))

theorem decay_other (x : Vec Ideal S1x2x8x256 .f32) {off : Fin 4 → ℕ} {a b : ℕ} (h : off = ![0, b, a, 0]) (w : Vec Ideal S1x1x1x256 .f32)
    (K : Fin 8) (c : Fin 256) (s : Fin 2) (hs : s.val ≠ b) : put x off S1x1x1x256.size w (ix4 0 s K c) = x (ix4 0 s K c) := by
  subst h
  unfold put
  exact dif_neg (fun e => hs (by have := e 1; have h1 : b ≤ s.val := this.1; have h2 : s.val < b + 1 := this.2; omega))

/-! ### What a block does -/

/-- What the first head carries. -/
def got0 (s : St Ideal) : Got where
  dq r x := s.acc.1 (ix2 r x)
  dk K x c := s.dk (ix3 K (lane0 x) c)
  dv K x c := s.dv (ix3 K (lane0 x) c)
  dc K c := s.dc (ix4 0 0 K c)

/-- What the second head carries. -/
def got1 (s : St Ideal) : Got where
  dq r x := s.acc.2 (ix2 r x)
  dk K x c := s.dk (ix3 K (lane1 x) c)
  dv K x c := s.dv (ix3 K (lane1 x) c)
  dc K c := s.dc (ix4 0 1 K c)

section
variable {t : Txt Ideal} {A : Att} {n J : ℕ} {og : Fin 3 → ℕ} (hg : ∀ a, og a + S1x64x256.size a ≤ S8x128x256.size a) {oc : Fin 4 → ℕ}
  (hc : ∀ a, oc a + S1x1x1x256.size a ≤ S1x2x8x256.size a) (s : St Ideal)

theorem left_step (ht : Does t A n J) (eg : og = ![J, 0, 0]) (ec : oc = ![0, 0, J, 0]) : Step A n J (got0 s) (got0 (left t og hg oc hc s)) where
  dq r x := ht.a _ r x
  dk K x c := put_step _ hg eg _ _ (fun y c => ht.k _ y c) K x c _ (Nat.zero_add _).symm
  dv K x c := put_step _ hg eg _ _ (fun y c => ht.v _ y c) K x c _ (Nat.zero_add _).symm
  dc K c := decay_step _ hc ec _ _ (fun c => ht.c _ c) K c 0 rfl

theorem left_other (eg : og = ![J, 0, 0]) (ec : oc = ![0, 0, J, 0]) : got1 (left t og hg oc hc s) = got1 s := by
  unfold got1 left
  rw [Got.mk.injEq]
  refine ⟨rfl, ?_, ?_, ?_⟩
  · funext K x c; exact put_other _ eg _ _ _ _ (Or.inr (by show 0 + 64 ≤ 64 + x.val; omega))
  · funext K x c; exact put_other _ eg _ _ _ _ (Or.inr (by show 0 + 64 ≤ 64 + x.val; omega))
  · funext K c; exact decay_other _ ec _ _ _ 1 (by decide)

theorem right_step (ht : Does t A n J) (eg : og = ![J, 64, 0]) (ec : oc = ![0, 1, J, 0]) : Step A n J (got1 s) (got1 (right t og hg oc hc s)) where
  dq r x := ht.a _ r x
  dk K x c := put_step _ hg eg _ _ (fun y c => ht.k _ y c) K x c _ rfl
  dv K x c := put_step _ hg eg _ _ (fun y c => ht.v _ y c) K x c _ rfl
  dc K c := decay_step _ hc ec _ _ (fun c => ht.c _ c) K c 1 rfl

theorem right_other (eg : og = ![J, 64, 0]) (ec : oc = ![0, 1, J, 0]) : got0 (right t og hg oc hc s) = got0 s := by
  unfold got0 right
  rw [Got.mk.injEq]
  refine ⟨rfl, ?_, ?_, ?_⟩
  · funext K x c; exact put_other _ eg _ _ _ _ (Or.inl (by show x.val < 64; omega))
  · funext K x c; exact put_other _ eg _ _ _ _ (Or.inl (by show x.val < 64; omega))
  · funext K c; exact decay_other _ ec _ _ _ 0 (by decide)
end

/-! ### What a grid point starts from -/

/-- The scale. -/
theorem eighth : Ideal.ofBits .f32 0x3E000000#32 = ((1 / 8 : ℝ) : EReal) := by
  simp [Ideal.ofBits, Ideal.ieee]
  rw [← EReal.coe_mul]
  norm_num

section
variable (x : Vec Ideal S1024x128 .bf16) (r : Fin 1024) (y : Fin 64)

theorem qt_apply (s : Fin 128) : k0_pay107 (F := Ideal) x (ix2 s r) = x (ix2 r s) * ((1 / 8 : ℝ) : EReal) := by
  unfold k0_pay107 k0_pay105
  pointwise
  rw [← eighth]
theorem dt_apply (s : Fin 128) : k0_pay108 (F := Ideal) x (ix2 s r) = x (ix2 r s) := by
  unfold k0_pay108 k0_pay106
  pointwise
theorem q0_apply : k0_pay109 (F := Ideal) x (ix2 r y) = x (ix2 r (lane0 y)) * ((1 / 8 : ℝ) : EReal) := by
  unfold k0_pay109 k0_pay105
  pointwise
  rw [← eighth]
  rfl
theorem q1_apply : k0_pay110 (F := Ideal) x (ix2 r y) = x (ix2 r (lane1 y)) * ((1 / 8 : ℝ) : EReal) := by
  unfold k0_pay110 k0_pay105
  pointwise
  rw [← eighth]
  rfl
theorem d0_apply : k0_pay111 (F := Ideal) x (ix2 r y) = x (ix2 r (lane0 y)) := by
  unfold k0_pay111 k0_pay106
  pointwise
  rfl
theorem d1_apply : k0_pay112 (F := Ideal) x (ix2 r y) = x (ix2 r (lane1 y)) := by
  unfold k0_pay112 k0_pay106
  pointwise
  rfl
theorem e0_apply (o : Vec Ideal S1024x64 .f32) : k0_pay113 (F := Ideal) x o (ix2 r 0) = ∑ y, x (ix2 r (lane0 y)) * o (ix2 r y) := by
  unfold k0_pay113
  pointwise
  simp only [d0_apply]
theorem e1_apply (o : Vec Ideal S1024x64 .f32) : k0_pay115 (F := Ideal) (k0_pay114 x) o (ix2 r 0) = ∑ y, x (ix2 r (lane1 y)) * o (ix2 r y) := by
  unfold k0_pay115 k0_pay114
  pointwise
  simp only [d1_apply]
end

/-- A column of the rows' logarithms. -/
theorem win_col (x : Vec Ideal S1x1x1024x3 .f32) (b : ℕ) (inb : ∀ a, (![0, 0, 0, b] : Fin 4 → ℕ) a + S1x1x1024x1.size a ≤ S1x1x1024x3.size a) (r : Fin 1024) (k : Fin 3)
    (hk : k.val = b) : window x ![0, 0, 0, b] S1x1x1024x1.size inb (ix4 0 0 r 0) = x (ix4 0 0 r k) := by
  refine congrArg x (funext fun e => Fin.ext ?_)
  match e with
  | 0 => rfl
  | 1 => rfl
  | 2 => show 0 + 1 * r.val = r.val; omega
  | 3 => show b + 1 * 0 = k.val; omega

theorem col0_apply (x : Vec Ideal S1x1x1024x1 .f32) (r : Fin 1024) : k0_pay116 (F := Ideal) x (ix2 r 0) = x (ix4 0 0 r 0) := by
  unfold k0_pay116
  pointwise
theorem col1_apply (x : Vec Ideal S1x1x1024x1 .f32) (r : Fin 1024) : k0_pay117 (F := Ideal) x (ix2 r 0) = x (ix4 0 0 r 0) := by
  unfold k0_pay117
  pointwise

/-- The whole of the query or cotangent block. -/
theorem win_q (x : Vec Ideal S1024x128 .bf16) : window x ![0, 0] S1024x128.size inb_S1024x128_S1024x128_0_0 = x := by
  funext y
  refine congrArg x (funext fun e => Fin.ext ?_)
  match e with
  | 0 => show 0 + 1 * (y 0).val = (y 0).val; omega
  | 1 => show 0 + 1 * (y 1).val = (y 1).val; omega

/-- One head's part of the output's block. -/
theorem win_o (x : Vec Ideal S1024x128 .f32) (b : ℕ) (inb : ∀ a, (![0, b] : Fin 2 → ℕ) a + S1024x64.size a ≤ S1024x128.size a) (r : Fin 1024) (y : Fin 64) (s : Fin 128)
    (hs : s.val = b + y.val) : window x ![0, b] S1024x64.size inb (ix2 r y) = x (ix2 r s) := by
  refine congrArg x (funext fun e => Fin.ext ?_)
  match e with
  | 0 => show 0 + 1 * r.val = r.val; omega
  | 1 => show b + 1 * y.val = s.val; omega

/-- The greatest of equal numbers. -/
theorem max_const {ι : Type*} [Fintype ι] [Nonempty ι] (f : ι → EReal) (x : EReal) (h : ∀ i, f i = x) : Finset.fold max ⊥ f Finset.univ = x := by
  apply le_antisymm
  · rw [Finset.fold_max_le]
    exact ⟨bot_le, fun i _ => (h i).le⟩
  · rw [Finset.le_fold_max]
    exact Or.inr ⟨Classical.arbitrary ι, Finset.mem_univ _, (h _).ge⟩

/-- The number of visited key blocks that the third column holds. -/
theorem word_eq (x9 : Vec Ideal S1x1x1024x3 .f32) (n : Fin 2) (h : ∀ r : Fin 1024, x9 (ix4 0 0 r 2) = ((4 * n.val : ℝ) : EReal)) : word x9 = whole n := by
  have e : k0_pay201 (F := Ideal) (window x9 ![0, 0, 0, 2] S1x1x1024x1.size inb_S1x1x1024x3_S1x1x1024x1_0_0_0_2) = ((4 * n.val : ℝ) : EReal) := by
    unfold k0_pay201
    pointwise
    rw [show Ideal.ofBits .f32 4286578688#32 = ⊥ from by simp [Ideal.ofBits, Ideal.ieee]]
    refine max_const _ _ fun r => ?_
    exact (win_col x9 2 inb_S1x1x1024x3_S1x1x1024x1_0_0_0_2 r.1 2 rfl).trans (h r.1)
  unfold word
  rw [e]
  show Ideal.fptosi 32 _ = _
  unfold Ideal.fptosi whole
  rw [Ideal.toIntClamped_coe, if_pos (by positivity), show ⌊(4 * n.val : ℝ)⌋ = ((4 * n.val : ℕ) : ℤ) from by
    rw [show (4 * n.val : ℝ) = ((4 * n.val : ℕ) : ℝ) by push_cast; ring, Int.floor_natCast]]
  clear e h
  revert n
  decide

end Cert.Fox
-- ==== Proof.FoxReference.lean ====
/- Hand-written, untrusted: what the reference of the forgetting attention's gradient computes at real arguments. -/
module

public import proofs.«01_k».proof.Proof.Gen.Reference7Ideal.Read
public import proofs.«01_k».proof.Proof.FoxHeads
public import proofs.«01_k».proof.Proof.FoxBlock

@[expose] public section

set_option maxRecDepth 16384

noncomputable section

namespace Cert.Fox

open Idealize.ShloMosaic Cert.Finite Finset
open Cert.Reference7Ideal Cert.Reference7Ideal.Read
open Cert.Sb (laneOf place place_val)

/-- Arrays of real numbers. -/
structure AreReal (x0 x1 x2 : S4x2048x2048.Idx → EReal) (x3 : S4x32x2048.Idx → EReal) (x4 : S4x2048x2048.Idx → EReal) (Q K V : S4x2048x2048.Idx → ℝ)
    (C : S4x32x2048.Idx → ℝ) (D : S4x2048x2048.Idx → ℝ) : Prop where
  q : ∀ i, x0 i = (Q i : EReal)
  k : ∀ i, x1 i = (K i : EReal)
  v : ∀ i, x2 i = (V i : EReal)
  c : ∀ i, x3 i = (C i : EReal)
  d : ∀ i, x4 i = (D i : EReal)

/-- Heads, out of the lanes. -/
theorem split (b : Fin 4) (h : Fin 32) (s : Fin 2048) (x : Fin 64) : idx_main_v0 (idx_main_v1 (ix4 b h s x)) = ix3 b s (laneOf h x) := by
  have := b.isLt; have := h.isLt; have := s.isLt; have := x.isLt
  funext a
  match a with
  | ⟨0, _⟩ => exact Fin.ext (by show (((b.val * 2048 + s.val) * 32 + h.val) * 64 + x.val) / 4194304 = b.val; omega)
  | ⟨1, _⟩ => exact Fin.ext (by show (((b.val * 2048 + s.val) * 32 + h.val) * 64 + x.val) / 2048 % 2048 = s.val; omega)
  | ⟨2, _⟩ => exact Fin.ext (by show (((b.val * 2048 + s.val) * 32 + h.val) * 64 + x.val) % 2048 = h.val * 64 + x.val; omega)

/-- The words of zero, one and minus infinity. -/
theorem word_zero : FloatOps.ofBits (F := Ideal) .f32 0x00000000#32 = (0 : EReal) := Ideal.ofBits_zero_f32
theorem word_bot : FloatOps.ofBits (F := Ideal) .f32 0xFF800000#32 = (⊥ : EReal) := by
  show Ideal.ofBits .f32 0xFF800000#32 = ⊥
  simp [Ideal.ofBits, Ideal.ieee]

/-- A bit that chooses between a number and a word. -/
theorem pick_of (p : Prop) [Decidable p] (x y : EReal) : Scalar.select (BitVec.ofBool (decide p)) x y = if p then x else y := by
  by_cases h : p
  · rw [decide_eq_true h, if_pos h]; rfl
  · rw [decide_eq_false h, if_neg h]; rfl

variable {x0 x1 x2 x4 : S4x2048x2048.Idx → EReal} {x3 : S4x32x2048.Idx → EReal} {Q K V D : S4x2048x2048.Idx → ℝ} {C : S4x32x2048.Idx → ℝ}
variable (R : AreReal x0 x1 x2 x3 x4 Q K V C D)
variable (b : Fin 4) (h : Fin 32) (s j : Fin 2048) (x : Fin 64)

include R

theorem v1_at : val_main_v1 (F := Ideal) x0 (ix4 b h s x) = (Q (ix3 b s (laneOf h x)) : EReal) := by
  rw [val_main_v1_apply, val_main_v0_apply, split, R.q]
theorem v3_at : val_main_v3 (F := Ideal) x1 (ix4 b h j x) = ((headOf Q K V D C b h).k j.val x : ℝ) := by
  rw [val_main_v3_apply, val_main_v2_apply]
  refine (congrArg x1 (split b h j x)).trans ?_
  rw [R.k]; unfold headOf attOf; dsimp only; rw [place_val]
theorem v5_at : val_main_v5 (F := Ideal) x2 (ix4 b h j x) = ((headOf Q K V D C b h).v j.val x : ℝ) := by
  rw [val_main_v5_apply, val_main_v4_apply]
  refine (congrArg x2 (split b h j x)).trans ?_
  rw [R.v]; unfold headOf attOf; dsimp only; rw [place_val]
theorem v55_at : val_main_v55 (F := Ideal) x4 (ix4 b h s x) = ((headOf Q K V D C b h).d s.val x : ℝ) := by
  rw [val_main_v55_apply, val_main_v54_apply]
  refine (congrArg x4 (split b h s x)).trans ?_
  rw [R.d]; unfold headOf attOf; dsimp only; rw [place_val]

omit R in
theorem v22_1_at : val_main_v22_1 (F := Ideal) (ix4 b h s j) = BitVec.ofBool (decide (j.val ≤ s.val)) := by
  rw [val_main_v22_1_apply, val_main_v21_apply, val_main_v19_apply, val_main_v18_apply, val_main_v17_apply, val_main_v20_apply, val_main_v16_apply, val_main_v15_apply]
  exact WordCmp.cmpi_sle_ofNat (by have := j.isLt; show j.val < _; omega) (by have := s.isLt; show s.val < _; omega)

/-- The scaled products of queries and keys. -/
theorem v8_at : val_main_v8 (F := Ideal) x0 x1 (ix4 b h s j)
    = ((∑ x, (headOf Q K V D C b h).q s.val x * (headOf Q K V D C b h).k j.val x : ℝ) : EReal) := by
  have e6 : val_main_v6 (F := Ideal) x0 x1 (ix4 b h s j) = ((∑ x, Q (ix3 b s (laneOf h x)) * (headOf Q K V D C b h).k j.val x : ℝ) : EReal) := by
    rw [val_main_v6_apply, coe_sum]
    refine sum_congr rfl fun x _ => ?_
    rw [show lidx_main_v6 (ix4 b h s j) x = ix4 b h s x from by funext a; match a with | ⟨0, _⟩ => rfl | ⟨1, _⟩ => rfl | ⟨2, _⟩ => rfl | ⟨3, _⟩ => rfl,
      show ridx_main_v6 (ix4 b h s j) x = ix4 b h j x from by funext a; match a with | ⟨0, _⟩ => rfl | ⟨1, _⟩ => rfl | ⟨2, _⟩ => rfl | ⟨3, _⟩ => rfl,
      v1_at R, v3_at R, EReal.coe_mul]
  rw [val_main_v8_apply, val_main_v7_apply, val_main_cst_apply, e6]
  show _ * Ideal.ofBits .f32 0x3E000000#32 = _
  rw [eighth, ← EReal.coe_mul, sum_mul]
  refine congrArg _ (sum_congr rfl fun x _ => ?_)
  show _ = Q (ix3 b (place s.val) (laneOf h x)) * (1 / 8) * _
  rw [place_val]
  ring

/-- The masked logits. -/
theorem v22_at : val_main_v22_0 (F := Ideal) x0 x1 x3 (ix4 b h s j)
    = if j.val ≤ s.val then ((logit (headOf Q K V D C b h).q (headOf Q K V D C b h).k (headOf Q K V D C b h).c s.val j.val + C (ix3 b h s) : ℝ) : EReal) else ⊥ := by
  have e : val_main_v14 (F := Ideal) x0 x1 x3 (ix4 b h s j)
      = ((logit (headOf Q K V D C b h).q (headOf Q K V D C b h).k (headOf Q K V D C b h).c s.val j.val + C (ix3 b h s) : ℝ) : EReal) := by
    have e10 : val_main_v10 (F := Ideal) x3 (ix4 b h s j) = (C (ix3 b h s) : EReal) := by
      rw [val_main_v10_apply, val_main_v9_apply, R.c]
      exact congrArg (fun i => (C i : EReal)) (by funext a; match a with | ⟨0, _⟩ => rfl | ⟨1, _⟩ => rfl | ⟨2, _⟩ => rfl)
    have e13 : val_main_v13 (F := Ideal) x3 (ix4 b h s j) = ((headOf Q K V D C b h).c j.val : EReal) := by
      rw [val_main_v13_apply, val_main_v12_apply, R.c]
      unfold headOf attOf; dsimp only; rw [place_val]
      exact congrArg (fun i => (C i : EReal)) (by funext a; match a with | ⟨0, _⟩ => rfl | ⟨1, _⟩ => rfl | ⟨2, _⟩ => rfl)
    rw [val_main_v14_apply, val_main_v11_apply, v8_at R, e10, e13]
    show ((_ : EReal) + _) - _ = _
    rw [← EReal.coe_add, ← EReal.coe_sub]
    unfold logit
    exact congrArg Real.toEReal (by ring)
  rw [val_main_v22_0_apply, v22_1_at, e, val_main_call0_v2_apply, val_main_call0_v0_apply, val_main_cst_0_apply, word_bot, pick_of]

/-- The largest logit of a row is a real number. -/
theorem v23_at : ∃ M : ℝ, val_main_v23 (F := Ideal) x0 x1 x3 (ix3 b h s) = (M : EReal) := by
  refine row_max (val_main_v22_0 (F := Ideal) x0 x1 x3) (val_main_cst_1 (F := Ideal)) Gen.facts.reducesTo_S4x32x2048x2048_S4x32x2048_d3 Gen.facts.h_S_ ?_ (fun i => ?_) b h s ?_
  · rw [val_main_cst_1_apply, word_bot]
  · obtain ⟨b, h, s, j, rfl⟩ : ∃ (b : Fin 4) (h : Fin 32) (s j : Fin 2048), i = ix4 b h s j := ⟨i 0, i 1, i 2, i 3, (ix4_eta i).symm⟩
    rw [v22_at R]
    split
    · exact EReal.coe_ne_top _
    · exact bot_ne_top
  · rw [v22_at R, if_pos (show (0 : Fin 2048).val ≤ s.val from Nat.zero_le _)]
    exact EReal.coe_ne_bot _

/-- The exponentials of a row: its weights, times one positive number. -/
theorem v43_at : ∃ S : ℝ, 0 < S ∧ ∀ j : Fin 2048, val_main_v43 (F := Ideal) x0 x1 x3 (ix4 b h s j) = (((headOf Q K V D C b h).p s.val j.val * S : ℝ) : EReal) := by
  obtain ⟨M, hM⟩ := v23_at R b h s
  refine ⟨Real.exp ((headOf Q K V D C b h).l s.val + C (ix3 b h s) - M), Real.exp_pos _, fun j => ?_⟩
  have e41 : val_main_v41 (F := Ideal) x0 x1 x3 (ix4 b h s j) = (M : EReal) := by
    rw [val_main_v41_apply, val_main_v40_apply, val_main_v30_apply, val_main_v29_apply, val_main_cst_3_apply, word_bot]
    refine Eq.trans (b := max (⊥ : EReal) (val_main_v23 (F := Ideal) x0 x1 x3 (ix3 b h s))) ?_ ?_
    · exact congrArg (fun i => max (⊥ : EReal) (val_main_v23 (F := Ideal) x0 x1 x3 i)) (by funext a; match a with | ⟨0, _⟩ => rfl | ⟨1, _⟩ => rfl | ⟨2, _⟩ => rfl)
    · rw [hM, max_eq_right bot_le]
  have he : ∀ x y : EReal, FloatOps.hostUnary (F := Ideal) (φ := .f32) .exp (FloatOps.subf (F := Ideal) (φ := .f32) x y) = Ideal.exp (x - y) := fun _ _ => rfl
  rw [val_main_v43_apply, val_main_v42_apply, e41, he]
  exact attOf_exp _ _ _ _ _ s.val j.val (C (ix3 b h s)) M _ (v22_at R b h s j)

theorem v45_of {S : ℝ} (hS : ∀ j : Fin 2048, val_main_v43 (F := Ideal) x0 x1 x3 (ix4 b h s j) = (((headOf Q K V D C b h).p s.val j.val * S : ℝ) : EReal)) :
    val_main_v45 (F := Ideal) x0 x1 x3 (ix4 b h s 0) = (S : EReal) := by
  rw [val_main_v45_apply, val_main_v44_apply, val_main_cst_9_apply, word_zero, zero_add]
  have e : ∑ j ∈ range 2048, (headOf Q K V D C b h).p s.val j * S = S := by
    rw [← sum_mul, show ∑ j ∈ range 2048, (headOf Q K V D C b h).p s.val j = 1 from attOf_sum _ _ _ _ _ _, one_mul]
  rw [← e, ← Fin.sum_univ_eq_sum_range (fun j => (headOf Q K V D C b h).p s.val j * S) 2048, coe_sum]
  exact sum_congr rfl fun j _ => (congrArg _ (by funext a; match a with | ⟨0, _⟩ => rfl | ⟨1, _⟩ => rfl | ⟨2, _⟩ => rfl | ⟨3, _⟩ => rfl)).trans (hS j)

/-- The weights. -/
theorem v47_at : val_main_v47 (F := Ideal) x0 x1 x3 (ix4 b h s j) = ((headOf Q K V D C b h).p s.val j.val : ℝ) := by
  obtain ⟨S, pos, hS⟩ := v43_at R b h s
  have hd : ∀ x y : EReal, FloatOps.hostDivf (F := Ideal) (φ := .f32) x y = Ideal.div x y := fun _ _ => rfl
  rw [val_main_v47_apply, val_main_v46_apply, hS, show idx_main_v46 (ix4 b h s j) = ix4 b h s 0 from by funext a; match a with | ⟨0, _⟩ => rfl | ⟨1, _⟩ => rfl | ⟨2, _⟩ => rfl | ⟨3, _⟩ => rfl,
    v45_of R b h s hS, hd, div_coe _ pos.ne', mul_div_assoc, div_self pos.ne', mul_one]

/-- The cotangents of the weights. -/
theorem v58_at : val_main_v58 (F := Ideal) x2 x4 (ix4 b h s j)
    = ((∑ x, (headOf Q K V D C b h).d s.val x * (headOf Q K V D C b h).v j.val x : ℝ) : EReal) := by
  rw [val_main_v58_apply, coe_sum]
  refine sum_congr rfl fun x _ => ?_
  rw [show lidx_main_v58 (ix4 b h s j) x = ix4 b h s x from by funext a; match a with | ⟨0, _⟩ => rfl | ⟨1, _⟩ => rfl | ⟨2, _⟩ => rfl | ⟨3, _⟩ => rfl,
    show ridx_main_v58 (ix4 b h s j) x = ix4 b h j x from by funext a; match a with | ⟨0, _⟩ => rfl | ⟨1, _⟩ => rfl | ⟨2, _⟩ => rfl | ⟨3, _⟩ => rfl,
    v55_at R, v5_at R, EReal.coe_mul]

/-- The logits' gradients. -/
theorem v71_at : val_main_v71 (F := Ideal) x0 x1 x2 x3 x4 (ix4 b h s j) = ((headOf Q K V D C b h).ds s.val j.val : ℝ) := by
  obtain ⟨S, pos, hS⟩ := v43_at R b h s
  have ne : S ≠ 0 := pos.ne'
  have hd : ∀ x y : EReal, FloatOps.hostDivf (F := Ideal) (φ := .f32) x y = Ideal.div x y := fun _ _ => rfl
  have hm : ∀ x y : EReal, FloatOps.mulf (F := Ideal) (φ := .f32) x y = x * y := fun _ _ => rfl
  have ha : ∀ x y : EReal, FloatOps.addf (F := Ideal) (φ := .f32) x y = x + y := fun _ _ => rfl
  have hn : ∀ x : EReal, FloatOps.hostNegf (F := Ideal) (φ := .f32) x = -x := fun _ => rfl
  have h1 : FloatOps.ofBits (F := Ideal) .f32 0x3F800000#32 = ((1 : ℝ) : EReal) := Ideal.ofBits_one_f32
  have e45 := v45_of R b h s hS
  have e50 : val_main_v50 (F := Ideal) x0 x1 x3 (ix4 b h s 0) = ((1 / (S * S) : ℝ) : EReal) := by
    rw [val_main_v50_apply, val_main_v49_apply, val_main_cst_10_apply, val_main_v48_apply, e45, hm, h1, ← EReal.coe_mul, hd, div_coe _ (mul_ne_zero ne ne)]
  have e61 : ∀ k : Fin 2048, val_main_v61 (F := Ideal) x0 x1 x2 x3 x4 (ix4 b h s k)
      = (((headOf Q K V D C b h).p s.val k.val * (∑ x, (headOf Q K V D C b h).d s.val x * (headOf Q K V D C b h).v k.val x) * (1 / S) : ℝ) : EReal) := fun k => by
    rw [val_main_v61_apply, val_main_v60_apply, val_main_v59_apply,
      show idx_main_v59 (ix4 b h s k) = ix4 b h s 0 from by funext a; match a with | ⟨0, _⟩ => rfl | ⟨1, _⟩ => rfl | ⟨2, _⟩ => rfl | ⟨3, _⟩ => rfl,
      e50, v58_at R, hS, hm, hm, ← EReal.coe_mul, ← EReal.coe_mul]
    refine congrArg Real.toEReal ?_
    field_simp
  have e62 : val_main_v62 (F := Ideal) x0 x1 x2 x3 x4 (ix3 b h s) = (((headOf Q K V D C b h).e s.val * (1 / S) : ℝ) : EReal) := by
    rw [val_main_v62_apply, val_main_cst_11_apply, word_zero, zero_add,
      show (headOf Q K V D C b h).e s.val = ∑ j ∈ range 2048, (headOf Q K V D C b h).p s.val j * ∑ x, (headOf Q K V D C b h).d s.val x * (headOf Q K V D C b h).v j x from attOf_e _ _ _ _ _ s.val, sum_mul,
      ← Fin.sum_univ_eq_sum_range (fun j => (headOf Q K V D C b h).p s.val j * (∑ x, (headOf Q K V D C b h).d s.val x * (headOf Q K V D C b h).v j x) * (1 / S)) 2048, coe_sum]
    exact sum_congr rfl fun k _ => (congrArg _ (by funext a; match a with | ⟨0, _⟩ => rfl | ⟨1, _⟩ => rfl | ⟨2, _⟩ => rfl | ⟨3, _⟩ => rfl)).trans (e61 k)
  have e64 : val_main_v64 (F := Ideal) x0 x1 x2 x3 x4 (ix4 b h s 0) = ((-((headOf Q K V D C b h).e s.val * (1 / S)) : ℝ) : EReal) := by
    rw [val_main_v64_apply, val_main_v63_apply, hn, EReal.coe_neg, ← e62]
    refine congrArg (fun i => -val_main_v62 (F := Ideal) x0 x1 x2 x3 x4 i) ?_
    have := b.isLt; have := h.isLt; have := s.isLt
    funext a
    match a with
    | ⟨0, _⟩ => exact Fin.ext (by show (((b.val * 32 + h.val) * 2048 + s.val) * 1 + 0) / 65536 = b.val; omega)
    | ⟨1, _⟩ => exact Fin.ext (by show (((b.val * 32 + h.val) * 2048 + s.val) * 1 + 0) / 2048 % 32 = h.val; omega)
    | ⟨2, _⟩ => exact Fin.ext (by show (((b.val * 32 + h.val) * 2048 + s.val) * 1 + 0) % 2048 = s.val; omega)
  have e68 : val_main_v68 (F := Ideal) x0 x1 x2 x3 x4 (ix4 b h s j) = ((-((headOf Q K V D C b h).e s.val * (1 / S)) : ℝ) : EReal) := by
    rw [val_main_v68_apply, val_main_v67_apply, val_main_cst_12_apply, word_zero, zero_add, Fin.sum_univ_one, ← e64]
    exact congrArg _ (by funext a; match a with | ⟨0, _⟩ => rfl | ⟨1, _⟩ => rfl | ⟨2, _⟩ => rfl | ⟨3, _⟩ => rfl)
  have e70 : val_main_v70 (F := Ideal) x0 x1 x2 x3 x4 (ix4 b h s j) = ((headOf Q K V D C b h).ds s.val j.val : ℝ) := by
    rw [val_main_v70_apply, val_main_v69_apply, val_main_v66_apply, val_main_v65_apply,
      show idx_main_v65 (ix4 b h s j) = ix4 b h s 0 from by funext a; match a with | ⟨0, _⟩ => rfl | ⟨1, _⟩ => rfl | ⟨2, _⟩ => rfl | ⟨3, _⟩ => rfl,
      e45, v58_at R, e68, hS, hd, ha, hm, div_coe _ ne, ← EReal.coe_add, ← EReal.coe_mul]
    unfold Att.ds
    refine congrArg Real.toEReal ?_
    field_simp
    ring
  rw [val_main_v71_apply, v22_1_at, val_main_call1_v0_apply, val_main_call1_cst_apply, word_zero, e70, pick_of]
  split
  · rfl
  · rw [Att.ds_zero _ (by omega), EReal.coe_zero]

theorem v81_at : val_main_v81 (F := Ideal) x0 x1 x2 x3 x4 (ix4 b h s j) = ((headOf Q K V D C b h).ds s.val j.val * (1 / 8) : ℝ) := by
  rw [val_main_v81_apply, val_main_v80_apply, val_main_cst_17_apply, v71_at R]
  show _ * Ideal.ofBits .f32 0x3E000000#32 = _
  rw [eighth, ← EReal.coe_mul]

/-- The gradient of the queries. -/
theorem v83_at : val_main_v83 (F := Ideal) x0 x1 x2 x3 x4 (ix4 b h s x)
    = (((∑ j ∈ range 2048, (headOf Q K V D C b h).ds s.val j * (headOf Q K V D C b h).k j x) * (1 / 8) : ℝ) : EReal) := by
  rw [val_main_v83_apply, sum_mul, ← Fin.sum_univ_eq_sum_range (fun j => (headOf Q K V D C b h).ds s.val j * (headOf Q K V D C b h).k j x * (1 / 8)) 2048, coe_sum]
  refine sum_congr rfl fun j _ => ?_
  rw [show lidx_main_v83 (ix4 b h s x) j = ix4 b h s j from by funext a; match a with | ⟨0, _⟩ => rfl | ⟨1, _⟩ => rfl | ⟨2, _⟩ => rfl | ⟨3, _⟩ => rfl,
    show ridx_main_v83 (ix4 b h s x) j = ix4 b h j x from by funext a; match a with | ⟨0, _⟩ => rfl | ⟨1, _⟩ => rfl | ⟨2, _⟩ => rfl | ⟨3, _⟩ => rfl,
    v81_at R, v3_at R, ← EReal.coe_mul]
  exact congrArg Real.toEReal (by ring)

/-- The gradient of the keys. -/
theorem v82_at : val_main_v82 (F := Ideal) x0 x1 x2 x3 x4 (ix4 b h j x)
    = ((∑ s ∈ range 2048, (headOf Q K V D C b h).q s x * (headOf Q K V D C b h).ds s j.val : ℝ) : EReal) := by
  rw [val_main_v82_apply, ← Fin.sum_univ_eq_sum_range (fun s => (headOf Q K V D C b h).q s x * (headOf Q K V D C b h).ds s j.val) 2048, coe_sum]
  refine sum_congr rfl fun s _ => ?_
  rw [show lidx_main_v82 (ix4 b h j x) s = ix4 b h s j from by funext a; match a with | ⟨0, _⟩ => rfl | ⟨1, _⟩ => rfl | ⟨2, _⟩ => rfl | ⟨3, _⟩ => rfl,
    show ridx_main_v82 (ix4 b h j x) s = ix4 b h s x from by funext a; match a with | ⟨0, _⟩ => rfl | ⟨1, _⟩ => rfl | ⟨2, _⟩ => rfl | ⟨3, _⟩ => rfl,
    v81_at R, v1_at R, ← EReal.coe_mul]
  refine congrArg Real.toEReal ?_
  show _ * Q _ = Q (ix3 b (place s.val) (laneOf h x)) * (1 / 8) * _
  rw [place_val]
  ring

/-- The gradient of the values. -/
theorem v57_at : val_main_v57 (F := Ideal) x0 x1 x3 x4 (ix4 b h j x)
    = ((∑ s ∈ range 2048, (headOf Q K V D C b h).d s x * (headOf Q K V D C b h).p s j.val : ℝ) : EReal) := by
  rw [val_main_v57_apply, show idx_main_v57 (ix4 b h j x) = ix4 b h x j from by funext a; match a with | ⟨0, _⟩ => rfl | ⟨1, _⟩ => rfl | ⟨2, _⟩ => rfl | ⟨3, _⟩ => rfl,
    val_main_v56_apply, ← Fin.sum_univ_eq_sum_range (fun s => (headOf Q K V D C b h).d s x * (headOf Q K V D C b h).p s j.val) 2048, coe_sum]
  refine sum_congr rfl fun s _ => ?_
  rw [show lidx_main_v56 (ix4 b h x j) s = ix4 b h s x from by funext a; match a with | ⟨0, _⟩ => rfl | ⟨1, _⟩ => rfl | ⟨2, _⟩ => rfl | ⟨3, _⟩ => rfl,
    show ridx_main_v56 (ix4 b h x j) s = ix4 b h s j from by funext a; match a with | ⟨0, _⟩ => rfl | ⟨1, _⟩ => rfl | ⟨2, _⟩ => rfl | ⟨3, _⟩ => rfl,
    v55_at R, v47_at R, EReal.coe_mul]

/-- The gradient of the decays: a row's own logits' gradients add up to nothing, and the keys' are taken off. -/
theorem v79_at : val_main_v79 (F := Ideal) x0 x1 x2 x3 x4 (ix3 b h j) = ((-∑ s ∈ range 2048, (headOf Q K V D C b h).ds s j.val : ℝ) : EReal) := by
  have hn : ∀ x : EReal, FloatOps.hostNegf (F := Ideal) (φ := .f32) x = -x := fun _ => rfl
  have ha : ∀ x y : EReal, FloatOps.addf (F := Ideal) (φ := .f32) x y = x + y := fun _ _ => rfl
  have hb := b.isLt; have hh := h.isLt; have hj := j.isLt
  have e73 : val_main_v73 (F := Ideal) x0 x1 x2 x3 x4 (ix3 b h j) = ((-∑ s ∈ range 2048, (headOf Q K V D C b h).ds s j.val : ℝ) : EReal) := by
    rw [val_main_v73_apply, val_main_cst_13_apply, word_zero, zero_add, ← sum_neg_distrib,
      ← Fin.sum_univ_eq_sum_range (fun s => -(headOf Q K V D C b h).ds s j.val) 2048, coe_sum]
    refine sum_congr rfl fun s _ => ?_
    rw [show idx_main_v73 (ix3 b h j) s = ix4 b h s j from by funext a; match a with | ⟨0, _⟩ => rfl | ⟨1, _⟩ => rfl | ⟨2, _⟩ => rfl | ⟨3, _⟩ => rfl,
      val_main_v72_apply, v71_at R, hn, EReal.coe_neg]
  have e75 : val_main_v75 (F := Ideal) x0 x1 x2 x3 x4 (ix3 b h j) = ((-∑ s ∈ range 2048, (headOf Q K V D C b h).ds s j.val : ℝ) : EReal) := by
    rw [val_main_v75_apply, val_main_cst_14_apply, word_zero, zero_add, Fin.sum_univ_one, val_main_v74_apply, ← e73]
    refine congrArg _ ?_
    funext a
    match a with
    | ⟨0, _⟩ => exact Fin.ext (by show (((b.val * 32 + h.val) * 1 + 0) * 2048 + j.val) / 65536 = b.val; omega)
    | ⟨1, _⟩ => exact Fin.ext (by show (((b.val * 32 + h.val) * 1 + 0) * 2048 + j.val) / 2048 % 32 = h.val; omega)
    | ⟨2, _⟩ => exact Fin.ext (by show (((b.val * 32 + h.val) * 1 + 0) * 2048 + j.val) % 2048 = j.val; omega)
  have e76 : val_main_v76 (F := Ideal) x0 x1 x2 x3 x4 (ix3 b h j) = (0 : EReal) := by
    rw [val_main_v76_apply, val_main_cst_15_apply, word_zero, zero_add]
    have e : ((∑ i ∈ range 2048, (headOf Q K V D C b h).ds j.val i : ℝ) : EReal) = 0 := by
      rw [show ∑ i ∈ range 2048, (headOf Q K V D C b h).ds j.val i = 0 from attOf_ds_sum _ _ _ _ _ _, EReal.coe_zero]
    rw [← e, ← Fin.sum_univ_eq_sum_range (fun i => (headOf Q K V D C b h).ds j.val i) 2048, coe_sum]
    exact sum_congr rfl fun k _ => (congrArg _ (by funext a; match a with | ⟨0, _⟩ => rfl | ⟨1, _⟩ => rfl | ⟨2, _⟩ => rfl | ⟨3, _⟩ => rfl)).trans (v71_at R b h j k)
  have e78 : val_main_v78 (F := Ideal) x0 x1 x2 x3 x4 (ix3 b h j) = (0 : EReal) := by
    rw [val_main_v78_apply, val_main_cst_16_apply, word_zero, zero_add, Fin.sum_univ_one, val_main_v77_apply, ← e76]
    refine congrArg _ ?_
    funext a
    match a with
    | ⟨0, _⟩ => exact Fin.ext (by show (((b.val * 32 + h.val) * 2048 + j.val) * 1 + 0) / 65536 = b.val; omega)
    | ⟨1, _⟩ => exact Fin.ext (by show (((b.val * 32 + h.val) * 2048 + j.val) * 1 + 0) / 2048 % 32 = h.val; omega)
    | ⟨2, _⟩ => exact Fin.ext (by show (((b.val * 32 + h.val) * 2048 + j.val) * 1 + 0) % 2048 = j.val; omega)
  rw [val_main_v79_apply, e75, e78, ha, add_zero]

omit R in
/-- The lanes of the heads, as one list of rows. -/
theorem merge (n : Fin 8192) (e : Fin 2048) : idx_main_v84 (idx_main_v85 (idx_main_v90 (ix2 n e)))
    = ix4 (⟨n.val / 2048, by omega⟩ : Fin 4) (⟨e.val / 64, by omega⟩ : Fin 32) (⟨n.val % 2048, by omega⟩ : Fin 2048) (⟨e.val % 64, by omega⟩ : Fin 64) := by
  have := n.isLt; have := e.isLt
  have a0 : (n.val * 2048 + e.val) / 4194304 = n.val / 2048 := by omega
  have a1 : (n.val * 2048 + e.val) / 2048 % 2048 = n.val % 2048 := by omega
  have a2 : (n.val * 2048 + e.val) % 2048 = e.val := by omega
  funext a
  match a with
  | ⟨0, _⟩ => exact Fin.ext (by
      show (((n.val * 2048 + e.val) / 4194304 * 2048 + (n.val * 2048 + e.val) / 2048 % 2048) * 2048 + (n.val * 2048 + e.val) % 2048) / 4194304 = n.val / 2048
      rw [a0, a1, a2]; omega)
  | ⟨1, _⟩ => exact Fin.ext (by
      show (((n.val * 2048 + e.val) / 4194304 * 2048 + (n.val * 2048 + e.val) / 2048 % 2048) * 2048 + (n.val * 2048 + e.val) % 2048) / 64 % 32 = e.val / 64
      rw [a0, a1, a2]; omega)
  | ⟨2, _⟩ => exact Fin.ext (by
      show (((n.val * 2048 + e.val) / 4194304 * 2048 + (n.val * 2048 + e.val) / 2048 % 2048) * 2048 + (n.val * 2048 + e.val) % 2048) / 2048 % 2048 = n.val % 2048
      rw [a0, a1, a2]; omega)
  | ⟨3, _⟩ => exact Fin.ext (by
      show (((n.val * 2048 + e.val) / 4194304 * 2048 + (n.val * 2048 + e.val) / 2048 % 2048) * 2048 + (n.val * 2048 + e.val) % 2048) % 64 = e.val % 64
      rw [a0, a1, a2]; omega)

section
variable (n : Fin 8192) (e : Fin 2048)

/-- The four results. -/
theorem v91_at : val_main_v91 (F := Ideal) x0 x1 x2 x3 x4 (ix2 n e)
    = (((∑ j ∈ range 2048, (headOf Q K V D C ⟨n.val / 2048, by omega⟩ ⟨e.val / 64, by omega⟩).ds (n.val % 2048) j
        * (headOf Q K V D C ⟨n.val / 2048, by omega⟩ ⟨e.val / 64, by omega⟩).k j ⟨e.val % 64, by omega⟩) * (1 / 8) : ℝ) : EReal) := by
  rw [val_main_v91_apply, val_main_v90_apply, val_main_v89_apply, val_main_v88_apply]
  refine (congrArg (val_main_v83 (F := Ideal) x0 x1 x2 x3 x4) (merge n e)).trans ?_
  exact v83_at R _ _ _ _
theorem v93_at : val_main_v93 (F := Ideal) x0 x1 x2 x3 x4 (ix2 n e)
    = ((∑ s ∈ range 2048, (headOf Q K V D C ⟨n.val / 2048, by omega⟩ ⟨e.val / 64, by omega⟩).q s ⟨e.val % 64, by omega⟩
        * (headOf Q K V D C ⟨n.val / 2048, by omega⟩ ⟨e.val / 64, by omega⟩).ds s (n.val % 2048) : ℝ) : EReal) := by
  rw [val_main_v93_apply, val_main_v92_apply, val_main_v87_apply, val_main_v86_apply]
  refine (congrArg (val_main_v82 (F := Ideal) x0 x1 x2 x3 x4) (merge n e)).trans ?_
  exact v82_at R _ _ _ _
theorem v95_at : val_main_v95 (F := Ideal) x0 x1 x3 x4 (ix2 n e)
    = ((∑ s ∈ range 2048, (headOf Q K V D C ⟨n.val / 2048, by omega⟩ ⟨e.val / 64, by omega⟩).d s ⟨e.val % 64, by omega⟩
        * (headOf Q K V D C ⟨n.val / 2048, by omega⟩ ⟨e.val / 64, by omega⟩).p s (n.val % 2048) : ℝ) : EReal) := by
  rw [val_main_v95_apply, val_main_v94_apply, val_main_v85_apply, val_main_v84_apply]
  refine (congrArg (val_main_v57 (F := Ideal) x0 x1 x3 x4) (merge n e)).trans ?_
  exact v57_at R _ _ _ _
theorem v96_at (J : Fin 8) (c : Fin 256) : val_main_v96 (F := Ideal) x0 x1 x2 x3 x4 (ix4 b h J c)
    = ((-∑ s ∈ range 2048, (headOf Q K V D C b h).ds s (256 * J.val + c.val) : ℝ) : EReal) := by
  rw [val_main_v96_apply]
  refine (congrArg (val_main_v79 (F := Ideal) x0 x1 x2 x3 x4) (?_ : _ = ix3 b h (⟨256 * J.val + c.val, by omega⟩ : Fin 2048))).trans (v79_at R b h _)
  have := b.isLt; have := h.isLt; have := J.isLt; have := c.isLt
  funext a
  match a with
  | ⟨0, _⟩ => exact Fin.ext (by show (((b.val * 32 + h.val) * 8 + J.val) * 256 + c.val) / 65536 = b.val; omega)
  | ⟨1, _⟩ => exact Fin.ext (by show (((b.val * 32 + h.val) * 8 + J.val) * 256 + c.val) / 2048 % 32 = h.val; omega)
  | ⟨2, _⟩ => exact Fin.ext (by show (((b.val * 32 + h.val) * 8 + J.val) * 256 + c.val) % 2048 = 256 * J.val + c.val; omega)
end

end Cert.Fox
-- ==== Proof.FoxHost.lean ====
/- Hand-written, untrusted: what the host lines before the forgetting attention's gradient hand to it: the projections side by
   side, and the forward pass's outputs and logarithms of sums. -/
module

public import proofs.«01_k».proof.Proof.FoxFrame
public import proofs.«01_k».proof.Proof.FoxReference
public import proofs.«01_k».proof.Proof.Rows

@[expose] public section

set_option maxRecDepth 16384

noncomputable section

namespace Cert.Fox

open Idealize.ShloMosaic Cert.Finite Cert.Rows Idealize.ShloMosaic.TcCoe Cert.Kernel7Ideal Cert.Kernel7Ideal.Gen

variable (m : (ℓ : Loc nD τ sig) → Buf (Elt Ideal) ℓ)

/-- The arguments' contents. -/
abbrev arg0 (c : Dev nD) : S4x2048x2048.Idx → EReal := m ((c : Thread nD τ).loc main_arg0)
abbrev arg1 (c : Dev nD) : S4x2048x2048.Idx → EReal := m ((c : Thread nD τ).loc main_arg1)
abbrev arg2 (c : Dev nD) : S4x2048x2048.Idx → EReal := m ((c : Thread nD τ).loc main_arg2)
abbrev arg3 (c : Dev nD) : S4x32x2048.Idx → EReal := m ((c : Thread nD τ).loc main_arg3)
abbrev arg4 (c : Dev nD) : S4x2048x2048.Idx → EReal := m ((c : Thread nD τ).loc main_arg4)

/-- The three projections side by side. -/
def wide (c : Dev nD) : S4x2048x6144.Idx → EReal :=
  concatenate S4x2048x6144 2 [⟨S4x2048x2048, arg0 m c⟩, ⟨S4x2048x2048, arg1 m c⟩, ⟨S4x2048x2048, arg2 m c⟩] Gen.facts.concatenates_S4x2048x2048_S4x2048x2048_S4x2048x2048_S4x2048x6144_d2

theorem wide_q (c : Dev nD) (b : Fin 4) (s e : Fin 2048) : wide m c (ix3 b s ⟨e.val, by omega⟩) = arg0 m c (ix3 b s e) :=
  concatenate_apply_piece (t := S4x2048x6144) 2 _ _ _ 0 (by simp) S4x2048x2048 _ rfl rfl 0 rfl (ix3 b s e)
    (fun b hb => by match b with | ⟨0, _⟩ => rfl | ⟨1, _⟩ => rfl | ⟨2, _⟩ => exact absurd rfl hb) (by show 0 + e.val = e.val; omega)
theorem wide_k (c : Dev nD) (b : Fin 4) (s e : Fin 2048) : wide m c (ix3 b s ⟨2048 + e.val, by omega⟩) = arg1 m c (ix3 b s e) :=
  concatenate_apply_piece (t := S4x2048x6144) 2 _ _ _ 1 (by simp) S4x2048x2048 _ rfl rfl 2048 rfl (ix3 b s e)
    (fun b hb => by match b with | ⟨0, _⟩ => rfl | ⟨1, _⟩ => rfl | ⟨2, _⟩ => exact absurd rfl hb) (by show 2048 + e.val = 2048 + e.val; rfl)
theorem wide_v (c : Dev nD) (b : Fin 4) (s e : Fin 2048) : wide m c (ix3 b s ⟨4096 + e.val, by omega⟩) = arg2 m c (ix3 b s e) :=
  concatenate_apply_piece (t := S4x2048x6144) 2 _ _ _ 2 (by simp) S4x2048x2048 _ rfl rfl 4096 rfl (ix3 b s e)
    (fun b hb => by match b with | ⟨0, _⟩ => rfl | ⟨1, _⟩ => rfl | ⟨2, _⟩ => exact absurd rfl hb) (by show 4096 + e.val = 4096 + e.val; rfl)

/-- The masked logits, their rows' maxima, the exponentials and the rows' sums of these. -/
def scores (c : Dev nD) : S4x32x2048x2048.Idx → EReal :=
  subf (F := Ideal) (φ := .f32) (Cert.Reference7Ideal.Read.val_main_v8 (F := Ideal) (arg0 m c) (arg1 m c))
    (broadcastInDim S4x32x2048x2048 ![0, 1, 2, 3] Gen.facts.bcast_S4x32x1x2048_S4x32x2048x2048_0_1_2_3
      (broadcastInDim S4x32x1x2048 ![0, 1, 3] Gen.facts.bcast_S4x32x2048_S4x32x1x2048_0_1_3 (arg3 m c)))
def masked (c : Dev nD) : S4x32x2048x2048.Idx → EReal :=
  select (Cert.Reference7Ideal.Read.val_main_v22_1 (F := Ideal)) (scores m c)
    (broadcastInDim S4x32x2048x2048 ![] Gen.facts.bcast_S_S4x32x2048x2048 (constant (F := Ideal) S_ .f32 0xFF800000#32))
def tops (c : Dev nD) : S4x32x2048.Idx → EReal :=
  Host.reduce (FloatOps.maximumf (F := Ideal) (φ := .f32)) (masked m c) (constant (F := Ideal) S_ .f32 0xFF800000#32) Gen.facts.reducesTo_S4x32x2048x2048_S4x32x2048_d3 Gen.facts.h_S_
def tops1 (c : Dev nD) : S4x32x2048x1.Idx → EReal := broadcastInDim S4x32x2048x1 ![0, 1, 2] Gen.facts.bcast_S4x32x2048_S4x32x2048x1_0_1_2 (tops m c)
def expos (c : Dev nD) : S4x32x2048x2048.Idx → EReal :=
  Host.exp (F := Ideal) (φ := .f32) (subf (F := Ideal) (φ := .f32) (masked m c) (broadcastInDim S4x32x2048x2048 ![0, 1, 2, 3] Gen.facts.bcast_S4x32x2048x1_S4x32x2048x2048_0_1_2_3 (tops1 m c)))
def sums (c : Dev nD) : S4x32x2048.Idx → EReal :=
  Host.reduceAdd (F := Ideal) (φ := .f32) (expos m c) (constant (F := Ideal) S_ .f32 0x00000000#32) Gen.facts.reducesTo_S4x32x2048x2048_S4x32x2048_d3 Gen.facts.h_S_
def sums1 (c : Dev nD) : S4x32x2048x1.Idx → EReal := broadcastInDim S4x32x2048x1 ![0, 1, 2] Gen.facts.bcast_S4x32x2048_S4x32x2048x1_0_1_2 (sums m c)
/-- The heads' outputs, and the logarithms of the rows' sums. -/
def outs (c : Dev nD) : S4x32x2048x64.Idx → EReal :=
  Host.divf (F := Ideal) (φ := .f32) (Host.dotGeneral (F := Ideal) (φ₁ := .f32) (φ₂ := .f32) Cert.Kernel7Ideal.dot_S4x32x2048x2048_S4x32x2048x64_S4x32x2048x64_3_2_2_3_01_01 none (expos m c) (Cert.Reference7Ideal.Read.val_main_v5 (F := Ideal) (arg2 m c)))
    (broadcastInDim S4x32x2048x64 ![0, 1, 2, 3] Gen.facts.bcast_S4x32x2048x1_S4x32x2048x64_0_1_2_3 (sums1 m c))
def logs (c : Dev nD) : S4x32x2048x1.Idx → EReal := addf (F := Ideal) (φ := .f32) (tops1 m c) (Host.log (F := Ideal) (φ := .f32) (sums1 m c))

/-- The query blocks before each row's. -/
def floors : S2048.Idx → BitVec 32 :=
  let d : S2048.Idx → BitVec 32 := broadcastInDim S2048 ![] Gen.facts.bcast_S_S2048 (constantI S_ 32 1024#32)
  let q : S2048.Idx → BitVec 32 := Host.divsi (iotaInDim S2048 32 0) d
  select (andi (cmpi .ne (signi (iotaInDim S2048 32 0)) (broadcastInDim S2048 ![] Gen.facts.bcast_S_S2048 (signi (constantI S_ 32 1024#32))))
      (cmpi .ne (Host.remsi (iotaInDim S2048 32 0) d) (broadcastInDim S2048 ![] Gen.facts.bcast_S_S2048 (constantI S_ 32 0#32))))
    (subi q (broadcastInDim S2048 ![] Gen.facts.bcast_S_S2048 (constantI S_ 32 1#32))) q
def visited : S4x16x2048x1.Idx → EReal :=
  broadcastInDim S4x16x2048x1 ![2, 3] Gen.facts.bcast_S2048x1_S4x16x2048x1_2_3 (broadcastInDim S2048x1 ![0] Gen.facts.bcast_S2048_S2048x1_0
    (sitofp (F := Ideal) .f32 (muli floors (broadcastInDim S2048 ![] Gen.facts.bcast_S_S2048 (constantI S_ 32 4#32)))))

theorem V_main_v2 (c : Dev nD) (n : Fin 8192) (e : Fin 6144) : V m c main_v2 (ix2 n e) = wide m c (ix3 (seq n) (pos n) e) := by
  have e : V m c main_v2 = shapeCast S8192x6144 (wide m c) Gen.facts.shapeCasts_S4x2048x6144_S8192x6144 := by
    simp only [V, hostOps0, hostOps0_1, hostOps0_2, hostOps0_3, hostOps0_4, List.flatten_cons, List.flatten_nil, List.append_nil, List.cons_append, List.nil_append]
    after_results <;> rfl
  rw [e]
  exact shapeCast_rows _ _ n _

theorem V_main_v50 (c : Dev nD) (n : Fin 8192) (e : Fin 2048) : V m c main_v50 (ix2 n e) = arg4 m c (ix3 (seq n) (pos n) e) := by
  have e : V m c main_v50 = shapeCast S8192x2048 (arg4 m c) Gen.facts.shapeCasts_S4x2048x2048_S8192x2048 := by
    simp only [V, hostOps0, hostOps0_1, hostOps0_2, hostOps0_3, hostOps0_4, List.flatten_cons, List.flatten_nil, List.append_nil, List.cons_append, List.nil_append]
    after_results <;> rfl
  rw [e]
  exact shapeCast_rows _ _ n _

theorem V_main_v48 (c : Dev nD) : V m c main_v48 = shapeCast S4x32x8x256 (arg3 m c) Gen.facts.shapeCasts_S4x32x2048_S4x32x8x256 := by
  simp only [V, hostOps0, hostOps0_1, hostOps0_2, hostOps0_3, hostOps0_4, List.flatten_cons, List.flatten_nil, List.append_nil, List.cons_append, List.nil_append]
  after_results <;> rfl

theorem V_main_v35 (c : Dev nD) : V m c main_v35 = shapeCast S8192x2048 (shapeCast S4x2048x2048 (transpose S4x2048x32x64 [0, 2, 1, 3] (outs m c)
    Gen.facts.transposes_S4x32x2048x64_S4x2048x32x64_0_2_1_3) Gen.facts.shapeCasts_S4x2048x32x64_S4x2048x2048) Gen.facts.shapeCasts_S4x2048x2048_S8192x2048 := by
  simp only [V, hostOps0, hostOps0_1, hostOps0_2, hostOps0_3, hostOps0_4, List.flatten_cons, List.flatten_nil, List.append_nil, List.cons_append, List.nil_append]
  after_results <;> rfl

theorem V_main_v47 (c : Dev nD) : V m c main_v47 = concatenate S4x16x2048x3 3
    [⟨S4x16x2048x2, transpose S4x16x2048x2 [0, 1, 3, 2] (shapeCast S4x16x2x2048 (logs m c) Gen.facts.shapeCasts_S4x32x2048x1_S4x16x2x2048) Gen.facts.transposes_S4x16x2x2048_S4x16x2048x2_0_1_3_2⟩,
      ⟨S4x16x2048x1, visited⟩] Gen.facts.concatenates_S4x16x2048x2_S4x16x2048x1_S4x16x2048x3_d3 := by
  simp only [V, hostOps0, hostOps0_1, hostOps0_2, hostOps0_3, hostOps0_4, List.flatten_cons, List.flatten_nil, List.append_nil, List.cons_append, List.nil_append]
  after_results <;> rfl

end Cert.Fox
-- ==== Proof.FoxPoint.lean ====
/- Hand-written, untrusted: a grid point of the forgetting attention's gradient adds its query block to the gradients of the keys, of
   the values and of the decays, and holds the gradient of its queries. -/
module

public import proofs.«01_k».proof.Proof.FoxBlock

@[expose] public section

set_option maxRecDepth 16384

noncomputable section

namespace Cert.Fox

open Idealize.ShloMosaic Cert.Finite Idealize.ShloMosaic.TcCoe Cert.Kernel7Ideal Cert.Kernel7Ideal.Gen
open VecWindow (window put)

/-! ### Parts of the transposed blocks -/

section
variable (w : FVec Ideal S128x1024 .bf16) (a : Fin 64)

theorem cut00 (r : Fin 1024) : extractStridedSlice S64x1024 ![0, 0] w slices_S128x1024_o0_0_S64x1024 (ix2 a r) = w (ix2 (lane0 a) r) := by pointwise; rfl
theorem cut01 (r : Fin 768) : extractStridedSlice S64x768 ![0, 256] w slices_S128x1024_o0_256_S64x768 (ix2 a r) = w (ix2 (lane0 a) (row1 r)) := by pointwise; rfl
theorem cut02 (r : Fin 512) : extractStridedSlice S64x512 ![0, 512] w slices_S128x1024_o0_512_S64x512 (ix2 a r) = w (ix2 (lane0 a) (row2 r)) := by pointwise; rfl
theorem cut03 (r : Fin 256) : extractStridedSlice S64x256 ![0, 768] w slices_S128x1024_o0_768_S64x256 (ix2 a r) = w (ix2 (lane0 a) (row3 r)) := by pointwise; rfl
theorem cut10 (r : Fin 1024) : extractStridedSlice S64x1024 ![64, 0] w slices_S128x1024_o64_0_S64x1024 (ix2 a r) = w (ix2 (lane1 a) r) := by pointwise; rfl
theorem cut11 (r : Fin 768) : extractStridedSlice S64x768 ![64, 256] w slices_S128x1024_o64_256_S64x768 (ix2 a r) = w (ix2 (lane1 a) (row1 r)) := by pointwise; rfl
theorem cut12 (r : Fin 512) : extractStridedSlice S64x512 ![64, 512] w slices_S128x1024_o64_512_S64x512 (ix2 a r) = w (ix2 (lane1 a) (row2 r)) := by pointwise; rfl
theorem cut13 (r : Fin 256) : extractStridedSlice S64x256 ![64, 768] w slices_S128x1024_o64_768_S64x256 (ix2 a r) = w (ix2 (lane1 a) (row3 r)) := by pointwise; rfl
end

/-! ### What a query block makes -/

/-- The windows hold the numbers of a head for query block `n`. -/
structure Seen (A : Att) (lane : Fin 64 → Fin 128) (g : Fin 2) (col : Fin 3) (n : ℕ) (x3 : Vec Ideal S1024x128 .bf16) (x4 x5 : Vec Ideal S2048x128 .bf16)
    (x6 : Vec Ideal S1x2x8x256 .f32) (x7 : Vec Ideal S1024x128 .f32) (x8 : Vec Ideal S1024x128 .bf16) (x9 : Vec Ideal S1x1x1024x3 .f32) : Prop where
  q : ∀ r x, x3 (ix2 r (lane x)) * ((1 / 8 : ℝ) : EReal) = (A.q (1024 * n + r.val) x : ℝ)
  d : ∀ r x, x8 (ix2 r (lane x)) = (A.d (1024 * n + r.val) x : ℝ)
  k : ∀ (j : Fin 2048) x, x4 (ix2 j (lane x)) = (A.k j.val x : ℝ)
  v : ∀ (j : Fin 2048) x, x5 (ix2 j (lane x)) = (A.v j.val x : ℝ)
  c : ∀ (K : Fin 8) (c : Fin 256), x6 (ix4 0 g K c) = (A.c (256 * K.val + c.val) : ℝ)
  e : ∀ r, ∑ y, x8 (ix2 r (lane y)) * x7 (ix2 r (lane y)) = (A.e (1024 * n + r.val) : ℝ)
  l : ∀ r, x9 (ix4 0 0 r col) = (A.l (1024 * n + r.val) : ℝ)

section
variable {x3 : Vec Ideal S1024x128 .bf16} {x4 x5 : Vec Ideal S2048x128 .bf16} {x6 : Vec Ideal S1x2x8x256 .f32} {x7 : Vec Ideal S1024x128 .f32} {x8 : Vec Ideal S1024x128 .bf16}
  {x9 : Vec Ideal S1x1x1024x3 .f32} {n : ℕ}

section
variable {A : Att} (h : Seen A lane0 0 0 n x3 x4 x5 x6 x7 x8 x9)
include h

theorem good0 {J : ℕ} (hJ : J < 8) {off : Fin 2 → ℕ} (inb : ∀ a, off a + S256x64.size a ≤ S2048x128.size a) (eo : off = ![256 * J, 0])
    {oc : Fin 4 → ℕ} (inc : ∀ a, oc a + S1x1x1x256.size a ≤ S1x2x8x256.size a) (ec : oc = ![0, 0, J, 0]) :
    Good (pro x3 x7 x8 x9).h0 (window x4 off S256x64.size inb) (window x5 off S256x64.size inb) (window x6 oc S1x1x1x256.size inc) A n J where
  q r x := (q0_apply _ r x).trans (by rw [win_q]; exact h.q r x)
  d r x := (d0_apply (window x8 ![0, 0] S1024x128.size inb_S1024x128_S1024x128_0_0) r x).trans (by rw [win_q]; exact h.d r x)
  e r := (e0_apply _ r _).trans (by
    rw [win_q, ← h.e r]
    exact Finset.sum_congr rfl fun y _ => congrArg _ (win_o x7 0 _ r y (lane0 y) (Nat.zero_add _).symm))
  l r := (col0_apply _ r).trans ((win_col x9 0 _ r 0 rfl).trans (h.l r))
  k c x := (win_key x4 inb eo c x ⟨256 * J + c.val, by omega⟩ (lane0 x) rfl (Nat.zero_add _).symm).trans (h.k _ x)
  v c x := (win_key x5 inb eo c x ⟨256 * J + c.val, by omega⟩ (lane0 x) rfl (Nat.zero_add _).symm).trans (h.v _ x)
  c c := (win_decay x6 inc ec c 0 ⟨J, hJ⟩ rfl rfl).trans (h.c _ c)

theorem rows0 {R : ℕ} (m : ℕ) (hR : m + R = 1024) (X Y : Fin 64 → Fin R → EReal)
    (hX : ∀ a r, X a r = (pro x3 x7 x8 x9).qt (ix2 (lane0 a) ⟨m + r.val, by omega⟩))
    (hY : ∀ a r, Y a r = (pro x3 x7 x8 x9).dt (ix2 (lane0 a) ⟨m + r.val, by omega⟩)) : Rows X Y A n m where
  q a r := (hX a r).trans ((qt_apply _ _ (lane0 a)).trans (by rw [win_q]; exact h.q ⟨m + r.val, by omega⟩ a))
  d a r := (hY a r).trans ((dt_apply _ _ (lane0 a)).trans (by rw [win_q]; exact h.d ⟨m + r.val, by omega⟩ a))
end

section
variable {A : Att} (h : Seen A lane1 1 1 n x3 x4 x5 x6 x7 x8 x9)
include h

theorem good1 {J : ℕ} (hJ : J < 8) {off : Fin 2 → ℕ} (inb : ∀ a, off a + S256x64.size a ≤ S2048x128.size a) (eo : off = ![256 * J, 64])
    {oc : Fin 4 → ℕ} (inc : ∀ a, oc a + S1x1x1x256.size a ≤ S1x2x8x256.size a) (ec : oc = ![0, 1, J, 0]) :
    Good (pro x3 x7 x8 x9).h1 (window x4 off S256x64.size inb) (window x5 off S256x64.size inb) (window x6 oc S1x1x1x256.size inc) A n J where
  q r x := (q1_apply _ r x).trans (by rw [win_q]; exact h.q r x)
  d r x := (d1_apply (window x8 ![0, 0] S1024x128.size inb_S1024x128_S1024x128_0_0) r x).trans (by rw [win_q]; exact h.d r x)
  e r := (e1_apply _ r _).trans (by
    rw [win_q, ← h.e r]
    exact Finset.sum_congr rfl fun y _ => congrArg _ (win_o x7 64 _ r y (lane1 y) rfl))
  l r := (col1_apply _ r).trans ((win_col x9 1 _ r 1 rfl).trans (h.l r))
  k c x := (win_key x4 inb eo c x ⟨256 * J + c.val, by omega⟩ (lane1 x) rfl rfl).trans (h.k _ x)
  v c x := (win_key x5 inb eo c x ⟨256 * J + c.val, by omega⟩ (lane1 x) rfl rfl).trans (h.v _ x)
  c c := (win_decay x6 inc ec c 1 ⟨J, hJ⟩ rfl rfl).trans (h.c _ c)

theorem rows1 {R : ℕ} (m : ℕ) (hR : m + R = 1024) (X Y : Fin 64 → Fin R → EReal)
    (hX : ∀ a r, X a r = (pro x3 x7 x8 x9).qt (ix2 (lane1 a) ⟨m + r.val, by omega⟩))
    (hY : ∀ a r, Y a r = (pro x3 x7 x8 x9).dt (ix2 (lane1 a) ⟨m + r.val, by omega⟩)) : Rows X Y A n m where
  q a r := (hX a r).trans ((qt_apply _ _ (lane1 a)).trans (by rw [win_q]; exact h.q ⟨m + r.val, by omega⟩ a))
  d a r := (hY a r).trans ((dt_apply _ _ (lane1 a)).trans (by rw [win_q]; exact h.d ⟨m + r.val, by omega⟩ a))
end

end

/-- What both heads have gathered. -/
def Both (A0 A1 : Att) (n : ℕ) (S : Finset ℕ) (s : St Ideal) : Prop := Upto A0 n S (got0 s) ∧ Upto A1 n S (got1 s)

section
variable {A0 A1 : Att} {n J : ℕ} {S : Finset ℕ} {s : St Ideal} {t0 t1 : Txt Ideal}
  {og : Fin 3 → ℕ} (hg : ∀ a, og a + S1x64x256.size a ≤ S8x128x256.size a) {oc : Fin 4 → ℕ} (hc : ∀ a, oc a + S1x1x1x256.size a ≤ S1x2x8x256.size a)
  {og' : Fin 3 → ℕ} (hg' : ∀ a, og' a + S1x64x256.size a ≤ S8x128x256.size a) {oc' : Fin 4 → ℕ} (hc' : ∀ a, oc' a + S1x1x1x256.size a ≤ S1x2x8x256.size a)

/-- A key block of both heads. -/
theorem Both.step (hb : Both A0 A1 n S s) (hJ : J ∉ S) (d0 : Does t0 A0 n J) (d1 : Does t1 A1 n J)
    (eg : og = ![J, 0, 0]) (ec : oc = ![0, 0, J, 0]) (eg' : og' = ![J, 64, 0]) (ec' : oc' = ![0, 1, J, 0]) :
    Both A0 A1 n (insert J S) (right t1 og' hg' oc' hc' (left t0 og hg oc hc s)) := by
  refine ⟨?_, ?_⟩
  · rw [right_other hg' hc' _ eg' ec']
    exact hb.1.step hJ (left_step hg hc s d0 eg ec)
  · have h := hb.2
    rw [← left_other (t := t0) hg hc s eg ec] at h
    exact h.step hJ (right_step hg' hc' _ d1 eg' ec')
end

section
variable {x3 : Vec Ideal S1024x128 .bf16} {x4 x5 : Vec Ideal S2048x128 .bf16} {x6 : Vec Ideal S1x2x8x256 .f32} {x7 : Vec Ideal S1024x128 .f32} {x8 : Vec Ideal S1024x128 .bf16}
  {x9 : Vec Ideal S1x1x1024x3 .f32} {i : grid0.Coords}
variable {A0 A1 : Att} (h0 : Seen A0 lane0 0 0 (i 2).val x3 x4 x5 x6 x7 x8 x9) (h1 : Seen A1 lane1 1 1 (i 2).val x3 x4 x5 x6 x7 x8 x9) {s : St Ideal} {S : Finset ℕ}
include h0 h1

theorem at0 (hb : Both A0 A1 (i 2).val S s) (hS : 4 * (i 2).val + 0 ∉ S) :
    Both A0 A1 (i 2).val (insert (4 * (i 2).val + 0) S) (diag01 (pro x3 x7 x8 x9) x4 x5 x6 i (diag00 (pro x3 x7 x8 x9) x4 x5 x6 i s)) := by
  have hn : (i 2).val < 2 := (i 2).isLt
  exact hb.step _ _ _ _ hS
    (edge0_does (good0 h0 (by omega) _ (off1_eq i 0) _ (off2_eq i 0)) rfl _ _
      (rows0 h0 0 rfl _ _ (fun a r => (cut00 _ a r).trans (congrArg (fun r => (pro x3 x7 x8 x9).qt (ix2 (lane0 a) r)) (Fin.ext (Nat.zero_add _).symm)))
        (fun a r => (cut00 _ a r).trans (congrArg (fun r => (pro x3 x7 x8 x9).dt (ix2 (lane0 a) r)) (Fin.ext (Nat.zero_add _).symm)))))
    (edge0_does (good1 h1 (by omega) _ (off4_eq i 0) _ (off5_eq i 0)) rfl _ _
      (rows1 h1 0 rfl _ _ (fun a r => (cut10 _ a r).trans (congrArg (fun r => (pro x3 x7 x8 x9).qt (ix2 (lane1 a) r)) (Fin.ext (Nat.zero_add _).symm)))
        (fun a r => (cut10 _ a r).trans (congrArg (fun r => (pro x3 x7 x8 x9).dt (ix2 (lane1 a) r)) (Fin.ext (Nat.zero_add _).symm)))))
    (off3_eq i 0) (off2_eq i 0) (off6_eq i 0) (off5_eq i 0)

theorem at1 (hb : Both A0 A1 (i 2).val S s) (hS : 4 * (i 2).val + 1 ∉ S) :
    Both A0 A1 (i 2).val (insert (4 * (i 2).val + 1) S) (diag11 (pro x3 x7 x8 x9) x4 x5 x6 i (diag10 (pro x3 x7 x8 x9) x4 x5 x6 i s)) := by
  have hn : (i 2).val < 2 := (i 2).isLt
  exact hb.step _ _ _ _ hS
    (edge1_does (good0 h0 (by omega) _ (off1_eq i 1) _ (off2_eq i 1)) rfl _ _ (rows0 h0 256 rfl _ _ (fun a r => cut01 _ a r) (fun a r => cut01 _ a r)))
    (edge1_does (good1 h1 (by omega) _ (off4_eq i 1) _ (off5_eq i 1)) rfl _ _ (rows1 h1 256 rfl _ _ (fun a r => cut11 _ a r) (fun a r => cut11 _ a r)))
    (off3_eq i 1) (off2_eq i 1) (off6_eq i 1) (off5_eq i 1)

theorem at2 (hb : Both A0 A1 (i 2).val S s) (hS : 4 * (i 2).val + 2 ∉ S) :
    Both A0 A1 (i 2).val (insert (4 * (i 2).val + 2) S) (diag21 (pro x3 x7 x8 x9) x4 x5 x6 i (diag20 (pro x3 x7 x8 x9) x4 x5 x6 i s)) := by
  have hn : (i 2).val < 2 := (i 2).isLt
  exact hb.step _ _ _ _ hS
    (edge2_does (good0 h0 (by omega) _ (off1_eq i 2) _ (off2_eq i 2)) rfl _ _ (rows0 h0 512 rfl _ _ (fun a r => cut02 _ a r) (fun a r => cut02 _ a r)))
    (edge2_does (good1 h1 (by omega) _ (off4_eq i 2) _ (off5_eq i 2)) rfl _ _ (rows1 h1 512 rfl _ _ (fun a r => cut12 _ a r) (fun a r => cut12 _ a r)))
    (off3_eq i 2) (off2_eq i 2) (off6_eq i 2) (off5_eq i 2)

theorem at3 (hb : Both A0 A1 (i 2).val S s) (hS : 4 * (i 2).val + 3 ∉ S) :
    Both A0 A1 (i 2).val (insert (4 * (i 2).val + 3) S) (diag31 (pro x3 x7 x8 x9) x4 x5 x6 i (diag30 (pro x3 x7 x8 x9) x4 x5 x6 i s)) := by
  have hn : (i 2).val < 2 := (i 2).isLt
  exact hb.step _ _ _ _ hS
    (edge3_does (good0 h0 (by omega) _ (off1_eq i 3) _ (off2_eq i 3)) rfl _ _ (rows0 h0 768 rfl _ _ (fun a r => cut03 _ a r) (fun a r => cut03 _ a r)))
    (edge3_does (good1 h1 (by omega) _ (off4_eq i 3) _ (off5_eq i 3)) rfl _ _ (rows1 h1 768 rfl _ _ (fun a r => cut13 _ a r) (fun a r => cut13 _ a r)))
    (off3_eq i 3) (off2_eq i 3) (off6_eq i 3) (off5_eq i 3)

/-- A key block of a trip. -/
theorem pass_both (k : Fin (k0_t1_loop i (whole (i 2))).trips) (j : Fin 2) (hb : Both A0 A1 (i 2).val S s) (hS : 2 * k.val + j.val ∉ S) :
    Both A0 A1 (i 2).val (insert (2 * k.val + j.val) S) (pass (pro x3 x7 x8 x9) x4 x5 x6 i (whole (i 2)) k j s) := by
  have hn : (i 2).val < 2 := (i 2).isLt
  have hk : k.val < 2 * (i 2).val := lt_of_lt_of_eq k.isLt (trips_eq i)
  exact hb.step _ _ _ _ hS
    (full_does (good0 h0 (by omega) _ (off7_eq i k j) _ (off8_eq i k j)) (by omega) _ _
      (rows0 h0 0 rfl _ _ (fun a r => (cut00 _ a r).trans (congrArg (fun r => (pro x3 x7 x8 x9).qt (ix2 (lane0 a) r)) (Fin.ext (Nat.zero_add _).symm)))
        (fun a r => (cut00 _ a r).trans (congrArg (fun r => (pro x3 x7 x8 x9).dt (ix2 (lane0 a) r)) (Fin.ext (Nat.zero_add _).symm)))))
    (full_does (good1 h1 (by omega) _ (off10_eq i k j) _ (off11_eq i k j)) (by omega) _ _
      (rows1 h1 0 rfl _ _ (fun a r => (cut10 _ a r).trans (congrArg (fun r => (pro x3 x7 x8 x9).qt (ix2 (lane1 a) r)) (Fin.ext (Nat.zero_add _).symm)))
        (fun a r => (cut10 _ a r).trans (congrArg (fun r => (pro x3 x7 x8 x9).dt (ix2 (lane1 a) r)) (Fin.ext (Nat.zero_add _).symm)))))
    (off9_eq i k j) (off8_eq i k j) (off12_eq i k j) (off11_eq i k j)

/-- The key blocks on the diagonal and those of the first `k` trips. -/
def seen (n k : ℕ) : Finset ℕ := Finset.range (2 * k) ∪ Finset.Ico (4 * n) (4 * n + 4)

omit h0 h1 in
theorem mem_seen (n k J : ℕ) : J ∈ seen n k ↔ J < 2 * k ∨ 4 * n ≤ J ∧ J < 4 * n + 4 := by
  simp [seen]

/-- The loop does the key blocks before the query block. -/
theorem before_both (hb : Both A0 A1 (i 2).val (seen (i 2).val 0) s) (k : ℕ) (hk : k ≤ (k0_t1_loop i (whole (i 2))).trips) :
    Both A0 A1 (i 2).val (seen (i 2).val k) (before (pro x3 x7 x8 x9) x4 x5 x6 i (whole (i 2)) s k) := by
  induction k with
  | zero => exact hb
  | succ k ih =>
    have h := trips_eq i
    have ih := ih (by omega)
    rw [before, dif_pos (by omega)]
    have a := pass_both h0 h1 ⟨k, by omega⟩ 0 ih (by rw [mem_seen]; show ¬ (2 * k + 0 < _ ∨ 4 * _ ≤ 2 * k + 0 ∧ 2 * k + 0 < _); omega)
    have b := pass_both h0 h1 ⟨k, by omega⟩ 1 a (by
      rw [Finset.mem_insert, mem_seen]; show ¬ (2 * k + 1 = 2 * k + 0 ∨ 2 * k + 1 < _ ∨ 4 * _ ≤ 2 * k + 1 ∧ 2 * k + 1 < _); omega)
    have e : insert (2 * k + 1) (insert (2 * k + 0) (seen (i 2).val k)) = seen (i 2).val (k + 1) := by
      ext J
      rw [Finset.mem_insert, Finset.mem_insert, mem_seen, mem_seen]
      omega
    rw [← e]
    exact b

omit h0 h1 in
theorem zero64 (j : S1024x64.Idx) : (k0_pay118 (F := Ideal) j : EReal) = ((0 : ℝ) : EReal) := Ideal.ofBits_zero_f32

/-- A query block, of both heads. -/
theorem done_fin (hw : word x9 = whole (i 2)) (dk dv : Vec Ideal S8x128x256 .f32) (dc : Vec Ideal S1x2x8x256 .f32)
    (hk0 : ∀ K x c, clear i (k0_pay98 (F := Ideal)) dk (ix3 K (lane0 x) c) = (gath A0.q A0.ds (i 2).val K x c : ℝ))
    (hv0 : ∀ K x c, clear i (k0_pay99 (F := Ideal)) dv (ix3 K (lane0 x) c) = (gath A0.d A0.p (i 2).val K x c : ℝ))
    (hc0 : ∀ K c, clearC i (k0_pay100 (F := Ideal)) dc (ix4 0 0 K c) = (lost A0.ds (i 2).val K c : ℝ))
    (hk1 : ∀ K x c, clear i (k0_pay98 (F := Ideal)) dk (ix3 K (lane1 x) c) = (gath A1.q A1.ds (i 2).val K x c : ℝ))
    (hv1 : ∀ K x c, clear i (k0_pay99 (F := Ideal)) dv (ix3 K (lane1 x) c) = (gath A1.d A1.p (i 2).val K x c : ℝ))
    (hc1 : ∀ K c, clearC i (k0_pay100 (F := Ideal)) dc (ix4 0 1 K c) = (lost A1.ds (i 2).val K c : ℝ)) :
    Fin' A0 (i 2).val (got0 (done x3 x4 x5 x6 x7 x8 x9 i dk dv dc)) ∧ Fin' A1 (i 2).val (got1 (done x3 x4 x5 x6 x7 x8 x9 i dk dv dc)) := by
  have hn : (i 2).val < 2 := (i 2).isLt
  have b0 : Both A0 A1 (i 2).val ∅ (start i dk dv dc) :=
    ⟨⟨fun r x => zero64 (ix2 r x), hk0, hv0, hc0⟩, ⟨fun r x => zero64 (ix2 r x), hk1, hv1, hc1⟩⟩
  have b4 := at3 h0 h1 (at2 h0 h1 (at1 h0 h1 (at0 h0 h1 b0 (Finset.notMem_empty _)) (by simp)) (by simp)) (by simp)
  have e : insert (4 * (i 2).val + 3) (insert (4 * (i 2).val + 2) (insert (4 * (i 2).val + 1) (insert (4 * (i 2).val + 0) ∅))) = seen (i 2).val 0 := by
    ext J
    rw [Finset.mem_insert, Finset.mem_insert, Finset.mem_insert, Finset.mem_insert, mem_seen]
    simp only [Finset.notMem_empty, Nat.mul_zero, Nat.not_lt_zero, false_or, or_false]
    omega
  rw [e] at b4
  have hB := before_both h0 h1 b4 _ le_rfl
  unfold done looped
  rw [hw]
  have ht := trips_eq i
  refine ⟨Upto.fin hn ?_ ?_ hB.1, Upto.fin hn ?_ ?_ hB.2⟩ <;> intro J hJ
  · rw [mem_seen, ht]; omega
  · rw [mem_seen, ht] at hJ; omega
  · rw [mem_seen, ht]; omega
  · rw [mem_seen, ht] at hJ; omega

end

end Cert.Fox
-- ==== Proof.FoxCarry.lean ====
/- Hand-written, untrusted: what the forgetting attention's gradient has gathered at each grid point. -/
module

public import proofs.«01_k».proof.Proof.FoxPoint
public import proofs.«01_k».proof.Proof.FoxFrame

@[expose] public section

set_option maxRecDepth 16384

noncomputable section

namespace Cert.Fox

open Idealize.ShloMosaic Cert.Finite Idealize.ShloMosaic.TcCoe Cert.Kernel7Ideal Cert.Kernel7Ideal.Gen
open VecWindow (window put)

/-- Later query blocks find what was gathered. -/
theorem clear_later (t : Fin grid0.N) (h : t.val % 2 ≠ 0) (w x : Vec Ideal S8x128x256 .f32) : clear (grid0.coords t) w x = x :=
  if_neg fun e => h ((first_iff t).1 e)
theorem clearC_later (t : Fin grid0.N) (h : t.val % 2 ≠ 0) (w x : Vec Ideal S1x2x8x256 .f32) : clearC (grid0.coords t) w x = x :=
  if_neg fun e => h ((first_iff t).1 e)

theorem zero98 (j : S8x128x256.Idx) : (k0_pay98 (F := Ideal) j : EReal) = ((0 : ℝ) : EReal) := Ideal.ofBits_zero_f32
theorem zero99 (j : S8x128x256.Idx) : (k0_pay99 (F := Ideal) j : EReal) = ((0 : ℝ) : EReal) := Ideal.ofBits_zero_f32
theorem zero100 (j : S1x2x8x256.Idx) : (k0_pay100 (F := Ideal) j : EReal) = ((0 : ℝ) : EReal) := Ideal.ofBits_zero_f32

/-- The first query block finds nothing. -/
theorem clear_zero (t : Fin grid0.N) (h : t.val % 2 = 0) (w x : Vec Ideal S8x128x256 .f32) (hw : ∀ j, w j = ((0 : ℝ) : EReal)) (y : S8x128x256.Idx) :
    clear (grid0.coords t) w x y = ((0 : ℝ) : EReal) := by
  unfold clear
  rw [if_pos ((first_iff t).2 h)]
  have h0 : (y 0).val < 8 := (y 0).isLt
  have h1 : (y 1).val < 128 := (y 1).isLt
  have h2 : (y 2).val < 256 := (y 2).isLt
  unfold put
  rw [dif_pos, hw]
  intro a
  fin_cases a <;> simp [S8x128x256] <;> omega
theorem clearC_zero (t : Fin grid0.N) (h : t.val % 2 = 0) (w x : Vec Ideal S1x2x8x256 .f32) (hw : ∀ j, w j = ((0 : ℝ) : EReal)) (y : S1x2x8x256.Idx) :
    clearC (grid0.coords t) w x y = ((0 : ℝ) : EReal) := by
  unfold clearC
  rw [if_pos ((first_iff t).2 h)]
  have h0 : (y 0).val < 1 := (y 0).isLt
  have h1 : (y 1).val < 2 := (y 1).isLt
  have h2 : (y 2).val < 8 := (y 2).isLt
  have h3 : (y 3).val < 256 := (y 3).isLt
  unfold put
  rw [dif_pos, hw]
  intro a
  fin_cases a <;> simp [S1x2x8x256] <;> omega

theorem gath_zero (f : ℕ → Fin 64 → ℝ) (g : ℕ → ℕ → ℝ) (K : Fin 8) (x : Fin 64) (c : Fin 256) : gath f g 0 K x c = 0 := rfl
theorem lost_zero (g : ℕ → ℕ → ℝ) (K : Fin 8) (c : Fin 256) : lost g 0 K c = 0 := neg_zero

variable (m : (ℓ : Loc nD τ sig) → Buf (Elt Ideal) ℓ) (c : Dev nD)

/-- The windows at every point hold the numbers of two heads, the same at the two query blocks. -/
structure Sees (H0 H1 : ℕ → Att) : Prop where
  head0 : ∀ t : Fin cfg0.N, Seen (H0 (t.val / 2)) lane0 0 0 (t.val % 2) (iblk m c 0 t) (iblk m c 1 t) (iblk m c 2 t) (iblk m c 3 t) (iblk m c 4 t) (iblk m c 5 t) (iblk m c 6 t)
  head1 : ∀ t : Fin cfg0.N, Seen (H1 (t.val / 2)) lane1 1 1 (t.val % 2) (iblk m c 0 t) (iblk m c 1 t) (iblk m c 2 t) (iblk m c 3 t) (iblk m c 4 t) (iblk m c 5 t) (iblk m c 6 t)
  count : ∀ (t : Fin cfg0.N) (r : Fin 1024), iblk m c 6 t (ix4 0 0 r 2) = ((4 * (t.val % 2 : ℕ) : ℝ) : EReal)

variable {m c} {H0 H1 : ℕ → Att} (hs : Sees m c H0 H1)

include hs in
theorem doneAt_fin (t : Fin cfg0.N) (dk dv : Vec Ideal S8x128x256 .f32) (dc : Vec Ideal S1x2x8x256 .f32)
    (k0 : ∀ K x c, clear (grid0.coords t) (k0_pay98 (F := Ideal)) dk (ix3 K (lane0 x) c) = (gath (H0 (t.val / 2)).q (H0 (t.val / 2)).ds (t.val % 2) K x c : ℝ))
    (v0 : ∀ K x c, clear (grid0.coords t) (k0_pay99 (F := Ideal)) dv (ix3 K (lane0 x) c) = (gath (H0 (t.val / 2)).d (H0 (t.val / 2)).p (t.val % 2) K x c : ℝ))
    (c0 : ∀ K c, clearC (grid0.coords t) (k0_pay100 (F := Ideal)) dc (ix4 0 0 K c) = (lost (H0 (t.val / 2)).ds (t.val % 2) K c : ℝ))
    (k1 : ∀ K x c, clear (grid0.coords t) (k0_pay98 (F := Ideal)) dk (ix3 K (lane1 x) c) = (gath (H1 (t.val / 2)).q (H1 (t.val / 2)).ds (t.val % 2) K x c : ℝ))
    (v1 : ∀ K x c, clear (grid0.coords t) (k0_pay99 (F := Ideal)) dv (ix3 K (lane1 x) c) = (gath (H1 (t.val / 2)).d (H1 (t.val / 2)).p (t.val % 2) K x c : ℝ))
    (c1 : ∀ K c, clearC (grid0.coords t) (k0_pay100 (F := Ideal)) dc (ix4 0 1 K c) = (lost (H1 (t.val / 2)).ds (t.val % 2) K c : ℝ)) :
    Fin' (H0 (t.val / 2)) (t.val % 2) (got0 (doneAt m c t dk dv dc)) ∧ Fin' (H1 (t.val / 2)) (t.val % 2) (got1 (doneAt m c t dk dv dc)) := by
  have a0 := hs.head0 t
  have a1 := hs.head1 t
  have aw := hs.count t
  unfold doneAt
  have e := coord2 t
  rw [← e] at k0 v0 c0 k1 v1 c1 a0 a1 aw ⊢
  exact done_fin a0 a1 (word_eq _ _ aw) dk dv dc k0 v0 c0 k1 v1 c1

include hs in
/-- The first query block. -/
theorem first_fin (t : Fin cfg0.N) (h : t.val % 2 = 0) (dk dv : Vec Ideal S8x128x256 .f32) (dc : Vec Ideal S1x2x8x256 .f32) :
    Fin' (H0 (t.val / 2)) (t.val % 2) (got0 (doneAt m c t dk dv dc)) ∧ Fin' (H1 (t.val / 2)) (t.val % 2) (got1 (doneAt m c t dk dv dc)) := by
  refine doneAt_fin hs t _ _ _ (fun K x c => ?_) (fun K x c => ?_) (fun K c => ?_) (fun K x c => ?_) (fun K x c => ?_) (fun K c => ?_)
  · rw [h, gath_zero]; exact clear_zero t h _ _ zero98 _
  · rw [h, gath_zero]; exact clear_zero t h _ _ zero99 _
  · rw [h, lost_zero]; exact clearC_zero t h _ _ zero100 _
  · rw [h, gath_zero]; exact clear_zero t h _ _ zero98 _
  · rw [h, gath_zero]; exact clear_zero t h _ _ zero99 _
  · rw [h, lost_zero]; exact clearC_zero t h _ _ zero100 _

include hs in
/-- What a grid point has gathered. -/
theorem made_fin (t : Fin cfg0.N) : Fin' (H0 (t.val / 2)) (t.val % 2) (got0 (made m c t)) ∧ Fin' (H1 (t.val / 2)) (t.val % 2) (got1 (made m c t)) := by
  by_cases h : t.val % 2 = 0
  · exact first_fin hs t h _ _ _
  · have hlt : t.val - 1 < cfg0.N := by have := t.isLt; omega
    obtain ⟨i0, i1⟩ := first_fin hs ⟨t.val - 1, hlt⟩ (by show (t.val - 1) % 2 = 0; omega) (carried m c (t.val - 1)).1 (carried m c (t.val - 1)).2.1 (carried m c (t.val - 1)).2.2
    have hd : (t.val - 1) / 2 = t.val / 2 := by omega
    have hm : (t.val - 1) % 2 + 1 = t.val % 2 := by omega
    have e := carried_succ m c ⟨t.val - 1, hlt⟩
    rw [show (⟨t.val - 1, hlt⟩ : Fin cfg0.N).val + 1 = t.val from by show t.val - 1 + 1 = _; omega] at e
    unfold made
    dsimp only at i0 i1
    rw [hd] at i0 i1
    rw [e]
    refine doneAt_fin hs t _ _ _ (fun K x c => ?_) (fun K x c => ?_) (fun K c => ?_) (fun K x c => ?_) (fun K x c => ?_) (fun K c => ?_)
    · rw [clear_later t h, ← hm]; exact i0.dk K x c
    · rw [clear_later t h, ← hm]; exact i0.dv K x c
    · rw [clearC_later t h, ← hm]; exact i0.dc K c
    · rw [clear_later t h, ← hm]; exact i1.dk K x c
    · rw [clear_later t h, ← hm]; exact i1.dv K x c
    · rw [clearC_later t h, ← hm]; exact i1.dc K c

end Cert.Fox
-- ==== Proof.FoxWindows.lean ====
/- Hand-written, untrusted: what the host lines before the forgetting attention's gradient compute at real arguments. -/
module

public import proofs.«01_k».proof.Proof.FoxHost
public import proofs.«01_k».proof.Proof.FoxCarry

@[expose] public section

set_option maxRecDepth 16384

noncomputable section

namespace Cert.Fox

open Idealize.ShloMosaic Cert.Finite Cert.Rows Idealize.ShloMosaic.TcCoe Cert.Kernel7Ideal Cert.Kernel7Ideal.Gen Finset
open Cert.Sb (laneOf place place_val)

variable (m : (ℓ : Loc nD τ sig) → Buf (Elt Ideal) ℓ) (c : Dev nD)

/-- The key blocks counted before each row's query block. -/
theorem count_word : ∀ s : Fin 2048, floors (ix1 s) * 4#32 = BitVec.ofNat 32 (4 * (s.val / 1024)) := by
  have e : ∀ s : Fin 2048, floors (ix1 s) = Scalar.select (IntOp.andi (Scalar.cmpi .ne (if BitVec.ofNat 32 s.val = 0 then 0 else if (BitVec.ofNat 32 s.val).msb then -1 else 1 : BitVec 32) (if 1024#32 = 0 then 0 else if (1024#32).msb then -1 else 1))
      (Scalar.cmpi .ne (IntOp.remsi .host (BitVec.ofNat 32 s.val) 1024#32) 0#32)) (IntOp.divsi .host (BitVec.ofNat 32 s.val) 1024#32 - 1#32) (IntOp.divsi .host (BitVec.ofNat 32 s.val) 1024#32) := fun s => rfl
  simp only [e]
  decide +kernel

theorem visited_at (b : Fin 4) (p : Fin 16) (s : Fin 2048) : visited (ix4 b p s 0) = ((4 * (s.val / 1024 : ℕ) : ℝ) : EReal) := by
  have e : visited (ix4 b p s 0) = (((floors (ix1 s) * 4#32).toInt : ℝ) : EReal) := rfl
  have hs := s.isLt
  rw [e, count_word, BitVec.toInt_ofNat', Int.bmod_eq_of_le (by omega) (by omega)]
  push_cast
  rfl

/-- The sums along the last axis. -/
theorem row_sum (X : S4x32x2048x2048.Idx → EReal) (b : Fin 4) (h : Fin 32) (s : Fin 2048) :
    Host.reduceAdd (F := Ideal) (φ := .f32) X (constant (F := Ideal) S_ .f32 0x00000000#32) Gen.facts.reducesTo_S4x32x2048x2048_S4x32x2048_d3 Gen.facts.h_S_ (ix3 b h s)
      = ∑ j : Fin 2048, X (ix4 b h s j) := by
  pointwise

/-- The logarithms added to the maxima, and the outputs, at an index. -/
theorem row_log (T U : S4x32x2048.Idx → EReal) (b : Fin 4) (h : Fin 32) (s : Fin 2048) :
    addf (F := Ideal) (φ := .f32) (broadcastInDim S4x32x2048x1 ![0, 1, 2] Gen.facts.bcast_S4x32x2048_S4x32x2048x1_0_1_2 T)
      (Host.log (F := Ideal) (φ := .f32) (broadcastInDim S4x32x2048x1 ![0, 1, 2] Gen.facts.bcast_S4x32x2048_S4x32x2048x1_0_1_2 U)) (ix4 b h s 0)
      = T (ix3 b h s) + Ideal.log (U (ix3 b h s)) := by
  pointwise
theorem row_out (X : S4x32x2048x2048.Idx → EReal) (Y : S4x32x2048x64.Idx → EReal) (U : S4x32x2048.Idx → EReal) (b : Fin 4) (h : Fin 32) (s : Fin 2048) (x : Fin 64) :
    Host.divf (F := Ideal) (φ := .f32) (Host.dotGeneral (F := Ideal) (φ₁ := .f32) (φ₂ := .f32) Cert.Kernel7Ideal.dot_S4x32x2048x2048_S4x32x2048x64_S4x32x2048x64_3_2_2_3_01_01 none X Y)
      (broadcastInDim S4x32x2048x64 ![0, 1, 2, 3] Gen.facts.bcast_S4x32x2048x1_S4x32x2048x64_0_1_2_3
        (broadcastInDim S4x32x2048x1 ![0, 1, 2] Gen.facts.bcast_S4x32x2048_S4x32x2048x1_0_1_2 U)) (ix4 b h s x)
      = Ideal.div (∑ j : Fin 2048, X (ix4 b h s j) * Y (ix4 b h j x)) (U (ix3 b h s)) := by
  pointwise

variable {m c} {Q K V' D : (⟨3, ![4, 2048, 2048]⟩ : Shape).Idx → ℝ} {C : (⟨3, ![4, 32, 2048]⟩ : Shape).Idx → ℝ}
variable (R : AreReal (arg0 m c) (arg1 m c) (arg2 m c) (arg3 m c) (arg4 m c) Q K V' C D)
variable (b : Fin 4) (h : Fin 32) (s j : Fin 2048) (x : Fin 64)

section
include R

theorem masked_at : masked m c (ix4 b h s j)
    = if j.val ≤ s.val then ((logit (headOf Q K V' D C b h).q (headOf Q K V' D C b h).k (headOf Q K V' D C b h).c s.val j.val + 0 : ℝ) : EReal) else ⊥ := by
  have e : scores m c (ix4 b h s j) = ((logit (headOf Q K V' D C b h).q (headOf Q K V' D C b h).k (headOf Q K V' D C b h).c s.val j.val + 0 : ℝ) : EReal) := by
    have e1 : scores m c (ix4 b h s j) = (Cert.Reference7Ideal.Read.val_main_v8 (F := Ideal) (arg0 m c) (arg1 m c) (ix4 b h s j) : EReal) - arg3 m c (ix3 b h j) := by
      unfold scores
      pointwise
    have e2 : arg3 m c (ix3 b h j) = ((headOf Q K V' D C b h).c j.val : EReal) := by
      rw [R.c]; unfold headOf attOf; dsimp only; rw [place_val]
    rw [e1, v8_at R, e2, ← EReal.coe_sub]
    unfold logit
    exact congrArg Real.toEReal (by ring)
  have e3 : masked m c (ix4 b h s j) = Scalar.select (Cert.Reference7Ideal.Read.val_main_v22_1 (F := Ideal) (ix4 b h s j)) (scores m c (ix4 b h s j)) (FloatOps.ofBits (F := Ideal) .f32 0xFF800000#32) := rfl
  rw [e3, v22_1_at, e, word_bot, pick_of]

theorem tops_at : ∃ M : ℝ, tops m c (ix3 b h s) = (M : EReal) := by
  refine row_max (masked m c) (constant (F := Ideal) S_ .f32 0xFF800000#32) Gen.facts.reducesTo_S4x32x2048x2048_S4x32x2048_d3 Gen.facts.h_S_ ?_ (fun i => ?_) b h s ?_
  · exact word_bot
  · obtain ⟨b, h, s, j, rfl⟩ : ∃ (b : Fin 4) (h : Fin 32) (s j : Fin 2048), i = ix4 b h s j := ⟨i 0, i 1, i 2, i 3, (ix4_eta i).symm⟩
    rw [masked_at R]
    split
    · exact EReal.coe_ne_top _
    · exact bot_ne_top
  · rw [masked_at R, if_pos (show (0 : Fin 2048).val ≤ s.val from Nat.zero_le _)]
    exact EReal.coe_ne_bot _

theorem expos_of {M : ℝ} (hM : tops m c (ix3 b h s) = (M : EReal)) : expos m c (ix4 b h s j)
    = (((headOf Q K V' D C b h).p s.val j.val * Real.exp ((headOf Q K V' D C b h).l s.val + 0 - M) : ℝ) : EReal) := by
  have e : expos m c (ix4 b h s j) = Ideal.exp (masked m c (ix4 b h s j) - tops m c (ix3 b h s)) := by
    unfold expos tops1
    pointwise
  rw [e, hM]
  exact attOf_exp _ _ _ _ _ s.val j.val 0 M _ (masked_at R b h s j)

omit R in
theorem sums_row : sums m c (ix3 b h s) = ∑ j : Fin 2048, expos m c (ix4 b h s j) := by
  unfold sums
  exact row_sum _ b h s

omit R in
theorem head_sum (S : ℝ) : ∑ j : Fin 2048, (((headOf Q K V' D C b h).p s.val j.val * S : ℝ) : EReal) = (S : EReal) := by
  have e1 : ∑ j ∈ range 2048, (headOf Q K V' D C b h).p s.val j * S = S := by
    rw [← sum_mul, show ∑ j ∈ range 2048, (headOf Q K V' D C b h).p s.val j = 1 from attOf_sum _ _ _ _ _ _, one_mul]
  rw [← coe_sum, Fin.sum_univ_eq_sum_range (fun j => (headOf Q K V' D C b h).p s.val j * S) 2048, e1]

omit R in
theorem sums_of {S : ℝ} (hS : ∀ j : Fin 2048, expos m c (ix4 b h s j) = (((headOf Q K V' D C b h).p s.val j.val * S : ℝ) : EReal)) :
    sums m c (ix3 b h s) = (S : EReal) := by
  rw [sums_row, sum_congr rfl fun j _ => hS j, head_sum]

/-- The logarithms of the rows' sums. -/
theorem logs_at : logs m c (ix4 b h s 0) = ((headOf Q K V' D C b h).l s.val : EReal) := by
  obtain ⟨M, hM⟩ := tops_at R b h s
  have e : logs m c (ix4 b h s 0) = tops m c (ix3 b h s) + Ideal.log (sums m c (ix3 b h s)) := by
    unfold logs tops1 sums1
    exact row_log _ _ b h s
  rw [e, hM, sums_of b h s (fun j => expos_of R b h s j hM), log_coe (Real.exp_pos _), Real.log_exp, ← EReal.coe_add]
  exact congrArg Real.toEReal (by ring)

/-- The heads' outputs. -/
theorem outs_at : outs m c (ix4 b h s x)
    = ((∑ j ∈ range 2048, (headOf Q K V' D C b h).p s.val j * (headOf Q K V' D C b h).v j x : ℝ) : EReal) := by
  obtain ⟨M, hM⟩ := tops_at R b h s
  have e : outs m c (ix4 b h s x) = Ideal.div (∑ j : Fin 2048, expos m c (ix4 b h s j) * Cert.Reference7Ideal.Read.val_main_v5 (F := Ideal) (arg2 m c) (ix4 b h j x)) (sums m c (ix3 b h s)) := by
    unfold outs sums1
    exact row_out _ _ _ b h s x
  have e1 : ∑ j : Fin 2048, expos m c (ix4 b h s j) * Cert.Reference7Ideal.Read.val_main_v5 (F := Ideal) (arg2 m c) (ix4 b h j x)
      = ((∑ j ∈ range 2048, (headOf Q K V' D C b h).p s.val j * Real.exp ((headOf Q K V' D C b h).l s.val + 0 - M) * (headOf Q K V' D C b h).v j x : ℝ) : EReal) := by
    rw [← Fin.sum_univ_eq_sum_range (fun j => (headOf Q K V' D C b h).p s.val j * Real.exp ((headOf Q K V' D C b h).l s.val + 0 - M) * (headOf Q K V' D C b h).v j x) 2048, coe_sum]
    exact sum_congr rfl fun j _ => by rw [expos_of R b h s j hM, v5_at R, ← EReal.coe_mul]
  rw [e, e1, sums_of b h s (fun j => expos_of R b h s j hM), div_coe _ (Real.exp_pos _).ne', sum_div]
  refine congrArg Real.toEReal (sum_congr rfl fun j _ => ?_)
  have := (Real.exp_pos ((headOf Q K V' D C b h).l s.val + 0 - M)).ne'
  field_simp

end

end Cert.Fox
-- ==== Proof.FoxSees.lean ====
/- Hand-written, untrusted: the numbers that each grid point of the forgetting attention's gradient sees. -/
module

public import proofs.«01_k».proof.Proof.FoxWindows

@[expose] public section

set_option maxRecDepth 16384

noncomputable section

namespace Cert.Fox

open Idealize.ShloMosaic Cert.Finite Cert.Rows Idealize.ShloMosaic.TcCoe Cert.Kernel7Ideal Cert.Kernel7Ideal.Gen Finset
open Cert.Sb (laneOf place place_val)

variable {m : (ℓ : Loc nD τ sig) → Buf (Elt Ideal) ℓ} {c : Dev nD} {Q K V' D : (⟨3, ![4, 2048, 2048]⟩ : Shape).Idx → ℝ} {C : (⟨3, ![4, 32, 2048]⟩ : Shape).Idx → ℝ}
variable (R : AreReal (arg0 m c) (arg1 m c) (arg2 m c) (arg3 m c) (arg4 m c) Q K V' C D)
variable (b : Fin 4) (h : Fin 32) (s j : Fin 2048) (x : Fin 64)

/-- The heads' lanes as one list of rows. -/
theorem V35_at (n : Fin 8192) (e : Fin 2048) : V m c main_v35 (ix2 n e) = outs m c (ix4 (seq n) (⟨e.val / 64, by omega⟩ : Fin 32) (pos n) (⟨e.val % 64, by omega⟩ : Fin 64)) := by
  rw [V_main_v35]
  generalize outs m c = X
  refine (shapeCast_rows _ _ n e).trans ?_
  have he := e.isLt
  refine (shapeCast_apply (s := S4x2048x32x64) (t := S4x2048x2048) _ _ (ix3 (seq n) (pos n) e) (ix4 (seq n) (pos n) (⟨e.val / 64, by omega⟩ : Fin 32) (⟨e.val % 64, by omega⟩ : Fin 64)) ?_).trans ?_
  · rw [Shape.rowMajor_val_three, Shape.rowMajor_val_four]
    show (((seq n).val * 2048 + (pos n).val) * 32 + e.val / 64) * 64 + e.val % 64 = ((seq n).val * 2048 + (pos n).val) * 2048 + e.val
    omega
  · pointwise

/-- The keys' decays, block by block. -/
theorem V48_at (J : Fin 8) (i : Fin 256) : V m c main_v48 (ix4 b h J i) = arg3 m c (ix3 b h (⟨256 * J.val + i.val, by omega⟩ : Fin 2048)) := by
  rw [V_main_v48]
  refine shapeCast_apply _ _ _ _ ?_
  rw [Shape.rowMajor_val_three, Shape.rowMajor_val_four]
  show (b.val * 32 + h.val) * 2048 + (256 * J.val + i.val) = ((b.val * 32 + h.val) * 8 + J.val) * 256 + i.val
  omega

/-- The columns of the last window operand. -/
theorem V47_count (b : Fin 4) (p : Fin 16) (s : Fin 2048) : V m c main_v47 (ix4 b p s 2) = ((4 * (s.val / 1024 : ℕ) : ℝ) : EReal) := by
  rw [V_main_v47]
  exact (concatenate_apply_piece (t := S4x16x2048x3) 3 _ _ _ 1 (by simp) S4x16x2048x1 _ rfl rfl 2 rfl (ix4 b p s 0)
    (fun b hb => by match b with | ⟨0, _⟩ => rfl | ⟨1, _⟩ => rfl | ⟨2, _⟩ => rfl | ⟨3, _⟩ => exact absurd rfl hb) rfl).trans (visited_at b p s)

include R in
theorem V47_log (b : Fin 4) (p : Fin 16) (s : Fin 2048) (e : Fin 2) : V m c main_v47 (ix4 b p s ⟨e.val, by omega⟩)
    = ((headOf Q K V' D C b ⟨2 * p.val + e.val, by omega⟩).l s.val : EReal) := by
  rw [V_main_v47, ← logs_at R b ⟨2 * p.val + e.val, by omega⟩ s]
  refine (concatenate_apply_piece (t := S4x16x2048x3) 3 _ _ _ 0 (by simp) S4x16x2048x2 _ rfl rfl 0 rfl (ix4 b p s e)
    (fun b hb => by match b with | ⟨0, _⟩ => rfl | ⟨1, _⟩ => rfl | ⟨2, _⟩ => rfl | ⟨3, _⟩ => exact absurd rfl hb) (by show 0 + e.val = e.val; omega)).trans ?_
  generalize logs m c = X
  refine Eq.trans (b := shapeCast S4x16x2x2048 X Gen.facts.shapeCasts_S4x32x2048x1_S4x16x2x2048 (ix4 b p e s)) rfl ?_
  refine shapeCast_apply _ _ _ _ ?_
  rw [Shape.rowMajor_val_four, Shape.rowMajor_val_four]
  show ((b.val * 32 + (2 * p.val + e.val)) * 2048 + s.val) * 1 + 0 = ((b.val * 16 + p.val) * 2 + e.val) * 2048 + s.val
  omega

theorem idx0 : ∀ t : Fin cfg0.N, win0_0.index t = ![t.val / 32 * 2 + t.val % 2, t.val / 2 % 16] := (by decide +kernel : ∀ t : Fin grid0.N, win0_0.index t = ![t.val / 32 * 2 + t.val % 2, t.val / 2 % 16])
theorem idx1 : ∀ t : Fin cfg0.N, win0_1.index t = ![t.val / 32, 16 + t.val / 2 % 16] := (by decide +kernel : ∀ t : Fin grid0.N, win0_1.index t = ![t.val / 32, 16 + t.val / 2 % 16])
theorem idx2 : ∀ t : Fin cfg0.N, win0_2.index t = ![t.val / 32, 32 + t.val / 2 % 16] := (by decide +kernel : ∀ t : Fin grid0.N, win0_2.index t = ![t.val / 32, 32 + t.val / 2 % 16])
theorem idx3 : ∀ t : Fin cfg0.N, win0_3.index t = ![t.val / 32, t.val / 2 % 16, 0, 0] := (by decide +kernel : ∀ t : Fin grid0.N, win0_3.index t = ![t.val / 32, t.val / 2 % 16, 0, 0])
theorem idx4 : ∀ t : Fin cfg0.N, win0_4.index t = ![t.val / 32 * 2 + t.val % 2, t.val / 2 % 16] := (by decide +kernel : ∀ t : Fin grid0.N, win0_4.index t = ![t.val / 32 * 2 + t.val % 2, t.val / 2 % 16])
theorem idx5 : ∀ t : Fin cfg0.N, win0_5.index t = ![t.val / 32 * 2 + t.val % 2, t.val / 2 % 16] := (by decide +kernel : ∀ t : Fin grid0.N, win0_5.index t = ![t.val / 32 * 2 + t.val % 2, t.val / 2 % 16])
theorem idx6 : ∀ t : Fin cfg0.N, win0_6.index t = ![t.val / 32, t.val / 2 % 16, t.val % 2, 0] := (by decide +kernel : ∀ t : Fin grid0.N, win0_6.index t = ![t.val / 32, t.val / 2 % 16, t.val % 2, 0])
theorem idx7 : ∀ t : Fin cfg0.N, win0_7.index t = ![t.val / 32 * 2 + t.val % 2, t.val / 2 % 16] := (by decide +kernel : ∀ t : Fin grid0.N, win0_7.index t = ![t.val / 32 * 2 + t.val % 2, t.val / 2 % 16])
theorem idx8 : ∀ t : Fin cfg0.N, win0_8.index t = ![t.val / 32, t.val / 2 % 16] := (by decide +kernel : ∀ t : Fin grid0.N, win0_8.index t = ![t.val / 32, t.val / 2 % 16])
theorem idx9 : ∀ t : Fin cfg0.N, win0_9.index t = ![t.val / 32, t.val / 2 % 16] := (by decide +kernel : ∀ t : Fin grid0.N, win0_9.index t = ![t.val / 32, t.val / 2 % 16])
theorem idx10 : ∀ t : Fin cfg0.N, win0_10.index t = ![t.val / 32, t.val / 2 % 16, 0, 0] := (by decide +kernel : ∀ t : Fin grid0.N, win0_10.index t = ![t.val / 32, t.val / 2 % 16, 0, 0])

/-- The sequence and the pair of heads of a point, and the rows of its query block. -/
def seqOf (p : ℕ) : Fin 4 := ⟨p / 16 % 4, by omega⟩
def pairOf (p : ℕ) : Fin 16 := ⟨p % 16, by omega⟩
def queryRow (t : Fin cfg0.N) (r : Fin 1024) : Fin 2048 := ⟨1024 * (t.val % 2) + r.val, by omega⟩
def lanesOf (t : Fin cfg0.N) (x : Fin 128) : Fin 2048 := ⟨128 * (t.val / 2 % 16) + x.val, by omega⟩

theorem lt_points (t : Fin cfg0.N) : t.val < 128 := lt_of_lt_of_eq t.isLt N_0

section
variable (m c)

theorem iblk0_at (t : Fin cfg0.N) (r : Fin 1024) (x : Fin 128) : iblk m c 0 t (ix2 r x) = arg0 m c (ix3 (seqOf (t.val / 2)) (queryRow t r) (lanesOf t x)) := by
  have ht := lt_points t
  rw [← wide_q]
  have e : V m c main_v2 (ix2 (⟨(t.val / 32 * 2 + t.val % 2) * 1024 + r.val, by omega⟩ : Fin 8192) (⟨128 * (t.val / 2 % 16) + x.val, by omega⟩ : Fin 6144)) = wide m c (ix3 (seqOf (t.val / 2)) (queryRow t r) ⟨(lanesOf t x).val, by omega⟩) := by
    rw [V_main_v2]
    refine congrArg (wide m c) (congrArg₂ (fun a b => ix3 a b _) (Fin.ext ?_) (Fin.ext ?_))
    · show ((t.val / 32 * 2 + t.val % 2) * 1024 + r.val) / 2048 = t.val / 2 / 16 % 4; omega
    · show ((t.val / 32 * 2 + t.val % 2) * 1024 + r.val) % 2048 = 1024 * (t.val % 2) + r.val; omega
  rw [← e]
  blk_simp [iblk]
  refine congrArg (V m c main_v2) ?_
  blk_ext [idx0]

theorem iblk1_at (t : Fin cfg0.N) (j : Fin 2048) (x : Fin 128) : iblk m c 1 t (ix2 j x) = arg1 m c (ix3 (seqOf (t.val / 2)) j (lanesOf t x)) := by
  have ht := lt_points t
  rw [← wide_k]
  have e : V m c main_v2 (ix2 (⟨t.val / 32 * 2048 + j.val, by omega⟩ : Fin 8192) (⟨128 * (16 + t.val / 2 % 16) + x.val, by omega⟩ : Fin 6144)) = wide m c (ix3 (seqOf (t.val / 2)) j ⟨2048 + (lanesOf t x).val, by have := (lanesOf t x).isLt; omega⟩) := by
    rw [V_main_v2]
    refine congrArg (wide m c) (congr (congrArg₂ (fun a b => ix3 a b) (Fin.ext ?_) (Fin.ext ?_)) (Fin.ext ?_))
    · show (t.val / 32 * 2048 + j.val) / 2048 = t.val / 2 / 16 % 4; omega
    · show (t.val / 32 * 2048 + j.val) % 2048 = j.val; omega
    · show 128 * (16 + t.val / 2 % 16) + x.val = 2048 + (128 * (t.val / 2 % 16) + x.val); omega
  rw [← e]
  blk_simp [iblk]
  refine congrArg (V m c main_v2) ?_
  blk_ext [idx1]

theorem iblk2_at (t : Fin cfg0.N) (j : Fin 2048) (x : Fin 128) : iblk m c 2 t (ix2 j x) = arg2 m c (ix3 (seqOf (t.val / 2)) j (lanesOf t x)) := by
  have ht := lt_points t
  rw [← wide_v]
  have e : V m c main_v2 (ix2 (⟨t.val / 32 * 2048 + j.val, by omega⟩ : Fin 8192) (⟨128 * (32 + t.val / 2 % 16) + x.val, by omega⟩ : Fin 6144)) = wide m c (ix3 (seqOf (t.val / 2)) j ⟨4096 + (lanesOf t x).val, by have := (lanesOf t x).isLt; omega⟩) := by
    rw [V_main_v2]
    refine congrArg (wide m c) (congr (congrArg₂ (fun a b => ix3 a b) (Fin.ext ?_) (Fin.ext ?_)) (Fin.ext ?_))
    · show (t.val / 32 * 2048 + j.val) / 2048 = t.val / 2 / 16 % 4; omega
    · show (t.val / 32 * 2048 + j.val) % 2048 = j.val; omega
    · show 128 * (32 + t.val / 2 % 16) + x.val = 4096 + (128 * (t.val / 2 % 16) + x.val); omega
  rw [← e]
  blk_simp [iblk]
  refine congrArg (V m c main_v2) ?_
  blk_ext [idx2]

theorem iblk3_at (t : Fin cfg0.N) (e : Fin 2) (J : Fin 8) (i : Fin 256) : iblk m c 3 t (ix4 0 e J i)
    = arg3 m c (ix3 (seqOf (t.val / 2)) ⟨2 * (pairOf (t.val / 2)).val + e.val, by have := (pairOf (t.val / 2)).isLt; omega⟩ (⟨256 * J.val + i.val, by omega⟩ : Fin 2048)) := by
  have ht := lt_points t
  rw [← V48_at]
  blk_simp [iblk]
  refine congrArg (V m c main_v48) ?_
  blk_ext [idx3, seqOf, pairOf]

/-- The row and the position of a block's row. -/
theorem seq_block (t : Fin cfg0.N) (r : Fin 1024) (h : (t.val / 32 * 2 + t.val % 2) * 1024 + r.val < 8192) : seq ⟨(t.val / 32 * 2 + t.val % 2) * 1024 + r.val, h⟩ = seqOf (t.val / 2) :=
  Fin.ext (by show ((t.val / 32 * 2 + t.val % 2) * 1024 + r.val) / 2048 = t.val / 2 / 16 % 4; omega)

theorem pos_block (t : Fin cfg0.N) (r : Fin 1024) (h : (t.val / 32 * 2 + t.val % 2) * 1024 + r.val < 8192) : pos ⟨(t.val / 32 * 2 + t.val % 2) * 1024 + r.val, h⟩ = queryRow t r :=
  Fin.ext (by show ((t.val / 32 * 2 + t.val % 2) * 1024 + r.val) % 2048 = 1024 * (t.val % 2) + r.val; omega)

/-- A block of the fifth operand, whatever the operand holds. -/
theorem read4 (X : Vec Ideal S8192x2048 .f32) (t : Fin cfg0.N) (r : Fin 1024) (x : Fin 128) : ((cfg0.win 4).blk t).view.read (Elt Ideal) X (ix2 r x)
    = X (ix2 (⟨(t.val / 32 * 2 + t.val % 2) * 1024 + r.val, by have := lt_points t; omega⟩ : Fin 8192) (lanesOf t x)) := by
  have ht := lt_points t
  blk_simp
  refine congrArg X ?_
  blk_ext [idx4, lanesOf]

theorem iblk4_at (t : Fin cfg0.N) (r : Fin 1024) (x : Fin 128) : iblk m c 4 t (ix2 r x)
    = V m c main_v35 (ix2 (⟨(t.val / 32 * 2 + t.val % 2) * 1024 + r.val, by have := lt_points t; omega⟩ : Fin 8192) (lanesOf t x)) :=
  read4 (V m c main_v35) t r x

theorem iblk5_at (t : Fin cfg0.N) (r : Fin 1024) (x : Fin 128) : iblk m c 5 t (ix2 r x) = arg4 m c (ix3 (seqOf (t.val / 2)) (queryRow t r) (lanesOf t x)) := by
  have ht := lt_points t
  have e : V m c main_v50 (ix2 (⟨(t.val / 32 * 2 + t.val % 2) * 1024 + r.val, by omega⟩ : Fin 8192) (lanesOf t x)) = arg4 m c (ix3 (seqOf (t.val / 2)) (queryRow t r) (lanesOf t x)) := by
    rw [V_main_v50]
    refine congrArg (arg4 m c) (congrArg₂ (fun a b => ix3 a b _) (Fin.ext ?_) (Fin.ext ?_))
    · show ((t.val / 32 * 2 + t.val % 2) * 1024 + r.val) / 2048 = t.val / 2 / 16 % 4; omega
    · show ((t.val / 32 * 2 + t.val % 2) * 1024 + r.val) % 2048 = 1024 * (t.val % 2) + r.val; omega
  rw [← e]
  blk_simp [iblk]
  refine congrArg (V m c main_v50) ?_
  blk_ext [idx5, lanesOf]

theorem iblk6_at (t : Fin cfg0.N) (r : Fin 1024) (e : Fin 3) : iblk m c 6 t (ix4 0 0 r e) = V m c main_v47 (ix4 (seqOf (t.val / 2)) (pairOf (t.val / 2)) (queryRow t r) e) := by
  have ht := lt_points t
  blk_simp [iblk]
  refine congrArg (V m c main_v47) ?_
  blk_ext [idx6, seqOf, pairOf, queryRow]
end

/-- The two heads of a run of two points. -/
def headAt (Q K V' D : (⟨3, ![4, 2048, 2048]⟩ : Shape).Idx → ℝ) (C : (⟨3, ![4, 32, 2048]⟩ : Shape).Idx → ℝ) (e : Fin 2) (p : ℕ) : Att :=
  headOf Q K V' D C (seqOf p) ⟨2 * (pairOf p).val + e.val, by have := (pairOf p).isLt; omega⟩

/-- Their lanes. -/
theorem lanes_eq (t : Fin cfg0.N) (e : Fin 2) (x : Fin 64) (y : Fin 128) (hy : y.val = 64 * e.val + x.val) :
    lanesOf t y = laneOf ⟨2 * (pairOf (t.val / 2)).val + e.val, by have := (pairOf (t.val / 2)).isLt; omega⟩ x :=
  Fin.ext (by show 128 * (t.val / 2 % 16) + y.val = (2 * (t.val / 2 % 16) + e.val) * 64 + x.val; omega)

include R in
theorem head_seen (t : Fin cfg0.N) (e : Fin 2) (lane : Fin 64 → Fin 128) (hl : ∀ x, (lane x).val = 64 * e.val + x.val) :
    Seen (headAt Q K V' D C e (t.val / 2)) lane e ⟨e.val, by omega⟩ (t.val % 2) (iblk m c 0 t) (iblk m c 1 t) (iblk m c 2 t) (iblk m c 3 t) (iblk m c 4 t) (iblk m c 5 t) (iblk m c 6 t) := by
  have hd : ∀ (r : Fin 1024) (x : Fin 64), iblk m c 5 t (ix2 r (lane x)) = (((headAt Q K V' D C e (t.val / 2)).d (1024 * (t.val % 2) + r.val) x : ℝ) : EReal) := fun r x => by
    rw [iblk5_at, R.d, lanes_eq t e x _ (hl x)]
    show _ = ((D (ix3 _ (place (queryRow t r).val) _) : ℝ) : EReal)
    rw [place_val]
  refine ⟨fun r x => ?_, hd, fun j x => ?_, fun j x => ?_, fun J i => ?_, fun r => ?_, fun r => ?_⟩
  · rw [iblk0_at, R.q, ← EReal.coe_mul, lanes_eq t e x _ (hl x)]
    show _ = ((Q (ix3 _ (place (queryRow t r).val) _) * (1 / 8) : ℝ) : EReal)
    rw [place_val]
  · rw [iblk1_at, R.k, lanes_eq t e x _ (hl x)]
    show _ = ((K (ix3 _ (place j.val) _) : ℝ) : EReal)
    rw [place_val]
  · rw [iblk2_at, R.v, lanes_eq t e x _ (hl x)]
    show _ = ((V' (ix3 _ (place j.val) _) : ℝ) : EReal)
    rw [place_val]
  · rw [iblk3_at, R.c]
    show _ = ((C (ix3 _ _ (place (⟨256 * J.val + i.val, by omega⟩ : Fin 2048).val)) : ℝ) : EReal)
    rw [place_val]
  · refine (coe_rows _ _ _ (fun y => ∑ j ∈ range 2048, (headAt Q K V' D C e (t.val / 2)).p (queryRow t r).val j * (headAt Q K V' D C e (t.val / 2)).v j y) (fun y => hd r y) fun y => ?_).trans (congrArg Real.toEReal (attOf_e_lanes _ _ _ _ _ _).symm)
    rw [iblk4_at, V35_at, seq_block, pos_block]
    have hy := hl y
    have e1 : (⟨(lanesOf t (lane y)).val / 64, by have := (lanesOf t (lane y)).isLt; omega⟩ : Fin 32) = ⟨2 * (pairOf (t.val / 2)).val + e.val, by have := (pairOf (t.val / 2)).isLt; omega⟩ :=
      Fin.ext (by show (128 * (t.val / 2 % 16) + (lane y).val) / 64 = 2 * (t.val / 2 % 16) + e.val; rw [hy]; omega)
    have e2 : (⟨(lanesOf t (lane y)).val % 64, by omega⟩ : Fin 64) = y :=
      Fin.ext (by show (128 * (t.val / 2 % 16) + (lane y).val) % 64 = y.val; rw [hy]; omega)
    rw [e1, e2]
    exact outs_at R _ _ _ y
  · exact (iblk6_at m c t r _).trans (V47_log R _ _ _ e)

include R in
theorem sees : Sees m c (headAt Q K V' D C 0) (headAt Q K V' D C 1) where
  head0 t := head_seen R t 0 lane0 fun x => by show _ = 64 * 0 + x.val; simp [lane0]
  head1 t := head_seen R t 1 lane1 fun x => by show _ = 64 * 1 + x.val; simp [lane1]
  count t r := by
    rw [iblk6_at, V47_count]
    have e : (queryRow t r).val / 1024 = t.val % 2 := by have := r.isLt; show (1024 * (t.val % 2) + r.val) / 1024 = _; omega
    rw [e]

end Cert.Fox
-- ==== Proof.FoxOut.lean ====
/- Hand-written, untrusted: the arrays that the forgetting attention's gradient writes. -/
module

public import proofs.«01_k».proof.Proof.FoxSees
public import proofs.«01_k».proof.Proof.SbOut

@[expose] public section

set_option maxRecDepth 16384

noncomputable section

namespace Cert.Fox

open Idealize.ShloMosaic Cert.Finite Cert.Rows Idealize.ShloMosaic.TcCoe Cert.Kernel7Ideal Cert.Kernel7Ideal.Gen Finset
open VecWindow (window put)
open Cert.Sb (flat flat_at put_rows in_slab)

section
variable (s : Vec Ideal S8x128x256 .f32)

/-- One key block, turned. -/
theorem turned (x : Vec Ideal S1x128x256 .f32) (c : Fin 256) (y : Fin 128) : k0_pay86 (F := Ideal) x (ix2 c y) = x (ix3 0 y c) := by
  unfold k0_pay86
  pointwise

theorem slab (J : Fin 8) (inb : ∀ a, (![J.val, 0, 0] : Fin 3 → ℕ) a + S1x128x256.size a ≤ S8x128x256.size a) (c : Fin 256) (y : Fin 128) :
    k0_pay86 (F := Ideal) (window s ![J.val, 0, 0] S1x128x256.size inb) (ix2 c y) = s (ix3 J y c) := by
  rw [turned]
  refine congrArg s (funext fun e => Fin.ext ?_)
  match e with
  | 0 => show J.val + 1 * 0 = J.val; omega
  | 1 => show 0 + 1 * y.val = y.val; omega
  | 2 => show 0 + 1 * c.val = c.val; omega

theorem dkOut_at (x : Vec Ideal S2048x128 .bf16) (j : Fin 2048) (y : Fin 128) :
    dkOut s x (ix2 j y) = s (ix3 ⟨j.val / 256, by omega⟩ y ⟨j.val % 256, by omega⟩) := by
  have hj := j.isLt
  unfold dkOut
  rw [put_rows, put_rows, put_rows, put_rows, put_rows, put_rows, put_rows, put_rows]
  split_ifs with h7 h6 h5 h4 h3 h2 h1 h0
  · exact (slab s 7 _ _ y).trans (in_slab s j y 7 _ rfl h7)
  · exact (slab s 6 _ _ y).trans (in_slab s j y 6 _ rfl h6)
  · exact (slab s 5 _ _ y).trans (in_slab s j y 5 _ rfl h5)
  · exact (slab s 4 _ _ y).trans (in_slab s j y 4 _ rfl h4)
  · exact (slab s 3 _ _ y).trans (in_slab s j y 3 _ rfl h3)
  · exact (slab s 2 _ _ y).trans (in_slab s j y 2 _ rfl h2)
  · exact (slab s 1 _ _ y).trans (in_slab s j y 1 _ rfl h1)
  · exact (slab s 0 _ _ y).trans (in_slab s j y 0 _ rfl h0)
  · omega

/-- The two blocks of results are laid out alike. -/
theorem dvOut_eq (x : Vec Ideal S2048x128 .bf16) : dvOut s x = dkOut s x := rfl

end

theorem dq_first (s : St Ideal) (x : Vec Ideal S1024x128 .bf16) (r : Fin 1024) (y : Fin 64) :
    dq s x (ix2 r (lane0 y)) = (got0 s).dq r y * ((1 / 8 : ℝ) : EReal) := by
  have hy := y.isLt
  unfold dq put
  rw [dif_neg fun h' => by have := (h' 1).1; simp [lane0] at this; omega,
    dif_pos (by intro a; match a with | 0 => exact ⟨Nat.zero_le _, by show r.val < 0 + 1024; omega⟩ | 1 => exact ⟨Nat.zero_le _, by show y.val < 0 + 64; omega⟩)]
  rw [← eighth]
  exact congrArg (fun i => s.acc.1 i * Ideal.ofBits .f32 0x3E000000#32) (funext fun e => Fin.ext (by match e with | 0 => rfl | 1 => rfl))

theorem dq_second (s : St Ideal) (x : Vec Ideal S1024x128 .bf16) (r : Fin 1024) (y : Fin 64) :
    dq s x (ix2 r (lane1 y)) = (got1 s).dq r y * ((1 / 8 : ℝ) : EReal) := by
  have hy := y.isLt
  unfold dq put
  rw [dif_pos (by intro a; match a with | 0 => exact ⟨Nat.zero_le _, by show r.val < 0 + 1024; omega⟩ | 1 => exact ⟨by show 64 ≤ 64 + y.val; omega, by show 64 + y.val < 64 + 64; omega⟩)]
  rw [← eighth]
  exact congrArg (fun i => s.acc.2 i * Ideal.ofBits .f32 0x3E000000#32) (funext fun e => Fin.ext (by match e with | 0 => rfl | 1 => show 64 + y.val - 64 = y.val; omega))

/-- A lane belongs to the first head or to the second. -/
theorem lane_cases (b : Fin 128) : (∃ x, b = lane0 x) ∨ ∃ x, b = lane1 x := Cert.Sb.lane_cases b

section
variable (Q K V' D : (⟨3, ![4, 2048, 2048]⟩ : Shape).Idx → ℝ) (C : (⟨3, ![4, 32, 2048]⟩ : Shape).Idx → ℝ)

/-- The four gradients: of sequence `b`, head `h`, row `s`, lane `x` of the head. -/
def gradQ (b : Fin 4) (h : Fin 32) (s : Fin 2048) (x : Fin 64) : ℝ := (∑ j ∈ range 2048, (headOf Q K V' D C b h).ds s.val j * (headOf Q K V' D C b h).k j x) * (1 / 8)
def gradK (b : Fin 4) (h : Fin 32) (j : Fin 2048) (x : Fin 64) : ℝ := ∑ s ∈ range 2048, (headOf Q K V' D C b h).q s x * (headOf Q K V' D C b h).ds s j.val
def gradV (b : Fin 4) (h : Fin 32) (j : Fin 2048) (x : Fin 64) : ℝ := ∑ s ∈ range 2048, (headOf Q K V' D C b h).d s x * (headOf Q K V' D C b h).p s j.val
def gradC (b : Fin 4) (h : Fin 32) (J : Fin 8) (c : Fin 256) : ℝ := -∑ s ∈ range 2048, (headOf Q K V' D C b h).ds s (256 * J.val + c.val)

/-- The decays' gradient as an array. -/
def blocks : S4x32x8x256.Idx → EReal := fun i => (gradC Q K V' D C (i 0) (i 1) (i 2) (i 3) : ℝ)
end

section
variable (g : Fin 4 → Fin 32 → Fin 2048 → Fin 64 → ℝ) (t : Fin cfg0.N) (e : Fin 2) (y : Fin 128) (x : Fin 64) (hy : y.val = 64 * e.val + x.val)
include hy

/-- A point's query rows and key rows in the arrays. -/
theorem flat_queries (r : Fin 1024) (hn : (t.val / 32 * 2 + t.val % 2) * 1024 + r.val < 8192) : flat g (ix2 ⟨(t.val / 32 * 2 + t.val % 2) * 1024 + r.val, hn⟩ (lanesOf t y))
    = (g (seqOf (t.val / 2)) ⟨2 * (pairOf (t.val / 2)).val + e.val, by have := (pairOf (t.val / 2)).isLt; omega⟩ (queryRow t r) x : ℝ) := by
  have ht := lt_points t
  refine flat_at g _ _ _ _ _ x ?_ ?_
  · show (t.val / 32 * 2 + t.val % 2) * 1024 + r.val = t.val / 2 / 16 % 4 * 2048 + (1024 * (t.val % 2) + r.val); omega
  · show 128 * (t.val / 2 % 16) + y.val = (2 * (t.val / 2 % 16) + e.val) * 64 + x.val; omega

theorem flat_keys (j : Fin 2048) (hn : t.val / 32 * 2048 + j.val < 8192) : flat g (ix2 ⟨t.val / 32 * 2048 + j.val, hn⟩ (lanesOf t y))
    = (g (seqOf (t.val / 2)) ⟨2 * (pairOf (t.val / 2)).val + e.val, by have := (pairOf (t.val / 2)).isLt; omega⟩ j x : ℝ) := by
  have ht := lt_points t
  refine flat_at g _ _ _ _ _ x ?_ ?_
  · show t.val / 32 * 2048 + j.val = t.val / 2 / 16 % 4 * 2048 + j.val; omega
  · show 128 * (t.val / 2 % 16) + y.val = (2 * (t.val / 2 % 16) + e.val) * 64 + x.val; omega
end

/-- Blocks of a range. -/
theorem sum_blocks (f : ℕ → ℝ) (n k : ℕ) : ∑ m ∈ range k, ∑ r ∈ range n, f (n * m + r) = ∑ s ∈ range (n * k), f s := by
  induction k with
  | zero => rfl
  | succ k ih => rw [sum_range_succ, ih, Nat.mul_succ, sum_range_add]

/-- All eight key blocks, and both query blocks. -/
theorem more_all (A : Att) (s : ℕ) (x : Fin 64) : ∑ J ∈ range 8, more A J s x = ∑ j ∈ range 2048, A.ds s j * A.k j x :=
  sum_blocks (fun j => A.ds s j * A.k j x) 256 8

theorem gath_all (f : ℕ → Fin 64 → ℝ) (g : ℕ → ℕ → ℝ) (j : Fin 2048) (x : Fin 64) (n : ℕ) (hn : n = 1) :
    gath f g (n + 1) ⟨j.val / 256, by omega⟩ x ⟨j.val % 256, by omega⟩ = ∑ s ∈ range 2048, f s x * g s j.val := by
  subst hn
  refine (sum_blocks (fun s => f s x * g s (256 * (j.val / 256) + j.val % 256)) 1024 2).trans ?_
  rw [show 256 * (j.val / 256) + j.val % 256 = j.val by omega]

theorem lost_all (g : ℕ → ℕ → ℝ) (K : Fin 8) (c : Fin 256) (n : ℕ) (hn : n = 1) : lost g (n + 1) K c = -∑ s ∈ range 2048, g s (256 * K.val + c.val) := by
  subst hn
  exact congrArg Neg.neg (sum_blocks (fun s => g s (256 * K.val + c.val)) 1024 2)

variable {m : (ℓ : Loc nD τ sig) → Buf (Elt Ideal) ℓ} {c : Dev nD}
variable {Q K V' D : (⟨3, ![4, 2048, 2048]⟩ : Shape).Idx → ℝ} {C : (⟨3, ![4, 32, 2048]⟩ : Shape).Idx → ℝ}
variable (R : AreReal (arg0 m c) (arg1 m c) (arg2 m c) (arg3 m c) (arg4 m c) Q K V' C D)

include R

/-- The first result. -/
theorem result7 : (dats m 0 c).arrAt 7 cfg0.N = flat (gradQ Q K V' D C) := by
  refine (dats m 0 c).arrAt_eq_of_covers 7 _ (by decide +kernel) fun t hf y => ?_
  obtain ⟨a, b, rfl⟩ : ∃ (a : Fin 1024) (b : Fin 128), y = ix2 a b := ⟨y 0, y 1, (ix2_eta y).symm⟩
  have ht := lt_points t
  have eg : (((cfg0.win 7).blk t).view.emb (ix2 a b)) = ix2 (⟨(t.val / 32 * 2 + t.val % 2) * 1024 + a.val, by omega⟩ : Fin 8192) (lanesOf t b) := by
    blk_ext [idx7, lanesOf]
  obtain ⟨f0, f1⟩ := made_fin (sees R) t
  blk_simp
  rw [after_7, eg]
  rcases lane_cases b with ⟨x, rfl⟩ | ⟨x, rfl⟩
  · rw [dq_first, f0.dq, ← EReal.coe_mul, more_all]
    exact (flat_queries (gradQ Q K V' D C) t 0 (lane0 x) x (by show x.val = 64 * 0 + x.val; omega) a _).symm
  · rw [dq_second, f1.dq, ← EReal.coe_mul, more_all]
    exact (flat_queries (gradQ Q K V' D C) t 1 (lane1 x) x (by show 64 + x.val = 64 * 1 + x.val; omega) a _).symm

/-- The second result. -/
theorem result8 : (dats m 0 c).arrAt 8 cfg0.N = flat (gradK Q K V' D C) := by
  refine (dats m 0 c).arrAt_eq_of_covers 8 _ (by decide +kernel) fun t hf y => ?_
  obtain ⟨a, b, rfl⟩ : ∃ (a : Fin 2048) (b : Fin 128), y = ix2 a b := ⟨y 0, y 1, (ix2_eta y).symm⟩
  have ht := lt_points t
  have h1 : t.val % 2 = 1 := by rw [flush0_8] at hf; simpa using hf
  have eg : (((cfg0.win 8).blk t).view.emb (ix2 a b)) = ix2 (⟨t.val / 32 * 2048 + a.val, by omega⟩ : Fin 8192) (lanesOf t b) := by
    blk_ext [idx8, lanesOf]
  obtain ⟨f0, f1⟩ := made_fin (sees R) t
  blk_simp
  rw [after_8, eg, dkOut_at]
  rcases lane_cases b with ⟨x, rfl⟩ | ⟨x, rfl⟩
  · exact ((f0.dk _ x _).trans (congrArg Real.toEReal (gath_all _ _ a x _ h1))).trans
      (flat_keys (gradK Q K V' D C) t 0 (lane0 x) x (by show x.val = 64 * 0 + x.val; omega) a _).symm
  · exact ((f1.dk _ x _).trans (congrArg Real.toEReal (gath_all _ _ a x _ h1))).trans
      (flat_keys (gradK Q K V' D C) t 1 (lane1 x) x (by show 64 + x.val = 64 * 1 + x.val; omega) a _).symm

/-- The third result. -/
theorem result9 : (dats m 0 c).arrAt 9 cfg0.N = flat (gradV Q K V' D C) := by
  refine (dats m 0 c).arrAt_eq_of_covers 9 _ (by decide +kernel) fun t hf y => ?_
  obtain ⟨a, b, rfl⟩ : ∃ (a : Fin 2048) (b : Fin 128), y = ix2 a b := ⟨y 0, y 1, (ix2_eta y).symm⟩
  have ht := lt_points t
  have h1 : t.val % 2 = 1 := by rw [flush0_9] at hf; simpa using hf
  have eg : (((cfg0.win 9).blk t).view.emb (ix2 a b)) = ix2 (⟨t.val / 32 * 2048 + a.val, by omega⟩ : Fin 8192) (lanesOf t b) := by
    blk_ext [idx9, lanesOf]
  obtain ⟨f0, f1⟩ := made_fin (sees R) t
  blk_simp
  rw [after_9, eg, dvOut_eq, dkOut_at]
  rcases lane_cases b with ⟨x, rfl⟩ | ⟨x, rfl⟩
  · exact ((f0.dv _ x _).trans (congrArg Real.toEReal (gath_all _ _ a x _ h1))).trans
      (flat_keys (gradV Q K V' D C) t 0 (lane0 x) x (by show x.val = 64 * 0 + x.val; omega) a _).symm
  · exact ((f1.dv _ x _).trans (congrArg Real.toEReal (gath_all _ _ a x _ h1))).trans
      (flat_keys (gradV Q K V' D C) t 1 (lane1 x) x (by show 64 + x.val = 64 * 1 + x.val; omega) a _).symm

/-- The fourth result. -/
theorem result10 : (dats m 0 c).arrAt 10 cfg0.N = blocks Q K V' D C := by
  refine (dats m 0 c).arrAt_eq_of_covers 10 _ (by decide +kernel) fun t hf y => ?_
  obtain ⟨u, e, J, i, rfl⟩ : ∃ (u : Fin 1) (e : Fin 2) (J : Fin 8) (i : Fin 256), y = ix4 u e J i := ⟨y 0, y 1, y 2, y 3, (ix4_eta y).symm⟩
  obtain rfl : u = 0 := Subsingleton.elim _ _
  have ht := lt_points t
  have h1 : t.val % 2 = 1 := by rw [flush0_10] at hf; simpa using hf
  have eg : (((cfg0.win 10).blk t).view.emb (ix4 0 e J i)) = ix4 (seqOf (t.val / 2)) (⟨2 * (pairOf (t.val / 2)).val + e.val, by have := (pairOf (t.val / 2)).isLt; omega⟩ : Fin 32) J i := by
    blk_ext [idx10, seqOf, pairOf]
  obtain ⟨f0, f1⟩ := made_fin (sees R) t
  blk_simp
  rw [after_10, eg]
  match e with
  | 0 => exact (f0.dc J i).trans (congrArg Real.toEReal (lost_all _ J i _ h1))
  | 1 => exact (f1.dc J i).trans (congrArg Real.toEReal (lost_all _ J i _ h1))

end Cert.Fox
-- ==== Proof.FoxProof.lean ====
/- Hand-written, untrusted: the claim about the value of the forgetting attention's gradient. -/
module

public import proofs.«01_k».proof.Proof.FoxFrames
public import proofs.«01_k».proof.Proof.FoxOut
public import proofs.«01_k».proof.Proof.Gen.Reference7Ideal.Run

@[expose] public section

set_option maxRecDepth 16384

noncomputable section

namespace Cert.Fox

open Idealize.ShloMosaic Idealize.ShloMosaic.TcCoe Cert.Kernel7Ideal Cert.Kernel7Ideal.Gen

instance factsPre : Cert.Pre_finite_fox.Facts where
  bcast_S_S4x2048x2048 := by decide
  reducesTo_S4x2048x2048_S_d0_1_2 := by decide
  bcast_S_S4x32x2048 := by decide
  reducesTo_S4x32x2048_S_d0_1_2 := by decide
  h_S_ := by decide

instance : Subsingleton Cert.Pre_finite_fox.S_.Idx := ⟨fun a b => funext fun i => i.elim0⟩

/-- What the precondition says: all arguments are real. -/
theorem real_args (m : (ℓ : Loc nD τ sig) → Buf (Elt Ideal) ℓ) (hp : Cert.Pre_Kernel7Ideal_finite_fox m) (c : Dev nD) :
    ∃ Q K V' C D, AreReal (arg0 m c) (arg1 m c) (arg2 m c) (arg3 m c) (arg4 m c) Q K V' C D := by
  have h := congrFun (hp c) (fun i => i.elim0)
  unfold Cert.Pre_finite_fox.fn Cert.Pre_finite_fox.fn_part1 at h
  dsimp only at h
  obtain ⟨h, h4⟩ := Cert.Finite.and_one h
  obtain ⟨h, h3⟩ := Cert.Finite.and_one h
  obtain ⟨h, h2⟩ := Cert.Finite.and_one h
  obtain ⟨h0, h1⟩ := Cert.Finite.and_one h
  have e0 : ∀ x, ∃ r : ℝ, arg0 m c x = r := fun x => Cert.Finite.real_of_cmp (Host.reduce_andi_all _ _ _ _ _ h0 x)
  have e1 : ∀ x, ∃ r : ℝ, arg1 m c x = r := fun x => Cert.Finite.real_of_cmp (Host.reduce_andi_all _ _ _ _ _ h1 x)
  have e2 : ∀ x, ∃ r : ℝ, arg2 m c x = r := fun x => Cert.Finite.real_of_cmp (Host.reduce_andi_all _ _ _ _ _ h2 x)
  have e3 : ∀ x, ∃ r : ℝ, arg3 m c x = r := fun x => Cert.Finite.real_of_cmp (Host.reduce_andi_all _ _ _ _ _ h3 x)
  have e4 : ∀ x, ∃ r : ℝ, arg4 m c x = r := fun x => Cert.Finite.real_of_cmp (Host.reduce_andi_all _ _ _ _ _ h4 x)
  choose Q hQ using e0
  choose K hK using e1
  choose V' hV using e2
  choose C hC using e3
  choose D hD using e4
  exact ⟨Q, K, V', C, D, hQ, hK, hV, hC, hD⟩

/-- What the kernel leaves in memory. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51_0) = (dats m 0 c).arrAt 7 cfg0.N
      ∧ r.2.mem ((c.tc : Thread nD τ).loc main_v51_1) = (dats m 0 c).arrAt 8 cfg0.N
      ∧ r.2.mem ((c.tc : Thread nD τ).loc main_v51_2) = (dats m 0 c).arrAt 9 cfg0.N
      ∧ r.2.mem ((c.tc : Thread nD τ).loc main_v51_3) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1.1 c).1 7, (h.1.1 c).1 8, (h.1.1 c).1 9, (h.1.1 c).1 10, h.2.1 c⟩) (θ_run_and (run_quiescent m ρ) (frame m ρ))

set_option maxHeartbeats 2000000 in
/-- Kernel and reference compute the same arrays. -/
theorem equal : Cert.algebraic_Kernel7Ideal_Reference7Ideal_pre_finite_fox := by
  intro m g m' g' hp hargs
  refine ⟨fun c => (dats m 0 c).arrAt 7 cfg0.N, fun c => (dats m 0 c).arrAt 8 cfg0.N, fun c => (dats m 0 c).arrAt 9 cfg0.N, fun c => (dats m 0 c).arrAt 10 cfg0.N,
    run_blocks m g, (θ_run Cert.Reference7Ideal.defs _ _).mono (fun r h c => ?_) (Cert.Reference7Ideal.Value.run (F := Ideal) m' g')⟩
  obtain ⟨a0, a1, a2, a3, a4⟩ := hargs c
  obtain ⟨Q, K, V', C, D, R⟩ := real_args m hp c
  refine ⟨(h c).1.trans ?_, (h c).2.1.trans ?_, (h c).2.2.1.trans ?_, (h c).2.2.2.1.trans ?_, (h c).2.2.2.2⟩
  · rw [Cert.Reference7Ideal.Read.val_main_v91_eq, a0, a1, a2, a3, a4]
    refine Eq.trans ?_ (result7 R).symm
    funext x
    obtain ⟨n, j, rfl⟩ : ∃ (n : Fin 8192) (j : Fin 2048), x = ix2 n j := ⟨x 0, x 1, (ix2_eta x).symm⟩
    exact v91_at R n j
  · rw [Cert.Reference7Ideal.Read.val_main_v93_eq, a0, a1, a2, a3, a4]
    refine Eq.trans ?_ (result8 R).symm
    funext x
    obtain ⟨n, j, rfl⟩ : ∃ (n : Fin 8192) (j : Fin 2048), x = ix2 n j := ⟨x 0, x 1, (ix2_eta x).symm⟩
    exact v93_at R n j
  · rw [Cert.Reference7Ideal.Read.val_main_v95_eq, a0, a1, a3, a4]
    refine Eq.trans ?_ (result9 R).symm
    funext x
    obtain ⟨n, j, rfl⟩ : ∃ (n : Fin 8192) (j : Fin 2048), x = ix2 n j := ⟨x 0, x 1, (ix2_eta x).symm⟩
    exact v95_at R n j
  · rw [Cert.Reference7Ideal.Read.val_main_v96_eq, a0, a1, a2, a3, a4]
    refine Eq.trans ?_ (result10 R).symm
    funext x
    obtain ⟨b, k, J, i, rfl⟩ : ∃ (b : Fin 4) (k : Fin 32) (J : Fin 8) (i : Fin 256), x = ix4 b k J i := ⟨x 0, x 1, x 2, x 3, (ix4_eta x).symm⟩
    exact v96_at R b k J i

end Cert.Fox
end
-- ==== Proof.NormFoxReference.lean ====
/- Hand-written, untrusted: what the reference of the forgetting layer's norm's gradient computes. As in NormReference.lean, with a
   fifth gradient: that of the forget gate's logits, which enters a row against the matrix's last 32 columns. -/
module

public import proofs.«01_k».proof.Proof.Gen.Reference8Ideal.Read
public import proofs.«01_k».proof.Proof.NormReference

@[expose] public section

set_option maxRecDepth 16384

noncomputable section

namespace Cert.NormFox

open Idealize.ShloMosaic Cert.Finite Cert.Rms Cert.Norm

/-- The matrix's first 8192 columns, and its last 32. -/
def lo (n : Fin 8192) : Fin 8224 := ⟨n.val, by omega⟩
def hi (k : Fin 32) : Fin 8224 := ⟨8192 + k.val, by omega⟩

/-- A sum over all columns. -/
theorem sum_columns (f : Fin 8224 → EReal) : ∑ m, f m = (∑ k, f (lo k)) + ∑ k, f (hi k) :=
  Fin.sum_univ_add (a := 8192) (b := 32) f

/-- The gradient `dh`: the four products, and that with the last columns. -/
def dh5 (p q r s : Fin 2048 → EReal) (e : Fin 32 → EReal) (w : Fin 1024 → Fin 8224 → EReal) (j : Fin 1024) : EReal :=
  dh p q r s (fun j n => w j (lo n)) j + ∑ k, e k * w j (hi k)

/-- A padded array holds the operand in its own columns and the padding elsewhere. -/
theorem pad_in {w : Nat} (l : Nat) (up : Fin 3 → Nat) (x : (⟨3, ![4, 2048, w]⟩ : Shape).Idx → EReal)
    {u : Shape} (v : u.Idx → EReal) (h : (⟨3, ![4, 2048, w]⟩ : Shape).Pads ![0, 0, l] up ![0, 0, 0] ⟨3, ![4, 2048, 8224]⟩) (hu : 0 < u.numel)
    (i : Fin 4) (s : Fin 2048) (m : Fin 8224) (k : Fin w) (hm : m.val = l + k.val) :
    pad ⟨3, ![4, 2048, 8224]⟩ ![0, 0, l] up ![0, 0, 0] x v h hu (ix3 i s m) = x (ix3 i s k) := by
  have hk := k.isLt
  unfold pad
  split_ifs with h1
  · refine congrArg x (funext fun a => ?_)
    match a with
    | ⟨0, _⟩ => exact Fin.ext (by simp [ix3])
    | ⟨1, _⟩ => exact Fin.ext (by simp [ix3])
    | ⟨2, _⟩ => exact Fin.ext (by simp [ix3, hm])
  · refine absurd (fun a => ?_) h1
    match a with
    | ⟨0, _⟩ => simp [ix3, Nat.mod_one]
    | ⟨1, _⟩ => simp [ix3, Nat.mod_one]
    | ⟨2, _⟩ => simp [ix3, Nat.mod_one, hm]

theorem pad_out {w : Nat} (l : Nat) (up : Fin 3 → Nat) (x : (⟨3, ![4, 2048, w]⟩ : Shape).Idx → EReal)
    {u : Shape} (v : u.Idx → EReal) (h : (⟨3, ![4, 2048, w]⟩ : Shape).Pads ![0, 0, l] up ![0, 0, 0] ⟨3, ![4, 2048, 8224]⟩) (hu : 0 < u.numel)
    (i : Fin 4) (s : Fin 2048) (m : Fin 8224) (hv : v (Shape.Idx.first hu) = 0) (hm : m.val < l ∨ l + w ≤ m.val) :
    pad ⟨3, ![4, 2048, 8224]⟩ ![0, 0, l] up ![0, 0, 0] x v h hu (ix3 i s m) = 0 := by
  unfold pad
  split_ifs with h1
  · exfalso
    have h3 : l ≤ m.val := (h1 2).1
    have h4 : (m.val - l) / (0 + 1) < w := (h1 2).2.2
    rw [Nat.zero_add, Nat.div_one] at h4
    omega
  · exact hv

/-- A layer's four gradients side by side: columns of the first 8192 stay where they are. -/
theorem pad_lo (q : Fin 4) (l : Nat) (hl : l = q.val * 2048) (up : Fin 3 → Nat) (x : (⟨3, ![4, 2048, 2048]⟩ : Shape).Idx → EReal)
    {u : Shape} (v : u.Idx → EReal) (h : (⟨3, ![4, 2048, 2048]⟩ : Shape).Pads ![0, 0, l] up ![0, 0, 0] ⟨3, ![4, 2048, 8224]⟩) (hu : 0 < u.numel)
    (hv : v (Shape.Idx.first hu) = 0) (i : Fin 4) (s : Fin 2048) (n : Fin 4) (k : Fin 2048) :
    pad ⟨3, ![4, 2048, 8224]⟩ ![0, 0, l] up ![0, 0, 0] x v h hu (ix3 i s (lo (at4 n k))) = if n = q then x (ix3 i s k) else 0 := by
  have hk := k.isLt
  subst hl
  split_ifs with h2
  · subst h2
    exact pad_in _ _ _ _ _ _ _ _ _ k rfl
  · refine pad_out _ _ _ _ _ _ _ _ _ hv ?_
    have h3 : n.val ≠ q.val := fun e => h2 (Fin.ext e)
    show n.val * 2048 + k.val < _ ∨ _ ≤ n.val * 2048 + k.val
    omega

open Cert.Reference8Ideal Cert.Reference8Ideal.Read

variable (x0 : S4x2048x1024.Idx → EReal) (x1 : S1024.Idx → EReal) (x3 : S4x1x1024.Idx → EReal) (x4 : S1024x8224.Idx → EReal)
  (x5 x6 x7 x8 : S4x2048x2048.Idx → EReal) (x9 : S4x32x2048.Idx → EReal) (x10 : S4x2048x1024.Idx → EReal)

/-- The decays' gradients at a time, and the matrix. -/
abbrev lane (x : (⟨3, ![4, 32, 2048]⟩ : Shape).Idx → EReal) (i : Fin 4) (s : Fin 2048) : Fin 32 → EReal := fun k => x (ix3 i k s)
abbrev mat (w : (⟨2, ![1024, 8224]⟩ : Shape).Idx → EReal) : Fin 1024 → Fin 8224 → EReal := fun j k => w (ix2 j k)

/-- The gradient `dh` at sequence `i`, time `s`. -/
abbrev dhAt (i : Fin 4) (s : Fin 2048) : Fin 1024 → EReal :=
  dh5 (wide x5 i s) (wide x6 i s) (wide x7 i s) (wide x8 i s) (lane x9 i s) (mat x4)

theorem mean_read (i : Fin 4) (s : Fin 2048) : val_main_v6 (F := Ideal) x0 (ix3 i s 0) = mean (row x0 i s) := Cert.Norm.mean_read x0 i s

theorem rstd_read (i : Fin 4) (s : Fin 2048) : val_main_v7 (F := Ideal) x0 (ix3 i s 0) = rstd (row x0 i s) := Cert.Norm.rstd_read x0 i s

theorem parts_lo (i : Fin 4) (s : Fin 2048) (n : Fin 4) (k : Fin 2048) :
    val_main_v38 (F := Ideal) x5 x6 x7 x8 x9 (ix3 i s (lo (at4 n k))) = (![wide x5 i s, wide x6 i s, wide x7 i s, wide x8 i s] n) k := by
  have hk := k.isLt
  have hn := n.isLt
  rw [val_main_v38_apply, val_main_v35_apply, val_main_v33_apply, val_main_v31_apply]
  unfold val_main_v29 val_main_v30 val_main_v32 val_main_v34 val_main_v37
  rw [show pad S4x2048x8224 ![0, 0, 6144] _ _ x8 (val_main_cst_4 (F := Ideal)) _ _ (ix3 i s (lo (at4 n k))) = _ from pad_lo 3 6144 (by decide) _ x8 _ _ _ Ideal.ofBits_zero_f32 i s n k,
    show pad S4x2048x8224 ![0, 0, 4096] _ _ x7 (val_main_cst_5 (F := Ideal)) _ _ (ix3 i s (lo (at4 n k))) = _ from pad_lo 2 4096 (by decide) _ x7 _ _ _ Ideal.ofBits_zero_f32 i s n k,
    show pad S4x2048x8224 ![0, 0, 2048] _ _ x6 (val_main_cst_6 (F := Ideal)) _ _ (ix3 i s (lo (at4 n k))) = _ from pad_lo 1 2048 (by decide) _ x6 _ _ _ Ideal.ofBits_zero_f32 i s n k,
    show pad S4x2048x8224 ![0, 0, 0] _ _ x5 (val_main_cst_7 (F := Ideal)) _ _ (ix3 i s (lo (at4 n k))) = _ from pad_lo 0 0 (by decide) _ x5 _ _ _ Ideal.ofBits_zero_f32 i s n k,
    show pad S4x2048x8224 ![0, 0, 8192] _ _ (val_main_v36 (F := Ideal) x9) (val_main_cst_8 (F := Ideal)) _ _ (ix3 i s (lo (at4 n k))) = _ from
      pad_out 8192 _ _ _ _ _ i s _ Ideal.ofBits_zero_f32 (Or.inl (by show n.val * 2048 + k.val < 8192; omega))]
  show ((if n = 3 then _ else 0) + (if n = 2 then _ else 0) + (if n = 1 then _ else 0) + (if n = 0 then _ else 0) + 0 : EReal) = _
  match n with
  | 0 => simp [wide]
  | 1 => simp [wide]
  | 2 => simp [wide]
  | 3 => simp [wide]

theorem parts_hi (i : Fin 4) (s : Fin 2048) (k : Fin 32) :
    val_main_v38 (F := Ideal) x5 x6 x7 x8 x9 (ix3 i s (hi k)) = lane x9 i s k := by
  have e36 : idx_main_v36 (ix3 i s k) = ix3 i k s := by funext a; match a with | ⟨0, _⟩ => rfl | ⟨1, _⟩ => rfl | ⟨2, _⟩ => rfl
  have out : ∀ l : Nat, l ≤ 6144 → (hi k).val < l ∨ l + 2048 ≤ (hi k).val := fun l hl => Or.inr (by show l + 2048 ≤ 8192 + k.val; omega)
  rw [val_main_v38_apply, val_main_v35_apply, val_main_v33_apply, val_main_v31_apply]
  unfold val_main_v29 val_main_v30 val_main_v32 val_main_v34 val_main_v37
  rw [show pad S4x2048x8224 ![0, 0, 6144] _ _ x8 (val_main_cst_4 (F := Ideal)) _ _ (ix3 i s (hi k)) = _ from pad_out 6144 _ x8 _ _ _ i s _ Ideal.ofBits_zero_f32 (out _ (by decide)),
    show pad S4x2048x8224 ![0, 0, 4096] _ _ x7 (val_main_cst_5 (F := Ideal)) _ _ (ix3 i s (hi k)) = _ from pad_out 4096 _ x7 _ _ _ i s _ Ideal.ofBits_zero_f32 (out _ (by decide)),
    show pad S4x2048x8224 ![0, 0, 2048] _ _ x6 (val_main_cst_6 (F := Ideal)) _ _ (ix3 i s (hi k)) = _ from pad_out 2048 _ x6 _ _ _ i s _ Ideal.ofBits_zero_f32 (out _ (by decide)),
    show pad S4x2048x8224 ![0, 0, 0] _ _ x5 (val_main_cst_7 (F := Ideal)) _ _ (ix3 i s (hi k)) = _ from pad_out 0 _ x5 _ _ _ i s _ Ideal.ofBits_zero_f32 (out _ (by decide)),
    show pad S4x2048x8224 ![0, 0, 8192] _ _ (val_main_v36 (F := Ideal) x9) (val_main_cst_8 (F := Ideal)) _ _ (ix3 i s (hi k)) = _ from pad_in 8192 _ _ _ _ _ i s _ k rfl,
    val_main_v36_apply, e36]
  show (0 + 0 + 0 + 0 + x9 (ix3 i k s) : EReal) = _
  simp [lane]

theorem dh_read (i : Fin 4) (s : Fin 2048) (j : Fin 1024) :
    val_main_v39 (F := Ideal) x4 x5 x6 x7 x8 x9 (ix3 i s j) = dhAt x4 x5 x6 x7 x8 x9 i s j := by
  have el : ∀ k, lidx_main_v39 (ix3 i s j) k = ix3 i s k := fun k => by
    funext a; match a with | ⟨0, _⟩ => rfl | ⟨1, _⟩ => rfl | ⟨2, _⟩ => rfl
  have er : ∀ k, ridx_main_v39 (ix3 i s j) k = ix2 j k := fun k => by
    funext a; match a with | ⟨0, _⟩ => rfl | ⟨1, _⟩ => rfl
  rw [val_main_v39_apply]
  simp only [el, er]
  rw [sum_columns, sum_parts]
  simp only [parts_lo, parts_hi]
  rfl

theorem scale_read (i : Fin 4) (s : Fin 2048) (j : Fin 1024) :
    val_main_v42 (F := Ideal) x3 (ix3 i s j) = 1 + per x3 i j := Cert.Norm.scale_read x3 i s j

theorem up_read (i : Fin 4) (s : Fin 2048) (j : Fin 1024) :
    val_main_v45 (F := Ideal) x1 x3 x4 x5 x6 x7 x8 x9 (ix3 i s j) = up (dhAt x4 x5 x6 x7 x8 x9 i s) (vec x1) (per x3 i) j := by
  have e : idx_main_v13 (idx_main_v44 (ix3 i s j)) = ix1 j := by funext a; match a with | ⟨0, _⟩ => rfl
  rw [val_main_v45_apply, val_main_v44_apply, val_main_v13_apply, e, val_main_v43_apply, dh_read, scale_read]
  show dhAt x4 x5 x6 x7 x8 x9 i s j * _ * _ = _
  rw [up, mul_comm (vec x1 j), mul_assoc]

theorem inner_read (i : Fin 4) (s : Fin 2048) :
    val_main_v55 (F := Ideal) x0 x1 x3 x4 x5 x6 x7 x8 x9 (ix2 i s) = inner (row x0 i s) (up (dhAt x4 x5 x6 x7 x8 x9 i s) (vec x1) (per x3 i)) := by
  have e55 : idx_main_v55 (ix2 i s) 0 = ix3 i s 0 := by funext a; match a with | ⟨0, _⟩ => rfl | ⟨1, _⟩ => rfl | ⟨2, _⟩ => rfl
  have e48 : idx_main_v48 (ix3 i s 0) = ix2 i s := by
    funext a; match a with | ⟨0, _⟩ => exact Fin.ext (by simp [ix3, ix2]; omega) | ⟨1, _⟩ => exact Fin.ext (by simp [ix3, ix2])
  have e47 : ∀ k, idx_main_v47 (ix2 i s) k = ix3 i s k := fun k => by
    funext a; match a with | ⟨0, _⟩ => rfl | ⟨1, _⟩ => rfl | ⟨2, _⟩ => rfl
  rw [val_main_v55_apply, Fin.sum_univ_one, e55, val_main_v54_apply, val_main_v52_apply, val_main_v48_apply, e48, val_main_v47_apply,
    val_main_v10_apply, val_main_v8_apply, rstd_read, mean_read]
  simp only [e47, val_main_v46_apply, up_read, val_main_v53_apply, val_main_v9_apply, val_main_cst_10_apply, val_main_cst_2_apply,
    val_main_cst_11_apply, val_main_cst_12_apply]
  show Ideal.ofBits .f32 0x00000000#32 + Ideal.div ((Ideal.ofBits .f32 0x00000000#32 + _) * _) _ = _
  rw [Ideal.ofBits_zero_f32, zero_add, zero_add]
  rfl

/-- The first result at sequence `i`, time `s` and feature `j`: the cotangent plus the gradient through the norm. -/
theorem first (i : Fin 4) (s : Fin 2048) (j : Fin 1024) : val_main_v60 (F := Ideal) x0 x1 x3 x4 x5 x6 x7 x8 x9 x10 (ix3 i s j)
    = row x10 i s j + back (row x0 i s) (up (dhAt x4 x5 x6 x7 x8 x9 i s) (vec x1) (per x3 i)) j := by
  have e49 : idx_main_v49 (ix3 i s j) = ix3 i s 0 := by funext a; match a with | ⟨0, _⟩ => rfl | ⟨1, _⟩ => rfl | ⟨2, _⟩ => rfl
  have e56 : idx_main_v56 (ix3 i s j) = ix2 i s := by funext a; match a with | ⟨0, _⟩ => rfl | ⟨1, _⟩ => rfl
  rw [val_main_v60_apply, val_main_v58_apply, val_main_v59_apply, val_main_v57_apply, val_main_v56_apply, e56, inner_read, val_main_v51_apply,
    val_main_v50_apply, val_main_v49_apply, e49, rstd_read, up_read, ← back_eq, ← add_assoc, ← add_assoc]
  rfl

theorem norm_read (i : Fin 4) (s : Fin 2048) (j : Fin 1024) : val_main_v81 (F := Ideal) x0 (ix3 i s j) = row x0 i s j * rstd (row x0 i s) :=
  Cert.Norm.norm_read x0 i s j

/-- The second time the reference puts the gradients side by side, it is by concatenation. -/
theorem concat_lo (i : Fin 4) (s : Fin 2048) (n : Fin 4) (k : Fin 2048) :
    val_main_v62 (F := Ideal) x5 x6 x7 x8 x9 (ix3 i s (lo (at4 n k))) = (![wide x5 i s, wide x6 i s, wide x7 i s, wide x8 i s] n) k := by
  unfold val_main_v62
  match n with
  | 0 => exact concatenate_apply_piece (t := S4x2048x8224) 2 _ _ _ 0 (by simp) S4x2048x2048 x5 rfl rfl 0 rfl (ix3 i s k)
          (fun b hb => by match b with | ⟨0, _⟩ => rfl | ⟨1, _⟩ => rfl | ⟨2, _⟩ => exact absurd rfl hb) (by show 0 + k.val = 0 * 2048 + k.val; omega)
  | 1 => exact concatenate_apply_piece (t := S4x2048x8224) 2 _ _ _ 1 (by simp) S4x2048x2048 x6 rfl rfl 2048 rfl (ix3 i s k)
          (fun b hb => by match b with | ⟨0, _⟩ => rfl | ⟨1, _⟩ => rfl | ⟨2, _⟩ => exact absurd rfl hb) (by show 2048 + k.val = 1 * 2048 + k.val; omega)
  | 2 => exact concatenate_apply_piece (t := S4x2048x8224) 2 _ _ _ 2 (by simp) S4x2048x2048 x7 rfl rfl 4096 rfl (ix3 i s k)
          (fun b hb => by match b with | ⟨0, _⟩ => rfl | ⟨1, _⟩ => rfl | ⟨2, _⟩ => exact absurd rfl hb) (by show 4096 + k.val = 2 * 2048 + k.val; omega)
  | 3 => exact concatenate_apply_piece (t := S4x2048x8224) 2 _ _ _ 3 (by simp) S4x2048x2048 x8 rfl rfl 6144 rfl (ix3 i s k)
          (fun b hb => by match b with | ⟨0, _⟩ => rfl | ⟨1, _⟩ => rfl | ⟨2, _⟩ => exact absurd rfl hb) (by show 6144 + k.val = 3 * 2048 + k.val; omega)

theorem concat_hi (i : Fin 4) (s : Fin 2048) (k : Fin 32) :
    val_main_v62 (F := Ideal) x5 x6 x7 x8 x9 (ix3 i s (hi k)) = lane x9 i s k := by
  have e61 : idx_main_v61 (ix3 i s k) = ix3 i k s := by funext a; match a with | ⟨0, _⟩ => rfl | ⟨1, _⟩ => rfl | ⟨2, _⟩ => rfl
  unfold val_main_v62
  refine (concatenate_apply_piece (t := S4x2048x8224) 2 _ _ _ 4 (by simp) S4x2048x32 (val_main_v61 (F := Ideal) x9) rfl rfl 8192 rfl (ix3 i s k)
    (fun b hb => by match b with | ⟨0, _⟩ => rfl | ⟨1, _⟩ => rfl | ⟨2, _⟩ => exact absurd rfl hb) rfl).trans ?_
  rw [val_main_v61_apply, e61]

theorem dh_read' (i : Fin 4) (s : Fin 2048) (j : Fin 1024) :
    val_main_v87 (F := Ideal) x4 x5 x6 x7 x8 x9 (ix3 i s j) = dhAt x4 x5 x6 x7 x8 x9 i s j := by
  have el : ∀ k, lidx_main_v87 (ix3 i s j) k = ix3 i s k := fun k => by
    funext a; match a with | ⟨0, _⟩ => rfl | ⟨1, _⟩ => rfl | ⟨2, _⟩ => rfl
  have er : ∀ k, ridx_main_v87 (ix3 i s j) k = ix2 j k := fun k => by
    funext a; match a with | ⟨0, _⟩ => rfl | ⟨1, _⟩ => rfl
  rw [val_main_v87_apply]
  simp only [el, er]
  rw [sum_columns, sum_parts]
  simp only [concat_lo, concat_hi]
  rfl

/-- The second result: the gradient times the normalised row, summed over time. -/
theorem second (i : Fin 4) (j : Fin 1024) : val_main_v90 (F := Ideal) x0 x4 x5 x6 x7 x8 x9 (ix3 i 0 j)
    = ∑ s : Fin 2048, dhAt x4 x5 x6 x7 x8 x9 i s j * (row x0 i s j * rstd (row x0 i s)) := by
  have e90 : idx_main_v90 (ix3 i 0 j) = ix2 i j := by
    have := i.isLt; have := j.isLt
    funext a; match a with | ⟨0, _⟩ => exact Fin.ext (by simp [ix3, ix2]; omega) | ⟨1, _⟩ => exact Fin.ext (by simp [ix3, ix2])
  have e89 : ∀ k, idx_main_v89 (ix2 i j) k = ix3 i k j := fun k => by
    funext a; match a with | ⟨0, _⟩ => rfl | ⟨1, _⟩ => rfl | ⟨2, _⟩ => rfl
  rw [val_main_v90_apply, e90, val_main_v89_apply, val_main_cst_18_apply]
  simp only [e89, val_main_v88_apply, norm_read, dh_read']
  show Ideal.ofBits .f32 0x00000000#32 + _ = _
  rw [Ideal.ofBits_zero_f32, zero_add]
  exact Finset.sum_congr rfl fun s _ => mul_comm _ _

/-- The third result: the gradient summed over time. -/
theorem third (i : Fin 4) (j : Fin 1024) : val_main_v41 (F := Ideal) x4 x5 x6 x7 x8 x9 (ix3 i 0 j)
    = ∑ s : Fin 2048, dhAt x4 x5 x6 x7 x8 x9 i s j := by
  have e41 : idx_main_v41 (ix3 i 0 j) = ix2 i j := by
    have := i.isLt; have := j.isLt
    funext a; match a with | ⟨0, _⟩ => exact Fin.ext (by simp [ix3, ix2]; omega) | ⟨1, _⟩ => exact Fin.ext (by simp [ix3, ix2])
  have e40 : ∀ k, idx_main_v40 (ix2 i j) k = ix3 i k j := fun k => by
    funext a; match a with | ⟨0, _⟩ => rfl | ⟨1, _⟩ => rfl | ⟨2, _⟩ => rfl
  rw [val_main_v41_apply, e41, val_main_v40_apply, val_main_cst_9_apply]
  simp only [e40, dh_read]
  show Ideal.ofBits .f32 0x00000000#32 + _ = _
  rw [Ideal.ofBits_zero_f32, zero_add]

end Cert.NormFox
end
-- ==== Proof.NormFoxKernel.lean ====
/- Hand-written, untrusted: what the kernel of the forgetting layer's norm's gradient computes: as in NormKernel.lean, with a fifth
   product, whose 32 columns are padded by zeros to 128. -/
module

public import proofs.«01_k».proof.Proof.Gen.Kernel8Ideal.Value
public import proofs.«01_k».proof.Proof.NormFoxReference
public import proofs.«01_k».proof.Proof.NormKernel

@[expose] public section

set_option maxRecDepth 16384

noncomputable section

namespace Cert.NormFox

open Idealize.ShloMosaic Cert.Finite Cert.Rms Cert.Rows Cert.Norm Idealize.ShloMosaic.TcCoe Cert.Kernel8Ideal Cert.Kernel8Ideal.Gen

/-- The 32 columns among the 128. -/
def padded (f : Fin 32 → EReal) (k : Fin 128) : EReal := if h : k.val < 32 then f ⟨k.val, h⟩ else 0

/-- A sum over the padded columns. -/
theorem sum_padded (f g : Fin 32 → EReal) : ∑ k : Fin 128, padded f k * padded g k = ∑ k : Fin 32, f k * g k := by
  refine (Fin.sum_univ_add (a := 32) (b := 96) fun k : Fin 128 => padded f k * padded g k).trans ?_
  have e1 : ∀ k : Fin 32, padded f (Fin.castAdd 96 k : Fin (32 + 96)) * padded g (Fin.castAdd 96 k : Fin (32 + 96)) = f k * g k := fun k => by
    simp [padded]
  have e2 : ∀ k : Fin 96, padded f (Fin.natAdd 32 k : Fin (32 + 96)) * padded g (Fin.natAdd 32 k : Fin (32 + 96)) = 0 := fun k => by
    simp [padded]
  rw [Finset.sum_congr rfl fun k _ => e1 k, Finset.sum_congr rfl fun k _ => e2 k, Finset.sum_const_zero, add_zero]

/-- A matrix of 32 columns padded to 128, read at an index. -/
theorem pad_columns {n : Nat} (x : (⟨2, ![n, 32]⟩ : Shape).Idx → EReal) {u : Shape} (v : u.Idx → EReal)
    (h : (⟨2, ![n, 32]⟩ : Shape).Pads ![0, 0] ![0, 96] ![0, 0] ⟨2, ![n, 128]⟩) (hu : 0 < u.numel) (hv : v (Shape.Idx.first hu) = 0)
    (r : Fin n) (k : Fin 128) : pad ⟨2, ![n, 128]⟩ ![0, 0] ![0, 96] ![0, 0] x v h hu (ix2 r k) = padded (fun k => x (ix2 r k)) k := by
  have hr := r.isLt
  unfold pad padded
  split_ifs with h1 h2 h2
  · refine congrArg x (funext fun a => ?_)
    match a with
    | ⟨0, _⟩ => exact Fin.ext (by simp [ix2])
    | ⟨1, _⟩ => exact Fin.ext (by simp [ix2])
  · exfalso
    have h3 : (k.val - 0) / (0 + 1) < 32 := (h1 1).2.2
    rw [Nat.zero_add, Nat.div_one] at h3
    omega
  · refine absurd (fun a => ?_) h1
    match a with
    | ⟨0, _⟩ => simp [ix2, Nat.mod_one]
    | ⟨1, _⟩ => simp [ix2, Nat.mod_one, h2]
  · exact hv

/-- The zero that the columns are padded with. -/
theorem pad_zero (s : Shape) (i : s.Idx) : sitofp (F := Ideal) .f32 (constantI s 32 0#32) i = (0 : EReal) := by
  show (((0#32 : BitVec 32).toInt : ℝ) : EReal) = 0
  simp

/-- A transposed matrix at an index. -/
theorem transpose_two (x : (⟨2, ![1024, 128]⟩ : Shape).Idx → EReal) (h : (⟨2, ![1024, 128]⟩ : Shape).Transposes [1, 0] ⟨2, ![128, 1024]⟩) (k : Fin 128) (j : Fin 1024) :
    transpose ⟨2, ![128, 1024]⟩ [1, 0] x h (ix2 k j) = x (ix2 j k) := by
  pointwise

variable (p q s u : Vec Ideal S512x2048 .bf16) (w0 w1 w2 w3 : Vec Ideal S2048x1024 .bf16) (e : Vec Ideal S512x128 .bf16) (we : Vec Ideal S128x1024 .bf16)
  (d : FVec Ideal S512x1024 .f32) (x ct : Vec Ideal S512x1024 .f32) (g : Vec Ideal S1x1024 .f32) (sc : Vec Ideal S1x1x1024 .f32)

theorem pay5_apply (r : Fin 512) (j : Fin 1024) : k0_pay5 (F := Ideal) p w0 q w1 s w2 u w3 e we (ix2 r j)
    = (∑ k, bwide p r k * w0 (ix2 k j)) + (∑ k, bwide q r k * w1 (ix2 k j)) + (∑ k, bwide s r k * w2 (ix2 k j)) + (∑ k, bwide u r k * w3 (ix2 k j))
      + ∑ k, e (ix2 r k) * we (ix2 k j) := by
  unfold k0_pay5
  pointwise

theorem pay8_apply (r : Fin 512) : k0_pay8 (F := Ideal) (k0_pay7 x) (ix2 r 0) = rstd (brow x r) := by
  unfold k0_pay8 k0_pay7 k0_pay6
  pointwise
  rfl

theorem pay9_apply (r : Fin 512) (j : Fin 1024) : k0_pay9 (F := Ideal) (k0_pay6 x) (k0_pay7 x) (ix2 r j) = brow x r j * rstd (brow x r) := by
  unfold k0_pay9
  pointwise
  rw [pay8_apply]
  unfold k0_pay6
  pointwise

theorem pay10_apply (r : Fin 512) (j : Fin 1024) : k0_pay10 (F := Ideal) d (k0_pay6 x) (k0_pay7 x) g sc ct (ix2 r j)
    = brow ct r j + back (brow x r) (up (brow d r) (bvec g) (bper sc)) j := by
  unfold k0_pay10
  pointwise
  simp only [pay9_apply, pay8_apply]
  rfl

theorem pay11_apply (j : Fin 1024) : k0_pay11 (F := Ideal) d (k0_pay6 x) (k0_pay7 x) (ix2 0 j)
    = ∑ r : Fin 512, brow d r j * (brow x r j * rstd (brow x r)) := by
  unfold k0_pay11
  pointwise
  simp only [pay9_apply]

theorem pay12_apply (j : Fin 1024) : k0_pay12 (F := Ideal) d (ix2 0 j) = ∑ r : Fin 512, brow d r j := Cert.Norm.pay12_apply d j

theorem pay1_apply (a : FVec Ideal S1x1024 .f32) (j : Fin 1024) : k0_pay1 (F := Ideal) a (ix3 0 0 j) = a (ix2 0 j) := Cert.Norm.pay1_apply a j

theorem pay2_apply (a : FVec Ideal S1x1024 .f32) (j : Fin 1024) : k0_pay2 (F := Ideal) a (ix3 0 0 j) = a (ix2 0 j) := Cert.Norm.pay2_apply a j

theorem pay3_apply (a : FVec Ideal S1x1024 .f32) (b : Vec Ideal S1x1x1024 .f32) (j : Fin 1024) :
    k0_pay3 (F := Ideal) a b (ix3 0 0 j) = (b (ix3 0 0 j) : EReal) + a (ix2 0 j) := Cert.Norm.pay3_apply a b j

theorem pay4_apply (a : FVec Ideal S1x1024 .f32) (b : Vec Ideal S1x1x1024 .f32) (j : Fin 1024) :
    k0_pay4 (F := Ideal) a b (ix3 0 0 j) = (b (ix3 0 0 j) : EReal) + a (ix2 0 j) := Cert.Norm.pay4_apply a b j

variable (m : (ℓ : Loc nD τ sig) → Buf (Elt Ideal) ℓ)

/-- The arguments' contents. -/
abbrev arg0 (c : Dev nD) : S4x2048x1024.Idx → EReal := m ((c : Thread nD τ).loc main_arg0)
abbrev arg1 (c : Dev nD) : S1024.Idx → EReal := m ((c : Thread nD τ).loc main_arg1)
abbrev arg3 (c : Dev nD) : S4x1x1024.Idx → EReal := m ((c : Thread nD τ).loc main_arg3)
abbrev arg4 (c : Dev nD) : S1024x8224.Idx → EReal := m ((c : Thread nD τ).loc main_arg4)
abbrev arg5 (c : Dev nD) : S4x2048x2048.Idx → EReal := m ((c : Thread nD τ).loc main_arg5)
abbrev arg6 (c : Dev nD) : S4x2048x2048.Idx → EReal := m ((c : Thread nD τ).loc main_arg6)
abbrev arg7 (c : Dev nD) : S4x2048x2048.Idx → EReal := m ((c : Thread nD τ).loc main_arg7)
abbrev arg8 (c : Dev nD) : S4x2048x2048.Idx → EReal := m ((c : Thread nD τ).loc main_arg8)
abbrev arg9 (c : Dev nD) : S4x32x2048.Idx → EReal := m ((c : Thread nD τ).loc main_arg9)
abbrev arg10 (c : Dev nD) : S4x2048x1024.Idx → EReal := m ((c : Thread nD τ).loc main_arg10)

theorem V_main_v0 (c : Dev nD) (n : Fin 8192) (j : Fin 1024) : V m c main_v0 (ix2 n j) = arg0 m c (ix3 (seq n) (pos n) j) := by
  have e : V m c main_v0 = shapeCast S8192x1024 (arg0 m c) Gen.facts.shapeCasts_S4x2048x1024_S8192x1024 := by
    simp only [V, hostOps0, hostOps0_1, hostOps0_2, hostOps0_3, hostOps0_4, List.flatten_cons, List.flatten_nil, List.append_nil, List.cons_append, List.nil_append]
    after_results <;> rfl
  rw [e]
  exact shapeCast_rows _ _ n j

theorem V_main_v5 (c : Dev nD) (n : Fin 8192) (j : Fin 1024) : V m c main_v5 (ix2 n j) = arg10 m c (ix3 (seq n) (pos n) j) := by
  have e : V m c main_v5 = shapeCast S8192x1024 (arg10 m c) Gen.facts.shapeCasts_S4x2048x1024_S8192x1024 := by
    simp only [V, hostOps0, hostOps0_1, hostOps0_2, hostOps0_3, hostOps0_4, List.flatten_cons, List.flatten_nil, List.append_nil, List.cons_append, List.nil_append]
    after_results <;> rfl
  rw [e]
  exact shapeCast_rows _ _ n j

theorem V_main_v14 (c : Dev nD) (n : Fin 8192) (j : Fin 2048) : V m c main_v14 (ix2 n j) = arg5 m c (ix3 (seq n) (pos n) j) := by
  have e : V m c main_v14 = shapeCast S8192x2048 (arg5 m c) Gen.facts.shapeCasts_S4x2048x2048_S8192x2048 := by
    simp only [V, hostOps0, hostOps0_1, hostOps0_2, hostOps0_3, hostOps0_4, List.flatten_cons, List.flatten_nil, List.append_nil, List.cons_append, List.nil_append]
    after_results <;> rfl
  rw [e]
  exact shapeCast_rows _ _ n j

theorem V_main_v15 (c : Dev nD) (n : Fin 8192) (j : Fin 2048) : V m c main_v15 (ix2 n j) = arg6 m c (ix3 (seq n) (pos n) j) := by
  have e : V m c main_v15 = shapeCast S8192x2048 (arg6 m c) Gen.facts.shapeCasts_S4x2048x2048_S8192x2048 := by
    simp only [V, hostOps0, hostOps0_1, hostOps0_2, hostOps0_3, hostOps0_4, List.flatten_cons, List.flatten_nil, List.append_nil, List.cons_append, List.nil_append]
    after_results <;> rfl
  rw [e]
  exact shapeCast_rows _ _ n j

theorem V_main_v16 (c : Dev nD) (n : Fin 8192) (j : Fin 2048) : V m c main_v16 (ix2 n j) = arg7 m c (ix3 (seq n) (pos n) j) := by
  have e : V m c main_v16 = shapeCast S8192x2048 (arg7 m c) Gen.facts.shapeCasts_S4x2048x2048_S8192x2048 := by
    simp only [V, hostOps0, hostOps0_1, hostOps0_2, hostOps0_3, hostOps0_4, List.flatten_cons, List.flatten_nil, List.append_nil, List.cons_append, List.nil_append]
    after_results <;> rfl
  rw [e]
  exact shapeCast_rows _ _ n j

theorem V_main_v17 (c : Dev nD) (n : Fin 8192) (j : Fin 2048) : V m c main_v17 (ix2 n j) = arg8 m c (ix3 (seq n) (pos n) j) := by
  have e : V m c main_v17 = shapeCast S8192x2048 (arg8 m c) Gen.facts.shapeCasts_S4x2048x2048_S8192x2048 := by
    simp only [V, hostOps0, hostOps0_1, hostOps0_2, hostOps0_3, hostOps0_4, List.flatten_cons, List.flatten_nil, List.append_nil, List.cons_append, List.nil_append]
    after_results <;> rfl
  rw [e]
  exact shapeCast_rows _ _ n j

theorem V_main_v19 (c : Dev nD) (n : Fin 8192) (j : Fin 1024) : V m c main_v19 (ix2 n j) = arg4 m c (ix2 j (lo n)) := by
  have e : V m c main_v19 = transpose S8192x1024 [1, 0] (extractStridedSlice S1024x8192 ![0, 0] (arg4 m c) Gen.facts.slices_S1024x8224_S1024x8192_0_0)
      Gen.facts.transposes_S1024x8192_S8192x1024_1_0 := by
    simp only [V, hostOps0, hostOps0_1, hostOps0_2, hostOps0_3, hostOps0_4, List.flatten_cons, List.flatten_nil, List.append_nil, List.cons_append, List.nil_append]
    after_results <;> rfl
  rw [e]
  pointwise
  refine congrArg (arg4 m c) (funext fun a => ?_)
  match a with
  | ⟨0, _⟩ => exact Fin.ext (by simp [ix2])
  | ⟨1, _⟩ => exact Fin.ext (by simp [ix2, lo])

theorem V_main_v10 (c : Dev nD) (n : Fin 8192) (k : Fin 128) :
    V m c main_v10 (ix2 n k) = padded (fun k => arg9 m c (ix3 (seq n) k (pos n))) k := by
  have e : V m c main_v10 = pad S8192x128 ![0, 0] ![0, 96] ![0, 0] (shapeCast S8192x32 (transpose S4x2048x32 [0, 2, 1] (arg9 m c)
      Gen.facts.transposes_S4x32x2048_S4x2048x32_0_2_1) Gen.facts.shapeCasts_S4x2048x32_S8192x32)
      (sitofp (F := Ideal) .f32 (constantI S_ 32 0#32)) Gen.facts.pads_S8192x32_S8192x128_000_0960 Gen.facts.h_S_ := by
    simp only [V, hostOps0, hostOps0_1, hostOps0_2, hostOps0_3, hostOps0_4, List.flatten_cons, List.flatten_nil, List.append_nil, List.cons_append, List.nil_append]
    after_results <;> rfl
  rw [e]
  refine (pad_columns _ _ _ _ (pad_zero _ _) n k).trans ?_
  refine congrArg (padded · k) (funext fun k => ?_)
  refine (shapeCast_rows _ _ n k).trans ?_
  pointwise

theorem V_main_v13 (c : Dev nD) (k : Fin 128) (j : Fin 1024) :
    V m c main_v13 (ix2 k j) = padded (fun k => arg4 m c (ix2 j (hi k))) k := by
  have e : V m c main_v13 = transpose S128x1024 [1, 0] (pad S1024x128 ![0, 0] ![0, 96] ![0, 0]
      (extractStridedSlice S1024x32 ![0, 8192] (arg4 m c) Gen.facts.slices_S1024x8224_S1024x32_0_8192)
      (sitofp (F := Ideal) .f32 (constantI S_ 32 0#32)) Gen.facts.pads_S1024x32_S1024x128_000_0960 Gen.facts.h_S_)
      Gen.facts.transposes_S1024x128_S128x1024_1_0 := by
    simp only [V, hostOps0, hostOps0_1, hostOps0_2, hostOps0_3, hostOps0_4, List.flatten_cons, List.flatten_nil, List.append_nil, List.cons_append, List.nil_append]
    after_results <;> rfl
  rw [e]
  refine (transpose_two _ _ k j).trans ?_
  refine (pad_columns _ _ _ _ (pad_zero _ _) j k).trans ?_
  refine congrArg (padded · k) (funext fun k => ?_)
  pointwise
  refine congrArg (arg4 m c) (funext fun a => ?_)
  match a with
  | ⟨0, _⟩ => exact Fin.ext (by simp [ix2])
  | ⟨1, _⟩ => exact Fin.ext (by simp [ix2, hi])

theorem V_main_v20 (c : Dev nD) (j : Fin 1024) : V m c main_v20 (ix2 0 j) = arg1 m c (ix1 j) := by
  have e : V m c main_v20 = shapeCast S1x1024 (arg1 m c) Gen.facts.shapeCasts_S1024_S1x1024 := by
    simp only [V, hostOps0, hostOps0_1, hostOps0_2, hostOps0_3, hostOps0_4, List.flatten_cons, List.flatten_nil, List.append_nil, List.cons_append, List.nil_append]
    after_results <;> rfl
  rw [e]
  pointwise

theorem V_main_arg3 (c : Dev nD) : V m c main_arg3 = arg3 m c := by
  simp only [V, hostOps0, hostOps0_1, hostOps0_2, hostOps0_3, hostOps0_4, List.flatten_cons, List.flatten_nil, List.append_nil, List.cons_append, List.nil_append]
  after_results <;> rfl

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])
theorem idx8 : ∀ t : Fin cfg0.N, win0_8.index t = ![0, 0] := (by decide +kernel : ∀ t : Fin grid0.N, win0_8.index t = ![0, 0])
theorem idx9 : ∀ t : Fin cfg0.N, win0_9.index t = ![t.val / 4, 0, 0] := (by decide +kernel : ∀ t : Fin grid0.N, win0_9.index t = ![t.val / 4, 0, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val / 4, 0, 0] := (by decide +kernel : ∀ t : Fin grid0.N, win0_12.index t = ![t.val / 4, 0, 0])
theorem idx13 : ∀ t : Fin cfg0.N, win0_13.index t = ![t.val / 4, 0, 0] := (by decide +kernel : ∀ t : Fin grid0.N, win0_13.index t = ![t.val / 4, 0, 0])

/-- Row `r` of grid point `t`, and the sequence of the point. -/
def rowOf (t : Fin cfg0.N) (r : Fin 512) : Fin 8192 := at512 ⟨t.val, lt_of_lt_of_eq t.isLt N_0⟩ r
def seqOf (t : Fin cfg0.N) : Fin 4 := ⟨t.val / 4, by have := lt_of_lt_of_eq t.isLt N_0; omega⟩

theorem seq_rowOf (t : Fin cfg0.N) (r : Fin 512) : seq (rowOf t r) = seqOf t := by
  have := lt_of_lt_of_eq t.isLt N_0
  exact Fin.ext (by simp only [seq, rowOf, at512, seqOf]; omega)

theorem iblk0_row (c : Dev nD) (t : Fin cfg0.N) (r : Fin 512) :
    bwide (iblk m c 0 t) r = wide (arg5 m c) (seq (rowOf t r)) (pos (rowOf t r)) := funext fun k => by
  show iblk m c 0 t (ix2 r k) = arg5 m c _
  rw [← V_main_v14]
  blk_simp [iblk]
  refine congrArg (V m c main_v14) ?_
  blk_ext [idx0, rowOf, at512]

theorem iblk1_row (c : Dev nD) (t : Fin cfg0.N) (r : Fin 512) :
    bwide (iblk m c 1 t) r = wide (arg6 m c) (seq (rowOf t r)) (pos (rowOf t r)) := funext fun k => by
  show iblk m c 1 t (ix2 r k) = arg6 m c _
  rw [← V_main_v15]
  blk_simp [iblk]
  refine congrArg (V m c main_v15) ?_
  blk_ext [idx1, rowOf, at512]

theorem iblk2_row (c : Dev nD) (t : Fin cfg0.N) (r : Fin 512) :
    bwide (iblk m c 2 t) r = wide (arg7 m c) (seq (rowOf t r)) (pos (rowOf t r)) := funext fun k => by
  show iblk m c 2 t (ix2 r k) = arg7 m c _
  rw [← V_main_v16]
  blk_simp [iblk]
  refine congrArg (V m c main_v16) ?_
  blk_ext [idx2, rowOf, at512]

theorem iblk3_row (c : Dev nD) (t : Fin cfg0.N) (r : Fin 512) :
    bwide (iblk m c 3 t) r = wide (arg8 m c) (seq (rowOf t r)) (pos (rowOf t r)) := funext fun k => by
  show iblk m c 3 t (ix2 r k) = arg8 m c _
  rw [← V_main_v17]
  blk_simp [iblk]
  refine congrArg (V m c main_v17) ?_
  blk_ext [idx3, rowOf, at512]

theorem iblk4_mat (c : Dev nD) (t : Fin cfg0.N) (n : Fin 8192) (j : Fin 1024) : iblk m c 4 t (ix2 n j) = mat (arg4 m c) j (lo n) := by
  show iblk m c 4 t (ix2 n j) = arg4 m c _
  rw [← V_main_v19]
  blk_simp [iblk]
  refine congrArg (V m c main_v19) ?_
  blk_ext [idx4]

theorem iblk5_lane (c : Dev nD) (t : Fin cfg0.N) (r : Fin 512) (k : Fin 128) :
    iblk m c 5 t (ix2 r k) = padded (lane (arg9 m c) (seq (rowOf t r)) (pos (rowOf t r))) k := by
  refine Eq.trans ?_ (V_main_v10 m c (rowOf t r) k)
  blk_simp [iblk]
  refine congrArg (V m c main_v10) ?_
  blk_ext [idx5, rowOf, at512]

theorem iblk6_mat (c : Dev nD) (t : Fin cfg0.N) (k : Fin 128) (j : Fin 1024) :
    iblk m c 6 t (ix2 k j) = padded (fun k => mat (arg4 m c) j (hi k)) k := by
  refine Eq.trans ?_ (V_main_v13 m c k j)
  blk_simp [iblk]
  refine congrArg (V m c main_v13) ?_
  blk_ext [idx6]

theorem iblk7_row (c : Dev nD) (t : Fin cfg0.N) (r : Fin 512) :
    brow (iblk m c 7 t) r = row (arg0 m c) (seq (rowOf t r)) (pos (rowOf t r)) := funext fun k => by
  show iblk m c 7 t (ix2 r k) = arg0 m c _
  rw [← V_main_v0]
  blk_simp [iblk]
  refine congrArg (V m c main_v0) ?_
  blk_ext [idx7, rowOf, at512]

theorem iblk8_vec (c : Dev nD) (t : Fin cfg0.N) : bvec (iblk m c 8 t) = vec (arg1 m c) := funext fun k => by
  show iblk m c 8 t (ix2 0 k) = arg1 m c _
  rw [← V_main_v20]
  blk_simp [iblk]
  refine congrArg (V m c main_v20) ?_
  blk_ext [idx8]

theorem iblk9_per (c : Dev nD) (t : Fin cfg0.N) : bper (iblk m c 9 t) = per (arg3 m c) (seqOf t) := funext fun k => by
  show iblk m c 9 t (ix3 0 0 k) = arg3 m c _
  rw [← V_main_arg3]
  blk_simp [iblk]
  refine congrArg (V m c main_arg3) ?_
  blk_ext [idx9, seqOf]

theorem iblk10_row (c : Dev nD) (t : Fin cfg0.N) (r : Fin 512) :
    brow (iblk m c 10 t) r = row (arg10 m c) (seq (rowOf t r)) (pos (rowOf t r)) := funext fun k => by
  show iblk m c 10 t (ix2 r k) = arg10 m c _
  rw [← V_main_v5]
  blk_simp [iblk]
  refine congrArg (V m c main_v5) ?_
  blk_ext [idx10, rowOf, at512]

/-- The gradient `dh` and the result's gradient at sequence `i` and place `s`. -/
def dhOf (c : Dev nD) (i : Fin 4) (s : Fin 2048) : Fin 1024 → EReal := dhAt (arg4 m c) (arg5 m c) (arg6 m c) (arg7 m c) (arg8 m c) (arg9 m c) i s
def gradAt (c : Dev nD) (i : Fin 4) (s : Fin 2048) (j : Fin 1024) : EReal :=
  row (arg10 m c) i s j + back (row (arg0 m c) i s) (up (dhOf m c i s) (vec (arg1 m c)) (per (arg3 m c) i)) j
def gainAt (c : Dev nD) (j : Fin 1024) (i : Fin 4) (s : Fin 2048) : EReal :=
  dhOf m c i s j * (row (arg0 m c) i s j * rstd (row (arg0 m c) i s))

/-- The gradient `dh` of a grid point's rows. -/
def dhBlk (c : Dev nD) (t : Fin cfg0.N) : FVec Ideal S512x1024 .f32 :=
  k0_pay5 (iblk m c 0 t) (View.ld (iblk m c 4 t) (Rect.unit ![0, 0] ![2048, 1024] Gen.facts.inb_S8192x1024_S2048x1024_0_0))
    (iblk m c 1 t) (View.ld (iblk m c 4 t) (Rect.unit ![2048, 0] ![2048, 1024] Gen.facts.inb_S8192x1024_S2048x1024_2048_0))
    (iblk m c 2 t) (View.ld (iblk m c 4 t) (Rect.unit ![4096, 0] ![2048, 1024] Gen.facts.inb_S8192x1024_S2048x1024_4096_0))
    (iblk m c 3 t) (View.ld (iblk m c 4 t) (Rect.unit ![6144, 0] ![2048, 1024] Gen.facts.inb_S8192x1024_S2048x1024_6144_0)) (iblk m c 5 t) (iblk m c 6 t)

/-- A part of the matrix, read at a row. -/
theorem part_mat (c : Dev nD) (t : Fin cfg0.N) (n : Fin 4) (o : Nat) (ho : o = n.val * 2048) (h) (k : Fin 2048) (j : Fin 1024) :
    View.ld (iblk m c 4 t) (Rect.unit (s := S8192x1024) ![o, 0] ![2048, 1024] h) (ix2 k j) = mat (arg4 m c) j (lo (at4 n k)) := by
  rw [← iblk4_mat m c t]
  subst ho
  refine congrArg (iblk m c 4 t) (funext fun a => ?_)
  match a with
  | ⟨0, _⟩ => exact Fin.ext (by simp [View.ld, Rect.unit, ix2, at4])
  | ⟨1, _⟩ => exact Fin.ext (by simp [View.ld, Rect.unit, ix2])

theorem dhBlk_row (c : Dev nD) (t : Fin cfg0.N) (r : Fin 512) : brow (dhBlk m c t) r = dhOf m c (seq (rowOf t r)) (pos (rowOf t r)) := funext fun j => by
  show k0_pay5 (F := Ideal) _ _ _ _ _ _ _ _ _ _ (ix2 r j) = _
  rw [pay5_apply, iblk0_row, iblk1_row, iblk2_row, iblk3_row]
  simp only [part_mat m c t 0 0 rfl, part_mat m c t 1 2048 rfl, part_mat m c t 2 4096 rfl, part_mat m c t 3 6144 rfl, iblk5_lane, iblk6_mat, sum_padded]
  rfl

/-- The first result. -/
theorem result11 (c : Dev nD) : (dats m 0 c).arrAt 11 cfg0.N = fun x : S8192x1024.Idx => (gradAt m c (seq (x 0)) (pos (x 0)) (x 1) : EReal) := by
  refine (dats m 0 c).arrAt_eq_of_covers 11 _ (by decide +kernel) fun t hf y => ?_
  obtain ⟨a, b, rfl⟩ : ∃ (a : Fin 512) (b : Fin 1024), y = ix2 a b := ⟨y 0, y 1, (ix2_eta y).symm⟩
  have eg : (((cfg0.win 11).blk t).view.emb (ix2 a b)) = ix2 (rowOf t a) b := by
    blk_ext [idx11, rowOf, at512]
  have fin : k0_pay10 (F := Ideal) (dhBlk m c t) (k0_pay6 (iblk m c 7 t)) (k0_pay7 (iblk m c 7 t)) (iblk m c 8 t) (iblk m c 9 t)
      (iblk m c 10 t) (ix2 a b) = gradAt m c (seq (rowOf t a)) (pos (rowOf t a)) b := by
    rw [pay10_apply, dhBlk_row, iblk7_row, iblk8_vec, iblk9_per, iblk10_row, ← seq_rowOf t a]
    rfl
  by_cases h0 : t.val % 4 = 0
  · blk_simp
    rw [after0_11, outsAt0_A m c t h0 (fun h => h h0)]
    dsimp only
    frame_out
    rw [eg]
    exact fin
  · blk_simp
    rw [after0_11, outsAt0_B m c t h0 h0]
    dsimp only
    frame_out
    rw [eg]
    exact fin

theorem part_point (f : Fin 4 → Fin 2048 → EReal) (t : Fin cfg0.N) :
    part f (t.val / 4) (t.val % 4) = ∑ r : Fin 512, f (seq (rowOf t r)) (pos (rowOf t r)) := by
  have hN := lt_of_lt_of_eq t.isLt N_0
  rw [part, dif_pos (by omega)]
  refine Finset.sum_congr rfl fun r _ => ?_
  rw [seq_rowOf]
  exact congrArg (f _) (Fin.ext (by simp only [pos, rowOf, at512]; omega))

theorem gain_point (c : Dev nD) (t : Fin cfg0.N) (j : Fin 1024) :
    k0_pay11 (F := Ideal) (dhBlk m c t) (k0_pay6 (iblk m c 7 t)) (k0_pay7 (iblk m c 7 t)) (ix2 0 j) = part (gainAt m c j) (t.val / 4) (t.val % 4) := by
  rw [pay11_apply, part_point]
  refine Finset.sum_congr rfl fun r _ => ?_
  rw [dhBlk_row, iblk7_row]
  rfl

theorem shift_point (c : Dev nD) (t : Fin cfg0.N) (j : Fin 1024) :
    k0_pay12 (F := Ideal) (dhBlk m c t) (ix2 0 j) = part (fun i s => dhOf m c i s j) (t.val / 4) (t.val % 4) := by
  rw [pay12_apply, part_point]
  refine Finset.sum_congr rfl fun r _ => ?_
  rw [dhBlk_row]

/-- What the two accumulated results' buffers hold after point `n`. -/
theorem sums (c : Dev nD) (j : Fin 1024) : ∀ (n : ℕ) (hn : n < cfg0.N),
    ((outsAt0 m c n hn).2.1 (ix3 0 0 j) : EReal) = ∑ i ∈ Finset.range (n % 4 + 1), part (gainAt m c j) (n / 4) i
      ∧ ((outsAt0 m c n hn).2.2 (ix3 0 0 j) : EReal) = ∑ i ∈ Finset.range (n % 4 + 1), part (fun i s => dhOf m c i s j) (n / 4) i := by
  intro n
  induction n with
  | zero =>
    intro hn
    rw [outsAt0_A m c ⟨0, hn⟩ (by rfl) (by simp), Finset.sum_range_one, Finset.sum_range_one]
    dsimp only
    refine ⟨?_, ?_⟩
    · frame_out
      exact (pay1_apply _ j).trans (gain_point m c ⟨0, hn⟩ j)
    · frame_out
      exact (pay2_apply _ j).trans (shift_point m c ⟨0, hn⟩ j)
  | succ n ih =>
    intro hn
    by_cases h0 : (n + 1) % 4 = 0
    · rw [h0, zero_add, Finset.sum_range_one, Finset.sum_range_one, outsAt0_A m c ⟨n + 1, hn⟩ h0 (fun h => h h0)]
      have e1 := gain_point m c ⟨n + 1, hn⟩ j
      have e2 := shift_point m c ⟨n + 1, hn⟩ j
      simp only [h0] at e1 e2
      dsimp only
      refine ⟨?_, ?_⟩
      · frame_out
        exact (pay1_apply _ j).trans e1
      · frame_out
        exact (pay2_apply _ j).trans e2
    · obtain ⟨i1, i2⟩ := ih (by omega)
      rw [show n % 4 + 1 = (n + 1) % 4 by omega, show n / 4 = (n + 1) / 4 by omega] at i1 i2
      rw [outsAt0_B m c ⟨n + 1, hn⟩ h0 h0, Finset.sum_range_succ (part (gainAt m c j) _), Finset.sum_range_succ (part (fun i s => dhOf m c i s j) _)]
      dsimp only
      refine ⟨?_, ?_⟩
      · frame_out
        refine (pay3_apply _ _ j).trans ?_
        exact congrArg₂ (· + ·) i1 (gain_point m c ⟨n + 1, hn⟩ j)
      · frame_out
        refine (pay4_apply _ _ j).trans ?_
        exact congrArg₂ (· + ·) i2 (shift_point m c ⟨n + 1, hn⟩ j)

/-- The second result. -/
theorem result12 (c : Dev nD) : (dats m 0 c).arrAt 12 cfg0.N = fun x : S4x1x1024.Idx => (∑ s : Fin 2048, gainAt m c (x 2) (x 0) s : EReal) := by
  refine (dats m 0 c).arrAt_eq_of_covers 12 _ (by decide +kernel) fun t hf y => ?_
  have h3 : t.val % 4 = 3 := (by decide +kernel : ∀ t : Fin grid0.N, win0_12.flush t = true → t.val % 4 = 3) t hf
  obtain ⟨b, rfl⟩ := one_eta y
  have eg : (((cfg0.win 12).blk t).view.emb (ix3 0 0 b)) = ix3 (seqOf t) 0 b := by
    blk_ext [idx12, seqOf]
  have e := (sums m c b t.val t.isLt).1
  rw [h3] at e
  blk_simp
  rw [after0_12, eg]
  exact e.trans (part_all _ (seqOf t))

/-- The third result. -/
theorem result13 (c : Dev nD) : (dats m 0 c).arrAt 13 cfg0.N = fun x : S4x1x1024.Idx => (∑ s : Fin 2048, dhOf m c (x 0) s (x 2) : EReal) := by
  refine (dats m 0 c).arrAt_eq_of_covers 13 _ (by decide +kernel) fun t hf y => ?_
  have h3 : t.val % 4 = 3 := (by decide +kernel : ∀ t : Fin grid0.N, win0_13.flush t = true → t.val % 4 = 3) t hf
  obtain ⟨b, rfl⟩ := one_eta y
  have eg : (((cfg0.win 13).blk t).view.emb (ix3 0 0 b)) = ix3 (seqOf t) 0 b := by
    blk_ext [idx13, seqOf]
  have e := (sums m c b t.val t.isLt).2
  rw [h3] at e
  blk_simp
  rw [after0_13, eg]
  exact e.trans (part_all (fun i s => dhOf m c i s b) (seqOf t))

end Cert.NormFox
end
-- ==== Proof.NormFoxProof.lean ====
/- Hand-written, untrusted: the claims about the forgetting layer's norm's gradient. -/
module

public import proofs.«01_k».proof.Defs
public import proofs.«01_k».proof.Proof.Gen.Kernel8.Frame
public import proofs.«01_k».proof.Proof.NormFoxKernel
public import proofs.«01_k».proof.Proof.NormProof
public import proofs.«01_k».proof.Proof.Gen.Reference8Ideal.Run

@[expose] public section

set_option maxRecDepth 16384

noncomputable section

namespace Cert.NormFox

open Idealize.ShloMosaic Idealize.ShloMosaic.TcCoe Cert.Kernel8Ideal Cert.Kernel8Ideal.Gen Cert.Rows Cert.Norm

/-- The reference's frame. -/
theorem frame_reference : Cert.quiescent_Reference8Ideal := fun m ρ _ =>
  (θ_run Cert.Reference8Ideal.defs _ _).mono (fun r h => ⟨fun c => (h c).2.2.2, funext fun s => nomatch s.2⟩) (Cert.Reference8Ideal.Value.run (F := Ideal) m ρ)

theorem frame_kernel : Cert.quiescent_Kernel8 := fun m ρ _ => Cert.Kernel8.Gen.frame m ρ
theorem frame_ideal : Cert.quiescent_Kernel8Ideal := fun m ρ _ => Cert.Kernel8Ideal.Gen.frame m ρ

/-- The reference's rows as one list. -/
theorem idx91 (n : Fin 8192) (j : Fin 1024) : Cert.Reference8Ideal.Read.idx_main_v91 (ix2 n j) = ix3 (seq n) (pos n) j := by
  have := n.isLt
  have := j.isLt
  funext a
  match a with
  | ⟨0, _⟩ => exact Fin.ext (by simp [ix2, ix3, seq]; omega)
  | ⟨1, _⟩ => exact Fin.ext (by simp [ix2, ix3, pos]; omega)
  | ⟨2, _⟩ => exact Fin.ext (by simp [ix2, ix3])

set_option maxHeartbeats 2000000 in
/-- Kernel and reference compute the same arrays. -/
theorem equal : Cert.algebraic_Kernel8Ideal_Reference8Ideal := by
  intro m g m' g' _ hargs
  refine ⟨fun c => (dats m 0 c).arrAt 11 cfg0.N, fun c => (dats m 0 c).arrAt 12 cfg0.N, fun c => (dats m 0 c).arrAt 13 cfg0.N,
    Cert.Kernel8Ideal.Value.run_blocks m g,
    (θ_run Cert.Reference8Ideal.defs _ _).mono (fun r h c => ?_) (Cert.Reference8Ideal.Value.run (F := Ideal) m' g')⟩
  obtain ⟨a0, a1, a2, a3, a4, a5, a6, a7, a8, a9, a10⟩ := hargs c
  refine ⟨(h c).1.trans ?_, (h c).2.1.trans ?_, (h c).2.2.1.trans ?_, (h c).2.2.2⟩
  · rw [Cert.Reference8Ideal.Read.val_main_v91_eq, a0, a1, a3, a4, a5, a6, a7, a8, a9, a10]
    refine Eq.trans ?_ (result11 m c).symm
    funext x
    obtain ⟨n, j, rfl⟩ : ∃ (n : Fin 8192) (j : Fin 1024), x = ix2 n j := ⟨x 0, x 1, (ix2_eta x).symm⟩
    rw [Cert.Reference8Ideal.Read.val_main_v91_apply, idx91]
    exact first _ _ _ _ _ _ _ _ _ _ _ _ j
  · rw [Cert.Reference8Ideal.Read.val_main_v90_eq, a0, a4, a5, a6, a7, a8, a9]
    refine Eq.trans ?_ (result12 m c).symm
    funext x
    obtain ⟨i, j, rfl⟩ := per_eta x
    exact second _ _ _ _ _ _ _ i j
  · rw [Cert.Reference8Ideal.Read.val_main_v41_eq, a4, a5, a6, a7, a8, a9]
    refine Eq.trans ?_ (result13 m c).symm
    funext x
    obtain ⟨i, j, rfl⟩ := per_eta x
    exact third _ _ _ _ _ _ i j

end Cert.NormFox
end
-- ==== Proof.Whole.lean ====
/- Hand-written, untrusted: loads and stores of arrays owned whole, for any kernel's body. -/
module

public import Idealize.ShloMosaic.Lib.Pipeline.FrameBody
public import Idealize.ShloMosaic.Lib.Tactic
public import Idealize.ShloMosaic.Lib.VecWindow

@[expose] public section

noncomputable section

namespace Cert.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

/-- An array read whole is the array. -/
theorem window_all {α : Type} {s : Shape} (X : s.Idx → α) (off : Fin s.rank → ℕ) (inb : ∀ a, off a + s.size a ≤ s.size a) :
    window X off s.size inb = X := by
  funext y
  refine congrArg X (funext fun a => Fin.ext ?_)
  have h := inb a
  show off a + 1 * (y a).val = (y a).val
  omega

/-- An array stored whole is what is stored. -/
theorem put_all {α : Type} {s : Shape} (X w : s.Idx → α) (off : Fin s.rank → ℕ) (inb : ∀ a, off a + s.size a ≤ s.size a) :
    put X off s.size w = w := by
  funext y
  unfold put
  rw [dif_pos fun a => by have := inb a; have := (y a).isLt; omega]
  refine congrArg w (funext fun a => Fin.ext ?_)
  have h := inb a
  show (y a).val - off a = (y a).val
  omega

variable {nD : ℕ} {τ : Topo} {sig : RefSig} {Λ : Labels} {U : Type} [URA U] {F : FTy → Type} [FloatOps F]

local notation "𝕄" => MT nD τ sig Unit (Elt F) ℕ U ℕ

variable {defs : Defs nD τ sig (Elt F) Λ} {𝒱 : Variants} {c : Dev nD} {bd : Option 𝒱.V} {E : Set ℕ}
variable {β : Type} {cs : CoreSpace} {s : Shape} {e : EltTy} {m : Memref sig .tc cs s e}

/-- A load of a part of an owned array. -/
theorem part {off size : Fin s.rank → ℕ} {inb : ∀ a, off a + size a ≤ s.size a} {hl : m.view.LoadsAt (Rect.unit off size inb).toLoadRect}
    (X : s.Idx → Elt F e) {k : ((Rect.unit off size inb).shape.Idx → Elt F e) → Prog (TpuEff nD τ sig (Elt F) Λ .tc) β} {Q : β → sProp 𝕄} :
    (owns (c : Thread nD τ) m fullShare X : sProp 𝕄)
      ⊢ iprop((owns (c : Thread nD τ) m fullShare X -∗ wp frame (wpE defs 𝒱 (c : Thread nD τ) bd) E (k (window X off size inb)) Q)
        -∗ wp frame (wpE defs 𝒱 (c : Thread nD τ) bd) E (Prog.lift (.load m (Rect.unit off size inb).toLoadRect hl) >>= k) Q) := by
  unfold owns
  iintro ⟨%f, %hf, H⟩ Hk
  iapply (wp_load_rect 𝒱 (c : Thread nD τ) bd E (m := m) (hl := hl) (k := k) (r := Rect.unit off size inb) (f := f) (m.view.set_slice_subset _)) $$ H
  iintro H
  subst hf
  iapply Hk
  iexists f
  isplitr
  · ipureintro; rfl
  iexact H

/-- A load of a whole owned array. -/
theorem ld {off : Fin s.rank → ℕ} {inb : ∀ a, off a + s.size a ≤ s.size a} {hl : m.view.LoadsAt (Rect.unit off s.size inb).toLoadRect}
    (X : s.Idx → Elt F e) {k : (s.Idx → Elt F e) → Prog (TpuEff nD τ sig (Elt F) Λ .tc) β} {Q : β → sProp 𝕄} :
    (owns (c : Thread nD τ) m fullShare X : sProp 𝕄)
      ⊢ iprop((owns (c : Thread nD τ) m fullShare X -∗ wp frame (wpE defs 𝒱 (c : Thread nD τ) bd) E (k X) Q)
        -∗ wp frame (wpE defs 𝒱 (c : Thread nD τ) bd) E (Prog.lift (.load m (Rect.unit off s.size inb).toLoadRect hl) >>= k) Q) := by
  have h := part (defs := defs) (𝒱 := 𝒱) (c := c) (bd := bd) (E := E) (hl := hl) X (k := k) (Q := Q)
  rwa [window_all X off inb] at h

/-- A store of a whole owned array. -/
theorem st {off : Fin s.rank → ℕ} {inb : ∀ a, off a + s.size a ≤ s.size a} {w : s.Idx → Elt F e}
    {hx : (m.access (Rect.unit off s.size inb)).Stores Finset.univ} {hm : (Finset.univ : Finset (Rect.unit off s.size inb).shape.Idx) = Finset.univ ∨ ∀ a, (Rect.unit off s.size inb).stride a = 1}
    (X : s.Idx → Elt F e) {k : PUnit → Prog (TpuEff nD τ sig (Elt F) Λ .tc) β} {Q : β → sProp 𝕄} :
    (owns (c : Thread nD τ) m fullShare X : sProp 𝕄)
      ⊢ iprop((owns (c : Thread nD τ) m fullShare w -∗ wp frame (wpE defs 𝒱 (c : Thread nD τ) bd) E (k ⟨⟩) Q)
        -∗ wp frame (wpE defs 𝒱 (c : Thread nD τ) bd) E (Prog.lift (.store m (Rect.unit off s.size inb) w Finset.univ hx hm) >>= k) Q) := by
  unfold owns
  iintro ⟨%f, %hf, H⟩ Hk
  iapply (wp_store 𝒱 (c : Thread nD τ) bd E (m := m) (hx := hx) (hm := hm) (k := k) (r := Rect.unit off s.size inb) (f := f) (m.view.set_slice_subset _)) $$ H
  iintro H
  subst hf
  iapply Hk
  iexists _
  isplitr
  · ipureintro
    exact (View.read_writes_cons_put m.view f inb w [] rfl).trans (put_all _ _ off inb)
  iexact H

end Cert.Whole
end
-- ==== Proof.AdaSbBody.lean ====
/- Hand-written, untrusted: the body of the conditioning's gradient with the gradient of its weight: what each point stores. -/
module

public import proofs.«01_k».proof.Proof.Gen.Kernel9Ideal.Frame
public import proofs.«01_k».proof.Proof.Gen.Kernel5Ideal.Skeleton
public import proofs.«01_k».proof.Proof.Whole

@[expose] public section

noncomputable section

namespace Cert.AdaSb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel9Ideal Cert.Kernel9Ideal.Gen
open VecWindow (window)
open Cert.Whole (part ld st)
open Cert.Kernel5Ideal.Gen (k0_pay2 k0_pay3 k0_pay4)

variable {F : FTy → Type} [FloatOps F]

local notation "𝕄" => MT nD τ sig Unit (Elt F) ℕ (UR sig nD τ) ℕ

variable {𝒱 : Variants} {c : Dev nD} {bd : Option 𝒱.V} {E : Set ℕ}

/-- The three parts side by side. -/
def dmods (x2 x3 x4 : Vec F S16x1024 .f32) (x6 : Vec F S1x1024 .f32) : Vec F S16x3072 .f32 :=
  shapeCast S16x3072 (k0_pay2 x3 x2 x6 x4) shapeCasts_S16x3072_S16x3072

/-- A block of the gradient of the conditioning's weight, from the conditioning and the three parts side by side. -/
def prod (i : grid0.Coords) (x : Vec F S16x1024 .f32) (D : Vec F S16x3072 .f32) : Vec F S1x1024x384 .bf16 :=
  shapeCast S1x1024x384 (truncf (F := F) .bf16 (matmul dot_S16x1024_S16x384_S1024x384_0_0_1_1_n_n none
    (truncf (F := F) .bf16 (mulf (shapeCast S16x1024 x shapeCasts_S16x1024_S16x1024) (divf (broadcast S16x1024 (Scalar.ofBits .f32 0x3F800000#32))
      (addf (broadcast S16x1024 (Scalar.ofBits .f32 0x3F800000#32)) (exp (subf (broadcast S16x1024 (Scalar.ofBits .f32 0x00000000#32))
        (shapeCast S16x1024 x shapeCasts_S16x1024_S16x1024)))))) bitsLt_bf16_f32)
    (truncf (F := F) .bf16 (window D (k0_off1 i) S16x384.size (k0_off1_inb i)) bitsLt_bf16_f32)
    (constant S1024x384 .f32 0x00000000#32)) bitsLt_bf16_f32) shapeCasts_S1024x384_S1x1024x384

variable (i : grid0.Coords) (x1 x2 x3 x4 x5 : Vec F S16x1024 .f32) (x6 : Vec F S1x1024 .f32) (x7 : Vec F S1x1024x384 .bf16) (x8 : Vec F S1x3072 .f32)
    (x9 : Vec F S1x1024 .f32) (x10 : Vec F S16x3072 .f32)
variable (arg1 : Memref sig .tc .vmem S16x1024 .f32) (harg1 : arg1.IsWhole) (arg2 : Memref sig .tc .vmem S16x1024 .f32) (harg2 : arg2.IsWhole)
    (arg3 : Memref sig .tc .vmem S16x1024 .f32) (harg3 : arg3.IsWhole) (arg4 : Memref sig .tc .vmem S16x1024 .f32) (harg4 : arg4.IsWhole)
    (arg5 : Memref sig .tc .vmem S16x1024 .f32) (harg5 : arg5.IsWhole) (arg6 : Memref sig .tc .vmem S1x1024 .f32) (harg6 : arg6.IsWhole)
    (arg7 : Memref sig .tc .vmem S1x1024x384 .bf16) (harg7 : arg7.IsWhole) (arg8 : Memref sig .tc .vmem S1x3072 .f32) (harg8 : arg8.IsWhole)
    (arg9 : Memref sig .tc .vmem S1x1024 .f32) (harg9 : arg9.IsWhole) (arg10 : Memref sig .tc .vmem S16x3072 .f32) (harg10 : arg10.IsWhole)

set_option maxHeartbeats 2000000 in
/-- What the body leaves of its arrays. -/
theorem body_run (D : Vec F S16x3072 .f32) (y8 : Vec F S1x3072 .f32) (y9 : Vec F S1x1024 .f32)
    (hp : k0_cond1 i = 1#1 → D = dmods x2 x3 x4 x6 ∧ y8 = k0_pay3 x3 x2 x6 x4 ∧ y9 = k0_pay4 x3 x5)
    (hn : k0_cond1 i ≠ 1#1 → D = x10 ∧ y8 = x8 ∧ y9 = x9) (Q : PUnit → sProp 𝕄) :
    (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10) : sProp 𝕄)
      ⊢ iprop((owns (c : Thread nD τ) arg1 fullShare x1
          -∗ owns (c : Thread nD τ) arg2 fullShare x2
          -∗ owns (c : Thread nD τ) arg3 fullShare x3
          -∗ owns (c : Thread nD τ) arg4 fullShare x4
          -∗ owns (c : Thread nD τ) arg5 fullShare x5
          -∗ owns (c : Thread nD τ) arg6 fullShare x6
          -∗ owns (c : Thread nD τ) arg7 fullShare (prod i x1 D)
          -∗ owns (c : Thread nD τ) arg8 fullShare y8
          -∗ owns (c : Thread nD τ) arg9 fullShare y9
          -∗ owns (c : Thread nD τ) arg10 fullShare D
          -∗ Q ⟨⟩)
        -∗ wp frame (wpE (defs₀ (F := F)) 𝒱 (c : Thread nD τ) bd) E (cc0_sb_dadaln (F := F) i arg1 harg1 arg2 harg2 arg3 harg3 arg4 harg4 arg5 harg5 arg6 harg6 arg7 harg7 arg8 harg8 arg9 harg9 arg10 harg10) Q) := by
  unfold cc0_sb_dadaln prod
  iintro ⟨H1, H2, H3, H4, H5, H6, H7, H8, H9, H10⟩ Hk
  by_cases h : k0_cond1 i = 1#1
  · obtain ⟨rfl, rfl, rfl⟩ := hp h
    unfold dmods k0_pay4 k0_pay3 k0_pay2 Cert.Kernel5Ideal.Gen.k0_pay1
    dsimp only
    rw [dif_pos h]
    iapply (ld _) $$ H3
    iintro H3
    iapply (ld _) $$ H2
    iintro H2
    iapply (ld _) $$ H6
    iintro H6
    iapply (ld _) $$ H4
    iintro H4
    iapply (ld _) $$ H10
    iintro H10
    iapply (st _) $$ H10
    iintro H10
    iapply (ld _) $$ H8
    iintro H8
    iapply (st _) $$ H8
    iintro H8
    iapply (ld _) $$ H5
    iintro H5
    iapply (ld _) $$ H9
    iintro H9
    iapply (st _) $$ H9
    iintro H9
    iapply (ld _) $$ H1
    iintro H1
    iapply (part _) $$ H10
    iintro H10
    iapply (ld _) $$ H7
    iintro H7
    iapply (st _) $$ H7
    iintro H7
    rw [wp_pure]
    imodintro
    iapply Hk $$ H1 H2 H3 H4 H5 H6 H7 H8 H9 H10
  · obtain ⟨rfl, rfl, rfl⟩ := hn h
    dsimp only
    rw [dif_neg h]
    iapply (ld _) $$ H1
    iintro H1
    iapply (part _) $$ H10
    iintro H10
    iapply (ld _) $$ H7
    iintro H7
    iapply (st _) $$ H7
    iintro H7
    rw [wp_pure]
    imodintro
    iapply Hk $$ H1 H2 H3 H4 H5 H6 H7 H8 H9 H10

end Cert.AdaSb
-- ==== Proof.AdaSbFrame.lean ====
/- Hand-written, untrusted: the frame of the conditioning's gradient with the gradient of its weight. The first grid point puts the
   three parts side by side into an array that the others read, and stores the two results that are written back at the last. -/
module

public import proofs.«01_k».proof.Proof.AdaSbBody
public import proofs.«01_k».proof.Proof.Gen.Kernel9
public import proofs.«01_k».proof.Proof.Gen.Reference9Ideal.Run
public import proofs.«01_k».proof.Defs
public import Idealize.ShloMosaic.Lib.Claim

@[expose] public section

noncomputable section

namespace Cert.AdaSb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel9Ideal Cert.Kernel9Ideal.Gen
open Cert.Kernel5Ideal.Gen (k0_pay2 k0_pay3 k0_pay4)

variable {F : FTy → Type} [FloatOps F]

local notation "𝕄" => MT nD τ sig Unit (Elt F) ℕ (UR sig nD τ) ℕ

/-- The first point alone is under the condition. -/
theorem first_iff : ∀ t : Fin grid0.N, k0_cond1 (grid0.coords t) = 1#1 ↔ t.val = 0 := by decide +kernel

theorem count : cfg0.N = 8 := by decide +kernel

variable (m : (ℓ : Loc nD τ sig) → Buf (Elt F) ℓ) (ρ : Dev nD → PrngReg)

/-- The first point. -/
def t0 : Fin cfg0.N := ⟨0, by rw [count]; omega⟩

/-- What the first point makes of its blocks. -/
def side (c : Dev nD) : Vec F S16x3072 .f32 := dmods (iblk m c 1 t0) (iblk m c 2 t0) (iblk m c 3 t0) (iblk m c 5 t0)
def bias (c : Dev nD) : Vec F S1x3072 .f32 := k0_pay3 (F := F) (iblk m c 2 t0) (iblk m c 1 t0) (iblk m c 5 t0) (iblk m c 3 t0)
def gain (c : Dev nD) : Vec F S1x1024 .f32 := k0_pay4 (F := F) (iblk m c 2 t0) (iblk m c 4 t0)

/-- What the array of the parts holds before point `n`, as the body finds and leaves it. -/
def keeps (c : Dev nD) (n : ℕ) : sProp 𝕄 :=
  iprop(∃ x, ⌜n ≠ 0 → x = side m c⌝ ∗ owns (c : Thread nD τ) (Memref.whole cc0_scratch0) fullShare x ∗ ∃ r, prngReg c r)

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => prod (grid0.coords t) (iblk m c 0 t) (side m c)
    | ⟨7, _⟩ => bias m c
    | ⟨8, _⟩ => gain m c
  Φ t := keeps m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = prod (grid0.coords t) (iblk m c 0 t) (side m c) := by dsimp only [dats]
theorem after_7 (c : Dev nD) (t : Fin cfg0.N) : (dats m 0 c).after 7 t = bias m c := by dsimp only [dats]
theorem after_8 (c : Dev nD) (t : Fin cfg0.N) : (dats m 0 c).after 8 t = gain m c := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- A result stored at the first point only is still there at the others. -/
theorem stays {c : Dev nD} (w : Fin cfg0.W) (x : (cfg0.win w).block.Idx → Elt F (cfg0.win w).elt)
    (hfetch : ∀ t, (cfg0.win w).fetch t = false) (hflush : ∀ t : Fin cfg0.N, (cfg0.win w).flush t = true → t.val % 8 = 7)
    (hidle : ∀ t : Fin cfg0.N, cfg0.idle w (cfg0.grid.coords t) = decide (t.val ≠ 0))
    (hkept : ∀ t d, (dats m 0 c).kept w t d = x) :
    ∀ (n : ℕ) (h : n + 1 < cfg0.N) (d), (dats m 0 c).before w ⟨n + 1, h⟩ d = x := by
  intro n
  induction n with
  | zero =>
    intro h d
    rw [Dat.before_of_pos _ w _ (Nat.succ_ne_zero _) (hfetch _), if_neg (fun e => absurd (hflush _ e) (by show ¬ (0 + 1 - 1) % 8 = 7; omega))]
    unfold Dat.left
    rw [hidle]
    exact hkept _ d
  | succ n ih =>
    intro h d
    have h8 : n + 1 + 1 < 8 := lt_of_lt_of_eq h count
    rw [Dat.before_of_pos _ w _ (Nat.succ_ne_zero _) (hfetch _), if_neg (fun e => absurd (hflush _ e) (by show ¬ (n + 1 + 1 - 1) % 8 = 7; omega))]
    unfold Dat.left
    rw [hidle]
    exact ih _ d

theorem idle_first (t : Fin cfg0.N) : (!(k0_cond1 (grid0.coords t) == 1#1)) = decide (t.val ≠ 0) := by
  by_cases h : t.val = 0
  · rw [(first_iff t).mpr h, decide_eq_false (not_not.mpr h)]; rfl
  · have h' : ¬ k0_cond1 (grid0.coords t) = 1#1 := fun e => h ((first_iff t).mp e)
    simp [h', h]

theorem before_7 (c : Dev nD) (t : Fin cfg0.N) (h : t.val ≠ 0) (d) : (dats m 0 c).before 7 t d = bias m c := by
  obtain ⟨n, e⟩ := Nat.exists_eq_succ_of_ne_zero h
  have ht : t = ⟨n + 1, lt_of_eq_of_lt e.symm t.isLt⟩ := Fin.ext e
  rw [ht]
  exact stays m 7 (bias m c) (fun _ => rfl) (fun t e => (flush0_7 t).mp e) idle_first (fun _ _ => rfl) n _ d

theorem before_8 (c : Dev nD) (t : Fin cfg0.N) (h : t.val ≠ 0) (d) : (dats m 0 c).before 8 t d = gain m c := by
  obtain ⟨n, e⟩ := Nat.exists_eq_succ_of_ne_zero h
  have ht : t = ⟨n + 1, lt_of_eq_of_lt e.symm t.isLt⟩ := Fin.ext e
  rw [ht]
  exact stays m 8 (gain m c) (fun _ => rfl) (fun t e => (flush0_8 t).mp e) idle_first (fun _ _ => rfl) n _ d

/-- A window that is stored, or that holds what the data says, is left at what the data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [show cfg0.idle w (cfg0.grid.coords t) = false from h]

theorem leaves_held (c : Dev nD) (w : Fin cfg0.W) (t : Fin cfg0.N) (h : cfg0.idle w (grid0.coords t) = true → ∀ d, (dats m 0 c).before w t d = (dats m 0 c).after w t) :
    owns (c : Thread nD τ) ((cfg0.win w).stage (cfg0.slots t w)) fullShare ((dats m 0 c).after w t) ⊢ (dats m 0 c).leavesExact w t := by
  cases hi : cfg0.idle w (grid0.coords t) with
  | false => rw [leaves_live m c w t hi]
  | true =>
    unfold Dat.leavesExact
    rw [show cfg0.idle w (cfg0.grid.coords t) = true from hi]
    cases hf : (cfg0.win w).flush t with
    | true => exact .rfl
    | false =>
      simp only [h hi]
      iintro H
      iexists (dats m 0 c).after w t
      iexact H

set_option maxHeartbeats 1000000 in
/-- The body at any point. -/
theorem sound_body (c : Dev nD) (t : Fin cfg0.N) :
    iprop(keeps m c t.val ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d))
        ∗ (∃ d, owns (c : Thread nD τ) (st0_8 t) fullShare ((dats m 0 c).before 8 t d)))
      ⊢ wp frame (wpE (defs₀ (F := F)) Variants.none (c : Thread nD τ) none) Set.univ (bodyAt0 t) (fun _ =>
        iprop(keeps m c (t.val + 1) ∗ (dats m 0 c).owesAt () t.castSucc
          ∗ (dats m 0 c).leavesExact 0 t ∗ (dats m 0 c).leavesExact 1 t ∗ (dats m 0 c).leavesExact 2 t ∗ (dats m 0 c).leavesExact 3 t
          ∗ (dats m 0 c).leavesExact 4 t ∗ (dats m 0 c).leavesExact 5 t ∗ (dats m 0 c).leavesExact 6 t ∗ (dats m 0 c).leavesExact 7 t
          ∗ (dats m 0 c).leavesExact 8 t)) := by
  unfold bodyAt0
  simp only [before_0, before_1, before_2, before_3, before_4, before_5]
  rw [leaves_live m c 0 t rfl, leaves_live m c 1 t rfl, leaves_live m c 2 t rfl, leaves_live m c 3 t rfl, leaves_live m c 4 t rfl,
    leaves_live m c 5 t rfl, leaves_live m c 6 t rfl, after_0, after_1, after_2, after_3, after_4, after_5, after_6]
  have h7 : cfg0.idle 7 (grid0.coords t) = true → t.val ≠ 0 := fun e => of_decide_eq_true ((idle_first t).symm.trans e)
  have l7 := leaves_held m c 7 t fun e d => (before_7 m c t (h7 e) d).trans (after_7 m c t).symm
  have l8 := leaves_held m c 8 t fun e d => (before_8 m c t (h7 e) d).trans (after_8 m c t).symm
  rw [after_7] at l7
  rw [after_8] at l8
  unfold keeps
  iintro ⟨⟨%x, %hx, Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run (grid0.coords t) (iblk m c 0 t) (iblk m c 1 t) (iblk m c 2 t) (iblk m c 3 t) (iblk m c 4 t) (iblk m c 5 t)
    ((dats m 0 c).before 6 t d6) ((dats m 0 c).before 7 t d7) ((dats m 0 c).before 8 t d8) x
    _ _ _ _ _ _ _ _ _ _ _ _ _ _ _ _ _ _ _ _ (side m c) (bias m c) (gain m c)
    (fun e => by
      obtain rfl : t = t0 := Fin.ext ((first_iff t).mp e)
      exact ⟨rfl, rfl, rfl⟩)
    (fun e => by
      have h : t.val ≠ 0 := fun h => e ((first_iff t).mpr h)
      exact ⟨(hx h).symm, (before_7 m c t h d7).symm, (before_8 m c t h d8).symm⟩) _)
    $$ [H0 H1 H2 H3 H4 H5 H6 H7 H8 Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hs
  iintro H0 H1 H2 H3 H4 H5 H6 H7 H8 Hs
  isplitl [Hs Hr]
  · iexists side m c
    isplitr
    · ipureintro; intro _; rfl
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply l7; iexact H7
  iapply l8; iexact H8

theorem defs₀_row (t : Fin cfg0.N) :
    defs₀ (F := F) .tc cfg0.body (cfg0.bodyArgs t (cfg0.slots t)) = bodyAt0 t := by
  unfold defs₀; rw [Defs.onTc_tc]

/-- The body obligation of the launch. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the launch. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      unfold ΦA
      rw [scopedRest0_eq]
      show _ ⊢ keeps m c 0
      unfold keeps
      simp only [owns_whole]
      iintro ⟨⟨%f, H⟩, Hr⟩
      iexists f
      isplitr; · ipureintro; intro h; exact absurd rfl h
      isplitl [H]; · iexact H
      iexact Hr)
    (hout := fun c => by
      unfold ΦA
      rw [scopedRest0_eq]
      show keeps m c (Fin.last cfg0.N).val ⊢ _
      unfold keeps
      simp only [owns_whole]
      iintro ⟨%f, -, H, Hr⟩
      isplitl [H]
      · iexists f; iexact H
      iexact Hr)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

theorem frame_ideal : Cert.quiescent_Kernel9Ideal := fun m ρ _ => frame m ρ

/-- The kernel's frame is the ideal program's: the two have the same text. -/
theorem frame_kernel : Cert.quiescent_Kernel9 := fun m ρ _ => by
  refine Eq.mp ?_ (frame (F := Bits) m ρ)
  sl_kernel_rfl

/-- The reference's frame. -/
theorem frame_reference : Cert.quiescent_Reference9Ideal := fun m ρ _ =>
  (θ_run Cert.Reference9Ideal.defs _ _).mono (fun r h => ⟨fun c => (h c).2.2.2, funext fun s => nomatch s.2⟩) (Cert.Reference9Ideal.Value.run (F := Ideal) m ρ)

end Cert.AdaSb
end
-- ==== Proof.AdaSbReference.lean ====
/- Hand-written, untrusted: what the reference of the conditioning's gradient with the gradient of its weight computes. -/
module

public import proofs.«01_k».proof.Proof.Gen.Reference9Ideal.Read
public import proofs.«01_k».proof.Proof.AdaReference

@[expose] public section

set_option maxRecDepth 16384

noncomputable section

namespace Cert.AdaSb

open Idealize.ShloMosaic Cert.Reference9Ideal Cert.Reference9Ideal.Read
open Cert.Ada (col dmod scale)

variable (x0 : S4x1024.Idx → EReal) (x1 : S1024x3072.Idx → EReal) (x2 : S3072.Idx → EReal) (x3 : S1024.Idx → EReal) (x4 x5 x6 : S4x1x1024.Idx → EReal)

/-- The conditioning's activation. -/
def silu (x : EReal) : EReal := x * Ideal.div 1 (1 + Ideal.exp (-x))

/-- The parts side by side are those of the other layer. -/
theorem parts : val_main_v25 (F := Ideal) x3 x4 x5 x6 = Cert.Reference5Ideal.Read.val_main_v27 (F := Ideal) x3 x4 x5 x6 := rfl

theorem silu_read (i : Fin 4) (j : Fin 1024) : val_main_v0 (F := Ideal) x0 (ix2 i j) = silu (x0 (ix2 i j)) := by
  rw [val_main_v0_apply, val_main_call0_v5_apply, val_main_call0_v4_apply, val_main_call0_v3_apply, val_main_call0_v2_apply,
    val_main_call0_v1_apply, val_main_call0_v0_apply, val_main_call0_cst_apply, val_main_call0_cst_0_apply]
  show x0 (ix2 i j) * Ideal.div (Ideal.ofBits .f32 0x3F800000#32) (Ideal.ofBits .f32 0x3F800000#32 + Ideal.exp (-x0 (ix2 i j))) = _
  rw [Ideal.ofBits_one_f32]
  rfl

/-- Column `b` of block `t` of eight. -/
def lane (t : Fin 8) (b : Fin 384) : Fin 3072 := ⟨t.val * 384 + b.val, by omega⟩

/-- The first result. -/
theorem first (t : Fin 8) (a : Fin 1024) (b : Fin 384) (n : Fin 3) (j : Fin 1024) (h : lane t b = col n j) :
    val_main_v33 (F := Ideal) x0 x3 x4 x5 x6 (ix3 t a b) = ∑ i : Fin 4, dmod x3 x4 x5 x6 n i j * silu (x0 (ix2 i a)) := by
  have ht := t.isLt
  have ha := a.isLt
  have hb := b.isLt
  have e31 : idx_main_v31 (idx_main_v32 (ix3 t a b)) = ix2 a (col n j) := by
    rw [← h]
    funext e
    match e with
    | ⟨0, _⟩ => exact Fin.ext (by show ((a.val * 8 + t.val) * 384 + b.val) / 3072 = a.val; omega)
    | ⟨1, _⟩ => exact Fin.ext (by show ((a.val * 8 + t.val) * 384 + b.val) % 3072 = t.val * 384 + b.val; omega)
  have el : ∀ k, lidx_main_v29 (idx_main_v30 (ix2 a (col n j))) k = ix2 k (col n j) := fun k => by
    funext e; match e with | ⟨0, _⟩ => rfl | ⟨1, _⟩ => rfl
  have er : ∀ k, ridx_main_v29 (idx_main_v30 (ix2 a (col n j))) k = ix2 k a := fun k => by
    funext e; match e with | ⟨0, _⟩ => rfl | ⟨1, _⟩ => rfl
  rw [val_main_v33_apply]
  show val_main_v32 (F := Ideal) x0 x3 x4 x5 x6 (ix3 t a b) = _
  rw [val_main_v32_apply, val_main_v31_apply, e31, val_main_v30_apply, val_main_v29_apply]
  simp only [el, er, silu_read, parts, Cert.Ada.dmod_read]

/-- The second result. -/
theorem second (n : Fin 3) (j : Fin 1024) : val_main_v34 (F := Ideal) x3 x4 x5 x6 (ix2 0 (col n j)) = ∑ i : Fin 4, dmod x3 x4 x5 x6 n i j :=
  (show val_main_v34 (F := Ideal) x3 x4 x5 x6 (ix2 0 (col n j)) = Cert.Reference5Ideal.Read.val_main_v32 (F := Ideal) x3 x4 x5 x6 (ix2 0 (col n j)) from rfl).trans
    (Cert.Ada.second x3 x4 x5 x6 n j)

theorem scale_read (i : Fin 4) (j : Fin 1024) : val_main_v6 (F := Ideal) x0 x1 x2 (ix2 i j) = scale x0 x1 x2 i j := by
  have e6 : idx_main_v6 (ix2 i j) = ix2 i (col 1 j) := by
    funext a
    match a with
    | ⟨0, _⟩ => exact Fin.ext (by simp [ix2])
    | ⟨1, _⟩ => exact Fin.ext (by simp [ix2, col])
  have e2 : idx_main_v2 (idx_main_v3 (ix2 i (col 1 j))) = ix1 (col 1 j) := by
    funext a; match a with | ⟨0, _⟩ => rfl
  rw [val_main_v6_apply, e6, val_main_v4_apply, val_main_v3_apply, val_main_v2_apply, e2]
  rfl

/-- The third result. -/
theorem third (j : Fin 1024) : val_main_v35 (F := Ideal) x0 x1 x2 x5 (ix2 0 j) = ∑ i : Fin 4, (1 + scale x0 x1 x2 i j) * x5 (ix3 i 0 j) := by
  have e35 : idx_main_v35 (ix2 0 j) = ix1 j := by
    funext a; match a with | ⟨0, _⟩ => exact Fin.ext (by simp [ix2, ix1])
  have e20 : idx_main_v20 (ix3 0 0 j) = ix2 0 j := by
    funext a; match a with | ⟨0, _⟩ => exact Subsingleton.elim (α := Fin 1) _ _ | ⟨1, _⟩ => exact Fin.ext (by simp [ix2, ix3])
  have e19 : ∀ k, idx_main_v19 (ix2 0 j) k = ix3 k 0 j := fun k => by
    funext a; match a with | ⟨0, _⟩ => rfl | ⟨1, _⟩ => rfl | ⟨2, _⟩ => rfl
  have e9 : ∀ k : Fin 4, idx_main_v9 (ix3 k 0 j) = ix2 k j := fun k => by
    funext a; match a with | ⟨0, _⟩ => rfl | ⟨1, _⟩ => rfl
  rw [val_main_v35_apply, e35]
  unfold val_main_v21
  refine (Cert.Window.reduce_r3_a01 _ _ _ j).trans ?_
  rw [Fin.sum_univ_one, Fin.sum_univ_one, val_main_v20_apply, e20, val_main_v19_apply, val_main_cst_0_apply, val_main_cst_1_apply]
  simp only [e19, val_main_v18_apply, val_main_v12_apply, val_main_v11_apply, val_main_cst_apply, val_main_v9_apply, e9, scale_read]
  show Ideal.ofBits .f32 0x00000000#32 + (Ideal.ofBits .f32 0x00000000#32
    + ∑ k : Fin 4, x5 (ix3 k 0 j) * (Ideal.ofBits .f32 0x3F800000#32 + scale x0 x1 x2 k j)) = _
  rw [Ideal.ofBits_zero_f32, zero_add, zero_add, Ideal.ofBits_one_f32]
  exact Finset.sum_congr rfl fun k _ => mul_comm _ _

end Cert.AdaSb
end
-- ==== Proof.AdaSbProof.lean ====
/- Hand-written, untrusted: what the kernel of the conditioning's gradient with the gradient of its weight computes. -/
module

public import proofs.«01_k».proof.Proof.AdaSbFrame
public import proofs.«01_k».proof.Proof.AdaSbReference
public import proofs.«01_k».proof.Proof.AdaKernel

@[expose] public section

set_option maxRecDepth 16384

noncomputable section

namespace Cert.AdaSb

open Idealize.ShloMosaic Idealize.ShloMosaic.TcCoe Cert.Kernel9Ideal Cert.Kernel9Ideal.Gen
open VecWindow (window put)
open Cert.Ada (padded sum_padded col col_of dmod scale mid mid_read Rows)
open Cert.Kernel5Ideal.Gen (k0_pay2 k0_pay3 k0_pay4)

/-- The activation of padded rows times padded rows. -/
theorem padded_silu (f g : Fin 4 → EReal) (r : Fin 16) : silu (padded f r) * padded g r = padded (fun i => g i * silu (f i)) r := by
  unfold padded
  split_ifs
  · exact mul_comm _ _
  · exact mul_zero _

/-- The offset of a point's columns. -/
theorem off1 : ∀ t : Fin grid0.N, k0_off1 (grid0.coords t) = ![0, t.val * 384] := by decide +kernel

theorem window_at (X : S16x3072.Idx → EReal) (off : Fin 2 → Nat) (inb : ∀ a, off a + S16x384.size a ≤ S16x3072.size a) (t : Fin 8)
    (h : off = ![0, t.val * 384]) (r : Fin 16) (b : Fin 384) : window X off S16x384.size inb (ix2 r b) = X (ix2 r (lane t b)) := by
  subst h
  unfold window
  refine congrArg X (funext fun a => Fin.ext ?_)
  match a with
  | ⟨0, _⟩ => show 0 + 1 * r.val = r.val; omega
  | ⟨1, _⟩ => show t.val * 384 + 1 * b.val = t.val * 384 + b.val; omega

theorem act (x : Vec Ideal S16x1024 .f32) (r : Fin 16) (a : Fin 1024) :
    (mulf (F := Ideal) (φ := .f32) (shapeCast S16x1024 x Gen.facts.shapeCasts_S16x1024_S16x1024) (divf (broadcast S16x1024 (Scalar.ofBits .f32 0x3F800000#32))
      (addf (broadcast S16x1024 (Scalar.ofBits .f32 0x3F800000#32)) (exp (subf (broadcast S16x1024 (Scalar.ofBits .f32 0x00000000#32))
        (shapeCast S16x1024 x Gen.facts.shapeCasts_S16x1024_S16x1024))))) (ix2 r a) : EReal) = silu (x (ix2 r a)) := by
  unfold silu
  pointwise
  rw [zero_sub]

theorem rows_times (A : FVec Ideal S16x1024 .bf16) (B : FVec Ideal S16x384 .bf16) (a : Fin 1024) (b : Fin 384) :
    (shapeCast S1x1024x384 (truncf (F := Ideal) .bf16 (matmul dot_S16x1024_S16x384_S1024x384_0_0_1_1_n_n none A B (constant S1024x384 .f32 0x00000000#32))
      Gen.facts.bitsLt_bf16_f32) Gen.facts.shapeCasts_S1024x384_S1x1024x384 (ix3 0 a b) : EReal)
      = ∑ r : Fin 16, (A (ix2 r a) : EReal) * B (ix2 r b) := by
  pointwise

theorem prod_apply (t : Fin grid0.N) (t' : Fin 8) (h : t.val = t'.val) (x : Vec Ideal S16x1024 .f32) (D : Vec Ideal S16x3072 .f32) (a : Fin 1024) (b : Fin 384) :
    prod (F := Ideal) (grid0.coords t) x D (ix3 0 a b) = ∑ r : Fin 16, silu (x (ix2 r a)) * (D (ix2 r (lane t' b)) : EReal) := by
  unfold prod
  refine (rows_times _ _ a b).trans (Finset.sum_congr rfl fun r _ => ?_)
  exact congrArg₂ (fun u v : EReal => u * v) (act x r a) (window_at D _ _ t' ((off1 t).trans (by rw [h])) r b)

theorem same (X : Vec Ideal S16x3072 .f32) : shapeCast S16x3072 X Gen.facts.shapeCasts_S16x3072_S16x3072 = X := by
  funext y
  obtain ⟨a, b, rfl⟩ : ∃ (a : Fin 16) (b : Fin 3072), y = ix2 a b := ⟨y 0, y 1, (ix2_eta y).symm⟩
  pointwise

variable (m : (ℓ : Loc nD τ sig) → Buf (Elt Ideal) ℓ)

/-- The arguments' contents. -/
abbrev arg0 (c : Dev nD) : S4x1024.Idx → EReal := m ((c : Thread nD τ).loc main_arg0)
abbrev arg1 (c : Dev nD) : S1024x3072.Idx → EReal := m ((c : Thread nD τ).loc main_arg1)
abbrev arg2 (c : Dev nD) : S3072.Idx → EReal := m ((c : Thread nD τ).loc main_arg2)
abbrev arg3 (c : Dev nD) : S1024.Idx → EReal := m ((c : Thread nD τ).loc main_arg3)
abbrev arg4 (c : Dev nD) : S4x1x1024.Idx → EReal := m ((c : Thread nD τ).loc main_arg4)
abbrev arg5 (c : Dev nD) : S4x1x1024.Idx → EReal := m ((c : Thread nD τ).loc main_arg5)
abbrev arg6 (c : Dev nD) : S4x1x1024.Idx → EReal := m ((c : Thread nD τ).loc main_arg6)

theorem V_main_v11 (c : Dev nD) (r : Fin 16) (j : Fin 1024) : V m c main_v11 (ix2 r j) = padded (fun i => arg0 m c (ix2 i j)) r := by
  have e : V m c main_v11 = pad S16x1024 ![0, 0] ![12, 0] ![0, 0] (arg0 m c)
      (sitofp (F := Ideal) .f32 (constantI S_ 32 0#32)) Gen.facts.pads_S4x1024_S16x1024_0120_000 Gen.facts.h_S_ := by
    simp only [V, hostOps0, hostOps0_1, hostOps0_2, hostOps0_3, hostOps0_4, hostOps0_5, hostOps0_6, hostOps0_7, hostOps0_8, hostOps0_9, hostOps0_10, hostOps0_11,
      List.flatten_cons, List.flatten_nil, List.append_nil, List.cons_append, List.nil_append]
    after_results <;> rfl
  rw [e]
  exact Cert.Ada.pad_rows _ _ _ _ (Cert.Ada.pad_zero _ _) r j

theorem V_main_v13 (c : Dev nD) (r : Fin 16) (j : Fin 1024) : V m c main_v13 (ix2 r j) = padded (fun i => arg4 m c (ix3 i 0 j)) r := by
  have e : V m c main_v13 = pad S16x1024 ![0, 0] ![12, 0] ![0, 0] (shapeCast S4x1024 (arg4 m c) Gen.facts.shapeCasts_S4x1x1024_S4x1024)
      (sitofp (F := Ideal) .f32 (constantI S_ 32 0#32)) Gen.facts.pads_S4x1024_S16x1024_0120_000 Gen.facts.h_S_ := by
    simp only [V, hostOps0, hostOps0_1, hostOps0_2, hostOps0_3, hostOps0_4, hostOps0_5, hostOps0_6, hostOps0_7, hostOps0_8, hostOps0_9, hostOps0_10, hostOps0_11,
      List.flatten_cons, List.flatten_nil, List.append_nil, List.cons_append, List.nil_append]
    after_results <;> rfl
  rw [e]
  exact Cert.Ada.pad_flat _ r j

theorem V_main_v15 (c : Dev nD) (r : Fin 16) (j : Fin 1024) : V m c main_v15 (ix2 r j) = padded (fun i => arg5 m c (ix3 i 0 j)) r := by
  have e : V m c main_v15 = pad S16x1024 ![0, 0] ![12, 0] ![0, 0] (shapeCast S4x1024 (arg5 m c) Gen.facts.shapeCasts_S4x1x1024_S4x1024)
      (sitofp (F := Ideal) .f32 (constantI S_ 32 0#32)) Gen.facts.pads_S4x1024_S16x1024_0120_000 Gen.facts.h_S_ := by
    simp only [V, hostOps0, hostOps0_1, hostOps0_2, hostOps0_3, hostOps0_4, hostOps0_5, hostOps0_6, hostOps0_7, hostOps0_8, hostOps0_9, hostOps0_10, hostOps0_11,
      List.flatten_cons, List.flatten_nil, List.append_nil, List.cons_append, List.nil_append]
    after_results <;> rfl
  rw [e]
  exact Cert.Ada.pad_flat _ r j

theorem V_main_v17 (c : Dev nD) (r : Fin 16) (j : Fin 1024) : V m c main_v17 (ix2 r j) = padded (fun i => arg6 m c (ix3 i 0 j)) r := by
  have e : V m c main_v17 = pad S16x1024 ![0, 0] ![12, 0] ![0, 0] (shapeCast S4x1024 (arg6 m c) Gen.facts.shapeCasts_S4x1x1024_S4x1024)
      (sitofp (F := Ideal) .f32 (constantI S_ 32 0#32)) Gen.facts.pads_S4x1024_S16x1024_0120_000 Gen.facts.h_S_ := by
    simp only [V, hostOps0, hostOps0_1, hostOps0_2, hostOps0_3, hostOps0_4, hostOps0_5, hostOps0_6, hostOps0_7, hostOps0_8, hostOps0_9, hostOps0_10, hostOps0_11,
      List.flatten_cons, List.flatten_nil, List.append_nil, List.cons_append, List.nil_append]
    after_results <;> rfl
  rw [e]
  exact Cert.Ada.pad_flat _ r j

theorem V_main_v19 (c : Dev nD) (r : Fin 16) (j : Fin 1024) : V m c main_v19 (ix2 r j) = padded (fun i => scale (arg0 m c) (arg1 m c) (arg2 m c) i j) r := by
  have e : V m c main_v19 = pad S16x1024 ![0, 0] ![12, 0] ![0, 0] (shapeCast S4x1024 (mid (arg0 m c) (arg1 m c) (arg2 m c)) Gen.facts.shapeCasts_S4x1x1024_S4x1024)
      (sitofp (F := Ideal) .f32 (constantI S_ 32 0#32)) Gen.facts.pads_S4x1024_S16x1024_0120_000 Gen.facts.h_S_ := by
    simp only [V, hostOps0, hostOps0_1, hostOps0_2, hostOps0_3, hostOps0_4, hostOps0_5, hostOps0_6, hostOps0_7, hostOps0_8, hostOps0_9, hostOps0_10, hostOps0_11,
      List.flatten_cons, List.flatten_nil, List.append_nil, List.cons_append, List.nil_append]
    after_results <;> rfl
  rw [e]
  exact (Cert.Ada.pad_flat _ r j).trans (congrArg (padded · r) (funext fun i => mid_read _ _ _ i j))

theorem V_main_v20 (c : Dev nD) (j : Fin 1024) : V m c main_v20 (ix2 0 j) = arg3 m c (ix1 j) := by
  have e : V m c main_v20 = shapeCast S1x1024 (arg3 m c) Gen.facts.shapeCasts_S1024_S1x1024 := by
    simp only [V, hostOps0, hostOps0_1, hostOps0_2, hostOps0_3, hostOps0_4, hostOps0_5, hostOps0_6, hostOps0_7, hostOps0_8, hostOps0_9, hostOps0_10, hostOps0_11,
      List.flatten_cons, List.flatten_nil, List.append_nil, List.cons_append, List.nil_append]
    after_results <;> rfl
  rw [e]
  pointwise

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx6 : ∀ t : Fin cfg0.N, win0_6.index t = ![t.val, 0, 0] := (by decide +kernel : ∀ t : Fin grid0.N, win0_6.index t = ![t.val, 0, 0])

theorem iblk0_at (c : Dev nD) (t : Fin cfg0.N) (r : Fin 16) (j : Fin 1024) : iblk m c 0 t (ix2 r j) = V m c main_v11 (ix2 r j) := by
  blk_simp [iblk]
  refine congrArg (V m c main_v11) ?_
  blk_ext [idx0]

theorem iblk1_at (c : Dev nD) (t : Fin cfg0.N) (r : Fin 16) (j : Fin 1024) : iblk m c 1 t (ix2 r j) = V m c main_v13 (ix2 r j) := by
  blk_simp [iblk]
  refine congrArg (V m c main_v13) ?_
  blk_ext [idx1]

theorem iblk2_at (c : Dev nD) (t : Fin cfg0.N) (r : Fin 16) (j : Fin 1024) : iblk m c 2 t (ix2 r j) = V m c main_v15 (ix2 r j) := by
  blk_simp [iblk]
  refine congrArg (V m c main_v15) ?_
  blk_ext [idx2]

theorem iblk3_at (c : Dev nD) (t : Fin cfg0.N) (r : Fin 16) (j : Fin 1024) : iblk m c 3 t (ix2 r j) = V m c main_v17 (ix2 r j) := by
  blk_simp [iblk]
  refine congrArg (V m c main_v17) ?_
  blk_ext [idx3]

theorem iblk4_at (c : Dev nD) (t : Fin cfg0.N) (r : Fin 16) (j : Fin 1024) : iblk m c 4 t (ix2 r j) = V m c main_v19 (ix2 r j) := by
  blk_simp [iblk]
  refine congrArg (V m c main_v19) ?_
  blk_ext [idx4]

theorem iblk5_at (c : Dev nD) (t : Fin cfg0.N) (j : Fin 1024) : iblk m c 5 t (ix2 0 j) = arg3 m c (ix1 j) := by
  rw [← V_main_v20]
  blk_simp [iblk]
  refine congrArg (V m c main_v20) ?_
  blk_ext [idx5]

/-- The operands at a point. -/
theorem rows (c : Dev nD) (t : Fin cfg0.N) : Rows (iblk m c 2 t) (iblk m c 1 t) (iblk m c 3 t) (iblk m c 4 t) (iblk m c 5 t)
    (arg0 m c) (arg1 m c) (arg2 m c) (arg3 m c) (arg4 m c) (arg5 m c) (arg6 m c) where
  ds r j := (iblk1_at m c t r j).trans (V_main_v13 m c r j)
  p r j := (iblk2_at m c t r j).trans (V_main_v15 m c r j)
  dg r j := (iblk3_at m c t r j).trans (V_main_v17 m c r j)
  sc r j := (iblk4_at m c t r j).trans (V_main_v19 m c r j)
  g j := iblk5_at m c t j

/-- The results, read at an index. -/
def resA (c : Dev nD) (x : S8x1024x384.Idx) : EReal := Cert.Reference9Ideal.Read.val_main_v33 (F := Ideal) (arg0 m c) (arg3 m c) (arg4 m c) (arg5 m c) (arg6 m c) x
def resB (c : Dev nD) (x : S1x3072.Idx) : EReal := Cert.Reference9Ideal.Read.val_main_v34 (F := Ideal) (arg3 m c) (arg4 m c) (arg5 m c) (arg6 m c) x
def resC (c : Dev nD) (x : S1x1024.Idx) : EReal := Cert.Reference9Ideal.Read.val_main_v35 (F := Ideal) (arg0 m c) (arg1 m c) (arg2 m c) (arg5 m c) x

theorem side_at (c : Dev nD) (n : Fin 3) (r : Fin 16) (j : Fin 1024) :
    side m c (ix2 r (col n j)) = padded (fun i => dmod (arg3 m c) (arg4 m c) (arg5 m c) (arg6 m c) n i j) r := by
  unfold side dmods
  exact (congrFun (same _) _).trans ((rows m c t0).dmod n r j)

theorem result6 (c : Dev nD) : (dats m 0 c).arrAt 6 cfg0.N = resA m c := by
  refine (dats m 0 c).arrAt_eq_of_covers 6 _ (by decide +kernel) fun t hf y => ?_
  obtain ⟨a, b, rfl⟩ : ∃ (a : Fin 1024) (b : Fin 384), y = ix3 (0 : Fin 1) a b :=
    ⟨y 1, y 2, by rw [← show y 0 = (0 : Fin 1) from Subsingleton.elim (α := Fin 1) _ _]; exact (ix3_eta y).symm⟩
  have ht : t.val < 8 := lt_of_lt_of_eq t.isLt count
  have eg : (((cfg0.win 6).blk t).view.emb (ix3 0 a b)) = ix3 (⟨t.val, ht⟩ : Fin 8) a b := by
    blk_ext [idx6]
  obtain ⟨n, j, hn⟩ := col_of (lane ⟨t.val, ht⟩ b)
  blk_simp
  rw [after_6, eg]
  refine (prod_apply t ⟨t.val, ht⟩ rfl _ _ a b).trans ?_
  refine Eq.trans ?_ (first _ _ _ _ _ ⟨t.val, ht⟩ a b n j hn).symm
  rw [← sum_padded, hn]
  refine Finset.sum_congr rfl fun r _ => ?_
  exact (congrArg₂ (fun u v : EReal => silu u * v) ((iblk0_at m c t r a).trans (V_main_v11 m c r a)) (side_at m c n r j)).trans (padded_silu _ _ r)

theorem result7 (c : Dev nD) : (dats m 0 c).arrAt 7 cfg0.N = resB m c := by
  refine (dats m 0 c).arrAt_eq_of_covers 7 _ (by decide +kernel) fun t hf y => ?_
  obtain ⟨b, rfl⟩ : ∃ b : Fin 3072, y = ix2 (0 : Fin 1) b :=
    ⟨y 1, by rw [← show y 0 = (0 : Fin 1) from Subsingleton.elim (α := Fin 1) _ _]; exact (ix2_eta y).symm⟩
  have eg : (((cfg0.win 7).blk t).view.emb (ix2 0 b)) = ix2 0 b := by
    blk_ext [idx7]
  obtain ⟨n, j, rfl⟩ := col_of b
  blk_simp
  rw [after_7, eg]
  exact ((rows m c t0).sum n j).trans (second _ _ _ _ n j).symm

theorem result8 (c : Dev nD) : (dats m 0 c).arrAt 8 cfg0.N = resC m c := by
  refine (dats m 0 c).arrAt_eq_of_covers 8 _ (by decide +kernel) fun t hf y => ?_
  obtain ⟨b, rfl⟩ : ∃ b : Fin 1024, y = ix2 (0 : Fin 1) b :=
    ⟨y 1, by rw [← show y 0 = (0 : Fin 1) from Subsingleton.elim (α := Fin 1) _ _]; exact (ix2_eta y).symm⟩
  have eg : (((cfg0.win 8).blk t).view.emb (ix2 0 b)) = ix2 0 b := by
    blk_ext [idx8]
  blk_simp
  rw [after_8, eg]
  exact ((rows m c t0).gain b).trans (third _ _ _ _ b).symm

/-- What the kernel leaves in memory. -/
theorem run_blocks (ρ : Dev nD → PrngReg) :
    θ_run defs (onTc (τ := τ) (main (F := Ideal))) ⟨m, fun _ => 0, ρ⟩ fun r => ∀ c : Dev nD,
      r.2.mem ((c.tc : Thread nD τ).loc main_v21_0) = (dats m 0 c).arrAt 6 cfg0.N
      ∧ r.2.mem ((c.tc : Thread nD τ).loc main_v21_1) = (dats m 0 c).arrAt 7 cfg0.N
      ∧ r.2.mem ((c.tc : Thread nD τ).loc main_v21_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h.1.1 c).1 6, (h.1.1 c).1 7, (h.1.1 c).1 8, h.2.1 c⟩) (θ_run_and (run_quiescent m ρ) (frame m ρ))

/-- Kernel and reference compute the same arrays. -/
theorem equal : Cert.algebraic_Kernel9Ideal_Reference9Ideal := by
  intro m g m' g' _ hargs
  refine ⟨fun c => (dats m 0 c).arrAt 6 cfg0.N, fun c => (dats m 0 c).arrAt 7 cfg0.N, fun c => (dats m 0 c).arrAt 8 cfg0.N, run_blocks m g,
    (θ_run Cert.Reference9Ideal.defs _ _).mono (fun r h c => ?_) (Cert.Reference9Ideal.Value.run (F := Ideal) m' g')⟩
  obtain ⟨a0, a1, a2, a3, a4, a5, a6⟩ := hargs c
  refine ⟨(h c).1.trans ?_, (h c).2.1.trans ?_, (h c).2.2.1.trans ?_, (h c).2.2.2⟩
  · rw [Cert.Reference9Ideal.Read.val_main_v33_eq, a0, a3, a4, a5, a6]
    exact (result6 m c).symm
  · rw [Cert.Reference9Ideal.Read.val_main_v34_eq, a3, a4, a5, a6]
    exact (result7 m c).symm
  · rw [Cert.Reference9Ideal.Read.val_main_v35_eq, a0, a1, a2, a5]
    exact (result8 m c).symm

end Cert.AdaSb
end
-- ==== Proof.AdaFwdProof.lean ====
/- Hand-written, untrusted: what the kernel of the conditioning's forward pass computes: the activation of sixteen rows
   times the weight, plus the bias, on a single grid point. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.AdaSbReference

@[expose] public section

set_option maxRecDepth 16384

noncomputable section

namespace Cert.AdaFwd

open Idealize.ShloMosaic Idealize.ShloMosaic.TcCoe Cert.Kernel10Ideal Cert.Kernel10Ideal.Gen
open Cert.AdaSb (silu)

theorem pay1_apply (x : Vec Ideal S16x1024 .f32) (w : Vec Ideal S1024x3072 .bf16) (b : Vec Ideal S1x3072 .f32) (r : Fin 16) (j : Fin 3072) :
    k0_pay1 (F := Ideal) x w b (ix2 r j) = (∑ k : Fin 1024, silu (x (ix2 r k)) * (w (ix2 k j) : EReal)) + b (ix2 0 j) := by
  unfold k0_pay1 silu
  pointwise
  simp only [zero_sub]

section
open Cert.Reference10Ideal.Read
variable (x0 : S4x1024.Idx → EReal) (x1 : S1024x3072.Idx → EReal) (x2 : S3072.Idx → EReal)

theorem silu_read (r : Fin 16) (j : Fin 1024) : val_main_v1 (F := Ideal) x0 (ix2 r j) = silu (val_main_v0 (F := Ideal) x0 (ix2 r j)) := by
  rw [val_main_v1_apply, val_main_call1_v5_apply, val_main_call1_v4_apply, val_main_call1_v3_apply, val_main_call1_v2_apply,
    val_main_call1_v1_apply, val_main_call1_v0_apply, val_main_call1_cst_apply, val_main_call1_cst_0_apply]
  show _ * Ideal.div (Ideal.ofBits .f32 0x3F800000#32) (Ideal.ofBits .f32 0x3F800000#32 + Ideal.exp (-_)) = _
  rw [Ideal.ofBits_one_f32]
  rfl

theorem read (r : Fin 16) (j : Fin 3072) : val_main_v5 (F := Ideal) x0 x1 x2 (ix2 r j)
    = (∑ k : Fin 1024, silu (val_main_v0 (F := Ideal) x0 (ix2 r k)) * x1 (ix2 k j)) + x2 (ix1 j) := by
  have el : ∀ k, lidx_main_v2 (ix2 r j) k = ix2 r k := fun k => by funext e; match e with | ⟨0, _⟩ => rfl | ⟨1, _⟩ => rfl
  have er : ∀ k, ridx_main_v2 (ix2 r j) k = ix2 k j := fun k => by funext e; match e with | ⟨0, _⟩ => rfl | ⟨1, _⟩ => rfl
  have e4 : idx_main_v3 (idx_main_v4 (ix2 r j)) = ix1 j := by funext e; match e with | ⟨0, _⟩ => rfl
  rw [val_main_v5_apply, val_main_v2_apply, val_main_v4_apply, val_main_v3_apply, e4]
  simp only [el, er, silu_read]
  rfl

end

variable (m : (ℓ : Loc nD τ sig) → Buf (Elt Ideal) ℓ)

/-- The arguments' contents. -/
abbrev arg0 (c : Dev nD) : S4x1024.Idx → EReal := m ((c : Thread nD τ).loc main_arg0)
abbrev arg1 (c : Dev nD) : S1024x3072.Idx → EReal := m ((c : Thread nD τ).loc main_arg1)
abbrev arg2 (c : Dev nD) : S3072.Idx → EReal := m ((c : Thread nD τ).loc main_arg2)

theorem V_main_v0 (c : Dev nD) : V m c main_v0 = Cert.Reference10Ideal.Read.val_main_v0 (F := Ideal) (arg0 m c) := by
  simp only [V, hostOps0, hostOps0_1, hostOps0_2, List.flatten_cons, List.flatten_nil, List.append_nil, List.cons_append, List.nil_append]
  after_results <;> rfl

theorem V_main_v1 (c : Dev nD) : V m c main_v1 = arg1 m c := by
  simp only [V, hostOps0, hostOps0_1, hostOps0_2, List.flatten_cons, List.flatten_nil, List.append_nil, List.cons_append, List.nil_append]
  after_results <;> rfl

theorem V_main_v2 (c : Dev nD) (j : Fin 3072) : V m c main_v2 (ix2 0 j) = arg2 m c (ix1 j) := by
  have e : V m c main_v2 = shapeCast S1x3072 (arg2 m c) Gen.facts.shapeCasts_S3072_S1x3072 := by
    simp only [V, hostOps0, hostOps0_1, hostOps0_2, List.flatten_cons, List.flatten_nil, List.append_nil, List.cons_append, List.nil_append]
    after_results <;> rfl
  rw [e]
  pointwise

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])

theorem iblk0_at (c : Dev nD) (t : Fin cfg0.N) (r : Fin 16) (k : Fin 1024) :
    iblk m c 0 t (ix2 r k) = Cert.Reference10Ideal.Read.val_main_v0 (F := Ideal) (arg0 m c) (ix2 r k) := by
  rw [← V_main_v0]
  blk_simp [iblk]
  refine congrArg (V m c main_v0) ?_
  blk_ext [idx0]

theorem iblk1_at (c : Dev nD) (t : Fin cfg0.N) (k : Fin 1024) (j : Fin 3072) : iblk m c 1 t (ix2 k j) = arg1 m c (ix2 k j) := by
  rw [← V_main_v1]
  blk_simp [iblk]
  refine congrArg (V m c main_v1) ?_
  blk_ext [idx1]

theorem iblk2_at (c : Dev nD) (t : Fin cfg0.N) (j : Fin 3072) : iblk m c 2 t (ix2 0 j) = arg2 m c (ix1 j) := by
  rw [← V_main_v2]
  blk_simp [iblk]
  refine congrArg (V m c main_v2) ?_
  blk_ext [idx2]

/-- The result. -/
theorem result3 (c : Dev nD) : (dats m 0 c).arrAt 3 cfg0.N
    = fun x : S16x3072.Idx => (Cert.Reference10Ideal.Read.val_main_v5 (F := Ideal) (arg0 m c) (arg1 m c) (arg2 m c) x : EReal) := by
  refine (dats m 0 c).arrAt_eq_of_covers 3 _ (by decide +kernel) fun t hf y => ?_
  obtain ⟨a, b, rfl⟩ : ∃ (a : Fin 16) (b : Fin 3072), y = ix2 a b := ⟨y 0, y 1, (ix2_eta y).symm⟩
  have eg : (((cfg0.win 3).blk t).view.emb (ix2 a b)) = ix2 a b := by
    blk_ext [idx3]
  blk_simp
  rw [after0_3]
  frame_out
  rw [eg, read]
  refine (pay1_apply _ _ _ a b).trans ?_
  rw [iblk2_at]
  simp only [iblk0_at, iblk1_at]

/-- The reference's frame. -/
theorem frame_reference : Cert.quiescent_Reference10Ideal := fun m ρ _ =>
  (θ_run Cert.Reference10Ideal.defs _ _).mono (fun r h => ⟨fun c => (h c).2, funext fun s => nomatch s.2⟩) (Cert.Reference10Ideal.Value.run (F := Ideal) m ρ)

theorem frame_kernel : Cert.quiescent_Kernel10 := fun m ρ _ => Cert.Kernel10.Gen.frame m ρ
theorem frame_ideal : Cert.quiescent_Kernel10Ideal := fun m ρ _ => Cert.Kernel10Ideal.Gen.frame m ρ

/-- Kernel and reference compute the same array. -/
theorem equal : Cert.algebraic_Kernel10Ideal_Reference10Ideal := by
  intro m g m' g' _ hargs
  refine ⟨fun c => (dats m 0 c).arrAt 3 cfg0.N, Cert.Kernel10Ideal.Value.run_blocks m g,
    (θ_run Cert.Reference10Ideal.defs _ _).mono (fun r h c => ?_) (Cert.Reference10Ideal.Value.run (F := Ideal) m' g')⟩
  obtain ⟨a0, a1, a2⟩ := hargs c
  refine ⟨(h c).1.trans ?_, (h c).2⟩
  rw [Cert.Reference10Ideal.Read.val_main_v5_eq, a0, a1, a2]
  exact (result3 m c).symm

end Cert.AdaFwd
end
-- ==== Proof.OutFwdProof.lean ====
/- Hand-written, untrusted: what the kernel of the output projection computes: 256 rows on a grid point, gated, projected
   and added to the residual with the gate of their sequence. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.AdaSbReference
public import proofs.«01_k».proof.Proof.Rows

@[expose] public section

set_option maxRecDepth 16384

noncomputable section

namespace Cert.OutFwd

open Idealize.ShloMosaic Idealize.ShloMosaic.TcCoe Cert.Kernel11Ideal Cert.Kernel11Ideal.Gen Cert.Rows
open Cert.AdaSb (silu)

section
variable (z o : Vec Ideal S256x2048 .f32) (w : Vec Ideal S2048x1024 .bf16) (x : Vec Ideal S256x1024 .f32) (g : Vec Ideal S1x1x1024 .f32)

theorem pay1_apply (i : S256x2048.Idx) : k0_pay1 (F := Ideal) z o i = (o i : EReal) * silu (z i) := by
  unfold k0_pay1 silu
  pointwise
  rw [zero_sub]

theorem pay2_apply (r : Fin 256) (j : Fin 1024) :
    k0_pay2 (F := Ideal) z o w (ix2 r j) = ∑ k : Fin 2048, (o (ix2 r k) : EReal) * silu (z (ix2 r k)) * w (ix2 k j) := by
  unfold k0_pay2
  pointwise
  simp only [pay1_apply]

theorem pay3_apply (r : Fin 256) (j : Fin 1024) : k0_pay3 (F := Ideal) z o w x g (ix2 r j)
    = (x (ix2 r j) : EReal) + g (ix3 0 0 j) * ∑ k : Fin 2048, (o (ix2 r k) : EReal) * silu (z (ix2 r k)) * w (ix2 k j) := by
  unfold k0_pay3
  pointwise
  rw [pay2_apply]

end

section
open Cert.Reference11Ideal.Read
variable (x0 x1 : S4x2048x2048.Idx → EReal) (x2 : S2048x1024.Idx → EReal) (x3 : S4x2048x1024.Idx → EReal) (x4 : S4x1x1024.Idx → EReal)

/-- The gated branch, its projection, and the sum with the residual. -/
def u (i : Fin 4) (s k : Fin 2048) : EReal := x0 (ix3 i s k) * silu (x1 (ix3 i s k))
def y (i : Fin 4) (s : Fin 2048) (j : Fin 1024) : EReal := ∑ k, u x0 x1 i s k * x2 (ix2 k j)
def out (i : Fin 4) (s : Fin 2048) (j : Fin 1024) : EReal := x3 (ix3 i s j) + x4 (ix3 i 0 j) * y x0 x1 x2 i s j

theorem u_read (i : Fin 4) (s k : Fin 2048) : val_main_v1 (F := Ideal) x0 x1 (ix3 i s k) = u x0 x1 i s k := by
  rw [val_main_v1_apply, val_main_v0_apply, val_main_call0_v5_apply, val_main_call0_v4_apply, val_main_call0_v3_apply, val_main_call0_v2_apply,
    val_main_call0_v1_apply, val_main_call0_v0_apply, val_main_call0_cst_apply, val_main_call0_cst_0_apply]
  show x0 _ * (x1 _ * Ideal.div (Ideal.ofBits .f32 0x3F800000#32) (Ideal.ofBits .f32 0x3F800000#32 + Ideal.exp (-x1 _))) = _
  rw [Ideal.ofBits_one_f32]
  rfl

theorem y_read (i : Fin 4) (s : Fin 2048) (j : Fin 1024) : val_main_v2 (F := Ideal) x0 x1 x2 (ix3 i s j) = y x0 x1 x2 i s j := by
  have el : ∀ k, lidx_main_v2 (ix3 i s j) k = ix3 i s k := fun k => by
    funext a; match a with | ⟨0, _⟩ => rfl | ⟨1, _⟩ => rfl | ⟨2, _⟩ => rfl
  have er : ∀ k, ridx_main_v2 (ix3 i s j) k = ix2 k j := fun k => by funext a; match a with | ⟨0, _⟩ => rfl | ⟨1, _⟩ => rfl
  rw [val_main_v2_apply]
  simp only [el, er, u_read]
  rfl

theorem out_read (i : Fin 4) (s : Fin 2048) (j : Fin 1024) : val_main_v5 (F := Ideal) x0 x1 x2 x3 x4 (ix3 i s j) = out x0 x1 x2 x3 x4 i s j := by
  have e : idx_main_v3 (ix3 i s j) = ix3 i 0 j := by funext a; match a with | ⟨0, _⟩ => rfl | ⟨1, _⟩ => rfl | ⟨2, _⟩ => rfl
  rw [val_main_v5_apply, val_main_v4_apply, val_main_v3_apply, e, y_read]
  rfl

end

variable (m : (ℓ : Loc nD τ sig) → Buf (Elt Ideal) ℓ)

/-- The arguments' contents. -/
abbrev arg0 (c : Dev nD) : S4x2048x2048.Idx → EReal := m ((c : Thread nD τ).loc main_arg0)
abbrev arg1 (c : Dev nD) : S4x2048x2048.Idx → EReal := m ((c : Thread nD τ).loc main_arg1)
abbrev arg2 (c : Dev nD) : S2048x1024.Idx → EReal := m ((c : Thread nD τ).loc main_arg2)
abbrev arg3 (c : Dev nD) : S4x2048x1024.Idx → EReal := m ((c : Thread nD τ).loc main_arg3)
abbrev arg4 (c : Dev nD) : S4x1x1024.Idx → EReal := m ((c : Thread nD τ).loc main_arg4)

theorem V_main_v0 (c : Dev nD) (n : Fin 8192) (j : Fin 2048) : V m c main_v0 (ix2 n j) = arg0 m c (ix3 (seq n) (pos n) j) := by
  have e : V m c main_v0 = shapeCast S8192x2048 (arg0 m c) Gen.facts.shapeCasts_S4x2048x2048_S8192x2048 := by
    unfold_abbrev_sides
    after_results <;> rfl
  rw [e]
  exact shapeCast_rows _ _ n j

theorem V_main_v1 (c : Dev nD) (n : Fin 8192) (j : Fin 2048) : V m c main_v1 (ix2 n j) = arg1 m c (ix3 (seq n) (pos n) j) := by
  have e : V m c main_v1 = shapeCast S8192x2048 (arg1 m c) Gen.facts.shapeCasts_S4x2048x2048_S8192x2048 := by
    unfold_abbrev_sides
    after_results <;> rfl
  rw [e]
  exact shapeCast_rows _ _ n j

theorem V_main_v2 (c : Dev nD) (n : Fin 8192) (j : Fin 1024) : V m c main_v2 (ix2 n j) = arg3 m c (ix3 (seq n) (pos n) j) := by
  have e : V m c main_v2 = shapeCast S8192x1024 (arg3 m c) Gen.facts.shapeCasts_S4x2048x1024_S8192x1024 := by
    unfold_abbrev_sides
    after_results <;> rfl
  rw [e]
  exact shapeCast_rows _ _ n j

theorem V_main_v3 (c : Dev nD) : V m c main_v3 = arg2 m c := by
  unfold_abbrev_sides
  after_results <;> rfl

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val / 8, 0, 0] := (by decide +kernel : ∀ t : Fin grid0.N, win0_4.index t = ![t.val / 8, 0, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

/-- Row `r` of grid point `t`. -/
def rowOf (t : Fin cfg0.N) (r : Fin 256) : Fin 8192 := at256 ⟨t.val, lt_of_lt_of_eq t.isLt N_0⟩ r

theorem seq_rowOf (t : Fin cfg0.N) (r : Fin 256) : (seq (rowOf t r)).val = t.val / 8 := by
  have := lt_of_lt_of_eq t.isLt N_0
  simp only [seq, rowOf, at256]; omega

theorem iblk0_at (c : Dev nD) (t : Fin cfg0.N) (r : Fin 256) (k : Fin 2048) :
    iblk m c 0 t (ix2 r k) = arg0 m c (ix3 (seq (rowOf t r)) (pos (rowOf t r)) k) := by
  rw [← V_main_v0]
  blk_simp [iblk]
  refine congrArg (V m c main_v0) ?_
  blk_ext [idx0, rowOf, at256]

theorem iblk1_at (c : Dev nD) (t : Fin cfg0.N) (r : Fin 256) (k : Fin 2048) :
    iblk m c 1 t (ix2 r k) = arg1 m c (ix3 (seq (rowOf t r)) (pos (rowOf t r)) k) := by
  rw [← V_main_v1]
  blk_simp [iblk]
  refine congrArg (V m c main_v1) ?_
  blk_ext [idx1, rowOf, at256]

theorem iblk2_at (c : Dev nD) (t : Fin cfg0.N) (k : Fin 2048) (j : Fin 1024) : iblk m c 2 t (ix2 k j) = arg2 m c (ix2 k j) := by
  rw [← V_main_v3]
  blk_simp [iblk]
  refine congrArg (V m c main_v3) ?_
  blk_ext [idx2]

theorem iblk3_at (c : Dev nD) (t : Fin cfg0.N) (r : Fin 256) (k : Fin 1024) :
    iblk m c 3 t (ix2 r k) = arg3 m c (ix3 (seq (rowOf t r)) (pos (rowOf t r)) k) := by
  rw [← V_main_v2]
  blk_simp [iblk]
  refine congrArg (V m c main_v2) ?_
  blk_ext [idx3, rowOf, at256]

theorem iblk4_at (c : Dev nD) (t : Fin cfg0.N) (r : Fin 256) (k : Fin 1024) : iblk m c 4 t (ix3 0 0 k) = arg4 m c (ix3 (seq (rowOf t r)) 0 k) := by
  rw [show arg4 m c = V m c main_arg4 from (V_main_arg4 m c).symm]
  blk_simp [iblk]
  refine congrArg (V m c main_arg4) ?_
  blk_ext [idx4, seq_rowOf]

/-- The sum with the residual. -/
theorem result5 (c : Dev nD) : (dats m 0 c).arrAt 5 cfg0.N
    = fun x : S8192x1024.Idx => (out (arg0 m c) (arg1 m c) (arg2 m c) (arg3 m c) (arg4 m c) (seq (x 0)) (pos (x 0)) (x 1) : EReal) := by
  refine (dats m 0 c).arrAt_eq_of_covers 5 _ (by decide +kernel) fun t hf y => ?_
  obtain ⟨a, b, rfl⟩ : ∃ (a : Fin 256) (b : Fin 1024), y = ix2 a b := ⟨y 0, y 1, (ix2_eta y).symm⟩
  have eg : (((cfg0.win 5).blk t).view.emb (ix2 a b)) = ix2 (rowOf t a) b := by
    blk_ext [idx5, rowOf, at256]
  blk_simp
  rw [after0_5]
  frame_out
  rw [eg]
  refine (pay3_apply _ _ _ _ _ a b).trans ?_
  rw [iblk3_at, iblk4_at m c t a]
  simp only [iblk0_at, iblk1_at, iblk2_at]
  rfl

/-- The projection. -/
theorem result6 (c : Dev nD) : (dats m 0 c).arrAt 6 cfg0.N
    = fun x : S8192x1024.Idx => (y (arg0 m c) (arg1 m c) (arg2 m c) (seq (x 0)) (pos (x 0)) (x 1) : EReal) := by
  refine (dats m 0 c).arrAt_eq_of_covers 6 _ (by decide +kernel) fun t hf y => ?_
  obtain ⟨a, b, rfl⟩ : ∃ (a : Fin 256) (b : Fin 1024), y = ix2 a b := ⟨y 0, y 1, (ix2_eta y).symm⟩
  have eg : (((cfg0.win 6).blk t).view.emb (ix2 a b)) = ix2 (rowOf t a) b := by
    blk_ext [idx6, rowOf, at256]
  blk_simp
  rw [after0_6]
  frame_out
  rw [eg]
  refine (pay2_apply _ _ _ a b).trans ?_
  simp only [iblk0_at, iblk1_at, iblk2_at]
  rfl

/-- The gated branch. -/
theorem result7 (c : Dev nD) : (dats m 0 c).arrAt 7 cfg0.N
    = fun x : S8192x2048.Idx => (u (arg0 m c) (arg1 m c) (seq (x 0)) (pos (x 0)) (x 1) : EReal) := by
  refine (dats m 0 c).arrAt_eq_of_covers 7 _ (by decide +kernel) fun t hf y => ?_
  obtain ⟨a, b, rfl⟩ : ∃ (a : Fin 256) (b : Fin 2048), y = ix2 a b := ⟨y 0, y 1, (ix2_eta y).symm⟩
  have eg : (((cfg0.win 7).blk t).view.emb (ix2 a b)) = ix2 (rowOf t a) b := by
    blk_ext [idx7, rowOf, at256]
  blk_simp
  rw [after0_7]
  frame_out
  rw [eg]
  refine (pay1_apply _ _ _).trans ?_
  rw [iblk0_at, iblk1_at]
  rfl

/-- The reference's frame. -/
theorem frame_reference : Cert.quiescent_Reference11Ideal := fun m ρ _ =>
  (θ_run Cert.Reference11Ideal.defs _ _).mono (fun r h => ⟨fun c => (h c).2.2.2, funext fun s => nomatch s.2⟩) (Cert.Reference11Ideal.Value.run (F := Ideal) m ρ)

theorem frame_kernel : Cert.quiescent_Kernel11 := fun m ρ _ => Cert.Kernel11.Gen.frame m ρ
theorem frame_ideal : Cert.quiescent_Kernel11Ideal := fun m ρ _ => Cert.Kernel11Ideal.Gen.frame m ρ

/-- Kernel and reference compute the same arrays. -/
theorem equal : Cert.algebraic_Kernel11Ideal_Reference11Ideal := by
  intro m g m' g' _ hargs
  refine ⟨fun c => (dats m 0 c).arrAt 5 cfg0.N, fun c => (dats m 0 c).arrAt 6 cfg0.N, fun c => (dats m 0 c).arrAt 7 cfg0.N,
    Cert.Kernel11Ideal.Value.run_blocks m g,
    (θ_run Cert.Reference11Ideal.defs _ _).mono (fun r h c => ?_) (Cert.Reference11Ideal.Value.run (F := Ideal) m' g')⟩
  obtain ⟨a0, a1, a2, a3, a4⟩ := hargs c
  refine ⟨(h c).1.trans ?_, (h c).2.1.trans ?_, (h c).2.2.1.trans ?_, (h c).2.2.2⟩
  · rw [Cert.Reference11Ideal.Read.val_main_v6_eq, a0, a1, a2, a3, a4]
    refine Eq.trans ?_ (result5 m c).symm
    funext x
    obtain ⟨n, j, rfl⟩ : ∃ (n : Fin 8192) (j : Fin 1024), x = ix2 n j := ⟨x 0, x 1, (ix2_eta x).symm⟩
    exact (shapeCast_rows _ _ n j).trans (out_read _ _ _ _ _ _ _ j)
  · rw [Cert.Reference11Ideal.Read.val_main_v7_eq, a0, a1, a2]
    refine Eq.trans ?_ (result6 m c).symm
    funext x
    obtain ⟨n, j, rfl⟩ : ∃ (n : Fin 8192) (j : Fin 1024), x = ix2 n j := ⟨x 0, x 1, (ix2_eta x).symm⟩
    exact (shapeCast_rows _ _ n j).trans (y_read _ _ _ _ _ j)
  · rw [Cert.Reference11Ideal.Read.val_main_v9_eq, a0, a1]
    refine Eq.trans ?_ (result7 m c).symm
    funext x
    obtain ⟨n, j, rfl⟩ : ∃ (n : Fin 8192) (j : Fin 2048), x = ix2 n j := ⟨x 0, x 1, (ix2_eta x).symm⟩
    exact (shapeCast_rows _ _ n j).trans (u_read _ _ _ _ j)

end Cert.OutFwd
end
-- ==== Proof.CumFwdProof.lean ====
/- Hand-written, untrusted: what the kernel of the forget gate's running sum computes in the forward pass. One grid point holds
   one sequence: the logarithm of the logistic function of its logits, times an upper triangular matrix of ones. The kernel
   splits the logarithm into three parts before the product; the logarithm is a real number or `-∞`, and either is the sum
   of its parts. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.CumReference
public import Idealize.ShloMosaic.Lib.WordCmp

@[expose] public section

set_option maxRecDepth 16384

noncomputable section

namespace Cert.CumFwd

open Idealize.ShloMosaic Idealize.ShloMosaic.TcCoe Cert.Finite Cert.Kernel12Ideal Cert.Kernel12Ideal.Gen
open Cert.Cum (softplus select_une)

/-- The logarithm of the logistic function, as the kernel writes it. -/
def logsig (z : EReal) : EReal := min z 0 - Ideal.log1p (Ideal.exp (-(max z (-z))))

/-- It is `-softplus (-z)`, and never `+∞`. -/
theorem logsig_eq (z : EReal) : -softplus (-z) = logsig z ∧ logsig z ≠ ⊤ := by
  unfold softplus logsig
  rw [neg_neg, max_comm (-z) z]
  induction z using EReal.rec with
  | bot => rw [EReal.neg_bot, max_eq_left le_top, max_eq_right bot_le, EReal.neg_top, exp_bot, log1p_zero, add_zero, sub_zero, EReal.neg_top,
      min_eq_left bot_le]; exact ⟨rfl, bot_ne_top⟩
  | top => rw [EReal.neg_top, max_eq_right bot_le, max_eq_left bot_le, EReal.neg_top, exp_bot, log1p_zero, add_zero, sub_zero, neg_zero,
      min_eq_right le_top]; exact ⟨rfl, EReal.zero_ne_top⟩
  | coe r =>
    have hm : min (r : EReal) 0 = ((min r 0 : ℝ) : EReal) := (EReal.coe_strictMono.monotone.map_min (a := r) (b := 0)).symm
    have hp : 0 < 1 + Real.exp (-max r (-r)) := by positivity
    rw [hm, ← EReal.coe_neg, ← EReal.coe_zero, max_coe, max_coe, ← EReal.coe_neg, exp_coe, log1p_coe hp, ← EReal.coe_add, ← EReal.coe_neg, ← EReal.coe_sub]
    refine ⟨congrArg _ ?_, EReal.coe_ne_top _⟩
    rcases le_total 0 r with h | h
    · rw [max_eq_right (by linarith), min_eq_right h]; ring
    · rw [max_eq_left (by linarith), min_eq_left h]; ring

/-- The three parts add up. -/
theorem parts {l : EReal} (h : l ≠ ⊤) (b : EReal) (hb : b = 0 ∨ b = 1) :
    l * b + (l - l) * b + ((l - l) - (l - l)) * b = l * b := by
  rcases hb with rfl | rfl
  · simp only [mul_zero, add_zero]
  · simp only [mul_one]
    induction l using EReal.rec with
    | bot => rw [EReal.bot_add, EReal.bot_add]
    | top => exact absurd rfl h
    | coe r => rw [← EReal.coe_sub, sub_self, ← EReal.coe_sub, sub_self, EReal.coe_zero, add_zero, add_zero]

/-- An entry of the triangular matrix of ones. -/
theorem mask_eq (x t : Fin 2048) :
    (FloatOps.sitofp (F := Ideal) .f32 (BitVec.setWidth 32 (IntOp.cmpi .sle (BitVec.ofNat 32 x.val) (BitVec.ofNat 32 t.val))) : EReal)
      = if x ≤ t then 1 else 0 := by
  rw [WordCmp.cmpi_sle_ofNat (by have := x.isLt; omega) (by have := t.isLt; omega)]
  by_cases h : x ≤ t
  · rw [if_pos h, decide_eq_true (Fin.le_def.1 h)]
    show (((BitVec.setWidth 32 (BitVec.ofBool true)).toInt : ℝ) : EReal) = 1
    rw [show (BitVec.setWidth 32 (BitVec.ofBool true)).toInt = 1 by decide]; simp
  · rw [if_neg h, decide_eq_false (fun q => h (Fin.le_def.2 q))]
    show (((BitVec.setWidth 32 (BitVec.ofBool false)).toInt : ℝ) : EReal) = 0
    rw [show (BitVec.setWidth 32 (BitVec.ofBool false)).toInt = 0 by decide]; simp

/-- One entry of a block of the result. -/
theorem pay1_apply (f : Vec Ideal S1x32x2048 .f32) (b : Vec Ideal S32x1 .f32) (h : Fin 32) (t : Fin 2048) :
    k0_pay1 (F := Ideal) f b (ix3 0 h t) = ∑ k : Fin 2048, if k ≤ t then logsig (f (ix3 0 h k) + b (ix2 h 0)) else 0 := by
  unfold k0_pay1
  pointwise
  simp only [mask_eq, zero_sub]
  rw [← Finset.sum_add_distrib, ← Finset.sum_add_distrib]
  refine Finset.sum_congr rfl fun k _ => ?_
  refine (parts (l := logsig (f (ix3 0 h k) + b (ix2 h 0))) (logsig_eq _).2 _ ?_).trans ?_
  · split
    · exact Or.inr rfl
    · exact Or.inl rfl
  · split
    · exact mul_one _
    · exact mul_zero _

section
open Cert.Reference12Ideal.Read
variable (x0 : S4x2048x32.Idx → EReal) (x1 : S32.Idx → EReal)

theorem logsig_read (i : Fin 4) (t : Fin 2048) (h : Fin 32) : val_main_v3 (F := Ideal) x0 x1 (ix3 i t h) = logsig (x0 (ix3 i t h) + x1 (ix1 h)) := by
  have e : idx_main_v0 (idx_main_v1 (ix3 i t h)) = ix1 h := by funext a; match a with | ⟨0, _⟩ => rfl
  simp only [val_main_v3_apply, val_main_call0_v1_apply, val_main_call0_call0_v4_apply,
    val_main_call0_call0_v11_apply, val_main_call0_call0_v1_apply, val_main_call0_call0_v10_apply,
    val_main_call0_call0_v9_apply, val_main_call0_call0_v8_apply, val_main_call0_call0_v7_apply, val_main_call0_call0_v3_apply,
    val_main_call0_v0_apply, val_main_v2_apply, val_main_v1_apply, val_main_v0_apply,
    val_main_call0_call0_v0_apply, val_main_call0_call0_v2_apply, val_main_call0_call0_cst_apply, select_une, e]
  have h0 : FloatOps.ofBits (F := Ideal) .f32 0x00000000#32 = (0 : EReal) := Ideal.ofBits_zero_f32
  have hs : ∀ y : EReal, FloatOps.subf (F := Ideal) (φ := .f32) y (FloatOps.ofBits (F := Ideal) .f32 0x00000000#32) = y := fun y => by
    rw [h0]; exact sub_zero y
  simp only [hs]
  rw [h0]
  exact (logsig_eq _).1

theorem read (i : Fin 4) (h : Fin 32) (t : Fin 2048) :
    val_main_v5 (F := Ideal) x0 x1 (ix3 i h t) = ∑ k : Fin 2048, if k ≤ t then logsig (x0 (ix3 i k h) + x1 (ix1 h)) else 0 := by
  have h0 : val_main_call1_call0_v0 (F := Ideal) (Shape.Idx.first Cert.Reference12Ideal.Gen.facts.h_S_) = (0 : EReal) := by
    rw [val_main_call1_call0_v0_apply, val_main_call1_call0_cst_apply]; exact Ideal.ofBits_zero_f32
  have e4 : ∀ k, idx_main_v4 (ix3 i h k) = ix3 i k h := fun k => by funext a; match a with | ⟨0, _⟩ => rfl | ⟨1, _⟩ => rfl | ⟨2, _⟩ => rfl
  unfold val_main_v5
  refine (Window.reduceWindowAdd_fwd3 (M := 2047) rfl _ _ _ _ h0 i h t).trans (Finset.sum_congr rfl fun k _ => ?_)
  rw [val_main_v4_apply, e4, logsig_read]

end

variable (m : (ℓ : Loc nD τ sig) → Buf (Elt Ideal) ℓ)

/-- The arguments' contents. -/
abbrev arg0 (c : Dev nD) : S4x2048x32.Idx → EReal := m ((c : Thread nD τ).loc main_arg0)
abbrev arg1 (c : Dev nD) : S32.Idx → EReal := m ((c : Thread nD τ).loc main_arg1)

theorem V_main_v0 (c : Dev nD) (i : Fin 4) (h : Fin 32) (t : Fin 2048) : V m c main_v0 (ix3 i h t) = arg0 m c (ix3 i t h) := by
  have e : V m c main_v0 = transpose S4x32x2048 [0, 2, 1] (arg0 m c) Gen.facts.transposes_S4x2048x32_S4x32x2048_0_2_1 := by
    unfold_abbrev_sides
    after_results <;> rfl
  rw [e]
  pointwise

theorem V_main_v1 (c : Dev nD) (h : Fin 32) : V m c main_v1 (ix2 h 0) = arg1 m c (ix1 h) := by
  have e : V m c main_v1 = shapeCast S32x1 (arg1 m c) Gen.facts.shapeCasts_S32_S32x1 := by
    unfold_abbrev_sides
    after_results <;> rfl
  rw [e]
  pointwise

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0, 0] := (by decide +kernel : ∀ t : Fin grid0.N, win0_2.index t = ![t.val, 0, 0])

/-- The sequence that grid point `t` works on. -/
def seqOf (t : Fin cfg0.N) : Fin 4 := ⟨t.val, lt_of_lt_of_eq t.isLt N_0⟩

theorem iblk0_at (c : Dev nD) (t : Fin cfg0.N) (h : Fin 32) (k : Fin 2048) : iblk m c 0 t (ix3 0 h k) = arg0 m c (ix3 (seqOf t) k h) := by
  rw [← V_main_v0]
  blk_simp [iblk]
  refine congrArg (V m c main_v0) ?_
  blk_ext [idx0, seqOf]

theorem iblk1_at (c : Dev nD) (t : Fin cfg0.N) (h : Fin 32) : iblk m c 1 t (ix2 h 0) = arg1 m c (ix1 h) := by
  rw [← V_main_v1]
  blk_simp [iblk]
  refine congrArg (V m c main_v1) ?_
  blk_ext [idx1]

/-- The result. -/
theorem result2 (c : Dev nD) : (dats m 0 c).arrAt 2 cfg0.N
    = fun x : S4x32x2048.Idx => (Cert.Reference12Ideal.Read.val_main_v5 (F := Ideal) (arg0 m c) (arg1 m c) x : EReal) := by
  refine (dats m 0 c).arrAt_eq_of_covers 2 _ (by decide +kernel) fun t hf y => ?_
  obtain ⟨a, b, rfl⟩ : ∃ (a : Fin 32) (b : Fin 2048), y = ix3 (0 : Fin 1) a b :=
    ⟨y 1, y 2, by rw [← show y 0 = (0 : Fin 1) from Subsingleton.elim (α := Fin 1) _ _]; exact (ix3_eta y).symm⟩
  have eg : (((cfg0.win 2).blk t).view.emb (ix3 (0 : Fin 1) a b)) = ix3 (seqOf t) a b := by
    blk_ext [idx2, seqOf]
  blk_simp
  rw [after0_2]
  frame_out
  rw [eg, read]
  refine (pay1_apply _ _ a b).trans ?_
  simp only [iblk0_at, iblk1_at]

/-- The reference's frame. -/
theorem frame_reference : Cert.quiescent_Reference12Ideal := fun m ρ _ =>
  (θ_run Cert.Reference12Ideal.defs _ _).mono (fun r h => ⟨fun c => (h c).2, funext fun s => nomatch s.2⟩) (Cert.Reference12Ideal.Value.run (F := Ideal) m ρ)

theorem frame_kernel : Cert.quiescent_Kernel12 := fun m ρ _ => Cert.Kernel12.Gen.frame m ρ
theorem frame_ideal : Cert.quiescent_Kernel12Ideal := fun m ρ _ => Cert.Kernel12Ideal.Gen.frame m ρ

/-- Kernel and reference compute the same array. -/
theorem equal : Cert.algebraic_Kernel12Ideal_Reference12Ideal := by
  intro m g m' g' _ hargs
  refine ⟨fun c => (dats m 0 c).arrAt 2 cfg0.N, Cert.Kernel12Ideal.Value.run_blocks m g,
    (θ_run Cert.Reference12Ideal.defs _ _).mono (fun r h c => ?_) (Cert.Reference12Ideal.Value.run (F := Ideal) m' g')⟩
  obtain ⟨a0, a1⟩ := hargs c
  refine ⟨(h c).1.trans ?_, (h c).2⟩
  rw [Cert.Reference12Ideal.Read.val_main_v5_eq, a0, a1]
  exact (result2 m c).symm

end Cert.CumFwd
end
-- ==== Proof.QkvBody.lean ====
/- Hand-written, untrusted: the body of the modulated norm with its product, where the norm is kept: what each point stores. -/
module

public import proofs.«01_k».proof.Proof.Gen.Kernel13Ideal.Frame
public import proofs.«01_k».proof.Proof.Gen.Kernel14Ideal.Skeleton
public import proofs.«01_k».proof.Proof.Whole
public import Idealize.ShloMosaic.Lib.Pipeline.Value

@[expose] public section

noncomputable section

namespace Cert.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel13Ideal Cert.Kernel13Ideal.Gen
open Cert.Whole (ld st)
open Cert.Kernel14Ideal.Gen (k0_pay1)

variable {F : FTy → Type} [FloatOps F]

local notation "𝕄" => MT nD τ sig Unit (Elt F) ℕ (UR sig nD τ) ℕ

/-- A block of the product, rounded. -/
def prod (h : Vec F S512x1024 .bf16) (w : Vec F S1024x2048 .bf16) : Vec F S512x2048 .bf16 :=
  truncf .bf16 (matmul dot_S512x1024_S1024x2048_S512x2048_1_0_0_1_n_n none h (shapeCast S1024x2048 w shapeCasts_S1024x2048_S1024x2048)
    (constant S512x2048 .f32 0x00000000#32)) bitsLt_bf16_f32

variable {𝒱 : Variants} {c : Dev nD} {bd : Option 𝒱.V} {E : Set ℕ}
variable (i : grid0.Coords) (x2 : Vec F S512x1024 .f32) (x3 : Vec F S1x1024 .f32) (x4 x5 : Vec F S1x1x1024 .f32) (x6 : Vec F S1024x2048 .bf16)
    (x7 : Vec F S512x2048 .bf16) (x8 x9 : Vec F S512x1024 .bf16)
variable (arg2 : Memref sig .tc .vmem S512x1024 .f32) (harg2 : arg2.IsWhole) (arg3 : Memref sig .tc .vmem S1x1024 .f32) (harg3 : arg3.IsWhole)
    (arg4 : Memref sig .tc .vmem S1x1x1024 .f32) (harg4 : arg4.IsWhole) (arg5 : Memref sig .tc .vmem S1x1x1024 .f32) (harg5 : arg5.IsWhole)
    (arg6 : Memref sig .tc .vmem S1024x2048 .bf16) (harg6 : arg6.IsWhole) (arg7 : Memref sig .tc .vmem S512x2048 .bf16) (harg7 : arg7.IsWhole)
    (arg8 : Memref sig .tc .vmem S512x1024 .bf16) (harg8 : arg8.IsWhole) (arg9 : Memref sig .tc .vmem S512x1024 .bf16) (harg9 : arg9.IsWhole)

set_option maxHeartbeats 2000000 in
/-- What the body leaves of its arrays. -/
theorem body_run (D y8 : Vec F S512x1024 .bf16)
    (hp : k0_cond1 i = 1#1 → D = k0_pay1 x2 x3 x4 x5 ∧ y8 = k0_pay1 x2 x3 x4 x5)
    (hn : k0_cond1 i ≠ 1#1 → D = x9 ∧ y8 = x8) (Q : PUnit → sProp 𝕄) :
    (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9) : sProp 𝕄)
      ⊢ iprop((owns (c : Thread nD τ) arg2 fullShare x2
          -∗ owns (c : Thread nD τ) arg3 fullShare x3
          -∗ owns (c : Thread nD τ) arg4 fullShare x4
          -∗ owns (c : Thread nD τ) arg5 fullShare x5
          -∗ owns (c : Thread nD τ) arg6 fullShare x6
          -∗ owns (c : Thread nD τ) arg7 fullShare (prod D x6)
          -∗ owns (c : Thread nD τ) arg8 fullShare y8
          -∗ owns (c : Thread nD τ) arg9 fullShare D
          -∗ Q ⟨⟩)
        -∗ wp frame (wpE (defs₀ (F := F)) 𝒱 (c : Thread nD τ) bd) E (cc0_sb_qkv (F := F) i arg2 harg2 arg3 harg3 arg4 harg4 arg5 harg5 arg6 harg6 arg7 harg7 arg8 harg8 arg9 harg9) Q) := by
  unfold cc0_sb_qkv prod
  iintro ⟨H2, H3, H4, H5, H6, H7, H8, H9⟩ Hk
  by_cases h : k0_cond1 i = 1#1
  · obtain ⟨rfl, rfl⟩ := hp h
    have e : ∀ v : Vec F S512x1024 .bf16, (owns (c : Thread nD τ) arg8 fullShare v : sProp 𝕄)
        ⊢ owns (c : Thread nD τ) arg8 fullShare (shapeCast S512x1024 v shapeCasts_S512x1024_S512x1024) := fun v => by rw [shapeCast_self]
    unfold k0_pay1
    dsimp only
    rw [dif_pos h]
    iapply (ld _) $$ H2
    iintro H2
    iapply (ld _) $$ H3
    iintro H3
    iapply (ld _) $$ H4
    iintro H4
    iapply (ld _) $$ H5
    iintro H5
    iapply (ld _) $$ H9
    iintro H9
    iapply (st _) $$ H9
    iintro H9
    iapply (ld _) $$ H8
    iintro H8
    iapply (st _) $$ H8
    iintro H8
    iapply (ld _) $$ H9
    iintro H9
    iapply (ld _) $$ H6
    iintro H6
    iapply (ld _) $$ H7
    iintro H7
    iapply (st _) $$ H7
    iintro H7
    rw [wp_pure]
    imodintro
    ihave H8 := (e _) $$ H8
    iapply Hk $$ H2 H3 H4 H5 H6 H7 H8 H9
  · obtain ⟨rfl, rfl⟩ := hn h
    dsimp only
    rw [dif_neg h]
    iapply (ld _) $$ H9
    iintro H9
    iapply (ld _) $$ H6
    iintro H6
    iapply (ld _) $$ H7
    iintro H7
    iapply (st _) $$ H7
    iintro H7
    rw [wp_pure]
    imodintro
    iapply Hk $$ H2 H3 H4 H5 H6 H7 H8 H9

end Cert.Qkv
end
-- ==== Proof.QkvFrame.lean ====
/- Hand-written, untrusted: the frame of the modulated norm with its product, where the norm is kept. The first of a block's three
   points normalises its 512 rows into an array that all three read, and stores them as a result that is written back at the last. -/
module

public import proofs.«01_k».proof.Proof.QkvBody
public import proofs.«01_k».proof.Proof.Gen.Kernel13
public import proofs.«01_k».proof.Proof.Gen.Reference13Ideal.Run
public import proofs.«01_k».proof.Defs
public import Idealize.ShloMosaic.Lib.Claim

@[expose] public section

noncomputable section

namespace Cert.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel13Ideal Cert.Kernel13Ideal.Gen
open Cert.Kernel14Ideal.Gen (k0_pay1)

variable {F : FTy → Type} [FloatOps F]

local notation "𝕄" => MT nD τ sig Unit (Elt F) ℕ (UR sig nD τ) ℕ

/-- A block's first point alone is under the condition. -/
theorem first_iff : ∀ t : Fin grid0.N, k0_cond1 (grid0.coords t) = 1#1 ↔ t.val % 3 = 0 := by decide +kernel

theorem count : cfg0.N = 48 := by decide +kernel

variable (m : (ℓ : Loc nD τ sig) → Buf (Elt F) ℓ) (ρ : Dev nD → PrngReg)

/-- The first point of a point's block of rows. -/
def base (t : Fin cfg0.N) : Fin cfg0.N := ⟨t.val / 3 * 3, by have := t.isLt; omega⟩

theorem base_first (t : Fin cfg0.N) (h : t.val % 3 = 0) : base t = t := Fin.ext (by show t.val / 3 * 3 = t.val; omega)
theorem base_next (n : ℕ) (h : n + 1 < cfg0.N) (h3 : (n + 1) % 3 ≠ 0) : base ⟨n + 1, h⟩ = base ⟨n, by omega⟩ :=
  Fin.ext (by show (n + 1) / 3 * 3 = n / 3 * 3; omega)

/-- The normalised rows of point `t`'s blocks. -/
def hid (c : Dev nD) (t : Fin cfg0.N) : Vec F S512x1024 .bf16 := k0_pay1 (F := F) (iblk m c 0 t) (iblk m c 1 t) (iblk m c 2 t) (iblk m c 3 t)

/-- What the array of the normalised rows holds before point `n`, as the body finds and leaves it. -/
def keeps (c : Dev nD) (n : ℕ) : sProp 𝕄 :=
  iprop(∃ x, ⌜∀ h : n < cfg0.N, n % 3 ≠ 0 → x = hid m c (base ⟨n, h⟩)⌝ ∗ owns (c : Thread nD τ) (Memref.whole cc0_scratch0) fullShare x ∗ ∃ r, prngReg c r)

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prod (hid m c (base t)) (iblk m c 4 t)
    | ⟨6, _⟩ => hid m c (base t)
  Φ t := keeps m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = prod (hid m c (base t)) (iblk m c 4 t) := by dsimp only [dats]
theorem after_6 (c : Dev nD) (t : Fin cfg0.N) : (dats m 0 c).after 6 t = hid m c (base t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

theorem idle_first (t : Fin cfg0.N) : cfg0.idle 6 (cfg0.grid.coords t) = decide (t.val % 3 ≠ 0) := by
  show (!(k0_cond1 (grid0.coords t) == 1#1)) = _
  by_cases h : t.val % 3 = 0
  · rw [(first_iff t).mpr h, decide_eq_false (not_not.mpr h)]; rfl
  · have h' : ¬ k0_cond1 (grid0.coords t) = 1#1 := fun e => h ((first_iff t).mp e)
    simp [h', h]

/-- The rows stored at a block's first point are still there at the others. -/
theorem stays (c : Dev nD) : ∀ (n : ℕ) (h : n < cfg0.N), n % 3 ≠ 0 → ∀ d, (dats m 0 c).before 6 ⟨n, h⟩ d = hid m c (base ⟨n, h⟩) := by
  intro n
  induction n with
  | zero => intro h h3; exact absurd rfl h3
  | succ n ih =>
    intro h h3 d
    rw [Dat.before_of_pos _ 6 _ (Nat.succ_ne_zero _) rfl, if_neg (fun e => absurd ((flush0_6 _).mp e) (by show ¬ (n + 1 - 1) % 3 = 2; omega)), base_next n h h3]
    unfold Dat.left
    rw [idle_first]
    by_cases hn : n % 3 = 0
    · rw [decide_eq_false (by exact not_not.mpr hn)]
      exact after_6 m c _
    · rw [decide_eq_true (by exact hn)]
      exact ih _ hn d

theorem before_6 (c : Dev nD) (t : Fin cfg0.N) (h : t.val % 3 ≠ 0) (d) : (dats m 0 c).before 6 t d = hid m c (base t) := stays m c t.val t.isLt h d

/-- A window that is stored, or that holds what the data says, is left at what the data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [show cfg0.idle w (cfg0.grid.coords t) = false from h]

theorem leaves_held (c : Dev nD) (t : Fin cfg0.N) :
    owns (c : Thread nD τ) (st0_6 t) fullShare (hid m c (base t)) ⊢ (dats m 0 c).leavesExact 6 t := by
  unfold Dat.leavesExact
  rw [idle_first, after_6]
  by_cases h : t.val % 3 = 0
  · rw [decide_eq_false (not_not.mpr h)]
  · rw [decide_eq_true h]
    cases hf : (cfg0.win 6).flush t with
    | true => exact .rfl
    | false =>
      simp only [before_6 m c t h]
      iintro H
      iexists hid m c (base t)
      iexact H

set_option maxHeartbeats 1000000 in
/-- The body at any point. -/
theorem sound_body (c : Dev nD) (t : Fin cfg0.N) :
    iprop(keeps m c t.val ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := F)) Variants.none (c : Thread nD τ) none) Set.univ (bodyAt0 t) (fun _ =>
        iprop(keeps m c (t.val + 1) ∗ (dats m 0 c).owesAt () t.castSucc
          ∗ (dats m 0 c).leavesExact 0 t ∗ (dats m 0 c).leavesExact 1 t ∗ (dats m 0 c).leavesExact 2 t ∗ (dats m 0 c).leavesExact 3 t
          ∗ (dats m 0 c).leavesExact 4 t ∗ (dats m 0 c).leavesExact 5 t ∗ (dats m 0 c).leavesExact 6 t)) := by
  unfold bodyAt0
  simp only [before_0, before_1, before_2, before_3, before_4]
  rw [leaves_live m c 0 t rfl, leaves_live m c 1 t rfl, leaves_live m c 2 t rfl, leaves_live m c 3 t rfl, leaves_live m c 4 t rfl,
    leaves_live m c 5 t rfl, after_0, after_1, after_2, after_3, after_4, after_5]
  unfold keeps
  iintro ⟨⟨%x, %hx, Hs, Hr⟩, Ho, ⟨%d0, H0⟩, ⟨%d1, H1⟩, ⟨%d2, H2⟩, ⟨%d3, H3⟩, ⟨%d4, H4⟩, ⟨%d5, H5⟩, ⟨%d6, H6⟩⟩
  iapply (body_run (grid0.coords t) (iblk m c 0 t) (iblk m c 1 t) (iblk m c 2 t) (iblk m c 3 t) (iblk m c 4 t)
    ((dats m 0 c).before 5 t d5) ((dats m 0 c).before 6 t d6) x
    _ _ _ _ _ _ _ _ _ _ _ _ _ _ _ _ (hid m c (base t)) (hid m c (base t))
    (fun e => by
      rw [base_first t ((first_iff t).mp e)]
      exact ⟨rfl, rfl⟩)
    (fun e => by
      have h : t.val % 3 ≠ 0 := fun h => e ((first_iff t).mpr h)
      exact ⟨(hx t.isLt h).symm, (before_6 m c t h d6).symm⟩) _)
    $$ [H0 H1 H2 H3 H4 H5 H6 Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Hs
  iintro H0 H1 H2 H3 H4 H5 H6 Hs
  isplitl [Hs Hr]
  · iexists hid m c (base t)
    isplitr
    · ipureintro; intro h h3; rw [base_next t.val h h3]
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves_held m c t); iexact H6

theorem defs₀_row (t : Fin cfg0.N) :
    defs₀ (F := F) .tc cfg0.body (cfg0.bodyArgs t (cfg0.slots t)) = bodyAt0 t := by
  unfold defs₀; rw [Defs.onTc_tc]

/-- The body obligation of the launch. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the launch. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      unfold ΦA
      rw [scopedRest0_eq]
      show _ ⊢ keeps m c 0
      unfold keeps
      simp only [owns_whole]
      iintro ⟨⟨%f, H⟩, Hr⟩
      iexists f
      isplitr; · ipureintro; intro _ h; exact absurd rfl h
      isplitl [H]; · iexact H
      iexact Hr)
    (hout := fun c => by
      unfold ΦA
      rw [scopedRest0_eq]
      show keeps m c (Fin.last cfg0.N).val ⊢ _
      unfold keeps
      simp only [owns_whole]
      iintro ⟨%f, -, H, Hr⟩
      isplitl [H]
      · iexists f; iexact H
      iexact Hr)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

theorem frame_ideal : Cert.quiescent_Kernel13Ideal := fun m ρ _ => frame m ρ

/-- The kernel's frame is the ideal program's: the two have the same text. -/
theorem frame_kernel : Cert.quiescent_Kernel13 := fun m ρ _ => by
  refine Eq.mp ?_ (frame (F := Bits) m ρ)
  sl_kernel_rfl

/-- The reference's frame. -/
theorem frame_reference : Cert.quiescent_Reference13Ideal := fun m ρ _ =>
  (θ_run Cert.Reference13Ideal.defs _ _).mono (fun r h => ⟨fun c => (h c).2.2, funext fun s => nomatch s.2⟩) (Cert.Reference13Ideal.Value.run (F := Ideal) m ρ)

end Cert.Qkv
end
-- ==== Proof.NormFwdReference.lean ====
/- Hand-written, untrusted: the forward pass's modulated norm, row by row, as the kernel's payload and both references compute
   it before the product with their columns of the matrix. -/
module

public import proofs.«01_k».proof.Proof.Gen.Kernel14Ideal.Skeleton
public import proofs.«01_k».proof.Proof.Gen.Reference14Ideal.Read
public import proofs.«01_k».proof.Proof.NormKernel

@[expose] public section

set_option maxRecDepth 16384

noncomputable section

namespace Cert.NormFwd

open Idealize.ShloMosaic Cert.Rms Cert.Norm

/-- A row normalised, times its gain, scaled and shifted. -/
def modulate (x g sh sc : Fin 1024 → EReal) (j : Fin 1024) : EReal := x j * rstd x * g j * (1 + sc j) + sh j

section
open Cert.Kernel14Ideal Cert.Kernel14Ideal.Gen
variable (x : Vec Ideal S512x1024 .f32) (g : Vec Ideal S1x1024 .f32) (sc sh : Vec Ideal S1x1x1024 .f32)

theorem pay1_apply (r : Fin 512) (j : Fin 1024) :
    k0_pay1 (F := Ideal) x g sc sh (ix2 r j) = modulate (brow x r) (bvec g) (bper sh) (bper sc) j := by
  unfold k0_pay1 modulate
  pointwise
  rfl

theorem pay2_apply (h : Vec Ideal S512x1024 .bf16) (w : Vec Ideal S1024x2048 .bf16) (r : Fin 512) (j : Fin 2048) :
    k0_pay2 (F := Ideal) h w (ix2 r j) = ∑ k : Fin 1024, (h (ix2 r k) : EReal) * w (ix2 k j) := by
  unfold k0_pay2
  pointwise

end

open Cert.Reference14Ideal Cert.Reference14Ideal.Read

variable (x0 : S4x2048x1024.Idx → EReal) (x1 : S1024.Idx → EReal) (x2 x3 : S4x1x1024.Idx → EReal) (x4 : S1024x8192.Idx → EReal)

/-- The modulated norm at sequence `i`, time `s`. -/
def h (i : Fin 4) (s : Fin 2048) : Fin 1024 → EReal := modulate (row x0 i s) (vec x1) (per x2 i) (per x3 i)

/-- Its product with column `n` of the matrix. -/
def prod (i : Fin 4) (s : Fin 2048) (n : Fin 8192) : EReal := ∑ k, h x0 x1 x2 x3 i s k * x4 (ix2 k n)

theorem rstd_read (i : Fin 4) (s : Fin 2048) : val_main_v7 (F := Ideal) x0 (ix3 i s 0) = rstd (row x0 i s) := by
  simp only [val_main_v7_apply, val_main_v6_apply, val_main_v4_apply, val_main_v2_apply, val_main_v1_apply, val_main_v0_apply, val_main_v3_apply,
    val_main_v5_apply, val_main_cst_apply, val_main_cst_0_apply, val_main_cst_1_apply]
  have e : ∀ k, idx_main_v1 (idx_main_v2 (ix3 i s 0)) k = ix3 i s k := fun k => by
    funext a; match a with | ⟨0, _⟩ => rfl | ⟨1, _⟩ => rfl | ⟨2, _⟩ => rfl
  simp only [e]
  show Ideal.rsqrt (Ideal.div (Ideal.ofBits .f32 0x00000000#32 + _) _ + _) = _
  rw [Ideal.ofBits_zero_f32, zero_add]
  rfl

theorem h_read (i : Fin 4) (s : Fin 2048) (j : Fin 1024) : val_main_v18 (F := Ideal) x0 x1 x2 x3 (ix3 i s j) = h x0 x1 x2 x3 i s j := by
  have e8 : idx_main_v8 (ix3 i s j) = ix3 i s 0 := by funext a; match a with | ⟨0, _⟩ => rfl | ⟨1, _⟩ => rfl | ⟨2, _⟩ => rfl
  have e15 : idx_main_v15 (ix3 i s j) = ix3 i 0 j := by funext a; match a with | ⟨0, _⟩ => rfl | ⟨1, _⟩ => rfl | ⟨2, _⟩ => rfl
  have e17 : idx_main_v17 (ix3 i s j) = ix3 i 0 j := by funext a; match a with | ⟨0, _⟩ => rfl | ⟨1, _⟩ => rfl | ⟨2, _⟩ => rfl
  have e10 : idx_main_v10 (idx_main_v11 (ix3 i s j)) = ix1 j := by funext a; match a with | ⟨0, _⟩ => rfl
  rw [val_main_v18_apply, val_main_v16_apply, val_main_v12_apply, val_main_v9_apply, val_main_v8_apply, val_main_v11_apply, val_main_v10_apply,
    val_main_v15_apply, val_main_v14_apply, val_main_v13_apply, val_main_cst_2_apply, val_main_v17_apply, e8, e10, e15, e17, rstd_read]
  show x0 _ * _ * _ * (Ideal.ofBits .f32 0x3F800000#32 + x3 _) + x2 _ = _
  rw [Ideal.ofBits_one_f32]
  rfl

theorem prod_read (i : Fin 4) (s k : Fin 2048) :
    val_main_v20 (F := Ideal) x0 x1 x2 x3 x4 (ix3 i s k) = prod x0 x1 x2 x3 x4 i s (at4 3 k) := by
  have el : ∀ q, lidx_main_v20 (ix3 i s k) q = ix3 i s q := fun q => by
    funext a; match a with | ⟨0, _⟩ => rfl | ⟨1, _⟩ => rfl | ⟨2, _⟩ => rfl
  have er : ∀ q, idx_main_v19 (ridx_main_v20 (ix3 i s k) q) = ix2 q (at4 3 k) := fun q => by
    funext a; match a with
      | ⟨0, _⟩ => exact Fin.ext (by simp [ix2, ix3])
      | ⟨1, _⟩ => exact Fin.ext (by simp [ix2, ix3, at4])
  rw [val_main_v20_apply]
  simp only [el, er, h_read, val_main_v19_apply]
  rfl

end Cert.NormFwd
end
-- ==== Proof.QkvProof.lean ====
/- Hand-written, untrusted: what the kernel of the modulated norm computes where the norm is kept: the normalised rows, and their
   product with the matrix's first three blocks of columns. -/
module

public import proofs.«01_k».proof.Proof.QkvFrame
public import proofs.«01_k».proof.Proof.Gen.Reference13Ideal.Read
public import proofs.«01_k».proof.Proof.NormFwdReference

@[expose] public section

set_option maxRecDepth 16384

noncomputable section

namespace Cert.Qkv

open Idealize.ShloMosaic Idealize.ShloMosaic.TcCoe Cert.Kernel13Ideal Cert.Kernel13Ideal.Gen Cert.Rows
open Cert.Norm (row vec per brow bvec bper)

/-- Column `k` of the first three blocks, in the whole matrix. -/
def col (k : Fin 6144) : Fin 8192 := ⟨k.val, by have := k.isLt; omega⟩

theorem prod_apply (h : Vec Ideal S512x1024 .bf16) (w : Vec Ideal S1024x2048 .bf16) (r : Fin 512) (j : Fin 2048) :
    prod (F := Ideal) h w (ix2 r j) = ∑ k : Fin 1024, (h (ix2 r k) : EReal) * w (ix2 k j) := by
  unfold prod
  pointwise

section
open Cert.Reference13Ideal.Read
variable (x0 : S4x2048x1024.Idx → EReal) (x1 : S1024.Idx → EReal) (x2 x3 : S4x1x1024.Idx → EReal) (x4 : S1024x8192.Idx → EReal)

theorem h_read (i : Fin 4) (s : Fin 2048) (j : Fin 1024) : val_main_v18 (F := Ideal) x0 x1 x2 x3 (ix3 i s j) = NormFwd.h x0 x1 x2 x3 i s j :=
  (show _ = Cert.Reference14Ideal.Read.val_main_v18 (F := Ideal) x0 x1 x2 x3 (ix3 i s j) from rfl).trans (NormFwd.h_read x0 x1 x2 x3 i s j)

theorem prod_read (i : Fin 4) (s : Fin 2048) (k : Fin 6144) :
    val_main_v20 (F := Ideal) x0 x1 x2 x3 x4 (ix3 i s k) = NormFwd.prod x0 x1 x2 x3 x4 i s (col k) := by
  have el : ∀ q, lidx_main_v20 (ix3 i s k) q = ix3 i s q := fun q => by
    funext a; match a with | ⟨0, _⟩ => rfl | ⟨1, _⟩ => rfl | ⟨2, _⟩ => rfl
  have er : ∀ q, idx_main_v19 (ridx_main_v20 (ix3 i s k) q) = ix2 q (col k) := fun q => by
    funext a; match a with | ⟨0, _⟩ => rfl | ⟨1, _⟩ => rfl
  rw [val_main_v20_apply]
  simp only [el, er, h_read, val_main_v19_apply]
  rfl

end

variable (m : (ℓ : Loc nD τ sig) → Buf (Elt Ideal) ℓ)

/-- The arguments' contents. -/
abbrev arg0 (c : Dev nD) : S4x2048x1024.Idx → EReal := m ((c : Thread nD τ).loc main_arg0)
abbrev arg1 (c : Dev nD) : S1024.Idx → EReal := m ((c : Thread nD τ).loc main_arg1)
abbrev arg2 (c : Dev nD) : S4x1x1024.Idx → EReal := m ((c : Thread nD τ).loc main_arg2)
abbrev arg3 (c : Dev nD) : S4x1x1024.Idx → EReal := m ((c : Thread nD τ).loc main_arg3)
abbrev arg4 (c : Dev nD) : S1024x8192.Idx → EReal := m ((c : Thread nD τ).loc main_arg4)

theorem V_main_v0 (c : Dev nD) (n : Fin 8192) (j : Fin 1024) : V m c main_v0 (ix2 n j) = arg0 m c (ix3 (seq n) (pos n) j) := by
  have e : V m c main_v0 = shapeCast S8192x1024 (arg0 m c) Gen.facts.shapeCasts_S4x2048x1024_S8192x1024 := by
    unfold_abbrev_sides
    after_results <;> rfl
  rw [e]
  exact shapeCast_rows _ _ n j

theorem V_main_v1 (c : Dev nD) (j : Fin 1024) : V m c main_v1 (ix2 0 j) = arg1 m c (ix1 j) := by
  have e : V m c main_v1 = shapeCast S1x1024 (arg1 m c) Gen.facts.shapeCasts_S1024_S1x1024 := by
    unfold_abbrev_sides
    after_results <;> rfl
  rw [e]
  pointwise

theorem V_main_v2 (c : Dev nD) : V m c main_v2 = arg4 m c := by
  unfold_abbrev_sides
  after_results <;> rfl

theorem idx0 : ∀ t : Fin cfg0.N, win0_0.index t = ![t.val / 3, 0] := (by decide +kernel : ∀ t : Fin grid0.N, win0_0.index t = ![t.val / 3, 0])
theorem idx1 : ∀ t : Fin cfg0.N, win0_1.index t = ![0, 0] := (by decide +kernel : ∀ t : Fin grid0.N, win0_1.index t = ![0, 0])
theorem idx2 : ∀ t : Fin cfg0.N, win0_2.index t = ![t.val / 12, 0, 0] := (by decide +kernel : ∀ t : Fin grid0.N, win0_2.index t = ![t.val / 12, 0, 0])
theorem idx3 : ∀ t : Fin cfg0.N, win0_3.index t = ![t.val / 12, 0, 0] := (by decide +kernel : ∀ t : Fin grid0.N, win0_3.index t = ![t.val / 12, 0, 0])
theorem idx4 : ∀ t : Fin cfg0.N, win0_4.index t = ![0, t.val % 3] := (by decide +kernel : ∀ t : Fin grid0.N, win0_4.index t = ![0, t.val % 3])
theorem idx5 : ∀ t : Fin cfg0.N, win0_5.index t = ![t.val / 3, t.val % 3] := (by decide +kernel : ∀ t : Fin grid0.N, win0_5.index t = ![t.val / 3, t.val % 3])
theorem idx6 : ∀ t : Fin cfg0.N, win0_6.index t = ![t.val / 3, 0] := (by decide +kernel : ∀ t : Fin grid0.N, win0_6.index t = ![t.val / 3, 0])

/-- Row `r` and column `j` of grid point `t`. -/
def rowOf (t : Fin cfg0.N) (r : Fin 512) : Fin 8192 := at512 ⟨t.val / 3, by have := lt_of_lt_of_eq t.isLt N_0; omega⟩ r
def lane (t : Fin cfg0.N) (j : Fin 2048) : Fin 6144 := ⟨t.val % 3 * 2048 + j.val, by have := j.isLt; omega⟩

theorem seq_rowOf (t : Fin cfg0.N) (r : Fin 512) : (seq (rowOf t r)).val = t.val / 12 := by
  have := lt_of_lt_of_eq t.isLt N_0
  simp only [seq, rowOf, at512]; omega

theorem rowOf_base (t : Fin cfg0.N) (r : Fin 512) : rowOf (base t) r = rowOf t r :=
  Fin.ext (by simp only [rowOf, at512, base]; omega)

theorem iblk0_at (c : Dev nD) (t : Fin cfg0.N) (r : Fin 512) (k : Fin 1024) :
    iblk m c 0 t (ix2 r k) = arg0 m c (ix3 (seq (rowOf t r)) (pos (rowOf t r)) k) := by
  rw [← V_main_v0]
  blk_simp [iblk]
  refine congrArg (V m c main_v0) ?_
  blk_ext [idx0, rowOf, at512]

theorem iblk1_at (c : Dev nD) (t : Fin cfg0.N) (k : Fin 1024) : iblk m c 1 t (ix2 0 k) = arg1 m c (ix1 k) := by
  rw [← V_main_v1]
  blk_simp [iblk]
  refine congrArg (V m c main_v1) ?_
  blk_ext [idx1]

theorem iblk2_at (c : Dev nD) (t : Fin cfg0.N) (r : Fin 512) (k : Fin 1024) : iblk m c 2 t (ix3 0 0 k) = arg3 m c (ix3 (seq (rowOf t r)) 0 k) := by
  rw [show arg3 m c = V m c main_arg3 from (V_main_arg3 m c).symm]
  blk_simp [iblk]
  refine congrArg (V m c main_arg3) ?_
  blk_ext [idx2, seq_rowOf]

theorem iblk3_at (c : Dev nD) (t : Fin cfg0.N) (r : Fin 512) (k : Fin 1024) : iblk m c 3 t (ix3 0 0 k) = arg2 m c (ix3 (seq (rowOf t r)) 0 k) := by
  rw [show arg2 m c = V m c main_arg2 from (V_main_arg2 m c).symm]
  blk_simp [iblk]
  refine congrArg (V m c main_arg2) ?_
  blk_ext [idx3, seq_rowOf]

theorem iblk4_at (c : Dev nD) (t : Fin cfg0.N) (k : Fin 1024) (j : Fin 2048) : iblk m c 4 t (ix2 k j) = arg4 m c (ix2 k (col (lane t j))) := by
  rw [← V_main_v2]
  blk_simp [iblk]
  refine congrArg (V m c main_v2) ?_
  blk_ext [idx4, col, lane]

theorem hid_at (c : Dev nD) (t : Fin cfg0.N) (a : Fin 512) (k : Fin 1024) : hid m c (base t) (ix2 a k)
    = NormFwd.h (arg0 m c) (arg1 m c) (arg2 m c) (arg3 m c) (seq (rowOf t a)) (pos (rowOf t a)) k := by
  unfold hid NormFwd.h
  refine (NormFwd.pay1_apply _ _ _ _ a k).trans ?_
  have e0 : brow (iblk m c 0 (base t)) a = row (arg0 m c) (seq (rowOf t a)) (pos (rowOf t a)) :=
    funext fun k => by rw [← rowOf_base t a]; exact iblk0_at m c (base t) a k
  have e1 : bvec (iblk m c 1 (base t)) = vec (arg1 m c) := funext fun k => iblk1_at m c (base t) k
  have e2 : bper (iblk m c 2 (base t)) = per (arg3 m c) (seq (rowOf t a)) := funext fun k => by rw [← rowOf_base t a]; exact iblk2_at m c (base t) a k
  have e3 : bper (iblk m c 3 (base t)) = per (arg2 m c) (seq (rowOf t a)) := funext fun k => by rw [← rowOf_base t a]; exact iblk3_at m c (base t) a k
  rw [e0, e1, e2, e3]

/-- The product with the first three blocks of columns. -/
theorem result5 (c : Dev nD) : (dats m 0 c).arrAt 5 cfg0.N
    = fun x : S8192x6144.Idx => (NormFwd.prod (arg0 m c) (arg1 m c) (arg2 m c) (arg3 m c) (arg4 m c) (seq (x 0)) (pos (x 0)) (col (x 1)) : EReal) := by
  refine (dats m 0 c).arrAt_eq_of_covers 5 _ (by decide +kernel) fun t hf y => ?_
  obtain ⟨a, b, rfl⟩ : ∃ (a : Fin 512) (b : Fin 2048), y = ix2 a b := ⟨y 0, y 1, (ix2_eta y).symm⟩
  have eg : (((cfg0.win 5).blk t).view.emb (ix2 a b)) = ix2 (rowOf t a) (lane t b) := by
    blk_ext [idx5, rowOf, at512, lane]
  blk_simp
  rw [after_5, eg]
  refine (prod_apply _ _ a b).trans ?_
  refine Finset.sum_congr rfl fun k _ => ?_
  rw [iblk4_at, hid_at]
  rfl

/-- The normalised rows. -/
theorem result6 (c : Dev nD) : (dats m 0 c).arrAt 6 cfg0.N
    = fun x : S8192x1024.Idx => (NormFwd.h (arg0 m c) (arg1 m c) (arg2 m c) (arg3 m c) (seq (x 0)) (pos (x 0)) (x 1) : EReal) := by
  refine (dats m 0 c).arrAt_eq_of_covers 6 _ (by decide +kernel) fun t hf y => ?_
  obtain ⟨a, b, rfl⟩ : ∃ (a : Fin 512) (b : Fin 1024), y = ix2 a b := ⟨y 0, y 1, (ix2_eta y).symm⟩
  have eg : (((cfg0.win 6).blk t).view.emb (ix2 a b)) = ix2 (rowOf t a) b := by
    blk_ext [idx6, rowOf, at512]
  blk_simp
  rw [after_6, eg]
  exact hid_at m c t a b

/-- What the kernel leaves in memory. -/
theorem run_blocks (ρ : Dev nD → PrngReg) :
    θ_run defs (onTc (τ := τ) (main (F := Ideal))) ⟨m, fun _ => 0, ρ⟩ fun r => ∀ c : Dev nD,
      r.2.mem ((c.tc : Thread nD τ).loc main_v3_0) = (dats m 0 c).arrAt 5 cfg0.N
      ∧ r.2.mem ((c.tc : Thread nD τ).loc main_v3_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1.1 c).1 5, (h.1.1 c).1 6, h.2.1 c⟩) (θ_run_and (run_quiescent m ρ) (frame m ρ))

/-- Kernel and reference compute the same arrays. -/
theorem equal : Cert.algebraic_Kernel13Ideal_Reference13Ideal := by
  intro m g m' g' _ hargs
  refine ⟨fun c => (dats m 0 c).arrAt 5 cfg0.N, fun c => (dats m 0 c).arrAt 6 cfg0.N, run_blocks m g,
    (θ_run Cert.Reference13Ideal.defs _ _).mono (fun r h c => ?_) (Cert.Reference13Ideal.Value.run (F := Ideal) m' g')⟩
  obtain ⟨a0, a1, a2, a3, a4⟩ := hargs c
  refine ⟨(h c).1.trans ?_, (h c).2.1.trans ?_, (h c).2.2⟩
  · rw [Cert.Reference13Ideal.Read.val_main_v22_eq, a0, a1, a2, a3, a4]
    refine Eq.trans ?_ (result5 m c).symm
    funext x
    obtain ⟨n, j, rfl⟩ : ∃ (n : Fin 8192) (j : Fin 6144), x = ix2 n j := ⟨x 0, x 1, (ix2_eta x).symm⟩
    exact (shapeCast_rows _ _ n j).trans (prod_read _ _ _ _ _ _ _ j)
  · rw [Cert.Reference13Ideal.Read.val_main_v24_eq, a0, a1, a2, a3]
    refine Eq.trans ?_ (result6 m c).symm
    funext x
    obtain ⟨n, j, rfl⟩ : ∃ (n : Fin 8192) (j : Fin 1024), x = ix2 n j := ⟨x 0, x 1, (ix2_eta x).symm⟩
    exact (shapeCast_rows _ _ n j).trans (h_read _ _ _ _ _ _ j)

end Cert.Qkv
end
-- ==== Proof.NormFwdProof.lean ====
/- Hand-written, untrusted: what the kernel of the modulated norm computes for one block of columns: 512 rows on a grid point,
   normalised, kept, and multiplied with the matrix's last block. -/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.NormFwdReference

@[expose] public section

set_option maxRecDepth 16384

noncomputable section

namespace Cert.NormFwd

open Idealize.ShloMosaic Idealize.ShloMosaic.TcCoe Cert.Kernel14Ideal Cert.Kernel14Ideal.Gen Cert.Rows
open Cert.Norm (row vec per brow bvec bper at4)

variable (m : (ℓ : Loc nD τ sig) → Buf (Elt Ideal) ℓ)

/-- The arguments' contents. -/
abbrev arg0 (c : Dev nD) : S4x2048x1024.Idx → EReal := m ((c : Thread nD τ).loc main_arg0)
abbrev arg1 (c : Dev nD) : S1024.Idx → EReal := m ((c : Thread nD τ).loc main_arg1)
abbrev arg2 (c : Dev nD) : S4x1x1024.Idx → EReal := m ((c : Thread nD τ).loc main_arg2)
abbrev arg3 (c : Dev nD) : S4x1x1024.Idx → EReal := m ((c : Thread nD τ).loc main_arg3)
abbrev arg4 (c : Dev nD) : S1024x8192.Idx → EReal := m ((c : Thread nD τ).loc main_arg4)

theorem V_main_v0 (c : Dev nD) (n : Fin 8192) (j : Fin 1024) : V m c main_v0 (ix2 n j) = arg0 m c (ix3 (seq n) (pos n) j) := by
  have e : V m c main_v0 = shapeCast S8192x1024 (arg0 m c) Gen.facts.shapeCasts_S4x2048x1024_S8192x1024 := by
    unfold_abbrev_sides
    after_results <;> rfl
  rw [e]
  exact shapeCast_rows _ _ n j

theorem V_main_v1 (c : Dev nD) (j : Fin 1024) : V m c main_v1 (ix2 0 j) = arg1 m c (ix1 j) := by
  have e : V m c main_v1 = shapeCast S1x1024 (arg1 m c) Gen.facts.shapeCasts_S1024_S1x1024 := by
    unfold_abbrev_sides
    after_results <;> rfl
  rw [e]
  pointwise

theorem V_main_v2 (c : Dev nD) : V m c main_v2 = arg4 m c := by
  unfold_abbrev_sides
  after_results <;> rfl

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val / 4, 0, 0] := (by decide +kernel : ∀ t : Fin grid0.N, win0_2.index t = ![t.val / 4, 0, 0])
theorem idx3 : ∀ t : Fin cfg0.N, win0_3.index t = ![t.val / 4, 0, 0] := (by decide +kernel : ∀ t : Fin grid0.N, win0_3.index t = ![t.val / 4, 0, 0])
theorem idx4 : ∀ t : Fin cfg0.N, win0_4.index t = ![0, 3] := (by decide +kernel : ∀ t : Fin grid0.N, win0_4.index t = ![0, 3])
theorem idx5 : ∀ t : Fin cfg0.N, win0_5.index t = ![t.val, 0] := (by decide +kernel : ∀ t : Fin grid0.N, win0_5.index t = ![t.val, 0])

/-- Row `r` of grid point `t`. -/
def rowOf (t : Fin cfg0.N) (r : Fin 512) : Fin 8192 := at512 ⟨t.val, lt_of_lt_of_eq t.isLt N_0⟩ r

theorem seq_rowOf (t : Fin cfg0.N) (r : Fin 512) : (seq (rowOf t r)).val = t.val / 4 := by
  have := lt_of_lt_of_eq t.isLt N_0
  simp only [seq, rowOf, at512]; omega

theorem iblk0_at (c : Dev nD) (t : Fin cfg0.N) (r : Fin 512) (k : Fin 1024) :
    iblk m c 0 t (ix2 r k) = arg0 m c (ix3 (seq (rowOf t r)) (pos (rowOf t r)) k) := by
  rw [← V_main_v0]
  blk_simp [iblk]
  refine congrArg (V m c main_v0) ?_
  blk_ext [idx0, rowOf, at512]

theorem iblk1_at (c : Dev nD) (t : Fin cfg0.N) (k : Fin 1024) : iblk m c 1 t (ix2 0 k) = arg1 m c (ix1 k) := by
  rw [← V_main_v1]
  blk_simp [iblk]
  refine congrArg (V m c main_v1) ?_
  blk_ext [idx1]

theorem iblk2_at (c : Dev nD) (t : Fin cfg0.N) (r : Fin 512) (k : Fin 1024) : iblk m c 2 t (ix3 0 0 k) = arg3 m c (ix3 (seq (rowOf t r)) 0 k) := by
  rw [show arg3 m c = V m c main_arg3 from (V_main_arg3 m c).symm]
  blk_simp [iblk]
  refine congrArg (V m c main_arg3) ?_
  blk_ext [idx2, seq_rowOf]

theorem iblk3_at (c : Dev nD) (t : Fin cfg0.N) (r : Fin 512) (k : Fin 1024) : iblk m c 3 t (ix3 0 0 k) = arg2 m c (ix3 (seq (rowOf t r)) 0 k) := by
  rw [show arg2 m c = V m c main_arg2 from (V_main_arg2 m c).symm]
  blk_simp [iblk]
  refine congrArg (V m c main_arg2) ?_
  blk_ext [idx3, seq_rowOf]

theorem iblk4_at (c : Dev nD) (t : Fin cfg0.N) (k : Fin 1024) (j : Fin 2048) : iblk m c 4 t (ix2 k j) = arg4 m c (ix2 k (at4 3 j)) := by
  rw [← V_main_v2]
  blk_simp [iblk]
  refine congrArg (V m c main_v2) ?_
  blk_ext [idx4, at4]

/-- The product with the last block of columns. -/
theorem result5 (c : Dev nD) : (dats m 0 c).arrAt 5 cfg0.N
    = fun x : S8192x2048.Idx => (prod (arg0 m c) (arg1 m c) (arg2 m c) (arg3 m c) (arg4 m c) (seq (x 0)) (pos (x 0)) (at4 3 (x 1)) : EReal) := by
  refine (dats m 0 c).arrAt_eq_of_covers 5 _ (by decide +kernel) fun t hf y => ?_
  obtain ⟨a, b, rfl⟩ : ∃ (a : Fin 512) (b : Fin 2048), y = ix2 a b := ⟨y 0, y 1, (ix2_eta y).symm⟩
  have eg : (((cfg0.win 5).blk t).view.emb (ix2 a b)) = ix2 (rowOf t a) b := by
    blk_ext [idx5, rowOf, at512]
  blk_simp
  rw [after0_5]
  dsimp only [outsAt0]
  frame_out
  rw [eg]
  refine (pay2_apply _ _ a b).trans ?_
  refine Finset.sum_congr rfl fun k _ => ?_
  rw [iblk4_at]
  refine congrArg (· * _) ?_
  refine (pay1_apply _ _ _ _ a k).trans ?_
  unfold h
  have e0 : brow (iblk m c 0 t) a = row (arg0 m c) (seq (rowOf t a)) (pos (rowOf t a)) := funext fun k => iblk0_at m c t a k
  have e1 : bvec (iblk m c 1 t) = vec (arg1 m c) := funext fun k => iblk1_at m c t k
  have e2 : bper (iblk m c 2 t) = per (arg3 m c) (seq (rowOf t a)) := funext fun k => iblk2_at m c t a k
  have e3 : bper (iblk m c 3 t) = per (arg2 m c) (seq (rowOf t a)) := funext fun k => iblk3_at m c t a k
  rw [e0, e1, e2, e3]
  rfl

/-- The reference's frame. -/
theorem frame_reference : Cert.quiescent_Reference14Ideal := fun m ρ _ =>
  (θ_run Cert.Reference14Ideal.defs _ _).mono (fun r h => ⟨fun c => (h c).2, funext fun s => nomatch s.2⟩) (Cert.Reference14Ideal.Value.run (F := Ideal) m ρ)

theorem frame_kernel : Cert.quiescent_Kernel14 := fun m ρ _ => Cert.Kernel14.Gen.frame m ρ
theorem frame_ideal : Cert.quiescent_Kernel14Ideal := fun m ρ _ => Cert.Kernel14Ideal.Gen.frame m ρ

/-- Kernel and reference compute the same array. -/
theorem equal : Cert.algebraic_Kernel14Ideal_Reference14Ideal := by
  intro m g m' g' _ hargs
  refine ⟨fun c => (dats m 0 c).arrAt 5 cfg0.N, Cert.Kernel14Ideal.Value.run_blocks m g,
    (θ_run Cert.Reference14Ideal.defs _ _).mono (fun r h c => ?_) (Cert.Reference14Ideal.Value.run (F := Ideal) m' g')⟩
  obtain ⟨a0, a1, a2, a3, a4⟩ := hargs c
  refine ⟨(h c).1.trans ?_, (h c).2⟩
  rw [Cert.Reference14Ideal.Read.val_main_v21_eq, a0, a1, a2, a3, a4]
  refine Eq.trans ?_ (result5 m c).symm
  funext x
  obtain ⟨n, j, rfl⟩ : ∃ (n : Fin 8192) (j : Fin 2048), x = ix2 n j := ⟨x 0, x 1, (ix2_eta x).symm⟩
  exact (shapeCast_rows _ _ n j).trans (prod_read _ _ _ _ _ _ _ j)

end Cert.NormFwd
end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.Gen.Kernel6Ideal.Frame
public import proofs.«01_k».proof.Proof.Gen.Reference7Ideal.Run
public import proofs.«01_k».proof.Proof.Gen.Reference7Ideal.Read
public import proofs.«01_k».proof.Proof.Gen.Kernel7Ideal.Frame
public import proofs.«01_k».proof.Proof.Gen.Kernel7
public import proofs.«01_k».proof.Proof.Gen.Kernel8Ideal.Value
public import proofs.«01_k».proof.Proof.Gen.Kernel8.Frame
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Kernel9Ideal.Frame
public import proofs.«01_k».proof.Proof.Gen.Kernel9
public import proofs.«01_k».proof.Proof.Gen.Kernel10Ideal.Value
public import proofs.«01_k».proof.Proof.Gen.Kernel10.Frame
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Kernel11.Frame
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Kernel12.Frame
public import proofs.«01_k».proof.Proof.Gen.Reference12Ideal.Run
public import proofs.«01_k».proof.Proof.Gen.Reference12Ideal.Read
public import proofs.«01_k».proof.Proof.Gen.Kernel13Ideal.Frame
public import proofs.«01_k».proof.Proof.Gen.Kernel13
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Kernel14.Frame
public import proofs.«01_k».proof.Proof.Gen.Reference14Ideal.Run
public import proofs.«01_k».proof.Proof.Gen.Reference14Ideal.Read
public import proofs.«01_k».proof.Proof.CumProof
public import proofs.«01_k».proof.Proof.LossProof
public import proofs.«01_k».proof.Proof.NormProof
public import proofs.«01_k».proof.Proof.GateProof
public import proofs.«01_k».proof.Proof.AdaProof
public import proofs.«01_k».proof.Proof.SbFrames
public import proofs.«01_k».proof.Proof.SbProof
public import proofs.«01_k».proof.Proof.FoxFrames
public import proofs.«01_k».proof.Proof.FoxProof
public import proofs.«01_k».proof.Proof.NormFoxProof
public import proofs.«01_k».proof.Proof.AdaSbProof
public import proofs.«01_k».proof.Proof.AdaFwdProof
public import proofs.«01_k».proof.Proof.OutFwdProof
public import proofs.«01_k».proof.Proof.CumFwdProof
public import proofs.«01_k».proof.Proof.QkvProof
public import proofs.«01_k».proof.Proof.NormFwdProof
public import Idealize.ShloMosaic.Adequacy

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Cum.factsPre, Cert.Gate.factsPre, Cert.Sb.factsPre, Cert.Fox.factsPre,
    Cert.Cum.frame_kernel, Cert.Cum.frame_ideal, fun m ρ _ => Cert.Cum.frame_ideal m ρ trivial, Cert.Cum.frame_reference,
    fun m ρ _ => Cert.Cum.frame_reference m ρ trivial,
    Cert.Loss.frame_kernel, Cert.Loss.frame_ideal, Cert.Loss.frame_reference,
    Cert.Norm.frame_kernel, Cert.Norm.frame_ideal, Cert.Norm.frame_reference,
    Cert.Gate.frame_kernel, Cert.Gate.frame_ideal, fun m ρ _ => Cert.Gate.frame_ideal m ρ trivial, Cert.Gate.frame_reference,
    fun m ρ _ => Cert.Gate.frame_reference m ρ trivial,
    Cert.Ada.frame_kernel, Cert.Ada.frame_ideal, Cert.Ada.frame_reference,
    Cert.Sb.frame_kernel, Cert.Sb.frame_ideal, fun m ρ _ => Cert.Sb.frame_ideal m ρ trivial, Cert.Sb.frame_reference,
    fun m ρ _ => Cert.Sb.frame_reference m ρ trivial,
    Cert.Fox.frame_kernel, Cert.Fox.frame_ideal, fun m ρ _ => Cert.Fox.frame_ideal m ρ trivial, Cert.Fox.frame_reference,
    fun m ρ _ => Cert.Fox.frame_reference m ρ trivial,
    Cert.NormFox.frame_kernel, Cert.NormFox.frame_ideal, Cert.NormFox.frame_reference,
    Cert.AdaSb.frame_kernel, Cert.AdaSb.frame_ideal, Cert.AdaSb.frame_reference,
    Cert.AdaFwd.frame_kernel, Cert.AdaFwd.frame_ideal, Cert.AdaFwd.frame_reference,
    Cert.OutFwd.frame_kernel, Cert.OutFwd.frame_ideal, Cert.OutFwd.frame_reference,
    Cert.CumFwd.frame_kernel, Cert.CumFwd.frame_ideal, Cert.CumFwd.frame_reference,
    Cert.Qkv.frame_kernel, Cert.Qkv.frame_ideal, Cert.Qkv.frame_reference,
    Cert.NormFwd.frame_kernel, Cert.NormFwd.frame_ideal, Cert.NormFwd.frame_reference,
    trivial, Cert.Cum.equal, trivial, Cert.Loss.equal, trivial, Cert.Norm.equal, trivial, Cert.Gate.equal, trivial, Cert.Ada.equal,
    trivial, Cert.Sb.equal, trivial, Cert.Fox.equal, trivial, Cert.NormFox.equal, trivial, Cert.AdaSb.equal,
    trivial, Cert.AdaFwd.equal, trivial, Cert.OutFwd.equal, trivial, Cert.CumFwd.equal,
    trivial, Cert.Qkv.equal, trivial, Cert.NormFwd.equal⟩

end Cert.Proof

end
